-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105_0) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v105_1) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S9x4096x1024 : Shape := ⟨3, ![9, 4096, 1024]⟩
abbrev S9 : Shape := ⟨1, ![9]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S9x512x8x8x128 : Shape := ⟨5, ![9, 512, 8, 8, 128]⟩
abbrev S9x32768x128 : Shape := ⟨3, ![9, 32768, 128]⟩
abbrev S9x8x128 : Shape := ⟨3, ![9, 8, 128]⟩
abbrev S2x32768x128 : Shape := ⟨3, ![2, 32768, 128]⟩
abbrev S32768x128 : Shape := ⟨2, ![32768, 128]⟩
abbrev S1024x128 : Shape := ⟨2, ![1024, 128]⟩
abbrev S16384x128 : Shape := ⟨2, ![16384, 128]⟩
abbrev S2x2x8 : Shape := ⟨3, ![2, 2, 8]⟩
abbrev S2x8 : Shape := ⟨2, ![2, 8]⟩
abbrev S256x256 : Shape := ⟨2, ![256, 256]⟩
abbrev S1x1x1 : Shape := ⟨3, ![1, 1, 1]⟩
abbrev S1x4096x128 : Shape := ⟨3, ![1, 4096, 128]⟩
abbrev S4096x128 : Shape := ⟨2, ![4096, 128]⟩
abbrev S16x128 : Shape := ⟨2, ![16, 128]⟩
abbrev S32x128 : Shape := ⟨2, ![32, 128]⟩
abbrev S1 : Shape := ⟨1, ![1]⟩
abbrev S8x128 : Shape := ⟨2, ![8, 128]⟩
abbrev S1x256x128 : Shape := ⟨3, ![1, 256, 128]⟩
abbrev S256x128 : Shape := ⟨2, ![256, 128]⟩
abbrev S8 : Shape := ⟨1, ![8]⟩
abbrev S8x1 : Shape := ⟨2, ![8, 1]⟩
abbrev S1x8x128 : Shape := ⟨3, ![1, 8, 128]⟩
abbrev S32x8x256 : Shape := ⟨3, ![32, 8, 256]⟩
abbrev S1x8x1 : Shape := ⟨3, ![1, 8, 1]⟩
abbrev S1x1 : Shape := ⟨2, ![1, 1]⟩
abbrev S32x8x128 : Shape := ⟨3, ![32, 8, 128]⟩
abbrev S9x4096x8x128 : Shape := ⟨4, ![9, 4096, 8, 128]⟩
abbrev S9x8x1 : Shape := ⟨3, ![9, 8, 1]⟩
abbrev S9x8 : Shape := ⟨2, ![9, 8]⟩

abbrev nBuf : Space → Nat
  | .hbm => 39
  | .vmem => 11
  | .smem => 1
  | _ => 0

abbrev bufTy : (tb : Table) → Fin (tcTables nBuf tb) → BufTy
  | .hbm, ⟨0, _⟩ => ⟨S9x4096x1024, .bf16⟩
  | .hbm, ⟨1, _⟩ => ⟨S9x4096x1024, .bf16⟩
  | .hbm, ⟨2, _⟩ => ⟨S9, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S1x128, .f32⟩
  | .hbm, ⟨23, _⟩ => ⟨S9x512x8x8x128, .bf16⟩
  | .hbm, ⟨24, _⟩ => ⟨S9x512x8x8x128, .bf16⟩
  | .hbm, ⟨25, _⟩ => ⟨S9x32768x128, .bf16⟩
  | .hbm, ⟨26, _⟩ => ⟨S9x512x8x8x128, .bf16⟩
  | .hbm, ⟨27, _⟩ => ⟨S9x512x8x8x128, .bf16⟩
  | .hbm, ⟨28, _⟩ => ⟨S9x32768x128, .bf16⟩
  | .hbm, ⟨29, _⟩ => ⟨S9x32768x128, .fp8e4m3⟩
  | .hbm, ⟨30, _⟩ => ⟨S9x8x128, .f32⟩
  | .hbm, ⟨31, _⟩ => ⟨S9x32768x128, .fp8e4m3⟩
  | .hbm, ⟨32, _⟩ => ⟨S9x8x128, .f32⟩
  | .hbm, ⟨33, _⟩ => ⟨S9x4096x8x128, .fp8e4m3⟩
  | .hbm, ⟨34, _⟩ => ⟨S9x8x1, .f32⟩
  | .hbm, ⟨35, _⟩ => ⟨S9x8, .f32⟩
  | .hbm, ⟨36, _⟩ => ⟨S9x4096x8x128, .fp8e4m3⟩
  | .hbm, ⟨37, _⟩ => ⟨S9x8x1, .f32⟩
  | .hbm, ⟨38, _⟩ => ⟨S9x8, .f32⟩
  | .local _ .vmem, ⟨0, _⟩ => ⟨S1x128, .f32⟩
  | .local _ .vmem, ⟨1, _⟩ => ⟨S9x8x128, .f32⟩
  | .local _ .vmem, ⟨2, _⟩ => ⟨S9x8x128, .f32⟩
  | .local _ .vmem, ⟨3, _⟩ => ⟨S2x32768x128, .bf16⟩
  | .local _ .vmem, ⟨4, _⟩ => ⟨S2x32768x128, .bf16⟩
  | .local _ .vmem, ⟨5, _⟩ => ⟨S32768x128, .fp8e4m3⟩
  | .local _ .vmem, ⟨6, _⟩ => ⟨S32768x128, .fp8e4m3⟩
  | .local _ .vmem, ⟨7, _⟩ => ⟨S1024x128, .f32⟩
  | .local _ .vmem, ⟨8, _⟩ => ⟨S1024x128, .f32⟩
  | .local _ .vmem, ⟨9, _⟩ => ⟨S16384x128, .f32⟩
  | .local _ .vmem, ⟨10, _⟩ => ⟨S16384x128, .bf16⟩
  | .local _ .smem, ⟨0, _⟩ => ⟨S9, .i32⟩
  | _, _ => ⟨S9x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_141 : BitVec 32 := 0#32
  let c9_i32 : BitVec 32 := 9#32
  let v128 : BitVec 32 := Scalar.addi c0_i32_141 c9_i32
  let c1_i32_142 : BitVec 32 := 1#32
  ⟨c0_i32_141, v128, c1_i32_142⟩
def k0_cond1 (k0_t1 : Fin k0_t1_loop.trips) : BitVec 1 :=
  let c0_i32_141 : BitVec 32 := 0#32
  let c1_i32_142 : BitVec 32 := 1#32
  let arg18 : BitVec 32 := Scf.iv c0_i32_141 c1_i32_142 k0_t1
  let c1_i32_256 : BitVec 32 := 1#32
  let v210 : BitVec 32 := Scalar.addi arg18 c1_i32_256
  let c9_i32_257 : BitVec 32 := 9#32
  let v211 : BitVec 1 := Scalar.cmpi .slt v210 c9_i32_257
  let v212 : BitVec 32 := Scalar.extui v211
  let c0_i32_258 : BitVec 32 := 0#32
  let v213 : BitVec 1 := Scalar.cmpi .ne v212 c0_i32_258
  v213

def k0_off1 (k0_t1 : Fin k0_t1_loop.trips) : Fin 3 → Nat :=
  let c0_i32_367 : BitVec 32 := 0#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c0_i32_368 : BitVec 32 := 0#32
  ![0, v639.toNat, 0]
def k0_off2 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c0_i32_369 : BitVec 32 := 0#32
  let c0_i32_370 : BitVec 32 := 0#32
  ![v639.toNat, 0, 0]
def k0_off3 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c0_i32_371 : BitVec 32 := 0#32
  let c0_i32_372 : BitVec 32 := 0#32
  ![v638.toNat, 0, 0]
def k0_off4 (k0_t1 : Fin k0_t1_loop.trips) : Fin 3 → Nat :=
  let c0_i32_373 : BitVec 32 := 0#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c1_i32_374 : BitVec 32 := 1#32
  ![0, v639.toNat, 1]
def k0_off5 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c4096_i32_375 : BitVec 32 := 4096#32
  let c0_i32_376 : BitVec 32 := 0#32
  ![v639.toNat, 4096, 0]
def k0_off6 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c4096_i32_377 : BitVec 32 := 4096#32
  let c0_i32_378 : BitVec 32 := 0#32
  ![v638.toNat, 4096, 0]
def k0_off7 (k0_t1 : Fin k0_t1_loop.trips) : Fin 3 → Nat :=
  let c0_i32_379 : BitVec 32 := 0#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c2_i32_380 : BitVec 32 := 2#32
  ![0, v639.toNat, 2]
def k0_off8 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c8192_i32_381 : BitVec 32 := 8192#32
  let c0_i32_382 : BitVec 32 := 0#32
  ![v639.toNat, 8192, 0]
def k0_off9 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c8192_i32_383 : BitVec 32 := 8192#32
  let c0_i32_384 : BitVec 32 := 0#32
  ![v638.toNat, 8192, 0]
def k0_off10 (k0_t1 : Fin k0_t1_loop.trips) : Fin 3 → Nat :=
  let c0_i32_385 : BitVec 32 := 0#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c3_i32_386 : BitVec 32 := 3#32
  ![0, v639.toNat, 3]
def k0_off11 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c12288_i32_387 : BitVec 32 := 12288#32
  let c0_i32_388 : BitVec 32 := 0#32
  ![v639.toNat, 12288, 0]
def k0_off12 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c12288_i32_389 : BitVec 32 := 12288#32
  let c0_i32_390 : BitVec 32 := 0#32
  ![v638.toNat, 12288, 0]
def k0_off13 (k0_t1 : Fin k0_t1_loop.trips) : Fin 3 → Nat :=
  let c0_i32_391 : BitVec 32 := 0#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c4_i32_392 : BitVec 32 := 4#32
  ![0, v639.toNat, 4]
def k0_off14 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c16384_i32_393 : BitVec 32 := 16384#32
  let c0_i32_394 : BitVec 32 := 0#32
  ![v639.toNat, 16384, 0]
def k0_off15 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c16384_i32_395 : BitVec 32 := 16384#32
  let c0_i32_396 : BitVec 32 := 0#32
  ![v638.toNat, 16384, 0]
def k0_off16 (k0_t1 : Fin k0_t1_loop.trips) : Fin 3 → Nat :=
  let c0_i32_397 : BitVec 32 := 0#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c5_i32_398 : BitVec 32 := 5#32
  ![0, v639.toNat, 5]
def k0_off17 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c20480_i32_399 : BitVec 32 := 20480#32
  let c0_i32_400 : BitVec 32 := 0#32
  ![v639.toNat, 20480, 0]
def k0_off18 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c20480_i32_401 : BitVec 32 := 20480#32
  let c0_i32_402 : BitVec 32 := 0#32
  ![v638.toNat, 20480, 0]
def k0_off19 (k0_t1 : Fin k0_t1_loop.trips) : Fin 3 → Nat :=
  let c0_i32_403 : BitVec 32 := 0#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c6_i32_404 : BitVec 32 := 6#32
  ![0, v639.toNat, 6]
def k0_off20 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c24576_i32_405 : BitVec 32 := 24576#32
  let c0_i32_406 : BitVec 32 := 0#32
  ![v639.toNat, 24576, 0]
def k0_off21 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c24576_i32_407 : BitVec 32 := 24576#32
  let c0_i32_408 : BitVec 32 := 0#32
  ![v638.toNat, 24576, 0]
def k0_off22 (k0_t1 : Fin k0_t1_loop.trips) : Fin 3 → Nat :=
  let c0_i32_409 : BitVec 32 := 0#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c7_i32_410 : BitVec 32 := 7#32
  ![0, v639.toNat, 7]
def k0_off23 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c28672_i32_411 : BitVec 32 := 28672#32
  let c0_i32_412 : BitVec 32 := 0#32
  ![v639.toNat, 28672, 0]
def k0_off24 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c28672_i32_413 : BitVec 32 := 28672#32
  let c0_i32_414 : BitVec 32 := 0#32
  ![v638.toNat, 28672, 0]
def k0_off25 (k0_t1 : Fin k0_t1_loop.trips) : Fin 1 → Nat :=
  let c0_i32_141 : BitVec 32 := 0#32
  let c1_i32_142 : BitVec 32 := 1#32
  let arg18 : BitVec 32 := Scf.iv c0_i32_141 c1_i32_142 k0_t1
  let v216 : Index := Scalar.indexCast arg18
  ![v216.toNat]
@[reducible] def k0_t2_loop : Scf.Loop 32 :=
  let c0_i32_259 : BitVec 32 := 0#32
  let c32_i32_260 : BitVec 32 := 32#32
  let v223 : BitVec 32 := Scalar.addi c0_i32_259 c32_i32_260
  let c1_i32_261 : BitVec 32 := 1#32
  ⟨c0_i32_259, v223, c1_i32_261⟩
def k0_mult1 (k0_t2 : Fin k0_t2_loop.trips) : BitVec 32 :=
  let c0_i32_259 : BitVec 32 := 0#32
  let c1_i32_261 : BitVec 32 := 1#32
  let arg19 : BitVec 32 := Scf.iv c0_i32_259 c1_i32_261 k0_t2
  let c32_i32_368 : BitVec 32 := 32#32
  let v646 : BitVec 32 := Scalar.muli arg19 c32_i32_368
  v646
def k0_off26 (k0_t2 : Fin k0_t2_loop.trips) : Fin 2 → Nat :=
  let c0_i32_259 : BitVec 32 := 0#32
  let c1_i32_261 : BitVec 32 := 1#32
  let arg19 : BitVec 32 := Scf.iv c0_i32_259 c1_i32_261 k0_t2
  let c32_i32_368 : BitVec 32 := 32#32
  let v646 : BitVec 32 := Scalar.muli arg19 c32_i32_368
  let v647 : BitVec 32 := v646
  let v649 : Index := Scalar.indexCast v647
  let c0_369 : Index := 0#32
  ![v649.toNat, 0]
@[reducible] def k0_t3_loop : Scf.Loop 32 :=
  let c0_i32_264 : BitVec 32 := 0#32
  let c8_i32_265 : BitVec 32 := 8#32
  let v225 : BitVec 32 := Scalar.addi c0_i32_264 c8_i32_265
  let c1_i32_266 : BitVec 32 := 1#32
  ⟨c0_i32_264, v225, c1_i32_266⟩
def k0_off27 (k0_t1 : Fin k0_t1_loop.trips) (k0_t3 : Fin k0_t3_loop.trips) : Fin 3 → Nat :=
  let c0_i32_366 : BitVec 32 := 0#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let c0_i32_264 : BitVec 32 := 0#32
  let c1_i32_266 : BitVec 32 := 1#32
  let arg19 : BitVec 32 := Scf.iv c0_i32_264 c1_i32_266 k0_t3
  ![0, v209.toNat, arg19.toNat]
def k0_off28 (k0_t1 : Fin k0_t1_loop.trips) (k0_t3 : Fin k0_t3_loop.trips) : Fin 3 → Nat :=
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let c0_i32_264 : BitVec 32 := 0#32
  let c1_i32_266 : BitVec 32 := 1#32
  let arg19 : BitVec 32 := Scf.iv c0_i32_264 c1_i32_266 k0_t3
  let c4096_i32_365 : BitVec 32 := 4096#32
  let v638 : BitVec 32 := Scalar.muli arg19 c4096_i32_365
  let c0_i32_367 : BitVec 32 := 0#32
  ![v209.toNat, v638.toNat, 0]
def k0_off29 (k0_t1 : Fin k0_t1_loop.trips) (k0_t3 : Fin k0_t3_loop.trips) : Fin 3 → Nat :=
  let c0_i32_141 : BitVec 32 := 0#32
  let c1_i32_142 : BitVec 32 := 1#32
  let arg18 : BitVec 32 := Scf.iv c0_i32_141 c1_i32_142 k0_t1
  let c0_i32_264 : BitVec 32 := 0#32
  let c1_i32_266 : BitVec 32 := 1#32
  let arg19 : BitVec 32 := Scf.iv c0_i32_264 c1_i32_266 k0_t3
  let c4096_i32_365 : BitVec 32 := 4096#32
  let v638 : BitVec 32 := Scalar.muli arg19 c4096_i32_365
  let c0_i32_368 : BitVec 32 := 0#32
  ![arg18.toNat, v638.toNat, 0]
def k0_mult2 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_369 : BitVec 32 := 4#32
  let v645 : BitVec 32 := Scalar.muli arg19 c4_i32_369
  let c0_i32_370 : BitVec 32 := 0#32
  let v646 : BitVec 32 := Scalar.addi v645 c0_i32_370
  let c1024_i32 : BitVec 32 := 1024#32
  let v647 : BitVec 32 := Scalar.muli v646 c1024_i32
  v647
def k0_off30 (k0_t1 : Fin k0_t1_loop.trips) (k0_t3 : Fin k0_t3_loop.trips) (c0_i32_370 : BitVec 32) (c0_i32_371 : BitVec 32) : Fin 3 → Nat :=
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v650 : Index := Scalar.indexCast v209
  let c0_i32_264 : BitVec 32 := 0#32
  let c1_i32_266 : BitVec 32 := 1#32
  let arg19 : BitVec 32 := Scf.iv c0_i32_264 c1_i32_266 k0_t3
  let c4_i32_369 : BitVec 32 := 4#32
  let v645 : BitVec 32 := Scalar.muli arg19 c4_i32_369
  let v646 : BitVec 32 := Scalar.addi v645 c0_i32_370
  let c1024_i32 : BitVec 32 := 1024#32
  let v647 : BitVec 32 := Scalar.muli v646 c1024_i32
  let v648 : BitVec 32 := v647
  let v649 : BitVec 32 := Scalar.addi v648 c0_i32_371
  let v651 : Index := Scalar.indexCast v649
  let c0_372 : Index := 0#32
  ![v650.toNat, v651.toNat, 0]
def k0_mult3 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_369 : BitVec 32 := 4#32
  let v645 : BitVec 32 := Scalar.muli arg19 c4_i32_369
  let c0_i32_370 : BitVec 32 := 0#32
  let v646 : BitVec 32 := Scalar.addi v645 c0_i32_370
  let c512_i32_379 : BitVec 32 := 512#32
  let v692 : BitVec 32 := Scalar.muli v646 c512_i32_379
  v692
def k0_off31 (k0_t3 : Fin k0_t3_loop.trips) (c0_i32_370 : BitVec 32) (c0_i32_380 : BitVec 32) : Fin 2 → Nat :=
  let c0_i32_264 : BitVec 32 := 0#32
  let c1_i32_266 : BitVec 32 := 1#32
  let arg19 : BitVec 32 := Scf.iv c0_i32_264 c1_i32_266 k0_t3
  let c4_i32_369 : BitVec 32 := 4#32
  let v645 : BitVec 32 := Scalar.muli arg19 c4_i32_369
  let v646 : BitVec 32 := Scalar.addi v645 c0_i32_370
  let c512_i32_379 : BitVec 32 := 512#32
  let v692 : BitVec 32 := Scalar.muli v646 c512_i32_379
  let v693 : BitVec 32 := v692
  let v694 : BitVec 32 := Scalar.addi v693 c0_i32_380
  let v695 : Index := Scalar.indexCast v694
  let c0_381 : Index := 0#32
  ![v695.toNat, 0]
def k0_mult4 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_369 : BitVec 32 := 4#32
  let v645 : BitVec 32 := Scalar.muli arg19 c4_i32_369
  let c0_i32_370 : BitVec 32 := 0#32
  let v646 : BitVec 32 := Scalar.addi v645 c0_i32_370
  let c512_i32_382 : BitVec 32 := 512#32
  let v732 : BitVec 32 := Scalar.muli v646 c512_i32_382
  v732
def k0_mult5 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_369 : BitVec 32 := 4#32
  let v645 : BitVec 32 := Scalar.muli arg19 c4_i32_369
  let c0_i32_370 : BitVec 32 := 0#32
  let v646 : BitVec 32 := Scalar.addi v645 c0_i32_370
  let c512_i32_386 : BitVec 32 := 512#32
  let v773 : BitVec 32 := Scalar.muli v646 c512_i32_386
  v773
def k0_off32 (k0_t3 : Fin k0_t3_loop.trips) (c0_i32_370 : BitVec 32) (c0_i32_388 : BitVec 32) : Fin 2 → Nat :=
  let c0_i32_264 : BitVec 32 := 0#32
  let c1_i32_266 : BitVec 32 := 1#32
  let arg19 : BitVec 32 := Scf.iv c0_i32_264 c1_i32_266 k0_t3
  let c4_i32_369 : BitVec 32 := 4#32
  let v645 : BitVec 32 := Scalar.muli arg19 c4_i32_369
  let v646 : BitVec 32 := Scalar.addi v645 c0_i32_370
  let c32_i32_387 : BitVec 32 := 32#32
  let v775 : BitVec 32 := Scalar.muli v646 c32_i32_387
  let v776 : BitVec 32 := Scalar.addi v775 c0_i32_388
  let v777 : Index := Scalar.indexCast v776
  let c0_389 : Index := 0#32
  ![v777.toNat, 0]
def k0_off33 (k0_t3 : Fin k0_t3_loop.trips) (c0_i32_370 : BitVec 32) (c0_i32_391 : BitVec 32) : Fin 2 → Nat :=
  let c0_i32_264 : BitVec 32 := 0#32
  let c1_i32_266 : BitVec 32 := 1#32
  let arg19 : BitVec 32 := Scf.iv c0_i32_264 c1_i32_266 k0_t3
  let c4_i32_369 : BitVec 32 := 4#32
  let v645 : BitVec 32 := Scalar.muli arg19 c4_i32_369
  let v646 : BitVec 32 := Scalar.addi v645 c0_i32_370
  let c512_i32_386 : BitVec 32 := 512#32
  let v773 : BitVec 32 := Scalar.muli v646 c512_i32_386
  let v774 : BitVec 32 := v773
  let v793 : BitVec 32 := Scalar.addi v774 c0_i32_391
  let v794 : Index := Scalar.indexCast v793
  let c0_392 : Index := 0#32
  ![v794.toNat, 0]
def k0_off34 (k0_t3 : Fin k0_t3_loop.trips) (c0_i32_370 : BitVec 32) (c0_i32_394 : BitVec 32) : Fin 2 → Nat :=
  let c0_i32_264 : BitVec 32 := 0#32
  let c1_i32_266 : BitVec 32 := 1#32
  let arg19 : BitVec 32 := Scf.iv c0_i32_264 c1_i32_266 k0_t3
  let c4_i32_369 : BitVec 32 := 4#32
  let v645 : BitVec 32 := Scalar.muli arg19 c4_i32_369
  let v646 : BitVec 32 := Scalar.addi v645 c0_i32_370
  let c512_i32_386 : BitVec 32 := 512#32
  let v773 : BitVec 32 := Scalar.muli v646 c512_i32_386
  let v774 : BitVec 32 := v773
  let c256_i32_393 : BitVec 32 := 256#32
  let v798 : BitVec 32 := Scalar.addi v774 c256_i32_393
  let v799 : BitVec 32 := Scalar.addi v798 c0_i32_394
  let v800 : Index := Scalar.indexCast v799
  let c0_395 : Index := 0#32
  ![v800.toNat, 0]
def k0_mult6 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_630 : BitVec 32 := 4#32
  let v1831 : BitVec 32 := Scalar.muli arg19 c4_i32_630
  let c1_i32_631 : BitVec 32 := 1#32
  let v1832 : BitVec 32 := Scalar.addi v1831 c1_i32_631
  let c1024_i32_632 : BitVec 32 := 1024#32
  let v1833 : BitVec 32 := Scalar.muli v1832 c1024_i32_632
  v1833
def k0_mult7 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_630 : BitVec 32 := 4#32
  let v1831 : BitVec 32 := Scalar.muli arg19 c4_i32_630
  let c1_i32_631 : BitVec 32 := 1#32
  let v1832 : BitVec 32 := Scalar.addi v1831 c1_i32_631
  let c512_i32_645 : BitVec 32 := 512#32
  let v1878 : BitVec 32 := Scalar.muli v1832 c512_i32_645
  v1878
def k0_mult8 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_630 : BitVec 32 := 4#32
  let v1831 : BitVec 32 := Scalar.muli arg19 c4_i32_630
  let c1_i32_631 : BitVec 32 := 1#32
  let v1832 : BitVec 32 := Scalar.addi v1831 c1_i32_631
  let c512_i32_648 : BitVec 32 := 512#32
  let v1918 : BitVec 32 := Scalar.muli v1832 c512_i32_648
  v1918
def k0_mult9 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_630 : BitVec 32 := 4#32
  let v1831 : BitVec 32 := Scalar.muli arg19 c4_i32_630
  let c1_i32_631 : BitVec 32 := 1#32
  let v1832 : BitVec 32 := Scalar.addi v1831 c1_i32_631
  let c512_i32_652 : BitVec 32 := 512#32
  let v1959 : BitVec 32 := Scalar.muli v1832 c512_i32_652
  v1959
def k0_mult10 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_941 : BitVec 32 := 4#32
  let v3017 : BitVec 32 := Scalar.muli arg19 c4_i32_941
  let c2_i32_942 : BitVec 32 := 2#32
  let v3018 : BitVec 32 := Scalar.addi v3017 c2_i32_942
  let c1024_i32_943 : BitVec 32 := 1024#32
  let v3019 : BitVec 32 := Scalar.muli v3018 c1024_i32_943
  v3019
def k0_mult11 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_941 : BitVec 32 := 4#32
  let v3017 : BitVec 32 := Scalar.muli arg19 c4_i32_941
  let c2_i32_942 : BitVec 32 := 2#32
  let v3018 : BitVec 32 := Scalar.addi v3017 c2_i32_942
  let c512_i32_956 : BitVec 32 := 512#32
  let v3064 : BitVec 32 := Scalar.muli v3018 c512_i32_956
  v3064
def k0_mult12 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_941 : BitVec 32 := 4#32
  let v3017 : BitVec 32 := Scalar.muli arg19 c4_i32_941
  let c2_i32_942 : BitVec 32 := 2#32
  let v3018 : BitVec 32 := Scalar.addi v3017 c2_i32_942
  let c512_i32_959 : BitVec 32 := 512#32
  let v3104 : BitVec 32 := Scalar.muli v3018 c512_i32_959
  v3104
def k0_mult13 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_941 : BitVec 32 := 4#32
  let v3017 : BitVec 32 := Scalar.muli arg19 c4_i32_941
  let c2_i32_942 : BitVec 32 := 2#32
  let v3018 : BitVec 32 := Scalar.addi v3017 c2_i32_942
  let c512_i32_963 : BitVec 32 := 512#32
  let v3145 : BitVec 32 := Scalar.muli v3018 c512_i32_963
  v3145
def k0_mult14 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_1252 : BitVec 32 := 4#32
  let v4203 : BitVec 32 := Scalar.muli arg19 c4_i32_1252
  let c3_i32_1253 : BitVec 32 := 3#32
  let v4204 : BitVec 32 := Scalar.addi v4203 c3_i32_1253
  let c1024_i32_1254 : BitVec 32 := 1024#32
  let v4205 : BitVec 32 := Scalar.muli v4204 c1024_i32_1254
  v4205
def k0_mult15 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_1252 : BitVec 32 := 4#32
  let v4203 : BitVec 32 := Scalar.muli arg19 c4_i32_1252
  let c3_i32_1253 : BitVec 32 := 3#32
  let v4204 : BitVec 32 := Scalar.addi v4203 c3_i32_1253
  let c512_i32_1267 : BitVec 32 := 512#32
  let v4250 : BitVec 32 := Scalar.muli v4204 c512_i32_1267
  v4250
def k0_mult16 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_1252 : BitVec 32 := 4#32
  let v4203 : BitVec 32 := Scalar.muli arg19 c4_i32_1252
  let c3_i32_1253 : BitVec 32 := 3#32
  let v4204 : BitVec 32 := Scalar.addi v4203 c3_i32_1253
  let c512_i32_1270 : BitVec 32 := 512#32
  let v4290 : BitVec 32 := Scalar.muli v4204 c512_i32_1270
  v4290
def k0_mult17 (k0_t3 : Fin k0_t3_loop.trips) : BitVec 32 :=
  let c0_i32_264 : BitVec 32 := 0#32
  let c1_i32_266 : BitVec 32 := 1#32
  let arg19 : BitVec 32 := Scf.iv c0_i32_264 c1_i32_266 k0_t3
  let c4_i32_1252 : BitVec 32 := 4#32
  let v4203 : BitVec 32 := Scalar.muli arg19 c4_i32_1252
  let c3_i32_1253 : BitVec 32 := 3#32
  let v4204 : BitVec 32 := Scalar.addi v4203 c3_i32_1253
  let c512_i32_1274 : BitVec 32 := 512#32
  let v4331 : BitVec 32 := Scalar.muli v4204 c512_i32_1274
  v4331
def k0_off35 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let v384 : Index := Scalar.indexCast arg18
  let c0 : Index := 0#32
  let c0_304 : Index := 0#32
  ![v384.toNat, 0, 0]
@[reducible] def k0_t4_loop : Scf.Loop 32 :=
  let c0_i32_306 : BitVec 32 := 0#32
  let c8_i32_307 : BitVec 32 := 8#32
  let v429 : BitVec 32 := Scalar.addi c0_i32_306 c8_i32_307
  let c1_i32_308 : BitVec 32 := 1#32
  ⟨c0_i32_306, v429, c1_i32_308⟩
def k0_cond2 (k0_t1 : Fin k0_t1_loop.trips) : BitVec 1 :=
  let c0_i32_141 : BitVec 32 := 0#32
  let c1_i32_142 : BitVec 32 := 1#32
  let arg18 : BitVec 32 := Scf.iv c0_i32_141 c1_i32_142 k0_t1
  let c0_i32_365 : BitVec 32 := 0#32
  let v638 : BitVec 1 := Scalar.cmpi .sgt arg18 c0_i32_365
  let v639 : BitVec 32 := Scalar.extui v638
  let c0_i32_366 : BitVec 32 := 0#32
  let v640 : BitVec 1 := Scalar.cmpi .ne v639 c0_i32_366
  v640

def k0_off36 (k0_t4 : Fin k0_t4_loop.trips) : Fin 2 → Nat :=
  let c0_i32_488 : BitVec 32 := 0#32
  let c0_i32_306 : BitVec 32 := 0#32
  let c1_i32_308 : BitVec 32 := 1#32
  let arg19 : BitVec 32 := Scf.iv c0_i32_306 c1_i32_308 k0_t4
  ![0, arg19.toNat]
def k0_off37 (k0_t1 : Fin k0_t1_loop.trips) (k0_t4 : Fin k0_t4_loop.trips) : Fin 3 → Nat :=
  let c0_i32_141 : BitVec 32 := 0#32
  let c1_i32_142 : BitVec 32 := 1#32
  let arg18 : BitVec 32 := Scf.iv c0_i32_141 c1_i32_142 k0_t1
  let c1_i32_486 : BitVec 32 := 1#32
  let v1027 : BitVec 32 := Scalar.subi arg18 c1_i32_486
  let c0_i32_306 : BitVec 32 := 0#32
  let c1_i32_308 : BitVec 32 := 1#32
  let arg19 : BitVec 32 := Scf.iv c0_i32_306 c1_i32_308 k0_t4
  let c4096_i32_487 : BitVec 32 := 4096#32
  let v1028 : BitVec 32 := Scalar.muli arg19 c4096_i32_487
  let c0_i32_489 : BitVec 32 := 0#32
  ![v1027.toNat, v1028.toNat, 0]
def k0_off38 (k0_t4 : Fin k0_t4_loop.trips) : Fin 2 → Nat :=
  let c0_i32_306 : BitVec 32 := 0#32
  let c1_i32_308 : BitVec 32 := 1#32
  let arg19 : BitVec 32 := Scf.iv c0_i32_306 c1_i32_308 k0_t4
  let c4096_i32_487 : BitVec 32 := 4096#32
  let v1028 : BitVec 32 := Scalar.muli arg19 c4096_i32_487
  let c0_i32_490 : BitVec 32 := 0#32
  ![v1028.toNat, 0]
def k0_mult18 (k0_t4 : Fin k0_t4_loop.trips) : BitVec 32 :=
  let c0_i32_306 : BitVec 32 := 0#32
  let c1_i32_308 : BitVec 32 := 1#32
  let arg19 : BitVec 32 := Scf.iv c0_i32_306 c1_i32_308 k0_t4
  let c4_i32_367 : BitVec 32 := 4#32
  let v641 : BitVec 32 := Scalar.muli arg19 c4_i32_367
  let c0_i32_368 : BitVec 32 := 0#32
  let v642 : BitVec 32 := Scalar.addi v641 c0_i32_368
  let c512_i32 : BitVec 32 := 512#32
  let v643 : BitVec 32 := Scalar.muli v642 c512_i32
  v643
def k0_off39 (k0_t4 : Fin k0_t4_loop.trips) (c0_i32_368 : BitVec 32) : Fin 2 → Nat :=
  let c0_i32_306 : BitVec 32 := 0#32
  let c1_i32_308 : BitVec 32 := 1#32
  let arg19 : BitVec 32 := Scf.iv c0_i32_306 c1_i32_308 k0_t4
  let c4_i32_367 : BitVec 32 := 4#32
  let v641 : BitVec 32 := Scalar.muli arg19 c4_i32_367
  let v642 : BitVec 32 := Scalar.addi v641 c0_i32_368
  let c512_i32 : BitVec 32 := 512#32
  let v643 : BitVec 32 := Scalar.muli v642 c512_i32
  let v644 : BitVec 32 := v643
  let v645 : Index := Scalar.indexCast v644
  let c0_369 : Index := 0#32
  ![v645.toNat, 0]
def k0_off40 (k0_t4 : Fin k0_t4_loop.trips) (c0_i32_368 : BitVec 32) (c256_i32 : BitVec 32) : Fin 2 → Nat :=
  let c0_i32_306 : BitVec 32 := 0#32
  let c1_i32_308 : BitVec 32 := 1#32
  let arg19 : BitVec 32 := Scf.iv c0_i32_306 c1_i32_308 k0_t4
  let c4_i32_367 : BitVec 32 := 4#32
  let v641 : BitVec 32 := Scalar.muli arg19 c4_i32_367
  let v642 : BitVec 32 := Scalar.addi v641 c0_i32_368
  let c512_i32 : BitVec 32 := 512#32
  let v643 : BitVec 32 := Scalar.muli v642 c512_i32
  let v644 : BitVec 32 := v643
  let v652 : BitVec 32 := Scalar.addi v644 c256_i32
  let v653 : Index := Scalar.indexCast v652
  let c0_371 : Index := 0#32
  ![v653.toNat, 0]
def k0_mult19 (k0_t4 : Fin k0_t4_loop.trips) : BitVec 32 :=
  let c0_i32_306 : BitVec 32 := 0#32
  let c1_i32_308 : BitVec 32 := 1#32
  let arg19 : BitVec 32 := Scf.iv c0_i32_306 c1_i32_308 k0_t4
  let c4_i32_367 : BitVec 32 := 4#32
  let v641 : BitVec 32 := Scalar.muli arg19 c4_i32_367
  let c0_i32_368 : BitVec 32 := 0#32
  let v642 : BitVec 32 := Scalar.addi v641 c0_i32_368
  let c1024_i32 : BitVec 32 := 1024#32
  let v700 : BitVec 32 := Scalar.muli v642 c1024_i32
  v700
def k0_off41 (k0_t4 : Fin k0_t4_loop.trips) (c0_i32_368 : BitVec 32) (c0_i32_384 : BitVec 32) : Fin 2 → Nat :=
  let c0_i32_306 : BitVec 32 := 0#32
  let c1_i32_308 : BitVec 32 := 1#32
  let arg19 : BitVec 32 := Scf.iv c0_i32_306 c1_i32_308 k0_t4
  let c4_i32_367 : BitVec 32 := 4#32
  let v641 : BitVec 32 := Scalar.muli arg19 c4_i32_367
  let v642 : BitVec 32 := Scalar.addi v641 c0_i32_368
  let c1024_i32 : BitVec 32 := 1024#32
  let v700 : BitVec 32 := Scalar.muli v642 c1024_i32
  let v701 : BitVec 32 := v700
  let v709 : BitVec 32 := Scalar.addi v701 c0_i32_384
  let v710 : Index := Scalar.indexCast v709
  let c0_385 : Index := 0#32
  ![v710.toNat, 0]
def k0_mult20 (k0_t4 : Fin k0_t4_loop.trips) : BitVec 32 :=
  let c0_i32_306 : BitVec 32 := 0#32
  let c1_i32_308 : BitVec 32 := 1#32
  let arg19 : BitVec 32 := Scf.iv c0_i32_306 c1_i32_308 k0_t4
  let c4_i32_392 : BitVec 32 := 4#32
  let v736 : BitVec 32 := Scalar.muli arg19 c4_i32_392
  let c1_i32_393 : BitVec 32 := 1#32
  let v737 : BitVec 32 := Scalar.addi v736 c1_i32_393
  let c512_i32_394 : BitVec 32 := 512#32
  let v738 : BitVec 32 := Scalar.muli v737 c512_i32_394
  v738
def k0_mult21 (k0_t4 : Fin k0_t4_loop.trips) : BitVec 32 :=
  let c0_i32_306 : BitVec 32 := 0#32
  let c1_i32_308 : BitVec 32 := 1#32
  let arg19 : BitVec 32 := Scf.iv c0_i32_306 c1_i32_308 k0_t4
  let c4_i32_392 : BitVec 32 := 4#32
  let v736 : BitVec 32 := Scalar.muli arg19 c4_i32_392
  let c1_i32_393 : BitVec 32 := 1#32
  let v737 : BitVec 32 := Scalar.addi v736 c1_i32_393
  let c1024_i32_411 : BitVec 32 := 1024#32
  let v795 : BitVec 32 := Scalar.muli v737 c1024_i32_411
  v795
def k0_mult22 (k0_t4 : Fin k0_t4_loop.trips) : BitVec 32 :=
  let c0_i32_306 : BitVec 32 := 0#32
  let c1_i32_308 : BitVec 32 := 1#32
  let arg19 : BitVec 32 := Scf.iv c0_i32_306 c1_i32_308 k0_t4
  let c4_i32_422 : BitVec 32 := 4#32
  let v831 : BitVec 32 := Scalar.muli arg19 c4_i32_422
  let c2_i32_423 : BitVec 32 := 2#32
  let v832 : BitVec 32 := Scalar.addi v831 c2_i32_423
  let c512_i32_424 : BitVec 32 := 512#32
  let v833 : BitVec 32 := Scalar.muli v832 c512_i32_424
  v833
def k0_mult23 (k0_t4 : Fin k0_t4_loop.trips) : BitVec 32 :=
  let c0_i32_306 : BitVec 32 := 0#32
  let c1_i32_308 : BitVec 32 := 1#32
  let arg19 : BitVec 32 := Scf.iv c0_i32_306 c1_i32_308 k0_t4
  let c4_i32_422 : BitVec 32 := 4#32
  let v831 : BitVec 32 := Scalar.muli arg19 c4_i32_422
  let c2_i32_423 : BitVec 32 := 2#32
  let v832 : BitVec 32 := Scalar.addi v831 c2_i32_423
  let c1024_i32_441 : BitVec 32 := 1024#32
  let v890 : BitVec 32 := Scalar.muli v832 c1024_i32_441
  v890
def k0_mult24 (k0_t4 : Fin k0_t4_loop.trips) : BitVec 32 :=
  let c0_i32_306 : BitVec 32 := 0#32
  let c1_i32_308 : BitVec 32 := 1#32
  let arg19 : BitVec 32 := Scf.iv c0_i32_306 c1_i32_308 k0_t4
  let c4_i32_452 : BitVec 32 := 4#32
  let v926 : BitVec 32 := Scalar.muli arg19 c4_i32_452
  let c3_i32_453 : BitVec 32 := 3#32
  let v927 : BitVec 32 := Scalar.addi v926 c3_i32_453
  let c512_i32_454 : BitVec 32 := 512#32
  let v928 : BitVec 32 := Scalar.muli v927 c512_i32_454
  v928
def k0_mult25 (k0_t4 : Fin k0_t4_loop.trips) : BitVec 32 :=
  let c0_i32_306 : BitVec 32 := 0#32
  let c1_i32_308 : BitVec 32 := 1#32
  let arg19 : BitVec 32 := Scf.iv c0_i32_306 c1_i32_308 k0_t4
  let c4_i32_452 : BitVec 32 := 4#32
  let v926 : BitVec 32 := Scalar.muli arg19 c4_i32_452
  let c3_i32_453 : BitVec 32 := 3#32
  let v927 : BitVec 32 := Scalar.addi v926 c3_i32_453
  let c1024_i32_471 : BitVec 32 := 1024#32
  let v985 : BitVec 32 := Scalar.muli v927 c1024_i32_471
  v985
def k0_off42 (k0_t4 : Fin k0_t4_loop.trips) : Fin 2 → Nat :=
  let c0_i32_483 : BitVec 32 := 0#32
  let c0_i32_306 : BitVec 32 := 0#32
  let c1_i32_308 : BitVec 32 := 1#32
  let arg19 : BitVec 32 := Scf.iv c0_i32_306 c1_i32_308 k0_t4
  ![0, arg19.toNat]
def k0_off43 (k0_t1 : Fin k0_t1_loop.trips) (k0_t4 : Fin k0_t4_loop.trips) : Fin 3 → Nat :=
  let c0_i32_141 : BitVec 32 := 0#32
  let c1_i32_142 : BitVec 32 := 1#32
  let arg18 : BitVec 32 := Scf.iv c0_i32_141 c1_i32_142 k0_t1
  let c0_i32_306 : BitVec 32 := 0#32
  let c1_i32_308 : BitVec 32 := 1#32
  let arg19 : BitVec 32 := Scf.iv c0_i32_306 c1_i32_308 k0_t4
  let c4096_i32_482 : BitVec 32 := 4096#32
  let v1021 : BitVec 32 := Scalar.muli arg19 c4096_i32_482
  let c0_i32_484 : BitVec 32 := 0#32
  ![arg18.toNat, v1021.toNat, 0]
def k0_off44 (k0_t4 : Fin k0_t4_loop.trips) : Fin 2 → Nat :=
  let c0_i32_306 : BitVec 32 := 0#32
  let c1_i32_308 : BitVec 32 := 1#32
  let arg19 : BitVec 32 := Scf.iv c0_i32_306 c1_i32_308 k0_t4
  let c4096_i32_482 : BitVec 32 := 4096#32
  let v1021 : BitVec 32 := Scalar.muli arg19 c4096_i32_482
  let c0_i32_485 : BitVec 32 := 0#32
  ![v1021.toNat, 0]
def k0_cond3 (k0_t1 : Fin k0_t1_loop.trips) : BitVec 1 :=
  let c0_i32_141 : BitVec 32 := 0#32
  let c1_i32_142 : BitVec 32 := 1#32
  let arg18 : BitVec 32 := Scf.iv c0_i32_141 c1_i32_142 k0_t1
  let c1_i32_310 : BitVec 32 := 1#32
  let v430 : BitVec 32 := Scalar.addi arg18 c1_i32_310
  let c9_i32_311 : BitVec 32 := 9#32
  let v431 : BitVec 1 := Scalar.cmpi .slt v430 c9_i32_311
  let v432 : BitVec 32 := Scalar.extui v431
  let c0_i32_312 : BitVec 32 := 0#32
  let v433 : BitVec 1 := Scalar.cmpi .ne v432 c0_i32_312
  v433

def k0_off45 (k0_t1 : Fin k0_t1_loop.trips) : Fin 3 → Nat :=
  let c1_i32_367 : BitVec 32 := 1#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c0_i32_368 : BitVec 32 := 0#32
  ![1, v639.toNat, 0]
def k0_off46 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c0_i32_369 : BitVec 32 := 0#32
  let c0_i32_370 : BitVec 32 := 0#32
  ![v639.toNat, 0, 0]
def k0_off47 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c0_i32_371 : BitVec 32 := 0#32
  let c0_i32_372 : BitVec 32 := 0#32
  ![v638.toNat, 0, 0]
def k0_off48 (k0_t1 : Fin k0_t1_loop.trips) : Fin 3 → Nat :=
  let c1_i32_373 : BitVec 32 := 1#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c1_i32_374 : BitVec 32 := 1#32
  ![1, v639.toNat, 1]
def k0_off49 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c4096_i32_375 : BitVec 32 := 4096#32
  let c0_i32_376 : BitVec 32 := 0#32
  ![v639.toNat, 4096, 0]
def k0_off50 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c4096_i32_377 : BitVec 32 := 4096#32
  let c0_i32_378 : BitVec 32 := 0#32
  ![v638.toNat, 4096, 0]
def k0_off51 (k0_t1 : Fin k0_t1_loop.trips) : Fin 3 → Nat :=
  let c1_i32_379 : BitVec 32 := 1#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c2_i32_380 : BitVec 32 := 2#32
  ![1, v639.toNat, 2]
def k0_off52 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c8192_i32_381 : BitVec 32 := 8192#32
  let c0_i32_382 : BitVec 32 := 0#32
  ![v639.toNat, 8192, 0]
def k0_off53 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c8192_i32_383 : BitVec 32 := 8192#32
  let c0_i32_384 : BitVec 32 := 0#32
  ![v638.toNat, 8192, 0]
def k0_off54 (k0_t1 : Fin k0_t1_loop.trips) : Fin 3 → Nat :=
  let c1_i32_385 : BitVec 32 := 1#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c3_i32_386 : BitVec 32 := 3#32
  ![1, v639.toNat, 3]
def k0_off55 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c12288_i32_387 : BitVec 32 := 12288#32
  let c0_i32_388 : BitVec 32 := 0#32
  ![v639.toNat, 12288, 0]
def k0_off56 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c12288_i32_389 : BitVec 32 := 12288#32
  let c0_i32_390 : BitVec 32 := 0#32
  ![v638.toNat, 12288, 0]
def k0_off57 (k0_t1 : Fin k0_t1_loop.trips) : Fin 3 → Nat :=
  let c1_i32_391 : BitVec 32 := 1#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c4_i32_392 : BitVec 32 := 4#32
  ![1, v639.toNat, 4]
def k0_off58 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c16384_i32_393 : BitVec 32 := 16384#32
  let c0_i32_394 : BitVec 32 := 0#32
  ![v639.toNat, 16384, 0]
def k0_off59 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c16384_i32_395 : BitVec 32 := 16384#32
  let c0_i32_396 : BitVec 32 := 0#32
  ![v638.toNat, 16384, 0]
def k0_off60 (k0_t1 : Fin k0_t1_loop.trips) : Fin 3 → Nat :=
  let c1_i32_397 : BitVec 32 := 1#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c5_i32_398 : BitVec 32 := 5#32
  ![1, v639.toNat, 5]
def k0_off61 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c20480_i32_399 : BitVec 32 := 20480#32
  let c0_i32_400 : BitVec 32 := 0#32
  ![v639.toNat, 20480, 0]
def k0_off62 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c20480_i32_401 : BitVec 32 := 20480#32
  let c0_i32_402 : BitVec 32 := 0#32
  ![v638.toNat, 20480, 0]
def k0_off63 (k0_t1 : Fin k0_t1_loop.trips) : Fin 3 → Nat :=
  let c1_i32_403 : BitVec 32 := 1#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c6_i32_404 : BitVec 32 := 6#32
  ![1, v639.toNat, 6]
def k0_off64 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c24576_i32_405 : BitVec 32 := 24576#32
  let c0_i32_406 : BitVec 32 := 0#32
  ![v639.toNat, 24576, 0]
def k0_off65 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c24576_i32_407 : BitVec 32 := 24576#32
  let c0_i32_408 : BitVec 32 := 0#32
  ![v638.toNat, 24576, 0]
def k0_off66 (k0_t1 : Fin k0_t1_loop.trips) : Fin 3 → Nat :=
  let c1_i32_409 : BitVec 32 := 1#32
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c7_i32_410 : BitVec 32 := 7#32
  ![1, v639.toNat, 7]
def k0_off67 (k0_t1 : Fin k0_t1_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v639 : BitVec 32 := Scalar.subi c1_i32_366 v209
  let c28672_i32_411 : BitVec 32 := 28672#32
  let c0_i32_412 : BitVec 32 := 0#32
  ![v639.toNat, 28672, 0]
def k0_off68 (k0_t1 : Fin k0_t1_loop.trips) : Fin 3 → Nat :=
  let c0_i32_141 : BitVec 32 := 0#32
  let c1_i32_142 : BitVec 32 := 1#32
  let arg18 : BitVec 32 := Scf.iv c0_i32_141 c1_i32_142 k0_t1
  let c1_i32_365 : BitVec 32 := 1#32
  let v638 : BitVec 32 := Scalar.addi arg18 c1_i32_365
  let c28672_i32_413 : BitVec 32 := 28672#32
  let c0_i32_414 : BitVec 32 := 0#32
  ![v638.toNat, 28672, 0]
@[reducible] def k0_t5_loop : Scf.Loop 32 :=
  let c0_i32_313 : BitVec 32 := 0#32
  let c8_i32_314 : BitVec 32 := 8#32
  let v434 : BitVec 32 := Scalar.addi c0_i32_313 c8_i32_314
  let c1_i32_315 : BitVec 32 := 1#32
  ⟨c0_i32_313, v434, c1_i32_315⟩
def k0_off69 (k0_t1 : Fin k0_t1_loop.trips) (k0_t5 : Fin k0_t5_loop.trips) : Fin 3 → Nat :=
  let c1_i32_366 : BitVec 32 := 1#32
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let c0_i32_313 : BitVec 32 := 0#32
  let c1_i32_315 : BitVec 32 := 1#32
  let arg19 : BitVec 32 := Scf.iv c0_i32_313 c1_i32_315 k0_t5
  ![1, v209.toNat, arg19.toNat]
def k0_off70 (k0_t1 : Fin k0_t1_loop.trips) (k0_t5 : Fin k0_t5_loop.trips) : Fin 3 → Nat :=
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let c0_i32_313 : BitVec 32 := 0#32
  let c1_i32_315 : BitVec 32 := 1#32
  let arg19 : BitVec 32 := Scf.iv c0_i32_313 c1_i32_315 k0_t5
  let c4096_i32_365 : BitVec 32 := 4096#32
  let v638 : BitVec 32 := Scalar.muli arg19 c4096_i32_365
  let c0_i32_367 : BitVec 32 := 0#32
  ![v209.toNat, v638.toNat, 0]
def k0_off71 (k0_t1 : Fin k0_t1_loop.trips) (k0_t5 : Fin k0_t5_loop.trips) : Fin 3 → Nat :=
  let c0_i32_141 : BitVec 32 := 0#32
  let c1_i32_142 : BitVec 32 := 1#32
  let arg18 : BitVec 32 := Scf.iv c0_i32_141 c1_i32_142 k0_t1
  let c0_i32_313 : BitVec 32 := 0#32
  let c1_i32_315 : BitVec 32 := 1#32
  let arg19 : BitVec 32 := Scf.iv c0_i32_313 c1_i32_315 k0_t5
  let c4096_i32_365 : BitVec 32 := 4096#32
  let v638 : BitVec 32 := Scalar.muli arg19 c4096_i32_365
  let c0_i32_368 : BitVec 32 := 0#32
  ![arg18.toNat, v638.toNat, 0]
def k0_mult26 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_369 : BitVec 32 := 4096#32
  let v645 : BitVec 32 := Scalar.muli arg19 c4096_i32_369
  v645
def k0_off72 (k0_t1 : Fin k0_t1_loop.trips) (k0_t5 : Fin k0_t5_loop.trips) (c0_i32_370 : BitVec 32) : Fin 3 → Nat :=
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v648 : Index := Scalar.indexCast v209
  let c0_i32_313 : BitVec 32 := 0#32
  let c1_i32_315 : BitVec 32 := 1#32
  let arg19 : BitVec 32 := Scf.iv c0_i32_313 c1_i32_315 k0_t5
  let c4096_i32_369 : BitVec 32 := 4096#32
  let v645 : BitVec 32 := Scalar.muli arg19 c4096_i32_369
  let v646 : BitVec 32 := v645
  let v647 : BitVec 32 := Scalar.addi v646 c0_i32_370
  let v649 : Index := Scalar.indexCast v647
  let c0_371 : Index := 0#32
  ![v648.toNat, v649.toNat, 0]
def k0_mult27 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_372 : BitVec 32 := 4096#32
  let v685 : BitVec 32 := Scalar.muli arg19 c4096_i32_372
  v685
def k0_mult28 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_374 : BitVec 32 := 4096#32
  let v725 : BitVec 32 := Scalar.muli arg19 c4096_i32_374
  v725
def k0_mult29 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_376 : BitVec 32 := 4096#32
  let v765 : BitVec 32 := Scalar.muli arg19 c4096_i32_376
  v765
def k0_mult30 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_378 : BitVec 32 := 4096#32
  let v805 : BitVec 32 := Scalar.muli arg19 c4096_i32_378
  v805
def k0_mult31 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_380 : BitVec 32 := 4096#32
  let v845 : BitVec 32 := Scalar.muli arg19 c4096_i32_380
  v845
def k0_mult32 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_382 : BitVec 32 := 4096#32
  let v885 : BitVec 32 := Scalar.muli arg19 c4096_i32_382
  v885
def k0_mult33 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_384 : BitVec 32 := 4096#32
  let v925 : BitVec 32 := Scalar.muli arg19 c4096_i32_384
  v925
def k0_mult34 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_386 : BitVec 32 := 4096#32
  let v965 : BitVec 32 := Scalar.muli arg19 c4096_i32_386
  v965
def k0_mult35 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_388 : BitVec 32 := 4096#32
  let v1005 : BitVec 32 := Scalar.muli arg19 c4096_i32_388
  v1005
def k0_mult36 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_390 : BitVec 32 := 4096#32
  let v1045 : BitVec 32 := Scalar.muli arg19 c4096_i32_390
  v1045
def k0_mult37 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_392 : BitVec 32 := 4096#32
  let v1085 : BitVec 32 := Scalar.muli arg19 c4096_i32_392
  v1085
def k0_mult38 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_394 : BitVec 32 := 4096#32
  let v1125 : BitVec 32 := Scalar.muli arg19 c4096_i32_394
  v1125
def k0_mult39 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_396 : BitVec 32 := 4096#32
  let v1165 : BitVec 32 := Scalar.muli arg19 c4096_i32_396
  v1165
def k0_mult40 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_398 : BitVec 32 := 4096#32
  let v1205 : BitVec 32 := Scalar.muli arg19 c4096_i32_398
  v1205
def k0_mult41 (k0_t5 : Fin k0_t5_loop.trips) : BitVec 32 :=
  let c0_i32_313 : BitVec 32 := 0#32
  let c1_i32_315 : BitVec 32 := 1#32
  let arg19 : BitVec 32 := Scf.iv c0_i32_313 c1_i32_315 k0_t5
  let c4096_i32_400 : BitVec 32 := 4096#32
  let v1245 : BitVec 32 := Scalar.muli arg19 c4096_i32_400
  v1245
@[reducible] def k0_t6_loop : Scf.Loop 32 :=
  let c0_i32_361 : BitVec 32 := 0#32
  let c8_i32_362 : BitVec 32 := 8#32
  let v637 : BitVec 32 := Scalar.addi c0_i32_361 c8_i32_362
  let c1_i32_363 : BitVec 32 := 1#32
  ⟨c0_i32_361, v637, c1_i32_363⟩
def k0_cond4 (k0_t1 : Fin k0_t1_loop.trips) : BitVec 1 :=
  let c0_i32_141 : BitVec 32 := 0#32
  let c1_i32_142 : BitVec 32 := 1#32
  let arg18 : BitVec 32 := Scf.iv c0_i32_141 c1_i32_142 k0_t1
  let c0_i32_365 : BitVec 32 := 0#32
  let v638 : BitVec 1 := Scalar.cmpi .sgt arg18 c0_i32_365
  let v639 : BitVec 32 := Scalar.extui v638
  let c0_i32_366 : BitVec 32 := 0#32
  let v640 : BitVec 1 := Scalar.cmpi .ne v639 c0_i32_366
  v640

def k0_off73 (k0_t6 : Fin k0_t6_loop.trips) : Fin 2 → Nat :=
  let c1_i32_469 : BitVec 32 := 1#32
  let c0_i32_361 : BitVec 32 := 0#32
  let c1_i32_363 : BitVec 32 := 1#32
  let arg19 : BitVec 32 := Scf.iv c0_i32_361 c1_i32_363 k0_t6
  ![1, arg19.toNat]
def k0_off74 (k0_t1 : Fin k0_t1_loop.trips) (k0_t6 : Fin k0_t6_loop.trips) : Fin 3 → Nat :=
  let c0_i32_141 : BitVec 32 := 0#32
  let c1_i32_142 : BitVec 32 := 1#32
  let arg18 : BitVec 32 := Scf.iv c0_i32_141 c1_i32_142 k0_t1
  let c1_i32_467 : BitVec 32 := 1#32
  let v959 : BitVec 32 := Scalar.subi arg18 c1_i32_467
  let c0_i32_361 : BitVec 32 := 0#32
  let c1_i32_363 : BitVec 32 := 1#32
  let arg19 : BitVec 32 := Scf.iv c0_i32_361 c1_i32_363 k0_t6
  let c4096_i32_468 : BitVec 32 := 4096#32
  let v960 : BitVec 32 := Scalar.muli arg19 c4096_i32_468
  let c0_i32_470 : BitVec 32 := 0#32
  ![v959.toNat, v960.toNat, 0]
def k0_off75 (k0_t6 : Fin k0_t6_loop.trips) : Fin 2 → Nat :=
  let c0_i32_361 : BitVec 32 := 0#32
  let c1_i32_363 : BitVec 32 := 1#32
  let arg19 : BitVec 32 := Scf.iv c0_i32_361 c1_i32_363 k0_t6
  let c4096_i32_468 : BitVec 32 := 4096#32
  let v960 : BitVec 32 := Scalar.muli arg19 c4096_i32_468
  let c0_i32_471 : BitVec 32 := 0#32
  ![v960.toNat, 0]
def k0_mult42 (k0_t6 : Fin k0_t6_loop.trips) : BitVec 32 :=
  let c0_i32_361 : BitVec 32 := 0#32
  let c1_i32_363 : BitVec 32 := 1#32
  let arg19 : BitVec 32 := Scf.iv c0_i32_361 c1_i32_363 k0_t6
  let c4096_i32_367 : BitVec 32 := 4096#32
  let v641 : BitVec 32 := Scalar.muli arg19 c4096_i32_367
  v641
def k0_off76 (k0_t1 : Fin k0_t1_loop.trips) (k0_t6 : Fin k0_t6_loop.trips) (c0_i32_368 : BitVec 32) (c0_i32_369 : BitVec 32) : Fin 3 → Nat :=
  let c0_i32_141 : BitVec 32 := 0#32
  let c1_i32_142 : BitVec 32 := 1#32
  let arg18 : BitVec 32 := Scf.iv c0_i32_141 c1_i32_142 k0_t1
  let c1_i32_255 : BitVec 32 := 1#32
  let v209 : BitVec 32 := Scalar.andi arg18 c1_i32_255
  let v645 : Index := Scalar.indexCast v209
  let c0_i32_361 : BitVec 32 := 0#32
  let c1_i32_363 : BitVec 32 := 1#32
  let arg19 : BitVec 32 := Scf.iv c0_i32_361 c1_i32_363 k0_t6
  let c4096_i32_367 : BitVec 32 := 4096#32
  let v641 : BitVec 32 := Scalar.muli arg19 c4096_i32_367
  let v642 : BitVec 32 := v641
  let v643 : BitVec 32 := Scalar.addi v642 c0_i32_368
  let v644 : BitVec 32 := Scalar.addi v643 c0_i32_369
  let v646 : Index := Scalar.indexCast v644
  let c0_370 : Index := 0#32
  ![v645.toNat, v646.toNat, 0]
def k0_off77 (k0_t6 : Fin k0_t6_loop.trips) (c0_i32_368 : BitVec 32) (c0_i32_375 : BitVec 32) : Fin 2 → Nat :=
  let c0_i32_361 : BitVec 32 := 0#32
  let c1_i32_363 : BitVec 32 := 1#32
  let arg19 : BitVec 32 := Scf.iv c0_i32_361 c1_i32_363 k0_t6
  let c4096_i32_367 : BitVec 32 := 4096#32
  let v641 : BitVec 32 := Scalar.muli arg19 c4096_i32_367
  let v642 : BitVec 32 := v641
  let v643 : BitVec 32 := Scalar.addi v642 c0_i32_368
  let v668 : BitVec 32 := Scalar.addi v643 c0_i32_375
  let v669 : Index := Scalar.indexCast v668
  let c0_376 : Index := 0#32
  ![v669.toNat, 0]
def k0_mult43 (k0_t6 : Fin k0_t6_loop.trips) : BitVec 32 :=
  let c0_i32_361 : BitVec 32 := 0#32
  let c1_i32_363 : BitVec 32 := 1#32
  let arg19 : BitVec 32 := Scf.iv c0_i32_361 c1_i32_363 k0_t6
  let c4096_i32_379 : BitVec 32 := 4096#32
  let v680 : BitVec 32 := Scalar.muli arg19 c4096_i32_379
  v680
def k0_mult44 (k0_t6 : Fin k0_t6_loop.trips) : BitVec 32 :=
  let c0_i32_361 : BitVec 32 := 0#32
  let c1_i32_363 : BitVec 32 := 1#32
  let arg19 : BitVec 32 := Scf.iv c0_i32_361 c1_i32_363 k0_t6
  let c4096_i32_391 : BitVec 32 := 4096#32
  let v719 : BitVec 32 := Scalar.muli arg19 c4096_i32_391
  v719
def k0_mult45 (k0_t6 : Fin k0_t6_loop.trips) : BitVec 32 :=
  let c0_i32_361 : BitVec 32 := 0#32
  let c1_i32_363 : BitVec 32 := 1#32
  let arg19 : BitVec 32 := Scf.iv c0_i32_361 c1_i32_363 k0_t6
  let c4096_i32_403 : BitVec 32 := 4096#32
  let v758 : BitVec 32 := Scalar.muli arg19 c4096_i32_403
  v758
def k0_mult46 (k0_t6 : Fin k0_t6_loop.trips) : BitVec 32 :=
  let c0_i32_361 : BitVec 32 := 0#32
  let c1_i32_363 : BitVec 32 := 1#32
  let arg19 : BitVec 32 := Scf.iv c0_i32_361 c1_i32_363 k0_t6
  let c4096_i32_415 : BitVec 32 := 4096#32
  let v797 : BitVec 32 := Scalar.muli arg19 c4096_i32_415
  v797
def k0_mult47 (k0_t6 : Fin k0_t6_loop.trips) : BitVec 32 :=
  let c0_i32_361 : BitVec 32 := 0#32
  let c1_i32_363 : BitVec 32 := 1#32
  let arg19 : BitVec 32 := Scf.iv c0_i32_361 c1_i32_363 k0_t6
  let c4096_i32_427 : BitVec 32 := 4096#32
  let v836 : BitVec 32 := Scalar.muli arg19 c4096_i32_427
  v836
def k0_mult48 (k0_t6 : Fin k0_t6_loop.trips) : BitVec 32 :=
  let c0_i32_361 : BitVec 32 := 0#32
  let c1_i32_363 : BitVec 32 := 1#32
  let arg19 : BitVec 32 := Scf.iv c0_i32_361 c1_i32_363 k0_t6
  let c4096_i32_439 : BitVec 32 := 4096#32
  let v875 : BitVec 32 := Scalar.muli arg19 c4096_i32_439
  v875
def k0_mult49 (k0_t6 : Fin k0_t6_loop.trips) : BitVec 32 :=
  let c0_i32_361 : BitVec 32 := 0#32
  let c1_i32_363 : BitVec 32 := 1#32
  let arg19 : BitVec 32 := Scf.iv c0_i32_361 c1_i32_363 k0_t6
  let c4096_i32_451 : BitVec 32 := 4096#32
  let v914 : BitVec 32 := Scalar.muli arg19 c4096_i32_451
  v914
def k0_off78 (k0_t6 : Fin k0_t6_loop.trips) : Fin 2 → Nat :=
  let c1_i32_464 : BitVec 32 := 1#32
  let c0_i32_361 : BitVec 32 := 0#32
  let c1_i32_363 : BitVec 32 := 1#32
  let arg19 : BitVec 32 := Scf.iv c0_i32_361 c1_i32_363 k0_t6
  ![1, arg19.toNat]
def k0_off79 (k0_t1 : Fin k0_t1_loop.trips) (k0_t6 : Fin k0_t6_loop.trips) : Fin 3 → Nat :=
  let c0_i32_141 : BitVec 32 := 0#32
  let c1_i32_142 : BitVec 32 := 1#32
  let arg18 : BitVec 32 := Scf.iv c0_i32_141 c1_i32_142 k0_t1
  let c0_i32_361 : BitVec 32 := 0#32
  let c1_i32_363 : BitVec 32 := 1#32
  let arg19 : BitVec 32 := Scf.iv c0_i32_361 c1_i32_363 k0_t6
  let c4096_i32_463 : BitVec 32 := 4096#32
  let v953 : BitVec 32 := Scalar.muli arg19 c4096_i32_463
  let c0_i32_465 : BitVec 32 := 0#32
  ![arg18.toNat, v953.toNat, 0]
def k0_off80 (k0_t6 : Fin k0_t6_loop.trips) : Fin 2 → Nat :=
  let c0_i32_361 : BitVec 32 := 0#32
  let c1_i32_363 : BitVec 32 := 1#32
  let arg19 : BitVec 32 := Scf.iv c0_i32_361 c1_i32_363 k0_t6
  let c4096_i32_463 : BitVec 32 := 4096#32
  let v953 : BitVec 32 := Scalar.muli arg19 c4096_i32_463
  let c0_i32_466 : BitVec 32 := 0#32
  ![v953.toNat, 0]
abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S9x4096x1024 : Shape := ⟨3, ![9, 4096, 1024]⟩
abbrev S9 : Shape := ⟨1, ![9]⟩
abbrev S9x4096x8x128 : Shape := ⟨4, ![9, 4096, 8, 128]⟩
abbrev S32 : Shape := ⟨1, ![32]⟩
abbrev S_ : Shape := ⟨0, ![]⟩
abbrev S9x1 : Shape := ⟨2, ![9, 1]⟩
abbrev S4096 : Shape := ⟨1, ![4096]⟩
abbrev S1x4096 : Shape := ⟨2, ![1, 4096]⟩
abbrev S9x4096 : Shape := ⟨2, ![9, 4096]⟩
abbrev S9x4096x1x1 : Shape := ⟨4, ![9, 4096, 1, 1]⟩
abbrev S1x1x1x32 : Shape := ⟨4, ![1, 1, 1, 32]⟩
abbrev S9x4096x1x32 : Shape := ⟨4, ![9, 4096, 1, 32]⟩
abbrev S9x4096x8x32 : Shape := ⟨4, ![9, 4096, 8, 32]⟩
abbrev S9x4096x8x64 : Shape := ⟨4, ![9, 4096, 8, 64]⟩
abbrev S9x8 : Shape := ⟨2, ![9, 8]⟩
abbrev S255 : Shape := ⟨1, ![255]⟩
abbrev S9x8x1 : Shape := ⟨3, ![9, 8, 1]⟩
abbrev S1x1x255 : Shape := ⟨3, ![1, 1, 255]⟩
abbrev S9x8x255 : Shape := ⟨3, ![9, 8, 255]⟩
abbrev S9x1x8x1 : Shape := ⟨4, ![9, 1, 8, 1]⟩

abbrev nBuf : Space → Nat
  | .hbm => 153
  | .vmem => 4
  | .smem => 0
  | _ => 0

abbrev hbmTy0_0 (i : Nat) : BufTy := match i % 128 with
  | 0 => ⟨S9x4096x1024, .bf16⟩
  | 1 => ⟨S9x4096x1024, .bf16⟩
  | 2 => ⟨S9, .i32⟩
  | 3 => ⟨S9x4096x1024, .f32⟩
  | 4 => ⟨S9x4096x8x128, .f32⟩
  | 5 => ⟨S9x4096x1024, .f32⟩
  | 6 => ⟨S9x4096x8x128, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S9x1, .i32⟩
  | 24 => ⟨S4096, .i32⟩
  | 25 => ⟨S1x4096, .i32⟩
  | 26 => ⟨S9x4096, .i32⟩
  | 27 => ⟨S9x4096, .i32⟩
  | 28 => ⟨S9x4096, .i32⟩
  | 29 => ⟨S9x4096, .f32⟩
  | 30 => ⟨S9x4096x1x1, .f32⟩
  | 31 => ⟨S1x1x1x32, .f32⟩
  | 32 => ⟨S9x4096x1x32, .f32⟩
  | 33 => ⟨S9x4096x1x32, .f32⟩
  | 34 => ⟨S9x4096x1x32, .f32⟩
  | 35 => ⟨S9x4096x1x32, .f32⟩
  | 36 => ⟨S9x4096x1x32, .f32⟩
  | 37 => ⟨S9x4096x8x32, .f32⟩
  | 38 => ⟨S9x4096x8x32, .f32⟩
  | 39 => ⟨S9x4096x8x32, .f32⟩
  | 40 => ⟨S9x4096x8x32, .f32⟩
  | 41 => ⟨S9x4096x8x32, .f32⟩
  | 42 => ⟨S9x4096x8x32, .f32⟩
  | 43 => ⟨S9x4096x8x32, .f32⟩
  | 44 => ⟨S9x4096x8x32, .f32⟩
  | 45 => ⟨S9x4096x8x32, .f32⟩
  | 46 => ⟨S9x4096x8x32, .f32⟩
  | 47 => ⟨S9x4096x8x32, .f32⟩
  | 48 => ⟨S9x4096x8x32, .f32⟩
  | 49 => ⟨S9x4096x8x64, .f32⟩
  | 50 => ⟨S9x4096x8x128, .f32⟩
  | 51 => ⟨S9x4096x8x128, .f32⟩
  | 52 => ⟨S_, .f32⟩
  | 53 => ⟨S9x8, .f32⟩
  | 54 => ⟨S_, .f32⟩
  | 55 => ⟨S9x8, .f32⟩
  | 56 => ⟨S9x8, .f32⟩
  | 57 => ⟨S255, .i32⟩
  | 58 => ⟨S_, .i32⟩
  | 59 => ⟨S255, .i32⟩
  | 60 => ⟨S255, .i32⟩
  | 61 => ⟨S255, .f32⟩
  | 62 => ⟨S_, .f32⟩
  | 63 => ⟨S255, .f32⟩
  | 64 => ⟨S255, .f32⟩
  | 65 => ⟨S9x8x1, .f32⟩
  | 66 => ⟨S1x1x255, .f32⟩
  | 67 => ⟨S9x8x255, .f32⟩
  | 68 => ⟨S9x8x255, .f32⟩
  | 69 => ⟨S9x8x255, .i1⟩
  | 70 => ⟨S9x8x255, .f32⟩
  | 71 => ⟨S_, .f32⟩
  | 72 => ⟨S9x8, .f32⟩
  | 73 => ⟨S_, .f32⟩
  | 74 => ⟨S9x8, .f32⟩
  | 75 => ⟨S9x8, .i1⟩
  | 76 => ⟨S_, .f32⟩
  | 77 => ⟨S9x8, .f32⟩
  | 78 => ⟨S9x8, .i1⟩
  | 79 => ⟨S9x8, .i1⟩
  | 80 => ⟨S_, .f32⟩
  | 81 => ⟨S9x8, .f32⟩
  | 82 => ⟨S9x8, .f32⟩
  | 83 => ⟨S_, .f32⟩
  | 84 => ⟨S9x8, .f32⟩
  | 85 => ⟨S9x8, .f32⟩
  | 86 => ⟨S_, .f32⟩
  | 87 => ⟨S_, .f32⟩
  | 88 => ⟨S9x8, .f32⟩
  | 89 => ⟨S9x8, .f32⟩
  | 90 => ⟨S9x4096x8x128, .f32⟩
  | 91 => ⟨S_, .f32⟩
  | 92 => ⟨S9x8, .f32⟩
  | 93 => ⟨S_, .f32⟩
  | 94 => ⟨S9x8, .f32⟩
  | 95 => ⟨S9x8, .f32⟩
  | 96 => ⟨S255, .i32⟩
  | 97 => ⟨S_, .i32⟩
  | 98 => ⟨S255, .i32⟩
  | 99 => ⟨S255, .i32⟩
  | 100 => ⟨S255, .f32⟩
  | 101 => ⟨S_, .f32⟩
  | 102 => ⟨S255, .f32⟩
  | 103 => ⟨S255, .f32⟩
  | 104 => ⟨S9x8x1, .f32⟩
  | 105 => ⟨S1x1x255, .f32⟩
  | 106 => ⟨S9x8x255, .f32⟩
  | 107 => ⟨S9x8x255, .f32⟩
  | 108 => ⟨S9x8x255, .i1⟩
  | 109 => ⟨S9x8x255, .f32⟩
  | 110 => ⟨S_, .f32⟩
  | 111 => ⟨S9x8, .f32⟩
  | 112 => ⟨S_, .f32⟩
  | 113 => ⟨S9x8, .f32⟩
  | 114 => ⟨S9x8, .i1⟩
  | 115 => ⟨S_, .f32⟩
  | 116 => ⟨S9x8, .f32⟩
  | 117 => ⟨S9x8, .i1⟩
  | 118 => ⟨S9x8, .i1⟩
  | 119 => ⟨S_, .f32⟩
  | 120 => ⟨S9x8, .f32⟩
  | 121 => ⟨S9x8, .f32⟩
  | 122 => ⟨S_, .f32⟩
  | 123 => ⟨S9x8, .f32⟩
  | 124 => ⟨S9x8, .f32⟩
  | 125 => ⟨S_, .f32⟩
  | 126 => ⟨S_, .f32⟩
  | 127 => ⟨S9x8, .f32⟩
  | _ => ⟨S9x4096x1024, .bf16⟩

abbrev hbmTy0_1 (i : Nat) : BufTy := match i % 128 with
  | 0 => ⟨S9x8, .f32⟩
  | 1 => ⟨S9x1x8x1, .f32⟩
  | 2 => ⟨S9x4096x8x128, .f32⟩
  | 3 => ⟨S9x4096x8x128, .f32⟩
  | 4 => ⟨S_, .f32⟩
  | 5 => ⟨S_, .f32⟩
  | 6 => ⟨S_, .f32⟩
  | 7 => ⟨S9x4096x8x128, .f32⟩
  | 8 => ⟨S9x4096x8x128, .f32⟩
  | 9 => ⟨S_, .f32⟩
  | 10 => ⟨S9x4096x8x128, .f32⟩
  | 11 => ⟨S9x4096x8x128, .f32⟩
  | 12 => ⟨S9x1x8x1, .f32⟩
  | 13 => ⟨S9x4096x8x128, .f32⟩
  | 14 => ⟨S9x4096x8x128, .f32⟩
  | 15 => ⟨S_, .f32⟩
  | 16 => ⟨S_, .f32⟩
  | 17 => ⟨S_, .f32⟩
  | 18 => ⟨S9x4096x8x128, .f32⟩
  | 19 => ⟨S9x4096x8x128, .f32⟩
  | 20 => ⟨S_, .f32⟩
  | 21 => ⟨S9x4096x8x128, .f32⟩
  | 22 => ⟨S9x4096x8x128, .f32⟩
  | 23 => ⟨S9x4096x8x128, .fp8e4m3⟩
  | 24 => ⟨S9x4096x8x128, .fp8e4m3⟩
  | _ => ⟨S9x4096x1024, .bf16⟩

abbrev hbmTy (i : Nat) : BufTy := match i / 128 with
  | 0 => hbmTy0_0 i
  | 1 => hbmTy0_1 i
  | _ => ⟨S9x4096x1024, .bf16⟩

abbrev bufTy : (tb : Table) → Fin (tcTables nBuf tb) → BufTy
  | .hbm, ⟨i, _⟩ => hbmTy i
  | .local _ .vmem, ⟨0, _⟩ => ⟨S9x4096x8x128, .f32⟩
  | .local _ .vmem, ⟨1, _⟩ => ⟨S9x4096x8x128, .f32⟩
  | .local _ .vmem, ⟨2, _⟩ => ⟨S9x4096x8x128, .fp8e4m3⟩
  | .local _ .vmem, ⟨3, _⟩ => ⟨S9x4096x8x128, .fp8e4m3⟩
  | _, _ => ⟨S9x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_10 : Ref sig .tc := ⟨.hbm, 80, rfl⟩
abbrev main_v65 : Ref sig .tc := ⟨.hbm, 81, rfl⟩
abbrev main_v66 : Ref sig .tc := ⟨.hbm, 82, rfl⟩
abbrev main_cst_11 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_call0_v0 : Ref sig .tc := ⟨.hbm, 87, rfl⟩
abbrev main_call0_v1 : Ref sig .tc := ⟨.hbm, 88, rfl⟩
abbrev main_v69 : Ref sig .tc := ⟨.hbm, 89, rfl⟩
abbrev main_v70 : Ref sig .tc := ⟨.hbm, 90, rfl⟩
abbrev main_cst_13 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_cst_18 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_20 : Ref sig .tc := ⟨.hbm, 119, rfl⟩
abbrev main_v92 : Ref sig .tc := ⟨.hbm, 120, rfl⟩
abbrev main_v93 : Ref sig .tc := ⟨.hbm, 121, rfl⟩
abbrev main_cst_21 : Ref sig .tc := ⟨.hbm, 122, rfl⟩
abbrev main_v94 : Ref sig .tc := ⟨.hbm, 123, rfl⟩
abbrev main_v95 : Ref sig .tc := ⟨.hbm, 124, rfl⟩
abbrev main_cst_22 : Ref sig .tc := ⟨.hbm, 125, rfl⟩
abbrev main_call1_v0 : Ref sig .tc := ⟨.hbm, 126, rfl⟩
abbrev main_call1_v1 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_23 : Ref sig .tc := ⟨.hbm, 132, rfl⟩
abbrev main_cst_24 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_25 : Ref sig .tc := ⟨.hbm, 143, rfl⟩
abbrev main_cst_26 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_v104 : Ref sig .tc := ⟨.hbm, 150, rfl⟩
abbrev main_v105_0 : Ref sig .tc := ⟨.hbm, 151, rfl⟩
abbrev main_v105_1 : Ref sig .tc := ⟨.hbm, 152, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S9x4096x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x4096x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x4096x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x4096x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.K.Ops.lean ====
/- The buffers the kernel holds, its loads, stores and transfers, and the rules by which a step takes
   what it holds to what it leaves: every step here yields one value, so a rule names it. -/
module

public import proofs.«01_k».proof.Proof.Gen.Kernel.Skeleton
public import Idealize.ShloMosaic.Lib.Pipeline.KitQuiescent
public import Idealize.ShloMosaic.Lib.VecWindow
public import Idealize.ShloMosaic.Lib.Ring
public import Idealize.ShloMosaic.Lib.Transfers
public import Idealize.ShloMosaic.Lib.Tactic

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The buffers -/

abbrev kH : Memref sig .tc .hbm S9x32768x128 .bf16 := Memref.whole main_v17
abbrev vH : Memref sig .tc .hbm S9x32768x128 .bf16 := Memref.whole main_v20
abbrev kcH : Memref sig .tc .hbm S9x32768x128 .fp8e4m3 := Memref.whole main_v21_0
abbrev vcH : Memref sig .tc .hbm S9x32768x128 .fp8e4m3 := Memref.whole main_v21_2
abbrev kB : Memref sig .tc .vmem S2x32768x128 .bf16 := Memref.whole cc0_scratch0
abbrev vB : Memref sig .tc .vmem S2x32768x128 .bf16 := Memref.whole cc0_scratch1
abbrev kO : Memref sig .tc .vmem S32768x128 .fp8e4m3 := Memref.whole cc0_scratch2
abbrev vO : Memref sig .tc .vmem S32768x128 .fp8e4m3 := Memref.whole cc0_scratch3
abbrev cB : Memref sig .tc .vmem S1024x128 .f32 := Memref.whole cc0_scratch4
abbrev sB : Memref sig .tc .vmem S1024x128 .f32 := Memref.whole cc0_scratch5
abbrev yB : Memref sig .tc .vmem S16384x128 .f32 := Memref.whole cc0_scratch6
abbrev nB : Memref sig .tc .vmem S16384x128 .bf16 := Memref.whole cc0_scratch7

/-! ## Programs -/

abbrev PR (F : FTy → Type) [FloatOps F] (α : Type) := Prog (TpuEff nD τ sig (Elt F) Λ₀ .tc) α

/-- The steps of a list in order, each from what the one before yields. -/
def over {ι σ : Type} : List ι → (ι → σ → PR F σ) → σ → PR F σ
  | [], _, s => pure s
  | i :: is, f, s => f i s >>= fun s' => over is f s'

abbrev r4 : List (Fin 4) := [0, 1, 2, 3]
abbrev r8 : List (Fin 8) := [0, 1, 2, 3, 4, 5, 6, 7]
abbrev r16 : List (Fin 16) := [0, 1, 2, 3, 4, 5, 6, 7, 8, 9, 10, 11, 12, 13, 14, 15]
abbrev r32 : List (Fin 32) :=
  [0, 1, 2, 3, 4, 5, 6, 7, 8, 9, 10, 11, 12, 13, 14, 15, 16, 17, 18, 19, 20, 21, 22, 23, 24, 25, 26, 27, 28, 29, 30, 31]

section Steps
variable {s : Shape} {e : EltTy} (M : Memref sig .tc .vmem s e) (r : Rect s)

/-- Load a rectangle. -/
def ld (h : M.view.LoadsAt r.toLoadRect) : PR F (r.shape.Idx → Elt F e) := Prog.lift (.load M r.toLoadRect h)
/-- Store a rectangle, after a load of it nothing uses. -/
def upd (w : r.shape.Idx → Elt F e) (h : M.view.LoadsAt r.toLoadRect) (h' : (M.access r).Stores Finset.univ) : PR F PUnit := do
  let _ ← Prog.lift (.load M r.toLoadRect h)
  Prog.lift (.store M r w Finset.univ h' (.inl rfl))
end Steps

/-- One batch block of rows of an array in main memory, or one slot of a buffer. -/
abbrev blk {κ : Kind} {sp : Space} {n : Nat} {e : EltTy} (M : Memref sig κ sp ⟨3, ![n, 32768, 128]⟩ e) (o : Fin 3 → ℕ)
    (h : ∀ a, o a + S1x4096x128.size a ≤ (⟨3, ![n, 32768, 128]⟩ : Shape).size a) : Memref sig κ sp S4096x128 e :=
  (M.slice (Rect.unit (s := ⟨3, ![n, 32768, 128]⟩) o S1x4096x128.size h) (fun _ => rfl)).squeeze S4096x128 squeezes_S1x4096x128_S4096x128
abbrev outBlk {κ : Kind} {sp : Space} {e : EltTy} (M : Memref sig κ sp S32768x128 e) (o : Fin 2 → ℕ)
    (h : ∀ a, o a + S4096x128.size a ≤ S32768x128.size a) : Memref sig κ sp S4096x128 e :=
  M.slice (Rect.unit (s := S32768x128) o S4096x128.size h) (fun _ => rfl)
abbrev semAt8 (o : Fin 3 → ℕ) (h : ∀ a, o a + S1x1x1.size a ≤ S2x2x8.size a) : DmaSem sig :=
  (((cc0_scratch8 : DmaSems sig S2x2x8).slice (Rect.unit (s := S2x2x8) o S1x1x1.size h)).squeeze S_ squeezes_S1x1x1_S_).sem
abbrev semAt9 (o : Fin 2 → ℕ) (h : ∀ a, o a + S1x1.size a ≤ S2x8.size a) : DmaSem sig :=
  (((cc0_scratch9 : DmaSems sig S2x8).slice (Rect.unit (s := S2x8) o S1x1.size h)).squeeze S_ squeezes_S1x1_S_).sem

section Transfers
variable (H : Memref sig .tc .hbm S9x32768x128 .bf16) (B : Memref sig .tc .vmem S2x32768x128 .bf16)
  (C : Memref sig .tc .hbm S9x32768x128 .fp8e4m3) (O : Memref sig .tc .vmem S32768x128 .fp8e4m3)

def startIn {os ob oh : Fin 3 → ℕ} (hs : ∀ a, os a + S1x1x1.size a ≤ S2x2x8.size a) (hb : ∀ a, ob a + S1x4096x128.size a ≤ S2x32768x128.size a)
    (hh : ∀ a, oh a + S1x4096x128.size a ≤ S9x32768x128.size a)
    (wh : (blk H oh hh).view.WordExact) (wb : (blk B ob hb).view.WordExact) : PR F PUnit :=
  Prog.lift (.enqueueDma (blk H oh hh) (.here (blk B ob hb)) (.dma (semAt8 os hs)) wh wb ⟨Or.inl rfl, trivial⟩)
def waitIn {os ob oh : Fin 3 → ℕ} (hs : ∀ a, os a + S1x1x1.size a ≤ S2x2x8.size a) (hb : ∀ a, ob a + S1x4096x128.size a ≤ S2x32768x128.size a)
    (hh : ∀ a, oh a + S1x4096x128.size a ≤ S9x32768x128.size a)
    (wh : (blk H oh hh).view.WordExact) (wb : (blk B ob hb).view.WordExact) : PR F PUnit :=
  Prog.lift (.waitDma2 (semAt8 os hs) (blk H oh hh) (blk B ob hb) wh wb)
def startOut {os : Fin 2 → ℕ} {oo : Fin 2 → ℕ} {oc : Fin 3 → ℕ} (hs : ∀ a, os a + S1x1.size a ≤ S2x8.size a) (ho : ∀ a, oo a + S4096x128.size a ≤ S32768x128.size a)
    (hc : ∀ a, oc a + S1x4096x128.size a ≤ S9x32768x128.size a)
    (wo : (outBlk O oo ho).view.WordExact) (wc : (blk C oc hc).view.WordExact) : PR F PUnit :=
  Prog.lift (.enqueueDma (outBlk O oo ho) (.here (blk C oc hc)) (.dma (semAt9 os hs)) wo wc ⟨Or.inl rfl, trivial⟩)
def waitOut {os : Fin 2 → ℕ} {oo : Fin 2 → ℕ} {oc : Fin 3 → ℕ} (hs : ∀ a, os a + S1x1.size a ≤ S2x8.size a) (ho : ∀ a, oo a + S4096x128.size a ≤ S32768x128.size a)
    (hc : ∀ a, oc a + S1x4096x128.size a ≤ S9x32768x128.size a)
    (wo : (outBlk O oo ho).view.WordExact) (wc : (blk C oc hc).view.WordExact) : PR F PUnit :=
  Prog.lift (.waitDma2 (semAt9 os hs) (outBlk O oo ho) (blk C oc hc) wo wc)
end Transfers

/-! ## What a step holds and leaves -/

section Rules
variable (c : Dev nD)

/-- From `P`, the program yields `a` and leaves `P'`. -/
def Runs {α : Type} (P : sProp 𝕄) (p : PR F α) (a : α) (P' : sProp 𝕄) : Prop :=
  ∀ Q : α → sProp 𝕄, iprop(P ∗ (P' -∗ Q a)) ⊢ wp frame (wpE (defs₀ (F := F)) 𝒱₀ (c : Thread nD τ) none) Set.univ p Q

variable {c}

theorem Runs.pure {α : Type} (P : sProp 𝕄) (a : α) : Runs c P (Pure.pure a : PR F α) a P := fun Q => by
  iintro ⟨HP, HQ⟩
  rw [wp_pure]
  imodintro
  iapply HQ $$ HP

theorem Runs.bind {α β : Type} {P P' P'' : sProp 𝕄} {p : PR F α} {a : α} {k : α → PR F β} {b : β}
    (h : Runs c P p a P') (hk : Runs c P' (k a) b P'') : Runs c P (p >>= k) b P'' := fun Q => by
  rw [wp_bind]
  iintro ⟨HP, HQ⟩
  iapply (h _) $$ [HP HQ]
  isplitl [HP]
  · iexact HP
  iintro HP'
  iapply (hk Q) $$ [HP' HQ]
  isplitl [HP']
  · iexact HP'
  · iexact HQ

theorem Runs.frame {α : Type} {P P' : sProp 𝕄} {p : PR F α} {a : α} (R : sProp 𝕄) (h : Runs c P p a P') :
    Runs c iprop(P ∗ R) p a iprop(P' ∗ R) := fun Q => by
  iintro ⟨⟨HP, HR⟩, HQ⟩
  iapply (h Q) $$ [HP HR HQ]
  isplitl [HP]
  · iexact HP
  iintro HP'
  iapply HQ
  isplitl [HP']
  · iexact HP'
  · iexact HR

theorem Runs.conseq {α : Type} {P P' R R' : sProp 𝕄} {p : PR F α} {a : α} (h : Runs c P p a P') (hp : R ⊢ P) (hq : P' ⊢ R') :
    Runs c R p a R' := fun Q => by
  iintro ⟨HR, HQ⟩
  ihave HP := hp $$ HR
  iapply (h Q) $$ [HP HQ]
  isplitl [HP]
  · iexact HP
  iintro HP'
  ihave HR' := hq $$ HP'
  iapply HQ $$ HR'

/-- A step that yields the same whatever it holds of the kind. -/
theorem Runs.exists {α ι : Type} {P : ι → sProp 𝕄} {P' : sProp 𝕄} {p : PR F α} {a : α} (h : ∀ i, Runs c (P i) p a P') :
    Runs c iprop(∃ i, P i) p a P' := fun Q => by
  iintro ⟨⟨%i, HP⟩, HQ⟩
  iapply (h i Q) $$ [HP HQ]
  isplitl [HP]
  · iexact HP
  · iexact HQ

theorem Runs.over {ι σ υ : Type} {Own : υ → sProp 𝕄} {p : ι → σ → PR F σ} {fa : ι → σ → σ} {fy : ι → υ → υ}
    (h : ∀ i a y, Runs c (Own y) (p i a) (fa i a) (Own (fy i y))) (l : List ι) (a : σ) (y : υ) :
    Runs c (Own y) (over l p a) (l.foldl (fun a i => fa i a) a) (Own (l.foldl (fun y i => fy i y) y)) := by
  induction l generalizing a y with
  | nil => exact Runs.pure _ _
  | cons i l ih => exact Runs.bind (h i a y) (ih _ _)

/-- A loop, from what each trip holds and leaves. -/
theorem Runs.forFrom {n : ℕ} {σ : Type} {I : ℕ → sProp 𝕄} {p : Fin n → σ → PR F σ} {fa : Fin n → σ → σ}
    (h : ∀ (k : Fin n) a, Runs c (I k) (p k a) (fa k a) (I (k + 1))) :
    ∀ (l : List (Fin n)) (j : ℕ) (a : σ), (∀ i (hi : i < l.length), (l[i].val = j + i)) →
      Runs c (I j) (Scf.forFrom p l a) (l.foldl (fun a i => fa i a) a) (I (j + l.length)) := by
  intro l
  induction l with
  | nil => intro j a _; exact Runs.pure _ _
  | cons k l ih =>
    intro j a hl
    have hk : k.val = j := hl 0 (by simp)
    have := ih (j + 1) (fa k a) (fun i hi => by
      have := hl (i + 1) (by simpa using hi)
      simp only [List.getElem_cons_succ] at this
      omega)
    rw [show j + (k :: l).length = (j + 1) + l.length by simp; omega]
    refine Runs.bind (P' := I (j + 1)) ?_ this
    have h1 := h k a
    rw [hk] at h1; exact h1

/-- A loop of `n` trips. -/
theorem Runs.for {σ : Type} (l : Scf.Loop 32) (hok : l.OK) {I : ℕ → sProp 𝕄} {p : Fin l.trips → σ → PR F σ} {fa : Fin l.trips → σ → σ}
    (h : ∀ (k : Fin l.trips) a, Runs c (I k) (p k a) (fa k a) (I (k + 1))) (a : σ) :
    Runs c (I 0) (Scf.Loop.for l hok a p) ((List.finRange l.trips).foldl (fun a i => fa i a) a) (I l.trips) := by
  show Runs c (I 0) (Scf.for l.lb l.ub l.st hok a p) _ _
  rw [Scf.for_eq]
  have := Runs.forFrom h (List.finRange l.trips) 0 a (fun i hi => by simp)
  rwa [List.length_finRange, Nat.zero_add] at this

end Rules

/-! ## Parts of a buffer at an array -/

section Parts
variable (c : Dev nD)

/-- The elements `R` of a buffer, holding what `x` holds there. -/
def ptOn {sp : Space} {s : Shape} {e : EltTy} (M : Memref sig .tc sp s e) (R : Finset s.Idx) (x : s.Idx → Elt F e) : sProp 𝕄 :=
  M.view.loc (c : Thread nD τ) ↦[M.view.setOn R]{fullShare} M.view.rep x

variable {c}
variable {sp : Space} {s : Shape} {e : EltTy} {M : Memref sig .tc sp s e} {R : Finset s.Idx} {x y : s.Idx → Elt F e}

/-- Any contents of the elements are the array they read as. -/
theorem ptOn_of (f : M.view.ty.Contents (Elt F)) (h : ∀ i ∈ R, M.view.read (Elt F) f i = x i) :
    (M.view.loc (c : Thread nD τ) ↦[M.view.setOn R]{fullShare} f : sProp 𝕄) = ptOn c M R x := by
  unfold ptOn
  refine pointsTo_congr fun j hj => ?_
  obtain ⟨i, hi, rfl⟩ := Finset.mem_map.1 hj
  have h1 : M.view.read (Elt F) f i = M.view.read (Elt F) (M.view.rep x) i := by rw [View.read_rep]; exact h i hi
  rw [View.read_apply, View.read_apply] at h1
  exact (cast_inj _).1 h1

theorem ptOn_congr (h : ∀ i ∈ R, x i = y i) : ptOn c M R x = (ptOn c M R y : sProp 𝕄) :=
  ptOn_of _ fun i hi => by rw [View.read_rep]; exact h i hi

end Parts

section Steps
variable {c : Dev nD}
variable {s : Shape} {e : EltTy} {M : Memref sig .tc .vmem s e} {R : Finset s.Idx} {x : s.Idx → Elt F e}

theorem Runs.ld {r : Rect s} {h : M.view.LoadsAt r.toLoadRect} (hr : r.set ⊆ R) :
    Runs c (ptOn c M R x) (ld M r h) (fun z => x (r.emb z)) (ptOn c M R x) := fun Q => by
  have hs : M.view.setOn r.toLoadRect.set ⊆ M.view.setOn R := Finset.map_subset_map.2 hr
  unfold ptOn Kernel.ld
  iintro ⟨HP, HQ⟩
  iapply (wp_load 𝒱₀ (c : Thread nD τ) none Set.univ hs) $$ HP
  iintro HP
  rw [show (M.view.readAt (Elt F) r.toLoadRect (M.view.rep x)) = fun z => x (r.emb z) from View.readAt_rep _ _ _]
  rw [wp_ret]
  imodintro
  iapply HQ $$ HP

theorem Runs.upd {o size : Fin s.rank → ℕ} {inb : ∀ a, o a + size a ≤ s.size a} {w : (Rect.unit o size inb).shape.Idx → Elt F e}
    {h : M.view.LoadsAt (Rect.unit o size inb).toLoadRect} {h' : (M.access (Rect.unit o size inb)).Stores Finset.univ}
    (hr : (Rect.unit o size inb).set ⊆ R) :
    Runs c (ptOn c M R x) (upd M (Rect.unit o size inb) w h h') ⟨⟩ (ptOn c M R (VecWindow.put x o size w)) := fun Q => by
  have hs : M.view.setOn (Rect.unit o size inb).toLoadRect.set ⊆ M.view.setOn R := Finset.map_subset_map.2 hr
  have hs' : (M.access (Rect.unit o size inb)).setOn Finset.univ ⊆ M.view.setOn R := by
    rw [View.setOn_univ, View.set_slice]; exact Finset.map_subset_map.2 hr
  rw [← ptOn_of (c := c) (M := M) (R := R) ((M.access (Rect.unit o size inb)).write (Elt F) (M.view.rep x) w Finset.univ) (x := VecWindow.put x o size w)
    (fun i _ => congrFun (View.read_writes_rep_unit M.view x inb w rfl) i)]
  unfold ptOn Kernel.upd
  iintro ⟨HP, HQ⟩
  iapply (wp_load 𝒱₀ (c : Thread nD τ) none Set.univ hs) $$ HP
  iintro HP
  iapply (wp_store 𝒱₀ (c : Thread nD τ) none Set.univ hs') $$ HP
  iintro HP
  rw [wp_ret]
  imodintro
  iapply HQ $$ HP

end Steps

end Cert.Proof.Kernel

end
-- ==== Proof.K.Dma.lean ====
/- The transfers of the kernel by which blocks of an array come to a slot and finished blocks go home. -/
module

public import proofs.«01_k».proof.Proof.K.Ops
public import Idealize.ShloMosaic.Lib.ValueLayout

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocal)

variable {F : FTy → Type} [FloatOps F]

local notation "𝕄" => MT nD τ sig Unit (Elt F) ℕ (UU nD τ) ℕ

/-! ## Blocks -/

abbrev S3 (n : ℕ) : Shape := ⟨3, ![n, 32768, 128]⟩

theorem blk_inb {n : ℕ} (i : Fin n) (k : Fin 8) : ∀ a, (![i.val, 4096 * k.val, 0] : Fin 3 → ℕ) a + S1x4096x128.size a ≤ (S3 n).size a := by
  have := i.isLt; have := k.isLt
  intro a; fin_cases a
  · show i.val + 1 ≤ n; omega
  · show 4096 * k.val + 4096 ≤ 32768; omega
  · show 0 + 128 ≤ 128; omega
theorem out_inb (k : Fin 8) : ∀ a, (![4096 * k.val, 0] : Fin 2 → ℕ) a + S4096x128.size a ≤ S32768x128.size a := by
  have := k.isLt
  intro a; fin_cases a
  · show 4096 * k.val + 4096 ≤ 32768; omega
  · show 0 + 128 ≤ 128; omega
theorem sem8_inb (w s : Fin 2) (k : Fin 8) : ∀ a, (![w.val, s.val, k.val] : Fin 3 → ℕ) a + S1x1x1.size a ≤ S2x2x8.size a := by
  have := w.isLt; have := s.isLt; have := k.isLt
  intro a; fin_cases a
  · show w.val + 1 ≤ 2; omega
  · show s.val + 1 ≤ 2; omega
  · show k.val + 1 ≤ 8; omega
theorem sem9_inb (w : Fin 2) (k : Fin 8) : ∀ a, (![w.val, k.val] : Fin 2 → ℕ) a + S1x1.size a ≤ S2x8.size a := by
  have := w.isLt; have := k.isLt
  intro a; fin_cases a
  · show w.val + 1 ≤ 2; omega
  · show k.val + 1 ≤ 8; omega

/-- The elements of rows `4096·k …` of plane `i`. -/
def blkSet {n : ℕ} (i : Fin n) (k : Fin 8) : Finset (S3 n).Idx := (Rect.unit (s := S3 n) ![i.val, 4096 * k.val, 0] S1x4096x128.size (blk_inb i k)).set
def outSet (k : Fin 8) : Finset S32768x128.Idx := (Rect.unit (s := S32768x128) ![4096 * k.val, 0] S4096x128.size (out_inb k)).set

/-- Plane `b` of an array, whichever slot holds it. -/
def img {e : EltTy} (x : (S3 9).Idx → Elt F e) (b : Fin 9) : (S3 2).Idx → Elt F e := fun i => x (ix3 b (i 1) (i 2))

abbrev inSem (w s : Fin 2) (k : Fin 8) : SemLoc sig := .dma (semAt8 ![w.val, s.val, k.val] (sem8_inb w s k))
abbrev outSem (w : Fin 2) (k : Fin 8) : SemLoc sig := .dma (semAt9 ![w.val, k.val] (sem9_inb w k))

theorem sq_apply (h : S4096x128.numel = S1x4096x128.numel) (y : S4096x128.Idx) : Shape.reshapeEquiv h y = ix3 (⟨0, Nat.one_pos⟩ : Fin 1) (y 0) (y 1) := by
  have e : y = ix2 (y 0) (y 1) := by funext a; fin_cases a <;> rfl
  conv_lhs => rw [e]
  exact reshapeEquiv_ix2_1ab h (y 0) (y 1)

variable {c : Dev nD}

theorem ptOn_def {sp : Space} {s : Shape} {e : EltTy} (M : Memref sig .tc sp s e) (R : Finset s.Idx) (x : s.Idx → Elt F e) :
    (ptOn c M R x : sProp 𝕄) = (M.view.loc (c : Thread nD τ) ↦[M.view.setOn R]{fullShare} M.view.rep x) := rfl

theorem ptOn_blk {sp : Space} {n : ℕ} {e : EltTy} (M : Memref sig .tc sp (S3 n) e) (i : Fin n) (k : Fin 8) (x : (S3 n).Idx → Elt F e) :
    ptOn c M (blkSet i k) x = ((blk M _ (blk_inb i k)).view.loc (c : Thread nD τ) ↦[(blk M _ (blk_inb i k)).view.set]{fullShare} M.view.rep x : sProp 𝕄) := by
  have e1 : (blk M _ (blk_inb i k)).view.set = M.view.setOn (blkSet i k) :=
    (View.set_reshape _ _).trans (View.set_slice _ _)
  unfold ptOn
  exact congrArg (fun S => (M.view.loc (c : Thread nD τ) ↦[S]{fullShare} M.view.rep x : sProp 𝕄)) e1.symm

theorem ptOn_out {sp : Space} {e : EltTy} (M : Memref sig .tc sp S32768x128 e) (k : Fin 8) (x : S32768x128.Idx → Elt F e) :
    ptOn c M (outSet k) x = ((outBlk M _ (out_inb k)).view.loc (c : Thread nD τ) ↦[(outBlk M _ (out_inb k)).view.set]{fullShare} M.view.rep x : sProp 𝕄) := by
  have e1 : (outBlk M _ (out_inb k)).view.set = M.view.setOn (outSet k) := View.set_slice _ _
  unfold ptOn
  exact congrArg (fun S => (M.view.loc (c : Thread nD τ) ↦[S]{fullShare} M.view.rep x : sProp 𝕄)) e1.symm

/-- What the block reads, written index by index. -/
theorem read_blk {sp : Space} {n : ℕ} {e : EltTy} (M : Memref sig .tc sp (S3 n) e) (i : Fin n) (k : Fin 8) (f : M.view.ty.Contents (Elt F)) (y : S4096x128.Idx) :
    (blk M _ (blk_inb i k)).view.read (Elt F) f y
      = M.view.read (Elt F) f ((Rect.unit (s := S3 n) ![i.val, 4096 * k.val, 0] S1x4096x128.size (blk_inb i k)).emb (ix3 (⟨0, Nat.one_pos⟩ : Fin 1) (y 0) (y 1))) := by
  exact congrArg (fun z => M.view.read (Elt F) f ((Rect.unit (s := S3 n) ![i.val, 4096 * k.val, 0] S1x4096x128.size (blk_inb i k)).emb z))
    (sq_apply (Shape.Squeezes.numel_eq squeezes_S1x4096x128_S4096x128) y)

theorem blk_cover {n : ℕ} (i : Fin n) (k : Fin 8) (j : (S3 n).Idx) (hj : j ∈ blkSet i k) :
    ∃ y : S4096x128.Idx, j = (Rect.unit (s := S3 n) ![i.val, 4096 * k.val, 0] S1x4096x128.size (blk_inb i k)).emb (ix3 (⟨0, Nat.one_pos⟩ : Fin 1) (y 0) (y 1)) := by
  unfold blkSet at hj
  rw [← Rect.map_emb_univ] at hj
  obtain ⟨z, -, rfl⟩ := Finset.mem_map.1 hj
  refine ⟨ix2 (z 1) (z 2), congrArg _ ?_⟩
  funext a; fin_cases a
  · exact Fin.ext (by have := (z 0).isLt; change (z 0).val < 1 at this; show (z 0).val = 0; omega)
  · rfl
  · rfl

section
variable (H : Memref sig .tc .hbm (S3 9) .bf16) (B : Memref sig .tc .vmem (S3 2) .bf16)
  (C : Memref sig .tc .hbm (S3 9) .fp8e4m3) (O : Memref sig .tc .vmem S32768x128 .fp8e4m3)

abbrev creditIn : ℕ := sig.dmaCredit .tc (Kind.tc.table Space.vmem) B.view.buf S4096x128 .bf16
abbrev creditOut : ℕ := sig.dmaCredit .tc (Kind.tc.table Space.hbm) C.view.buf S4096x128 .fp8e4m3

variable {H B C O}

/-- A block starts on its way to a slot. -/
theorem Runs.startIn {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk H oh hh).view.WordExact} {wb : (blk B ob hb).view.WordExact}
    (w s : Fin 2) (b : Fin 9) (k : Fin 8) (es : os = ![w.val, s.val, k.val]) (eb : ob = ![s.val, 4096 * k.val, 0]) (eh : oh = ![b.val, 4096 * k.val, 0])
    (xH : (S3 9).Idx → Elt F .bf16) (x : (S3 2).Idx → Elt F .bf16) :
    Runs c iprop(ptOn c H (blkSet b k) xH ∗ ptOn c B (blkSet s k) x ∗ semVal ((c : Thread nD τ), inSem w s k) 0)
      (startIn H B hs hb hh wh wb) ⟨⟩
      (Flight countersEmb (c : Thread nD τ) (inSem w s k) () (creditIn B) iprop(ptOn c B (blkSet s k) (img xH b) ∗ ptOn c H (blkSet b k) xH)) := fun Q => by
  subst es eb eh
  have key : (iprop(((blk B _ (blk_inb s k)).view.loc (c : Thread nD τ) ↦[B.view.setOn (blkSet s k)]{fullShare}
        ((blk B _ (blk_inb s k)).view.write (Elt F) (B.view.rep x) ((blk H _ (blk_inb b k)).view.read (Elt F) (H.view.rep xH)) Finset.univ))
      ∗ ((blk H _ (blk_inb b k)).view.loc (c : Thread nD τ) ↦[(blk H _ (blk_inb b k)).view.set]{fullShare} H.view.rep xH)) : sProp 𝕄)
      ⊢ iprop(ptOn c B (blkSet s k) (img xH b) ∗ ptOn c H (blkSet b k) xH) := by
    rw [ptOn_blk H b k xH]
    refine BI.sep_mono (entails_of_eq (ptOn_of (M := B) (R := blkSet s k) _ fun j hj => ?_)) (.refl _)
    obtain ⟨y, rfl⟩ := blk_cover s k j hj
    rw [← read_blk B s k, View.read_write_univ, read_blk H b k, View.read_rep]
    refine congrArg xH ?_
    funext a; fin_cases a
    · exact Fin.ext (by show b.val + 1 * 0 = b.val; omega)
    · rfl
    · rfl
  unfold Kernel.startIn
  iintro ⟨⟨Hh, Hb, Hv⟩, HQ⟩
  ihave Hh := (entails_of_eq (ptOn_blk H b k xH)) $$ Hh
  ihave Hb := (entails_of_eq (ptOn_def B (blkSet s k) x)) $$ Hb
  iapply (wp_dmaLocal countersEmb 𝒱₀ (c : Thread nD τ) none () (creditIn B) (src := blk H _ (blk_inb b k)) (dst := blk B _ (blk_inb s k))
    (Sd := B.view.setOn (blkSet s k)) rfl (sig.dmaCredit_pos _ _ _ _ _ (by decide)) (by
      rw [show (blk B _ (blk_inb s k)).view.set = B.view.setOn (blkSet s k) from (View.set_reshape _ _).trans (View.set_slice _ _)])) $$ [Hh Hb Hv]
  · isplitl [Hh]; · iexact Hh
    isplitl [Hb]; · iexact Hb
    iexact Hv
  iintro HF
  rw [wp_ret]
  imodintro
  ihave HF' := (Flight_mono countersEmb (c : Thread nD τ) (sm := inSem w s k) (ι := ()) (N := creditIn B) key) $$ HF
  iapply HQ $$ HF'

/-- A finished block starts on its way home: it holds there what `G` says of its plane. -/
theorem Runs.startOut {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk O oo ho).view.WordExact} {wc : (blk C oc hc).view.WordExact}
    (w : Fin 2) (b : Fin 9) (k : Fin 8) (es : os = ![w.val, k.val]) (eo : oo = ![4096 * k.val, 0]) (ec : oc = ![b.val, 4096 * k.val, 0])
    (x : S32768x128.Idx → Elt F .fp8e4m3) (y G : (S3 9).Idx → Elt F .fp8e4m3) (hG : ∀ i ∈ outSet k, x i = G (ix3 b (i 0) (i 1))) :
    Runs c iprop(ptOn c O (outSet k) x ∗ ptOn c C (blkSet b k) y ∗ semVal ((c : Thread nD τ), outSem w k) 0)
      (startOut C O hs ho hc wo wc) ⟨⟩
      (Flight countersEmb (c : Thread nD τ) (outSem w k) () (creditOut C) iprop(ptOn c C (blkSet b k) G ∗ ∃ x, ptOn c O (outSet k) x)) := fun Q => by
  subst es eo ec
  have key : (iprop(((blk C _ (blk_inb b k)).view.loc (c : Thread nD τ) ↦[C.view.setOn (blkSet b k)]{fullShare}
        ((blk C _ (blk_inb b k)).view.write (Elt F) (C.view.rep y) ((outBlk O _ (out_inb k)).view.read (Elt F) (O.view.rep x)) Finset.univ))
      ∗ ((outBlk O _ (out_inb k)).view.loc (c : Thread nD τ) ↦[(outBlk O _ (out_inb k)).view.set]{fullShare} O.view.rep x)) : sProp 𝕄)
      ⊢ iprop(ptOn c C (blkSet b k) G ∗ ∃ x, ptOn c O (outSet k) x) := by
    rw [← ptOn_out O k x]
    refine BI.sep_mono (entails_of_eq (ptOn_of (M := C) (R := blkSet b k) _ fun j hj => ?_)) (exists_intro (Φ := fun x => ptOn c O (outSet k) x) x)
    obtain ⟨z, rfl⟩ := blk_cover b k j hj
    rw [← read_blk C b k, View.read_write_univ]
    refine Eq.trans (b := x ((Rect.unit (s := S32768x128) ![4096 * k.val, 0] S4096x128.size (out_inb k)).emb z)) ?_ ((hG _ ?_).trans (congrArg G ?_))
    · exact congrFun (View.read_rep O.view x) _
    · unfold outSet; rw [← Rect.map_emb_univ]; exact Finset.mem_map.2 ⟨z, Finset.mem_univ _, rfl⟩
    · funext a; fin_cases a
      · exact Fin.ext (by show b.val = b.val + 1 * 0; omega)
      · rfl
      · rfl
  unfold Kernel.startOut
  iintro ⟨⟨Hh, Hb, Hv⟩, HQ⟩
  ihave Hh := (entails_of_eq (ptOn_out O k x)) $$ Hh
  ihave Hb := (entails_of_eq (ptOn_def C (blkSet b k) y)) $$ Hb
  iapply (wp_dmaLocal countersEmb 𝒱₀ (c : Thread nD τ) none () (creditOut C) (src := outBlk O _ (out_inb k)) (dst := blk C _ (blk_inb b k))
    (Sd := C.view.setOn (blkSet b k)) rfl (sig.dmaCredit_pos _ _ _ _ _ (by decide)) (by
      rw [show (blk C _ (blk_inb b k)).view.set = C.view.setOn (blkSet b k) from (View.set_reshape _ _).trans (View.set_slice _ _)])) $$ [Hh Hb Hv]
  · isplitl [Hh]; · iexact Hh
    isplitl [Hb]; · iexact Hb
    iexact Hv
  iintro HF
  rw [wp_ret]
  imodintro
  ihave HF' := (Flight_mono countersEmb (c : Thread nD τ) (sm := outSem w k) (ι := ()) (N := creditOut C) key) $$ HF
  iapply HQ $$ HF'

variable (F c) in
/-- The waits the core has recorded. -/
def ow : sProp 𝕄 := iprop(∃ W, owes (c : Thread nD τ) 0 W)

/-- A block has come. -/
theorem Runs.waitIn {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk H oh hh).view.WordExact} {wb : (blk B ob hb).view.WordExact}
    (w s : Fin 2) (k : Fin 8) (es : os = ![w.val, s.val, k.val]) (D : sProp 𝕄) :
    Runs c iprop(Flight countersEmb (c : Thread nD τ) (inSem w s k) () (creditIn B) D ∗ ow F c)
      (waitIn H B hs hb hh wh wb) ⟨⟩
      iprop(D ∗ semVal ((c : Thread nD τ), inSem w s k) 0 ∗ ow F c) := fun Q => by
  subst es
  unfold Kernel.waitIn ow
  iintro ⟨⟨HF, %W, HW⟩, HQ⟩
  iapply (wp_waitLocal countersEmb 𝒱₀ (c : Thread nD τ) none () (N := creditIn B) (D := D) (dstw := blk B ob hb) rfl) $$ [HF HW]
  · isplitl [HF]; · iexact HF
    iexact HW
  iintro ⟨HD, Hv, HW⟩
  rw [wp_ret]
  imodintro
  iapply HQ
  isplitl [HD]; · iexact HD
  isplitl [Hv]; · iexact Hv
  iexists _
  iexact HW

/-- A finished block is home. -/
theorem Runs.waitOut {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk O oo ho).view.WordExact} {wc : (blk C oc hc).view.WordExact}
    (w : Fin 2) (k : Fin 8) (es : os = ![w.val, k.val]) (D : sProp 𝕄) :
    Runs c iprop(Flight countersEmb (c : Thread nD τ) (outSem w k) () (creditOut C) D ∗ ow F c)
      (waitOut C O hs ho hc wo wc) ⟨⟩
      iprop(D ∗ semVal ((c : Thread nD τ), outSem w k) 0 ∗ ow F c) := fun Q => by
  subst es
  unfold Kernel.waitOut ow
  iintro ⟨⟨HF, %W, HW⟩, HQ⟩
  iapply (wp_waitLocal countersEmb 𝒱₀ (c : Thread nD τ) none () (N := creditOut C) (D := D) (dstw := blk C oc hc) rfl) $$ [HF HW]
  · isplitl [HF]; · iexact HF
    iexact HW
  iintro ⟨HD, Hv, HW⟩
  rw [wp_ret]
  imodintro
  iapply HQ
  isplitl [HD]; · iexact HD
  isplitl [Hv]; · iexact Hv
  iexists _
  iexact HW

end

end Cert.Proof.Kernel

end
-- ==== Proof.K.Res.lean ====
/- What the kernel holds of each chunk while blocks come and go. -/
module

public import proofs.«01_k».proof.Proof.K.Dma

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

omit [FloatOps F] in
theorem bs_erase {ι : Type} [DecidableEq ι] {s : Finset ι} {Φ : ι → sProp 𝕄} {i : ι} (hi : i ∈ s) :
    bigSep s Φ = iprop(Φ i ∗ bigSep (s.erase i) Φ) := bigSep_erase hi
omit [FloatOps F] in
theorem bs_split {ι : Type} [DecidableEq ι] [Fintype ι] {Φ : ι → sProp 𝕄} (i : ι) :
    bigSep Finset.univ Φ = iprop(Φ i ∗ bigSep (Finset.univ.erase i) Φ) := bigSep_univ_split i

/-! ## A family of chunks, part of them past a step -/

/-- The chunks before `n` as `A` says, the others as `B` says. -/
def mix (n : ℕ) (A B : Fin 8 → sProp 𝕄) : sProp 𝕄 := bigSep Finset.univ fun k => if k.val < n then A k else B k

omit [FloatOps F] in
theorem mix_zero (A B : Fin 8 → sProp 𝕄) : mix 0 A B = bigSep Finset.univ B :=
  bigSep_congr fun k _ => if_neg (Nat.not_lt_zero _)
omit [FloatOps F] in
theorem mix_all (A B : Fin 8 → sProp 𝕄) : mix 8 A B = bigSep Finset.univ A :=
  bigSep_congr fun k _ => if_pos k.isLt
omit [FloatOps F] in
theorem mix_split (A B : Fin 8 → sProp 𝕄) (k : Fin 8) :
    mix k.val A B = iprop(B k ∗ bigSep (Finset.univ.erase k) fun j => if j.val < k.val then A j else B j) := by
  unfold mix
  rw [bs_split k, if_neg (Nat.lt_irrefl _)]
omit [FloatOps F] in
theorem mix_join (A B : Fin 8 → sProp 𝕄) (k : Fin 8) :
    mix (k.val + 1) A B = iprop(A k ∗ bigSep (Finset.univ.erase k) fun j => if j.val < k.val then A j else B j) := by
  unfold mix
  rw [bs_split k, if_pos (Nat.lt_succ_self _)]
  refine congrArg (fun X => iprop(A k ∗ X)) (bigSep_congr fun j hj => ?_)
  have hne : j ≠ k := Finset.ne_of_mem_erase hj
  have : j.val ≠ k.val := fun h => hne (Fin.ext h)
  by_cases h : j.val < k.val
  · rw [if_pos h, if_pos (by omega)]
  · rw [if_neg h, if_neg (by omega)]

variable {c : Dev nD}

/-- A step on one chunk is a step on the family. -/
theorem Runs.mix {α : Type} {A B : Fin 8 → sProp 𝕄} {R R' : sProp 𝕄} {p : PR F α} {a : α} (k : Fin 8)
    (h : Runs c iprop(B k ∗ R) p a iprop(A k ∗ R')) :
    Runs c iprop(Kernel.mix k.val A B ∗ R) p a iprop(Kernel.mix (k.val + 1) A B ∗ R') := by
  rw [mix_split, mix_join]
  refine (h.frame (bigSep (Finset.univ.erase k) fun j => if j.val < k.val then A j else B j)).conseq ?_ ?_
  · iintro ⟨⟨H1, H2⟩, H3⟩
    isplitl [H1 H3]
    · isplitl [H1]; · iexact H1
      iexact H3
    iexact H2
  · iintro ⟨⟨H1, H3⟩, H2⟩
    isplitl [H1 H2]
    · isplitl [H1]; · iexact H1
      iexact H2
    iexact H3

/-! ## One array's side of the kernel -/

/-- The keys' side or the values': the array read, the slots, the finished blocks, and where they go. -/
structure Side where
  w : Fin 2
  H : Memref sig .tc .hbm (S3 9) .bf16
  B : Memref sig .tc .vmem (S3 2) .bf16
  C : Memref sig .tc .hbm (S3 9) .fp8e4m3
  O : Memref sig .tc .vmem S32768x128 .fp8e4m3

abbrev sideK : Side := ⟨0, kH, kB, kcH, kO⟩
abbrev sideV : Side := ⟨1, vH, vB, vcH, vO⟩

/-- The slot of block `n`. -/
def par (n : ℕ) : Fin 2 := ⟨n % 2, Nat.mod_lt _ (by omega)⟩
theorem par_add_two (n : ℕ) : par (n + 2) = par n := Fin.ext (by show (n + 2) % 2 = n % 2; omega)

section
variable (c) (σ : Side) (xH : (S3 9).Idx → Elt F .bf16) (G : (S3 9).Idx → Elt F .fp8e4m3)

def home (b : Fin 9) (k : Fin 8) : sProp 𝕄 := ptOn c σ.H (blkSet b k) xH
def slotAny (s : Fin 2) (k : Fin 8) : sProp 𝕄 := iprop(∃ x, ptOn c σ.B (blkSet s k) x)
def slotHas (s : Fin 2) (k : Fin 8) (b : Fin 9) : sProp 𝕄 := ptOn c σ.B (blkSet s k) (img xH b)
def sIn (s : Fin 2) (k : Fin 8) : sProp 𝕄 := semVal ((c : Thread nD τ), inSem σ.w s k) 0
def sOut (k : Fin 8) : sProp 𝕄 := semVal ((c : Thread nD τ), outSem σ.w k) 0
def flightIn (b : Fin 9) (s : Fin 2) (k : Fin 8) : sProp 𝕄 :=
  Flight countersEmb (c : Thread nD τ) (inSem σ.w s k) () (creditIn σ.B) iprop(slotHas c σ xH s k b ∗ home c σ xH b k)
def outAny (k : Fin 8) : sProp 𝕄 := iprop(∃ x, ptOn c σ.O (outSet k) x)
def cAny (b : Fin 9) (k : Fin 8) : sProp 𝕄 := iprop(∃ x, ptOn c σ.C (blkSet b k) x)
def cHas (b : Fin 9) (k : Fin 8) : sProp 𝕄 := ptOn c σ.C (blkSet b k) G
def flightOut (b : Fin 9) (k : Fin 8) : sProp 𝕄 :=
  Flight countersEmb (c : Thread nD τ) (outSem σ.w k) () (creditOut σ.C) iprop(cHas c σ G b k ∗ outAny c σ k)

/-! ### Blocks coming -/

/-- Before block `n` is worked on: it is on its way, and every other block is home. -/
def IN (n : ℕ) (k : Fin 8) : sProp 𝕄 :=
  if h : n < 9 then iprop(flightIn c σ xH ⟨n, h⟩ (par n) k ∗ slotAny c σ (par (n + 1)) k ∗ sIn c σ (par (n + 1)) k
      ∗ bigSep (Finset.univ.erase ⟨n, h⟩) fun b => home c σ xH b k)
  else iprop((slotAny c σ (par n) k ∗ sIn c σ (par n) k) ∗ slotAny c σ (par (n + 1)) k ∗ sIn c σ (par (n + 1)) k
      ∗ bigSep Finset.univ fun b => home c σ xH b k)
/-- What is held besides block `b` itself once the next one has been asked for. -/
def INrest (b : Fin 9) (k : Fin 8) : sProp 𝕄 :=
  if h : b.val + 1 < 9 then iprop(flightIn c σ xH ⟨b.val + 1, h⟩ (par (b.val + 1)) k
      ∗ bigSep ((Finset.univ.erase b).erase ⟨b.val + 1, h⟩) fun b => home c σ xH b k)
  else iprop(slotAny c σ (par (b.val + 1)) k ∗ sIn c σ (par (b.val + 1)) k ∗ bigSep (Finset.univ.erase b) fun b => home c σ xH b k)
def INp (b : Fin 9) (k : Fin 8) : sProp 𝕄 := iprop(flightIn c σ xH b (par b.val) k ∗ INrest c σ xH b k)
def INd (b : Fin 9) (k : Fin 8) : sProp 𝕄 :=
  iprop(slotHas c σ xH (par b.val) k b ∗ home c σ xH b k ∗ sIn c σ (par b.val) k ∗ INrest c σ xH b k)

/-! ### Blocks going -/

def Call (n : ℕ) (b : Fin 9) (k : Fin 8) : sProp 𝕄 := if b.val < n then cHas c σ G b k else cAny c σ b k
def OUTf (n : ℕ) (k : Fin 8) : sProp 𝕄 := iprop(outAny c σ k ∗ sOut c σ k ∗ bigSep Finset.univ fun b => Call c σ G n b k)
/-- Before block `n` is worked on: the block before it is on its way home. -/
def OUT (n : ℕ) (k : Fin 8) : sProp 𝕄 :=
  if h : 0 < n ∧ n ≤ 9 then iprop(flightOut c σ G ⟨n - 1, by omega⟩ k ∗ bigSep (Finset.univ.erase ⟨n - 1, by omega⟩) fun b => Call c σ G n b k)
  else OUTf c σ G n k

variable {c σ xH G}

theorem INp_last (b : Fin 9) (h : ¬ b.val + 1 < 9) (k : Fin 8) : IN c σ xH b.val k = (INp c σ xH b k : sProp 𝕄) := by
  unfold IN INp INrest
  rw [dif_pos b.isLt, dif_neg h]

theorem INd_next (b : Fin 9) (k : Fin 8) : INd c σ xH b k ⊢ (IN c σ xH (b.val + 1) k : sProp 𝕄) := by
  unfold INd IN INrest
  by_cases h : b.val + 1 < 9
  · rw [dif_pos h, dif_pos h, show b.val + 1 + 1 = b.val + 2 from rfl, par_add_two]
    have hb : b ∈ Finset.univ.erase (⟨b.val + 1, h⟩ : Fin 9) :=
      Finset.mem_erase.2 ⟨fun e => by have := congrArg Fin.val e; simp at this, Finset.mem_univ _⟩
    rw [bs_erase hb, Finset.erase_right_comm]
    iintro ⟨H1, H2, H3, H4, H5⟩
    isplitl [H4]; · iexact H4
    isplitl [H1]
    · unfold slotAny slotHas
      iexists _
      iexact H1
    isplitl [H3]; · iexact H3
    isplitl [H2]; · iexact H2
    iexact H5
  · rw [dif_neg h, dif_neg h, show b.val + 1 + 1 = b.val + 2 from rfl, par_add_two, bs_split b]
    iintro ⟨H1, H2, H3, H4, H5, H6⟩
    isplitl [H4 H5]
    · isplitl [H4]; · iexact H4
      iexact H5
    isplitl [H1]
    · unfold slotAny slotHas
      iexists _
      iexact H1
    isplitl [H3]; · iexact H3
    isplitl [H2]; · iexact H2
    iexact H6

theorem Runs.prefetch {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk σ.H oh hh).view.WordExact} {wb : (blk σ.B ob hb).view.WordExact}
    (b : Fin 9) (h : b.val + 1 < 9) (k : Fin 8) (es : os = ![σ.w.val, (b.val + 1) % 2, k.val]) (eb : ob = ![(b.val + 1) % 2, 4096 * k.val, 0])
    (eh : oh = ![b.val + 1, 4096 * k.val, 0]) (R : sProp 𝕄) :
    Runs c iprop(IN c σ xH b.val k ∗ R) (Kernel.startIn σ.H σ.B hs hb hh wh wb) ⟨⟩ iprop(INp c σ xH b k ∗ R) := by
  refine Runs.frame R ?_
  have hb' : (⟨b.val + 1, h⟩ : Fin 9) ∈ Finset.univ.erase b :=
    Finset.mem_erase.2 ⟨fun e => by have := congrArg Fin.val e; simp at this, Finset.mem_univ _⟩
  unfold IN INp INrest
  rw [dif_pos b.isLt, dif_pos h, bs_erase hb']
  refine Runs.conseq (P := iprop(∃ x, (ptOn c σ.H (blkSet ⟨b.val + 1, h⟩ k) xH ∗ ptOn c σ.B (blkSet (par (b.val + 1)) k) x ∗ semVal ((c : Thread nD τ), inSem σ.w (par (b.val + 1)) k) 0)
      ∗ (flightIn c σ xH b (par b.val) k ∗ bigSep ((Finset.univ.erase b).erase ⟨b.val + 1, h⟩) fun b => home c σ xH b k))) (P' := _)
    (Runs.exists fun x => (Runs.startIn σ.w (par (b.val + 1)) ⟨b.val + 1, h⟩ k es eb eh xH x).frame _) ?_ ?_
  · unfold slotAny sIn home
    iintro ⟨H1, ⟨%x, H2⟩, H3, H4, H5⟩
    iexists x
    isplitl [H4 H2 H3]
    · isplitl [H4]; · iexact H4
      isplitl [H2]; · iexact H2
      iexact H3
    isplitl [H1]; · iexact H1
    iexact H5
  · iintro ⟨H1, H2, H3⟩
    isplitl [H2]; · iexact H2
    isplitl [H1]
    · unfold flightIn slotHas home
      iexact H1
    iexact H3

/-- Block `b` of chunk `k` has come. -/
theorem Runs.arrive {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk σ.H oh hh).view.WordExact} {wb : (blk σ.B ob hb).view.WordExact}
    (b : Fin 9) (k : Fin 8) (es : os = ![σ.w.val, b.val % 2, k.val]) (R : sProp 𝕄) :
    Runs c iprop(INp c σ xH b k ∗ ow F c ∗ R) (Kernel.waitIn σ.H σ.B hs hb hh wh wb) ⟨⟩ iprop(INd c σ xH b k ∗ ow F c ∗ R) := by
  refine Runs.conseq ((Runs.waitIn (H := σ.H) (B := σ.B) σ.w (par b.val) k es iprop(slotHas c σ xH (par b.val) k b ∗ home c σ xH b k)).frame
    iprop(INrest c σ xH b k ∗ R)) ?_ ?_
  · unfold INp flightIn
    iintro ⟨⟨H1, H2⟩, H3, H4⟩
    isplitl [H1 H3]
    · isplitl [H1]; · iexact H1
      iexact H3
    isplitl [H2]; · iexact H2
    iexact H4
  · unfold INd sIn
    iintro ⟨⟨⟨H1, H2⟩, H3, H4⟩, H5, H6⟩
    isplitl [H1 H2 H3 H5]
    · isplitl [H1]; · iexact H1
      isplitl [H2]; · iexact H2
      isplitl [H3]; · iexact H3
      iexact H5
    isplitl [H4]; · iexact H4
    iexact H6

theorem OUT_zero (k : Fin 8) : OUT c σ G 0 k = (OUTf c σ G 0 k : sProp 𝕄) := dif_neg (by omega)

/-- The block before has come home. -/
theorem Runs.landed {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk σ.O oo ho).view.WordExact} {wc : (blk σ.C oc hc).view.WordExact}
    (n : ℕ) (hn : 0 < n ∧ n ≤ 9) (k : Fin 8) (es : os = ![σ.w.val, k.val]) (R : sProp 𝕄) :
    Runs c iprop(OUT c σ G n k ∗ ow F c ∗ R) (Kernel.waitOut σ.C σ.O hs ho hc wo wc) ⟨⟩ iprop(OUTf c σ G n k ∗ ow F c ∗ R) := by
  refine Runs.conseq ((Runs.waitOut (C := σ.C) (O := σ.O) σ.w k es iprop(cHas c σ G ⟨n - 1, by omega⟩ k ∗ outAny c σ k)).frame
    iprop((bigSep (Finset.univ.erase ⟨n - 1, by omega⟩) fun b => Call c σ G n b k) ∗ R)) ?_ ?_
  · unfold OUT flightOut
    rw [dif_pos hn]
    iintro ⟨⟨H1, H2⟩, H3, H4⟩
    isplitl [H1 H3]
    · isplitl [H1]; · iexact H1
      iexact H3
    isplitl [H2]; · iexact H2
    iexact H4
  · unfold OUTf sOut
    rw [bs_split (⟨n - 1, by omega⟩ : Fin 9), show Call c σ G n ⟨n - 1, by omega⟩ k = (cHas c σ G ⟨n - 1, by omega⟩ k : sProp 𝕄) from if_pos (by show n - 1 < n; omega)]
    iintro ⟨⟨⟨H1, H2⟩, H3, H4⟩, H5, H6⟩
    isplitl [H1 H2 H3 H5]
    · isplitl [H2]; · iexact H2
      isplitl [H3]; · iexact H3
      isplitl [H1]; · iexact H1
      iexact H5
    isplitl [H4]; · iexact H4
    iexact H6

/-- Block `b` is finished and starts home. -/
theorem Runs.send {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk σ.O oo ho).view.WordExact} {wc : (blk σ.C oc hc).view.WordExact}
    (b : Fin 9) (k : Fin 8) (es : os = ![σ.w.val, k.val]) (eo : oo = ![4096 * k.val, 0]) (ec : oc = ![b.val, 4096 * k.val, 0])
    (x : S32768x128.Idx → Elt F .fp8e4m3) (hG : ∀ i ∈ outSet k, x i = G (ix3 b (i 0) (i 1))) :
    Runs c iprop(ptOn c σ.O (outSet k) x ∗ sOut c σ k ∗ bigSep Finset.univ fun b' => Call c σ G b.val b' k)
      (Kernel.startOut σ.C σ.O hs ho hc wo wc) ⟨⟩ (OUT c σ G (b.val + 1) k) := by
  rw [bs_split b, show Call c σ G b.val b k = (cAny c σ b k : sProp 𝕄) from if_neg (Nat.lt_irrefl _)]
  refine Runs.conseq (P := iprop(∃ y, (ptOn c σ.O (outSet k) x ∗ ptOn c σ.C (blkSet b k) y ∗ semVal ((c : Thread nD τ), outSem σ.w k) 0)
      ∗ bigSep (Finset.univ.erase b) fun b' => Call c σ G b.val b' k)) (P' := _)
    (Runs.exists fun y => (Runs.startOut σ.w b k es eo ec x y G hG).frame _) ?_ ?_
  · unfold cAny sOut
    iintro ⟨H1, H2, ⟨%y, H3⟩, H4⟩
    iexists y
    isplitl [H1 H2 H3]
    · isplitl [H1]; · iexact H1
      isplitl [H3]; · iexact H3
      iexact H2
    iexact H4
  · unfold OUT
    rw [dif_pos ⟨Nat.succ_pos _, b.isLt⟩]
    have hb : (⟨b.val + 1 - 1, by omega⟩ : Fin 9) = b := Fin.ext (by show b.val + 1 - 1 = b.val; omega)
    have e : (bigSep (Finset.univ.erase b) fun b' => Call c σ G b.val b' k) = (bigSep (Finset.univ.erase b) fun b' => Call c σ G (b.val + 1) b' k : sProp 𝕄) :=
      bigSep_congr fun j hj => by
        have : j.val ≠ b.val := fun h => Finset.ne_of_mem_erase hj (Fin.ext h)
        unfold Call
        by_cases h : j.val < b.val
        · rw [if_pos h, if_pos (by omega)]
        · rw [if_neg h, if_neg (by omega)]
    rw [e, hb]
    unfold flightOut cHas outAny
    exact .refl

end

end Cert.Proof.Kernel

end
-- ==== Proof.K.Content.lean ====
/- Buffers filled row by row: what is known of their contents, and how loads and stores use it. -/
module

public import proofs.«01_k».proof.Proof.K.Res
public import Idealize.ShloMosaic.Lib.Pipeline.Value

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

instance sepComm {M : Type} [RA M] : _root_.Std.Commutative (α := sProp M) BIBase.sep :=
  ⟨fun P Q => _root_.Std.Commutative.comm (op := fun P Q : sProp M => BI.sep P Q) P Q⟩
instance sepAssoc {M : Type} [RA M] : _root_.Std.Associative (α := sProp M) BIBase.sep :=
  ⟨fun P Q R => _root_.Std.Associative.assoc (op := fun P Q : sProp M => BI.sep P Q) P Q R⟩

variable {c : Dev nD}

theorem Runs.via {α : Type} {P P' X X' : sProp 𝕄} {p : PR F α} {a : α} (h : Runs c P p a P') (R : sProp 𝕄)
    (e : X = iprop(P ∗ R)) (e' : iprop(P' ∗ R) = X') : Runs c X p a X' := by
  rw [e, ← e']; exact h.frame R

/-- What stands first is kept. -/
theorem Runs.skip {α : Type} {P P' A : sProp 𝕄} {p : PR F α} {a : α} (h : Runs c P p a P') : Runs c iprop(A ∗ P) p a iprop(A ∗ P') :=
  Runs.via h A (by ac_rfl) (by ac_rfl)

theorem over_forFrom {n : ℕ} {σ : Type} (l : List (Fin n)) (p : Fin n → σ → PR F σ) (a : σ) : Kernel.over l p a = Scf.forFrom p l a := by
  induction l generalizing a with
  | nil => rfl
  | cons i l ih => exact bind_congr fun s => ih s

/-- Numbered steps. -/
theorem Runs.overI {n : ℕ} {σ : Type} {I : ℕ → sProp 𝕄} {p : Fin n → σ → PR F σ} {fa : Fin n → σ → σ}
    (h : ∀ (k : Fin n) a, Runs c (I k) (p k a) (fa k a) (I (k + 1))) (l : List (Fin n)) (hl : l = List.finRange n) (a : σ) :
    Runs c (I 0) (Kernel.over l p a) (l.foldl (fun a i => fa i a) a) (I n) := by
  subst hl
  rw [over_forFrom]
  have := Runs.forFrom h (List.finRange n) 0 a (fun i hi => by simp)
  rwa [List.length_finRange, Nat.zero_add] at this

section
variable (c)
/-- The elements `R` of a buffer, which holds `m` at the elements `D`. -/
def known {sp : Space} {s : Shape} {e : EltTy} (M : Memref sig .tc sp s e) (R : Finset s.Idx) (D : s.Idx → Prop) (m : s.Idx → Elt F e) : sProp 𝕄 :=
  iprop(∃ x, ptOn c M R x ∗ ⌜∀ i, D i → x i = m i⌝)
end

variable {sp : Space} {s : Shape} {e : EltTy} {M : Memref sig .tc sp s e} {R : Finset s.Idx} {D D' : s.Idx → Prop} {m : s.Idx → Elt F e}

theorem known_mono (h : ∀ i, D' i → D i) : known c M R D m ⊢ known c M R D' m := by
  unfold known
  iintro ⟨%x, H, %hx⟩
  iexists x
  isplitl [H]; · iexact H
  ipureintro
  exact fun i hi => hx i (h i hi)

theorem known_congr (h : ∀ i, D i ↔ D' i) : known c M R D m = known c M R D' m := by
  rw [show D = D' from funext fun i => propext (h i)]

theorem known_full (h : ∀ i ∈ R, D i) : known c M R D m ⊢ ptOn c M R m := by
  unfold known
  iintro ⟨%x, H, %hx⟩
  ihave H' := (entails_of_eq (ptOn_congr fun i hi => hx i (h i hi))) $$ H
  iexact H'

theorem known_of (x : s.Idx → Elt F e) (h : ∀ i, D i → x i = m i) : ptOn c M R x ⊢ known c M R D m := by
  unfold known
  iintro H
  iexists x
  isplitl [H]; · iexact H
  ipureintro
  exact h

theorem known_none (h : ∀ i, ¬ D i) : iprop(∃ x, ptOn c M R x) ⊢ known c M R D m := by
  iintro ⟨%x, H⟩
  iapply (known_of x (fun i hi => absurd hi (h i))) $$ H

theorem known_any : known c M R D m ⊢ iprop(∃ x, ptOn c M R x) := by
  unfold known
  iintro ⟨%x, H, %hx⟩
  iexists x
  iexact H

theorem Runs.pure_left {α : Type} {P P' : sProp 𝕄} {φ : Prop} {p : PR F α} {a : α} (h : φ → Runs c P p a P') :
    Runs c iprop(P ∗ ⌜φ⌝) p a P' := fun Q => by
  iintro ⟨⟨HP, %hφ⟩, HQ⟩
  iapply (h hφ Q) $$ [HP HQ]
  isplitl [HP]; · iexact HP
  iexact HQ

section
variable {M : Memref sig .tc .vmem s e}

theorem Runs.get {r : Rect s} {h : M.view.LoadsAt r.toLoadRect} (hr : r.set ⊆ R) {v : r.shape.Idx → Elt F e}
    (hv : ∀ z, D (r.emb z) ∧ m (r.emb z) = v z) : Runs c (known c M R D m) (Kernel.ld M r h) v (known c M R D m) :=
  Runs.exists fun x => Runs.pure_left fun hx => by
    have e : v = fun z => x (r.emb z) := funext fun z => ((hx _ (hv z).1).trans (hv z).2).symm
    rw [e]
    exact (Runs.ld (h := h) hr).conseq .rfl (known_of x hx)

theorem Runs.put {o size : Fin s.rank → ℕ} {inb : ∀ a, o a + size a ≤ s.size a} {w : (Rect.unit o size inb).shape.Idx → Elt F e}
    {h : M.view.LoadsAt (Rect.unit o size inb).toLoadRect} {h' : (M.access (Rect.unit o size inb)).Stores Finset.univ}
    (hr : (Rect.unit o size inb).set ⊆ R) (hw : ∀ z, w z = m ((Rect.unit o size inb).emb z))
    (hD : ∀ i, D' i → D i ∨ ∀ a, o a ≤ (i a).val ∧ (i a).val < o a + size a) :
    Runs c (known c M R D m) (Kernel.upd M (Rect.unit o size inb) w h h') ⟨⟩ (known c M R D' m) :=
  Runs.exists fun x => Runs.pure_left fun hx => by
    refine (Runs.upd (h := h) (h' := h') hr).conseq .rfl (known_of _ fun i hi => ?_)
    by_cases hin : ∀ a, o a ≤ (i a).val ∧ (i a).val < o a + size a
    · have e1 : VecWindow.put x o size w i = w (Rect.unitLocal (s := s) (off := o) (size := size) i hin) := dif_pos hin
      rw [e1]
      refine (hw _).trans (congrArg m (funext fun a => Fin.ext ?_))
      show o a + 1 * ((i a).val - o a) = (i a).val
      have := (hin a).1
      omega
    · have e1 : VecWindow.put x o size w i = x i := dif_neg hin
      rw [e1]
      exact hx i ((hD i hi).resolve_right hin)

/-- Rows of an array of 128 columns. -/
abbrev rowP {n : ℕ} (D : ℕ → Prop) : (⟨2, ![n, 128]⟩ : Shape).Idx → Prop := fun i => D (i 0).val

variable {n : ℕ} {M2 : Memref sig .tc .vmem ⟨2, ![n, 128]⟩ e} {R2 : Finset (⟨2, ![n, 128]⟩ : Shape).Idx} {D2 D2' : ℕ → Prop} {m2 : (⟨2, ![n, 128]⟩ : Shape).Idx → Elt F e}

theorem rect_sub {o : Fin 2 → ℕ} {q l : ℕ} (eo : o = ![q, 0]) {inb : ∀ a, o a + (![l, 128] : Fin 2 → ℕ) a ≤ (⟨2, ![n, 128]⟩ : Shape).size a}
    (hR : ∀ i : (⟨2, ![n, 128]⟩ : Shape).Idx, q ≤ (i 0).val → (i 0).val < q + l → i ∈ R2) :
    (Rect.unit (s := ⟨2, ![n, 128]⟩) o ![l, 128] inb).set ⊆ R2 := by
  subst eo
  intro i hi
  rw [← Rect.map_emb_univ] at hi
  obtain ⟨z, -, rfl⟩ := Finset.mem_map.1 hi
  refine hR _ ?_ ?_
  · show q ≤ q + 1 * (z 0).val
    omega
  · show q + 1 * (z 0).val < q + l
    have : (z 0).val < l := (z 0).isLt
    omega

theorem emb_row {o : Fin 2 → ℕ} {q l : ℕ} (eo : o = ![q, 0]) {inb : ∀ a, o a + (![l, 128] : Fin 2 → ℕ) a ≤ (⟨2, ![n, 128]⟩ : Shape).size a}
    (y : Fin l) (d : Fin 128) (h : q + y.val < n) : (Rect.unit (s := ⟨2, ![n, 128]⟩) o ![l, 128] inb).emb (ix2 y d) = ix2 ⟨q + y.val, h⟩ d := by
  subst eo
  funext a
  refine Fin.ext ?_
  match a with
  | ⟨0, _⟩ => show q + 1 * y.val = q + y.val; omega
  | ⟨1, _⟩ => show 0 + 1 * d.val = d.val; omega

theorem Runs.get2 {o : Fin 2 → ℕ} {q l : ℕ} (eo : o = ![q, 0]) {inb : ∀ a, o a + (![l, 128] : Fin 2 → ℕ) a ≤ (⟨2, ![n, 128]⟩ : Shape).size a}
    {h : M2.view.LoadsAt (Rect.unit (s := ⟨2, ![n, 128]⟩) o ![l, 128] inb).toLoadRect} {v : (⟨2, ![l, 128]⟩ : Shape).Idx → Elt F e}
    (hR : ∀ i : (⟨2, ![n, 128]⟩ : Shape).Idx, q ≤ (i 0).val → (i 0).val < q + l → i ∈ R2) (hD : ∀ r, q ≤ r → r < q + l → D2 r)
    (hv : ∀ (y : Fin l) (d : Fin 128) (r : Fin n), r.val = q + y.val → m2 (ix2 r d) = v (ix2 y d)) :
    Runs c (known c M2 R2 (rowP D2) m2) (Kernel.ld M2 (Rect.unit (s := ⟨2, ![n, 128]⟩) o ![l, 128] inb) h) v (known c M2 R2 (rowP D2) m2) :=
  Runs.get (rect_sub eo hR) fun z => by
    have hn : q + (z 0).val < n := by
      have h1 : o 0 + l ≤ n := inb 0
      have h2 : (z 0).val < l := (z 0).isLt
      rw [eo] at h1
      have h1' : q + l ≤ n := h1
      omega
    have ez : z = ix2 (z 0) (z 1) := funext fun a => match a with | ⟨0, _⟩ => rfl | ⟨1, _⟩ => rfl
    have ee : (Rect.unit (s := ⟨2, ![n, 128]⟩) o ![l, 128] inb).emb z = ix2 ⟨q + (z 0).val, hn⟩ (z 1) :=
      (congrArg _ ez).trans (emb_row eo (z 0) (z 1) hn)
    rw [ee]
    exact ⟨hD _ (Nat.le_add_right _ _) (Nat.add_lt_add_left (z 0).isLt q), (hv (z 0) (z 1) _ rfl).trans (congrArg v ez.symm)⟩

theorem Runs.put2 {o : Fin 2 → ℕ} {q l : ℕ} (eo : o = ![q, 0]) {inb : ∀ a, o a + (![l, 128] : Fin 2 → ℕ) a ≤ (⟨2, ![n, 128]⟩ : Shape).size a}
    {w : (⟨2, ![l, 128]⟩ : Shape).Idx → Elt F e}
    {h : M2.view.LoadsAt (Rect.unit (s := ⟨2, ![n, 128]⟩) o ![l, 128] inb).toLoadRect} {h' : (M2.access (Rect.unit (s := ⟨2, ![n, 128]⟩) o ![l, 128] inb)).Stores Finset.univ}
    (hR : ∀ i : (⟨2, ![n, 128]⟩ : Shape).Idx, q ≤ (i 0).val → (i 0).val < q + l → i ∈ R2) (hD : ∀ r, D2' r → D2 r ∨ (q ≤ r ∧ r < q + l))
    (hw : ∀ (y : Fin l) (d : Fin 128) (r : Fin n), r.val = q + y.val → m2 (ix2 r d) = w (ix2 y d)) :
    Runs c (known c M2 R2 (rowP D2) m2) (Kernel.upd M2 (Rect.unit (s := ⟨2, ![n, 128]⟩) o ![l, 128] inb) w h h') ⟨⟩ (known c M2 R2 (rowP D2') m2) :=
  Runs.put (rect_sub eo hR) (fun z => by
    have hn : q + (z 0).val < n := by
      have h1 : o 0 + l ≤ n := inb 0
      have h2 : (z 0).val < l := (z 0).isLt
      rw [eo] at h1
      have h1' : q + l ≤ n := h1
      omega
    have ez : z = ix2 (z 0) (z 1) := funext fun a => match a with | ⟨0, _⟩ => rfl | ⟨1, _⟩ => rfl
    have ee : (Rect.unit (s := ⟨2, ![n, 128]⟩) o ![l, 128] inb).emb z = ix2 ⟨q + (z 0).val, hn⟩ (z 1) :=
      (congrArg _ ez).trans (emb_row eo (z 0) (z 1) hn)
    rw [ee]
    exact (congrArg w ez).trans (hw (z 0) (z 1) _ rfl).symm)
    (fun i hi => (hD _ hi).imp id fun hq => by
      subst eo
      intro a
      match a with
      | ⟨0, _⟩ => exact hq
      | ⟨1, _⟩ => exact ⟨Nat.zero_le _, by show (i 1).val < 0 + 128; have : (i 1).val < 128 := (i 1).isLt; omega⟩)

end

/-- A block of 256 rows loaded from a slot. -/
def kWin (xH : (S3 9).Idx → Elt F .bf16) (b : Fin 9) (q : Fin 128) : Vec F S1x256x128 .bf16 :=
  fun z => xH (ix3 b ⟨256 * q.val + (z 1).val, by have : (z 1).val < 256 := (z 1).isLt; omega⟩ (z 2))

theorem mem_blkSet {n : ℕ} {i : Fin n} {k : Fin 8} {j : (S3 n).Idx} (h0 : (j 0).val = i.val) (h1 : 4096 * k.val ≤ (j 1).val) (h2 : (j 1).val < 4096 * k.val + 4096) :
    j ∈ blkSet i k := by
  unfold blkSet
  rw [← Rect.map_emb_univ]
  refine Finset.mem_map.2 ⟨ix3 (⟨0, Nat.one_pos⟩ : Fin 1) (⟨(j 1).val - 4096 * k.val, by omega⟩ : Fin 4096) (j 2), Finset.mem_univ _, funext fun a => Fin.ext ?_⟩
  match a with
  | ⟨0, _⟩ => show i.val + 1 * 0 = (j 0).val; omega
  | ⟨1, _⟩ => show 4096 * k.val + 1 * ((j 1).val - 4096 * k.val) = (j 1).val; omega
  | ⟨2, _⟩ => show 0 + 1 * (j 2).val = (j 2).val; omega

theorem mem_outSet {k : Fin 8} {j : S32768x128.Idx} : j ∈ outSet k ↔ 4096 * k.val ≤ (j 0).val ∧ (j 0).val < 4096 * k.val + 4096 := by
  unfold outSet
  rw [← Rect.map_emb_univ]
  constructor
  · intro h
    obtain ⟨z, -, rfl⟩ := Finset.mem_map.1 h
    have hz : (z 0).val < 4096 := (z 0).isLt
    show 4096 * k.val ≤ 4096 * k.val + 1 * (z 0).val ∧ 4096 * k.val + 1 * (z 0).val < _
    omega
  · rintro ⟨h1, h2⟩
    refine Finset.mem_map.2 ⟨ix2 (⟨(j 0).val - 4096 * k.val, by omega⟩ : Fin 4096) (j 1), Finset.mem_univ _, funext fun a => Fin.ext ?_⟩
    match a with
    | ⟨0, _⟩ => show 4096 * k.val + 1 * ((j 0).val - 4096 * k.val) = (j 0).val; omega
    | ⟨1, _⟩ => show 0 + 1 * (j 1).val = (j 1).val; omega

theorem Runs.getSlot {B : Memref sig .tc .vmem (S3 2) .bf16} {xH : (S3 9).Idx → Elt F .bf16} {b : Fin 9} {sl : Fin 2} {k : Fin 8}
    {o : Fin 3 → ℕ} {q : Fin 128} (eo : o = ![sl.val, 256 * q.val, 0]) (hq : q.val / 16 = k.val)
    {inb : ∀ a, o a + S1x256x128.size a ≤ S2x32768x128.size a} {h : B.view.LoadsAt (Rect.unit (s := S2x32768x128) o S1x256x128.size inb).toLoadRect} :
    Runs c (ptOn c B (blkSet sl k) (img xH b)) (Kernel.ld B (Rect.unit (s := S2x32768x128) o S1x256x128.size inb) h) (kWin xH b q) (ptOn c B (blkSet sl k) (img xH b)) := by
  subst eo
  have hs : (Rect.unit (s := S2x32768x128) ![sl.val, 256 * q.val, 0] S1x256x128.size inb).set ⊆ blkSet sl k := by
    intro i hi
    rw [← Rect.map_emb_univ] at hi
    obtain ⟨z, -, rfl⟩ := Finset.mem_map.1 hi
    have h0 : (z 0).val < 1 := (z 0).isLt
    have h1 : (z 1).val < 256 := (z 1).isLt
    refine mem_blkSet ?_ ?_ ?_
    · show sl.val + 1 * (z 0).val = sl.val; omega
    · show 4096 * k.val ≤ 256 * q.val + 1 * (z 1).val; omega
    · show 256 * q.val + 1 * (z 1).val < 4096 * k.val + 4096; omega
  have e : kWin xH b q = fun z => img xH b ((Rect.unit (s := S2x32768x128) ![sl.val, 256 * q.val, 0] S1x256x128.size inb).emb z) := by
    funext z
    refine congrArg xH (funext fun a => Fin.ext ?_)
    match a with
    | ⟨0, _⟩ => rfl
    | ⟨1, _⟩ => show 256 * q.val + (z 1).val = 256 * q.val + 1 * (z 1).val; omega
    | ⟨2, _⟩ => show (z 2).val = 0 + 1 * (z 2).val; omega
  rw [e]
  exact Runs.ld (h := h) hs

end Cert.Proof.Kernel

end
-- ==== Proof.K.Vals.lean ====
/- The kernel's arithmetic on one block of rows. -/
module

public import proofs.«01_k».proof.Proof.K.Ops

@[expose] public section

set_option maxRecDepth 16384

noncomputable section

namespace Cert.Proof.Kernel

open Cert.Kernel Cert.Kernel.Gen
open Idealize.ShloMosaic Idealize.ShloMosaic.TcCoe Idealize.SL.Sem

variable {F : FTy → Type} [FloatOps F]

/-- The four running magnitudes of rows 16·i modulo 64. -/
abbrev Acc (F : FTy → Type) := FVec F S16x128 .bf16 × FVec F S16x128 .bf16 × FVec F S16x128 .bf16 × FVec F S16x128 .bf16

theorem slices16 (i : Nat) (hi : i ≤ 240) : S256x128.Slices ![i, 0] S16x128 :=
  ⟨rfl, fun a => match a with
    | ⟨0, _⟩ => (by show i + 16 ≤ 256; omega)
    | ⟨1, _⟩ => (by show 0 + 128 ≤ 128; omega)⟩

/-- One running magnitude over a block of 256 rows. -/
def accOne (x : FVec F S256x128 .bf16) (i : Nat) (hi : i ≤ 48) (a : FVec F S16x128 .bf16) : FVec F S16x128 .bf16 :=
  maximumf (maximumf (maximumf (maximumf a
    (extractStridedSlice S16x128 ![i, 0] (absf x) (slices16 i (by omega))))
    (extractStridedSlice S16x128 ![64 + i, 0] (absf x) (slices16 (64 + i) (by omega))))
    (extractStridedSlice S16x128 ![128 + i, 0] (absf x) (slices16 (128 + i) (by omega))))
    (extractStridedSlice S16x128 ![192 + i, 0] (absf x) (slices16 (192 + i) (by omega)))

def accBlock (x : FVec F S256x128 .bf16) (a : Acc F) : Acc F :=
  (accOne x 0 (by omega) a.1, accOne x 16 (by omega) a.2.1, accOne x 32 (by omega) a.2.2.1, accOne x 48 (by omega) a.2.2.2)

def mask (m : IVec S1x128 1) : IVec S256x128 1 :=
  broadcastTo S256x128 (shapeCast S1x128 m shapeCasts_S1x128_S1x128) broadcasts_S1x128_S256x128
def rows (x : Vec F S1x256x128 .bf16) : FVec F S256x128 .bf16 := shapeCast S256x128 x shapeCasts_S1x256x128_S256x128
def roll {φ : FTy} (n : BitVec 32) (x : FVec F S256x128 φ) : FVec F S256x128 φ := dynamicRotate 1 n none x rotates_S256x128_d1

def rotHalf (low : IVec S1x128 1) (x z : Vec F S1x256x128 .bf16) : FVec F S256x128 .bf16 :=
  select (mask low) (rows x) (roll 64#32 (rows z))
def nonHalf (low : IVec S1x128 1) (x z : Vec F S1x256x128 .bf16) : FVec F S256x128 .bf16 :=
  select (mask low) (roll 64#32 (rows z)) (rows x)

/-- The two operands of the rotation side by side. -/
def pairUp (even : IVec S1x128 1) (r0 r1 : FVec F S256x128 .bf16) : FVec F S256x256 .bf16 :=
  concatenate S256x256 1
    [⟨S256x128, select (mask even) r0 (roll 32#32 r1)⟩,
     ⟨S256x128, roll 96#32 (select (mask even) (roll 32#32 r1) r0)⟩] concatenates_S256x128_S256x128_S256x256_d1

def mxu (p x : FVec F S256x256 .bf16) : FVec F S256x256 .f32 :=
  matmul dot_S256x256_S256x256_S256x256_1_0_0_1_n_n none p x (constant S256x256 .f32 0x00000000#32)

theorem slices8 (t c : Nat) (ht : t ≤ 248) (hc : c ≤ 128) : S256x256.Slices ![t, c] S8x128 :=
  ⟨rfl, fun a => match a with
    | ⟨0, _⟩ => (by show t + 8 ≤ 256; omega)
    | ⟨1, _⟩ => (by show c + 128 ≤ 256; omega)⟩

def tile (f : FVec F S256x256 .f32) (t : Fin 32) (c : Nat) (hc : c ≤ 128) : FVec F S8x128 .f32 :=
  extractStridedSlice S8x128 ![8 * t.val, c] f (slices8 (8 * t.val) c (by omega) hc)
def bc8 (x : Vec F S1x128 .f32) : FVec F S8x128 .f32 :=
  broadcastTo S8x128 (shapeCast S1x128 x shapeCasts_S1x128_S1x128) broadcasts_S1x128_S8x128
def rot1 (f : FVec F S256x256 .f32) (t : Fin 32) (c s : Vec F S1x128 .f32) : FVec F S8x128 .f32 :=
  subf (mulf (tile f t 0 (by omega)) (bc8 c)) (mulf (tile f t 128 (by omega)) (bc8 s))
def rot2 (f : FVec F S256x256 .f32) (t : Fin 32) (c s : Vec F S1x128 .f32) : FVec F S8x128 .f32 :=
  addf (mulf (tile f t 128 (by omega)) (bc8 c)) (mulf (tile f t 0 (by omega)) (bc8 s))

/-! ## Second pass -/

/-- The four bounds, one under the other four times. -/
def bound (L : Acc F) : FVec F S256x128 .bf16 :=
  concatenate S256x128 0 [⟨S16x128, L.1⟩, ⟨S16x128, L.2.1⟩, ⟨S16x128, L.2.2.1⟩, ⟨S16x128, L.2.2.2⟩, ⟨S16x128, L.1⟩, ⟨S16x128, L.2.1⟩, ⟨S16x128, L.2.2.1⟩, ⟨S16x128, L.2.2.2⟩, ⟨S16x128, L.1⟩, ⟨S16x128, L.2.1⟩, ⟨S16x128, L.2.2.1⟩, ⟨S16x128, L.2.2.2⟩, ⟨S16x128, L.1⟩, ⟨S16x128, L.2.1⟩, ⟨S16x128, L.2.2.1⟩, ⟨S16x128, L.2.2.2⟩] concatenates_S16x128_S16x128_S16x128_S16x128_S16x128_S16x128_S16x128_S16x128_S16x128_S16x128_S16x128_S16x128_S16x128_S16x128_S16x128_S16x128_S256x128_d0

/-- Clipped to the bounds. -/
def clipTo (L : Acc F) (x : FVec F S256x128 .bf16) : FVec F S256x128 .bf16 :=
  minimumf (maximumf x (subf (broadcast S256x128 (Scalar.ofBits .bf16 0x0000#16)) (bound L))) (bound L)

/-- Two blocks clipped, scaled and set back in the order of rows. -/
def scaled (L : Acc F) (p : FVec F S256x256 .bf16) (x0 x1 : FVec F S256x128 .bf16) : FVec F S256x256 .f32 :=
  mxu p (concatenate S256x256 1 [⟨S256x128, clipTo L x0⟩, ⟨S256x128, clipTo L x1⟩] concatenates_S256x128_S256x128_S256x256_d1)

def left8 (f : FVec F S256x256 .f32) : FVec F S256x128 .fp8e4m3 :=
  truncf .fp8e4m3 (extractStridedSlice S256x128 ![0, 0] f slices_S256x256_o0_0_S256x128) bitsLt_fp8e4m3_f32
def right8 (f : FVec F S256x256 .f32) : FVec F S256x128 .fp8e4m3 :=
  truncf .fp8e4m3 (extractStridedSlice S256x128 ![0, 128] f slices_S256x256_o0_128_S256x128) bitsLt_fp8e4m3_f32

/-- Rotated keys scaled and clipped. -/
def rot8 (inv : FVec F S8x128 .f32) (y : FVec F S256x128 .f32) : FVec F S256x128 .fp8e4m3 :=
  truncf .fp8e4m3 (shapeCast S256x128 (minimumf (maximumf (mulf (shapeCast S32x8x128 y shapeCasts_S256x128_S32x8x128)
    (broadcastTo S32x8x128 (shapeCast S1x8x128 inv shapeCasts_S8x128_S1x8x128) broadcasts_S1x8x128_S32x8x128))
    (broadcast S32x8x128 (Scalar.ofBits .f32 0xC3E00000#32))) (broadcast S32x8x128 (Scalar.ofBits .f32 0x43E00000#32))) shapeCasts_S32x8x128_S256x128) bitsLt_fp8e4m3_f32

def out0 (even : IVec S1x128 1) (q0 q1 : FVec F S256x128 .fp8e4m3) : FVec F S256x128 .fp8e4m3 := select (mask even) q0 (roll 32#32 q1)
def out1 (even : IVec S1x128 1) (q0 q1 : FVec F S256x128 .fp8e4m3) : FVec F S256x128 .fp8e4m3 := roll 96#32 (select (mask even) (roll 32#32 q1) q0)
def outLo (low : IVec S1x128 1) (r n : FVec F S256x128 .fp8e4m3) : FVec F S256x128 .fp8e4m3 := select (mask low) r n
def outHi (low : IVec S1x128 1) (r n : FVec F S256x128 .fp8e4m3) : FVec F S256x128 .fp8e4m3 := roll 64#32 (select (mask low) n r)

end Cert.Proof.Kernel

end
-- ==== Proof.K.Model.lean ====
/- What each buffer comes to hold, in closed form. -/
module

public import proofs.«01_k».proof.Proof.K.Content
public import proofs.«01_k».proof.Proof.K.Vals

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

/-! ## First pass over the keys -/

section
variable (low even : IVec S1x128 1) (p : FVec F S256x256 .bf16) (xH : (S3 9).Idx → Elt F .bf16) (b : Fin 9) (cs sn : S1024x128.Idx → Elt F .f32)

/-- Block `r` of the group `g` of 128 positions. -/
abbrev wq (g : Fin 32) (r : Fin 4) : Fin 128 := ⟨4 * g.val + r.val, by omega⟩

def fOf (g : Fin 32) : FVec F S256x256 .f32 :=
  mxu p (pairUp even (rotHalf low (kWin xH b (wq g 0)) (kWin xH b (wq g 2))) (rotHalf low (kWin xH b (wq g 1)) (kWin xH b (wq g 3))))
def nOf (g : Fin 32) (j : Fin 2) : FVec F S256x128 .bf16 :=
  nonHalf low (kWin xH b (wq g ⟨j.val, by omega⟩)) (kWin xH b (wq g ⟨j.val + 2, by omega⟩))
/-- One row of the cosines or the sines. -/
def crow (m : S1024x128.Idx → Elt F .f32) (g t : Fin 32) : Vec F S1x128 .f32 := fun z => m (ix2 ⟨32 * g.val + t.val, by omega⟩ (z 1))
def r1 (g t : Fin 32) : FVec F S8x128 .f32 := rot1 (fOf low even p xH b g) t (crow cs g t) (crow sn g t)
def r2 (g t : Fin 32) : FVec F S8x128 .f32 := rot2 (fOf low even p xH b g) t (crow cs g t) (crow sn g t)

/-- The rotated halves of a block. -/
def yM : S16384x128.Idx → Elt F .f32 := fun i =>
  if ((i 0).val % 512) / 256 = 0 then r1 low even p xH b cs sn ⟨(i 0).val / 512, by have : (i 0).val < 16384 := (i 0).isLt; omega⟩ ⟨(i 0).val % 256 / 8, by omega⟩ (ix2 ⟨(i 0).val % 8, by omega⟩ (i 1))
  else r2 low even p xH b cs sn ⟨(i 0).val / 512, by have : (i 0).val < 16384 := (i 0).isLt; omega⟩ ⟨(i 0).val % 256 / 8, by omega⟩ (ix2 ⟨(i 0).val % 8, by omega⟩ (i 1))
/-- The other halves. -/
def nM : S16384x128.Idx → Elt F .bf16 := fun i =>
  nOf low xH b ⟨(i 0).val / 512, by have : (i 0).val < 16384 := (i 0).isLt; omega⟩ ⟨(i 0).val % 512 / 256, by omega⟩ (ix2 ⟨(i 0).val % 256, by omega⟩ (i 1))

theorem yM_lo (g t : Fin 32) (y : Fin 8) (d : Fin 128) (r : Fin 16384) (hr : r.val = 512 * g.val + 8 * t.val + y.val) :
    yM low even p xH b cs sn (ix2 r d) = r1 low even p xH b cs sn g t (ix2 y d) := by
  obtain ⟨g, hg⟩ := g; obtain ⟨t, ht⟩ := t; obtain ⟨y, hy⟩ := y; obtain ⟨r, hr'⟩ := r
  obtain rfl : r = 512 * g + 8 * t + y := hr
  have h0 : (512 * g + 8 * t + y) / 512 = g := by omega
  have h1 : (512 * g + 8 * t + y) % 256 / 8 = t := by omega
  have h2 : (512 * g + 8 * t + y) % 8 = y := by omega
  unfold yM
  dsimp only [ix2]
  refine (if_pos ?_).trans ?_
  · show (512 * g + 8 * t + y) % 512 / 256 = 0
    omega
  · simp only [Matrix.cons_val_zero, h0, h1, h2]
theorem yM_hi (g t : Fin 32) (y : Fin 8) (d : Fin 128) (r : Fin 16384) (hr : r.val = 512 * g.val + 256 + 8 * t.val + y.val) :
    yM low even p xH b cs sn (ix2 r d) = r2 low even p xH b cs sn g t (ix2 y d) := by
  obtain ⟨g, hg⟩ := g; obtain ⟨t, ht⟩ := t; obtain ⟨y, hy⟩ := y; obtain ⟨r, hr'⟩ := r
  obtain rfl : r = 512 * g + 256 + 8 * t + y := hr
  have h0 : (512 * g + 256 + 8 * t + y) / 512 = g := by omega
  have h1 : (512 * g + 256 + 8 * t + y) % 256 / 8 = t := by omega
  have h2 : (512 * g + 256 + 8 * t + y) % 8 = y := by omega
  unfold yM
  dsimp only [ix2]
  refine (if_neg ?_).trans ?_
  · show ¬ (512 * g + 256 + 8 * t + y) % 512 / 256 = 0
    omega
  · simp only [Matrix.cons_val_zero, h0, h1, h2]
theorem nM_at (g : Fin 32) (j : Fin 2) (y : Fin 256) (d : Fin 128) (r : Fin 16384) (hr : r.val = 512 * g.val + 256 * j.val + y.val) :
    nM low xH b (ix2 r d) = nOf low xH b g j (ix2 y d) := by
  obtain ⟨g, hg⟩ := g; obtain ⟨j, hj⟩ := j; obtain ⟨y, hy⟩ := y; obtain ⟨r, hr'⟩ := r
  obtain rfl : r = 512 * g + 256 * j + y := hr
  have h0 : (512 * g + 256 * j + y) / 512 = g := by omega
  have h1 : (512 * g + 256 * j + y) % 512 / 256 = j := by omega
  have h2 : (512 * g + 256 * j + y) % 256 = y := by omega
  unfold nM
  dsimp only [ix2]
  simp only [Matrix.cons_val_zero, h0, h1, h2]

def yStep (g t : Fin 32) (a : FVec F S8x128 .f32) : FVec F S8x128 .f32 :=
  maximumf a (maximumf (absf (r1 low even p xH b cs sn g t)) (absf (r2 low even p xH b cs sn g t)))
/-- The magnitudes after one more group. -/
def gStep (g : Fin 32) (a : FVec F S8x128 .f32 × Acc F) : FVec F S8x128 .f32 × Acc F :=
  (r32.foldl (fun a t => yStep low even p xH b cs sn g t a) a.1, accBlock (nOf low xH b g 1) (accBlock (nOf low xH b g 0) a.2))
abbrev gq (k : Fin 8) (g : Fin 4) : Fin 32 := ⟨4 * k.val + g.val, by omega⟩
def cStep (k : Fin 8) (a : FVec F S8x128 .f32 × Acc F) : FVec F S8x128 .f32 × Acc F :=
  r4.foldl (fun a g => gStep low even p xH b cs sn (gq k g) a) a

/-! ## Second pass over the keys -/

variable (inv : FVec F S8x128 .f32) (L : Acc F) (pi : FVec F S256x256 .bf16)

/-- A block of 256 rows of the buffers of the first pass. -/
def yWin (g : Fin 32) (j : Fin 2) : FVec F S256x128 .f32 := fun z => yM low even p xH b cs sn (ix2 ⟨512 * g.val + 256 * j.val + (z 0).val, by have : (z 0).val < 256 := (z 0).isLt; omega⟩ (z 1))
def kOut (g : Fin 32) (r : Fin 4) : FVec F S256x128 .fp8e4m3 :=
  let q0 := rot8 inv (yWin low even p xH b cs sn g 0)
  let q1 := rot8 inv (yWin low even p xH b cs sn g 1)
  let f := scaled L pi (nOf low xH b g 0) (nOf low xH b g 1)
  match r with
  | 0 => outLo low (out0 even q0 q1) (left8 f)
  | 1 => outLo low (out1 even q0 q1) (right8 f)
  | 2 => outHi low (out0 even q0 q1) (left8 f)
  | 3 => outHi low (out1 even q0 q1) (right8 f)
def koM : S32768x128.Idx → Elt F .fp8e4m3 := fun i =>
  kOut low even p xH b cs sn inv L pi ⟨(i 0).val / 1024, by have : (i 0).val < 32768 := (i 0).isLt; omega⟩ ⟨(i 0).val % 1024 / 256, by omega⟩ (ix2 ⟨(i 0).val % 256, by omega⟩ (i 1))
theorem koM_at (g : Fin 32) (j : Fin 4) (y : Fin 256) (d : Fin 128) (r : Fin 32768) (hr : r.val = 1024 * g.val + 256 * j.val + y.val) :
    koM low even p xH b cs sn inv L pi (ix2 r d) = kOut low even p xH b cs sn inv L pi g j (ix2 y d) := by
  obtain ⟨g, hg⟩ := g; obtain ⟨j, hj⟩ := j; obtain ⟨y, hy⟩ := y; obtain ⟨r, hr'⟩ := r
  obtain rfl : r = 1024 * g + 256 * j + y := hr
  have h0 : (1024 * g + 256 * j + y) / 1024 = g := by omega
  have h1 : (1024 * g + 256 * j + y) % 1024 / 256 = j := by omega
  have h2 : (1024 * g + 256 * j + y) % 256 = y := by omega
  unfold koM
  dsimp only [ix2]
  simp only [Matrix.cons_val_zero, h0, h1, h2]

end

/-! ## The values -/

section
variable (xH : (S3 9).Idx → Elt F .bf16) (b : Fin 9) (L : Acc F) (pi : FVec F S256x256 .bf16)

def vStep (k : Fin 8) (a : Acc F) : Acc F :=
  r16.foldl (fun a i => accBlock (rows (kWin xH b ⟨16 * k.val + i.val, by omega⟩)) a) a
def vOut (h : Fin 64) (j : Fin 2) : FVec F S256x128 .fp8e4m3 :=
  let f := scaled L pi (rows (kWin xH b ⟨2 * h.val, by omega⟩)) (rows (kWin xH b ⟨2 * h.val + 1, by omega⟩))
  if j = 0 then left8 f else right8 f
def voM : S32768x128.Idx → Elt F .fp8e4m3 := fun i =>
  vOut xH b L pi ⟨(i 0).val / 512, by have : (i 0).val < 32768 := (i 0).isLt; omega⟩ ⟨(i 0).val % 512 / 256, by omega⟩ (ix2 ⟨(i 0).val % 256, by omega⟩ (i 1))
theorem voM_at (h : Fin 64) (j : Fin 2) (y : Fin 256) (d : Fin 128) (r : Fin 32768) (hr : r.val = 512 * h.val + 256 * j.val + y.val) :
    voM xH b L pi (ix2 r d) = vOut xH b L pi h j (ix2 y d) := by
  obtain ⟨h, hh⟩ := h; obtain ⟨j, hj⟩ := j; obtain ⟨y, hy⟩ := y; obtain ⟨r, hr'⟩ := r
  obtain rfl : r = 512 * h + 256 * j + y := hr
  have h0 : (512 * h + 256 * j + y) / 512 = h := by omega
  have h1 : (512 * h + 256 * j + y) % 512 / 256 = j := by omega
  have h2 : (512 * h + 256 * j + y) % 256 = y := by omega
  unfold voM
  dsimp only [ix2]
  simp only [Matrix.cons_val_zero, h0, h1, h2]

end

end Cert.Proof.Kernel

end
-- ==== Proof.K.Shape3.lean ====
/- The first pass over a chunk of keys, as folds over its steps. -/
module

public import proofs.«01_k».proof.Proof.K.Vals

@[expose] public section

set_option maxRecDepth 16384

noncomputable section

namespace Cert.Proof.Kernel

open Cert.Kernel Cert.Kernel.Gen
open Idealize.ShloMosaic Idealize.ShloMosaic.TcCoe Idealize.SL.Sem

variable {F : FTy → Type} [FloatOps F]

section
variable (b : Fin k0_t1_loop.trips) (k : Fin k0_t3_loop.trips)

def loadK (g r : Fin 4) : PR F (Vec F S1x256x128 .bf16) :=
  ld kB (Rect.unit (s := S2x32768x128) (k0_off30 b k (BitVec.ofNat 32 g.val) (BitVec.ofNat 32 (256 * r.val))) S1x256x128.size (k0_off30_inb b k g r)) (View.loadsAt_vmem h_S1x256x128)

def storeN (g : Fin 4) (j : Fin 2) (x : FVec F S256x128 .bf16) : PR F PUnit :=
  upd nB (Rect.unit (s := S16384x128) (k0_off31 k (BitVec.ofNat 32 g.val) (BitVec.ofNat 32 (256 * j.val))) S256x128.size (k0_off31_inb k g j))
    (shapeCast S256x128 x shapeCasts_S256x128_S256x128) (View.loadsAt_vmem h_S256x128)
    (View.stores_vmem h_S256x128 ((Memref.isWhole_whole _ : nB.IsWhole).storeExact_slice rfl _ (k0_off31_packedbf16 k g j)) (fun _ => rfl))

def stepT (f : FVec F S256x256 .f32) (g : Fin 4) (t : Fin 32) (a : FVec F S8x128 .f32) : PR F (FVec F S8x128 .f32) := do
  let c ← ld cB (Rect.unit (s := S1024x128) (k0_off32 k (BitVec.ofNat 32 g.val) (BitVec.ofNat 32 t.val)) S1x128.size (k0_off32_inb k g t)) (View.loadsAt_vmem h_S1x128)
  let s ← ld sB (Rect.unit (s := S1024x128) (k0_off32 k (BitVec.ofNat 32 g.val) (BitVec.ofNat 32 t.val)) S1x128.size (k0_off32_inb k g t)) (View.loadsAt_vmem h_S1x128)
  upd yB (Rect.unit (s := S16384x128) (k0_off33 k (BitVec.ofNat 32 g.val) (BitVec.ofNat 32 (8 * t.val))) S8x128.size (k0_off33_inb k g t))
    (shapeCast S8x128 (rot1 f t c s) shapeCasts_S8x128_S8x128) (View.loadsAt_vmem h_S8x128) (View.stores_vmem_bits_univ h_S8x128 rfl)
  upd yB (Rect.unit (s := S16384x128) (k0_off34 k (BitVec.ofNat 32 g.val) (BitVec.ofNat 32 (8 * t.val))) S8x128.size (k0_off34_inb k g t))
    (shapeCast S8x128 (rot2 f t c s) shapeCasts_S8x128_S8x128) (View.loadsAt_vmem h_S8x128) (View.stores_vmem_bits_univ h_S8x128 rfl)
  pure (maximumf a (maximumf (absf (rot1 f t c s)) (absf (rot2 f t c s))))

/-- One group of 128 rotated positions. -/
def stepG (low even : IVec S1x128 1) (p : FVec F S256x256 .bf16) (g : Fin 4) (a : FVec F S8x128 .f32 × Acc F) : PR F (FVec F S8x128 .f32 × Acc F) := do
  let x0 ← loadK b k g 0
  let x1 ← loadK b k g 1
  let x2 ← loadK b k g 2
  let x3 ← loadK b k g 3
  storeN k g 0 (nonHalf low x0 x2)
  storeN k g 1 (nonHalf low x1 x3)
  let y ← over r32 (stepT k (mxu p (pairUp even (rotHalf low x0 x2) (rotHalf low x1 x3))) g) a.1
  pure (y, accBlock (nonHalf low x1 x3) (accBlock (nonHalf low x0 x2) a.2))

def waitK : PR F PUnit :=
  waitIn kH kB (k0_off27_inb b k) (k0_off28_inb b k) (k0_off29_inb b k)
    (((Memref.isWhole_whole _ : kH.IsWhole).wordExact_slice rfl _ (k0_off29_wordsbf16 b k)).reshape _ _)
    (((Memref.isWhole_whole _ : kB.IsWhole).wordExact_slice rfl _ (k0_off28_wordsbf16 b k)).reshape _ _)

def stepC (low even : IVec S1x128 1) (p : FVec F S256x256 .bf16) (a : FVec F S8x128 .f32 × Acc F) : PR F (FVec F S8x128 .f32 × Acc F) := do
  waitK b k
  over r4 (stepG b k low even p) a

end

variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)

set_option maxHeartbeats 0 in
theorem t3_eq (low even : IVec S1x128 1) (p : FVec F S256x256 .bf16) (z1 z2 z3 z4 : FVec F S16x128 .bf16) (w1 w2 w3 : BitVec 32) (b : Fin k0_t1_loop.trips) (k : Fin k0_t3_loop.trips) (a : FVec F S8x128 .f32 × Acc F) :
    k0_t3_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b w3 k a
    = stepC b k low even p a := by
  rfl

end Cert.Proof.Kernel

end
-- ==== Proof.K.Loop3.lean ====
/- The first pass over the keys leaves the buffers and the magnitudes as the closed forms say. -/
module

public import proofs.«01_k».proof.Proof.K.Model
public import proofs.«01_k».proof.Proof.K.Shape3

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

theorem trips1 : k0_t1_loop.trips = 9 := by decide +kernel
theorem trips3 : k0_t3_loop.trips = 8 := by decide +kernel
theorem off27_eq : ∀ (b : Fin k0_t1_loop.trips) (k : Fin k0_t3_loop.trips), k0_off27 b k = ![0, b.val % 2, k.val] := by decide +kernel
theorem off30_eq : ∀ (b : Fin k0_t1_loop.trips) (k : Fin k0_t3_loop.trips) (g r : Fin 4),
    k0_off30 b k (BitVec.ofNat 32 g.val) (BitVec.ofNat 32 (256 * r.val)) = ![b.val % 2, 4096 * k.val + 1024 * g.val + 256 * r.val, 0] := by decide +kernel

/-- The block a trip works on. -/
abbrev ib (b : Fin k0_t1_loop.trips) : Fin 9 := ⟨b.val, trips1 ▸ b.isLt⟩
abbrev ch3 (k : Fin k0_t3_loop.trips) : Fin 8 := ⟨k.val, trips3 ▸ k.isLt⟩

section
variable (low even : IVec S1x128 1) (p : FVec F S256x256 .bf16) (xH : (S3 9).Idx → Elt F .bf16) (cs sn : S1024x128.Idx → Elt F .f32)
variable (b : Fin k0_t1_loop.trips) (k : Fin k0_t3_loop.trips)

section
variable (c)
def kC : sProp 𝕄 := known c cB Finset.univ (rowP fun _ => True) cs
def kS : sProp 𝕄 := known c sB Finset.univ (rowP fun _ => True) sn
def kY (b : Fin 9) (D : ℕ → Prop) : sProp 𝕄 := known c yB Finset.univ (rowP D) (yM low even p xH b cs sn)
def kN (b : Fin 9) (D : ℕ → Prop) : sProp 𝕄 := known c nB Finset.univ (rowP D) (nM low xH b)
def kSlot (b : Fin 9) (k : Fin 8) : sProp 𝕄 := slotHas c sideK xH (par b.val) k b
end

/-- The rows of the rotated halves filled after `t` tiles of the group `g`. -/
def yD (g t : ℕ) (r : ℕ) : Prop := r < 512 * g ∨ (512 * g ≤ r ∧ r < 512 * g + 8 * t) ∨ (512 * g + 256 ≤ r ∧ r < 512 * g + 256 + 8 * t)

theorem yD_next (g : ℕ) : yD g 32 = yD (g + 1) 0 := funext fun r => propext (by unfold yD; omega)

theorem Runs.tile (g : Fin 4) (t : Fin 32) (a : FVec F S8x128 .f32) (R : sProp 𝕄) :
    Runs c iprop(kC c cs ∗ kS c sn ∗ kY c low even p xH cs sn (ib b) (yD (gq (ch3 k) g).val t.val) ∗ R)
      (stepT k (fOf low even p xH (ib b) (gq (ch3 k) g)) g t a) (yStep low even p xH (ib b) cs sn (gq (ch3 k) g) t a)
      iprop(kC c cs ∗ kS c sn ∗ kY c low even p xH cs sn (ib b) (yD (gq (ch3 k) g).val (t.val + 1)) ∗ R) := by
  have hk := (ch3 k).isLt
  have e32 : k0_off32 k (BitVec.ofNat 32 g.val) (BitVec.ofNat 32 t.val) = ![32 * (gq (ch3 k) g).val + t.val, 0] :=
    (k0_off32_eq k g t).trans (by congr 1; show 128 * k.val + 32 * g.val + t.val = 32 * (4 * k.val + g.val) + t.val; omega)
  unfold stepT kC kS kY
  refine Runs.bind (a := crow cs (gq (ch3 k) g) t) ((Runs.get2 e32 (fun i _ _ => Finset.mem_univ _) (fun _ _ _ => trivial) fun y d r hr => ?_).frame _) ?_
  · refine congrArg cs (congrArg (fun z => ix2 z d) (Fin.ext ?_))
    rw [hr]; have := y.isLt; show _ = 32 * _ + t.val; omega
  refine Runs.bind (a := crow sn (gq (ch3 k) g) t) (((Runs.get2 e32 (fun i _ _ => Finset.mem_univ _) (fun _ _ _ => trivial) fun y d r hr => ?_).frame _).skip) ?_
  · refine congrArg sn (congrArg (fun z => ix2 z d) (Fin.ext ?_))
    rw [hr]; have := y.isLt; show _ = 32 * _ + t.val; omega
  refine Runs.bind (((Runs.put2 (q := 512 * (gq (ch3 k) g).val + 8 * t.val)
    (D2' := fun r => yD (gq (ch3 k) g).val t.val r ∨ (512 * (gq (ch3 k) g).val ≤ r ∧ r < 512 * (gq (ch3 k) g).val + 8 * (t.val + 1)))
    ?_ (fun i _ _ => Finset.mem_univ _) ?_ fun y d r hr => ?_).frame _).skip.skip) ?_
  · refine (k0_off33_eq k g t).trans (by congr 1; show 2048 * k.val + 512 * g.val + 8 * t.val = 512 * (4 * k.val + g.val) + 8 * t.val; omega)
  · intro r hr
    simp only [yD] at hr ⊢
    omega
  · rw [shapeCast_self, yM_lo low even p xH (ib b) cs sn (gq (ch3 k) g) t y d r hr]
    rfl
  refine Runs.bind (((Runs.put2 (q := 512 * (gq (ch3 k) g).val + 256 + 8 * t.val) (D2' := yD (gq (ch3 k) g).val (t.val + 1))
    ?_ (fun i _ _ => Finset.mem_univ _) ?_ fun y d r hr => ?_).frame _).skip.skip) (Runs.pure _ _)
  · refine (k0_off34_eq k g t).trans (by congr 1; show _ = 512 * (4 * k.val + g.val) + 256 + 8 * t.val; omega)
  · intro r hr
    simp only [yD] at hr ⊢
    omega
  · rw [shapeCast_self, yM_hi low even p xH (ib b) cs sn (gq (ch3 k) g) t y d r hr]
    rfl

/-- What a chunk's first pass works on. -/
def kSt (c : Dev nD) (b : Fin 9) (q : ℕ) (R : sProp 𝕄) : sProp 𝕄 :=
  iprop(kC c cs ∗ kS c sn ∗ kY c low even p xH cs sn b (yD q 0) ∗ kN c low xH b (fun r => r < 512 * q) ∗ R)

theorem Runs.group (g : Fin 4) (a : FVec F S8x128 .f32 × Acc F) (R : sProp 𝕄) :
    Runs c iprop(kSlot c xH (ib b) (ch3 k) ∗ kSt low even p xH cs sn c (ib b) (4 * k.val + g.val) R)
      (stepG b k low even p g a) (gStep low even p xH (ib b) cs sn (gq (ch3 k) g) a)
      iprop(kSlot c xH (ib b) (ch3 k) ∗ kSt low even p xH cs sn c (ib b) (4 * k.val + (g.val + 1)) R) := by
  have hk := (ch3 k).isLt
  have hl : ∀ r : Fin 4, Runs c (kSlot c xH (ib b) (ch3 k)) (loadK b k g r) (kWin xH (ib b) (wq (gq (ch3 k) g) r)) (kSlot c xH (ib b) (ch3 k)) := fun r =>
    Runs.getSlot (sl := par b.val) ((off30_eq b k g r).trans (by
      congr 2
      show 4096 * k.val + 1024 * g.val + 256 * r.val = 256 * (4 * (4 * k.val + g.val) + r.val); omega))
      (by show (4 * (4 * k.val + g.val) + r.val) / 16 = k.val; omega)
  have hn : ∀ (j : Fin 2), Runs c (kN c low xH (ib b) (fun r => r < 512 * (4 * k.val + g.val) + 256 * j.val)) (storeN k g j (nOf low xH (ib b) (gq (ch3 k) g) j)) ⟨⟩
      (kN c low xH (ib b) (fun r => r < 512 * (4 * k.val + g.val) + 256 * (j.val + 1))) := fun j => by
    unfold kN storeN
    refine Runs.put2 (q := 512 * (4 * k.val + g.val) + 256 * j.val) ((k0_off31_eq k g j).trans (by congr 1; omega)) (fun i _ _ => Finset.mem_univ _) (fun r hr => by omega) fun y d r hr => ?_
    rw [shapeCast_self, nM_at low xH (ib b) (gq (ch3 k) g) j y d r hr]
  unfold stepG kSt
  refine Runs.bind ((hl 0).frame _) ?_
  refine Runs.bind ((hl 1).frame _) ?_
  refine Runs.bind ((hl 2).frame _) ?_
  refine Runs.bind ((hl 3).frame _) ?_
  refine Runs.bind (((hn 0).frame _).skip.skip.skip.skip) ?_
  refine Runs.bind (((hn 1).frame _).skip.skip.skip.skip) ?_
  refine Runs.bind ((Runs.overI (I := fun t => iprop(kC c cs ∗ kS c sn ∗ kY c low even p xH cs sn (ib b) (yD (4 * k.val + g.val) t)
      ∗ kN c low xH (ib b) (fun r => r < 512 * (4 * k.val + g.val) + 256 * (1 + 1)) ∗ R))
    (fun t a => Runs.tile low even p xH cs sn b k g t a _) r32 (by decide) a.1).skip) ?_
  rw [yD_next]
  exact Runs.pure _ _

theorem Runs.chunkK (a : FVec F S8x128 .f32 × Acc F) (R : sProp 𝕄) :
    Runs c iprop(INp c sideK xH (ib b) (ch3 k) ∗ ow F c ∗ kSt low even p xH cs sn c (ib b) (4 * k.val) R)
      (stepC b k low even p a) (cStep low even p xH (ib b) cs sn (ch3 k) a)
      iprop(INd c sideK xH (ib b) (ch3 k) ∗ ow F c ∗ kSt low even p xH cs sn c (ib b) (4 * (k.val + 1)) R) := by
  unfold stepC
  refine Runs.bind (Runs.arrive (ib b) (ch3 k) (off27_eq b k) _) ?_
  refine Runs.via (Runs.overI (I := fun g => iprop(kSlot c xH (ib b) (ch3 k) ∗ kSt low even p xH cs sn c (ib b) (4 * k.val + g) R))
    (fun g a => Runs.group low even p xH cs sn b k g a R) r4 (by decide) a)
    iprop(home c sideK xH (ib b) (ch3 k) ∗ sIn c sideK (par b.val) (ch3 k) ∗ INrest c sideK xH (ib b) (ch3 k) ∗ ow F c) ?_ ?_
  · unfold INd
    show iprop((kSlot c xH (ib b) (ch3 k) ∗ _) ∗ _) = iprop((kSlot c xH (ib b) (ch3 k) ∗ kSt low even p xH cs sn c (ib b) (4 * k.val) R) ∗ _)
    ac_rfl
  · unfold INd
    show _ = iprop((kSlot c xH (ib b) (ch3 k) ∗ _) ∗ _)
    rw [show 4 * (k.val + 1) = 4 * k.val + 4 from rfl]
    ac_rfl

/-- The whole pass. -/
theorem Runs.pass3 (a : FVec F S8x128 .f32 × Acc F) {body : Fin k0_t3_loop.trips → (FVec F S8x128 .f32 × Acc F) → PR F (FVec F S8x128 .f32 × Acc F)}
    (hbody : ∀ k a, body k a = stepC b k low even p a) (R : sProp 𝕄) :
    Runs c iprop(Kernel.mix 0 (INd c sideK xH (ib b)) (INp c sideK xH (ib b)) ∗ ow F c ∗ kSt low even p xH cs sn c (ib b) 0 R)
      (Scf.Loop.for k0_t3_loop k0_t3_ok a body) ((List.finRange k0_t3_loop.trips).foldl (fun a k => cStep low even p xH (ib b) cs sn (ch3 k) a) a)
      iprop(Kernel.mix 8 (INd c sideK xH (ib b)) (INp c sideK xH (ib b)) ∗ ow F c ∗ kSt low even p xH cs sn c (ib b) 32 R) := by
  have := Runs.for (c := c) k0_t3_loop k0_t3_ok (I := fun k => iprop(Kernel.mix k (INd c sideK xH (ib b)) (INp c sideK xH (ib b)) ∗ ow F c ∗ kSt low even p xH cs sn c (ib b) (4 * k) R))
    (p := body) (fun k a => by
      rw [hbody k a]
      exact Runs.mix (ch3 k) (Runs.chunkK low even p xH cs sn b k a R)) a
  rw [show iprop(Kernel.mix k0_t3_loop.trips (INd c sideK xH (ib b)) (INp c sideK xH (ib b)) ∗ ow F c ∗ kSt low even p xH cs sn c (ib b) (4 * k0_t3_loop.trips) R) = iprop(Kernel.mix 8 (INd c sideK xH (ib b)) (INp c sideK xH (ib b)) ∗ ow F c ∗ kSt low even p xH cs sn c (ib b) 32 R) from by rw [trips3]] at this
  exact this

end

end Cert.Proof.Kernel

end
-- ==== Proof.K.Shape4.lean ====
/- The second pass over a chunk of keys, as folds over its steps. -/
module

public import proofs.«01_k».proof.Proof.K.Vals

@[expose] public section

set_option maxRecDepth 16384

noncomputable section

namespace Cert.Proof.Kernel

open Cert.Kernel Cert.Kernel.Gen
open Idealize.ShloMosaic Idealize.ShloMosaic.TcCoe Idealize.SL.Sem

variable {F : FTy → Type} [FloatOps F]

section
variable (b : Fin k0_t1_loop.trips) (k : Fin k0_t4_loop.trips)

def loadN (g : Fin 4) (j : Fin 2) : PR F (FVec F S256x128 .bf16) :=
  ld nB (Rect.unit (s := S16384x128) (k0_off40 k (BitVec.ofNat 32 g.val) (BitVec.ofNat 32 (256 * j.val))) S256x128.size (k0_off40_inb k g j)) (View.loadsAt_vmem h_S256x128)
def loadN0 (g : Fin 4) : PR F (FVec F S256x128 .bf16) :=
  ld nB (Rect.unit (s := S16384x128) (k0_off39 k (BitVec.ofNat 32 g.val)) S256x128.size (k0_off39_inb k g)) (View.loadsAt_vmem h_S256x128)
def loadY (g : Fin 4) (j : Fin 2) : PR F (FVec F S256x128 .f32) :=
  ld yB (Rect.unit (s := S16384x128) (k0_off40 k (BitVec.ofNat 32 g.val) (BitVec.ofNat 32 (256 * j.val))) S256x128.size (k0_off40_inb k g j)) (View.loadsAt_vmem h_S256x128)
def storeK (g r : Fin 4) (x : FVec F S256x128 .fp8e4m3) : PR F PUnit :=
  upd kO (Rect.unit (s := S32768x128) (k0_off41 k (BitVec.ofNat 32 g.val) (BitVec.ofNat 32 (256 * r.val))) S256x128.size (k0_off41_inb k g r))
    (shapeCast S256x128 x shapeCasts_S256x128_S256x128) (View.loadsAt_vmem h_S256x128)
    (View.stores_vmem h_S256x128 ((Memref.isWhole_whole _ : kO.IsWhole).storeExact_slice rfl _ (k0_off41_packedfp8e4m3 k g r)) (fun _ => rfl))

/-- One group of 128 positions. -/
def stepQ (low even : IVec S1x128 1) (inv : FVec F S8x128 .f32) (L : Acc F) (p : FVec F S256x256 .bf16) (g : Fin 4) (_ : PUnit.{1}) : PR F PUnit := do
  let n0 ← loadN0 k g
  let n1 ← loadN k g 1
  let y0 ← loadY k g 0
  let y1 ← loadY k g 1
  let f := scaled L p n0 n1
  storeK k g 0 (outLo low (out0 even (rot8 inv y0) (rot8 inv y1)) (left8 f))
  storeK k g 2 (outHi low (out0 even (rot8 inv y0) (rot8 inv y1)) (left8 f))
  storeK k g 1 (outLo low (out1 even (rot8 inv y0) (rot8 inv y1)) (right8 f))
  storeK k g 3 (outHi low (out1 even (rot8 inv y0) (rot8 inv y1)) (right8 f))

def waitKO (h : k0_cond2 b = 1#1) : PR F PUnit :=
  waitOut kcH kO (k0_off36_inb b k h) (k0_off38_inb b k h) (k0_off37_inb b k h)
    ((Memref.isWhole_whole _ : kO.IsWhole).wordExact_slice rfl _ (k0_off38_wordsfp8e4m3 b k h))
    (((Memref.isWhole_whole _ : kcH.IsWhole).wordExact_slice rfl _ (k0_off37_wordsfp8e4m3 b k h)).reshape _ _)
def startKO : PR F PUnit :=
  startOut kcH kO (k0_off42_inb k) (k0_off44_inb k) (k0_off43_inb b k)
    ((Memref.isWhole_whole _ : kO.IsWhole).wordExact_slice rfl _ (k0_off44_wordsfp8e4m3 k))
    (((Memref.isWhole_whole _ : kcH.IsWhole).wordExact_slice rfl _ (k0_off43_wordsfp8e4m3 b k)).reshape _ _)

def quantC (low even : IVec S1x128 1) (inv : FVec F S8x128 .f32) (L : Acc F) (p : FVec F S256x256 .bf16) : PR F PUnit := do
  over r4 (stepQ k low even inv L p) ⟨⟩
  startKO b k

end

variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)

set_option maxHeartbeats 0 in
theorem t4_pos (low even : IVec S1x128 1) (w0 w1 w2 w3 : BitVec 32) (inv : FVec F S8x128 .f32) (L0 L1 L2 L3 : FVec F S16x128 .bf16) (p : FVec F S256x256 .bf16) (b : Fin k0_t1_loop.trips) (k : Fin k0_t4_loop.trips)
    (h : k0_cond2 b = 1#1) :
    k0_part116 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even b w0 inv L0 L1 L2 L3 p w1 w2 k
    = (waitKO b k h >>= fun _ => over r4 (stepQ k low even inv (L0, L1, L2, L3) p) ⟨⟩) := by
  rw [k0_part116_eq_skeleton]
  unfold k0_part116_skel
  rw [k0_part108_eq_skeleton]
  unfold k0_part108_skel
  simp only [dif_pos h]
  rfl

set_option maxHeartbeats 0 in
theorem t4_neg (low even : IVec S1x128 1) (w0 w1 w2 w3 : BitVec 32) (inv : FVec F S8x128 .f32) (L0 L1 L2 L3 : FVec F S16x128 .bf16) (p : FVec F S256x256 .bf16) (b : Fin k0_t1_loop.trips) (k : Fin k0_t4_loop.trips)
    (h : ¬ k0_cond2 b = 1#1) :
    k0_part116 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even b w0 inv L0 L1 L2 L3 p w1 w2 k
    = over r4 (stepQ k low even inv (L0, L1, L2, L3) p) ⟨⟩ := by
  rw [k0_part116_eq_skeleton]
  unfold k0_part116_skel
  rw [k0_part108_eq_skeleton]
  unfold k0_part108_skel
  simp only [dif_neg h]
  rfl

end Cert.Proof.Kernel

end
-- ==== Proof.K.Loop4.lean ====
/- The second pass over the keys writes the block and sends it home. -/
module

public import proofs.«01_k».proof.Proof.K.Loop3
public import proofs.«01_k».proof.Proof.K.Shape4

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

theorem trips4 : k0_t4_loop.trips = 8 := by decide +kernel
abbrev ch4 (k : Fin k0_t4_loop.trips) : Fin 8 := ⟨k.val, trips4 ▸ k.isLt⟩
theorem cond2_iff : ∀ b : Fin k0_t1_loop.trips, k0_cond2 b = 1#1 ↔ 0 < b.val := by decide +kernel

theorem outAny_known {σ : Side} {k : Fin 8} {m : S32768x128.Idx → Elt F .fp8e4m3} {D : ℕ → Prop} (h : ∀ r, ¬ D r) : outAny c σ k ⊢ (known c σ.O (outSet k) (rowP D) m : sProp 𝕄) :=
  known_none fun i hi => h _ hi

/-- A finished chunk starts home. -/
theorem Runs.sendM {σ : Side} {G : (S3 9).Idx → Elt F .fp8e4m3} {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk σ.O oo ho).view.WordExact} {wc : (blk σ.C oc hc).view.WordExact}
    (b : Fin 9) (k : Fin 8) (es : os = ![σ.w.val, k.val]) (eo : oo = ![4096 * k.val, 0]) (ec : oc = ![b.val, 4096 * k.val, 0])
    (m : S32768x128.Idx → Elt F .fp8e4m3) (hG : ∀ i, m i = G (ix3 b (i 0) (i 1))) {D : ℕ → Prop} (hD : ∀ r, 4096 * k.val ≤ r → r < 4096 * k.val + 4096 → D r) :
    Runs c iprop(known c σ.O (outSet k) (rowP D) m ∗ sOut c σ k ∗ bigSep Finset.univ fun b' => Call c σ G b.val b' k)
      (Kernel.startOut σ.C σ.O hs ho hc wo wc) ⟨⟩ (OUT c σ G (b.val + 1) k) := by
  refine (Runs.send b k es eo ec m fun i _ => hG i).conseq ?_ .rfl
  iintro ⟨H1, H2⟩
  ihave H1 := (known_full fun i hi => hD _ (mem_outSet.1 hi).1 (mem_outSet.1 hi).2) $$ H1
  isplitl [H1]; · iexact H1
  iexact H2

section
variable (low even : IVec S1x128 1) (p : FVec F S256x256 .bf16) (xH : (S3 9).Idx → Elt F .bf16) (cs sn : S1024x128.Idx → Elt F .f32)
variable (inv : FVec F S8x128 .f32) (L : Acc F) (pi : FVec F S256x256 .bf16) (G : (S3 9).Idx → Elt F .fp8e4m3)
variable (b : Fin k0_t1_loop.trips) (k : Fin k0_t4_loop.trips)

def kO' (c : Dev nD) (b : Fin 9) (k : Fin 8) (D : ℕ → Prop) : sProp 𝕄 := known c kO (outSet k) (rowP D) (koM low even p xH b cs sn inv L pi)

theorem Runs.groupQ (g : Fin 4) (u : PUnit) (R : sProp 𝕄) :
    Runs c iprop(kN c low xH (ib b) (fun r => r < 16384) ∗ kY c low even p xH cs sn (ib b) (yD 32 0) ∗ kO' low even p xH cs sn inv L pi c (ib b) (ch4 k) (fun r => 4096 * k.val ≤ r ∧ r < 4096 * k.val + 1024 * g.val) ∗ R)
      (stepQ k low even inv L pi g u) ⟨⟩
      iprop(kN c low xH (ib b) (fun r => r < 16384) ∗ kY c low even p xH cs sn (ib b) (yD 32 0) ∗ kO' low even p xH cs sn inv L pi c (ib b) (ch4 k) (fun r => 4096 * k.val ≤ r ∧ r < 4096 * k.val + 1024 * (g.val + 1)) ∗ R) := by
  have hk := (ch4 k).isLt
  have hk' : k.val < 8 := hk
  have hn : ∀ {o : Fin 2 → ℕ} {inb h}, ∀ j : Fin 2, o = ![2048 * k.val + 512 * g.val + 256 * j.val, 0] →
      Runs c (kN c low xH (ib b) (fun r => r < 16384)) (Kernel.ld nB (Rect.unit (s := S16384x128) o S256x128.size inb) h) (nOf low xH (ib b) (gq (ch4 k) g) j) (kN c low xH (ib b) (fun r => r < 16384)) := by
    intro o inb h j eo
    unfold kN
    refine Runs.get2 eo (fun i _ _ => Finset.mem_univ _) (fun r _ h2 => by omega) fun y d r hr => ?_
    exact nM_at low xH (ib b) (gq (ch4 k) g) j y d r (by rw [hr]; show _ = 512 * (4 * k.val + g.val) + 256 * j.val + y.val; omega)
  have hy : ∀ j : Fin 2, Runs c (kY c low even p xH cs sn (ib b) (yD 32 0)) (loadY k g j) (yWin low even p xH (ib b) cs sn (gq (ch4 k) g) j) (kY c low even p xH cs sn (ib b) (yD 32 0)) := by
    intro j
    unfold kY loadY
    refine Runs.get2 (k0_off40_eq k g j) (fun i _ _ => Finset.mem_univ _) (fun r _ h2 => by simp only [yD]; omega) fun y d r hr => ?_
    refine congrArg _ (congrArg (fun z => ix2 z d) (Fin.ext ?_))
    rw [hr]; show _ = 512 * (4 * k.val + g.val) + 256 * j.val + y.val; omega
  have ho : ∀ (r : Fin 4) (D D' : ℕ → Prop), (∀ i, D' i → D i ∨ (4096 * k.val + 1024 * g.val + 256 * r.val ≤ i ∧ i < 4096 * k.val + 1024 * g.val + 256 * r.val + 256)) →
      Runs c (kO' low even p xH cs sn inv L pi c (ib b) (ch4 k) D) (storeK k g r (kOut low even p xH (ib b) cs sn inv L pi (gq (ch4 k) g) r)) ⟨⟩ (kO' low even p xH cs sn inv L pi c (ib b) (ch4 k) D') := by
    intro r D D' hD
    unfold kO' storeK
    refine Runs.put2 (k0_off41_eq k g r) (fun i h1 h2 => mem_outSet.2 ?_) hD fun y d i hi => ?_
    · show 4096 * k.val ≤ _ ∧ _ < 4096 * k.val + 4096
      omega
    · rw [shapeCast_self]
      exact koM_at low even p xH (ib b) cs sn inv L pi (gq (ch4 k) g) r y d i (by rw [hi]; show _ = 1024 * (4 * k.val + g.val) + 256 * r.val + y.val; omega)
  unfold stepQ
  refine Runs.bind ((hn 0 ((k0_off39_eq k g).trans (by congr 1))).frame _) ?_
  refine Runs.bind ((hn 1 (k0_off40_eq k g 1)).frame _) ?_
  refine Runs.bind ((hy 0).frame _).skip ?_
  refine Runs.bind ((hy 1).frame _).skip ?_
  refine Runs.bind (((ho 0 _ (fun r => 4096 * k.val ≤ r ∧ r < 4096 * k.val + 1024 * g.val + 256) (fun r hr => ?_)).frame _).skip.skip) ?_
  · omega
  refine Runs.bind (((ho 2 _ (fun r => 4096 * k.val ≤ r ∧ (r < 4096 * k.val + 1024 * g.val + 256 ∨ (4096 * k.val + 1024 * g.val + 512 ≤ r ∧ r < 4096 * k.val + 1024 * g.val + 768))) (fun r hr => ?_)).frame _).skip.skip) ?_
  · show _ ∨ (_ + 256 * 2 ≤ _ ∧ _ < _ + 256 * 2 + _)
    omega
  refine Runs.bind (((ho 1 _ (fun r => 4096 * k.val ≤ r ∧ r < 4096 * k.val + 1024 * g.val + 768) (fun r hr => ?_)).frame _).skip.skip) ?_
  · show _ ∨ (_ + 256 * 1 ≤ _ ∧ _ < _ + 256 * 1 + _)
    omega
  refine (((ho 3 _ _ (fun r hr => ?_)).frame _).skip.skip)
  · show _ ∨ (_ + 256 * 3 ≤ _ ∧ _ < _ + 256 * 3 + _)
    omega

theorem Runs.quantK (hG : ∀ i, koM low even p xH (ib b) cs sn inv L pi i = G (ix3 (ib b) (i 0) (i 1))) (R : sProp 𝕄) :
    Runs c iprop(OUTf c sideK G b.val (ch4 k) ∗ kN c low xH (ib b) (fun r => r < 16384) ∗ kY c low even p xH cs sn (ib b) (yD 32 0) ∗ R)
      (quantC b k low even inv L pi) ⟨⟩
      iprop(OUT c sideK G (b.val + 1) (ch4 k) ∗ kN c low xH (ib b) (fun r => r < 16384) ∗ kY c low even p xH cs sn (ib b) (yD 32 0) ∗ R) := by
  unfold quantC startKO
  refine (Runs.bind (Runs.overI (I := fun g => iprop(kN c low xH (ib b) (fun r => r < 16384) ∗ kY c low even p xH cs sn (ib b) (yD 32 0)
      ∗ kO' low even p xH cs sn inv L pi c (ib b) (ch4 k) (fun r => 4096 * k.val ≤ r ∧ r < 4096 * k.val + 1024 * g)
      ∗ (sOut c sideK (ch4 k) ∗ bigSep Finset.univ fun b' => Call c sideK G b.val b' (ch4 k)) ∗ R))
      (fun g u => Runs.groupQ low even p xH cs sn inv L pi b k g u _) r4 (by decide) ⟨⟩)
    (Runs.via (Runs.sendM (ib b) (ch4 k) (k0_off42_eq k) (k0_off44_eq k) (k0_off43_eq b k) (koM low even p xH (ib b) cs sn inv L pi) hG
      (D := fun r => 4096 * k.val ≤ r ∧ r < 4096 * k.val + 1024 * 4) (fun r h1 h2 => ⟨h1, h2⟩))
      iprop(kN c low xH (ib b) (fun r => r < 16384) ∗ kY c low even p xH cs sn (ib b) (yD 32 0) ∗ R) ?_ rfl)).conseq ?_ .rfl
  · show iprop(_ ∗ _ ∗ kO' low even p xH cs sn inv L pi c (ib b) (ch4 k) (fun r => 4096 * k.val ≤ r ∧ r < 4096 * k.val + 1024 * 4) ∗ _ ∗ _)
      = iprop((kO' low even p xH cs sn inv L pi c (ib b) (ch4 k) (fun r => 4096 * k.val ≤ r ∧ r < 4096 * k.val + 1024 * 4) ∗ _ ∗ _) ∗ _)
    generalize kO' low even p xH cs sn inv L pi c (ib b) (ch4 k) (fun r => 4096 * k.val ≤ r ∧ r < 4096 * k.val + 1024 * 4) = X
    ac_rfl
  · unfold OUTf
    iintro ⟨⟨H1, H2⟩, H3, H4, H5⟩
    ihave H1 := (outAny_known (m := koM low even p xH (ib b) cs sn inv L pi) (D := fun r => 4096 * k.val ≤ r ∧ r < 4096 * k.val + 1024 * 0) (fun r hr => by omega)) $$ H1
    isplitl [H3]; · iexact H3
    isplitl [H4]; · iexact H4
    isplitl [H1]
    · unfold kO'
      iexact H1
    isplitl [H2]; · iexact H2
    iexact H5

theorem Runs.pass4 (hG : ∀ i, koM low even p xH (ib b) cs sn inv L pi i = G (ix3 (ib b) (i 0) (i 1))) {body : Fin k0_t4_loop.trips → PUnit.{1} → PR F PUnit}
    (hpos : ∀ k (h : k0_cond2 b = 1#1) u, body k u = waitKO b k h >>= fun _ => quantC b k low even inv L pi)
    (hneg : ∀ k (h : ¬ k0_cond2 b = 1#1) u, body k u = quantC b k low even inv L pi) (R : sProp 𝕄) :
    Runs c iprop(Kernel.mix 0 (OUT c sideK G (b.val + 1)) (OUT c sideK G b.val) ∗ ow F c ∗ kN c low xH (ib b) (fun r => r < 16384) ∗ kY c low even p xH cs sn (ib b) (yD 32 0) ∗ R)
      (Scf.Loop.for k0_t4_loop k0_t4_ok ⟨⟩ body) ((List.finRange k0_t4_loop.trips).foldl (fun _ _ => ⟨⟩) ⟨⟩)
      iprop(Kernel.mix 8 (OUT c sideK G (b.val + 1)) (OUT c sideK G b.val) ∗ ow F c ∗ kN c low xH (ib b) (fun r => r < 16384) ∗ kY c low even p xH cs sn (ib b) (yD 32 0) ∗ R) := by
  have := Runs.for (c := c) k0_t4_loop k0_t4_ok (I := fun k => iprop(Kernel.mix k (OUT c sideK G (b.val + 1)) (OUT c sideK G b.val) ∗ ow F c ∗ kN c low xH (ib b) (fun r => r < 16384) ∗ kY c low even p xH cs sn (ib b) (yD 32 0) ∗ R))
    (p := body) (fa := fun _ _ => ⟨⟩) (fun k u => by
      refine Runs.mix (ch4 k) ?_
      have hq := Runs.quantK (c := c) low even p xH cs sn inv L pi G b k hG iprop(ow F c ∗ R)
      have hq' : Runs c iprop(OUTf c sideK G b.val (ch4 k) ∗ ow F c ∗ kN c low xH (ib b) (fun r => r < 16384) ∗ kY c low even p xH cs sn (ib b) (yD 32 0) ∗ R)
          (quantC b k low even inv L pi) ⟨⟩ iprop(OUT c sideK G (b.val + 1) (ch4 k) ∗ ow F c ∗ kN c low xH (ib b) (fun r => r < 16384) ∗ kY c low even p xH cs sn (ib b) (yD 32 0) ∗ R) :=
        hq.conseq (entails_of_eq (by ac_rfl)) (entails_of_eq (by ac_rfl))
      by_cases h : k0_cond2 b = 1#1
      · rw [hpos k h u]
        exact Runs.bind (Runs.landed (σ := sideK) b.val ⟨(cond2_iff b).1 h, (ib b).isLt.le⟩ (ch4 k) (k0_off36_eq k) _) hq'
      · rw [hneg k h u]
        have hb : b.val = 0 := by have := mt (cond2_iff b).2 h; omega
        have e : OUT c sideK G b.val (ch4 k) = (OUTf c sideK G b.val (ch4 k) : sProp 𝕄) := by rw [hb]; exact OUT_zero _
        rw [e]
        exact hq') ⟨⟩
  rw [show iprop(Kernel.mix k0_t4_loop.trips (OUT c sideK G (b.val + 1)) (OUT c sideK G b.val) ∗ ow F c ∗ kN c low xH (ib b) (fun r => r < 16384) ∗ kY c low even p xH cs sn (ib b) (yD 32 0) ∗ R)
    = iprop(Kernel.mix 8 (OUT c sideK G (b.val + 1)) (OUT c sideK G b.val) ∗ ow F c ∗ kN c low xH (ib b) (fun r => r < 16384) ∗ kY c low even p xH cs sn (ib b) (yD 32 0) ∗ R) from by rw [trips4]] at this
  exact this

end

end Cert.Proof.Kernel

end
-- ==== Proof.K.Shape56.lean ====
/- The two passes over a chunk of values, as folds over its steps. -/
module

public import proofs.«01_k».proof.Proof.K.Vals

@[expose] public section

set_option maxRecDepth 16384

noncomputable section

namespace Cert.Proof.Kernel

open Cert.Kernel Cert.Kernel.Gen
open Idealize.ShloMosaic Idealize.ShloMosaic.TcCoe Idealize.SL.Sem

variable {F : FTy → Type} [FloatOps F]

section
variable (b : Fin k0_t1_loop.trips) (k : Fin k0_t5_loop.trips)

def loadV (i : Fin 16) : PR F (Vec F S1x256x128 .bf16) :=
  ld vB (Rect.unit (s := S2x32768x128) (k0_off72 b k (BitVec.ofNat 32 (256 * i.val))) S1x256x128.size (k0_off72_inb b k i)) (View.loadsAt_vmem h_S1x256x128)
def stepA (i : Fin 16) (a : Acc F) : PR F (Acc F) := do
  let x ← loadV b k i
  pure (accBlock (rows x) a)
def waitV : PR F PUnit :=
  waitIn vH vB (k0_off69_inb b k) (k0_off70_inb b k) (k0_off71_inb b k)
    (((Memref.isWhole_whole _ : vH.IsWhole).wordExact_slice rfl _ (k0_off71_wordsbf16 b k)).reshape _ _)
    (((Memref.isWhole_whole _ : vB.IsWhole).wordExact_slice rfl _ (k0_off70_wordsbf16 b k)).reshape _ _)
def ampC (a : Acc F) : PR F (Acc F) := do
  waitV b k
  over r16 (stepA b k) a
end

section
variable (b : Fin k0_t1_loop.trips) (k : Fin k0_t6_loop.trips)

def loadW (i : Fin 8) (j : Fin 2) : PR F (Vec F S1x256x128 .bf16) :=
  ld vB (Rect.unit (s := S2x32768x128) (k0_off76 b k (BitVec.ofNat 32 (512 * i.val)) (BitVec.ofNat 32 (256 * j.val))) S1x256x128.size (k0_off76_inb b k i j)) (View.loadsAt_vmem h_S1x256x128)
def storeV (i : Fin 8) (j : Fin 2) (x : FVec F S256x128 .fp8e4m3) : PR F PUnit :=
  upd vO (Rect.unit (s := S32768x128) (k0_off77 k (BitVec.ofNat 32 (512 * i.val)) (BitVec.ofNat 32 (256 * j.val))) S256x128.size (k0_off77_inb k i j))
    (shapeCast S256x128 x shapeCasts_S256x128_S256x128) (View.loadsAt_vmem h_S256x128)
    (View.stores_vmem h_S256x128 ((Memref.isWhole_whole _ : vO.IsWhole).storeExact_slice rfl _ (k0_off77_packedfp8e4m3 k i j)) (fun _ => rfl))
def stepV (L : Acc F) (p : FVec F S256x256 .bf16) (i : Fin 8) (_ : PUnit.{1}) : PR F PUnit := do
  let x0 ← loadW b k i 0
  let x1 ← loadW b k i 1
  let f := scaled L p (rows x0) (rows x1)
  storeV k i 0 (left8 f)
  storeV k i 1 (right8 f)
def waitVO (h : k0_cond4 b = 1#1) : PR F PUnit :=
  waitOut vcH vO (k0_off73_inb b k h) (k0_off75_inb b k h) (k0_off74_inb b k h)
    ((Memref.isWhole_whole _ : vO.IsWhole).wordExact_slice rfl _ (k0_off75_wordsfp8e4m3 b k h))
    (((Memref.isWhole_whole _ : vcH.IsWhole).wordExact_slice rfl _ (k0_off74_wordsfp8e4m3 b k h)).reshape _ _)
def startVO : PR F PUnit :=
  startOut vcH vO (k0_off78_inb k) (k0_off80_inb k) (k0_off79_inb b k)
    ((Memref.isWhole_whole _ : vO.IsWhole).wordExact_slice rfl _ (k0_off80_wordsfp8e4m3 k))
    (((Memref.isWhole_whole _ : vcH.IsWhole).wordExact_slice rfl _ (k0_off79_wordsfp8e4m3 b k)).reshape _ _)
def quantV (L : Acc F) (p : FVec F S256x256 .bf16) : PR F PUnit := do
  over r8 (stepV b k L p) ⟨⟩
  startVO b k
end

variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)

set_option maxHeartbeats 0 in
theorem t5_eq (z1 z2 z3 z4 : FVec F S16x128 .bf16) (w1 w2 w3 : BitVec 32) (b : Fin k0_t1_loop.trips) (k : Fin k0_t5_loop.trips) (a : Acc F) :
    k0_t5_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 z1 z2 z3 z4 b w1 w2 w3 k a
    = ampC b k a := by
  rfl

set_option maxHeartbeats 0 in
theorem t6_pos (low even : IVec S1x128 1) (v26 : FVec F S256x256 .f32) (v27 : FVec F S256x256 .bf16) (z1 z2 : FVec F S16x128 .bf16) (w0 : F .bf16) (w1 w2 : BitVec 32)
    (inv : FVec F S8x128 .f32) (L0 L1 L2 : FVec F S16x128 .bf16) (l3 : FVec F S16x128 .f32) (b : Fin k0_t1_loop.trips) (k : Fin k0_t6_loop.trips) (h : k0_cond4 b = 1#1) :
    k0_t6_body (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even v26 v27 z1 z2 w0 b w1 w2 inv L0 L1 L2 l3 k ⟨⟩
    = (waitVO b k h >>= fun _ => quantV b k (L0, L1, L2, k0_pay1434 l3) (k0_pay1435 v26 inv)) := by
  unfold k0_t6_body
  rw [k0_part129_eq_skeleton]
  unfold k0_part129_skel
  simp only [dif_pos h]
  rfl

set_option maxHeartbeats 0 in
theorem t6_neg (low even : IVec S1x128 1) (v26 : FVec F S256x256 .f32) (v27 : FVec F S256x256 .bf16) (z1 z2 : FVec F S16x128 .bf16) (w0 : F .bf16) (w1 w2 : BitVec 32)
    (inv : FVec F S8x128 .f32) (L0 L1 L2 : FVec F S16x128 .bf16) (l3 : FVec F S16x128 .f32) (b : Fin k0_t1_loop.trips) (k : Fin k0_t6_loop.trips) (h : ¬ k0_cond4 b = 1#1) :
    k0_t6_body (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even v26 v27 z1 z2 w0 b w1 w2 inv L0 L1 L2 l3 k ⟨⟩
    = quantV b k (L0, L1, L2, k0_pay1434 l3) (k0_pay1435 v26 inv) := by
  unfold k0_t6_body
  rw [k0_part129_eq_skeleton]
  unfold k0_part129_skel
  simp only [dif_neg h]
  rfl

end Cert.Proof.Kernel

end
-- ==== Proof.K.Loop56.lean ====
/- The two passes over the values. -/
module

public import proofs.«01_k».proof.Proof.K.Loop4
public import proofs.«01_k».proof.Proof.K.Shape56

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

theorem trips5 : k0_t5_loop.trips = 8 := by decide +kernel
abbrev ch5 (k : Fin k0_t5_loop.trips) : Fin 8 := ⟨k.val, trips5 ▸ k.isLt⟩
theorem trips6 : k0_t6_loop.trips = 8 := by decide +kernel
abbrev ch6 (k : Fin k0_t6_loop.trips) : Fin 8 := ⟨k.val, trips6 ▸ k.isLt⟩
theorem cond4_iff : ∀ b : Fin k0_t1_loop.trips, k0_cond4 b = 1#1 ↔ 0 < b.val := by decide +kernel
theorem off69_eq : ∀ (b : Fin k0_t1_loop.trips) (k : Fin k0_t5_loop.trips), k0_off69 b k = ![1, b.val % 2, k.val] := by decide +kernel
theorem off72_eq : ∀ (b : Fin k0_t1_loop.trips) (k : Fin k0_t5_loop.trips) (i : Fin 16),
    k0_off72 b k (BitVec.ofNat 32 (256 * i.val)) = ![b.val % 2, 4096 * k.val + 256 * i.val, 0] := by decide +kernel
theorem off76_eq : ∀ (b : Fin k0_t1_loop.trips) (k : Fin k0_t6_loop.trips) (i : Fin 8) (j : Fin 2),
    k0_off76 b k (BitVec.ofNat 32 (512 * i.val)) (BitVec.ofNat 32 (256 * j.val)) = ![b.val % 2, 4096 * k.val + 512 * i.val + 256 * j.val, 0] := by decide +kernel

section
variable (xH : (S3 9).Idx → Elt F .bf16) (L : Acc F) (pi : FVec F S256x256 .bf16) (G : (S3 9).Idx → Elt F .fp8e4m3)
variable (b : Fin k0_t1_loop.trips)

theorem Runs.chunkV (k : Fin k0_t5_loop.trips) (a : Acc F) (R : sProp 𝕄) :
    Runs c iprop(INp c sideV xH (ib b) (ch5 k) ∗ ow F c ∗ R) (ampC b k a) (vStep xH (ib b) (ch5 k) a) iprop(INd c sideV xH (ib b) (ch5 k) ∗ ow F c ∗ R) := by
  unfold ampC
  refine Runs.bind (Runs.arrive (ib b) (ch5 k) (off69_eq b k) _) ?_
  unfold INd
  refine Runs.frame _ (Runs.frame _ ?_)
  refine Runs.overI (I := fun _ => slotHas c sideV xH (par (ib b).val) (ch5 k) (ib b)) (fa := fun i a => accBlock (rows (kWin xH (ib b) ⟨16 * (ch5 k).val + i.val, by have := (ch5 k).isLt; omega⟩)) a) (fun i a => ?_) r16 (by decide) a
  unfold stepA loadV
  refine Runs.bind (Runs.getSlot (sl := par b.val) (q := ⟨16 * (ch5 k).val + i.val, by have := (ch5 k).isLt; omega⟩) ((off72_eq b k i).trans (by
    congr 2
    show 4096 * k.val + 256 * i.val = 256 * (16 * k.val + i.val); omega)) (by show (16 * k.val + i.val) / 16 = k.val; omega)) (Runs.pure _ _)

theorem Runs.pass5 (a : Acc F) {body : Fin k0_t5_loop.trips → Acc F → PR F (Acc F)}
    (hbody : ∀ k a, body k a = ampC b k a) (R : sProp 𝕄) :
    Runs c iprop(Kernel.mix 0 (INd c sideV xH (ib b)) (INp c sideV xH (ib b)) ∗ ow F c ∗ R)
      (Scf.Loop.for k0_t5_loop k0_t5_ok a body) ((List.finRange k0_t5_loop.trips).foldl (fun a k => vStep xH (ib b) (ch5 k) a) a)
      iprop(Kernel.mix 8 (INd c sideV xH (ib b)) (INp c sideV xH (ib b)) ∗ ow F c ∗ R) := by
  have := Runs.for (c := c) k0_t5_loop k0_t5_ok (I := fun k => iprop(Kernel.mix k (INd c sideV xH (ib b)) (INp c sideV xH (ib b)) ∗ ow F c ∗ R))
    (p := body) (fun k a => by
      rw [hbody k a]
      exact Runs.mix (ch5 k) (Runs.chunkV xH b k a R)) a
  rw [show iprop(Kernel.mix k0_t5_loop.trips (INd c sideV xH (ib b)) (INp c sideV xH (ib b)) ∗ ow F c ∗ R) = iprop(Kernel.mix 8 (INd c sideV xH (ib b)) (INp c sideV xH (ib b)) ∗ ow F c ∗ R) from by rw [trips5]] at this
  exact this

variable (k : Fin k0_t6_loop.trips)

def vO' (c : Dev nD) (b : Fin 9) (k : Fin 8) (D : ℕ → Prop) : sProp 𝕄 := known c vO (outSet k) (rowP D) (voM xH b L pi)
def vSlot (c : Dev nD) (b : Fin 9) (k : Fin 8) : sProp 𝕄 := slotHas c sideV xH (par b.val) k b

theorem Runs.groupV (i : Fin 8) (u : PUnit) (R : sProp 𝕄) :
    Runs c iprop(vSlot xH c (ib b) (ch6 k) ∗ vO' xH L pi c (ib b) (ch6 k) (fun r => 4096 * k.val ≤ r ∧ r < 4096 * k.val + 512 * i.val) ∗ R)
      (stepV b k L pi i u) ⟨⟩
      iprop(vSlot xH c (ib b) (ch6 k) ∗ vO' xH L pi c (ib b) (ch6 k) (fun r => 4096 * k.val ≤ r ∧ r < 4096 * k.val + 512 * (i.val + 1)) ∗ R) := by
  have hk := (ch6 k).isLt
  have hk' : k.val < 8 := hk
  have hl : ∀ j : Fin 2, Runs c (vSlot xH c (ib b) (ch6 k)) (loadW b k i j) (kWin xH (ib b) ⟨2 * (8 * k.val + i.val) + j.val, by omega⟩) (vSlot xH c (ib b) (ch6 k)) := fun j =>
    Runs.getSlot (sl := par b.val) ((off76_eq b k i j).trans (by
      congr 2
      show _ = 256 * (2 * (8 * k.val + i.val) + j.val); omega))
      (by show (2 * (8 * k.val + i.val) + j.val) / 16 = k.val; omega)
  have ho : ∀ (r : Fin 2) (D D' : ℕ → Prop), (∀ t, D' t → D t ∨ (4096 * k.val + 512 * i.val + 256 * r.val ≤ t ∧ t < 4096 * k.val + 512 * i.val + 256 * r.val + 256)) →
      Runs c (vO' xH L pi c (ib b) (ch6 k) D) (storeV k i r (vOut xH (ib b) L pi ⟨8 * k.val + i.val, by omega⟩ r)) ⟨⟩ (vO' xH L pi c (ib b) (ch6 k) D') := by
    intro r D D' hD
    unfold vO' storeV
    refine Runs.put2 (k0_off77_eq k i r) (fun i h1 h2 => mem_outSet.2 ?_) hD fun y d t ht => ?_
    · show 4096 * k.val ≤ _ ∧ _ < 4096 * k.val + 4096
      omega
    · rw [shapeCast_self]
      exact voM_at xH (ib b) L pi _ r y d t (by rw [ht]; show _ = 512 * (8 * k.val + i.val) + 256 * r.val + y.val; omega)
  unfold stepV
  refine Runs.bind ((hl 0).frame _) ?_
  refine Runs.bind ((hl 1).frame _) ?_
  refine Runs.bind (((ho 0 _ (fun r => 4096 * k.val ≤ r ∧ r < 4096 * k.val + 512 * i.val + 256) (fun r hr => ?_)).frame _).skip) ?_
  · omega
  refine (((ho 1 _ _ (fun r hr => ?_)).frame _).skip)
  · show _ ∨ (_ + 256 * 1 ≤ _ ∧ _ < _ + 256 * 1 + _)
    omega

theorem Runs.quantV' (hG : ∀ i, voM xH (ib b) L pi i = G (ix3 (ib b) (i 0) (i 1))) (R : sProp 𝕄) :
    Runs c iprop(OUTf c sideV G b.val (ch6 k) ∗ vSlot xH c (ib b) (ch6 k) ∗ R)
      (quantV b k L pi) ⟨⟩
      iprop(OUT c sideV G (b.val + 1) (ch6 k) ∗ vSlot xH c (ib b) (ch6 k) ∗ R) := by
  unfold quantV startVO
  refine (Runs.bind (Runs.overI (I := fun g => iprop(vSlot xH c (ib b) (ch6 k)
      ∗ vO' xH L pi c (ib b) (ch6 k) (fun r => 4096 * k.val ≤ r ∧ r < 4096 * k.val + 512 * g)
      ∗ (sOut c sideV (ch6 k) ∗ bigSep Finset.univ fun b' => Call c sideV G b.val b' (ch6 k)) ∗ R))
      (fun g u => Runs.groupV xH L pi b k g u _) r8 (by decide) ⟨⟩)
    (Runs.via (Runs.sendM (ib b) (ch6 k) (k0_off78_eq k) (k0_off80_eq k) (k0_off79_eq b k) (voM xH (ib b) L pi) hG
      (D := fun r => 4096 * k.val ≤ r ∧ r < 4096 * k.val + 512 * 8) (fun r h1 h2 => ⟨h1, h2⟩))
      iprop(vSlot xH c (ib b) (ch6 k) ∗ R) ?_ rfl)).conseq ?_ .rfl
  · show iprop(_ ∗ vO' xH L pi c (ib b) (ch6 k) (fun r => 4096 * k.val ≤ r ∧ r < 4096 * k.val + 512 * 8) ∗ _ ∗ _)
      = iprop((vO' xH L pi c (ib b) (ch6 k) (fun r => 4096 * k.val ≤ r ∧ r < 4096 * k.val + 512 * 8) ∗ _ ∗ _) ∗ _)
    generalize vO' xH L pi c (ib b) (ch6 k) (fun r => 4096 * k.val ≤ r ∧ r < 4096 * k.val + 512 * 8) = X
    ac_rfl
  · unfold OUTf
    iintro ⟨⟨H1, H2⟩, H3, H5⟩
    ihave H1 := (outAny_known (m := voM xH (ib b) L pi) (D := fun r => 4096 * k.val ≤ r ∧ r < 4096 * k.val + 512 * 0) (fun r hr => by omega)) $$ H1
    isplitl [H3]; · iexact H3
    isplitl [H1]
    · unfold vO'
      iexact H1
    isplitl [H2]; · iexact H2
    iexact H5

theorem Runs.pass6 (hG : ∀ i, voM xH (ib b) L pi i = G (ix3 (ib b) (i 0) (i 1))) {body : Fin k0_t6_loop.trips → PUnit.{1} → PR F PUnit}
    (hpos : ∀ k (h : k0_cond4 b = 1#1) u, body k u = waitVO b k h >>= fun _ => quantV b k L pi)
    (hneg : ∀ k (h : ¬ k0_cond4 b = 1#1) u, body k u = quantV b k L pi) (R : sProp 𝕄) :
    Runs c iprop(Kernel.mix 0 (fun k => iprop(OUT c sideV G (b.val + 1) k ∗ INd c sideV xH (ib b) k)) (fun k => iprop(OUT c sideV G b.val k ∗ INd c sideV xH (ib b) k)) ∗ ow F c ∗ R)
      (Scf.Loop.for k0_t6_loop k0_t6_ok ⟨⟩ body) ((List.finRange k0_t6_loop.trips).foldl (fun _ _ => ⟨⟩) ⟨⟩)
      iprop(Kernel.mix 8 (fun k => iprop(OUT c sideV G (b.val + 1) k ∗ INd c sideV xH (ib b) k)) (fun k => iprop(OUT c sideV G b.val k ∗ INd c sideV xH (ib b) k)) ∗ ow F c ∗ R) := by
  have := Runs.for (c := c) k0_t6_loop k0_t6_ok (I := fun k => iprop(Kernel.mix k (fun k => iprop(OUT c sideV G (b.val + 1) k ∗ INd c sideV xH (ib b) k)) (fun k => iprop(OUT c sideV G b.val k ∗ INd c sideV xH (ib b) k)) ∗ ow F c ∗ R))
    (p := body) (fa := fun _ _ => ⟨⟩) (fun k u => by
      refine Runs.mix (ch6 k) ?_
      have hq := Runs.quantV' (c := c) xH L pi G b k hG iprop((home c sideV xH (ib b) (ch6 k) ∗ sIn c sideV (par b.val) (ch6 k) ∗ INrest c sideV xH (ib b) (ch6 k)) ∗ ow F c ∗ R)
      have e1 : (INd c sideV xH (ib b) (ch6 k) : sProp 𝕄) = iprop(vSlot xH c (ib b) (ch6 k) ∗ home c sideV xH (ib b) (ch6 k) ∗ sIn c sideV (par b.val) (ch6 k) ∗ INrest c sideV xH (ib b) (ch6 k)) := rfl
      have hq' : Runs c iprop(OUTf c sideV G b.val (ch6 k) ∗ ow F c ∗ INd c sideV xH (ib b) (ch6 k) ∗ R)
          (quantV b k L pi) ⟨⟩ iprop((OUT c sideV G (b.val + 1) (ch6 k) ∗ INd c sideV xH (ib b) (ch6 k)) ∗ ow F c ∗ R) := by
        rw [e1]
        exact hq.conseq (entails_of_eq (by ac_rfl)) (entails_of_eq (by ac_rfl))
      by_cases h : k0_cond4 b = 1#1
      · rw [hpos k h u]
        refine (Runs.bind (Runs.landed (σ := sideV) b.val ⟨(cond4_iff b).1 h, (ib b).isLt.le⟩ (ch6 k) (k0_off73_eq k) _) hq').conseq (entails_of_eq (by ac_rfl)) .rfl
      · rw [hneg k h u]
        have hb : b.val = 0 := by have := mt (cond4_iff b).2 h; omega
        have e : OUT c sideV G b.val (ch6 k) = (OUTf c sideV G b.val (ch6 k) : sProp 𝕄) := by rw [hb]; exact OUT_zero _
        rw [e]
        exact hq'.conseq (entails_of_eq (by ac_rfl)) .rfl) ⟨⟩
  rw [show iprop(Kernel.mix k0_t6_loop.trips (fun k => iprop(OUT c sideV G (b.val + 1) k ∗ INd c sideV xH (ib b) k)) (fun k => iprop(OUT c sideV G b.val k ∗ INd c sideV xH (ib b) k)) ∗ ow F c ∗ R)
    = iprop(Kernel.mix 8 (fun k => iprop(OUT c sideV G (b.val + 1) k ∗ INd c sideV xH (ib b) k)) (fun k => iprop(OUT c sideV G b.val k ∗ INd c sideV xH (ib b) k)) ∗ ow F c ∗ R) from by rw [trips6]] at this
  exact this

end

end Cert.Proof.Kernel

end
-- ==== Proof.K.Fetch.lean ====
/- Asking for the next block, chunk by chunk. -/
module

public import proofs.«01_k».proof.Proof.K.Loop56

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

section
variable (b : Fin k0_t1_loop.trips)
def fetchK (h : k0_cond1 b = 1#1) : PR F PUnit := do
  startIn kH kB (k0_off1_inb b h) (k0_off2_inb b h) (k0_off3_inb b h) (((Memref.isWhole_whole _ : kH.IsWhole).wordExact_slice rfl _ (k0_off3_wordsbf16 b h)).reshape _ _) (((Memref.isWhole_whole _ : kB.IsWhole).wordExact_slice rfl _ (k0_off2_wordsbf16 b h)).reshape _ _)
  startIn kH kB (k0_off4_inb b h) (k0_off5_inb b h) (k0_off6_inb b h) (((Memref.isWhole_whole _ : kH.IsWhole).wordExact_slice rfl _ (k0_off6_wordsbf16 b h)).reshape _ _) (((Memref.isWhole_whole _ : kB.IsWhole).wordExact_slice rfl _ (k0_off5_wordsbf16 b h)).reshape _ _)
  startIn kH kB (k0_off7_inb b h) (k0_off8_inb b h) (k0_off9_inb b h) (((Memref.isWhole_whole _ : kH.IsWhole).wordExact_slice rfl _ (k0_off9_wordsbf16 b h)).reshape _ _) (((Memref.isWhole_whole _ : kB.IsWhole).wordExact_slice rfl _ (k0_off8_wordsbf16 b h)).reshape _ _)
  startIn kH kB (k0_off10_inb b h) (k0_off11_inb b h) (k0_off12_inb b h) (((Memref.isWhole_whole _ : kH.IsWhole).wordExact_slice rfl _ (k0_off12_wordsbf16 b h)).reshape _ _) (((Memref.isWhole_whole _ : kB.IsWhole).wordExact_slice rfl _ (k0_off11_wordsbf16 b h)).reshape _ _)
  startIn kH kB (k0_off13_inb b h) (k0_off14_inb b h) (k0_off15_inb b h) (((Memref.isWhole_whole _ : kH.IsWhole).wordExact_slice rfl _ (k0_off15_wordsbf16 b h)).reshape _ _) (((Memref.isWhole_whole _ : kB.IsWhole).wordExact_slice rfl _ (k0_off14_wordsbf16 b h)).reshape _ _)
  startIn kH kB (k0_off16_inb b h) (k0_off17_inb b h) (k0_off18_inb b h) (((Memref.isWhole_whole _ : kH.IsWhole).wordExact_slice rfl _ (k0_off18_wordsbf16 b h)).reshape _ _) (((Memref.isWhole_whole _ : kB.IsWhole).wordExact_slice rfl _ (k0_off17_wordsbf16 b h)).reshape _ _)
  startIn kH kB (k0_off19_inb b h) (k0_off20_inb b h) (k0_off21_inb b h) (((Memref.isWhole_whole _ : kH.IsWhole).wordExact_slice rfl _ (k0_off21_wordsbf16 b h)).reshape _ _) (((Memref.isWhole_whole _ : kB.IsWhole).wordExact_slice rfl _ (k0_off20_wordsbf16 b h)).reshape _ _)
  startIn kH kB (k0_off22_inb b h) (k0_off23_inb b h) (k0_off24_inb b h) (((Memref.isWhole_whole _ : kH.IsWhole).wordExact_slice rfl _ (k0_off24_wordsbf16 b h)).reshape _ _) (((Memref.isWhole_whole _ : kB.IsWhole).wordExact_slice rfl _ (k0_off23_wordsbf16 b h)).reshape _ _)
def fetchV (h : k0_cond3 b = 1#1) : PR F PUnit := do
  startIn vH vB (k0_off45_inb b h) (k0_off46_inb b h) (k0_off47_inb b h) (((Memref.isWhole_whole _ : vH.IsWhole).wordExact_slice rfl _ (k0_off47_wordsbf16 b h)).reshape _ _) (((Memref.isWhole_whole _ : vB.IsWhole).wordExact_slice rfl _ (k0_off46_wordsbf16 b h)).reshape _ _)
  startIn vH vB (k0_off48_inb b h) (k0_off49_inb b h) (k0_off50_inb b h) (((Memref.isWhole_whole _ : vH.IsWhole).wordExact_slice rfl _ (k0_off50_wordsbf16 b h)).reshape _ _) (((Memref.isWhole_whole _ : vB.IsWhole).wordExact_slice rfl _ (k0_off49_wordsbf16 b h)).reshape _ _)
  startIn vH vB (k0_off51_inb b h) (k0_off52_inb b h) (k0_off53_inb b h) (((Memref.isWhole_whole _ : vH.IsWhole).wordExact_slice rfl _ (k0_off53_wordsbf16 b h)).reshape _ _) (((Memref.isWhole_whole _ : vB.IsWhole).wordExact_slice rfl _ (k0_off52_wordsbf16 b h)).reshape _ _)
  startIn vH vB (k0_off54_inb b h) (k0_off55_inb b h) (k0_off56_inb b h) (((Memref.isWhole_whole _ : vH.IsWhole).wordExact_slice rfl _ (k0_off56_wordsbf16 b h)).reshape _ _) (((Memref.isWhole_whole _ : vB.IsWhole).wordExact_slice rfl _ (k0_off55_wordsbf16 b h)).reshape _ _)
  startIn vH vB (k0_off57_inb b h) (k0_off58_inb b h) (k0_off59_inb b h) (((Memref.isWhole_whole _ : vH.IsWhole).wordExact_slice rfl _ (k0_off59_wordsbf16 b h)).reshape _ _) (((Memref.isWhole_whole _ : vB.IsWhole).wordExact_slice rfl _ (k0_off58_wordsbf16 b h)).reshape _ _)
  startIn vH vB (k0_off60_inb b h) (k0_off61_inb b h) (k0_off62_inb b h) (((Memref.isWhole_whole _ : vH.IsWhole).wordExact_slice rfl _ (k0_off62_wordsbf16 b h)).reshape _ _) (((Memref.isWhole_whole _ : vB.IsWhole).wordExact_slice rfl _ (k0_off61_wordsbf16 b h)).reshape _ _)
  startIn vH vB (k0_off63_inb b h) (k0_off64_inb b h) (k0_off65_inb b h) (((Memref.isWhole_whole _ : vH.IsWhole).wordExact_slice rfl _ (k0_off65_wordsbf16 b h)).reshape _ _) (((Memref.isWhole_whole _ : vB.IsWhole).wordExact_slice rfl _ (k0_off64_wordsbf16 b h)).reshape _ _)
  startIn vH vB (k0_off66_inb b h) (k0_off67_inb b h) (k0_off68_inb b h) (((Memref.isWhole_whole _ : vH.IsWhole).wordExact_slice rfl _ (k0_off68_wordsbf16 b h)).reshape _ _) (((Memref.isWhole_whole _ : vB.IsWhole).wordExact_slice rfl _ (k0_off67_wordsbf16 b h)).reshape _ _)
end

theorem cond1_iff : ∀ b : Fin k0_t1_loop.trips, k0_cond1 b = 1#1 ↔ b.val + 1 < 9 := by decide +kernel
theorem cond3_iff : ∀ b : Fin k0_t1_loop.trips, k0_cond3 b = 1#1 ↔ b.val + 1 < 9 := by decide +kernel
theorem semK : ∀ b : Fin k0_t1_loop.trips, k0_off1 b = ![0, (b.val + 1) % 2, 0] ∧ k0_off4 b = ![0, (b.val + 1) % 2, 1] ∧ k0_off7 b = ![0, (b.val + 1) % 2, 2] ∧ k0_off10 b = ![0, (b.val + 1) % 2, 3] ∧ k0_off13 b = ![0, (b.val + 1) % 2, 4] ∧ k0_off16 b = ![0, (b.val + 1) % 2, 5] ∧ k0_off19 b = ![0, (b.val + 1) % 2, 6] ∧ k0_off22 b = ![0, (b.val + 1) % 2, 7] := by decide +kernel
theorem slotK : ∀ b : Fin k0_t1_loop.trips, k0_off2 b = ![(b.val + 1) % 2, 0, 0] ∧ k0_off5 b = ![(b.val + 1) % 2, 4096, 0] ∧ k0_off8 b = ![(b.val + 1) % 2, 8192, 0] ∧ k0_off11 b = ![(b.val + 1) % 2, 12288, 0] ∧ k0_off14 b = ![(b.val + 1) % 2, 16384, 0] ∧ k0_off17 b = ![(b.val + 1) % 2, 20480, 0] ∧ k0_off20 b = ![(b.val + 1) % 2, 24576, 0] ∧ k0_off23 b = ![(b.val + 1) % 2, 28672, 0] := by decide +kernel
theorem semV : ∀ b : Fin k0_t1_loop.trips, k0_off45 b = ![1, (b.val + 1) % 2, 0] ∧ k0_off48 b = ![1, (b.val + 1) % 2, 1] ∧ k0_off51 b = ![1, (b.val + 1) % 2, 2] ∧ k0_off54 b = ![1, (b.val + 1) % 2, 3] ∧ k0_off57 b = ![1, (b.val + 1) % 2, 4] ∧ k0_off60 b = ![1, (b.val + 1) % 2, 5] ∧ k0_off63 b = ![1, (b.val + 1) % 2, 6] ∧ k0_off66 b = ![1, (b.val + 1) % 2, 7] := by decide +kernel
theorem slotV : ∀ b : Fin k0_t1_loop.trips, k0_off46 b = ![(b.val + 1) % 2, 0, 0] ∧ k0_off49 b = ![(b.val + 1) % 2, 4096, 0] ∧ k0_off52 b = ![(b.val + 1) % 2, 8192, 0] ∧ k0_off55 b = ![(b.val + 1) % 2, 12288, 0] ∧ k0_off58 b = ![(b.val + 1) % 2, 16384, 0] ∧ k0_off61 b = ![(b.val + 1) % 2, 20480, 0] ∧ k0_off64 b = ![(b.val + 1) % 2, 24576, 0] ∧ k0_off67 b = ![(b.val + 1) % 2, 28672, 0] := by decide +kernel

section
variable (xH : (S3 9).Idx → Elt F .bf16) (b : Fin k0_t1_loop.trips)

theorem Runs.fetchK (h : k0_cond1 b = 1#1) (R : sProp 𝕄) :
    Runs c iprop(Kernel.mix 0 (INp c sideK xH (ib b)) (IN c sideK xH b.val) ∗ R) (Kernel.fetchK b h) ⟨⟩ iprop(Kernel.mix 8 (INp c sideK xH (ib b)) (IN c sideK xH b.val) ∗ R) := by
  have hb : (ib b).val + 1 < 9 := (cond1_iff b).1 h
  unfold Kernel.fetchK
  refine Runs.bind (Runs.mix 0 (Runs.prefetch (ib b) hb 0 (semK b).1 (slotK b).1 (k0_off3_eq b) R)) ?_
  refine Runs.bind (Runs.mix 1 (Runs.prefetch (ib b) hb 1 (semK b).2.1 (slotK b).2.1 (k0_off6_eq b) R)) ?_
  refine Runs.bind (Runs.mix 2 (Runs.prefetch (ib b) hb 2 (semK b).2.2.1 (slotK b).2.2.1 (k0_off9_eq b) R)) ?_
  refine Runs.bind (Runs.mix 3 (Runs.prefetch (ib b) hb 3 (semK b).2.2.2.1 (slotK b).2.2.2.1 (k0_off12_eq b) R)) ?_
  refine Runs.bind (Runs.mix 4 (Runs.prefetch (ib b) hb 4 (semK b).2.2.2.2.1 (slotK b).2.2.2.2.1 (k0_off15_eq b) R)) ?_
  refine Runs.bind (Runs.mix 5 (Runs.prefetch (ib b) hb 5 (semK b).2.2.2.2.2.1 (slotK b).2.2.2.2.2.1 (k0_off18_eq b) R)) ?_
  refine Runs.bind (Runs.mix 6 (Runs.prefetch (ib b) hb 6 (semK b).2.2.2.2.2.2.1 (slotK b).2.2.2.2.2.2.1 (k0_off21_eq b) R)) ?_
  exact (Runs.mix 7 (Runs.prefetch (ib b) hb 7 (semK b).2.2.2.2.2.2.2 (slotK b).2.2.2.2.2.2.2 (k0_off24_eq b) R))

theorem Runs.fetchV (h : k0_cond3 b = 1#1) (R : sProp 𝕄) :
    Runs c iprop(Kernel.mix 0 (INp c sideV xH (ib b)) (IN c sideV xH b.val) ∗ R) (Kernel.fetchV b h) ⟨⟩ iprop(Kernel.mix 8 (INp c sideV xH (ib b)) (IN c sideV xH b.val) ∗ R) := by
  have hb : (ib b).val + 1 < 9 := (cond3_iff b).1 h
  unfold Kernel.fetchV
  refine Runs.bind (Runs.mix 0 (Runs.prefetch (ib b) hb 0 (semV b).1 (slotV b).1 (k0_off47_eq b) R)) ?_
  refine Runs.bind (Runs.mix 1 (Runs.prefetch (ib b) hb 1 (semV b).2.1 (slotV b).2.1 (k0_off50_eq b) R)) ?_
  refine Runs.bind (Runs.mix 2 (Runs.prefetch (ib b) hb 2 (semV b).2.2.1 (slotV b).2.2.1 (k0_off53_eq b) R)) ?_
  refine Runs.bind (Runs.mix 3 (Runs.prefetch (ib b) hb 3 (semV b).2.2.2.1 (slotV b).2.2.2.1 (k0_off56_eq b) R)) ?_
  refine Runs.bind (Runs.mix 4 (Runs.prefetch (ib b) hb 4 (semV b).2.2.2.2.1 (slotV b).2.2.2.2.1 (k0_off59_eq b) R)) ?_
  refine Runs.bind (Runs.mix 5 (Runs.prefetch (ib b) hb 5 (semV b).2.2.2.2.2.1 (slotV b).2.2.2.2.2.1 (k0_off62_eq b) R)) ?_
  refine Runs.bind (Runs.mix 6 (Runs.prefetch (ib b) hb 6 (semV b).2.2.2.2.2.2.1 (slotV b).2.2.2.2.2.2.1 (k0_off65_eq b) R)) ?_
  exact (Runs.mix 7 (Runs.prefetch (ib b) hb 7 (semV b).2.2.2.2.2.2.2 (slotV b).2.2.2.2.2.2.2 (k0_off68_eq b) R))

theorem fetched (σ : Side) (hb : ¬ b.val + 1 < 9) : bigSep Finset.univ (IN c σ xH b.val) = (bigSep Finset.univ (INp c σ xH (ib b)) : sProp 𝕄) :=
  bigSep_congr fun k _ => INp_last (ib b) hb k

end

end Cert.Proof.Kernel

end
-- ==== Proof.K.Whole.lean ====
/- What a block of keys and a block of values become. -/
module

public import proofs.«01_k».proof.Proof.K.Model

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

theorem trips2 : k0_t2_loop.trips = 32 := by decide +kernel

/-! ## The angles of a block's positions -/

section
variable (v : Elt F .i32) (fr : S1x128.Idx → Elt F .f32)
abbrev tq (r : Fin 1024) : Fin k0_t2_loop.trips := ⟨r.val / 32, by rw [trips2]; omega⟩
def cosM : S1024x128.Idx → Elt F .f32 := fun i => k0_pay1381 v (tq (i 0)) fr (ix2 ⟨(i 0).val % 32, by omega⟩ (i 1))
def sinM : S1024x128.Idx → Elt F .f32 := fun i => k0_pay1382 v (tq (i 0)) fr (ix2 ⟨(i 0).val % 32, by omega⟩ (i 1))
end

/-! ## What the largest magnitudes of the keys give -/

section
variable (A : FVec F S8x128 .f32 × Acc F)
def heads : IVec S8x128 32 := iota .tc S8x128 32 [0] iota_S8x128_d0_w32
def kMax : FVec F S8x128 .f32 := k0_pay1389 A.2.2.2.1 A.2.2.2.2 heads (k0_pay1386 A.2.1) (k0_pay1387 A.2.2.1)
def kQ0 : FVec F S8x128 .f32 := k0_pay1392 A.1 (kMax A) (k0_pay1390 heads) (k0_pay1391 A.2.2.2.2)
def kQ1 : IVec S8x128 32 := k0_pay1393 A.1 (kMax A) (k0_pay1390 heads) (k0_pay1391 A.2.2.2.2)
def kQ2 : IVec S8x128 32 := k0_pay1394 A.1 (kMax A) (k0_pay1390 heads) (k0_pay1391 A.2.2.2.2)
def kQ3 : FVec F S8x128 .f32 := k0_pay1395 A.1 (kMax A) (k0_pay1390 heads) (k0_pay1391 A.2.2.2.2)
def kSc : FVec F S8x128 .f32 := k0_pay1397 (kQ0 A) (kQ1 A) (kQ2 A) (kQ3 A)
def kIn : FVec F S8x128 .f32 := k0_pay1398 (kQ0 A) (kQ1 A) (kQ2 A) (kQ3 A)
def kRw : FVec F S1x8x128 .f32 := k0_pay1399 (kQ0 A) (kQ1 A) (kQ2 A) (kQ3 A)
def kL : Acc F := (k0_pay1401 (kSc A), k0_pay1402 (kSc A), k0_pay1403 (kSc A), k0_pay1404 (kSc A))
end

/-! ## What the largest magnitudes of the values give -/

section
variable (A : Acc F)
def vQ0 : FVec F S8x128 .f32 := k0_pay1414 A.2.2.2 heads (k0_pay1412 A.1 A.2.1 A.2.2.1) (k0_pay1413 A.2.2.1)
def vQ1 : IVec S8x128 32 := k0_pay1415 A.2.2.2 heads (k0_pay1412 A.1 A.2.1 A.2.2.1) (k0_pay1413 A.2.2.1)
def vE : IVec S8x128 32 := k0_pay1416 (vQ0 A) (vQ1 A) 32#32
def vIn : FVec F S8x128 .f32 := k0_pay1419 (vE A) 0#32
def vRw : FVec F S1x8x128 .f32 := k0_pay1420 (vE A) 0#32
def vL : Acc F := (k0_pay1422 (vE A) 0#32, k0_pay1423 (vE A) 0#32, k0_pay1424 (vE A) 0#32, k0_pay1434 (k0_pay1425 (vE A) 0#32))
end

/-! ## The results -/

section
variable (low even : IVec S1x128 1) (pf : FVec F S256x256 .f32) (p : FVec F S256x256 .bf16) (z : Acc F)
  (st : S9.Idx → Elt F .i32) (fr : S1x128.Idx → Elt F .f32) (xK xV : (S3 9).Idx → Elt F .bf16)

abbrev cosB (b : Fin 9) : S1024x128.Idx → Elt F .f32 := cosM (st (ix1 b)) fr
abbrev sinB (b : Fin 9) : S1024x128.Idx → Elt F .f32 := sinM (st (ix1 b)) fr
def kA (b : Fin 9) : FVec F S8x128 .f32 × Acc F :=
  (List.finRange 8).foldl (fun a k => cStep low even p xK b (cosB st fr b) (sinB st fr b) k a) (k0_pay1383, z)
def koB (b : Fin 9) : S32768x128.Idx → Elt F .fp8e4m3 :=
  koM low even p xK b (cosB st fr b) (sinB st fr b) (kIn (kA low even p z st fr xK b)) (kL (kA low even p z st fr xK b)) (k0_pay1405 pf (kIn (kA low even p z st fr xK b)))
/-- The keys. -/
def kcG : (S3 9).Idx → Elt F .fp8e4m3 := fun j => koB low even pf p z st fr xK (j 0) (ix2 (j 1) (j 2))
/-- Their scales. -/
def ksG : S9x8x128.Idx → Elt F .f32 := fun j => kRw (kA low even p z st fr xK (j 0)) (ix3 0 (j 1) (j 2))

def vA (b : Fin 9) : Acc F := (List.finRange 8).foldl (fun a k => vStep xV b k a) z
def voB (b : Fin 9) : S32768x128.Idx → Elt F .fp8e4m3 := voM xV b (vL (vA z xV b)) (k0_pay1435 pf (vIn (vA z xV b)))
/-- The values. -/
def vcG : (S3 9).Idx → Elt F .fp8e4m3 := fun j => voB pf z xV (j 0) (ix2 (j 1) (j 2))
/-- Their scales. -/
def vsG : S9x8x128.Idx → Elt F .f32 := fun j => vRw (vA z xV (j 0)) (ix3 0 (j 1) (j 2))
end

end Cert.Proof.Kernel

end
-- ==== Proof.K.State.lean ====
/- What a block's work leaves alone. -/
module

public import proofs.«01_k».proof.Proof.K.Fetch
public import proofs.«01_k».proof.Proof.K.Whole

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

/-- All that the work on the blocks owns. -/
def Held (ik ww tc ts ty tn a0 a1 a5 a7 iv ok ov : sProp 𝕄) : sProp 𝕄 := iprop(ik ∗ ww ∗ tc ∗ ts ∗ ty ∗ tn ∗ a0 ∗ a1 ∗ a5 ∗ a7 ∗ iv ∗ ok ∗ ov)

theorem Runs.onIk {α : Type} {q : PR F α} {a : α} {ik ww tc ts ty tn a0 a1 a5 a7 iv ok ov ik' : sProp 𝕄} (h : Runs c ik q a ik') :
    Runs c (Held ik ww tc ts ty tn a0 a1 a5 a7 iv ok ov) q a (Held ik' ww tc ts ty tn a0 a1 a5 a7 iv ok ov) :=
  Runs.via h iprop(ww ∗ tc ∗ ts ∗ ty ∗ tn ∗ a0 ∗ a1 ∗ a5 ∗ a7 ∗ iv ∗ ok ∗ ov) (by unfold Held; ac_rfl) (by unfold Held; ac_rfl)

theorem Runs.onA0 {α : Type} {q : PR F α} {a : α} {ik ww tc ts ty tn a0 a1 a5 a7 iv ok ov a0' : sProp 𝕄} (h : Runs c a0 q a a0') :
    Runs c (Held ik ww tc ts ty tn a0 a1 a5 a7 iv ok ov) q a (Held ik ww tc ts ty tn a0' a1 a5 a7 iv ok ov) :=
  Runs.via h iprop(ik ∗ ww ∗ tc ∗ ts ∗ ty ∗ tn ∗ a1 ∗ a5 ∗ a7 ∗ iv ∗ ok ∗ ov) (by unfold Held; ac_rfl) (by unfold Held; ac_rfl)

theorem Runs.onTab {α : Type} {q : PR F α} {a : α} {ik ww tc ts ty tn a0 a1 a5 a7 iv ok ov tc' ts' a1' : sProp 𝕄} (h : Runs c iprop(tc ∗ ts ∗ a1) q a iprop(tc' ∗ ts' ∗ a1')) :
    Runs c (Held ik ww tc ts ty tn a0 a1 a5 a7 iv ok ov) q a (Held ik ww tc' ts' ty tn a0 a1' a5 a7 iv ok ov) :=
  Runs.via h iprop(ik ∗ ww ∗ ty ∗ tn ∗ a0 ∗ a5 ∗ a7 ∗ iv ∗ ok ∗ ov) (by unfold Held; ac_rfl) (by unfold Held; ac_rfl)

theorem Runs.onK {α : Type} {q : PR F α} {a : α} {ik ww tc ts ty tn a0 a1 a5 a7 iv ok ov ik' ww' tc' ts' ty' tn' : sProp 𝕄} (h : Runs c iprop(ik ∗ ww ∗ tc ∗ ts ∗ ty ∗ tn) q a iprop(ik' ∗ ww' ∗ tc' ∗ ts' ∗ ty' ∗ tn')) :
    Runs c (Held ik ww tc ts ty tn a0 a1 a5 a7 iv ok ov) q a (Held ik' ww' tc' ts' ty' tn' a0 a1 a5 a7 iv ok ov) :=
  Runs.via h iprop(a0 ∗ a1 ∗ a5 ∗ a7 ∗ iv ∗ ok ∗ ov) (by unfold Held; ac_rfl) (by unfold Held; ac_rfl)

theorem Runs.onA5 {α : Type} {q : PR F α} {a : α} {ik ww tc ts ty tn a0 a1 a5 a7 iv ok ov a5' : sProp 𝕄} (h : Runs c a5 q a a5') :
    Runs c (Held ik ww tc ts ty tn a0 a1 a5 a7 iv ok ov) q a (Held ik ww tc ts ty tn a0 a1 a5' a7 iv ok ov) :=
  Runs.via h iprop(ik ∗ ww ∗ tc ∗ ts ∗ ty ∗ tn ∗ a0 ∗ a1 ∗ a7 ∗ iv ∗ ok ∗ ov) (by unfold Held; ac_rfl) (by unfold Held; ac_rfl)

theorem Runs.onQ {α : Type} {q : PR F α} {a : α} {ik ww tc ts ty tn a0 a1 a5 a7 iv ok ov ok' ww' tn' ty' : sProp 𝕄} (h : Runs c iprop(ok ∗ ww ∗ tn ∗ ty) q a iprop(ok' ∗ ww' ∗ tn' ∗ ty')) :
    Runs c (Held ik ww tc ts ty tn a0 a1 a5 a7 iv ok ov) q a (Held ik ww' tc ts ty' tn' a0 a1 a5 a7 iv ok' ov) :=
  Runs.via h iprop(ik ∗ tc ∗ ts ∗ a0 ∗ a1 ∗ a5 ∗ a7 ∗ iv ∗ ov) (by unfold Held; ac_rfl) (by unfold Held; ac_rfl)

theorem Runs.onIv {α : Type} {q : PR F α} {a : α} {ik ww tc ts ty tn a0 a1 a5 a7 iv ok ov iv' : sProp 𝕄} (h : Runs c iv q a iv') :
    Runs c (Held ik ww tc ts ty tn a0 a1 a5 a7 iv ok ov) q a (Held ik ww tc ts ty tn a0 a1 a5 a7 iv' ok ov) :=
  Runs.via h iprop(ik ∗ ww ∗ tc ∗ ts ∗ ty ∗ tn ∗ a0 ∗ a1 ∗ a5 ∗ a7 ∗ ok ∗ ov) (by unfold Held; ac_rfl) (by unfold Held; ac_rfl)

theorem Runs.onV {α : Type} {q : PR F α} {a : α} {ik ww tc ts ty tn a0 a1 a5 a7 iv ok ov iv' ww' : sProp 𝕄} (h : Runs c iprop(iv ∗ ww) q a iprop(iv' ∗ ww')) :
    Runs c (Held ik ww tc ts ty tn a0 a1 a5 a7 iv ok ov) q a (Held ik ww' tc ts ty tn a0 a1 a5 a7 iv' ok ov) :=
  Runs.via h iprop(ik ∗ tc ∗ ts ∗ ty ∗ tn ∗ a0 ∗ a1 ∗ a5 ∗ a7 ∗ ok ∗ ov) (by unfold Held; ac_rfl) (by unfold Held; ac_rfl)

theorem Runs.onA7 {α : Type} {q : PR F α} {a : α} {ik ww tc ts ty tn a0 a1 a5 a7 iv ok ov a7' : sProp 𝕄} (h : Runs c a7 q a a7') :
    Runs c (Held ik ww tc ts ty tn a0 a1 a5 a7 iv ok ov) q a (Held ik ww tc ts ty tn a0 a1 a5 a7' iv ok ov) :=
  Runs.via h iprop(ik ∗ ww ∗ tc ∗ ts ∗ ty ∗ tn ∗ a0 ∗ a1 ∗ a5 ∗ iv ∗ ok ∗ ov) (by unfold Held; ac_rfl) (by unfold Held; ac_rfl)

theorem Runs.onW {α : Type} {q : PR F α} {a : α} {ik ww tc ts ty tn a0 a1 a5 a7 iv ok ov ov' iv' ww' : sProp 𝕄} (h : Runs c iprop(ov ∗ iv ∗ ww) q a iprop(ov' ∗ iv' ∗ ww')) :
    Runs c (Held ik ww tc ts ty tn a0 a1 a5 a7 iv ok ov) q a (Held ik ww' tc ts ty tn a0 a1 a5 a7 iv' ok ov') :=
  Runs.via h iprop(ik ∗ tc ∗ ts ∗ ty ∗ tn ∗ a0 ∗ a1 ∗ a5 ∗ a7 ∗ ok) (by unfold Held; ac_rfl) (by unfold Held; ac_rfl)

theorem Held_mono {ik ww tc ts ty tn a0 a1 a5 a7 iv ok ov ik' tc' ts' ty' tn' a5' a7' iv' ok' ov' : sProp 𝕄} (h1 : ik ⊢ ik') (h2 : tc ⊢ tc') (h3 : ts ⊢ ts') (h4 : ty ⊢ ty') (h5 : tn ⊢ tn')
    (h6 : a5 ⊢ a5') (h7 : a7 ⊢ a7') (h8 : iv ⊢ iv') (h9 : ok ⊢ ok') (h10 : ov ⊢ ov') : Held ik ww tc ts ty tn a0 a1 a5 a7 iv ok ov ⊢ Held ik' ww tc' ts' ty' tn' a0 a1 a5' a7' iv' ok' ov' :=
  BIClass.sep_mono h1 (BIClass.sep_mono .rfl (BIClass.sep_mono h2 (BIClass.sep_mono h3 (BIClass.sep_mono h4 (BIClass.sep_mono h5 (BIClass.sep_mono .rfl (BIClass.sep_mono .rfl (BIClass.sep_mono h6 (BIClass.sep_mono h7 (BIClass.sep_mono h8 (BIClass.sep_mono h9 h10)))))))))))

/-! ## Scalars, tables and rows of scales -/

theorem Runs.smem {s : Shape} {e : EltTy} {M : Memref sig .tc .smem s e} {x : s.Idx → Elt F e} {r : Rect s} (h1 : r.shape.numel = 1) (hp) (i : s.Idx) (hi : ∀ z, r.emb z = i) :
    Runs c (ptOn c M Finset.univ x) (smemLoad M r h1 hp) (x i) (ptOn c M Finset.univ x) := fun Q => by
  have hs : M.view.setOn r.toLoadRect.set ⊆ M.view.setOn Finset.univ := Finset.map_subset_map.2 (Finset.subset_univ _)
  unfold ptOn smemLoad
  iintro ⟨HP, HQ⟩
  iapply (wp_load 𝒱₀ (c : Thread nD τ) none Set.univ hs) $$ HP
  iintro HP
  rw [show (M.view.readAt (Elt F) r.toLoadRect (M.view.rep x)) = fun _ => x i from (View.readAt_rep _ _ _).trans (funext fun z => congrArg x (hi z))]
  rw [wp_ret]
  imodintro
  iapply HQ $$ HP

section
variable (arg1 : Memref sig .tc .vmem S1x128 .f32)
def stepA2 (v : Elt F .i32) (t : Fin k0_t2_loop.trips) : PR F Unit := do
  let fr ← ld arg1 (Rect.unit (s := S1x128) ![0, 0] S1x128.size inb_S1x128_S1x128_0_0) (View.loadsAt_vmem h_S1x128)
  upd cB (Rect.unit (s := S1024x128) (k0_off26 t) S32x128.size (k0_off26_inb t)) (k0_pay1381 v t fr) (View.loadsAt_vmem h_S32x128) (View.stores_vmem_bits_univ h_S32x128 rfl)
  upd sB (Rect.unit (s := S1024x128) (k0_off26 t) S32x128.size (k0_off26_inb t)) (k0_pay1382 v t fr) (View.loadsAt_vmem h_S32x128) (View.stores_vmem_bits_univ h_S32x128 rfl)
  pure ⟨⟩

theorem table_at (f : Elt F .i32 → Fin k0_t2_loop.trips → Vec F S1x128 .f32 → FVec F S32x128 .f32) (v : Elt F .i32) (fr : S1x128.Idx → Elt F .f32) (t : Fin k0_t2_loop.trips) (y : Fin 32) (d : Fin 128) (r : Fin 1024) (hr : r.val = 32 * t.val + y.val) :
    f v (tq r) fr (ix2 ⟨r.val % 32, by omega⟩ d) = f v t fr (ix2 y d) := by
  obtain ⟨t, ht⟩ := t; obtain ⟨y, hy⟩ := y; obtain ⟨r, hr'⟩ := r
  obtain rfl : r = 32 * t + y := hr
  have h0 : (32 * t + y) / 32 = t := by omega
  have h1 : (32 * t + y) % 32 = y := by omega
  have h2 : tq ⟨32 * t + y, hr'⟩ = ⟨t, ht⟩ := Fin.ext h0
  simp only [h1, h2]

theorem Runs.pass2 (v : Elt F .i32) (fr : S1x128.Idx → Elt F .f32) {body : Fin k0_t2_loop.trips → Unit → PR F Unit} (hbody : ∀ t u, body t u = stepA2 arg1 v t) :
    Runs c iprop((∃ x, ptOn c cB Finset.univ x) ∗ (∃ x, ptOn c sB Finset.univ x) ∗ known c arg1 Finset.univ (rowP fun _ => True) fr)
      (Scf.Loop.for k0_t2_loop k0_t2_ok ⟨⟩ body) ((List.finRange k0_t2_loop.trips).foldl (fun _ _ => ⟨⟩) ⟨⟩)
      iprop(kC c (cosM v fr) ∗ kS c (sinM v fr) ∗ known c arg1 Finset.univ (rowP fun _ => True) fr) := by
  refine (Runs.for (c := c) k0_t2_loop k0_t2_ok (I := fun t => iprop(known c cB Finset.univ (rowP fun r => r < 32 * t) (cosM v fr) ∗ known c sB Finset.univ (rowP fun r => r < 32 * t) (sinM v fr) ∗ known c arg1 Finset.univ (rowP fun _ => True) fr))
    (p := body) (fun t u => ?_) ⟨⟩).conseq (BIClass.sep_mono (known_none fun i hi => absurd hi (by show ¬ (i 0).val < 32 * 0; omega)) (BIClass.sep_mono (known_none fun i hi => absurd hi (by show ¬ (i 0).val < 32 * 0; omega)) .rfl)) ?_
  · rw [hbody]
    unfold stepA2
    refine Runs.bind ((Runs.get2 (q := 0) (v := fr) rfl (fun i _ _ => Finset.mem_univ _) (fun _ _ _ => trivial) (fun y d r hr => congrArg fr (congrArg (fun z => ix2 z d) (Fin.ext (by rw [hr, Nat.zero_add])))) ).skip.skip) ?_
    refine Runs.bind ((Runs.put2 (D2' := fun r => r < 32 * (t.val + 1)) (k0_off26_eq t) (fun i _ _ => Finset.mem_univ _) (fun r hr => by omega) fun y d r hr => ?_).frame _) ?_
    · exact table_at k0_pay1381 v fr t y d r hr
    refine Runs.bind (((Runs.put2 (D2' := fun r => r < 32 * (t.val + 1)) (k0_off26_eq t) (fun i _ _ => Finset.mem_univ _) (fun r hr => by omega) fun y d r hr => ?_).frame _).skip) ?_
    · exact table_at k0_pay1382 v fr t y d r hr
    exact Runs.pure _ _
  · rw [trips2]
    have hlt : ∀ i : S1024x128.Idx, (i 0).val < 32 * 32 := fun i => (i 0).isLt
    exact BIClass.sep_mono (known_mono fun i _ => hlt i) (BIClass.sep_mono (known_mono fun i _ => hlt i) .rfl)
end

def putRow (M : Memref sig .tc .vmem S9x8x128 .f32) (b : Fin k0_t1_loop.trips) (x : FVec F S1x8x128 .f32) : PR F PUnit :=
  upd M (Rect.unit (s := S9x8x128) (k0_off35 b) S1x8x128.size (k0_off35_inb b)) x (View.loadsAt_vmem h_S1x8x128) (View.stores_vmem_bits_univ h_S1x8x128 rfl)

abbrev doneRows (n : ℕ) : S9x8x128.Idx → Prop := fun i => (i 0).val < n

theorem Runs.rowAt {M : Memref sig .tc .vmem S9x8x128 .f32} (b : Fin 9) {o : Fin 3 → ℕ} (eo : o = ![b.val, 0, 0]) {inb : ∀ a, o a + S1x8x128.size a ≤ S9x8x128.size a}
    {h : M.view.LoadsAt (Rect.unit (s := S9x8x128) o S1x8x128.size inb).toLoadRect} {h' : (M.access (Rect.unit (s := S9x8x128) o S1x8x128.size inb)).Stores Finset.univ}
    (G : S9x8x128.Idx → Elt F .f32) (x : FVec F S1x8x128 .f32) (hx : ∀ z, x z = G (ix3 b (z 1) (z 2))) :
    Runs c (known c M Finset.univ (doneRows b.val) G) (Kernel.upd M (Rect.unit (s := S9x8x128) o S1x8x128.size inb) x h h') ⟨⟩ (known c M Finset.univ (doneRows (b.val + 1)) G) := by
  subst eo
  refine Runs.put (Finset.subset_univ _) (fun z => (hx z).trans (congrArg G (funext fun a => Fin.ext ?_))) fun i hi => ?_
  · match a with
    | ⟨0, _⟩ => show b.val = b.val + 1 * (z 0).val; have : (z 0).val < 1 := (z 0).isLt; omega
    | ⟨1, _⟩ => show (z 1).val = 0 + 1 * (z 1).val; omega
    | ⟨2, _⟩ => show (z 2).val = 0 + 1 * (z 2).val; omega
  · by_cases h : (i 0).val < b.val
    · exact .inl h
    · refine .inr fun a => ?_
      have hi' : (i 0).val < b.val + 1 := hi
      match a with
      | ⟨0, _⟩ => show b.val ≤ (i 0).val ∧ (i 0).val < b.val + 1; omega
      | ⟨1, _⟩ => show 0 ≤ (i 1).val ∧ (i 1).val < 0 + 8; have : (i 1).val < 8 := (i 1).isLt; omega
      | ⟨2, _⟩ => show 0 ≤ (i 2).val ∧ (i 2).val < 0 + 128; have : (i 2).val < 128 := (i 2).isLt; omega

theorem Runs.row (M : Memref sig .tc .vmem S9x8x128 .f32) (b : Fin k0_t1_loop.trips) (G : S9x8x128.Idx → Elt F .f32) (x : FVec F S1x8x128 .f32)
    (hx : ∀ z, x z = G (ix3 (ib b) (z 1) (z 2))) :
    Runs c (known c M Finset.univ (doneRows b.val) G) (putRow M b x) ⟨⟩ (known c M Finset.univ (doneRows (b.val + 1)) G) :=
  Runs.rowAt (ib b) (k0_off35_eq b) G x hx

end Cert.Proof.Kernel

end
-- ==== Proof.K.Body.lean ====
/- One block of keys and one of values. -/
module

public import proofs.«01_k».proof.Proof.K.State
public import proofs.«01_k».proof.Proof.K.Shape3
public import proofs.«01_k».proof.Proof.K.Shape4
public import proofs.«01_k».proof.Proof.K.Shape56

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

/-! ## The parts of a block's work -/

section
variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)
  (low even : IVec S1x128 1) (pf : FVec F S256x256 .f32) (p : FVec F S256x256 .bf16) (z1 z2 z3 z4 : FVec F S16x128 .bf16) (w1 w2 : BitVec 32) (b : Fin k0_t1_loop.trips)

def keys1 : PR F (Σ' (arg18 : BitVec 32) (v209 : BitVec 32) (v226_0 : FVec F S8x128 .f32) (v226_3 : FVec F S16x128 .bf16) (v226_4 : FVec F S16x128 .bf16) (v227 : IVec S8x128 32) (v245 : FVec F S8x128 .f32), FVec F S16x128 .f32) := do
  let v ← smemLoad arg0 (Rect.unit (s := S9) (k0_off25 b) S1.size (k0_off25_inb b)) numel1_S1 rfl
  Scf.Loop.for k0_t2_loop k0_t2_ok ⟨⟩ (k0_t2_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b v)
  let a ← Scf.Loop.for k0_t3_loop k0_t3_ok (k0_pay1383, z1, z2, z3, z4) (k0_t3_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b (Scalar.andi (Scf.iv w1 w2 b) 1#32))
  pure ⟨Scf.iv w1 w2 b, Scalar.andi (Scf.iv w1 w2 b) 1#32, a.1, a.2.2.2.1, a.2.2.2.2, heads, k0_pay1386 a.2.1, k0_pay1387 a.2.2.1⟩

theorem p136_pos (h : k0_cond1 b = 1#1) : k0_part136 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b = (fetchK b h >>= fun _ => keys1 arg0 harg0 arg1 harg1 arg5 harg5 arg7 harg7 low even p z1 z2 z3 z4 w1 w2 b) := by
  rw [k0_part136_eq_skeleton]
  unfold k0_part136_skel
  rw [k0_part1_eq_skeleton]
  unfold k0_part1_skel
  simp only [dif_pos h]
  rfl

theorem p136_neg (h : ¬ k0_cond1 b = 1#1) : k0_part136 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b = keys1 arg0 harg0 arg1 harg1 arg5 harg5 arg7 harg7 low even p z1 z2 z3 z4 w1 w2 b := by
  rw [k0_part136_eq_skeleton]
  unfold k0_part136_skel
  simp only [dif_neg h]
  rfl

variable (sc iv : FVec F S8x128 .f32) (w0 w3 : BitVec 32)
def keys2 : PR F PUnit :=
  Scf.Loop.for k0_t4_loop k0_t4_ok ⟨⟩ (k0_t4_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 sc iv)

theorem p140_pos (h : k0_cond3 b = 1#1) : k0_part140 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 sc iv = (keys2 arg0 harg0 arg1 harg1 arg5 harg5 arg7 harg7 low even pf b sc iv w0 w3 >>= fun _ => fetchV b h >>= fun _ => pure ⟨0#32, 1#32⟩) := by
  rw [k0_part140_eq_skeleton]
  unfold k0_part140_skel
  rw [k0_part117_eq_skeleton]
  unfold k0_part117_skel
  simp only [dif_pos h]
  rfl

theorem p140_neg (h : ¬ k0_cond3 b = 1#1) : k0_part140 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 sc iv = (keys2 arg0 harg0 arg1 harg1 arg5 harg5 arg7 harg7 low even pf b sc iv w0 w3 >>= fun _ => pure ⟨0#32, 1#32⟩) := by
  rw [k0_part140_eq_skeleton]
  unfold k0_part140_skel
  simp only [dif_neg h]
  rfl

theorem t2_eq (v : Elt F .i32) (t : Fin k0_t2_loop.trips) (u : Unit) : k0_t2_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b v t u = stepA2 arg1 v t := rfl

theorem t4_split (k : Fin k0_t4_loop.trips) (u : PUnit.{1}) : k0_t4_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 sc iv k u
    = (k0_part116 arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even b w0 iv (k0_pay1401 sc) (k0_pay1402 sc) (k0_pay1403 sc) (k0_pay1404 sc) (k0_pay1405 pf iv) 0#32 1#32 k >>= fun _ => startKO b k) := rfl
end

section
variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)
  (low even : IVec S1x128 1) (pf : FVec F S256x256 .f32) (p : FVec F S256x256 .bf16) (z1 z2 z3 z4 : FVec F S16x128 .bf16) (w0 w1 w2 w3 : BitVec 32) (b : Fin k0_t1_loop.trips)

theorem p139 (q0 : FVec F S8x128 .f32) (q1 q2 : IVec S8x128 32) (q3 : FVec F S8x128 .f32) :
    k0_part139 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 b w0 q0 q1 q2 q3 = (putRow arg5 b (k0_pay1399 q0 q1 q2 q3) >>= fun _ => pure ⟨k0_pay1397 q0 q1 q2 q3, k0_pay1398 q0 q1 q2 q3⟩) := by
  rw [k0_part139_eq_skeleton]
  rfl

theorem p141 : k0_part141 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 z1 z2 z3 z4 b w1 w2 w3
    = (Scf.Loop.for k0_t5_loop k0_t5_ok (z1, z2, z3, z4) (k0_t5_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 z1 z2 z3 z4 b w1 w2 w3)
      >>= fun a => pure ⟨a.2.2.2, heads, k0_pay1412 a.1 a.2.1 a.2.2.1, k0_pay1413 a.2.2.1⟩) := by
  rw [k0_part141_eq_skeleton]
  rfl

theorem p144 (e : IVec S8x128 32) :
    k0_part144 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 b w0 e w1 = (putRow arg7 b (k0_pay1420 (F := F) e w1) >>= fun _ => pure ⟨k0_pay1419 (F := F) e w1, k0_pay1422 (F := F) e w1, k0_pay1423 (F := F) e w1, k0_pay1424 (F := F) e w1, k0_pay1425 (F := F) e w1⟩) := by
  rw [k0_part144_eq_skeleton]
  rfl
end

/-! ## Their effect -/

section
variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)
  (low even : IVec S1x128 1) (pf : FVec F S256x256 .f32) (p : FVec F S256x256 .bf16) (z1 z2 z3 z4 : FVec F S16x128 .bf16) (b : Fin k0_t1_loop.trips)
  (st : S9.Idx → Elt F .i32) (fr : S1x128.Idx → Elt F .f32) (xK xV : (S3 9).Idx → Elt F .bf16)

section
variable (c)
abbrev anyB {s : Shape} {e : EltTy} (M : Memref sig .tc .vmem s e) : sProp 𝕄 := iprop(∃ x, ptOn c M Finset.univ x)
abbrev frB : sProp 𝕄 := known c arg1 Finset.univ (rowP fun _ => True) fr
abbrev insK (n : ℕ) : sProp 𝕄 := bigSep Finset.univ (IN c sideK xK n)
abbrev insV (n : ℕ) : sProp 𝕄 := bigSep Finset.univ (IN c sideV xV n)
abbrev outsK (n : ℕ) : sProp 𝕄 := bigSep Finset.univ (OUT c sideK (kcG low even pf p ((z1, z2, z3, z4) : Acc F) st fr xK) n)
abbrev outsV (n : ℕ) : sProp 𝕄 := bigSep Finset.univ (OUT c sideV (vcG pf ((z1, z2, z3, z4) : Acc F) xV) n)
abbrev rowsK (n : ℕ) : sProp 𝕄 := known c arg5 Finset.univ (doneRows n) (ksG low even p ((z1, z2, z3, z4) : Acc F) st fr xK)
abbrev rowsV (n : ℕ) : sProp 𝕄 := known c arg7 Finset.univ (doneRows n) (vsG ((z1, z2, z3, z4) : Acc F) xV)
/-- Before the block `n`. -/
def Before (n : ℕ) : sProp 𝕄 :=
  Held (insK c xK n) (ow F c) (anyB c cB) (anyB c sB) (anyB c yB) (anyB c nB) (ptOn c arg0 Finset.univ st) (frB c arg1 fr)
    (rowsK c arg5 low even p z1 z2 z3 z4 st fr xK n) (rowsV c arg7 z1 z2 z3 z4 xV n) (insV c xV n) (outsK c low even pf p z1 z2 z3 z4 st fr xK n) (outsV c pf z1 z2 z3 z4 xV n)
end

theorem Runs.keys1 (w1 w2 : BitVec 32) {a5 a7 iv ok ov : sProp 𝕄} :
    Runs c (Held (bigSep Finset.univ (INp c sideK xK (ib b))) (ow F c) (anyB c cB) (anyB c sB) (anyB c yB) (anyB c nB) (ptOn c arg0 Finset.univ st) (frB c arg1 fr) a5 a7 iv ok ov)
      (Kernel.keys1 arg0 harg0 arg1 harg1 arg5 harg5 arg7 harg7 low even p z1 z2 z3 z4 w1 w2 b)
      ⟨Scf.iv w1 w2 b, Scalar.andi (Scf.iv w1 w2 b) 1#32, (kA low even p ((z1, z2, z3, z4) : Acc F) st fr xK (ib b)).1, (kA low even p ((z1, z2, z3, z4) : Acc F) st fr xK (ib b)).2.2.2.1, (kA low even p ((z1, z2, z3, z4) : Acc F) st fr xK (ib b)).2.2.2.2, heads,
        k0_pay1386 (kA low even p ((z1, z2, z3, z4) : Acc F) st fr xK (ib b)).2.1, k0_pay1387 (kA low even p ((z1, z2, z3, z4) : Acc F) st fr xK (ib b)).2.2.1⟩
      (Held (bigSep Finset.univ (INd c sideK xK (ib b))) (ow F c) (kC c (cosB st fr (ib b))) (kS c (sinB st fr (ib b))) (kY c low even p xK (cosB st fr (ib b)) (sinB st fr (ib b)) (ib b) (yD 32 0))
        (kN c low xK (ib b) (fun r => r < 16384)) (ptOn c arg0 Finset.univ st) (frB c arg1 fr) a5 a7 iv ok ov) := by
  unfold Kernel.keys1
  refine Runs.bind (Runs.onA0 (Runs.smem _ _ (ix1 (ib b)) fun z => ?_)) ?_
  · refine funext fun a => Fin.ext ?_
    match a with
    | ⟨0, _⟩ =>
      show k0_off25 b 0 + 1 * (z 0).val = b.val
      have h : (z 0).val < 1 := (z 0).isLt
      have e : k0_off25 b 0 = b.val := congrFun (k0_off25_eq b) 0
      omega
  refine Runs.bind (Runs.onTab (Runs.pass2 arg1 (st (ix1 (ib b))) fr (t2_eq arg0 harg0 arg1 harg1 arg5 harg5 arg7 harg7 low even p z1 z2 z3 z4 w1 w2 b (st (ix1 (ib b)))))) ?_
  refine Runs.bind (a := kA low even p ((z1, z2, z3, z4) : Acc F) st fr xK (ib b)) ((Runs.pass3 low even p xK (cosB st fr (ib b)) (sinB st fr (ib b)) b (k0_pay1383, ((z1, z2, z3, z4) : Acc F))
    (t3_eq arg0 harg0 arg1 harg1 arg5 harg5 arg7 harg7 low even p z1 z2 z3 z4 w1 w2 (Scalar.andi (Scf.iv w1 w2 b) 1#32) b)
    iprop(ptOn c arg0 Finset.univ st ∗ frB c arg1 fr ∗ a5 ∗ a7 ∗ iv ∗ ok ∗ ov)).conseq ?_ ?_) (Runs.pure _ _)
  · rw [mix_zero]
    refine BIClass.sep_mono .rfl (BIClass.sep_mono .rfl (BIClass.sep_mono .rfl (BIClass.sep_mono .rfl (BIClass.sep_mono (known_none fun i hi => ?_) (BIClass.sep_mono (known_none fun i hi => ?_) .rfl)))))
    · have h : yD 0 0 (i 0).val := hi
      unfold yD at h
      omega
    · have h : (i 0).val < 512 * 0 := hi
      omega
  · rw [mix_all]
    exact .rfl

theorem nextIns (σ : Side) (xH : (S3 9).Idx → Elt F .bf16) (n : Fin 9) : bigSep Finset.univ (INd c σ xH n) ⊢ (bigSep Finset.univ (IN c σ xH (n.val + 1)) : sProp 𝕄) :=
  bigSep_mono fun k _ => INd_next n k

theorem Runs.keys2 (A : FVec F S8x128 .f32 × Acc F) (hA : A = kA low even p ((z1, z2, z3, z4) : Acc F) st fr xK (ib b)) (w0 w3 : BitVec 32) {ik a0 a1 a5 a7 iv ov : sProp 𝕄} :
    Runs c (Held ik (ow F c) (kC c (cosB st fr (ib b))) (kS c (sinB st fr (ib b))) (kY c low even p xK (cosB st fr (ib b)) (sinB st fr (ib b)) (ib b) (yD 32 0))
        (kN c low xK (ib b) (fun r => r < 16384)) a0 a1 a5 a7 iv (outsK c low even pf p z1 z2 z3 z4 st fr xK b.val) ov)
      (Kernel.keys2 arg0 harg0 arg1 harg1 arg5 harg5 arg7 harg7 low even pf b (kSc A) (kIn A) w0 w3) ((List.finRange k0_t4_loop.trips).foldl (fun _ _ => ⟨⟩) ⟨⟩)
      (Held ik (ow F c) (kC c (cosB st fr (ib b))) (kS c (sinB st fr (ib b))) (kY c low even p xK (cosB st fr (ib b)) (sinB st fr (ib b)) (ib b) (yD 32 0))
        (kN c low xK (ib b) (fun r => r < 16384)) a0 a1 a5 a7 iv (outsK c low even pf p z1 z2 z3 z4 st fr xK (b.val + 1)) ov) := by
  subst hA
  unfold Kernel.keys2
  have h := Runs.pass4 (c := c) low even p xK (cosB st fr (ib b)) (sinB st fr (ib b)) (kIn (kA low even p ((z1, z2, z3, z4) : Acc F) st fr xK (ib b))) (kL (kA low even p ((z1, z2, z3, z4) : Acc F) st fr xK (ib b)))
    (k0_pay1405 pf (kIn (kA low even p ((z1, z2, z3, z4) : Acc F) st fr xK (ib b)))) (kcG low even pf p ((z1, z2, z3, z4) : Acc F) st fr xK) b
    (fun i => congrArg _ (funext fun a => match a with | ⟨0, _⟩ => rfl | ⟨1, _⟩ => rfl))
    (body := k0_t4_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 (kSc (kA low even p ((z1, z2, z3, z4) : Acc F) st fr xK (ib b))) (kIn (kA low even p ((z1, z2, z3, z4) : Acc F) st fr xK (ib b))))
    (fun k hk u => by
      rw [t4_split, t4_pos _ _ _ _ _ _ _ _ low even w0 0#32 1#32 0#32 _ _ _ _ _ _ b k hk, bind_assoc]
      rfl)
    (fun k hk u => by
      rw [t4_split, t4_neg _ _ _ _ _ _ _ _ low even w0 0#32 1#32 0#32 _ _ _ _ _ _ b k hk]
      rfl)
    iprop(ik ∗ kC c (cosB st fr (ib b)) ∗ kS c (sinB st fr (ib b)) ∗ a0 ∗ a1 ∗ a5 ∗ a7 ∗ iv ∗ ov)
  rw [mix_zero, mix_all] at h
  refine h.conseq (entails_of_eq ?_) (entails_of_eq ?_)
  · unfold Held outsK; ac_rfl
  · unfold Held outsK; ac_rfl

theorem Runs.askK (h : k0_cond1 b = 1#1) {ww tc ts ty tn a0 a1 a5 a7 iv ok ov : sProp 𝕄} :
    Runs c (Held (insK c xK b.val) ww tc ts ty tn a0 a1 a5 a7 iv ok ov) (Kernel.fetchK b h) ⟨⟩ (Held (bigSep Finset.univ (INp c sideK xK (ib b))) ww tc ts ty tn a0 a1 a5 a7 iv ok ov) := by
  have h' := Runs.fetchK (c := c) xK b h iprop(ww ∗ tc ∗ ts ∗ ty ∗ tn ∗ a0 ∗ a1 ∗ a5 ∗ a7 ∗ iv ∗ ok ∗ ov)
  rw [mix_zero, mix_all] at h'
  exact h'

theorem Runs.askV (h : k0_cond3 b = 1#1) {ik ww tc ts ty tn a0 a1 a5 a7 ok ov : sProp 𝕄} :
    Runs c (Held ik ww tc ts ty tn a0 a1 a5 a7 (insV c xV b.val) ok ov) (Kernel.fetchV b h) ⟨⟩ (Held ik ww tc ts ty tn a0 a1 a5 a7 (bigSep Finset.univ (INp c sideV xV (ib b))) ok ov) := by
  have h' := Runs.fetchV (c := c) xV b h iprop(ik ∗ ww ∗ tc ∗ ts ∗ ty ∗ tn ∗ a0 ∗ a1 ∗ a5 ∗ a7 ∗ ok ∗ ov)
  rw [mix_zero, mix_all] at h'
  refine h'.conseq (entails_of_eq ?_) (entails_of_eq ?_)
  · unfold Held insV; ac_rfl
  · unfold Held; ac_rfl

theorem Runs.vals1 (w1 w2 w3 : BitVec 32) {ik tc ts ty tn a0 a1 a5 a7 ok ov : sProp 𝕄} :
    Runs c (Held ik (ow F c) tc ts ty tn a0 a1 a5 a7 (bigSep Finset.univ (INp c sideV xV (ib b))) ok ov)
      (Scf.Loop.for k0_t5_loop k0_t5_ok (z1, z2, z3, z4) (k0_t5_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 z1 z2 z3 z4 b w1 w2 w3)) (vA ((z1, z2, z3, z4) : Acc F) xV (ib b))
      (Held ik (ow F c) tc ts ty tn a0 a1 a5 a7 (bigSep Finset.univ (INd c sideV xV (ib b))) ok ov) := by
  have h := Runs.pass5 (c := c) xV b ((z1, z2, z3, z4) : Acc F) (t5_eq arg0 harg0 arg1 harg1 arg5 harg5 arg7 harg7 z1 z2 z3 z4 w1 w2 w3 b) iprop(ik ∗ tc ∗ ts ∗ ty ∗ tn ∗ a0 ∗ a1 ∗ a5 ∗ a7 ∗ ok ∗ ov)
  rw [mix_zero, mix_all] at h
  refine h.conseq (entails_of_eq ?_) (entails_of_eq ?_)
  · unfold Held; ac_rfl
  · unfold Held; ac_rfl

theorem Runs.vals2 (w0 : F .bf16) (w1 w2 : BitVec 32) (A : Acc F) (hA : A = vA ((z1, z2, z3, z4) : Acc F) xV (ib b)) {ik tc ts ty tn a0 a1 a5 a7 ok : sProp 𝕄} :
    Runs c (Held ik (ow F c) tc ts ty tn a0 a1 a5 a7 (bigSep Finset.univ (INd c sideV xV (ib b))) ok (outsV c pf z1 z2 z3 z4 xV b.val))
      (Scf.Loop.for k0_t6_loop k0_t6_ok ⟨⟩ (k0_t6_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf p z1 z2 w0 b w1 w2
        (k0_pay1419 (vE A) 0#32) (k0_pay1422 (vE A) 0#32) (k0_pay1423 (vE A) 0#32) (k0_pay1424 (vE A) 0#32) (k0_pay1425 (vE A) 0#32)))
      ((List.finRange k0_t6_loop.trips).foldl (fun _ _ => ⟨⟩) ⟨⟩)
      (Held ik (ow F c) tc ts ty tn a0 a1 a5 a7 (bigSep Finset.univ (INd c sideV xV (ib b))) ok (outsV c pf z1 z2 z3 z4 xV (b.val + 1))) := by
  subst hA
  have h := Runs.pass6 (c := c) xV (vL (vA ((z1, z2, z3, z4) : Acc F) xV (ib b))) (k0_pay1435 pf (vIn (vA ((z1, z2, z3, z4) : Acc F) xV (ib b)))) (vcG pf ((z1, z2, z3, z4) : Acc F) xV) b
    (fun i => congrArg _ (funext fun a => match a with | ⟨0, _⟩ => rfl | ⟨1, _⟩ => rfl))
    (body := k0_t6_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf p z1 z2 w0 b w1 w2
        (k0_pay1419 (vE (vA ((z1, z2, z3, z4) : Acc F) xV (ib b))) 0#32) (k0_pay1422 (vE (vA ((z1, z2, z3, z4) : Acc F) xV (ib b))) 0#32) (k0_pay1423 (vE (vA ((z1, z2, z3, z4) : Acc F) xV (ib b))) 0#32) (k0_pay1424 (vE (vA ((z1, z2, z3, z4) : Acc F) xV (ib b))) 0#32) (k0_pay1425 (vE (vA ((z1, z2, z3, z4) : Acc F) xV (ib b))) 0#32))
    (fun k hk u => t6_pos _ _ _ _ _ _ _ _ low even pf p z1 z2 w0 w1 w2 _ _ _ _ _ b k hk)
    (fun k hk u => t6_neg _ _ _ _ _ _ _ _ low even pf p z1 z2 w0 w1 w2 _ _ _ _ _ b k hk)
    iprop(ik ∗ tc ∗ ts ∗ ty ∗ tn ∗ a0 ∗ a1 ∗ a5 ∗ a7 ∗ ok)
  rw [mix_zero, mix_all] at h
  have e : ∀ n, (bigSep Finset.univ (fun k => iprop(OUT c sideV (vcG pf ((z1, z2, z3, z4) : Acc F) xV) n k ∗ INd c sideV xV (ib b) k)) : sProp 𝕄)
      = iprop(bigSep Finset.univ (OUT c sideV (vcG pf ((z1, z2, z3, z4) : Acc F) xV) n) ∗ bigSep Finset.univ (INd c sideV xV (ib b))) := fun n => bigSep_sep _ _ _
  rw [e, e] at h
  refine h.conseq (entails_of_eq ?_) (entails_of_eq ?_)
  · unfold Held outsV; ac_rfl
  · unfold Held outsV; ac_rfl

theorem Runs.p136 (w1 w2 : BitVec 32) {a5 a7 iv ok ov : sProp 𝕄} :
    Runs c (Held (insK c xK b.val) (ow F c) (anyB c cB) (anyB c sB) (anyB c yB) (anyB c nB) (ptOn c arg0 Finset.univ st) (frB c arg1 fr) a5 a7 iv ok ov)
      (k0_part136 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b)
      ⟨Scf.iv w1 w2 b, Scalar.andi (Scf.iv w1 w2 b) 1#32, (kA low even p ((z1, z2, z3, z4) : Acc F) st fr xK (ib b)).1, (kA low even p ((z1, z2, z3, z4) : Acc F) st fr xK (ib b)).2.2.2.1, (kA low even p ((z1, z2, z3, z4) : Acc F) st fr xK (ib b)).2.2.2.2, heads,
        k0_pay1386 (kA low even p ((z1, z2, z3, z4) : Acc F) st fr xK (ib b)).2.1, k0_pay1387 (kA low even p ((z1, z2, z3, z4) : Acc F) st fr xK (ib b)).2.2.1⟩
      (Held (bigSep Finset.univ (INd c sideK xK (ib b))) (ow F c) (kC c (cosB st fr (ib b))) (kS c (sinB st fr (ib b))) (kY c low even p xK (cosB st fr (ib b)) (sinB st fr (ib b)) (ib b) (yD 32 0))
        (kN c low xK (ib b) (fun r => r < 16384)) (ptOn c arg0 Finset.univ st) (frB c arg1 fr) a5 a7 iv ok ov) := by
  by_cases h : k0_cond1 b = 1#1
  · rw [p136_pos (h := h)]
    exact Runs.bind (Runs.askK b xK h) (Runs.keys1 arg0 harg0 arg1 harg1 arg5 harg5 arg7 harg7 low even p z1 z2 z3 z4 b st fr xK w1 w2)
  · rw [p136_neg (h := h)]
    rw [show insK c xK b.val = bigSep Finset.univ (INp c sideK xK (ib b)) from fetched xK b sideK (fun h' => h ((cond1_iff b).2 h'))]
    exact (Runs.keys1 arg0 harg0 arg1 harg1 arg5 harg5 arg7 harg7 low even p z1 z2 z3 z4 b st fr xK w1 w2)

theorem Runs.p140 (A : FVec F S8x128 .f32 × Acc F) (hA : A = kA low even p ((z1, z2, z3, z4) : Acc F) st fr xK (ib b)) (w0 w3 : BitVec 32) {ik a0 a1 a5 a7 ov : sProp 𝕄} :
    Runs c (Held ik (ow F c) (kC c (cosB st fr (ib b))) (kS c (sinB st fr (ib b))) (kY c low even p xK (cosB st fr (ib b)) (sinB st fr (ib b)) (ib b) (yD 32 0))
        (kN c low xK (ib b) (fun r => r < 16384)) a0 a1 a5 a7 (insV c xV b.val) (outsK c low even pf p z1 z2 z3 z4 st fr xK b.val) ov)
      (k0_part140 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 (kSc A) (kIn A)) ⟨0#32, 1#32⟩
      (Held ik (ow F c) (kC c (cosB st fr (ib b))) (kS c (sinB st fr (ib b))) (kY c low even p xK (cosB st fr (ib b)) (sinB st fr (ib b)) (ib b) (yD 32 0))
        (kN c low xK (ib b) (fun r => r < 16384)) a0 a1 a5 a7 (bigSep Finset.univ (INp c sideV xV (ib b))) (outsK c low even pf p z1 z2 z3 z4 st fr xK (b.val + 1)) ov) := by
  by_cases h : k0_cond3 b = 1#1
  · rw [p140_pos (h := h)]
    exact Runs.bind (Runs.keys2 arg0 harg0 arg1 harg1 arg5 harg5 arg7 harg7 low even pf p z1 z2 z3 z4 b st fr xK A hA w0 w3) (Runs.bind (Runs.askV b xV h) (Runs.pure _ _))
  · rw [p140_neg (h := h)]
    rw [show insV c xV b.val = bigSep Finset.univ (INp c sideV xV (ib b)) from fetched xV b sideV (fun h' => h ((cond3_iff b).2 h'))]
    exact Runs.bind (Runs.keys2 arg0 harg0 arg1 harg1 arg5 harg5 arg7 harg7 low even pf p z1 z2 z3 z4 b st fr xK A hA w0 w3) (Runs.pure _ _)

/-- A block. -/
theorem Runs.block (w0 : F .bf16) (h3 : z3 = k0_pay1432 w0) (h4 : z4 = k0_pay1433) :
    Runs c (Before c arg0 arg1 arg5 arg7 low even pf p z1 z2 z3 z4 st fr xK xV b.val)
      (k0_t1_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf p z1 z2 w0 b ⟨⟩) ⟨⟩
      (Before c arg0 arg1 arg5 arg7 low even pf p z1 z2 z3 z4 st fr xK xV (b.val + 1)) := by
  unfold k0_t1_body
  rw [← h3, ← h4]
  unfold Before
  refine Runs.bind (Runs.p136 arg0 harg0 arg1 harg1 arg5 harg5 arg7 harg7 low even p z1 z2 z3 z4 b st fr xK 0#32 1#32) ?_
  dsimp only
  generalize hA : kA low even p ((z1, z2, z3, z4) : Acc F) st fr xK (ib b) = A
  have hz : ∀ z : S1x8x128.Idx, z = ix3 0 (z 1) (z 2) := fun z => funext fun a => match a with
    | ⟨0, _⟩ => Fin.ext (by have h : (z 0).val < 1 := (z 0).isLt; show (z 0).val = 0; omega)
    | ⟨1, _⟩ => rfl
    | ⟨2, _⟩ => rfl
  have hK : ∀ z, kRw A z = ksG low even p ((z1, z2, z3, z4) : Acc F) st fr xK (ix3 (ib b) (z 1) (z 2)) := fun z => by
    show kRw A z = kRw (kA low even p ((z1, z2, z3, z4) : Acc F) st fr xK (ib b)) (ix3 0 (z 1) (z 2))
    rw [hA]
    exact congrArg (kRw A) (hz z)
  refine Runs.bind (a := ⟨kMax A, k0_pay1390 heads, k0_pay1391 A.2.2.2.2⟩) (by rw [k0_part137_eq_skeleton]; exact Runs.pure _ _) ?_
  dsimp only
  refine Runs.bind (a := ⟨kQ0 A, kQ1 A, kQ2 A, kQ3 A⟩) (by rw [k0_part138_eq_skeleton]; exact Runs.pure _ _) ?_
  dsimp only
  refine Runs.bind (a := ⟨kSc A, kIn A⟩) (by rw [p139]; exact Runs.bind (Runs.onA5 (Runs.row arg5 b (ksG low even p ((z1, z2, z3, z4) : Acc F) st fr xK) _ hK)) (Runs.pure _ _)) ?_
  dsimp only
  refine Runs.bind (Runs.p140 arg0 harg0 arg1 harg1 arg5 harg5 arg7 harg7 low even pf p z1 z2 z3 z4 b st fr xK xV A hA.symm _ _) ?_
  dsimp only
  refine Runs.bind (a := ⟨(vA ((z1, z2, z3, z4) : Acc F) xV (ib b)).2.2.2, heads, k0_pay1412 (vA ((z1, z2, z3, z4) : Acc F) xV (ib b)).1 (vA ((z1, z2, z3, z4) : Acc F) xV (ib b)).2.1 (vA ((z1, z2, z3, z4) : Acc F) xV (ib b)).2.2.1, k0_pay1413 (vA ((z1, z2, z3, z4) : Acc F) xV (ib b)).2.2.1⟩) (by rw [p141]; exact Runs.bind (Runs.vals1 arg0 harg0 arg1 harg1 arg5 harg5 arg7 harg7 z1 z2 z3 z4 b xV _ _ _) (Runs.pure _ _)) ?_
  dsimp only
  generalize hB : vA ((z1, z2, z3, z4) : Acc F) xV (ib b) = B
  have hV : ∀ z, vRw B z = vsG ((z1, z2, z3, z4) : Acc F) xV (ix3 (ib b) (z 1) (z 2)) := fun z => by
    show vRw B z = vRw (vA ((z1, z2, z3, z4) : Acc F) xV (ib b)) (ix3 0 (z 1) (z 2))
    rw [hB]
    exact congrArg (vRw B) (hz z)
  refine Runs.bind (a := ⟨vQ0 B, vQ1 B, 32#32⟩) (by rw [k0_part142_eq_skeleton]; exact Runs.pure _ _) ?_
  dsimp only
  refine Runs.bind (a := ⟨vE B, 0#32⟩) (by rw [k0_part143_eq_skeleton]; exact Runs.pure _ _) ?_
  dsimp only
  refine Runs.bind (a := ⟨k0_pay1419 (vE B) 0#32, k0_pay1422 (vE B) 0#32, k0_pay1423 (vE B) 0#32, k0_pay1424 (vE B) 0#32, k0_pay1425 (vE B) 0#32⟩) (by rw [p144]; exact Runs.bind (Runs.onA7 (Runs.row arg7 b (vsG ((z1, z2, z3, z4) : Acc F) xV) _ hV)) (Runs.pure _ _)) ?_
  dsimp only
  refine Runs.bind (Runs.vals2 arg0 harg0 arg1 harg1 arg5 harg5 arg7 harg7 low even pf p z1 z2 z3 z4 b xV w0 _ _ B hB.symm) ?_
  exact (Runs.pure _ _).conseq .rfl (Held_mono (nextIns sideK xK (ib b)) known_any known_any known_any known_any .rfl .rfl (nextIns sideV xV (ib b)) .rfl .rfl)

end

end Cert.Proof.Kernel

end
-- ==== Proof.K.Top.lean ====
/- The whole region: the first blocks asked for, the nine blocks worked on, the last ones awaited. -/
module

public import proofs.«01_k».proof.Proof.K.Body

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

def firstK : PR F PUnit := do
  startIn kH kB inb_S2x2x8_S1x1x1_0_0_0 inb_S2x32768x128_S1x4096x128_0_0_0 inb_S9x32768x128_S1x4096x128_0_0_0 (((Memref.isWhole_whole _ : kH.IsWhole).wordExact_slice rfl _ wordsbf16_S9x32768x128_S1x4096x128_0_0_0).reshape _ _) (((Memref.isWhole_whole _ : kB.IsWhole).wordExact_slice rfl _ wordsbf16_S2x32768x128_S1x4096x128_0_0_0).reshape _ _)
  startIn kH kB inb_S2x2x8_S1x1x1_0_0_1 inb_S2x32768x128_S1x4096x128_0_4096_0 inb_S9x32768x128_S1x4096x128_0_4096_0 (((Memref.isWhole_whole _ : kH.IsWhole).wordExact_slice rfl _ wordsbf16_S9x32768x128_S1x4096x128_0_4096_0).reshape _ _) (((Memref.isWhole_whole _ : kB.IsWhole).wordExact_slice rfl _ wordsbf16_S2x32768x128_S1x4096x128_0_4096_0).reshape _ _)
  startIn kH kB inb_S2x2x8_S1x1x1_0_0_2 inb_S2x32768x128_S1x4096x128_0_8192_0 inb_S9x32768x128_S1x4096x128_0_8192_0 (((Memref.isWhole_whole _ : kH.IsWhole).wordExact_slice rfl _ wordsbf16_S9x32768x128_S1x4096x128_0_8192_0).reshape _ _) (((Memref.isWhole_whole _ : kB.IsWhole).wordExact_slice rfl _ wordsbf16_S2x32768x128_S1x4096x128_0_8192_0).reshape _ _)
  startIn kH kB inb_S2x2x8_S1x1x1_0_0_3 inb_S2x32768x128_S1x4096x128_0_12288_0 inb_S9x32768x128_S1x4096x128_0_12288_0 (((Memref.isWhole_whole _ : kH.IsWhole).wordExact_slice rfl _ wordsbf16_S9x32768x128_S1x4096x128_0_12288_0).reshape _ _) (((Memref.isWhole_whole _ : kB.IsWhole).wordExact_slice rfl _ wordsbf16_S2x32768x128_S1x4096x128_0_12288_0).reshape _ _)
  startIn kH kB inb_S2x2x8_S1x1x1_0_0_4 inb_S2x32768x128_S1x4096x128_0_16384_0 inb_S9x32768x128_S1x4096x128_0_16384_0 (((Memref.isWhole_whole _ : kH.IsWhole).wordExact_slice rfl _ wordsbf16_S9x32768x128_S1x4096x128_0_16384_0).reshape _ _) (((Memref.isWhole_whole _ : kB.IsWhole).wordExact_slice rfl _ wordsbf16_S2x32768x128_S1x4096x128_0_16384_0).reshape _ _)
  startIn kH kB inb_S2x2x8_S1x1x1_0_0_5 inb_S2x32768x128_S1x4096x128_0_20480_0 inb_S9x32768x128_S1x4096x128_0_20480_0 (((Memref.isWhole_whole _ : kH.IsWhole).wordExact_slice rfl _ wordsbf16_S9x32768x128_S1x4096x128_0_20480_0).reshape _ _) (((Memref.isWhole_whole _ : kB.IsWhole).wordExact_slice rfl _ wordsbf16_S2x32768x128_S1x4096x128_0_20480_0).reshape _ _)
  startIn kH kB inb_S2x2x8_S1x1x1_0_0_6 inb_S2x32768x128_S1x4096x128_0_24576_0 inb_S9x32768x128_S1x4096x128_0_24576_0 (((Memref.isWhole_whole _ : kH.IsWhole).wordExact_slice rfl _ wordsbf16_S9x32768x128_S1x4096x128_0_24576_0).reshape _ _) (((Memref.isWhole_whole _ : kB.IsWhole).wordExact_slice rfl _ wordsbf16_S2x32768x128_S1x4096x128_0_24576_0).reshape _ _)
  startIn kH kB inb_S2x2x8_S1x1x1_0_0_7 inb_S2x32768x128_S1x4096x128_0_28672_0 inb_S9x32768x128_S1x4096x128_0_28672_0 (((Memref.isWhole_whole _ : kH.IsWhole).wordExact_slice rfl _ wordsbf16_S9x32768x128_S1x4096x128_0_28672_0).reshape _ _) (((Memref.isWhole_whole _ : kB.IsWhole).wordExact_slice rfl _ wordsbf16_S2x32768x128_S1x4096x128_0_28672_0).reshape _ _)
def firstV : PR F PUnit := do
  startIn vH vB inb_S2x2x8_S1x1x1_1_0_0 inb_S2x32768x128_S1x4096x128_0_0_0 inb_S9x32768x128_S1x4096x128_0_0_0 (((Memref.isWhole_whole _ : vH.IsWhole).wordExact_slice rfl _ wordsbf16_S9x32768x128_S1x4096x128_0_0_0).reshape _ _) (((Memref.isWhole_whole _ : vB.IsWhole).wordExact_slice rfl _ wordsbf16_S2x32768x128_S1x4096x128_0_0_0).reshape _ _)
  startIn vH vB inb_S2x2x8_S1x1x1_1_0_1 inb_S2x32768x128_S1x4096x128_0_4096_0 inb_S9x32768x128_S1x4096x128_0_4096_0 (((Memref.isWhole_whole _ : vH.IsWhole).wordExact_slice rfl _ wordsbf16_S9x32768x128_S1x4096x128_0_4096_0).reshape _ _) (((Memref.isWhole_whole _ : vB.IsWhole).wordExact_slice rfl _ wordsbf16_S2x32768x128_S1x4096x128_0_4096_0).reshape _ _)
  startIn vH vB inb_S2x2x8_S1x1x1_1_0_2 inb_S2x32768x128_S1x4096x128_0_8192_0 inb_S9x32768x128_S1x4096x128_0_8192_0 (((Memref.isWhole_whole _ : vH.IsWhole).wordExact_slice rfl _ wordsbf16_S9x32768x128_S1x4096x128_0_8192_0).reshape _ _) (((Memref.isWhole_whole _ : vB.IsWhole).wordExact_slice rfl _ wordsbf16_S2x32768x128_S1x4096x128_0_8192_0).reshape _ _)
  startIn vH vB inb_S2x2x8_S1x1x1_1_0_3 inb_S2x32768x128_S1x4096x128_0_12288_0 inb_S9x32768x128_S1x4096x128_0_12288_0 (((Memref.isWhole_whole _ : vH.IsWhole).wordExact_slice rfl _ wordsbf16_S9x32768x128_S1x4096x128_0_12288_0).reshape _ _) (((Memref.isWhole_whole _ : vB.IsWhole).wordExact_slice rfl _ wordsbf16_S2x32768x128_S1x4096x128_0_12288_0).reshape _ _)
  startIn vH vB inb_S2x2x8_S1x1x1_1_0_4 inb_S2x32768x128_S1x4096x128_0_16384_0 inb_S9x32768x128_S1x4096x128_0_16384_0 (((Memref.isWhole_whole _ : vH.IsWhole).wordExact_slice rfl _ wordsbf16_S9x32768x128_S1x4096x128_0_16384_0).reshape _ _) (((Memref.isWhole_whole _ : vB.IsWhole).wordExact_slice rfl _ wordsbf16_S2x32768x128_S1x4096x128_0_16384_0).reshape _ _)
  startIn vH vB inb_S2x2x8_S1x1x1_1_0_5 inb_S2x32768x128_S1x4096x128_0_20480_0 inb_S9x32768x128_S1x4096x128_0_20480_0 (((Memref.isWhole_whole _ : vH.IsWhole).wordExact_slice rfl _ wordsbf16_S9x32768x128_S1x4096x128_0_20480_0).reshape _ _) (((Memref.isWhole_whole _ : vB.IsWhole).wordExact_slice rfl _ wordsbf16_S2x32768x128_S1x4096x128_0_20480_0).reshape _ _)
  startIn vH vB inb_S2x2x8_S1x1x1_1_0_6 inb_S2x32768x128_S1x4096x128_0_24576_0 inb_S9x32768x128_S1x4096x128_0_24576_0 (((Memref.isWhole_whole _ : vH.IsWhole).wordExact_slice rfl _ wordsbf16_S9x32768x128_S1x4096x128_0_24576_0).reshape _ _) (((Memref.isWhole_whole _ : vB.IsWhole).wordExact_slice rfl _ wordsbf16_S2x32768x128_S1x4096x128_0_24576_0).reshape _ _)
  startIn vH vB inb_S2x2x8_S1x1x1_1_0_7 inb_S2x32768x128_S1x4096x128_0_28672_0 inb_S9x32768x128_S1x4096x128_0_28672_0 (((Memref.isWhole_whole _ : vH.IsWhole).wordExact_slice rfl _ wordsbf16_S9x32768x128_S1x4096x128_0_28672_0).reshape _ _) (((Memref.isWhole_whole _ : vB.IsWhole).wordExact_slice rfl _ wordsbf16_S2x32768x128_S1x4096x128_0_28672_0).reshape _ _)
def lastW : PR F PUnit := do
  waitOut kcH kO inb_S2x8_S1x1_0_0 inb_S32768x128_S4096x128_0_0 inb_S9x32768x128_S1x4096x128_8_0_0 ((Memref.isWhole_whole _ : kO.IsWhole).wordExact_slice rfl _ wordsfp8e4m3_S32768x128_S4096x128_0_0) (((Memref.isWhole_whole _ : kcH.IsWhole).wordExact_slice rfl _ wordsfp8e4m3_S9x32768x128_S1x4096x128_8_0_0).reshape _ _)
  waitOut vcH vO inb_S2x8_S1x1_1_0 inb_S32768x128_S4096x128_0_0 inb_S9x32768x128_S1x4096x128_8_0_0 ((Memref.isWhole_whole _ : vO.IsWhole).wordExact_slice rfl _ wordsfp8e4m3_S32768x128_S4096x128_0_0) (((Memref.isWhole_whole _ : vcH.IsWhole).wordExact_slice rfl _ wordsfp8e4m3_S9x32768x128_S1x4096x128_8_0_0).reshape _ _)
  waitOut kcH kO inb_S2x8_S1x1_0_1 inb_S32768x128_S4096x128_4096_0 inb_S9x32768x128_S1x4096x128_8_4096_0 ((Memref.isWhole_whole _ : kO.IsWhole).wordExact_slice rfl _ wordsfp8e4m3_S32768x128_S4096x128_4096_0) (((Memref.isWhole_whole _ : kcH.IsWhole).wordExact_slice rfl _ wordsfp8e4m3_S9x32768x128_S1x4096x128_8_4096_0).reshape _ _)
  waitOut vcH vO inb_S2x8_S1x1_1_1 inb_S32768x128_S4096x128_4096_0 inb_S9x32768x128_S1x4096x128_8_4096_0 ((Memref.isWhole_whole _ : vO.IsWhole).wordExact_slice rfl _ wordsfp8e4m3_S32768x128_S4096x128_4096_0) (((Memref.isWhole_whole _ : vcH.IsWhole).wordExact_slice rfl _ wordsfp8e4m3_S9x32768x128_S1x4096x128_8_4096_0).reshape _ _)
  waitOut kcH kO inb_S2x8_S1x1_0_2 inb_S32768x128_S4096x128_8192_0 inb_S9x32768x128_S1x4096x128_8_8192_0 ((Memref.isWhole_whole _ : kO.IsWhole).wordExact_slice rfl _ wordsfp8e4m3_S32768x128_S4096x128_8192_0) (((Memref.isWhole_whole _ : kcH.IsWhole).wordExact_slice rfl _ wordsfp8e4m3_S9x32768x128_S1x4096x128_8_8192_0).reshape _ _)
  waitOut vcH vO inb_S2x8_S1x1_1_2 inb_S32768x128_S4096x128_8192_0 inb_S9x32768x128_S1x4096x128_8_8192_0 ((Memref.isWhole_whole _ : vO.IsWhole).wordExact_slice rfl _ wordsfp8e4m3_S32768x128_S4096x128_8192_0) (((Memref.isWhole_whole _ : vcH.IsWhole).wordExact_slice rfl _ wordsfp8e4m3_S9x32768x128_S1x4096x128_8_8192_0).reshape _ _)
  waitOut kcH kO inb_S2x8_S1x1_0_3 inb_S32768x128_S4096x128_12288_0 inb_S9x32768x128_S1x4096x128_8_12288_0 ((Memref.isWhole_whole _ : kO.IsWhole).wordExact_slice rfl _ wordsfp8e4m3_S32768x128_S4096x128_12288_0) (((Memref.isWhole_whole _ : kcH.IsWhole).wordExact_slice rfl _ wordsfp8e4m3_S9x32768x128_S1x4096x128_8_12288_0).reshape _ _)
  waitOut vcH vO inb_S2x8_S1x1_1_3 inb_S32768x128_S4096x128_12288_0 inb_S9x32768x128_S1x4096x128_8_12288_0 ((Memref.isWhole_whole _ : vO.IsWhole).wordExact_slice rfl _ wordsfp8e4m3_S32768x128_S4096x128_12288_0) (((Memref.isWhole_whole _ : vcH.IsWhole).wordExact_slice rfl _ wordsfp8e4m3_S9x32768x128_S1x4096x128_8_12288_0).reshape _ _)
  waitOut kcH kO inb_S2x8_S1x1_0_4 inb_S32768x128_S4096x128_16384_0 inb_S9x32768x128_S1x4096x128_8_16384_0 ((Memref.isWhole_whole _ : kO.IsWhole).wordExact_slice rfl _ wordsfp8e4m3_S32768x128_S4096x128_16384_0) (((Memref.isWhole_whole _ : kcH.IsWhole).wordExact_slice rfl _ wordsfp8e4m3_S9x32768x128_S1x4096x128_8_16384_0).reshape _ _)
  waitOut vcH vO inb_S2x8_S1x1_1_4 inb_S32768x128_S4096x128_16384_0 inb_S9x32768x128_S1x4096x128_8_16384_0 ((Memref.isWhole_whole _ : vO.IsWhole).wordExact_slice rfl _ wordsfp8e4m3_S32768x128_S4096x128_16384_0) (((Memref.isWhole_whole _ : vcH.IsWhole).wordExact_slice rfl _ wordsfp8e4m3_S9x32768x128_S1x4096x128_8_16384_0).reshape _ _)
  waitOut kcH kO inb_S2x8_S1x1_0_5 inb_S32768x128_S4096x128_20480_0 inb_S9x32768x128_S1x4096x128_8_20480_0 ((Memref.isWhole_whole _ : kO.IsWhole).wordExact_slice rfl _ wordsfp8e4m3_S32768x128_S4096x128_20480_0) (((Memref.isWhole_whole _ : kcH.IsWhole).wordExact_slice rfl _ wordsfp8e4m3_S9x32768x128_S1x4096x128_8_20480_0).reshape _ _)
  waitOut vcH vO inb_S2x8_S1x1_1_5 inb_S32768x128_S4096x128_20480_0 inb_S9x32768x128_S1x4096x128_8_20480_0 ((Memref.isWhole_whole _ : vO.IsWhole).wordExact_slice rfl _ wordsfp8e4m3_S32768x128_S4096x128_20480_0) (((Memref.isWhole_whole _ : vcH.IsWhole).wordExact_slice rfl _ wordsfp8e4m3_S9x32768x128_S1x4096x128_8_20480_0).reshape _ _)
  waitOut kcH kO inb_S2x8_S1x1_0_6 inb_S32768x128_S4096x128_24576_0 inb_S9x32768x128_S1x4096x128_8_24576_0 ((Memref.isWhole_whole _ : kO.IsWhole).wordExact_slice rfl _ wordsfp8e4m3_S32768x128_S4096x128_24576_0) (((Memref.isWhole_whole _ : kcH.IsWhole).wordExact_slice rfl _ wordsfp8e4m3_S9x32768x128_S1x4096x128_8_24576_0).reshape _ _)
  waitOut vcH vO inb_S2x8_S1x1_1_6 inb_S32768x128_S4096x128_24576_0 inb_S9x32768x128_S1x4096x128_8_24576_0 ((Memref.isWhole_whole _ : vO.IsWhole).wordExact_slice rfl _ wordsfp8e4m3_S32768x128_S4096x128_24576_0) (((Memref.isWhole_whole _ : vcH.IsWhole).wordExact_slice rfl _ wordsfp8e4m3_S9x32768x128_S1x4096x128_8_24576_0).reshape _ _)
  waitOut kcH kO inb_S2x8_S1x1_0_7 inb_S32768x128_S4096x128_28672_0 inb_S9x32768x128_S1x4096x128_8_28672_0 ((Memref.isWhole_whole _ : kO.IsWhole).wordExact_slice rfl _ wordsfp8e4m3_S32768x128_S4096x128_28672_0) (((Memref.isWhole_whole _ : kcH.IsWhole).wordExact_slice rfl _ wordsfp8e4m3_S9x32768x128_S1x4096x128_8_28672_0).reshape _ _)
  waitOut vcH vO inb_S2x8_S1x1_1_7 inb_S32768x128_S4096x128_28672_0 inb_S9x32768x128_S1x4096x128_8_28672_0 ((Memref.isWhole_whole _ : vO.IsWhole).wordExact_slice rfl _ wordsfp8e4m3_S32768x128_S4096x128_28672_0) (((Memref.isWhole_whole _ : vcH.IsWhole).wordExact_slice rfl _ wordsfp8e4m3_S9x32768x128_S1x4096x128_8_28672_0).reshape _ _)
  pure ⟨⟩

/-- The first block of a chunk is asked for: before that every block is home, as after the last. -/
theorem Runs.first {σ : Side} {xH : (S3 9).Idx → Elt F .bf16} {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk σ.H oh hh).view.WordExact} {wb : (blk σ.B ob hb).view.WordExact}
    (k : Fin 8) (es : os = ![σ.w.val, 0, k.val]) (eb : ob = ![0, 4096 * k.val, 0]) (eh : oh = ![0, 4096 * k.val, 0]) (R : sProp 𝕄) :
    Runs c iprop(IN c σ xH 9 k ∗ R) (Kernel.startIn σ.H σ.B hs hb hh wh wb) ⟨⟩ iprop(IN c σ xH 0 k ∗ R) := by
  refine Runs.frame R ?_
  have e9 : par 9 = 1 := rfl
  have e10 : par (9 + 1) = 0 := rfl
  have e0 : par 0 = 0 := rfl
  have e1 : par (0 + 1) = 1 := rfl
  unfold IN
  rw [dif_neg (by omega), dif_pos (by omega), bs_split (0 : Fin 9), e9, e10, e0, e1]
  refine Runs.conseq (P := iprop(∃ x, (ptOn c σ.H (blkSet (0 : Fin 9) k) xH ∗ ptOn c σ.B (blkSet (0 : Fin 2) k) x ∗ semVal ((c : Thread nD τ), inSem σ.w 0 k) 0)
      ∗ (slotAny c σ 1 k ∗ sIn c σ 1 k ∗ bigSep (Finset.univ.erase (0 : Fin 9)) fun b => home c σ xH b k))) (P' := _)
    (Runs.exists fun x => (Runs.startIn σ.w 0 0 k es eb eh xH x).frame _) ?_ ?_
  · unfold slotAny sIn home
    iintro ⟨⟨H1, H2⟩, ⟨%x, H3⟩, H4, H5, H6⟩
    iexists x
    isplitl [H5 H3 H4]
    · isplitl [H5]; · iexact H5
      isplitl [H3]; · iexact H3
      iexact H4
    isplitl [H1]; · iexact H1
    isplitl [H2]; · iexact H2
    iexact H6
  · unfold flightIn slotHas home
    exact .rfl

section
variable (xH : (S3 9).Idx → Elt F .bf16)

theorem Runs.firstK (R : sProp 𝕄) :
    Runs c iprop(Kernel.mix 0 (IN c sideK xH 0) (IN c sideK xH 9) ∗ R) Kernel.firstK ⟨⟩ iprop(Kernel.mix 8 (IN c sideK xH 0) (IN c sideK xH 9) ∗ R) := by
  unfold Kernel.firstK
  refine Runs.bind (Runs.mix 0 (Runs.first 0 rfl rfl rfl R)) ?_
  refine Runs.bind (Runs.mix 1 (Runs.first 1 rfl rfl rfl R)) ?_
  refine Runs.bind (Runs.mix 2 (Runs.first 2 rfl rfl rfl R)) ?_
  refine Runs.bind (Runs.mix 3 (Runs.first 3 rfl rfl rfl R)) ?_
  refine Runs.bind (Runs.mix 4 (Runs.first 4 rfl rfl rfl R)) ?_
  refine Runs.bind (Runs.mix 5 (Runs.first 5 rfl rfl rfl R)) ?_
  refine Runs.bind (Runs.mix 6 (Runs.first 6 rfl rfl rfl R)) ?_
  exact (Runs.mix 7 (Runs.first 7 rfl rfl rfl R))

theorem Runs.firstV (R : sProp 𝕄) :
    Runs c iprop(Kernel.mix 0 (IN c sideV xH 0) (IN c sideV xH 9) ∗ R) Kernel.firstV ⟨⟩ iprop(Kernel.mix 8 (IN c sideV xH 0) (IN c sideV xH 9) ∗ R) := by
  unfold Kernel.firstV
  refine Runs.bind (Runs.mix 0 (Runs.first 0 rfl rfl rfl R)) ?_
  refine Runs.bind (Runs.mix 1 (Runs.first 1 rfl rfl rfl R)) ?_
  refine Runs.bind (Runs.mix 2 (Runs.first 2 rfl rfl rfl R)) ?_
  refine Runs.bind (Runs.mix 3 (Runs.first 3 rfl rfl rfl R)) ?_
  refine Runs.bind (Runs.mix 4 (Runs.first 4 rfl rfl rfl R)) ?_
  refine Runs.bind (Runs.mix 5 (Runs.first 5 rfl rfl rfl R)) ?_
  refine Runs.bind (Runs.mix 6 (Runs.first 6 rfl rfl rfl R)) ?_
  exact (Runs.mix 7 (Runs.first 7 rfl rfl rfl R))
end

section
variable (GK GV : (S3 9).Idx → Elt F .fp8e4m3)

/-- The last blocks of one chunk. -/
theorem Runs.both {osK ooK : Fin 2 → ℕ} {ocK : Fin 3 → ℕ} {hsK : ∀ a, osK a + S1x1.size a ≤ S2x8.size a} {hoK : ∀ a, ooK a + S4096x128.size a ≤ S32768x128.size a}
    {hcK : ∀ a, ocK a + S1x4096x128.size a ≤ S9x32768x128.size a} {woK : (outBlk kO ooK hoK).view.WordExact} {wcK : (blk kcH ocK hcK).view.WordExact}
    {osV ooV : Fin 2 → ℕ} {ocV : Fin 3 → ℕ} {hsV : ∀ a, osV a + S1x1.size a ≤ S2x8.size a} {hoV : ∀ a, ooV a + S4096x128.size a ≤ S32768x128.size a}
    {hcV : ∀ a, ocV a + S1x4096x128.size a ≤ S9x32768x128.size a} {woV : (outBlk vO ooV hoV).view.WordExact} {wcV : (blk vcH ocV hcV).view.WordExact}
    (k : Fin 8) (eK : osK = ![0, k.val]) (eV : osV = ![1, k.val]) (R : sProp 𝕄) {α : Type} {q : PR F α} {a : α} {P' : sProp 𝕄}
    (h : Runs c iprop(Kernel.mix (k.val + 1) (fun k => iprop(OUTf c sideK GK 9 k ∗ OUTf c sideV GV 9 k)) (fun k => iprop(OUT c sideK GK 9 k ∗ OUT c sideV GV 9 k)) ∗ ow F c ∗ R) q a P') :
    Runs c iprop(Kernel.mix k.val (fun k => iprop(OUTf c sideK GK 9 k ∗ OUTf c sideV GV 9 k)) (fun k => iprop(OUT c sideK GK 9 k ∗ OUT c sideV GV 9 k)) ∗ ow F c ∗ R)
      (Kernel.waitOut kcH kO hsK hoK hcK woK wcK >>= fun _ => Kernel.waitOut vcH vO hsV hoV hcV woV wcV >>= fun _ => q) a P' := by
  rw [← bind_assoc]
  refine Runs.bind (a := ⟨⟩) (Runs.mix k ?_) h
  refine Runs.bind (((Runs.landed (σ := sideK) (G := GK) 9 (by omega) k eK iprop(OUT c sideV GV 9 k ∗ R)).conseq (entails_of_eq (by ac_rfl)) .rfl)) ?_
  exact (Runs.landed (σ := sideV) (G := GV) 9 (by omega) k eV iprop(OUTf c sideK GK 9 k ∗ R)).conseq (entails_of_eq (by ac_rfl)) (entails_of_eq (by ac_rfl))

theorem Runs.lastW (R : sProp 𝕄) :
    Runs c iprop(Kernel.mix 0 (fun k => iprop(OUTf c sideK GK 9 k ∗ OUTf c sideV GV 9 k)) (fun k => iprop(OUT c sideK GK 9 k ∗ OUT c sideV GV 9 k)) ∗ ow F c ∗ R)
      Kernel.lastW ⟨⟩ iprop(Kernel.mix 8 (fun k => iprop(OUTf c sideK GK 9 k ∗ OUTf c sideV GV 9 k)) (fun k => iprop(OUT c sideK GK 9 k ∗ OUT c sideV GV 9 k)) ∗ ow F c ∗ R) := by
  unfold Kernel.lastW
  refine Runs.both GK GV 0 rfl rfl R ?_
  refine Runs.both GK GV 1 rfl rfl R ?_
  refine Runs.both GK GV 2 rfl rfl R ?_
  refine Runs.both GK GV 3 rfl rfl R ?_
  refine Runs.both GK GV 4 rfl rfl R ?_
  refine Runs.both GK GV 5 rfl rfl R ?_
  refine Runs.both GK GV 6 rfl rfl R ?_
  refine Runs.both GK GV 7 rfl rfl R ?_
  exact Runs.pure _ _
end

section
variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)

/-- The constants the region computes once. -/
abbrev cZ : F .bf16 := Scalar.ofBits .bf16 0x0000#16
abbrev zAcc : Acc F := (k0_pay1430, k0_pay1431, k0_pay1432 cZ, k0_pay1433)

theorem region_eq : cc0_rope_fp8_kv (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9
    = (firstK >>= fun _ => firstV >>= fun _ =>
      Scf.Loop.for k0_t1_loop k0_t1_ok ⟨⟩ (k0_t1_body (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 k0_pay1426 k0_pay1427 k0_pay1428 k0_pay1429 k0_pay1430 k0_pay1431 cZ) >>= fun _ => lastW) := by
  rw [cc0_rope_fp8_kv_eq_skeleton]
  unfold cc0_rope_fp8_kv_skel
  rw [k0_part145_eq_skeleton, k0_part146_eq_skeleton, k0_part147_eq_skeleton, k0_part148_eq_skeleton, k0_part149_eq_skeleton]
  simp only [k0_part150_eq_skeleton, k0_part151_eq_skeleton, k0_part152_eq_skeleton]
  unfold k0_part150_skel
  simp only [bind_assoc]
  rfl

variable (st : S9.Idx → Elt F .i32) (fr : S1x128.Idx → Elt F .f32) (xK xV : (S3 9).Idx → Elt F .bf16)

abbrev GKc : (S3 9).Idx → Elt F .fp8e4m3 := kcG k0_pay1426 k0_pay1427 k0_pay1428 k0_pay1429 zAcc st fr xK
abbrev GKs : S9x8x128.Idx → Elt F .f32 := ksG k0_pay1426 k0_pay1427 k0_pay1429 zAcc st fr xK
abbrev GVc : (S3 9).Idx → Elt F .fp8e4m3 := vcG k0_pay1428 zAcc xV
abbrev GVs : S9x8x128.Idx → Elt F .f32 := vsG zAcc xV

/-- The region. -/
theorem Runs.region :
    Runs c (Held (insK c xK 9) (ow F c) (anyB c cB) (anyB c sB) (anyB c yB) (anyB c nB) (ptOn c arg0 Finset.univ st) (frB c arg1 fr) (anyB c arg5) (anyB c arg7) (insV c xV 9)
        (bigSep Finset.univ (OUTf c sideK (GKc st fr xK) 0)) (bigSep Finset.univ (OUTf c sideV (GVc xV) 0)))
      (cc0_rope_fp8_kv arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9) ⟨⟩
      (Held (insK c xK 9) (ow F c) (anyB c cB) (anyB c sB) (anyB c yB) (anyB c nB) (ptOn c arg0 Finset.univ st) (frB c arg1 fr) (ptOn c arg5 Finset.univ (GKs st fr xK)) (ptOn c arg7 Finset.univ (GVs xV)) (insV c xV 9)
        (bigSep Finset.univ (OUTf c sideK (GKc st fr xK) 9)) (bigSep Finset.univ (OUTf c sideV (GVc xV) 9))) := by
  rw [region_eq]
  have hK := Runs.firstK (c := c) xK iprop(ow F c ∗ anyB c cB ∗ anyB c sB ∗ anyB c yB ∗ anyB c nB ∗ ptOn c arg0 Finset.univ st ∗ frB c arg1 fr ∗ anyB c arg5 ∗ anyB c arg7 ∗ insV c xV 9
        ∗ (bigSep Finset.univ (OUTf c sideK (GKc st fr xK) 0)) ∗ (bigSep Finset.univ (OUTf c sideV (GVc xV) 0)))
  rw [mix_zero, mix_all] at hK
  have hV := Runs.firstV (c := c) xV iprop(insK c xK 0 ∗ ow F c ∗ anyB c cB ∗ anyB c sB ∗ anyB c yB ∗ anyB c nB ∗ ptOn c arg0 Finset.univ st ∗ frB c arg1 fr ∗ anyB c arg5 ∗ anyB c arg7
        ∗ (bigSep Finset.univ (OUTf c sideK (GKc st fr xK) 0)) ∗ (bigSep Finset.univ (OUTf c sideV (GVc xV) 0)))
  rw [mix_zero, mix_all] at hV
  have hW := Runs.lastW (c := c) (GKc st fr xK) (GVc xV) iprop(insK c xK 9 ∗ anyB c cB ∗ anyB c sB ∗ anyB c yB ∗ anyB c nB ∗ ptOn c arg0 Finset.univ st ∗ frB c arg1 fr
        ∗ rowsK c arg5 k0_pay1426 k0_pay1427 k0_pay1429 k0_pay1430 k0_pay1431 (k0_pay1432 cZ) k0_pay1433 st fr xK 9 ∗ rowsV c arg7 k0_pay1430 k0_pay1431 (k0_pay1432 cZ) k0_pay1433 xV 9 ∗ insV c xV 9)
  have e : ∀ A B : Fin 8 → sProp 𝕄, (bigSep Finset.univ (fun k => iprop(A k ∗ B k)) : sProp 𝕄) = iprop(bigSep Finset.univ A ∗ bigSep Finset.univ B) := fun A B => bigSep_sep _ _ _
  rw [mix_zero, mix_all, e, e] at hW
  have hL :=
    Runs.for (c := c) k0_t1_loop k0_t1_ok (I := Before c arg0 arg1 arg5 arg7 k0_pay1426 k0_pay1427 k0_pay1428 k0_pay1429 k0_pay1430 k0_pay1431 (k0_pay1432 cZ) k0_pay1433 st fr xK xV)
      (fa := fun _ _ => PUnit.unit) (fun b _ => Runs.block arg0 harg0 arg1 harg1 arg5 harg5 arg7 harg7 k0_pay1426 k0_pay1427 k0_pay1428 k0_pay1429 k0_pay1430 k0_pay1431 (k0_pay1432 cZ) k0_pay1433 b st fr xK xV cZ rfl rfl) PUnit.unit
  have hd5 : ∀ n, n = 0 → ∀ i : S9x8x128.Idx, ¬ doneRows n i := fun n hn i h => by subst hn; unfold doneRows at h; omega
  have hd9 : ∀ i ∈ (Finset.univ : Finset S9x8x128.Idx), doneRows 9 i := fun i _ => by
    have h : (i 0).val < 9 := (i 0).isLt
    unfold doneRows
    exact h
  have e0 : ∀ (σ : Side) (G : (S3 9).Idx → Elt F .fp8e4m3), (bigSep Finset.univ (OUT c σ G 0) : sProp 𝕄) = bigSep Finset.univ (OUTf c σ G 0) := fun σ G => bigSep_congr fun k _ => OUT_zero k
  refine Runs.bind (P' := Held (insK c xK 0) (ow F c) (anyB c cB) (anyB c sB) (anyB c yB) (anyB c nB) (ptOn c arg0 Finset.univ st) (frB c arg1 fr) (anyB c arg5) (anyB c arg7) (insV c xV 9)
        (bigSep Finset.univ (OUTf c sideK (GKc st fr xK) 0)) (bigSep Finset.univ (OUTf c sideV (GVc xV) 0))) (a := ⟨⟩) (hK.conseq (entails_of_eq (by unfold Held insV insK; ac_rfl)) (entails_of_eq (by unfold Held insV insK; ac_rfl))) ?_
  refine Runs.bind (a := ⟨⟩) (hV.conseq (entails_of_eq (by unfold Held insV; ac_rfl)) .rfl) ?_
  refine Runs.bind (hL.conseq ?_ .rfl) ?_
  · unfold Before outsK outsV
    rw [e0, e0]
    refine BIBase.Entails.trans (Q := Held (insK c xK 0) (ow F c) (anyB c cB) (anyB c sB) (anyB c yB) (anyB c nB) (ptOn c arg0 Finset.univ st) (frB c arg1 fr) (anyB c arg5) (anyB c arg7) (insV c xV 0)
        (bigSep Finset.univ (OUTf c sideK (GKc st fr xK) 0)) (bigSep Finset.univ (OUTf c sideV (GVc xV) 0))) (entails_of_eq (by unfold Held insV insK; ac_rfl)) ?_
    exact Held_mono .rfl .rfl .rfl .rfl .rfl (known_none (hd5 0 rfl)) (known_none (hd5 0 rfl)) .rfl .rfl .rfl
  · rw [trips1]
    refine hW.conseq (entails_of_eq (by unfold Before Held insV insK outsK outsV; ac_rfl)) ?_
    refine BIBase.Entails.trans (Q := Held (insK c xK 9) (ow F c) (anyB c cB) (anyB c sB) (anyB c yB) (anyB c nB) (ptOn c arg0 Finset.univ st) (frB c arg1 fr)
        (rowsK c arg5 k0_pay1426 k0_pay1427 k0_pay1429 k0_pay1430 k0_pay1431 (k0_pay1432 cZ) k0_pay1433 st fr xK 9) (rowsV c arg7 k0_pay1430 k0_pay1431 (k0_pay1432 cZ) k0_pay1433 xV 9) (insV c xV 9)
        (bigSep Finset.univ (OUTf c sideK (GKc st fr xK) 9)) (bigSep Finset.univ (OUTf c sideV (GVc xV) 9))) (entails_of_eq (by unfold Held insV insK; ac_rfl)) ?_
    exact Held_mono .rfl .rfl .rfl .rfl .rfl (known_full hd9) (known_full hd9) .rfl .rfl .rfl

end

end Cert.Proof.Kernel

end
-- ==== Proof.K.Parts.lean ====
/- Whole buffers and the pieces of them the kernel works on. -/
module

public import proofs.«01_k».proof.Proof.K.Top

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

/-! ## A buffer held whole is held piece by piece -/

theorem mem_blkSet_iff {n : ℕ} {i : Fin n} {k : Fin 8} {j : (S3 n).Idx} :
    j ∈ blkSet i k ↔ (j 0).val = i.val ∧ 4096 * k.val ≤ (j 1).val ∧ (j 1).val < 4096 * k.val + 4096 := by
  refine ⟨fun h => ?_, fun h => mem_blkSet h.1 h.2.1 h.2.2⟩
  obtain ⟨y, rfl⟩ := blk_cover i k j h
  have h1 : (y 0).val < 4096 := (y 0).isLt
  refine ⟨?_, ?_, ?_⟩
  · show i.val + 1 * 0 = i.val; omega
  · show 4096 * k.val ≤ 4096 * k.val + 1 * (y 0).val; omega
  · show 4096 * k.val + 1 * (y 0).val < 4096 * k.val + 4096; omega

section
variable {ι : Type} [Fintype ι] [DecidableEq ι] {sp : Space} {s : Shape} {e : EltTy} (M : Memref sig .tc sp s e) (I : ι → Finset s.Idx)
  (hd : ∀ b b', b ≠ b' → Disjoint (I b) (I b')) (hc : ∀ j, ∃ b, j ∈ I b)

/-- The elements of piece `b`, as elements of the buffer itself. -/
abbrev piece (c : Dev nD) (b : ι) : Finset (Idx (M.view.loc (c : Thread nD τ))) := M.view.setOn (I b)

include hd in
omit [Fintype ι] hc in
theorem piece_disjoint (b b' : ι) (h : b ≠ b') : Disjoint (piece M I c b) (piece M I c b') := (Finset.disjoint_map _).2 (hd b b' h)

include hc in
omit hd in
theorem piece_all : Finset.univ.biUnion (piece M I c) = M.view.setOn Finset.univ := by
  ext z
  simp only [Finset.mem_biUnion, Finset.mem_univ, true_and]
  constructor
  · rintro ⟨b, hb⟩
    obtain ⟨j, -, rfl⟩ := Finset.mem_map.1 hb
    exact Finset.mem_map_of_mem _ (Finset.mem_univ j)
  · intro hz
    obtain ⟨j, -, rfl⟩ := Finset.mem_map.1 hz
    obtain ⟨b, hb⟩ := hc j
    exact ⟨b, Finset.mem_map_of_mem _ hb⟩

include hd hc
theorem ptOn_pieces (x : s.Idx → Elt F e) : ptOn c M Finset.univ x = (bigSep Finset.univ fun b => ptOn c M (I b) x : sProp 𝕄) := by
  unfold ptOn
  exact Ring.pointsTo_sub_blocks (piece M I c) (piece_disjoint M I hd) _ (piece_all M I hc) _

set_option maxHeartbeats 800000 in
theorem any_pieces : iprop(∃ x : s.Idx → Elt F e, ptOn c M Finset.univ x) ⊢ (bigSep Finset.univ fun b => iprop(∃ x : s.Idx → Elt F e, ptOn c M (I b) x) : sProp 𝕄) := by
  iintro ⟨%x, H⟩
  ihave H := (entails_of_eq (ptOn_pieces M I hd hc x)) $$ H
  have h : (bigSep Finset.univ fun b => ptOn c M (I b) x : sProp 𝕄) ⊢ bigSep Finset.univ fun b => iprop(∃ x : s.Idx → Elt F e, ptOn c M (I b) x) :=
    bigSep_mono fun b _ => exists_intro (Φ := fun x => (ptOn c M (I b) x : sProp 𝕄)) x
  iapply h $$ H

theorem any_whole (f₀ : Buf (Elt F) (M.view.loc (c : Thread nD τ))) : (bigSep Finset.univ fun b => iprop(∃ x : s.Idx → Elt F e, ptOn c M (I b) x)) ⊢ (iprop(∃ x : s.Idx → Elt F e, ptOn c M Finset.univ x) : sProp 𝕄) := by
  have h : (bigSep Finset.univ fun b => iprop(∃ f, M.view.loc (c : Thread nD τ) ↦[piece M I c b]{fullShare} f) : sProp 𝕄) ⊢ _ :=
    Ring.pointsTo_sub_blocks_join_exists (piece M I c) (piece_disjoint M I hd) _ (piece_all M I hc) f₀
  have h1 (b : ι) : (iprop(∃ x : s.Idx → Elt F e, ptOn c M (I b) x) : sProp 𝕄) ⊢ iprop(∃ f, M.view.loc (c : Thread nD τ) ↦[piece M I c b]{fullShare} f) := by
    iintro ⟨%x, H⟩
    iexists (M.view.rep x)
    iapply (entails_of_eq (ptOn_def M (I b) x)) $$ H
  refine BIBase.Entails.trans (bigSep_mono fun b _ => h1 b) (h.trans ?_)
  · iintro ⟨%g, H⟩
    iexists (M.view.read (Elt F) g)
    iapply (entails_of_eq (ptOn_of (c := c) (M := M) (R := Finset.univ) g fun _ _ => rfl)) $$ H
end

theorem blk_disjoint {n : ℕ} {i i' : Fin n} {k k' : Fin 8} (h : i ≠ i' ∨ k ≠ k') : Disjoint (blkSet i k) (blkSet i' k') := by
  rw [Finset.disjoint_left]
  intro j h1 h2
  obtain ⟨a0, a1, a2⟩ := mem_blkSet_iff.1 h1
  obtain ⟨b0, b1, b2⟩ := mem_blkSet_iff.1 h2
  rcases h with h | h
  · exact h (Fin.ext (a0.symm.trans b0))
  · exact h (Fin.ext (by omega))

theorem blk_all {n : ℕ} (j : (S3 n).Idx) : ∃ (i : Fin n) (k : Fin 8), j ∈ blkSet i k := by
  have h0 : (j 0).val < n := (j 0).isLt
  have h1 : (j 1).val < 32768 := (j 1).isLt
  exact ⟨⟨(j 0).val, h0⟩, ⟨(j 1).val / 4096, by omega⟩, mem_blkSet rfl (by show 4096 * ((j 1).val / 4096) ≤ (j 1).val; omega) (by show (j 1).val < 4096 * ((j 1).val / 4096) + 4096; omega)⟩

theorem out_disjoint (k k' : Fin 8) (h : k ≠ k') : Disjoint (outSet k) (outSet k') := by
  rw [Finset.disjoint_left]
  intro j h1 h2
  have a := mem_outSet.1 h1
  have b := mem_outSet.1 h2
  exact h (Fin.ext (by omega))

theorem out_all (j : S32768x128.Idx) : ∃ k, j ∈ outSet k := by
  have h1 : (j 0).val < 32768 := (j 0).isLt
  exact ⟨⟨(j 0).val / 4096, by omega⟩, mem_outSet.2 ⟨by show 4096 * ((j 0).val / 4096) ≤ (j 0).val; omega, by show (j 0).val < 4096 * ((j 0).val / 4096) + 4096; omega⟩⟩

theorem home_disjoint {n : ℕ} (q q' : Fin 8 × Fin n) (h : q ≠ q') : Disjoint (blkSet q.2 q.1) (blkSet q'.2 q'.1) :=
  blk_disjoint (by by_contra hc; rw [not_or, not_not, not_not] at hc; exact h (Prod.ext hc.2 hc.1))
theorem home_all {n : ℕ} (j : (S3 n).Idx) : ∃ q : Fin 8 × Fin n, j ∈ blkSet q.2 q.1 := let ⟨i, k, h⟩ := blk_all j; ⟨(k, i), h⟩
theorem slot_disjoint {n : ℕ} (q q' : Fin n × Fin 8) (h : q ≠ q') : Disjoint (blkSet q.1 q.2) (blkSet q'.1 q'.2) :=
  blk_disjoint (by by_contra hc; rw [not_or, not_not, not_not] at hc; exact h (Prod.ext hc.1 hc.2))
theorem slot_all {n : ℕ} (j : (S3 n).Idx) : ∃ q : Fin n × Fin 8, j ∈ blkSet q.1 q.2 := let ⟨i, k, h⟩ := blk_all j; ⟨(i, k), h⟩

/-! ## A side at rest -/

abbrev anyP (c : Dev nD) {sp : Space} {s : Shape} {e : EltTy} (M : Memref sig .tc sp s e) : sProp 𝕄 := iprop(∃ x : s.Idx → Elt F e, ptOn c M Finset.univ x)

variable (σ : Side) (xH : (S3 9).Idx → Elt F .bf16) (G : (S3 9).Idx → Elt F .fp8e4m3)

theorem homes_eq : (bigSep Finset.univ fun k => bigSep Finset.univ fun b => home c σ xH b k) = (ptOn c σ.H Finset.univ xH : sProp 𝕄) := by
  have h := ptOn_pieces (c := c) σ.H (fun q : Fin 8 × Fin 9 => blkSet q.2 q.1) home_disjoint home_all xH
  rw [bigSep_univ_prod] at h
  exact h.symm

theorem gone_eq : (bigSep Finset.univ fun k => bigSep Finset.univ fun b => Call c σ G 9 b k) = (ptOn c σ.C Finset.univ G : sProp 𝕄) := by
  have h := ptOn_pieces (c := c) σ.C (fun q : Fin 8 × Fin 9 => blkSet q.2 q.1) home_disjoint home_all G
  rw [bigSep_univ_prod] at h
  exact Eq.trans (bigSep_congr fun k _ => bigSep_congr fun b _ => if_pos b.isLt) h.symm

theorem free_in : anyP c σ.C ⊢ (bigSep Finset.univ fun k => bigSep Finset.univ fun b => Call c σ G 0 b k : sProp 𝕄) := by
  have h := any_pieces (c := c) (F := F) σ.C (fun q : Fin 8 × Fin 9 => blkSet q.2 q.1) home_disjoint home_all
  rw [bigSep_univ_prod] at h
  exact h.trans (entails_of_eq (bigSep_congr fun k _ => bigSep_congr fun b _ => (if_neg (Nat.not_lt_zero _)).symm))

theorem slots_in : anyP c σ.B ⊢ (iprop(bigSep Finset.univ (slotAny c σ 0) ∗ bigSep Finset.univ (slotAny c σ 1)) : sProp 𝕄) := by
  have h := any_pieces (c := c) (F := F) σ.B (fun q : Fin 2 × Fin 8 => blkSet q.1 q.2) slot_disjoint slot_all
  rw [bigSep_univ_prod, bigSep_fin_two] at h
  exact h
theorem slots_out (f₀ : Buf (Elt F) (σ.B.view.loc (c : Thread nD τ))) : iprop(bigSep Finset.univ (slotAny c σ 0) ∗ bigSep Finset.univ (slotAny c σ 1)) ⊢ (anyP c σ.B : sProp 𝕄) := by
  have h := any_whole (c := c) (F := F) σ.B (fun q : Fin 2 × Fin 8 => blkSet q.1 q.2) slot_disjoint slot_all f₀
  rw [bigSep_univ_prod, bigSep_fin_two] at h
  exact h
theorem outs_in : anyP c σ.O ⊢ (bigSep Finset.univ (outAny c σ) : sProp 𝕄) := any_pieces σ.O outSet out_disjoint out_all
theorem outs_out (f₀ : Buf (Elt F) (σ.O.view.loc (c : Thread nD τ))) : bigSep Finset.univ (outAny c σ) ⊢ (anyP c σ.O : sProp 𝕄) := any_whole σ.O outSet out_disjoint out_all f₀

theorem two (A B : Fin 8 → sProp 𝕄) : (bigSep Finset.univ (fun k => iprop(A k ∗ B k)) : sProp 𝕄) = iprop(bigSep Finset.univ A ∗ bigSep Finset.univ B) := bigSep_sep _ _ _

theorem ins_eq : bigSep Finset.univ (IN c σ xH 9) = (iprop((bigSep Finset.univ (slotAny c σ 1) ∗ bigSep Finset.univ (sIn c σ 1)) ∗ bigSep Finset.univ (slotAny c σ 0)
    ∗ bigSep Finset.univ (sIn c σ 0) ∗ ptOn c σ.H Finset.univ xH) : sProp 𝕄) := by
  rw [← homes_eq, ← two, ← two, ← two, ← two]
  exact bigSep_congr fun k _ => dif_neg (by omega)

theorem goes_eq (n : ℕ) : bigSep Finset.univ (OUTf c σ G n) = (iprop(bigSep Finset.univ (outAny c σ) ∗ bigSep Finset.univ (sOut c σ)
    ∗ bigSep Finset.univ fun k => bigSep Finset.univ fun b => Call c σ G n b k) : sProp 𝕄) := by
  rw [← two, ← two]
  exact bigSep_congr fun k _ => rfl

/-- What a side holds while none of its blocks is on its way, the first `n` of the finished ones being home. -/
def Rest (c : Dev nD) (σ : Side) (xH : (S3 9).Idx → Elt F .bf16) (G : (S3 9).Idx → Elt F .fp8e4m3) (n : ℕ) : sProp 𝕄 := iprop(bigSep Finset.univ (IN c σ xH 9) ∗ bigSep Finset.univ (OUTf c σ G n))
/-- A side's semaphores at zero. -/
def Sems (c : Dev nD) (σ : Side) : sProp 𝕄 := iprop((bigSep Finset.univ (sIn c σ 0) ∗ bigSep Finset.univ (sIn c σ 1)) ∗ bigSep Finset.univ (sOut c σ))

theorem rest_in : iprop(ptOn c σ.H Finset.univ xH ∗ anyP c σ.B ∗ anyP c σ.O ∗ anyP c σ.C ∗ Sems c σ) ⊢ (Rest c σ xH G 0 : sProp 𝕄) := by
  unfold Rest Sems
  rw [ins_eq, goes_eq]
  iintro ⟨H1, H2, H3, H4, ⟨H5, H6⟩, H7⟩
  ihave H2 := (slots_in σ) $$ H2
  icases H2 with ⟨H20, H21⟩
  ihave H3 := (outs_in σ) $$ H3
  ihave H4 := (free_in σ G) $$ H4
  isplitl [H1 H20 H21 H5 H6]
  · isplitl [H21 H6]
    · isplitl [H21]; · iexact H21
      iexact H6
    isplitl [H20]; · iexact H20
    isplitl [H5]; · iexact H5
    iexact H1
  isplitl [H3]; · iexact H3
  isplitl [H7]; · iexact H7
  iexact H4

theorem rest_out : Rest c σ xH G 9 ⊢ (iprop(ptOn c σ.H Finset.univ xH ∗ anyP c σ.B ∗ anyP c σ.O ∗ ptOn c σ.C Finset.univ G ∗ Sems c σ) : sProp 𝕄) := by
  unfold Rest Sems
  rw [ins_eq, goes_eq, gone_eq]
  iintro ⟨⟨⟨H21, H6⟩, H20, H5, H1⟩, H3, H7, H4⟩
  isplitl [H1]; · iexact H1
  isplitl [H20 H21]
  · iapply (slots_out σ (σ.B.view.rep fun _ => Scalar.ofBits .bf16 0x0000#16))
    isplitl [H20]; · iexact H20
    iexact H21
  isplitl [H3]
  · iapply (outs_out σ (σ.O.view.rep fun _ => Scalar.ofBits .fp8e4m3 0x00#8)) $$ H3
  isplitl [H4]; · iexact H4
  isplitl [H5 H6]
  · isplitl [H5]; · iexact H5
    iexact H6
  iexact H7

/-! ## The semaphores -/

/-- The kernel's own semaphores. -/
abbrev KSem : Type := (Fin 2 × Fin 2 × Fin 8) ⊕ (Fin 2 × Fin 8)
abbrev osem : KSem → SemLoc sig := Sum.elim (fun q => inSem q.1 q.2.1 q.2.2) (fun q => outSem q.1 q.2)

theorem sems_eq : Pipeline.ownSems0 (Ix := Unit) (Name := ℕ) (U := UU nD τ) (Lvl := ℕ) (Val := Elt F) (τ := τ) osem c = (iprop(Sems c sideK ∗ Sems c sideV) : sProp 𝕄) := by
  unfold Pipeline.ownSems0 Sems
  rw [bigSep_univ_sum, bigSep_univ_prod, bigSep_univ_prod, bigSep_fin_two, bigSep_fin_two, bigSep_univ_prod, bigSep_univ_prod, bigSep_fin_two, bigSep_fin_two]
  have e : ∀ A B C D : sProp 𝕄, iprop((A ∗ B) ∗ C ∗ D) = iprop((A ∗ C) ∗ B ∗ D) := fun A B C D => by ac_rfl
  exact e _ _ _ _
theorem ownSemFacts : Pipeline.OwnSemFacts spec0 osem := by decide +kernel

end Cert.Proof.Kernel

end
-- ==== Proof.K.Launch.lean ====
/- The launch: the region inside the whole program. -/
module

public import proofs.«01_k».proof.Proof.K.Parts
public import proofs.«01_k».proof.Proof.Gen.Kernel.Frame
public import Idealize.ShloMosaic.Lib.Pipeline.FrameSuffixV
public import proofs.«01_k».proof.Defs

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

open Idealize.ShloMosaic.Pipeline (Dat Cfg Window BodyObligation cellOf)
variable {c : Dev nD}

/-! ## Whole memrefs and their buffers -/

section
variable {sp : Space} {s : Shape} {e : EltTy} (M : Memref sig .tc sp s e) (hM : M.IsWhole)
include hM

theorem whole_univ : M.view.setOn Finset.univ = Finset.univ := hM.set_eq_univ

theorem ptOn_whole (f : Buf (Elt F) (M.view.loc (c : Thread nD τ))) (x : s.Idx → Elt F e) (h : M.view.read (Elt F) f = x) :
    (M.view.loc (c : Thread nD τ) ↦{fullShare} f) = (ptOn c M Finset.univ x : sProp 𝕄) := by
  rw [← ptOn_of (c := c) (M := M) (R := Finset.univ) f (fun i _ => congrFun h i), whole_univ M hM]

theorem anyP_in : iprop(∃ f : Buf (Elt F) (M.view.loc (c : Thread nD τ)), M.view.loc (c : Thread nD τ) ↦{fullShare} f) ⊢ (anyP c M : sProp 𝕄) := by
  iintro ⟨%f, H⟩
  iexists (M.view.read (Elt F) f)
  iapply (entails_of_eq (ptOn_whole M hM f _ rfl)) $$ H

theorem anyP_out : anyP c M ⊢ (iprop(∃ f : Buf (Elt F) (M.view.loc (c : Thread nD τ)), M.view.loc (c : Thread nD τ) ↦{fullShare} f) : sProp 𝕄) := by
  iintro ⟨%x, H⟩
  iexists (M.view.rep x)
  iapply (entails_of_eq (ptOn_whole M hM (M.view.rep x) x (View.read_rep _ _)).symm) $$ H

omit hM in
/-- What the pipeline hands over of a staging buffer. -/
theorem owned_in (x : s.Idx → Elt F e) : iprop(∃ f : Buf (Elt F) (M.view.loc (c : Thread nD τ)), ⌜M.view.read (Elt F) f = x⌝ ∗ (M.view.loc (c : Thread nD τ) ↦[M.view.set]{fullShare} f)) ⊢ (ptOn c M Finset.univ x : sProp 𝕄) := by
  iintro ⟨%f, %h, H⟩
  have e := ptOn_of (c := c) (M := M) (R := Finset.univ) f (fun i _ => congrFun h i)
  rw [View.setOn_univ] at e
  iapply (entails_of_eq e) $$ H

omit hM in
theorem owned_out (x : s.Idx → Elt F e) : ptOn c M Finset.univ x ⊢ (iprop(∃ f : Buf (Elt F) (M.view.loc (c : Thread nD τ)), ⌜M.view.read (Elt F) f = x⌝ ∗ (M.view.loc (c : Thread nD τ) ↦[M.view.set]{fullShare} f)) : sProp 𝕄) := by
  iintro H
  iexists (M.view.rep x)
  isplitr
  · ipureintro; exact View.read_rep _ _
  have e := ptOn_of (c := c) (M := M) (R := Finset.univ) (M.view.rep x) (fun i _ => congrFun (View.read_rep M.view x) i)
  rw [View.setOn_univ] at e
  iapply (entails_of_eq e.symm) $$ H
end

/-- What the kernel holds besides the staged blocks, at given arrays and results. -/
def StayAt (c : Dev nD) (xK xV : (S3 9).Idx → Elt F .bf16) (rK rV : (S3 9).Idx → Elt F .fp8e4m3) (n : ℕ) : sProp 𝕄 :=
  iprop(Rest c sideK xK rK n ∗ Rest c sideV xV rV n ∗ anyP c cB ∗ anyP c sB ∗ anyP c yB ∗ anyP c nB)

/-! ## The proof data -/

section Launch

variable (m : (ℓ : Loc nD τ sig) → Buf (Elt F) ℓ) (ρ : Dev nD → PrngReg)

/-- The keys and the values as the region finds them. -/
def xK (c : Dev nD) : (S3 9).Idx → Elt F .bf16 := kH.view.read (Elt F) (V m c main_v17)
def xV (c : Dev nD) : (S3 9).Idx → Elt F .bf16 := vH.view.read (Elt F) (V m c main_v20)
/-- The start positions and the frequencies. -/
abbrev st (c : Dev nD) : S9.Idx → Elt F .i32 := iblk m c 0 t0_0
abbrev fr (c : Dev nD) : S1x128.Idx → Elt F .f32 := iblk m c 1 t0_0

/-- The four results the region leaves. -/
def rKc (c : Dev nD) : (S3 9).Idx → Elt F .fp8e4m3 := GKc (st m c) (fr m c) (xK m c)
def rKs (c : Dev nD) : S9x8x128.Idx → Elt F .f32 := GKs (st m c) (fr m c) (xK m c)
def rVc (c : Dev nD) : (S3 9).Idx → Elt F .fp8e4m3 := GVc (xV m c)
def rVs (c : Dev nD) : S9x8x128.Idx → Elt F .f32 := GVs (xV m c)

/-- What the kernel holds besides the staged blocks: at the region's entry (`n = 0`) and at its end (`n = 9`). -/
def Stay (c : Dev nD) (n : ℕ) : sProp 𝕄 := StayAt c (xK m c) (xV m c) (rKc m c) (rVc m c) n

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => rKs m c
    | ⟨3, _⟩ => rVs m c
  Φ t := Stay m c (9 * t.val)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = rKs m c := by dsimp only [dats]
theorem after_w3 (c : Dev nD) (t : Fin cfg0.N) : (dats m 0 c).after 3 t = rVs m c := by dsimp only [dats]

/-! ## The body obligation -/

/-- The kernel on the blocks of a point. -/
abbrev bodyG (arg0 : Memref sig .tc .smem S9 .i32) (harg0 : arg0.IsWhole) (arg1 : Memref sig .tc .vmem S1x128 .f32) (harg1 : arg1.IsWhole) (arg5 : Memref sig .tc .vmem S9x8x128 .f32) (harg5 : arg5.IsWhole)
    (arg7 : Memref sig .tc .vmem S9x8x128 .f32) (harg7 : arg7.IsWhole) : Prog (TpuEff nD τ sig (Elt F) Λ₀ .tc) PUnit :=
  cc0_rope_fp8_kv arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl

theorem prog_eq : (defs₀ (F := F)) .tc cfg0.body (cfg0.bodyArgs t0_0 (cfg0.slots t0_0))
    = bodyG (stage0_0 0) (hstage0_0 0) (stage0_1 0) (hstage0_1 0) (stage0_2 0) (hstage0_2 0) (stage0_3 0) (hstage0_3 0) :=
  (congrFun defs_tc _).trans rfl

section
variable (st : S9.Idx → Elt F .i32) (fr : S1x128.Idx → Elt F .f32) (xK xV : (S3 9).Idx → Elt F .bf16)

/-- What the region holds, regrouped. -/
theorem stay_eq (rK rV : (S3 9).Idx → Elt F .fp8e4m3) (n : ℕ) (a0 a1 a5 a7 : sProp 𝕄) :
    (Held (insK c xK 9) (ow F c) (anyP c cB) (anyP c sB) (anyP c yB) (anyP c nB) a0 a1 a5 a7 (insV c xV 9) (bigSep Finset.univ (OUTf c sideK rK n)) (bigSep Finset.univ (OUTf c sideV rV n)) : sProp 𝕄)
      = iprop(StayAt c xK xV rK rV n ∗ ow F c ∗ a0 ∗ a1 ∗ a5 ∗ a7) := by
  unfold Held StayAt Rest insV insK
  generalize (bigSep Finset.univ (OUTf c sideK rK n) : sProp 𝕄) = A1
  generalize (bigSep Finset.univ (OUTf c sideV rV n) : sProp 𝕄) = A2
  generalize (bigSep Finset.univ (IN c sideK xK 9) : sProp 𝕄) = A3
  generalize (bigSep Finset.univ (IN c sideV xV 9) : sProp 𝕄) = A4
  generalize (anyP c cB : sProp 𝕄) = A5
  generalize (anyP c sB : sProp 𝕄) = A6
  generalize (anyP c yB : sProp 𝕄) = A7
  generalize (anyP c nB : sProp 𝕄) = A8
  generalize (ow F c : sProp 𝕄) = A9
  ac_rfl

/-- The region between what the pipeline hands over and what it takes back. -/
theorem Runs.staged (arg0 : Memref sig .tc .smem S9 .i32) (harg0 : arg0.IsWhole) (arg1 : Memref sig .tc .vmem S1x128 .f32) (harg1 : arg1.IsWhole) (arg5 : Memref sig .tc .vmem S9x8x128 .f32) (harg5 : arg5.IsWhole)
    (arg7 : Memref sig .tc .vmem S9x8x128 .f32) (harg7 : arg7.IsWhole) :
    Runs c iprop(StayAt c xK xV (GKc st fr xK) (GVc xV) 0 ∗ ow F c ∗ ptOn c arg0 Finset.univ st ∗ ptOn c arg1 Finset.univ fr ∗ anyP c arg5 ∗ anyP c arg7)
      (bodyG arg0 harg0 arg1 harg1 arg5 harg5 arg7 harg7) ⟨⟩
      iprop(StayAt c xK xV (GKc st fr xK) (GVc xV) 9 ∗ ow F c ∗ ptOn c arg0 Finset.univ st ∗ ptOn c arg1 Finset.univ fr ∗ ptOn c arg5 Finset.univ (GKs st fr xK) ∗ ptOn c arg7 Finset.univ (GVs xV)) := by
  rw [← stay_eq, ← stay_eq]
  refine (Runs.region (c := c) arg0 harg0 arg1 harg1 arg5 harg5 arg7 harg7 st fr xK xV).conseq ?_ ?_
  · unfold Held
    exact BIClass.sep_mono .rfl (BIClass.sep_mono .rfl (BIClass.sep_mono .rfl (BIClass.sep_mono .rfl (BIClass.sep_mono .rfl (BIClass.sep_mono .rfl (BIClass.sep_mono .rfl (BIClass.sep_mono (known_of fr fun _ _ => rfl) .rfl)))))))
  · unfold Held
    exact BIClass.sep_mono .rfl (BIClass.sep_mono .rfl (BIClass.sep_mono .rfl (BIClass.sep_mono .rfl (BIClass.sep_mono .rfl (BIClass.sep_mono .rfl (BIClass.sep_mono .rfl (BIClass.sep_mono (known_full fun _ _ => trivial) .rfl)))))))

end

theorem stay_def (n : ℕ) : Stay m c n = (StayAt c (xK m c) (xV m c) (GKc (st m c) (fr m c) (xK m c)) (GVc (xV m c)) n : sProp 𝕄) := rfl
theorem ow_in (W) : owes (Ix := Unit) (Val := Elt F) (Name := ℕ) (U := UU nD τ) (Lvl := ℕ) (c : Thread nD τ) 0 W ⊢ (ow F c : sProp 𝕄) := by
  unfold ow
  iintro H; iexists W; iexact H

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, after_w0, after_w1, after_w2, after_w3]
  rw [show (dats m 0 c).Φ (Fin.castSucc t0_0) = Stay m c 0 from rfl, show (dats m 0 c).Φ (Fin.succ t0_0) = Stay m c 9 from rfl]
  unfold Dat.owesAt Pipeline.owesWithin
  rw [show (dats m 0 c).owed (Fin.castSucc t0_0) = 0 from rfl, show (dats m 0 c).owed (Fin.succ t0_0) = 0 from rfl]
  unfold owns
  iintro ⟨HS, ⟨%W, -, HW⟩, ⟨%d0, H0⟩, ⟨%d1, H1⟩, ⟨%d2, H2⟩, ⟨%d3, H3⟩⟩
  ihave H0 := (owned_in (c := c) (stage0_0 0) (st m c)) $$ H0
  ihave H1 := (owned_in (c := c) (stage0_1 0) (fr m c)) $$ H1
  ihave H2 := (owned_in (c := c) (stage0_2 0) _) $$ H2
  ihave H3 := (owned_in (c := c) (stage0_3 0) _) $$ H3
  sl_rw [prog_eq]
  have hr := Runs.staged (c := c) (st m c) (fr m c) (xK m c) (xV m c) (stage0_0 0) (hstage0_0 0) (stage0_1 0) (hstage0_1 0) (stage0_2 0) (hstage0_2 0) (stage0_3 0) (hstage0_3 0)
  iapply (hr _)
  isplitl [HS HW H0 H1 H2 H3]
  · isplitl [HS]; · iapply (entails_of_eq (stay_def m 0)) $$ HS
    isplitl [HW]; · iapply (ow_in W) $$ HW
    isplitl [H0]; · iexact H0
    isplitl [H1]; · iexact H1
    isplitl [H2]; · iexists _; iexact H2
    iexists _; iexact H3
  · unfold ow
    iintro ⟨HS, ⟨%W', HW⟩, H0, H1, H2, H3⟩
    isplitl [HS]; · iapply (entails_of_eq (stay_def m 9).symm) $$ HS
    isplitl [HW]
    · iexists W'; isplitr; · ipureintro; exact fun _ _ => Or.inl trivial
      iexact HW
    isplitl [H0]; · iapply (owned_out (c := c) (stage0_0 0) (st m c)) $$ H0
    isplitl [H1]; · iapply (owned_out (c := c) (stage0_1 0) (fr m c)) $$ H1
    isplitl [H2]; · iapply (owned_out (c := c) (stage0_2 0) (GKs (st m c) (fr m c) (xK m c))) $$ H2
    iapply (owned_out (c := c) (stage0_3 0) (GVs (xV m c))) $$ H3

/-! ## The run -/

/-- The buffers the kernel copies its results into, as the region leaves them. -/
def Gout (c : Dev nD) : (b : Ref sig .tc) → Buf (Elt F) ((c : Thread nD τ).loc b) :=
  Function.update (Function.update (V m c) main_v21_0 (kcH.view.rep (rKc m c))) main_v21_2 (vcH.view.rep (rVc m c))
theorem Gout_0 (c : Dev nD) : Gout m c main_v21_0 = kcH.view.rep (rKc m c) := by
  unfold Gout
  rw [Function.update_of_ne (by decide), Function.update_self]
theorem Gout_2 (c : Dev nD) : Gout m c main_v21_2 = vcH.view.rep (rVc m c) := by
  unfold Gout
  rw [Function.update_self]

theorem home_bufs (G : (b : Ref sig .tc) → Buf (Elt F) ((c : Thread nD τ).loc b)) :
    (bigSep ({main_v17, main_v20} : Finset (Ref sig .tc)) fun b => ((c : Thread nD τ).loc b) ↦{fullShare} G b)
      = (iprop(((c : Thread nD τ).loc main_v17 ↦{fullShare} G main_v17) ∗ ((c : Thread nD τ).loc main_v20 ↦{fullShare} G main_v20)) : sProp 𝕄) := by
  rw [bigSep_insert (by decide), bigSep_singleton]; rfl
theorem code_bufs (G : (b : Ref sig .tc) → Buf (Elt F) ((c : Thread nD τ).loc b)) :
    (bigSep ({main_v21_0, main_v21_2} : Finset (Ref sig .tc)) fun b => ((c : Thread nD τ).loc b) ↦{fullShare} G b)
      = (iprop(((c : Thread nD τ).loc main_v21_0 ↦{fullShare} G main_v21_0) ∗ ((c : Thread nD τ).loc main_v21_2 ↦{fullShare} G main_v21_2)) : sProp 𝕄) := by
  rw [bigSep_insert (by decide), bigSep_singleton]; rfl

theorem stay_in (c : Dev nD) : Pipeline.ΦDRV osem spec0 {main_v17, main_v20} {main_v21_0, main_v21_2} (fun c b => V m c b) (fun c b => V m c b) c ⊢ (Stay m c 0 : sProp 𝕄) := by
  unfold Pipeline.ΦDRV Stay StayAt
  rw [scopedRest0_eq, sems_eq, home_bufs, code_bufs]
  iintro ⟨⟨H0, H1, H2, H3, H4, H5, H6, H7⟩, ⟨SK, SV⟩, ⟨HK, HV⟩, CK, CV⟩
  isplitl [H0 H2 SK HK CK]
  · iapply (rest_in (c := c) sideK (xK m c) (rKc m c))
    isplitl [HK]; · iapply (entails_of_eq (ptOn_whole (c := c) kH (Memref.isWhole_whole _) (V m c main_v17) (xK m c) rfl)) $$ HK
    isplitl [H0]; · iapply (anyP_in (c := c) kB (Memref.isWhole_whole _)) $$ H0
    isplitl [H2]; · iapply (anyP_in (c := c) kO (Memref.isWhole_whole _)) $$ H2
    isplitl [CK]
    · iapply (anyP_in (c := c) kcH (Memref.isWhole_whole _))
      iexists _; iexact CK
    iexact SK
  isplitl [H1 H3 SV HV CV]
  · iapply (rest_in (c := c) sideV (xV m c) (rVc m c))
    isplitl [HV]; · iapply (entails_of_eq (ptOn_whole (c := c) vH (Memref.isWhole_whole _) (V m c main_v20) (xV m c) rfl)) $$ HV
    isplitl [H1]; · iapply (anyP_in (c := c) vB (Memref.isWhole_whole _)) $$ H1
    isplitl [H3]; · iapply (anyP_in (c := c) vO (Memref.isWhole_whole _)) $$ H3
    isplitl [CV]
    · iapply (anyP_in (c := c) vcH (Memref.isWhole_whole _))
      iexists _; iexact CV
    iexact SV
  isplitl [H4]; · iapply (anyP_in (c := c) cB (Memref.isWhole_whole _)) $$ H4
  isplitl [H5]; · iapply (anyP_in (c := c) sB (Memref.isWhole_whole _)) $$ H5
  isplitl [H6]; · iapply (anyP_in (c := c) yB (Memref.isWhole_whole _)) $$ H6
  iapply (anyP_in (c := c) nB (Memref.isWhole_whole _)) $$ H7

theorem stay_out (c : Dev nD) : Stay m c 9 ⊢ (Pipeline.ΦDRV osem spec0 {main_v17, main_v20} {main_v21_0, main_v21_2} (fun c b => V m c b) (Gout m) c : sProp 𝕄) := by
  unfold Pipeline.ΦDRV Stay StayAt
  rw [scopedRest0_eq, sems_eq, home_bufs, code_bufs, Gout_0, Gout_2]
  iintro ⟨RK, RV, H4, H5, H6, H7⟩
  ihave RK := (rest_out (c := c) sideK (xK m c) (rKc m c)) $$ RK
  ihave RV := (rest_out (c := c) sideV (xV m c) (rVc m c)) $$ RV
  icases RK with ⟨HK, H0, H2, CK, SK⟩
  icases RV with ⟨HV, H1, H3, CV, SV⟩
  isplitl [H0 H1 H2 H3 H4 H5 H6 H7]
  · isplitl [H0]; · iapply (anyP_out (c := c) kB (Memref.isWhole_whole _)) $$ H0
    isplitl [H1]; · iapply (anyP_out (c := c) vB (Memref.isWhole_whole _)) $$ H1
    isplitl [H2]; · iapply (anyP_out (c := c) kO (Memref.isWhole_whole _)) $$ H2
    isplitl [H3]; · iapply (anyP_out (c := c) vO (Memref.isWhole_whole _)) $$ H3
    isplitl [H4]; · iapply (anyP_out (c := c) cB (Memref.isWhole_whole _)) $$ H4
    isplitl [H5]; · iapply (anyP_out (c := c) sB (Memref.isWhole_whole _)) $$ H5
    isplitl [H6]; · iapply (anyP_out (c := c) yB (Memref.isWhole_whole _)) $$ H6
    iapply (anyP_out (c := c) nB (Memref.isWhole_whole _)) $$ H7
  isplitl [SK SV]
  · isplitl [SK]; · iexact SK
    iexact SV
  isplitl [HK HV]
  · isplitl [HK]; · iapply (entails_of_eq (ptOn_whole (c := c) kH (Memref.isWhole_whole _) (V m c main_v17) (xK m c) rfl).symm) $$ HK
    iapply (entails_of_eq (ptOn_whole (c := c) vH (Memref.isWhole_whole _) (V m c main_v20) (xV m c) rfl).symm) $$ HV
  isplitl [CK]; · iapply (entails_of_eq (ptOn_whole (c := c) kcH (Memref.isWhole_whole _) (kcH.view.rep (rKc m c)) (rKc m c) (View.read_rep _ _)).symm) $$ CK
  iapply (entails_of_eq (ptOn_whole (c := c) vcH (Memref.isWhole_whole _) (vcH.view.rep (rVc m c)) (rVc m c) (View.read_rep _ _)).symm) $$ CV

set_option maxHeartbeats 800000 in
theorem hmainU : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A core's buffers where the host lines after the region begin. -/
def Vmid (c : Dev nD) : Valuation τ sig (Elt F) :=
  Pipeline.withArrays spec0 c (Pipeline.withR (V0 m c) {main_v21_0, main_v21_2} c (Gout m c)) fun w => (dats m 0 c).arrAt w cfg0.N

/-- Every way of running the program ends, with every array and every other buffer of the core as computed here, every semaphore at zero. -/
theorem run_main : θ_run defs (onTc (τ := τ) (main (F := F))) (s₀ m ρ) (fun r => (∀ c : Dev nD,
    (∀ w, r.2.mem (((cfg0).spec w).arr.view.loc (c : Thread nD τ)) = (dats m 0 c).arrAt w cfg0.N)
      ∧ ∀ b ∈ Pipeline.restRefs sig spec0, r.2.mem ((c : Thread nD τ).loc b) = StableHlo.after ([hostOps1] : List (List (HloOp τ sig (Elt F)))).flatten (Vmid m c) (Proc.devRef .tc b))
    ∧ r.2.sem = fun _ => 0) :=
  Pipeline.θ_run_frame_dmaR_aroundV cfgs (dats m) (0 : Fin 1) launch0 osem defs₀ 𝒱₀ ownSemFacts {main_v17, main_v20} {main_v21_0, main_v21_2}
    (by decide) (by decide) m ρ main
    (fun c => (body_obligation m c).loose) (fun c => (dats m 0 c).share_full fun _ => rfl) (fun _ _ => rfl) (V0 m) [hostOps1]
    sfx_sub sfx_fresh sfx_keeps (Gout m) (hmainU m) (fun _ _ => rfl) (stay_in m) (stay_out m) _ (fun r h => ⟨fun c => ⟨(h.1 c).1, (h.1 c).2⟩, h.2⟩)

/-! ## The arguments -/

theorem hostOps1_keeps (b : Ref sig .tc) (h22 : b ≠ main_v22) (h23 : b ≠ main_v23) (h24 : b ≠ main_v24) (h25 : b ≠ main_v25) (h26 : b ≠ main_v26) (h27 : b ≠ main_v27) :
    ∀ op ∈ ([hostOps1] : List (List (HloOp τ sig (Elt F)))).flatten, Proc.devRef .tc b ∉ op.writes := List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals first | exact StableHlo.devRef_ne_of_ne h22 | exact StableHlo.devRef_ne_of_ne h23 | exact StableHlo.devRef_ne_of_ne h24 | exact StableHlo.devRef_ne_of_ne h25 | exact StableHlo.devRef_ne_of_ne h26 | exact StableHlo.devRef_ne_of_ne h27)

/-- A buffer neither the region nor the host lines after it write is as the region found it. -/
theorem after_kept (c : Dev nD) (b : Ref sig .tc) (h22 : b ≠ main_v22) (h23 : b ≠ main_v23) (h24 : b ≠ main_v24) (h25 : b ≠ main_v25) (h26 : b ≠ main_v26) (h27 : b ≠ main_v27)
    (hw : ∀ w, Pipeline.arrRef spec0 w ≠ b) (hR : b ∉ ({main_v21_0, main_v21_2} : Finset (Ref sig .tc))) :
    StableHlo.after ([hostOps1] : List (List (HloOp τ sig (Elt F)))).flatten (Vmid m c) (Proc.devRef .tc b) = V m c b := by
  rw [StableHlo.after_of_forall_not_mem (b := Proc.devRef .tc b) _ _ (hostOps1_keeps b h22 h23 h24 h25 h26 h27)]
  unfold Vmid
  rw [Pipeline.withArrays_of_ne _ c _ _ b hw, Pipeline.withR_of_not_mem _ _ _ _ b hR]

theorem args_kept (r : PUnit × MemSt nD τ sig (Elt F)) (c : Dev nD) (h : (∀ w, r.2.mem (((cfg0).spec w).arr.view.loc (c : Thread nD τ)) = (dats m 0 c).arrAt w cfg0.N)
      ∧ ∀ b ∈ Pipeline.restRefs sig spec0, r.2.mem ((c : Thread nD τ).loc b) = StableHlo.after ([hostOps1] : List (List (HloOp τ sig (Elt F)))).flatten (Vmid m c) (Proc.devRef .tc b)) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) := by
  refine ⟨?_, ?_, ?_⟩
  · exact ((h.2 main_arg0 (Pipeline.mem_restRefs_of main_arg0 (by decide) (by decide))).trans
      (after_kept m c main_arg0 (by decide) (by decide) (by decide) (by decide) (by decide) (by decide) (by decide) (by decide))).trans (V_main_arg0 m c)
  · exact ((h.2 main_arg1 (Pipeline.mem_restRefs_of main_arg1 (by decide) (by decide))).trans
      (after_kept m c main_arg1 (by decide) (by decide) (by decide) (by decide) (by decide) (by decide) (by decide) (by decide))).trans (V_main_arg1 m c)
  · exact ((h.1 0).trans ((dats m 0 c).arrAt_in 0 rfl _)).trans (V_main_arg2 m c)

end Launch

/-- The frame claim. -/
theorem frame : Cert.quiescent_Kernel := fun m ρ _ =>
  (θ_run defs _ _).mono (fun r hh => ⟨fun c => args_kept m r c (hh.1 c), hh.2⟩) (run_main (F := Bits) m ρ)

end Cert.Proof.Kernel

end
-- ==== Proof.KI.Ops.lean ====
/- The buffers the kernel holds, its loads, stores and transfers, and the rules by which a step takes
   what it holds to what it leaves: every step here yields one value, so a rule names it. -/
module

public import proofs.«01_k».proof.Proof.Gen.KernelIdeal.Skeleton
public import Idealize.ShloMosaic.Lib.Pipeline.KitQuiescent
public import Idealize.ShloMosaic.Lib.VecWindow
public import Idealize.ShloMosaic.Lib.Ring
public import Idealize.ShloMosaic.Lib.Transfers
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The buffers -/

abbrev kH : Memref sig .tc .hbm S9x32768x128 .bf16 := Memref.whole main_v17
abbrev vH : Memref sig .tc .hbm S9x32768x128 .bf16 := Memref.whole main_v20
abbrev kcH : Memref sig .tc .hbm S9x32768x128 .fp8e4m3 := Memref.whole main_v21_0
abbrev vcH : Memref sig .tc .hbm S9x32768x128 .fp8e4m3 := Memref.whole main_v21_2
abbrev kB : Memref sig .tc .vmem S2x32768x128 .bf16 := Memref.whole cc0_scratch0
abbrev vB : Memref sig .tc .vmem S2x32768x128 .bf16 := Memref.whole cc0_scratch1
abbrev kO : Memref sig .tc .vmem S32768x128 .fp8e4m3 := Memref.whole cc0_scratch2
abbrev vO : Memref sig .tc .vmem S32768x128 .fp8e4m3 := Memref.whole cc0_scratch3
abbrev cB : Memref sig .tc .vmem S1024x128 .f32 := Memref.whole cc0_scratch4
abbrev sB : Memref sig .tc .vmem S1024x128 .f32 := Memref.whole cc0_scratch5
abbrev yB : Memref sig .tc .vmem S16384x128 .f32 := Memref.whole cc0_scratch6
abbrev nB : Memref sig .tc .vmem S16384x128 .bf16 := Memref.whole cc0_scratch7

/-! ## Programs -/

abbrev PR (F : FTy → Type) [FloatOps F] (α : Type) := Prog (TpuEff nD τ sig (Elt F) Λ₀ .tc) α

/-- The steps of a list in order, each from what the one before yields. -/
def over {ι σ : Type} : List ι → (ι → σ → PR F σ) → σ → PR F σ
  | [], _, s => pure s
  | i :: is, f, s => f i s >>= fun s' => over is f s'

abbrev r4 : List (Fin 4) := [0, 1, 2, 3]
abbrev r8 : List (Fin 8) := [0, 1, 2, 3, 4, 5, 6, 7]
abbrev r16 : List (Fin 16) := [0, 1, 2, 3, 4, 5, 6, 7, 8, 9, 10, 11, 12, 13, 14, 15]
abbrev r32 : List (Fin 32) :=
  [0, 1, 2, 3, 4, 5, 6, 7, 8, 9, 10, 11, 12, 13, 14, 15, 16, 17, 18, 19, 20, 21, 22, 23, 24, 25, 26, 27, 28, 29, 30, 31]

section Steps
variable {s : Shape} {e : EltTy} (M : Memref sig .tc .vmem s e) (r : Rect s)

/-- Load a rectangle. -/
def ld (h : M.view.LoadsAt r.toLoadRect) : PR F (r.shape.Idx → Elt F e) := Prog.lift (.load M r.toLoadRect h)
/-- Store a rectangle, after a load of it nothing uses. -/
def upd (w : r.shape.Idx → Elt F e) (h : M.view.LoadsAt r.toLoadRect) (h' : (M.access r).Stores Finset.univ) : PR F PUnit := do
  let _ ← Prog.lift (.load M r.toLoadRect h)
  Prog.lift (.store M r w Finset.univ h' (.inl rfl))
end Steps

/-- One batch block of rows of an array in main memory, or one slot of a buffer. -/
abbrev blk {κ : Kind} {sp : Space} {n : Nat} {e : EltTy} (M : Memref sig κ sp ⟨3, ![n, 32768, 128]⟩ e) (o : Fin 3 → ℕ)
    (h : ∀ a, o a + S1x4096x128.size a ≤ (⟨3, ![n, 32768, 128]⟩ : Shape).size a) : Memref sig κ sp S4096x128 e :=
  (M.slice (Rect.unit (s := ⟨3, ![n, 32768, 128]⟩) o S1x4096x128.size h) (fun _ => rfl)).squeeze S4096x128 squeezes_S1x4096x128_S4096x128
abbrev outBlk {κ : Kind} {sp : Space} {e : EltTy} (M : Memref sig κ sp S32768x128 e) (o : Fin 2 → ℕ)
    (h : ∀ a, o a + S4096x128.size a ≤ S32768x128.size a) : Memref sig κ sp S4096x128 e :=
  M.slice (Rect.unit (s := S32768x128) o S4096x128.size h) (fun _ => rfl)
abbrev semAt8 (o : Fin 3 → ℕ) (h : ∀ a, o a + S1x1x1.size a ≤ S2x2x8.size a) : DmaSem sig :=
  (((cc0_scratch8 : DmaSems sig S2x2x8).slice (Rect.unit (s := S2x2x8) o S1x1x1.size h)).squeeze S_ squeezes_S1x1x1_S_).sem
abbrev semAt9 (o : Fin 2 → ℕ) (h : ∀ a, o a + S1x1.size a ≤ S2x8.size a) : DmaSem sig :=
  (((cc0_scratch9 : DmaSems sig S2x8).slice (Rect.unit (s := S2x8) o S1x1.size h)).squeeze S_ squeezes_S1x1_S_).sem

section Transfers
variable (H : Memref sig .tc .hbm S9x32768x128 .bf16) (B : Memref sig .tc .vmem S2x32768x128 .bf16)
  (C : Memref sig .tc .hbm S9x32768x128 .fp8e4m3) (O : Memref sig .tc .vmem S32768x128 .fp8e4m3)

def startIn {os ob oh : Fin 3 → ℕ} (hs : ∀ a, os a + S1x1x1.size a ≤ S2x2x8.size a) (hb : ∀ a, ob a + S1x4096x128.size a ≤ S2x32768x128.size a)
    (hh : ∀ a, oh a + S1x4096x128.size a ≤ S9x32768x128.size a)
    (wh : (blk H oh hh).view.WordExact) (wb : (blk B ob hb).view.WordExact) : PR F PUnit :=
  Prog.lift (.enqueueDma (blk H oh hh) (.here (blk B ob hb)) (.dma (semAt8 os hs)) wh wb ⟨Or.inl rfl, trivial⟩)
def waitIn {os ob oh : Fin 3 → ℕ} (hs : ∀ a, os a + S1x1x1.size a ≤ S2x2x8.size a) (hb : ∀ a, ob a + S1x4096x128.size a ≤ S2x32768x128.size a)
    (hh : ∀ a, oh a + S1x4096x128.size a ≤ S9x32768x128.size a)
    (wh : (blk H oh hh).view.WordExact) (wb : (blk B ob hb).view.WordExact) : PR F PUnit :=
  Prog.lift (.waitDma2 (semAt8 os hs) (blk H oh hh) (blk B ob hb) wh wb)
def startOut {os : Fin 2 → ℕ} {oo : Fin 2 → ℕ} {oc : Fin 3 → ℕ} (hs : ∀ a, os a + S1x1.size a ≤ S2x8.size a) (ho : ∀ a, oo a + S4096x128.size a ≤ S32768x128.size a)
    (hc : ∀ a, oc a + S1x4096x128.size a ≤ S9x32768x128.size a)
    (wo : (outBlk O oo ho).view.WordExact) (wc : (blk C oc hc).view.WordExact) : PR F PUnit :=
  Prog.lift (.enqueueDma (outBlk O oo ho) (.here (blk C oc hc)) (.dma (semAt9 os hs)) wo wc ⟨Or.inl rfl, trivial⟩)
def waitOut {os : Fin 2 → ℕ} {oo : Fin 2 → ℕ} {oc : Fin 3 → ℕ} (hs : ∀ a, os a + S1x1.size a ≤ S2x8.size a) (ho : ∀ a, oo a + S4096x128.size a ≤ S32768x128.size a)
    (hc : ∀ a, oc a + S1x4096x128.size a ≤ S9x32768x128.size a)
    (wo : (outBlk O oo ho).view.WordExact) (wc : (blk C oc hc).view.WordExact) : PR F PUnit :=
  Prog.lift (.waitDma2 (semAt9 os hs) (outBlk O oo ho) (blk C oc hc) wo wc)
end Transfers

/-! ## What a step holds and leaves -/

section Rules
variable (c : Dev nD)

/-- From `P`, the program yields `a` and leaves `P'`. -/
def Runs {α : Type} (P : sProp 𝕄) (p : PR F α) (a : α) (P' : sProp 𝕄) : Prop :=
  ∀ Q : α → sProp 𝕄, iprop(P ∗ (P' -∗ Q a)) ⊢ wp frame (wpE (defs₀ (F := F)) 𝒱₀ (c : Thread nD τ) none) Set.univ p Q

variable {c}

theorem Runs.pure {α : Type} (P : sProp 𝕄) (a : α) : Runs c P (Pure.pure a : PR F α) a P := fun Q => by
  iintro ⟨HP, HQ⟩
  rw [wp_pure]
  imodintro
  iapply HQ $$ HP

theorem Runs.bind {α β : Type} {P P' P'' : sProp 𝕄} {p : PR F α} {a : α} {k : α → PR F β} {b : β}
    (h : Runs c P p a P') (hk : Runs c P' (k a) b P'') : Runs c P (p >>= k) b P'' := fun Q => by
  rw [wp_bind]
  iintro ⟨HP, HQ⟩
  iapply (h _) $$ [HP HQ]
  isplitl [HP]
  · iexact HP
  iintro HP'
  iapply (hk Q) $$ [HP' HQ]
  isplitl [HP']
  · iexact HP'
  · iexact HQ

theorem Runs.frame {α : Type} {P P' : sProp 𝕄} {p : PR F α} {a : α} (R : sProp 𝕄) (h : Runs c P p a P') :
    Runs c iprop(P ∗ R) p a iprop(P' ∗ R) := fun Q => by
  iintro ⟨⟨HP, HR⟩, HQ⟩
  iapply (h Q) $$ [HP HR HQ]
  isplitl [HP]
  · iexact HP
  iintro HP'
  iapply HQ
  isplitl [HP']
  · iexact HP'
  · iexact HR

theorem Runs.conseq {α : Type} {P P' R R' : sProp 𝕄} {p : PR F α} {a : α} (h : Runs c P p a P') (hp : R ⊢ P) (hq : P' ⊢ R') :
    Runs c R p a R' := fun Q => by
  iintro ⟨HR, HQ⟩
  ihave HP := hp $$ HR
  iapply (h Q) $$ [HP HQ]
  isplitl [HP]
  · iexact HP
  iintro HP'
  ihave HR' := hq $$ HP'
  iapply HQ $$ HR'

/-- A step that yields the same whatever it holds of the kind. -/
theorem Runs.exists {α ι : Type} {P : ι → sProp 𝕄} {P' : sProp 𝕄} {p : PR F α} {a : α} (h : ∀ i, Runs c (P i) p a P') :
    Runs c iprop(∃ i, P i) p a P' := fun Q => by
  iintro ⟨⟨%i, HP⟩, HQ⟩
  iapply (h i Q) $$ [HP HQ]
  isplitl [HP]
  · iexact HP
  · iexact HQ

theorem Runs.over {ι σ υ : Type} {Own : υ → sProp 𝕄} {p : ι → σ → PR F σ} {fa : ι → σ → σ} {fy : ι → υ → υ}
    (h : ∀ i a y, Runs c (Own y) (p i a) (fa i a) (Own (fy i y))) (l : List ι) (a : σ) (y : υ) :
    Runs c (Own y) (over l p a) (l.foldl (fun a i => fa i a) a) (Own (l.foldl (fun y i => fy i y) y)) := by
  induction l generalizing a y with
  | nil => exact Runs.pure _ _
  | cons i l ih => exact Runs.bind (h i a y) (ih _ _)

/-- A loop, from what each trip holds and leaves. -/
theorem Runs.forFrom {n : ℕ} {σ : Type} {I : ℕ → sProp 𝕄} {p : Fin n → σ → PR F σ} {fa : Fin n → σ → σ}
    (h : ∀ (k : Fin n) a, Runs c (I k) (p k a) (fa k a) (I (k + 1))) :
    ∀ (l : List (Fin n)) (j : ℕ) (a : σ), (∀ i (hi : i < l.length), (l[i].val = j + i)) →
      Runs c (I j) (Scf.forFrom p l a) (l.foldl (fun a i => fa i a) a) (I (j + l.length)) := by
  intro l
  induction l with
  | nil => intro j a _; exact Runs.pure _ _
  | cons k l ih =>
    intro j a hl
    have hk : k.val = j := hl 0 (by simp)
    have := ih (j + 1) (fa k a) (fun i hi => by
      have := hl (i + 1) (by simpa using hi)
      simp only [List.getElem_cons_succ] at this
      omega)
    rw [show j + (k :: l).length = (j + 1) + l.length by simp; omega]
    refine Runs.bind (P' := I (j + 1)) ?_ this
    have h1 := h k a
    rw [hk] at h1; exact h1

/-- A loop of `n` trips. -/
theorem Runs.for {σ : Type} (l : Scf.Loop 32) (hok : l.OK) {I : ℕ → sProp 𝕄} {p : Fin l.trips → σ → PR F σ} {fa : Fin l.trips → σ → σ}
    (h : ∀ (k : Fin l.trips) a, Runs c (I k) (p k a) (fa k a) (I (k + 1))) (a : σ) :
    Runs c (I 0) (Scf.Loop.for l hok a p) ((List.finRange l.trips).foldl (fun a i => fa i a) a) (I l.trips) := by
  show Runs c (I 0) (Scf.for l.lb l.ub l.st hok a p) _ _
  rw [Scf.for_eq]
  have := Runs.forFrom h (List.finRange l.trips) 0 a (fun i hi => by simp)
  rwa [List.length_finRange, Nat.zero_add] at this

end Rules

/-! ## Parts of a buffer at an array -/

section Parts
variable (c : Dev nD)

/-- The elements `R` of a buffer, holding what `x` holds there. -/
def ptOn {sp : Space} {s : Shape} {e : EltTy} (M : Memref sig .tc sp s e) (R : Finset s.Idx) (x : s.Idx → Elt F e) : sProp 𝕄 :=
  M.view.loc (c : Thread nD τ) ↦[M.view.setOn R]{fullShare} M.view.rep x

variable {c}
variable {sp : Space} {s : Shape} {e : EltTy} {M : Memref sig .tc sp s e} {R : Finset s.Idx} {x y : s.Idx → Elt F e}

/-- Any contents of the elements are the array they read as. -/
theorem ptOn_of (f : M.view.ty.Contents (Elt F)) (h : ∀ i ∈ R, M.view.read (Elt F) f i = x i) :
    (M.view.loc (c : Thread nD τ) ↦[M.view.setOn R]{fullShare} f : sProp 𝕄) = ptOn c M R x := by
  unfold ptOn
  refine pointsTo_congr fun j hj => ?_
  obtain ⟨i, hi, rfl⟩ := Finset.mem_map.1 hj
  have h1 : M.view.read (Elt F) f i = M.view.read (Elt F) (M.view.rep x) i := by rw [View.read_rep]; exact h i hi
  rw [View.read_apply, View.read_apply] at h1
  exact (cast_inj _).1 h1

theorem ptOn_congr (h : ∀ i ∈ R, x i = y i) : ptOn c M R x = (ptOn c M R y : sProp 𝕄) :=
  ptOn_of _ fun i hi => by rw [View.read_rep]; exact h i hi

end Parts

section Steps
variable {c : Dev nD}
variable {s : Shape} {e : EltTy} {M : Memref sig .tc .vmem s e} {R : Finset s.Idx} {x : s.Idx → Elt F e}

theorem Runs.ld {r : Rect s} {h : M.view.LoadsAt r.toLoadRect} (hr : r.set ⊆ R) :
    Runs c (ptOn c M R x) (ld M r h) (fun z => x (r.emb z)) (ptOn c M R x) := fun Q => by
  have hs : M.view.setOn r.toLoadRect.set ⊆ M.view.setOn R := Finset.map_subset_map.2 hr
  unfold ptOn KernelIdeal.ld
  iintro ⟨HP, HQ⟩
  iapply (wp_load 𝒱₀ (c : Thread nD τ) none Set.univ hs) $$ HP
  iintro HP
  rw [show (M.view.readAt (Elt F) r.toLoadRect (M.view.rep x)) = fun z => x (r.emb z) from View.readAt_rep _ _ _]
  rw [wp_ret]
  imodintro
  iapply HQ $$ HP

theorem Runs.upd {o size : Fin s.rank → ℕ} {inb : ∀ a, o a + size a ≤ s.size a} {w : (Rect.unit o size inb).shape.Idx → Elt F e}
    {h : M.view.LoadsAt (Rect.unit o size inb).toLoadRect} {h' : (M.access (Rect.unit o size inb)).Stores Finset.univ}
    (hr : (Rect.unit o size inb).set ⊆ R) :
    Runs c (ptOn c M R x) (upd M (Rect.unit o size inb) w h h') ⟨⟩ (ptOn c M R (VecWindow.put x o size w)) := fun Q => by
  have hs : M.view.setOn (Rect.unit o size inb).toLoadRect.set ⊆ M.view.setOn R := Finset.map_subset_map.2 hr
  have hs' : (M.access (Rect.unit o size inb)).setOn Finset.univ ⊆ M.view.setOn R := by
    rw [View.setOn_univ, View.set_slice]; exact Finset.map_subset_map.2 hr
  rw [← ptOn_of (c := c) (M := M) (R := R) ((M.access (Rect.unit o size inb)).write (Elt F) (M.view.rep x) w Finset.univ) (x := VecWindow.put x o size w)
    (fun i _ => congrFun (View.read_writes_rep_unit M.view x inb w rfl) i)]
  unfold ptOn KernelIdeal.upd
  iintro ⟨HP, HQ⟩
  iapply (wp_load 𝒱₀ (c : Thread nD τ) none Set.univ hs) $$ HP
  iintro HP
  iapply (wp_store 𝒱₀ (c : Thread nD τ) none Set.univ hs') $$ HP
  iintro HP
  rw [wp_ret]
  imodintro
  iapply HQ $$ HP

end Steps

end Cert.Proof.KernelIdeal

end
-- ==== Proof.KI.Dma.lean ====
/- The transfers of the kernel by which blocks of an array come to a slot and finished blocks go home. -/
module

public import proofs.«01_k».proof.Proof.KI.Ops
public import Idealize.ShloMosaic.Lib.ValueLayout

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight Flight_mono wp_dmaLocal wp_waitLocal)

variable {F : FTy → Type} [FloatOps F]

local notation "𝕄" => MT nD τ sig Unit (Elt F) ℕ (UU nD τ) ℕ

/-! ## Blocks -/

abbrev S3 (n : ℕ) : Shape := ⟨3, ![n, 32768, 128]⟩

theorem blk_inb {n : ℕ} (i : Fin n) (k : Fin 8) : ∀ a, (![i.val, 4096 * k.val, 0] : Fin 3 → ℕ) a + S1x4096x128.size a ≤ (S3 n).size a := by
  have := i.isLt; have := k.isLt
  intro a; fin_cases a
  · show i.val + 1 ≤ n; omega
  · show 4096 * k.val + 4096 ≤ 32768; omega
  · show 0 + 128 ≤ 128; omega
theorem out_inb (k : Fin 8) : ∀ a, (![4096 * k.val, 0] : Fin 2 → ℕ) a + S4096x128.size a ≤ S32768x128.size a := by
  have := k.isLt
  intro a; fin_cases a
  · show 4096 * k.val + 4096 ≤ 32768; omega
  · show 0 + 128 ≤ 128; omega
theorem sem8_inb (w s : Fin 2) (k : Fin 8) : ∀ a, (![w.val, s.val, k.val] : Fin 3 → ℕ) a + S1x1x1.size a ≤ S2x2x8.size a := by
  have := w.isLt; have := s.isLt; have := k.isLt
  intro a; fin_cases a
  · show w.val + 1 ≤ 2; omega
  · show s.val + 1 ≤ 2; omega
  · show k.val + 1 ≤ 8; omega
theorem sem9_inb (w : Fin 2) (k : Fin 8) : ∀ a, (![w.val, k.val] : Fin 2 → ℕ) a + S1x1.size a ≤ S2x8.size a := by
  have := w.isLt; have := k.isLt
  intro a; fin_cases a
  · show w.val + 1 ≤ 2; omega
  · show k.val + 1 ≤ 8; omega

/-- The elements of rows `4096·k …` of plane `i`. -/
def blkSet {n : ℕ} (i : Fin n) (k : Fin 8) : Finset (S3 n).Idx := (Rect.unit (s := S3 n) ![i.val, 4096 * k.val, 0] S1x4096x128.size (blk_inb i k)).set
def outSet (k : Fin 8) : Finset S32768x128.Idx := (Rect.unit (s := S32768x128) ![4096 * k.val, 0] S4096x128.size (out_inb k)).set

/-- Plane `b` of an array, whichever slot holds it. -/
def img {e : EltTy} (x : (S3 9).Idx → Elt F e) (b : Fin 9) : (S3 2).Idx → Elt F e := fun i => x (ix3 b (i 1) (i 2))

abbrev inSem (w s : Fin 2) (k : Fin 8) : SemLoc sig := .dma (semAt8 ![w.val, s.val, k.val] (sem8_inb w s k))
abbrev outSem (w : Fin 2) (k : Fin 8) : SemLoc sig := .dma (semAt9 ![w.val, k.val] (sem9_inb w k))

theorem sq_apply (h : S4096x128.numel = S1x4096x128.numel) (y : S4096x128.Idx) : Shape.reshapeEquiv h y = ix3 (⟨0, Nat.one_pos⟩ : Fin 1) (y 0) (y 1) := by
  have e : y = ix2 (y 0) (y 1) := by funext a; fin_cases a <;> rfl
  conv_lhs => rw [e]
  exact reshapeEquiv_ix2_1ab h (y 0) (y 1)

variable {c : Dev nD}

theorem ptOn_def {sp : Space} {s : Shape} {e : EltTy} (M : Memref sig .tc sp s e) (R : Finset s.Idx) (x : s.Idx → Elt F e) :
    (ptOn c M R x : sProp 𝕄) = (M.view.loc (c : Thread nD τ) ↦[M.view.setOn R]{fullShare} M.view.rep x) := rfl

theorem ptOn_blk {sp : Space} {n : ℕ} {e : EltTy} (M : Memref sig .tc sp (S3 n) e) (i : Fin n) (k : Fin 8) (x : (S3 n).Idx → Elt F e) :
    ptOn c M (blkSet i k) x = ((blk M _ (blk_inb i k)).view.loc (c : Thread nD τ) ↦[(blk M _ (blk_inb i k)).view.set]{fullShare} M.view.rep x : sProp 𝕄) := by
  have e1 : (blk M _ (blk_inb i k)).view.set = M.view.setOn (blkSet i k) :=
    (View.set_reshape _ _).trans (View.set_slice _ _)
  unfold ptOn
  exact congrArg (fun S => (M.view.loc (c : Thread nD τ) ↦[S]{fullShare} M.view.rep x : sProp 𝕄)) e1.symm

theorem ptOn_out {sp : Space} {e : EltTy} (M : Memref sig .tc sp S32768x128 e) (k : Fin 8) (x : S32768x128.Idx → Elt F e) :
    ptOn c M (outSet k) x = ((outBlk M _ (out_inb k)).view.loc (c : Thread nD τ) ↦[(outBlk M _ (out_inb k)).view.set]{fullShare} M.view.rep x : sProp 𝕄) := by
  have e1 : (outBlk M _ (out_inb k)).view.set = M.view.setOn (outSet k) := View.set_slice _ _
  unfold ptOn
  exact congrArg (fun S => (M.view.loc (c : Thread nD τ) ↦[S]{fullShare} M.view.rep x : sProp 𝕄)) e1.symm

/-- What the block reads, written index by index. -/
theorem read_blk {sp : Space} {n : ℕ} {e : EltTy} (M : Memref sig .tc sp (S3 n) e) (i : Fin n) (k : Fin 8) (f : M.view.ty.Contents (Elt F)) (y : S4096x128.Idx) :
    (blk M _ (blk_inb i k)).view.read (Elt F) f y
      = M.view.read (Elt F) f ((Rect.unit (s := S3 n) ![i.val, 4096 * k.val, 0] S1x4096x128.size (blk_inb i k)).emb (ix3 (⟨0, Nat.one_pos⟩ : Fin 1) (y 0) (y 1))) := by
  exact congrArg (fun z => M.view.read (Elt F) f ((Rect.unit (s := S3 n) ![i.val, 4096 * k.val, 0] S1x4096x128.size (blk_inb i k)).emb z))
    (sq_apply (Shape.Squeezes.numel_eq squeezes_S1x4096x128_S4096x128) y)

theorem blk_cover {n : ℕ} (i : Fin n) (k : Fin 8) (j : (S3 n).Idx) (hj : j ∈ blkSet i k) :
    ∃ y : S4096x128.Idx, j = (Rect.unit (s := S3 n) ![i.val, 4096 * k.val, 0] S1x4096x128.size (blk_inb i k)).emb (ix3 (⟨0, Nat.one_pos⟩ : Fin 1) (y 0) (y 1)) := by
  unfold blkSet at hj
  rw [← Rect.map_emb_univ] at hj
  obtain ⟨z, -, rfl⟩ := Finset.mem_map.1 hj
  refine ⟨ix2 (z 1) (z 2), congrArg _ ?_⟩
  funext a; fin_cases a
  · exact Fin.ext (by have := (z 0).isLt; change (z 0).val < 1 at this; show (z 0).val = 0; omega)
  · rfl
  · rfl

section
variable (H : Memref sig .tc .hbm (S3 9) .bf16) (B : Memref sig .tc .vmem (S3 2) .bf16)
  (C : Memref sig .tc .hbm (S3 9) .fp8e4m3) (O : Memref sig .tc .vmem S32768x128 .fp8e4m3)

abbrev creditIn : ℕ := sig.dmaCredit .tc (Kind.tc.table Space.vmem) B.view.buf S4096x128 .bf16
abbrev creditOut : ℕ := sig.dmaCredit .tc (Kind.tc.table Space.hbm) C.view.buf S4096x128 .fp8e4m3

variable {H B C O}

/-- A block starts on its way to a slot. -/
theorem Runs.startIn {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk H oh hh).view.WordExact} {wb : (blk B ob hb).view.WordExact}
    (w s : Fin 2) (b : Fin 9) (k : Fin 8) (es : os = ![w.val, s.val, k.val]) (eb : ob = ![s.val, 4096 * k.val, 0]) (eh : oh = ![b.val, 4096 * k.val, 0])
    (xH : (S3 9).Idx → Elt F .bf16) (x : (S3 2).Idx → Elt F .bf16) :
    Runs c iprop(ptOn c H (blkSet b k) xH ∗ ptOn c B (blkSet s k) x ∗ semVal ((c : Thread nD τ), inSem w s k) 0)
      (startIn H B hs hb hh wh wb) ⟨⟩
      (Flight countersEmb (c : Thread nD τ) (inSem w s k) () (creditIn B) iprop(ptOn c B (blkSet s k) (img xH b) ∗ ptOn c H (blkSet b k) xH)) := fun Q => by
  subst es eb eh
  have key : (iprop(((blk B _ (blk_inb s k)).view.loc (c : Thread nD τ) ↦[B.view.setOn (blkSet s k)]{fullShare}
        ((blk B _ (blk_inb s k)).view.write (Elt F) (B.view.rep x) ((blk H _ (blk_inb b k)).view.read (Elt F) (H.view.rep xH)) Finset.univ))
      ∗ ((blk H _ (blk_inb b k)).view.loc (c : Thread nD τ) ↦[(blk H _ (blk_inb b k)).view.set]{fullShare} H.view.rep xH)) : sProp 𝕄)
      ⊢ iprop(ptOn c B (blkSet s k) (img xH b) ∗ ptOn c H (blkSet b k) xH) := by
    rw [ptOn_blk H b k xH]
    refine BI.sep_mono (entails_of_eq (ptOn_of (M := B) (R := blkSet s k) _ fun j hj => ?_)) (.refl _)
    obtain ⟨y, rfl⟩ := blk_cover s k j hj
    rw [← read_blk B s k, View.read_write_univ, read_blk H b k, View.read_rep]
    refine congrArg xH ?_
    funext a; fin_cases a
    · exact Fin.ext (by show b.val + 1 * 0 = b.val; omega)
    · rfl
    · rfl
  unfold KernelIdeal.startIn
  iintro ⟨⟨Hh, Hb, Hv⟩, HQ⟩
  ihave Hh := (entails_of_eq (ptOn_blk H b k xH)) $$ Hh
  ihave Hb := (entails_of_eq (ptOn_def B (blkSet s k) x)) $$ Hb
  iapply (wp_dmaLocal countersEmb 𝒱₀ (c : Thread nD τ) none () (creditIn B) (src := blk H _ (blk_inb b k)) (dst := blk B _ (blk_inb s k))
    (Sd := B.view.setOn (blkSet s k)) rfl (sig.dmaCredit_pos _ _ _ _ _ (by decide)) (by
      rw [show (blk B _ (blk_inb s k)).view.set = B.view.setOn (blkSet s k) from (View.set_reshape _ _).trans (View.set_slice _ _)])) $$ [Hh Hb Hv]
  · isplitl [Hh]; · iexact Hh
    isplitl [Hb]; · iexact Hb
    iexact Hv
  iintro HF
  rw [wp_ret]
  imodintro
  ihave HF' := (Flight_mono countersEmb (c : Thread nD τ) (sm := inSem w s k) (ι := ()) (N := creditIn B) key) $$ HF
  iapply HQ $$ HF'

/-- A finished block starts on its way home: it holds there what `G` says of its plane. -/
theorem Runs.startOut {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk O oo ho).view.WordExact} {wc : (blk C oc hc).view.WordExact}
    (w : Fin 2) (b : Fin 9) (k : Fin 8) (es : os = ![w.val, k.val]) (eo : oo = ![4096 * k.val, 0]) (ec : oc = ![b.val, 4096 * k.val, 0])
    (x : S32768x128.Idx → Elt F .fp8e4m3) (y G : (S3 9).Idx → Elt F .fp8e4m3) (hG : ∀ i ∈ outSet k, x i = G (ix3 b (i 0) (i 1))) :
    Runs c iprop(ptOn c O (outSet k) x ∗ ptOn c C (blkSet b k) y ∗ semVal ((c : Thread nD τ), outSem w k) 0)
      (startOut C O hs ho hc wo wc) ⟨⟩
      (Flight countersEmb (c : Thread nD τ) (outSem w k) () (creditOut C) iprop(ptOn c C (blkSet b k) G ∗ ∃ x, ptOn c O (outSet k) x)) := fun Q => by
  subst es eo ec
  have key : (iprop(((blk C _ (blk_inb b k)).view.loc (c : Thread nD τ) ↦[C.view.setOn (blkSet b k)]{fullShare}
        ((blk C _ (blk_inb b k)).view.write (Elt F) (C.view.rep y) ((outBlk O _ (out_inb k)).view.read (Elt F) (O.view.rep x)) Finset.univ))
      ∗ ((outBlk O _ (out_inb k)).view.loc (c : Thread nD τ) ↦[(outBlk O _ (out_inb k)).view.set]{fullShare} O.view.rep x)) : sProp 𝕄)
      ⊢ iprop(ptOn c C (blkSet b k) G ∗ ∃ x, ptOn c O (outSet k) x) := by
    rw [← ptOn_out O k x]
    refine BI.sep_mono (entails_of_eq (ptOn_of (M := C) (R := blkSet b k) _ fun j hj => ?_)) (exists_intro (Φ := fun x => ptOn c O (outSet k) x) x)
    obtain ⟨z, rfl⟩ := blk_cover b k j hj
    rw [← read_blk C b k, View.read_write_univ]
    refine Eq.trans (b := x ((Rect.unit (s := S32768x128) ![4096 * k.val, 0] S4096x128.size (out_inb k)).emb z)) ?_ ((hG _ ?_).trans (congrArg G ?_))
    · exact congrFun (View.read_rep O.view x) _
    · unfold outSet; rw [← Rect.map_emb_univ]; exact Finset.mem_map.2 ⟨z, Finset.mem_univ _, rfl⟩
    · funext a; fin_cases a
      · exact Fin.ext (by show b.val = b.val + 1 * 0; omega)
      · rfl
      · rfl
  unfold KernelIdeal.startOut
  iintro ⟨⟨Hh, Hb, Hv⟩, HQ⟩
  ihave Hh := (entails_of_eq (ptOn_out O k x)) $$ Hh
  ihave Hb := (entails_of_eq (ptOn_def C (blkSet b k) y)) $$ Hb
  iapply (wp_dmaLocal countersEmb 𝒱₀ (c : Thread nD τ) none () (creditOut C) (src := outBlk O _ (out_inb k)) (dst := blk C _ (blk_inb b k))
    (Sd := C.view.setOn (blkSet b k)) rfl (sig.dmaCredit_pos _ _ _ _ _ (by decide)) (by
      rw [show (blk C _ (blk_inb b k)).view.set = C.view.setOn (blkSet b k) from (View.set_reshape _ _).trans (View.set_slice _ _)])) $$ [Hh Hb Hv]
  · isplitl [Hh]; · iexact Hh
    isplitl [Hb]; · iexact Hb
    iexact Hv
  iintro HF
  rw [wp_ret]
  imodintro
  ihave HF' := (Flight_mono countersEmb (c : Thread nD τ) (sm := outSem w k) (ι := ()) (N := creditOut C) key) $$ HF
  iapply HQ $$ HF'

variable (F c) in
/-- The waits the core has recorded. -/
def ow : sProp 𝕄 := iprop(∃ W, owes (c : Thread nD τ) 0 W)

/-- A block has come. -/
theorem Runs.waitIn {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk H oh hh).view.WordExact} {wb : (blk B ob hb).view.WordExact}
    (w s : Fin 2) (k : Fin 8) (es : os = ![w.val, s.val, k.val]) (D : sProp 𝕄) :
    Runs c iprop(Flight countersEmb (c : Thread nD τ) (inSem w s k) () (creditIn B) D ∗ ow F c)
      (waitIn H B hs hb hh wh wb) ⟨⟩
      iprop(D ∗ semVal ((c : Thread nD τ), inSem w s k) 0 ∗ ow F c) := fun Q => by
  subst es
  unfold KernelIdeal.waitIn ow
  iintro ⟨⟨HF, %W, HW⟩, HQ⟩
  iapply (wp_waitLocal countersEmb 𝒱₀ (c : Thread nD τ) none () (N := creditIn B) (D := D) (dstw := blk B ob hb) rfl) $$ [HF HW]
  · isplitl [HF]; · iexact HF
    iexact HW
  iintro ⟨HD, Hv, HW⟩
  rw [wp_ret]
  imodintro
  iapply HQ
  isplitl [HD]; · iexact HD
  isplitl [Hv]; · iexact Hv
  iexists _
  iexact HW

/-- A finished block is home. -/
theorem Runs.waitOut {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk O oo ho).view.WordExact} {wc : (blk C oc hc).view.WordExact}
    (w : Fin 2) (k : Fin 8) (es : os = ![w.val, k.val]) (D : sProp 𝕄) :
    Runs c iprop(Flight countersEmb (c : Thread nD τ) (outSem w k) () (creditOut C) D ∗ ow F c)
      (waitOut C O hs ho hc wo wc) ⟨⟩
      iprop(D ∗ semVal ((c : Thread nD τ), outSem w k) 0 ∗ ow F c) := fun Q => by
  subst es
  unfold KernelIdeal.waitOut ow
  iintro ⟨⟨HF, %W, HW⟩, HQ⟩
  iapply (wp_waitLocal countersEmb 𝒱₀ (c : Thread nD τ) none () (N := creditOut C) (D := D) (dstw := blk C oc hc) rfl) $$ [HF HW]
  · isplitl [HF]; · iexact HF
    iexact HW
  iintro ⟨HD, Hv, HW⟩
  rw [wp_ret]
  imodintro
  iapply HQ
  isplitl [HD]; · iexact HD
  isplitl [Hv]; · iexact Hv
  iexists _
  iexact HW

end

end Cert.Proof.KernelIdeal

end
-- ==== Proof.KI.Res.lean ====
/- What the kernel holds of each chunk while blocks come and go. -/
module

public import proofs.«01_k».proof.Proof.KI.Dma

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

omit [FloatOps F] in
theorem bs_erase {ι : Type} [DecidableEq ι] {s : Finset ι} {Φ : ι → sProp 𝕄} {i : ι} (hi : i ∈ s) :
    bigSep s Φ = iprop(Φ i ∗ bigSep (s.erase i) Φ) := bigSep_erase hi
omit [FloatOps F] in
theorem bs_split {ι : Type} [DecidableEq ι] [Fintype ι] {Φ : ι → sProp 𝕄} (i : ι) :
    bigSep Finset.univ Φ = iprop(Φ i ∗ bigSep (Finset.univ.erase i) Φ) := bigSep_univ_split i

/-! ## A family of chunks, part of them past a step -/

/-- The chunks before `n` as `A` says, the others as `B` says. -/
def mix (n : ℕ) (A B : Fin 8 → sProp 𝕄) : sProp 𝕄 := bigSep Finset.univ fun k => if k.val < n then A k else B k

omit [FloatOps F] in
theorem mix_zero (A B : Fin 8 → sProp 𝕄) : mix 0 A B = bigSep Finset.univ B :=
  bigSep_congr fun k _ => if_neg (Nat.not_lt_zero _)
omit [FloatOps F] in
theorem mix_all (A B : Fin 8 → sProp 𝕄) : mix 8 A B = bigSep Finset.univ A :=
  bigSep_congr fun k _ => if_pos k.isLt
omit [FloatOps F] in
theorem mix_split (A B : Fin 8 → sProp 𝕄) (k : Fin 8) :
    mix k.val A B = iprop(B k ∗ bigSep (Finset.univ.erase k) fun j => if j.val < k.val then A j else B j) := by
  unfold mix
  rw [bs_split k, if_neg (Nat.lt_irrefl _)]
omit [FloatOps F] in
theorem mix_join (A B : Fin 8 → sProp 𝕄) (k : Fin 8) :
    mix (k.val + 1) A B = iprop(A k ∗ bigSep (Finset.univ.erase k) fun j => if j.val < k.val then A j else B j) := by
  unfold mix
  rw [bs_split k, if_pos (Nat.lt_succ_self _)]
  refine congrArg (fun X => iprop(A k ∗ X)) (bigSep_congr fun j hj => ?_)
  have hne : j ≠ k := Finset.ne_of_mem_erase hj
  have : j.val ≠ k.val := fun h => hne (Fin.ext h)
  by_cases h : j.val < k.val
  · rw [if_pos h, if_pos (by omega)]
  · rw [if_neg h, if_neg (by omega)]

variable {c : Dev nD}

/-- A step on one chunk is a step on the family. -/
theorem Runs.mix {α : Type} {A B : Fin 8 → sProp 𝕄} {R R' : sProp 𝕄} {p : PR F α} {a : α} (k : Fin 8)
    (h : Runs c iprop(B k ∗ R) p a iprop(A k ∗ R')) :
    Runs c iprop(KernelIdeal.mix k.val A B ∗ R) p a iprop(KernelIdeal.mix (k.val + 1) A B ∗ R') := by
  rw [mix_split, mix_join]
  refine (h.frame (bigSep (Finset.univ.erase k) fun j => if j.val < k.val then A j else B j)).conseq ?_ ?_
  · iintro ⟨⟨H1, H2⟩, H3⟩
    isplitl [H1 H3]
    · isplitl [H1]; · iexact H1
      iexact H3
    iexact H2
  · iintro ⟨⟨H1, H3⟩, H2⟩
    isplitl [H1 H2]
    · isplitl [H1]; · iexact H1
      iexact H2
    iexact H3

/-! ## One array's side of the kernel -/

/-- The keys' side or the values': the array read, the slots, the finished blocks, and where they go. -/
structure Side where
  w : Fin 2
  H : Memref sig .tc .hbm (S3 9) .bf16
  B : Memref sig .tc .vmem (S3 2) .bf16
  C : Memref sig .tc .hbm (S3 9) .fp8e4m3
  O : Memref sig .tc .vmem S32768x128 .fp8e4m3

abbrev sideK : Side := ⟨0, kH, kB, kcH, kO⟩
abbrev sideV : Side := ⟨1, vH, vB, vcH, vO⟩

/-- The slot of block `n`. -/
def par (n : ℕ) : Fin 2 := ⟨n % 2, Nat.mod_lt _ (by omega)⟩
theorem par_add_two (n : ℕ) : par (n + 2) = par n := Fin.ext (by show (n + 2) % 2 = n % 2; omega)

section
variable (c) (σ : Side) (xH : (S3 9).Idx → Elt F .bf16) (G : (S3 9).Idx → Elt F .fp8e4m3)

def home (b : Fin 9) (k : Fin 8) : sProp 𝕄 := ptOn c σ.H (blkSet b k) xH
def slotAny (s : Fin 2) (k : Fin 8) : sProp 𝕄 := iprop(∃ x, ptOn c σ.B (blkSet s k) x)
def slotHas (s : Fin 2) (k : Fin 8) (b : Fin 9) : sProp 𝕄 := ptOn c σ.B (blkSet s k) (img xH b)
def sIn (s : Fin 2) (k : Fin 8) : sProp 𝕄 := semVal ((c : Thread nD τ), inSem σ.w s k) 0
def sOut (k : Fin 8) : sProp 𝕄 := semVal ((c : Thread nD τ), outSem σ.w k) 0
def flightIn (b : Fin 9) (s : Fin 2) (k : Fin 8) : sProp 𝕄 :=
  Flight countersEmb (c : Thread nD τ) (inSem σ.w s k) () (creditIn σ.B) iprop(slotHas c σ xH s k b ∗ home c σ xH b k)
def outAny (k : Fin 8) : sProp 𝕄 := iprop(∃ x, ptOn c σ.O (outSet k) x)
def cAny (b : Fin 9) (k : Fin 8) : sProp 𝕄 := iprop(∃ x, ptOn c σ.C (blkSet b k) x)
def cHas (b : Fin 9) (k : Fin 8) : sProp 𝕄 := ptOn c σ.C (blkSet b k) G
def flightOut (b : Fin 9) (k : Fin 8) : sProp 𝕄 :=
  Flight countersEmb (c : Thread nD τ) (outSem σ.w k) () (creditOut σ.C) iprop(cHas c σ G b k ∗ outAny c σ k)

/-! ### Blocks coming -/

/-- Before block `n` is worked on: it is on its way, and every other block is home. -/
def IN (n : ℕ) (k : Fin 8) : sProp 𝕄 :=
  if h : n < 9 then iprop(flightIn c σ xH ⟨n, h⟩ (par n) k ∗ slotAny c σ (par (n + 1)) k ∗ sIn c σ (par (n + 1)) k
      ∗ bigSep (Finset.univ.erase ⟨n, h⟩) fun b => home c σ xH b k)
  else iprop((slotAny c σ (par n) k ∗ sIn c σ (par n) k) ∗ slotAny c σ (par (n + 1)) k ∗ sIn c σ (par (n + 1)) k
      ∗ bigSep Finset.univ fun b => home c σ xH b k)
/-- What is held besides block `b` itself once the next one has been asked for. -/
def INrest (b : Fin 9) (k : Fin 8) : sProp 𝕄 :=
  if h : b.val + 1 < 9 then iprop(flightIn c σ xH ⟨b.val + 1, h⟩ (par (b.val + 1)) k
      ∗ bigSep ((Finset.univ.erase b).erase ⟨b.val + 1, h⟩) fun b => home c σ xH b k)
  else iprop(slotAny c σ (par (b.val + 1)) k ∗ sIn c σ (par (b.val + 1)) k ∗ bigSep (Finset.univ.erase b) fun b => home c σ xH b k)
def INp (b : Fin 9) (k : Fin 8) : sProp 𝕄 := iprop(flightIn c σ xH b (par b.val) k ∗ INrest c σ xH b k)
def INd (b : Fin 9) (k : Fin 8) : sProp 𝕄 :=
  iprop(slotHas c σ xH (par b.val) k b ∗ home c σ xH b k ∗ sIn c σ (par b.val) k ∗ INrest c σ xH b k)

/-! ### Blocks going -/

def Call (n : ℕ) (b : Fin 9) (k : Fin 8) : sProp 𝕄 := if b.val < n then cHas c σ G b k else cAny c σ b k
def OUTf (n : ℕ) (k : Fin 8) : sProp 𝕄 := iprop(outAny c σ k ∗ sOut c σ k ∗ bigSep Finset.univ fun b => Call c σ G n b k)
/-- Before block `n` is worked on: the block before it is on its way home. -/
def OUT (n : ℕ) (k : Fin 8) : sProp 𝕄 :=
  if h : 0 < n ∧ n ≤ 9 then iprop(flightOut c σ G ⟨n - 1, by omega⟩ k ∗ bigSep (Finset.univ.erase ⟨n - 1, by omega⟩) fun b => Call c σ G n b k)
  else OUTf c σ G n k

variable {c σ xH G}

theorem INp_last (b : Fin 9) (h : ¬ b.val + 1 < 9) (k : Fin 8) : IN c σ xH b.val k = (INp c σ xH b k : sProp 𝕄) := by
  unfold IN INp INrest
  rw [dif_pos b.isLt, dif_neg h]

theorem INd_next (b : Fin 9) (k : Fin 8) : INd c σ xH b k ⊢ (IN c σ xH (b.val + 1) k : sProp 𝕄) := by
  unfold INd IN INrest
  by_cases h : b.val + 1 < 9
  · rw [dif_pos h, dif_pos h, show b.val + 1 + 1 = b.val + 2 from rfl, par_add_two]
    have hb : b ∈ Finset.univ.erase (⟨b.val + 1, h⟩ : Fin 9) :=
      Finset.mem_erase.2 ⟨fun e => by have := congrArg Fin.val e; simp at this, Finset.mem_univ _⟩
    rw [bs_erase hb, Finset.erase_right_comm]
    iintro ⟨H1, H2, H3, H4, H5⟩
    isplitl [H4]; · iexact H4
    isplitl [H1]
    · unfold slotAny slotHas
      iexists _
      iexact H1
    isplitl [H3]; · iexact H3
    isplitl [H2]; · iexact H2
    iexact H5
  · rw [dif_neg h, dif_neg h, show b.val + 1 + 1 = b.val + 2 from rfl, par_add_two, bs_split b]
    iintro ⟨H1, H2, H3, H4, H5, H6⟩
    isplitl [H4 H5]
    · isplitl [H4]; · iexact H4
      iexact H5
    isplitl [H1]
    · unfold slotAny slotHas
      iexists _
      iexact H1
    isplitl [H3]; · iexact H3
    isplitl [H2]; · iexact H2
    iexact H6

theorem Runs.prefetch {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk σ.H oh hh).view.WordExact} {wb : (blk σ.B ob hb).view.WordExact}
    (b : Fin 9) (h : b.val + 1 < 9) (k : Fin 8) (es : os = ![σ.w.val, (b.val + 1) % 2, k.val]) (eb : ob = ![(b.val + 1) % 2, 4096 * k.val, 0])
    (eh : oh = ![b.val + 1, 4096 * k.val, 0]) (R : sProp 𝕄) :
    Runs c iprop(IN c σ xH b.val k ∗ R) (KernelIdeal.startIn σ.H σ.B hs hb hh wh wb) ⟨⟩ iprop(INp c σ xH b k ∗ R) := by
  refine Runs.frame R ?_
  have hb' : (⟨b.val + 1, h⟩ : Fin 9) ∈ Finset.univ.erase b :=
    Finset.mem_erase.2 ⟨fun e => by have := congrArg Fin.val e; simp at this, Finset.mem_univ _⟩
  unfold IN INp INrest
  rw [dif_pos b.isLt, dif_pos h, bs_erase hb']
  refine Runs.conseq (P := iprop(∃ x, (ptOn c σ.H (blkSet ⟨b.val + 1, h⟩ k) xH ∗ ptOn c σ.B (blkSet (par (b.val + 1)) k) x ∗ semVal ((c : Thread nD τ), inSem σ.w (par (b.val + 1)) k) 0)
      ∗ (flightIn c σ xH b (par b.val) k ∗ bigSep ((Finset.univ.erase b).erase ⟨b.val + 1, h⟩) fun b => home c σ xH b k))) (P' := _)
    (Runs.exists fun x => (Runs.startIn σ.w (par (b.val + 1)) ⟨b.val + 1, h⟩ k es eb eh xH x).frame _) ?_ ?_
  · unfold slotAny sIn home
    iintro ⟨H1, ⟨%x, H2⟩, H3, H4, H5⟩
    iexists x
    isplitl [H4 H2 H3]
    · isplitl [H4]; · iexact H4
      isplitl [H2]; · iexact H2
      iexact H3
    isplitl [H1]; · iexact H1
    iexact H5
  · iintro ⟨H1, H2, H3⟩
    isplitl [H2]; · iexact H2
    isplitl [H1]
    · unfold flightIn slotHas home
      iexact H1
    iexact H3

/-- Block `b` of chunk `k` has come. -/
theorem Runs.arrive {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk σ.H oh hh).view.WordExact} {wb : (blk σ.B ob hb).view.WordExact}
    (b : Fin 9) (k : Fin 8) (es : os = ![σ.w.val, b.val % 2, k.val]) (R : sProp 𝕄) :
    Runs c iprop(INp c σ xH b k ∗ ow F c ∗ R) (KernelIdeal.waitIn σ.H σ.B hs hb hh wh wb) ⟨⟩ iprop(INd c σ xH b k ∗ ow F c ∗ R) := by
  refine Runs.conseq ((Runs.waitIn (H := σ.H) (B := σ.B) σ.w (par b.val) k es iprop(slotHas c σ xH (par b.val) k b ∗ home c σ xH b k)).frame
    iprop(INrest c σ xH b k ∗ R)) ?_ ?_
  · unfold INp flightIn
    iintro ⟨⟨H1, H2⟩, H3, H4⟩
    isplitl [H1 H3]
    · isplitl [H1]; · iexact H1
      iexact H3
    isplitl [H2]; · iexact H2
    iexact H4
  · unfold INd sIn
    iintro ⟨⟨⟨H1, H2⟩, H3, H4⟩, H5, H6⟩
    isplitl [H1 H2 H3 H5]
    · isplitl [H1]; · iexact H1
      isplitl [H2]; · iexact H2
      isplitl [H3]; · iexact H3
      iexact H5
    isplitl [H4]; · iexact H4
    iexact H6

theorem OUT_zero (k : Fin 8) : OUT c σ G 0 k = (OUTf c σ G 0 k : sProp 𝕄) := dif_neg (by omega)

/-- The block before has come home. -/
theorem Runs.landed {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk σ.O oo ho).view.WordExact} {wc : (blk σ.C oc hc).view.WordExact}
    (n : ℕ) (hn : 0 < n ∧ n ≤ 9) (k : Fin 8) (es : os = ![σ.w.val, k.val]) (R : sProp 𝕄) :
    Runs c iprop(OUT c σ G n k ∗ ow F c ∗ R) (KernelIdeal.waitOut σ.C σ.O hs ho hc wo wc) ⟨⟩ iprop(OUTf c σ G n k ∗ ow F c ∗ R) := by
  refine Runs.conseq ((Runs.waitOut (C := σ.C) (O := σ.O) σ.w k es iprop(cHas c σ G ⟨n - 1, by omega⟩ k ∗ outAny c σ k)).frame
    iprop((bigSep (Finset.univ.erase ⟨n - 1, by omega⟩) fun b => Call c σ G n b k) ∗ R)) ?_ ?_
  · unfold OUT flightOut
    rw [dif_pos hn]
    iintro ⟨⟨H1, H2⟩, H3, H4⟩
    isplitl [H1 H3]
    · isplitl [H1]; · iexact H1
      iexact H3
    isplitl [H2]; · iexact H2
    iexact H4
  · unfold OUTf sOut
    rw [bs_split (⟨n - 1, by omega⟩ : Fin 9), show Call c σ G n ⟨n - 1, by omega⟩ k = (cHas c σ G ⟨n - 1, by omega⟩ k : sProp 𝕄) from if_pos (by show n - 1 < n; omega)]
    iintro ⟨⟨⟨H1, H2⟩, H3, H4⟩, H5, H6⟩
    isplitl [H1 H2 H3 H5]
    · isplitl [H2]; · iexact H2
      isplitl [H3]; · iexact H3
      isplitl [H1]; · iexact H1
      iexact H5
    isplitl [H4]; · iexact H4
    iexact H6

/-- Block `b` is finished and starts home. -/
theorem Runs.send {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk σ.O oo ho).view.WordExact} {wc : (blk σ.C oc hc).view.WordExact}
    (b : Fin 9) (k : Fin 8) (es : os = ![σ.w.val, k.val]) (eo : oo = ![4096 * k.val, 0]) (ec : oc = ![b.val, 4096 * k.val, 0])
    (x : S32768x128.Idx → Elt F .fp8e4m3) (hG : ∀ i ∈ outSet k, x i = G (ix3 b (i 0) (i 1))) :
    Runs c iprop(ptOn c σ.O (outSet k) x ∗ sOut c σ k ∗ bigSep Finset.univ fun b' => Call c σ G b.val b' k)
      (KernelIdeal.startOut σ.C σ.O hs ho hc wo wc) ⟨⟩ (OUT c σ G (b.val + 1) k) := by
  rw [bs_split b, show Call c σ G b.val b k = (cAny c σ b k : sProp 𝕄) from if_neg (Nat.lt_irrefl _)]
  refine Runs.conseq (P := iprop(∃ y, (ptOn c σ.O (outSet k) x ∗ ptOn c σ.C (blkSet b k) y ∗ semVal ((c : Thread nD τ), outSem σ.w k) 0)
      ∗ bigSep (Finset.univ.erase b) fun b' => Call c σ G b.val b' k)) (P' := _)
    (Runs.exists fun y => (Runs.startOut σ.w b k es eo ec x y G hG).frame _) ?_ ?_
  · unfold cAny sOut
    iintro ⟨H1, H2, ⟨%y, H3⟩, H4⟩
    iexists y
    isplitl [H1 H2 H3]
    · isplitl [H1]; · iexact H1
      isplitl [H3]; · iexact H3
      iexact H2
    iexact H4
  · unfold OUT
    rw [dif_pos ⟨Nat.succ_pos _, b.isLt⟩]
    have hb : (⟨b.val + 1 - 1, by omega⟩ : Fin 9) = b := Fin.ext (by show b.val + 1 - 1 = b.val; omega)
    have e : (bigSep (Finset.univ.erase b) fun b' => Call c σ G b.val b' k) = (bigSep (Finset.univ.erase b) fun b' => Call c σ G (b.val + 1) b' k : sProp 𝕄) :=
      bigSep_congr fun j hj => by
        have : j.val ≠ b.val := fun h => Finset.ne_of_mem_erase hj (Fin.ext h)
        unfold Call
        by_cases h : j.val < b.val
        · rw [if_pos h, if_pos (by omega)]
        · rw [if_neg h, if_neg (by omega)]
    rw [e, hb]
    unfold flightOut cHas outAny
    exact .refl

end

end Cert.Proof.KernelIdeal

end
-- ==== Proof.KI.Content.lean ====
/- Buffers filled row by row: what is known of their contents, and how loads and stores use it. -/
module

public import proofs.«01_k».proof.Proof.KI.Res
public import Idealize.ShloMosaic.Lib.Pipeline.Value

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

instance sepComm {M : Type} [RA M] : _root_.Std.Commutative (α := sProp M) BIBase.sep :=
  ⟨fun P Q => _root_.Std.Commutative.comm (op := fun P Q : sProp M => BI.sep P Q) P Q⟩
instance sepAssoc {M : Type} [RA M] : _root_.Std.Associative (α := sProp M) BIBase.sep :=
  ⟨fun P Q R => _root_.Std.Associative.assoc (op := fun P Q : sProp M => BI.sep P Q) P Q R⟩

variable {c : Dev nD}

theorem Runs.via {α : Type} {P P' X X' : sProp 𝕄} {p : PR F α} {a : α} (h : Runs c P p a P') (R : sProp 𝕄)
    (e : X = iprop(P ∗ R)) (e' : iprop(P' ∗ R) = X') : Runs c X p a X' := by
  rw [e, ← e']; exact h.frame R

/-- What stands first is kept. -/
theorem Runs.skip {α : Type} {P P' A : sProp 𝕄} {p : PR F α} {a : α} (h : Runs c P p a P') : Runs c iprop(A ∗ P) p a iprop(A ∗ P') :=
  Runs.via h A (by ac_rfl) (by ac_rfl)

theorem over_forFrom {n : ℕ} {σ : Type} (l : List (Fin n)) (p : Fin n → σ → PR F σ) (a : σ) : KernelIdeal.over l p a = Scf.forFrom p l a := by
  induction l generalizing a with
  | nil => rfl
  | cons i l ih => exact bind_congr fun s => ih s

/-- Numbered steps. -/
theorem Runs.overI {n : ℕ} {σ : Type} {I : ℕ → sProp 𝕄} {p : Fin n → σ → PR F σ} {fa : Fin n → σ → σ}
    (h : ∀ (k : Fin n) a, Runs c (I k) (p k a) (fa k a) (I (k + 1))) (l : List (Fin n)) (hl : l = List.finRange n) (a : σ) :
    Runs c (I 0) (KernelIdeal.over l p a) (l.foldl (fun a i => fa i a) a) (I n) := by
  subst hl
  rw [over_forFrom]
  have := Runs.forFrom h (List.finRange n) 0 a (fun i hi => by simp)
  rwa [List.length_finRange, Nat.zero_add] at this

section
variable (c)
/-- The elements `R` of a buffer, which holds `m` at the elements `D`. -/
def known {sp : Space} {s : Shape} {e : EltTy} (M : Memref sig .tc sp s e) (R : Finset s.Idx) (D : s.Idx → Prop) (m : s.Idx → Elt F e) : sProp 𝕄 :=
  iprop(∃ x, ptOn c M R x ∗ ⌜∀ i, D i → x i = m i⌝)
end

variable {sp : Space} {s : Shape} {e : EltTy} {M : Memref sig .tc sp s e} {R : Finset s.Idx} {D D' : s.Idx → Prop} {m : s.Idx → Elt F e}

theorem known_mono (h : ∀ i, D' i → D i) : known c M R D m ⊢ known c M R D' m := by
  unfold known
  iintro ⟨%x, H, %hx⟩
  iexists x
  isplitl [H]; · iexact H
  ipureintro
  exact fun i hi => hx i (h i hi)

theorem known_congr (h : ∀ i, D i ↔ D' i) : known c M R D m = known c M R D' m := by
  rw [show D = D' from funext fun i => propext (h i)]

theorem known_full (h : ∀ i ∈ R, D i) : known c M R D m ⊢ ptOn c M R m := by
  unfold known
  iintro ⟨%x, H, %hx⟩
  ihave H' := (entails_of_eq (ptOn_congr fun i hi => hx i (h i hi))) $$ H
  iexact H'

theorem known_of (x : s.Idx → Elt F e) (h : ∀ i, D i → x i = m i) : ptOn c M R x ⊢ known c M R D m := by
  unfold known
  iintro H
  iexists x
  isplitl [H]; · iexact H
  ipureintro
  exact h

theorem known_none (h : ∀ i, ¬ D i) : iprop(∃ x, ptOn c M R x) ⊢ known c M R D m := by
  iintro ⟨%x, H⟩
  iapply (known_of x (fun i hi => absurd hi (h i))) $$ H

theorem known_any : known c M R D m ⊢ iprop(∃ x, ptOn c M R x) := by
  unfold known
  iintro ⟨%x, H, %hx⟩
  iexists x
  iexact H

theorem Runs.pure_left {α : Type} {P P' : sProp 𝕄} {φ : Prop} {p : PR F α} {a : α} (h : φ → Runs c P p a P') :
    Runs c iprop(P ∗ ⌜φ⌝) p a P' := fun Q => by
  iintro ⟨⟨HP, %hφ⟩, HQ⟩
  iapply (h hφ Q) $$ [HP HQ]
  isplitl [HP]; · iexact HP
  iexact HQ

section
variable {M : Memref sig .tc .vmem s e}

theorem Runs.get {r : Rect s} {h : M.view.LoadsAt r.toLoadRect} (hr : r.set ⊆ R) {v : r.shape.Idx → Elt F e}
    (hv : ∀ z, D (r.emb z) ∧ m (r.emb z) = v z) : Runs c (known c M R D m) (KernelIdeal.ld M r h) v (known c M R D m) :=
  Runs.exists fun x => Runs.pure_left fun hx => by
    have e : v = fun z => x (r.emb z) := funext fun z => ((hx _ (hv z).1).trans (hv z).2).symm
    rw [e]
    exact (Runs.ld (h := h) hr).conseq .rfl (known_of x hx)

theorem Runs.put {o size : Fin s.rank → ℕ} {inb : ∀ a, o a + size a ≤ s.size a} {w : (Rect.unit o size inb).shape.Idx → Elt F e}
    {h : M.view.LoadsAt (Rect.unit o size inb).toLoadRect} {h' : (M.access (Rect.unit o size inb)).Stores Finset.univ}
    (hr : (Rect.unit o size inb).set ⊆ R) (hw : ∀ z, w z = m ((Rect.unit o size inb).emb z))
    (hD : ∀ i, D' i → D i ∨ ∀ a, o a ≤ (i a).val ∧ (i a).val < o a + size a) :
    Runs c (known c M R D m) (KernelIdeal.upd M (Rect.unit o size inb) w h h') ⟨⟩ (known c M R D' m) :=
  Runs.exists fun x => Runs.pure_left fun hx => by
    refine (Runs.upd (h := h) (h' := h') hr).conseq .rfl (known_of _ fun i hi => ?_)
    by_cases hin : ∀ a, o a ≤ (i a).val ∧ (i a).val < o a + size a
    · have e1 : VecWindow.put x o size w i = w (Rect.unitLocal (s := s) (off := o) (size := size) i hin) := dif_pos hin
      rw [e1]
      refine (hw _).trans (congrArg m (funext fun a => Fin.ext ?_))
      show o a + 1 * ((i a).val - o a) = (i a).val
      have := (hin a).1
      omega
    · have e1 : VecWindow.put x o size w i = x i := dif_neg hin
      rw [e1]
      exact hx i ((hD i hi).resolve_right hin)

/-- Rows of an array of 128 columns. -/
abbrev rowP {n : ℕ} (D : ℕ → Prop) : (⟨2, ![n, 128]⟩ : Shape).Idx → Prop := fun i => D (i 0).val

variable {n : ℕ} {M2 : Memref sig .tc .vmem ⟨2, ![n, 128]⟩ e} {R2 : Finset (⟨2, ![n, 128]⟩ : Shape).Idx} {D2 D2' : ℕ → Prop} {m2 : (⟨2, ![n, 128]⟩ : Shape).Idx → Elt F e}

theorem rect_sub {o : Fin 2 → ℕ} {q l : ℕ} (eo : o = ![q, 0]) {inb : ∀ a, o a + (![l, 128] : Fin 2 → ℕ) a ≤ (⟨2, ![n, 128]⟩ : Shape).size a}
    (hR : ∀ i : (⟨2, ![n, 128]⟩ : Shape).Idx, q ≤ (i 0).val → (i 0).val < q + l → i ∈ R2) :
    (Rect.unit (s := ⟨2, ![n, 128]⟩) o ![l, 128] inb).set ⊆ R2 := by
  subst eo
  intro i hi
  rw [← Rect.map_emb_univ] at hi
  obtain ⟨z, -, rfl⟩ := Finset.mem_map.1 hi
  refine hR _ ?_ ?_
  · show q ≤ q + 1 * (z 0).val
    omega
  · show q + 1 * (z 0).val < q + l
    have : (z 0).val < l := (z 0).isLt
    omega

theorem emb_row {o : Fin 2 → ℕ} {q l : ℕ} (eo : o = ![q, 0]) {inb : ∀ a, o a + (![l, 128] : Fin 2 → ℕ) a ≤ (⟨2, ![n, 128]⟩ : Shape).size a}
    (y : Fin l) (d : Fin 128) (h : q + y.val < n) : (Rect.unit (s := ⟨2, ![n, 128]⟩) o ![l, 128] inb).emb (ix2 y d) = ix2 ⟨q + y.val, h⟩ d := by
  subst eo
  funext a
  refine Fin.ext ?_
  match a with
  | ⟨0, _⟩ => show q + 1 * y.val = q + y.val; omega
  | ⟨1, _⟩ => show 0 + 1 * d.val = d.val; omega

theorem Runs.get2 {o : Fin 2 → ℕ} {q l : ℕ} (eo : o = ![q, 0]) {inb : ∀ a, o a + (![l, 128] : Fin 2 → ℕ) a ≤ (⟨2, ![n, 128]⟩ : Shape).size a}
    {h : M2.view.LoadsAt (Rect.unit (s := ⟨2, ![n, 128]⟩) o ![l, 128] inb).toLoadRect} {v : (⟨2, ![l, 128]⟩ : Shape).Idx → Elt F e}
    (hR : ∀ i : (⟨2, ![n, 128]⟩ : Shape).Idx, q ≤ (i 0).val → (i 0).val < q + l → i ∈ R2) (hD : ∀ r, q ≤ r → r < q + l → D2 r)
    (hv : ∀ (y : Fin l) (d : Fin 128) (r : Fin n), r.val = q + y.val → m2 (ix2 r d) = v (ix2 y d)) :
    Runs c (known c M2 R2 (rowP D2) m2) (KernelIdeal.ld M2 (Rect.unit (s := ⟨2, ![n, 128]⟩) o ![l, 128] inb) h) v (known c M2 R2 (rowP D2) m2) :=
  Runs.get (rect_sub eo hR) fun z => by
    have hn : q + (z 0).val < n := by
      have h1 : o 0 + l ≤ n := inb 0
      have h2 : (z 0).val < l := (z 0).isLt
      rw [eo] at h1
      have h1' : q + l ≤ n := h1
      omega
    have ez : z = ix2 (z 0) (z 1) := funext fun a => match a with | ⟨0, _⟩ => rfl | ⟨1, _⟩ => rfl
    have ee : (Rect.unit (s := ⟨2, ![n, 128]⟩) o ![l, 128] inb).emb z = ix2 ⟨q + (z 0).val, hn⟩ (z 1) :=
      (congrArg _ ez).trans (emb_row eo (z 0) (z 1) hn)
    rw [ee]
    exact ⟨hD _ (Nat.le_add_right _ _) (Nat.add_lt_add_left (z 0).isLt q), (hv (z 0) (z 1) _ rfl).trans (congrArg v ez.symm)⟩

theorem Runs.put2 {o : Fin 2 → ℕ} {q l : ℕ} (eo : o = ![q, 0]) {inb : ∀ a, o a + (![l, 128] : Fin 2 → ℕ) a ≤ (⟨2, ![n, 128]⟩ : Shape).size a}
    {w : (⟨2, ![l, 128]⟩ : Shape).Idx → Elt F e}
    {h : M2.view.LoadsAt (Rect.unit (s := ⟨2, ![n, 128]⟩) o ![l, 128] inb).toLoadRect} {h' : (M2.access (Rect.unit (s := ⟨2, ![n, 128]⟩) o ![l, 128] inb)).Stores Finset.univ}
    (hR : ∀ i : (⟨2, ![n, 128]⟩ : Shape).Idx, q ≤ (i 0).val → (i 0).val < q + l → i ∈ R2) (hD : ∀ r, D2' r → D2 r ∨ (q ≤ r ∧ r < q + l))
    (hw : ∀ (y : Fin l) (d : Fin 128) (r : Fin n), r.val = q + y.val → m2 (ix2 r d) = w (ix2 y d)) :
    Runs c (known c M2 R2 (rowP D2) m2) (KernelIdeal.upd M2 (Rect.unit (s := ⟨2, ![n, 128]⟩) o ![l, 128] inb) w h h') ⟨⟩ (known c M2 R2 (rowP D2') m2) :=
  Runs.put (rect_sub eo hR) (fun z => by
    have hn : q + (z 0).val < n := by
      have h1 : o 0 + l ≤ n := inb 0
      have h2 : (z 0).val < l := (z 0).isLt
      rw [eo] at h1
      have h1' : q + l ≤ n := h1
      omega
    have ez : z = ix2 (z 0) (z 1) := funext fun a => match a with | ⟨0, _⟩ => rfl | ⟨1, _⟩ => rfl
    have ee : (Rect.unit (s := ⟨2, ![n, 128]⟩) o ![l, 128] inb).emb z = ix2 ⟨q + (z 0).val, hn⟩ (z 1) :=
      (congrArg _ ez).trans (emb_row eo (z 0) (z 1) hn)
    rw [ee]
    exact (congrArg w ez).trans (hw (z 0) (z 1) _ rfl).symm)
    (fun i hi => (hD _ hi).imp id fun hq => by
      subst eo
      intro a
      match a with
      | ⟨0, _⟩ => exact hq
      | ⟨1, _⟩ => exact ⟨Nat.zero_le _, by show (i 1).val < 0 + 128; have : (i 1).val < 128 := (i 1).isLt; omega⟩)

end

/-- A block of 256 rows loaded from a slot. -/
def kWin (xH : (S3 9).Idx → Elt F .bf16) (b : Fin 9) (q : Fin 128) : Vec F S1x256x128 .bf16 :=
  fun z => xH (ix3 b ⟨256 * q.val + (z 1).val, by have : (z 1).val < 256 := (z 1).isLt; omega⟩ (z 2))

theorem mem_blkSet {n : ℕ} {i : Fin n} {k : Fin 8} {j : (S3 n).Idx} (h0 : (j 0).val = i.val) (h1 : 4096 * k.val ≤ (j 1).val) (h2 : (j 1).val < 4096 * k.val + 4096) :
    j ∈ blkSet i k := by
  unfold blkSet
  rw [← Rect.map_emb_univ]
  refine Finset.mem_map.2 ⟨ix3 (⟨0, Nat.one_pos⟩ : Fin 1) (⟨(j 1).val - 4096 * k.val, by omega⟩ : Fin 4096) (j 2), Finset.mem_univ _, funext fun a => Fin.ext ?_⟩
  match a with
  | ⟨0, _⟩ => show i.val + 1 * 0 = (j 0).val; omega
  | ⟨1, _⟩ => show 4096 * k.val + 1 * ((j 1).val - 4096 * k.val) = (j 1).val; omega
  | ⟨2, _⟩ => show 0 + 1 * (j 2).val = (j 2).val; omega

theorem mem_outSet {k : Fin 8} {j : S32768x128.Idx} : j ∈ outSet k ↔ 4096 * k.val ≤ (j 0).val ∧ (j 0).val < 4096 * k.val + 4096 := by
  unfold outSet
  rw [← Rect.map_emb_univ]
  constructor
  · intro h
    obtain ⟨z, -, rfl⟩ := Finset.mem_map.1 h
    have hz : (z 0).val < 4096 := (z 0).isLt
    show 4096 * k.val ≤ 4096 * k.val + 1 * (z 0).val ∧ 4096 * k.val + 1 * (z 0).val < _
    omega
  · rintro ⟨h1, h2⟩
    refine Finset.mem_map.2 ⟨ix2 (⟨(j 0).val - 4096 * k.val, by omega⟩ : Fin 4096) (j 1), Finset.mem_univ _, funext fun a => Fin.ext ?_⟩
    match a with
    | ⟨0, _⟩ => show 4096 * k.val + 1 * ((j 0).val - 4096 * k.val) = (j 0).val; omega
    | ⟨1, _⟩ => show 0 + 1 * (j 1).val = (j 1).val; omega

theorem Runs.getSlot {B : Memref sig .tc .vmem (S3 2) .bf16} {xH : (S3 9).Idx → Elt F .bf16} {b : Fin 9} {sl : Fin 2} {k : Fin 8}
    {o : Fin 3 → ℕ} {q : Fin 128} (eo : o = ![sl.val, 256 * q.val, 0]) (hq : q.val / 16 = k.val)
    {inb : ∀ a, o a + S1x256x128.size a ≤ S2x32768x128.size a} {h : B.view.LoadsAt (Rect.unit (s := S2x32768x128) o S1x256x128.size inb).toLoadRect} :
    Runs c (ptOn c B (blkSet sl k) (img xH b)) (KernelIdeal.ld B (Rect.unit (s := S2x32768x128) o S1x256x128.size inb) h) (kWin xH b q) (ptOn c B (blkSet sl k) (img xH b)) := by
  subst eo
  have hs : (Rect.unit (s := S2x32768x128) ![sl.val, 256 * q.val, 0] S1x256x128.size inb).set ⊆ blkSet sl k := by
    intro i hi
    rw [← Rect.map_emb_univ] at hi
    obtain ⟨z, -, rfl⟩ := Finset.mem_map.1 hi
    have h0 : (z 0).val < 1 := (z 0).isLt
    have h1 : (z 1).val < 256 := (z 1).isLt
    refine mem_blkSet ?_ ?_ ?_
    · show sl.val + 1 * (z 0).val = sl.val; omega
    · show 4096 * k.val ≤ 256 * q.val + 1 * (z 1).val; omega
    · show 256 * q.val + 1 * (z 1).val < 4096 * k.val + 4096; omega
  have e : kWin xH b q = fun z => img xH b ((Rect.unit (s := S2x32768x128) ![sl.val, 256 * q.val, 0] S1x256x128.size inb).emb z) := by
    funext z
    refine congrArg xH (funext fun a => Fin.ext ?_)
    match a with
    | ⟨0, _⟩ => rfl
    | ⟨1, _⟩ => show 256 * q.val + (z 1).val = 256 * q.val + 1 * (z 1).val; omega
    | ⟨2, _⟩ => show (z 2).val = 0 + 1 * (z 2).val; omega
  rw [e]
  exact Runs.ld (h := h) hs

end Cert.Proof.KernelIdeal

end
-- ==== Proof.KI.Vals.lean ====
/- The kernel's arithmetic on one block of rows. -/
module

public import proofs.«01_k».proof.Proof.KI.Ops

@[expose] public section

set_option maxRecDepth 16384

noncomputable section

namespace Cert.Proof.KernelIdeal

open Cert.KernelIdeal Cert.KernelIdeal.Gen
open Idealize.ShloMosaic Idealize.ShloMosaic.TcCoe Idealize.SL.Sem

variable {F : FTy → Type} [FloatOps F]

/-- The four running magnitudes of rows 16·i modulo 64. -/
abbrev Acc (F : FTy → Type) := FVec F S16x128 .bf16 × FVec F S16x128 .bf16 × FVec F S16x128 .bf16 × FVec F S16x128 .bf16

theorem slices16 (i : Nat) (hi : i ≤ 240) : S256x128.Slices ![i, 0] S16x128 :=
  ⟨rfl, fun a => match a with
    | ⟨0, _⟩ => (by show i + 16 ≤ 256; omega)
    | ⟨1, _⟩ => (by show 0 + 128 ≤ 128; omega)⟩

/-- One running magnitude over a block of 256 rows. -/
def accOne (x : FVec F S256x128 .bf16) (i : Nat) (hi : i ≤ 48) (a : FVec F S16x128 .bf16) : FVec F S16x128 .bf16 :=
  maximumf (maximumf (maximumf (maximumf a
    (extractStridedSlice S16x128 ![i, 0] (absf x) (slices16 i (by omega))))
    (extractStridedSlice S16x128 ![64 + i, 0] (absf x) (slices16 (64 + i) (by omega))))
    (extractStridedSlice S16x128 ![128 + i, 0] (absf x) (slices16 (128 + i) (by omega))))
    (extractStridedSlice S16x128 ![192 + i, 0] (absf x) (slices16 (192 + i) (by omega)))

def accBlock (x : FVec F S256x128 .bf16) (a : Acc F) : Acc F :=
  (accOne x 0 (by omega) a.1, accOne x 16 (by omega) a.2.1, accOne x 32 (by omega) a.2.2.1, accOne x 48 (by omega) a.2.2.2)

def mask (m : IVec S1x128 1) : IVec S256x128 1 :=
  broadcastTo S256x128 (shapeCast S1x128 m shapeCasts_S1x128_S1x128) broadcasts_S1x128_S256x128
def rows (x : Vec F S1x256x128 .bf16) : FVec F S256x128 .bf16 := shapeCast S256x128 x shapeCasts_S1x256x128_S256x128
def roll {φ : FTy} (n : BitVec 32) (x : FVec F S256x128 φ) : FVec F S256x128 φ := dynamicRotate 1 n none x rotates_S256x128_d1

def rotHalf (low : IVec S1x128 1) (x z : Vec F S1x256x128 .bf16) : FVec F S256x128 .bf16 :=
  select (mask low) (rows x) (roll 64#32 (rows z))
def nonHalf (low : IVec S1x128 1) (x z : Vec F S1x256x128 .bf16) : FVec F S256x128 .bf16 :=
  select (mask low) (roll 64#32 (rows z)) (rows x)

/-- The two operands of the rotation side by side. -/
def pairUp (even : IVec S1x128 1) (r0 r1 : FVec F S256x128 .bf16) : FVec F S256x256 .bf16 :=
  concatenate S256x256 1
    [⟨S256x128, select (mask even) r0 (roll 32#32 r1)⟩,
     ⟨S256x128, roll 96#32 (select (mask even) (roll 32#32 r1) r0)⟩] concatenates_S256x128_S256x128_S256x256_d1

def mxu (p x : FVec F S256x256 .bf16) : FVec F S256x256 .f32 :=
  matmul dot_S256x256_S256x256_S256x256_1_0_0_1_n_n none p x (constant S256x256 .f32 0x00000000#32)

theorem slices8 (t c : Nat) (ht : t ≤ 248) (hc : c ≤ 128) : S256x256.Slices ![t, c] S8x128 :=
  ⟨rfl, fun a => match a with
    | ⟨0, _⟩ => (by show t + 8 ≤ 256; omega)
    | ⟨1, _⟩ => (by show c + 128 ≤ 256; omega)⟩

def tile (f : FVec F S256x256 .f32) (t : Fin 32) (c : Nat) (hc : c ≤ 128) : FVec F S8x128 .f32 :=
  extractStridedSlice S8x128 ![8 * t.val, c] f (slices8 (8 * t.val) c (by omega) hc)
def bc8 (x : Vec F S1x128 .f32) : FVec F S8x128 .f32 :=
  broadcastTo S8x128 (shapeCast S1x128 x shapeCasts_S1x128_S1x128) broadcasts_S1x128_S8x128
def rot1 (f : FVec F S256x256 .f32) (t : Fin 32) (c s : Vec F S1x128 .f32) : FVec F S8x128 .f32 :=
  subf (mulf (tile f t 0 (by omega)) (bc8 c)) (mulf (tile f t 128 (by omega)) (bc8 s))
def rot2 (f : FVec F S256x256 .f32) (t : Fin 32) (c s : Vec F S1x128 .f32) : FVec F S8x128 .f32 :=
  addf (mulf (tile f t 128 (by omega)) (bc8 c)) (mulf (tile f t 0 (by omega)) (bc8 s))

/-! ## Second pass -/

/-- The four bounds, one under the other four times. -/
def bound (L : Acc F) : FVec F S256x128 .bf16 :=
  concatenate S256x128 0 [⟨S16x128, L.1⟩, ⟨S16x128, L.2.1⟩, ⟨S16x128, L.2.2.1⟩, ⟨S16x128, L.2.2.2⟩, ⟨S16x128, L.1⟩, ⟨S16x128, L.2.1⟩, ⟨S16x128, L.2.2.1⟩, ⟨S16x128, L.2.2.2⟩, ⟨S16x128, L.1⟩, ⟨S16x128, L.2.1⟩, ⟨S16x128, L.2.2.1⟩, ⟨S16x128, L.2.2.2⟩, ⟨S16x128, L.1⟩, ⟨S16x128, L.2.1⟩, ⟨S16x128, L.2.2.1⟩, ⟨S16x128, L.2.2.2⟩] concatenates_S16x128_S16x128_S16x128_S16x128_S16x128_S16x128_S16x128_S16x128_S16x128_S16x128_S16x128_S16x128_S16x128_S16x128_S16x128_S16x128_S256x128_d0

/-- Clipped to the bounds. -/
def clipTo (L : Acc F) (x : FVec F S256x128 .bf16) : FVec F S256x128 .bf16 :=
  minimumf (maximumf x (subf (broadcast S256x128 (Scalar.ofBits .bf16 0x0000#16)) (bound L))) (bound L)

/-- Two blocks clipped, scaled and set back in the order of rows. -/
def scaled (L : Acc F) (p : FVec F S256x256 .bf16) (x0 x1 : FVec F S256x128 .bf16) : FVec F S256x256 .f32 :=
  mxu p (concatenate S256x256 1 [⟨S256x128, clipTo L x0⟩, ⟨S256x128, clipTo L x1⟩] concatenates_S256x128_S256x128_S256x256_d1)

def left8 (f : FVec F S256x256 .f32) : FVec F S256x128 .fp8e4m3 :=
  truncf .fp8e4m3 (extractStridedSlice S256x128 ![0, 0] f slices_S256x256_o0_0_S256x128) bitsLt_fp8e4m3_f32
def right8 (f : FVec F S256x256 .f32) : FVec F S256x128 .fp8e4m3 :=
  truncf .fp8e4m3 (extractStridedSlice S256x128 ![0, 128] f slices_S256x256_o0_128_S256x128) bitsLt_fp8e4m3_f32

/-- Rotated keys scaled and clipped. -/
def rot8 (inv : FVec F S8x128 .f32) (y : FVec F S256x128 .f32) : FVec F S256x128 .fp8e4m3 :=
  truncf .fp8e4m3 (shapeCast S256x128 (minimumf (maximumf (mulf (shapeCast S32x8x128 y shapeCasts_S256x128_S32x8x128)
    (broadcastTo S32x8x128 (shapeCast S1x8x128 inv shapeCasts_S8x128_S1x8x128) broadcasts_S1x8x128_S32x8x128))
    (broadcast S32x8x128 (Scalar.ofBits .f32 0xC3E00000#32))) (broadcast S32x8x128 (Scalar.ofBits .f32 0x43E00000#32))) shapeCasts_S32x8x128_S256x128) bitsLt_fp8e4m3_f32

def out0 (even : IVec S1x128 1) (q0 q1 : FVec F S256x128 .fp8e4m3) : FVec F S256x128 .fp8e4m3 := select (mask even) q0 (roll 32#32 q1)
def out1 (even : IVec S1x128 1) (q0 q1 : FVec F S256x128 .fp8e4m3) : FVec F S256x128 .fp8e4m3 := roll 96#32 (select (mask even) (roll 32#32 q1) q0)
def outLo (low : IVec S1x128 1) (r n : FVec F S256x128 .fp8e4m3) : FVec F S256x128 .fp8e4m3 := select (mask low) r n
def outHi (low : IVec S1x128 1) (r n : FVec F S256x128 .fp8e4m3) : FVec F S256x128 .fp8e4m3 := roll 64#32 (select (mask low) n r)

end Cert.Proof.KernelIdeal

end
-- ==== Proof.KI.Model.lean ====
/- What each buffer comes to hold, in closed form. -/
module

public import proofs.«01_k».proof.Proof.KI.Content
public import proofs.«01_k».proof.Proof.KI.Vals

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

/-! ## First pass over the keys -/

section
variable (low even : IVec S1x128 1) (p : FVec F S256x256 .bf16) (xH : (S3 9).Idx → Elt F .bf16) (b : Fin 9) (cs sn : S1024x128.Idx → Elt F .f32)

/-- Block `r` of the group `g` of 128 positions. -/
abbrev wq (g : Fin 32) (r : Fin 4) : Fin 128 := ⟨4 * g.val + r.val, by omega⟩

def fOf (g : Fin 32) : FVec F S256x256 .f32 :=
  mxu p (pairUp even (rotHalf low (kWin xH b (wq g 0)) (kWin xH b (wq g 2))) (rotHalf low (kWin xH b (wq g 1)) (kWin xH b (wq g 3))))
def nOf (g : Fin 32) (j : Fin 2) : FVec F S256x128 .bf16 :=
  nonHalf low (kWin xH b (wq g ⟨j.val, by omega⟩)) (kWin xH b (wq g ⟨j.val + 2, by omega⟩))
/-- One row of the cosines or the sines. -/
def crow (m : S1024x128.Idx → Elt F .f32) (g t : Fin 32) : Vec F S1x128 .f32 := fun z => m (ix2 ⟨32 * g.val + t.val, by omega⟩ (z 1))
def r1 (g t : Fin 32) : FVec F S8x128 .f32 := rot1 (fOf low even p xH b g) t (crow cs g t) (crow sn g t)
def r2 (g t : Fin 32) : FVec F S8x128 .f32 := rot2 (fOf low even p xH b g) t (crow cs g t) (crow sn g t)

/-- The rotated halves of a block. -/
def yM : S16384x128.Idx → Elt F .f32 := fun i =>
  if ((i 0).val % 512) / 256 = 0 then r1 low even p xH b cs sn ⟨(i 0).val / 512, by have : (i 0).val < 16384 := (i 0).isLt; omega⟩ ⟨(i 0).val % 256 / 8, by omega⟩ (ix2 ⟨(i 0).val % 8, by omega⟩ (i 1))
  else r2 low even p xH b cs sn ⟨(i 0).val / 512, by have : (i 0).val < 16384 := (i 0).isLt; omega⟩ ⟨(i 0).val % 256 / 8, by omega⟩ (ix2 ⟨(i 0).val % 8, by omega⟩ (i 1))
/-- The other halves. -/
def nM : S16384x128.Idx → Elt F .bf16 := fun i =>
  nOf low xH b ⟨(i 0).val / 512, by have : (i 0).val < 16384 := (i 0).isLt; omega⟩ ⟨(i 0).val % 512 / 256, by omega⟩ (ix2 ⟨(i 0).val % 256, by omega⟩ (i 1))

theorem yM_lo (g t : Fin 32) (y : Fin 8) (d : Fin 128) (r : Fin 16384) (hr : r.val = 512 * g.val + 8 * t.val + y.val) :
    yM low even p xH b cs sn (ix2 r d) = r1 low even p xH b cs sn g t (ix2 y d) := by
  obtain ⟨g, hg⟩ := g; obtain ⟨t, ht⟩ := t; obtain ⟨y, hy⟩ := y; obtain ⟨r, hr'⟩ := r
  obtain rfl : r = 512 * g + 8 * t + y := hr
  have h0 : (512 * g + 8 * t + y) / 512 = g := by omega
  have h1 : (512 * g + 8 * t + y) % 256 / 8 = t := by omega
  have h2 : (512 * g + 8 * t + y) % 8 = y := by omega
  unfold yM
  dsimp only [ix2]
  refine (if_pos ?_).trans ?_
  · show (512 * g + 8 * t + y) % 512 / 256 = 0
    omega
  · simp only [Matrix.cons_val_zero, h0, h1, h2]
theorem yM_hi (g t : Fin 32) (y : Fin 8) (d : Fin 128) (r : Fin 16384) (hr : r.val = 512 * g.val + 256 + 8 * t.val + y.val) :
    yM low even p xH b cs sn (ix2 r d) = r2 low even p xH b cs sn g t (ix2 y d) := by
  obtain ⟨g, hg⟩ := g; obtain ⟨t, ht⟩ := t; obtain ⟨y, hy⟩ := y; obtain ⟨r, hr'⟩ := r
  obtain rfl : r = 512 * g + 256 + 8 * t + y := hr
  have h0 : (512 * g + 256 + 8 * t + y) / 512 = g := by omega
  have h1 : (512 * g + 256 + 8 * t + y) % 256 / 8 = t := by omega
  have h2 : (512 * g + 256 + 8 * t + y) % 8 = y := by omega
  unfold yM
  dsimp only [ix2]
  refine (if_neg ?_).trans ?_
  · show ¬ (512 * g + 256 + 8 * t + y) % 512 / 256 = 0
    omega
  · simp only [Matrix.cons_val_zero, h0, h1, h2]
theorem nM_at (g : Fin 32) (j : Fin 2) (y : Fin 256) (d : Fin 128) (r : Fin 16384) (hr : r.val = 512 * g.val + 256 * j.val + y.val) :
    nM low xH b (ix2 r d) = nOf low xH b g j (ix2 y d) := by
  obtain ⟨g, hg⟩ := g; obtain ⟨j, hj⟩ := j; obtain ⟨y, hy⟩ := y; obtain ⟨r, hr'⟩ := r
  obtain rfl : r = 512 * g + 256 * j + y := hr
  have h0 : (512 * g + 256 * j + y) / 512 = g := by omega
  have h1 : (512 * g + 256 * j + y) % 512 / 256 = j := by omega
  have h2 : (512 * g + 256 * j + y) % 256 = y := by omega
  unfold nM
  dsimp only [ix2]
  simp only [Matrix.cons_val_zero, h0, h1, h2]

def yStep (g t : Fin 32) (a : FVec F S8x128 .f32) : FVec F S8x128 .f32 :=
  maximumf a (maximumf (absf (r1 low even p xH b cs sn g t)) (absf (r2 low even p xH b cs sn g t)))
/-- The magnitudes after one more group. -/
def gStep (g : Fin 32) (a : FVec F S8x128 .f32 × Acc F) : FVec F S8x128 .f32 × Acc F :=
  (r32.foldl (fun a t => yStep low even p xH b cs sn g t a) a.1, accBlock (nOf low xH b g 1) (accBlock (nOf low xH b g 0) a.2))
abbrev gq (k : Fin 8) (g : Fin 4) : Fin 32 := ⟨4 * k.val + g.val, by omega⟩
def cStep (k : Fin 8) (a : FVec F S8x128 .f32 × Acc F) : FVec F S8x128 .f32 × Acc F :=
  r4.foldl (fun a g => gStep low even p xH b cs sn (gq k g) a) a

/-! ## Second pass over the keys -/

variable (inv : FVec F S8x128 .f32) (L : Acc F) (pi : FVec F S256x256 .bf16)

/-- A block of 256 rows of the buffers of the first pass. -/
def yWin (g : Fin 32) (j : Fin 2) : FVec F S256x128 .f32 := fun z => yM low even p xH b cs sn (ix2 ⟨512 * g.val + 256 * j.val + (z 0).val, by have : (z 0).val < 256 := (z 0).isLt; omega⟩ (z 1))
def kOut (g : Fin 32) (r : Fin 4) : FVec F S256x128 .fp8e4m3 :=
  let q0 := rot8 inv (yWin low even p xH b cs sn g 0)
  let q1 := rot8 inv (yWin low even p xH b cs sn g 1)
  let f := scaled L pi (nOf low xH b g 0) (nOf low xH b g 1)
  match r with
  | 0 => outLo low (out0 even q0 q1) (left8 f)
  | 1 => outLo low (out1 even q0 q1) (right8 f)
  | 2 => outHi low (out0 even q0 q1) (left8 f)
  | 3 => outHi low (out1 even q0 q1) (right8 f)
def koM : S32768x128.Idx → Elt F .fp8e4m3 := fun i =>
  kOut low even p xH b cs sn inv L pi ⟨(i 0).val / 1024, by have : (i 0).val < 32768 := (i 0).isLt; omega⟩ ⟨(i 0).val % 1024 / 256, by omega⟩ (ix2 ⟨(i 0).val % 256, by omega⟩ (i 1))
theorem koM_at (g : Fin 32) (j : Fin 4) (y : Fin 256) (d : Fin 128) (r : Fin 32768) (hr : r.val = 1024 * g.val + 256 * j.val + y.val) :
    koM low even p xH b cs sn inv L pi (ix2 r d) = kOut low even p xH b cs sn inv L pi g j (ix2 y d) := by
  obtain ⟨g, hg⟩ := g; obtain ⟨j, hj⟩ := j; obtain ⟨y, hy⟩ := y; obtain ⟨r, hr'⟩ := r
  obtain rfl : r = 1024 * g + 256 * j + y := hr
  have h0 : (1024 * g + 256 * j + y) / 1024 = g := by omega
  have h1 : (1024 * g + 256 * j + y) % 1024 / 256 = j := by omega
  have h2 : (1024 * g + 256 * j + y) % 256 = y := by omega
  unfold koM
  dsimp only [ix2]
  simp only [Matrix.cons_val_zero, h0, h1, h2]

end

/-! ## The values -/

section
variable (xH : (S3 9).Idx → Elt F .bf16) (b : Fin 9) (L : Acc F) (pi : FVec F S256x256 .bf16)

def vStep (k : Fin 8) (a : Acc F) : Acc F :=
  r16.foldl (fun a i => accBlock (rows (kWin xH b ⟨16 * k.val + i.val, by omega⟩)) a) a
def vOut (h : Fin 64) (j : Fin 2) : FVec F S256x128 .fp8e4m3 :=
  let f := scaled L pi (rows (kWin xH b ⟨2 * h.val, by omega⟩)) (rows (kWin xH b ⟨2 * h.val + 1, by omega⟩))
  if j = 0 then left8 f else right8 f
def voM : S32768x128.Idx → Elt F .fp8e4m3 := fun i =>
  vOut xH b L pi ⟨(i 0).val / 512, by have : (i 0).val < 32768 := (i 0).isLt; omega⟩ ⟨(i 0).val % 512 / 256, by omega⟩ (ix2 ⟨(i 0).val % 256, by omega⟩ (i 1))
theorem voM_at (h : Fin 64) (j : Fin 2) (y : Fin 256) (d : Fin 128) (r : Fin 32768) (hr : r.val = 512 * h.val + 256 * j.val + y.val) :
    voM xH b L pi (ix2 r d) = vOut xH b L pi h j (ix2 y d) := by
  obtain ⟨h, hh⟩ := h; obtain ⟨j, hj⟩ := j; obtain ⟨y, hy⟩ := y; obtain ⟨r, hr'⟩ := r
  obtain rfl : r = 512 * h + 256 * j + y := hr
  have h0 : (512 * h + 256 * j + y) / 512 = h := by omega
  have h1 : (512 * h + 256 * j + y) % 512 / 256 = j := by omega
  have h2 : (512 * h + 256 * j + y) % 256 = y := by omega
  unfold voM
  dsimp only [ix2]
  simp only [Matrix.cons_val_zero, h0, h1, h2]

end

end Cert.Proof.KernelIdeal

end
-- ==== Proof.KI.Shape3.lean ====
/- The first pass over a chunk of keys, as folds over its steps. -/
module

public import proofs.«01_k».proof.Proof.KI.Vals

@[expose] public section

set_option maxRecDepth 16384

noncomputable section

namespace Cert.Proof.KernelIdeal

open Cert.KernelIdeal Cert.KernelIdeal.Gen
open Idealize.ShloMosaic Idealize.ShloMosaic.TcCoe Idealize.SL.Sem

variable {F : FTy → Type} [FloatOps F]

section
variable (b : Fin k0_t1_loop.trips) (k : Fin k0_t3_loop.trips)

def loadK (g r : Fin 4) : PR F (Vec F S1x256x128 .bf16) :=
  ld kB (Rect.unit (s := S2x32768x128) (k0_off30 b k (BitVec.ofNat 32 g.val) (BitVec.ofNat 32 (256 * r.val))) S1x256x128.size (k0_off30_inb b k g r)) (View.loadsAt_vmem h_S1x256x128)

def storeN (g : Fin 4) (j : Fin 2) (x : FVec F S256x128 .bf16) : PR F PUnit :=
  upd nB (Rect.unit (s := S16384x128) (k0_off31 k (BitVec.ofNat 32 g.val) (BitVec.ofNat 32 (256 * j.val))) S256x128.size (k0_off31_inb k g j))
    (shapeCast S256x128 x shapeCasts_S256x128_S256x128) (View.loadsAt_vmem h_S256x128)
    (View.stores_vmem h_S256x128 ((Memref.isWhole_whole _ : nB.IsWhole).storeExact_slice rfl _ (k0_off31_packedbf16 k g j)) (fun _ => rfl))

def stepT (f : FVec F S256x256 .f32) (g : Fin 4) (t : Fin 32) (a : FVec F S8x128 .f32) : PR F (FVec F S8x128 .f32) := do
  let c ← ld cB (Rect.unit (s := S1024x128) (k0_off32 k (BitVec.ofNat 32 g.val) (BitVec.ofNat 32 t.val)) S1x128.size (k0_off32_inb k g t)) (View.loadsAt_vmem h_S1x128)
  let s ← ld sB (Rect.unit (s := S1024x128) (k0_off32 k (BitVec.ofNat 32 g.val) (BitVec.ofNat 32 t.val)) S1x128.size (k0_off32_inb k g t)) (View.loadsAt_vmem h_S1x128)
  upd yB (Rect.unit (s := S16384x128) (k0_off33 k (BitVec.ofNat 32 g.val) (BitVec.ofNat 32 (8 * t.val))) S8x128.size (k0_off33_inb k g t))
    (shapeCast S8x128 (rot1 f t c s) shapeCasts_S8x128_S8x128) (View.loadsAt_vmem h_S8x128) (View.stores_vmem_bits_univ h_S8x128 rfl)
  upd yB (Rect.unit (s := S16384x128) (k0_off34 k (BitVec.ofNat 32 g.val) (BitVec.ofNat 32 (8 * t.val))) S8x128.size (k0_off34_inb k g t))
    (shapeCast S8x128 (rot2 f t c s) shapeCasts_S8x128_S8x128) (View.loadsAt_vmem h_S8x128) (View.stores_vmem_bits_univ h_S8x128 rfl)
  pure (maximumf a (maximumf (absf (rot1 f t c s)) (absf (rot2 f t c s))))

/-- One group of 128 rotated positions. -/
def stepG (low even : IVec S1x128 1) (p : FVec F S256x256 .bf16) (g : Fin 4) (a : FVec F S8x128 .f32 × Acc F) : PR F (FVec F S8x128 .f32 × Acc F) := do
  let x0 ← loadK b k g 0
  let x1 ← loadK b k g 1
  let x2 ← loadK b k g 2
  let x3 ← loadK b k g 3
  storeN k g 0 (nonHalf low x0 x2)
  storeN k g 1 (nonHalf low x1 x3)
  let y ← over r32 (stepT k (mxu p (pairUp even (rotHalf low x0 x2) (rotHalf low x1 x3))) g) a.1
  pure (y, accBlock (nonHalf low x1 x3) (accBlock (nonHalf low x0 x2) a.2))

def waitK : PR F PUnit :=
  waitIn kH kB (k0_off27_inb b k) (k0_off28_inb b k) (k0_off29_inb b k)
    (((Memref.isWhole_whole _ : kH.IsWhole).wordExact_slice rfl _ (k0_off29_wordsbf16 b k)).reshape _ _)
    (((Memref.isWhole_whole _ : kB.IsWhole).wordExact_slice rfl _ (k0_off28_wordsbf16 b k)).reshape _ _)

def stepC (low even : IVec S1x128 1) (p : FVec F S256x256 .bf16) (a : FVec F S8x128 .f32 × Acc F) : PR F (FVec F S8x128 .f32 × Acc F) := do
  waitK b k
  over r4 (stepG b k low even p) a

end

variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)

set_option maxHeartbeats 0 in
theorem t3_eq (low even : IVec S1x128 1) (p : FVec F S256x256 .bf16) (z1 z2 z3 z4 : FVec F S16x128 .bf16) (w1 w2 w3 : BitVec 32) (b : Fin k0_t1_loop.trips) (k : Fin k0_t3_loop.trips) (a : FVec F S8x128 .f32 × Acc F) :
    k0_t3_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b w3 k a
    = stepC b k low even p a := by
  rfl

end Cert.Proof.KernelIdeal

end
-- ==== Proof.KI.Loop3.lean ====
/- The first pass over the keys leaves the buffers and the magnitudes as the closed forms say. -/
module

public import proofs.«01_k».proof.Proof.KI.Model
public import proofs.«01_k».proof.Proof.KI.Shape3

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

theorem trips1 : k0_t1_loop.trips = 9 := by decide +kernel
theorem trips3 : k0_t3_loop.trips = 8 := by decide +kernel
theorem off27_eq : ∀ (b : Fin k0_t1_loop.trips) (k : Fin k0_t3_loop.trips), k0_off27 b k = ![0, b.val % 2, k.val] := by decide +kernel
theorem off30_eq : ∀ (b : Fin k0_t1_loop.trips) (k : Fin k0_t3_loop.trips) (g r : Fin 4),
    k0_off30 b k (BitVec.ofNat 32 g.val) (BitVec.ofNat 32 (256 * r.val)) = ![b.val % 2, 4096 * k.val + 1024 * g.val + 256 * r.val, 0] := by decide +kernel

/-- The block a trip works on. -/
abbrev ib (b : Fin k0_t1_loop.trips) : Fin 9 := ⟨b.val, trips1 ▸ b.isLt⟩
abbrev ch3 (k : Fin k0_t3_loop.trips) : Fin 8 := ⟨k.val, trips3 ▸ k.isLt⟩

section
variable (low even : IVec S1x128 1) (p : FVec F S256x256 .bf16) (xH : (S3 9).Idx → Elt F .bf16) (cs sn : S1024x128.Idx → Elt F .f32)
variable (b : Fin k0_t1_loop.trips) (k : Fin k0_t3_loop.trips)

section
variable (c)
def kC : sProp 𝕄 := known c cB Finset.univ (rowP fun _ => True) cs
def kS : sProp 𝕄 := known c sB Finset.univ (rowP fun _ => True) sn
def kY (b : Fin 9) (D : ℕ → Prop) : sProp 𝕄 := known c yB Finset.univ (rowP D) (yM low even p xH b cs sn)
def kN (b : Fin 9) (D : ℕ → Prop) : sProp 𝕄 := known c nB Finset.univ (rowP D) (nM low xH b)
def kSlot (b : Fin 9) (k : Fin 8) : sProp 𝕄 := slotHas c sideK xH (par b.val) k b
end

/-- The rows of the rotated halves filled after `t` tiles of the group `g`. -/
def yD (g t : ℕ) (r : ℕ) : Prop := r < 512 * g ∨ (512 * g ≤ r ∧ r < 512 * g + 8 * t) ∨ (512 * g + 256 ≤ r ∧ r < 512 * g + 256 + 8 * t)

theorem yD_next (g : ℕ) : yD g 32 = yD (g + 1) 0 := funext fun r => propext (by unfold yD; omega)

theorem Runs.tile (g : Fin 4) (t : Fin 32) (a : FVec F S8x128 .f32) (R : sProp 𝕄) :
    Runs c iprop(kC c cs ∗ kS c sn ∗ kY c low even p xH cs sn (ib b) (yD (gq (ch3 k) g).val t.val) ∗ R)
      (stepT k (fOf low even p xH (ib b) (gq (ch3 k) g)) g t a) (yStep low even p xH (ib b) cs sn (gq (ch3 k) g) t a)
      iprop(kC c cs ∗ kS c sn ∗ kY c low even p xH cs sn (ib b) (yD (gq (ch3 k) g).val (t.val + 1)) ∗ R) := by
  have hk := (ch3 k).isLt
  have e32 : k0_off32 k (BitVec.ofNat 32 g.val) (BitVec.ofNat 32 t.val) = ![32 * (gq (ch3 k) g).val + t.val, 0] :=
    (k0_off32_eq k g t).trans (by congr 1; show 128 * k.val + 32 * g.val + t.val = 32 * (4 * k.val + g.val) + t.val; omega)
  unfold stepT kC kS kY
  refine Runs.bind (a := crow cs (gq (ch3 k) g) t) ((Runs.get2 e32 (fun i _ _ => Finset.mem_univ _) (fun _ _ _ => trivial) fun y d r hr => ?_).frame _) ?_
  · refine congrArg cs (congrArg (fun z => ix2 z d) (Fin.ext ?_))
    rw [hr]; have := y.isLt; show _ = 32 * _ + t.val; omega
  refine Runs.bind (a := crow sn (gq (ch3 k) g) t) (((Runs.get2 e32 (fun i _ _ => Finset.mem_univ _) (fun _ _ _ => trivial) fun y d r hr => ?_).frame _).skip) ?_
  · refine congrArg sn (congrArg (fun z => ix2 z d) (Fin.ext ?_))
    rw [hr]; have := y.isLt; show _ = 32 * _ + t.val; omega
  refine Runs.bind (((Runs.put2 (q := 512 * (gq (ch3 k) g).val + 8 * t.val)
    (D2' := fun r => yD (gq (ch3 k) g).val t.val r ∨ (512 * (gq (ch3 k) g).val ≤ r ∧ r < 512 * (gq (ch3 k) g).val + 8 * (t.val + 1)))
    ?_ (fun i _ _ => Finset.mem_univ _) ?_ fun y d r hr => ?_).frame _).skip.skip) ?_
  · refine (k0_off33_eq k g t).trans (by congr 1; show 2048 * k.val + 512 * g.val + 8 * t.val = 512 * (4 * k.val + g.val) + 8 * t.val; omega)
  · intro r hr
    simp only [yD] at hr ⊢
    omega
  · rw [shapeCast_self, yM_lo low even p xH (ib b) cs sn (gq (ch3 k) g) t y d r hr]
    rfl
  refine Runs.bind (((Runs.put2 (q := 512 * (gq (ch3 k) g).val + 256 + 8 * t.val) (D2' := yD (gq (ch3 k) g).val (t.val + 1))
    ?_ (fun i _ _ => Finset.mem_univ _) ?_ fun y d r hr => ?_).frame _).skip.skip) (Runs.pure _ _)
  · refine (k0_off34_eq k g t).trans (by congr 1; show _ = 512 * (4 * k.val + g.val) + 256 + 8 * t.val; omega)
  · intro r hr
    simp only [yD] at hr ⊢
    omega
  · rw [shapeCast_self, yM_hi low even p xH (ib b) cs sn (gq (ch3 k) g) t y d r hr]
    rfl

/-- What a chunk's first pass works on. -/
def kSt (c : Dev nD) (b : Fin 9) (q : ℕ) (R : sProp 𝕄) : sProp 𝕄 :=
  iprop(kC c cs ∗ kS c sn ∗ kY c low even p xH cs sn b (yD q 0) ∗ kN c low xH b (fun r => r < 512 * q) ∗ R)

theorem Runs.group (g : Fin 4) (a : FVec F S8x128 .f32 × Acc F) (R : sProp 𝕄) :
    Runs c iprop(kSlot c xH (ib b) (ch3 k) ∗ kSt low even p xH cs sn c (ib b) (4 * k.val + g.val) R)
      (stepG b k low even p g a) (gStep low even p xH (ib b) cs sn (gq (ch3 k) g) a)
      iprop(kSlot c xH (ib b) (ch3 k) ∗ kSt low even p xH cs sn c (ib b) (4 * k.val + (g.val + 1)) R) := by
  have hk := (ch3 k).isLt
  have hl : ∀ r : Fin 4, Runs c (kSlot c xH (ib b) (ch3 k)) (loadK b k g r) (kWin xH (ib b) (wq (gq (ch3 k) g) r)) (kSlot c xH (ib b) (ch3 k)) := fun r =>
    Runs.getSlot (sl := par b.val) ((off30_eq b k g r).trans (by
      congr 2
      show 4096 * k.val + 1024 * g.val + 256 * r.val = 256 * (4 * (4 * k.val + g.val) + r.val); omega))
      (by show (4 * (4 * k.val + g.val) + r.val) / 16 = k.val; omega)
  have hn : ∀ (j : Fin 2), Runs c (kN c low xH (ib b) (fun r => r < 512 * (4 * k.val + g.val) + 256 * j.val)) (storeN k g j (nOf low xH (ib b) (gq (ch3 k) g) j)) ⟨⟩
      (kN c low xH (ib b) (fun r => r < 512 * (4 * k.val + g.val) + 256 * (j.val + 1))) := fun j => by
    unfold kN storeN
    refine Runs.put2 (q := 512 * (4 * k.val + g.val) + 256 * j.val) ((k0_off31_eq k g j).trans (by congr 1; omega)) (fun i _ _ => Finset.mem_univ _) (fun r hr => by omega) fun y d r hr => ?_
    rw [shapeCast_self, nM_at low xH (ib b) (gq (ch3 k) g) j y d r hr]
  unfold stepG kSt
  refine Runs.bind ((hl 0).frame _) ?_
  refine Runs.bind ((hl 1).frame _) ?_
  refine Runs.bind ((hl 2).frame _) ?_
  refine Runs.bind ((hl 3).frame _) ?_
  refine Runs.bind (((hn 0).frame _).skip.skip.skip.skip) ?_
  refine Runs.bind (((hn 1).frame _).skip.skip.skip.skip) ?_
  refine Runs.bind ((Runs.overI (I := fun t => iprop(kC c cs ∗ kS c sn ∗ kY c low even p xH cs sn (ib b) (yD (4 * k.val + g.val) t)
      ∗ kN c low xH (ib b) (fun r => r < 512 * (4 * k.val + g.val) + 256 * (1 + 1)) ∗ R))
    (fun t a => Runs.tile low even p xH cs sn b k g t a _) r32 (by decide) a.1).skip) ?_
  rw [yD_next]
  exact Runs.pure _ _

theorem Runs.chunkK (a : FVec F S8x128 .f32 × Acc F) (R : sProp 𝕄) :
    Runs c iprop(INp c sideK xH (ib b) (ch3 k) ∗ ow F c ∗ kSt low even p xH cs sn c (ib b) (4 * k.val) R)
      (stepC b k low even p a) (cStep low even p xH (ib b) cs sn (ch3 k) a)
      iprop(INd c sideK xH (ib b) (ch3 k) ∗ ow F c ∗ kSt low even p xH cs sn c (ib b) (4 * (k.val + 1)) R) := by
  unfold stepC
  refine Runs.bind (Runs.arrive (ib b) (ch3 k) (off27_eq b k) _) ?_
  refine Runs.via (Runs.overI (I := fun g => iprop(kSlot c xH (ib b) (ch3 k) ∗ kSt low even p xH cs sn c (ib b) (4 * k.val + g) R))
    (fun g a => Runs.group low even p xH cs sn b k g a R) r4 (by decide) a)
    iprop(home c sideK xH (ib b) (ch3 k) ∗ sIn c sideK (par b.val) (ch3 k) ∗ INrest c sideK xH (ib b) (ch3 k) ∗ ow F c) ?_ ?_
  · unfold INd
    show iprop((kSlot c xH (ib b) (ch3 k) ∗ _) ∗ _) = iprop((kSlot c xH (ib b) (ch3 k) ∗ kSt low even p xH cs sn c (ib b) (4 * k.val) R) ∗ _)
    ac_rfl
  · unfold INd
    show _ = iprop((kSlot c xH (ib b) (ch3 k) ∗ _) ∗ _)
    rw [show 4 * (k.val + 1) = 4 * k.val + 4 from rfl]
    ac_rfl

/-- The whole pass. -/
theorem Runs.pass3 (a : FVec F S8x128 .f32 × Acc F) {body : Fin k0_t3_loop.trips → (FVec F S8x128 .f32 × Acc F) → PR F (FVec F S8x128 .f32 × Acc F)}
    (hbody : ∀ k a, body k a = stepC b k low even p a) (R : sProp 𝕄) :
    Runs c iprop(KernelIdeal.mix 0 (INd c sideK xH (ib b)) (INp c sideK xH (ib b)) ∗ ow F c ∗ kSt low even p xH cs sn c (ib b) 0 R)
      (Scf.Loop.for k0_t3_loop k0_t3_ok a body) ((List.finRange k0_t3_loop.trips).foldl (fun a k => cStep low even p xH (ib b) cs sn (ch3 k) a) a)
      iprop(KernelIdeal.mix 8 (INd c sideK xH (ib b)) (INp c sideK xH (ib b)) ∗ ow F c ∗ kSt low even p xH cs sn c (ib b) 32 R) := by
  have := Runs.for (c := c) k0_t3_loop k0_t3_ok (I := fun k => iprop(KernelIdeal.mix k (INd c sideK xH (ib b)) (INp c sideK xH (ib b)) ∗ ow F c ∗ kSt low even p xH cs sn c (ib b) (4 * k) R))
    (p := body) (fun k a => by
      rw [hbody k a]
      exact Runs.mix (ch3 k) (Runs.chunkK low even p xH cs sn b k a R)) a
  rw [show iprop(KernelIdeal.mix k0_t3_loop.trips (INd c sideK xH (ib b)) (INp c sideK xH (ib b)) ∗ ow F c ∗ kSt low even p xH cs sn c (ib b) (4 * k0_t3_loop.trips) R) = iprop(KernelIdeal.mix 8 (INd c sideK xH (ib b)) (INp c sideK xH (ib b)) ∗ ow F c ∗ kSt low even p xH cs sn c (ib b) 32 R) from by rw [trips3]] at this
  exact this

end

end Cert.Proof.KernelIdeal

end
-- ==== Proof.KI.Shape4.lean ====
/- The second pass over a chunk of keys, as folds over its steps. -/
module

public import proofs.«01_k».proof.Proof.KI.Vals

@[expose] public section

set_option maxRecDepth 16384

noncomputable section

namespace Cert.Proof.KernelIdeal

open Cert.KernelIdeal Cert.KernelIdeal.Gen
open Idealize.ShloMosaic Idealize.ShloMosaic.TcCoe Idealize.SL.Sem

variable {F : FTy → Type} [FloatOps F]

section
variable (b : Fin k0_t1_loop.trips) (k : Fin k0_t4_loop.trips)

def loadN (g : Fin 4) (j : Fin 2) : PR F (FVec F S256x128 .bf16) :=
  ld nB (Rect.unit (s := S16384x128) (k0_off40 k (BitVec.ofNat 32 g.val) (BitVec.ofNat 32 (256 * j.val))) S256x128.size (k0_off40_inb k g j)) (View.loadsAt_vmem h_S256x128)
def loadN0 (g : Fin 4) : PR F (FVec F S256x128 .bf16) :=
  ld nB (Rect.unit (s := S16384x128) (k0_off39 k (BitVec.ofNat 32 g.val)) S256x128.size (k0_off39_inb k g)) (View.loadsAt_vmem h_S256x128)
def loadY (g : Fin 4) (j : Fin 2) : PR F (FVec F S256x128 .f32) :=
  ld yB (Rect.unit (s := S16384x128) (k0_off40 k (BitVec.ofNat 32 g.val) (BitVec.ofNat 32 (256 * j.val))) S256x128.size (k0_off40_inb k g j)) (View.loadsAt_vmem h_S256x128)
def storeK (g r : Fin 4) (x : FVec F S256x128 .fp8e4m3) : PR F PUnit :=
  upd kO (Rect.unit (s := S32768x128) (k0_off41 k (BitVec.ofNat 32 g.val) (BitVec.ofNat 32 (256 * r.val))) S256x128.size (k0_off41_inb k g r))
    (shapeCast S256x128 x shapeCasts_S256x128_S256x128) (View.loadsAt_vmem h_S256x128)
    (View.stores_vmem h_S256x128 ((Memref.isWhole_whole _ : kO.IsWhole).storeExact_slice rfl _ (k0_off41_packedfp8e4m3 k g r)) (fun _ => rfl))

/-- One group of 128 positions. -/
def stepQ (low even : IVec S1x128 1) (inv : FVec F S8x128 .f32) (L : Acc F) (p : FVec F S256x256 .bf16) (g : Fin 4) (_ : PUnit.{1}) : PR F PUnit := do
  let n0 ← loadN0 k g
  let n1 ← loadN k g 1
  let y0 ← loadY k g 0
  let y1 ← loadY k g 1
  let f := scaled L p n0 n1
  storeK k g 0 (outLo low (out0 even (rot8 inv y0) (rot8 inv y1)) (left8 f))
  storeK k g 2 (outHi low (out0 even (rot8 inv y0) (rot8 inv y1)) (left8 f))
  storeK k g 1 (outLo low (out1 even (rot8 inv y0) (rot8 inv y1)) (right8 f))
  storeK k g 3 (outHi low (out1 even (rot8 inv y0) (rot8 inv y1)) (right8 f))

def waitKO (h : k0_cond2 b = 1#1) : PR F PUnit :=
  waitOut kcH kO (k0_off36_inb b k h) (k0_off38_inb b k h) (k0_off37_inb b k h)
    ((Memref.isWhole_whole _ : kO.IsWhole).wordExact_slice rfl _ (k0_off38_wordsfp8e4m3 b k h))
    (((Memref.isWhole_whole _ : kcH.IsWhole).wordExact_slice rfl _ (k0_off37_wordsfp8e4m3 b k h)).reshape _ _)
def startKO : PR F PUnit :=
  startOut kcH kO (k0_off42_inb k) (k0_off44_inb k) (k0_off43_inb b k)
    ((Memref.isWhole_whole _ : kO.IsWhole).wordExact_slice rfl _ (k0_off44_wordsfp8e4m3 k))
    (((Memref.isWhole_whole _ : kcH.IsWhole).wordExact_slice rfl _ (k0_off43_wordsfp8e4m3 b k)).reshape _ _)

def quantC (low even : IVec S1x128 1) (inv : FVec F S8x128 .f32) (L : Acc F) (p : FVec F S256x256 .bf16) : PR F PUnit := do
  over r4 (stepQ k low even inv L p) ⟨⟩
  startKO b k

end

variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)

set_option maxHeartbeats 0 in
theorem t4_pos (low even : IVec S1x128 1) (w0 w1 w2 w3 : BitVec 32) (inv : FVec F S8x128 .f32) (L0 L1 L2 L3 : FVec F S16x128 .bf16) (p : FVec F S256x256 .bf16) (b : Fin k0_t1_loop.trips) (k : Fin k0_t4_loop.trips)
    (h : k0_cond2 b = 1#1) :
    k0_part116 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even b w0 inv L0 L1 L2 L3 p w1 w2 k
    = (waitKO b k h >>= fun _ => over r4 (stepQ k low even inv (L0, L1, L2, L3) p) ⟨⟩) := by
  rw [k0_part116_eq_skeleton]
  unfold k0_part116_skel
  rw [k0_part108_eq_skeleton]
  unfold k0_part108_skel
  simp only [dif_pos h]
  rfl

set_option maxHeartbeats 0 in
theorem t4_neg (low even : IVec S1x128 1) (w0 w1 w2 w3 : BitVec 32) (inv : FVec F S8x128 .f32) (L0 L1 L2 L3 : FVec F S16x128 .bf16) (p : FVec F S256x256 .bf16) (b : Fin k0_t1_loop.trips) (k : Fin k0_t4_loop.trips)
    (h : ¬ k0_cond2 b = 1#1) :
    k0_part116 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even b w0 inv L0 L1 L2 L3 p w1 w2 k
    = over r4 (stepQ k low even inv (L0, L1, L2, L3) p) ⟨⟩ := by
  rw [k0_part116_eq_skeleton]
  unfold k0_part116_skel
  rw [k0_part108_eq_skeleton]
  unfold k0_part108_skel
  simp only [dif_neg h]
  rfl

end Cert.Proof.KernelIdeal

end
-- ==== Proof.KI.Loop4.lean ====
/- The second pass over the keys writes the block and sends it home. -/
module

public import proofs.«01_k».proof.Proof.KI.Loop3
public import proofs.«01_k».proof.Proof.KI.Shape4

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

theorem trips4 : k0_t4_loop.trips = 8 := by decide +kernel
abbrev ch4 (k : Fin k0_t4_loop.trips) : Fin 8 := ⟨k.val, trips4 ▸ k.isLt⟩
theorem cond2_iff : ∀ b : Fin k0_t1_loop.trips, k0_cond2 b = 1#1 ↔ 0 < b.val := by decide +kernel

theorem outAny_known {σ : Side} {k : Fin 8} {m : S32768x128.Idx → Elt F .fp8e4m3} {D : ℕ → Prop} (h : ∀ r, ¬ D r) : outAny c σ k ⊢ (known c σ.O (outSet k) (rowP D) m : sProp 𝕄) :=
  known_none fun i hi => h _ hi

/-- A finished chunk starts home. -/
theorem Runs.sendM {σ : Side} {G : (S3 9).Idx → Elt F .fp8e4m3} {os oo : Fin 2 → ℕ} {oc : Fin 3 → ℕ} {hs : ∀ a, os a + S1x1.size a ≤ S2x8.size a} {ho : ∀ a, oo a + S4096x128.size a ≤ S32768x128.size a}
    {hc : ∀ a, oc a + S1x4096x128.size a ≤ S9x32768x128.size a} {wo : (outBlk σ.O oo ho).view.WordExact} {wc : (blk σ.C oc hc).view.WordExact}
    (b : Fin 9) (k : Fin 8) (es : os = ![σ.w.val, k.val]) (eo : oo = ![4096 * k.val, 0]) (ec : oc = ![b.val, 4096 * k.val, 0])
    (m : S32768x128.Idx → Elt F .fp8e4m3) (hG : ∀ i, m i = G (ix3 b (i 0) (i 1))) {D : ℕ → Prop} (hD : ∀ r, 4096 * k.val ≤ r → r < 4096 * k.val + 4096 → D r) :
    Runs c iprop(known c σ.O (outSet k) (rowP D) m ∗ sOut c σ k ∗ bigSep Finset.univ fun b' => Call c σ G b.val b' k)
      (KernelIdeal.startOut σ.C σ.O hs ho hc wo wc) ⟨⟩ (OUT c σ G (b.val + 1) k) := by
  refine (Runs.send b k es eo ec m fun i _ => hG i).conseq ?_ .rfl
  iintro ⟨H1, H2⟩
  ihave H1 := (known_full fun i hi => hD _ (mem_outSet.1 hi).1 (mem_outSet.1 hi).2) $$ H1
  isplitl [H1]; · iexact H1
  iexact H2

section
variable (low even : IVec S1x128 1) (p : FVec F S256x256 .bf16) (xH : (S3 9).Idx → Elt F .bf16) (cs sn : S1024x128.Idx → Elt F .f32)
variable (inv : FVec F S8x128 .f32) (L : Acc F) (pi : FVec F S256x256 .bf16) (G : (S3 9).Idx → Elt F .fp8e4m3)
variable (b : Fin k0_t1_loop.trips) (k : Fin k0_t4_loop.trips)

def kO' (c : Dev nD) (b : Fin 9) (k : Fin 8) (D : ℕ → Prop) : sProp 𝕄 := known c kO (outSet k) (rowP D) (koM low even p xH b cs sn inv L pi)

theorem Runs.groupQ (g : Fin 4) (u : PUnit) (R : sProp 𝕄) :
    Runs c iprop(kN c low xH (ib b) (fun r => r < 16384) ∗ kY c low even p xH cs sn (ib b) (yD 32 0) ∗ kO' low even p xH cs sn inv L pi c (ib b) (ch4 k) (fun r => 4096 * k.val ≤ r ∧ r < 4096 * k.val + 1024 * g.val) ∗ R)
      (stepQ k low even inv L pi g u) ⟨⟩
      iprop(kN c low xH (ib b) (fun r => r < 16384) ∗ kY c low even p xH cs sn (ib b) (yD 32 0) ∗ kO' low even p xH cs sn inv L pi c (ib b) (ch4 k) (fun r => 4096 * k.val ≤ r ∧ r < 4096 * k.val + 1024 * (g.val + 1)) ∗ R) := by
  have hk := (ch4 k).isLt
  have hk' : k.val < 8 := hk
  have hn : ∀ {o : Fin 2 → ℕ} {inb h}, ∀ j : Fin 2, o = ![2048 * k.val + 512 * g.val + 256 * j.val, 0] →
      Runs c (kN c low xH (ib b) (fun r => r < 16384)) (KernelIdeal.ld nB (Rect.unit (s := S16384x128) o S256x128.size inb) h) (nOf low xH (ib b) (gq (ch4 k) g) j) (kN c low xH (ib b) (fun r => r < 16384)) := by
    intro o inb h j eo
    unfold kN
    refine Runs.get2 eo (fun i _ _ => Finset.mem_univ _) (fun r _ h2 => by omega) fun y d r hr => ?_
    exact nM_at low xH (ib b) (gq (ch4 k) g) j y d r (by rw [hr]; show _ = 512 * (4 * k.val + g.val) + 256 * j.val + y.val; omega)
  have hy : ∀ j : Fin 2, Runs c (kY c low even p xH cs sn (ib b) (yD 32 0)) (loadY k g j) (yWin low even p xH (ib b) cs sn (gq (ch4 k) g) j) (kY c low even p xH cs sn (ib b) (yD 32 0)) := by
    intro j
    unfold kY loadY
    refine Runs.get2 (k0_off40_eq k g j) (fun i _ _ => Finset.mem_univ _) (fun r _ h2 => by simp only [yD]; omega) fun y d r hr => ?_
    refine congrArg _ (congrArg (fun z => ix2 z d) (Fin.ext ?_))
    rw [hr]; show _ = 512 * (4 * k.val + g.val) + 256 * j.val + y.val; omega
  have ho : ∀ (r : Fin 4) (D D' : ℕ → Prop), (∀ i, D' i → D i ∨ (4096 * k.val + 1024 * g.val + 256 * r.val ≤ i ∧ i < 4096 * k.val + 1024 * g.val + 256 * r.val + 256)) →
      Runs c (kO' low even p xH cs sn inv L pi c (ib b) (ch4 k) D) (storeK k g r (kOut low even p xH (ib b) cs sn inv L pi (gq (ch4 k) g) r)) ⟨⟩ (kO' low even p xH cs sn inv L pi c (ib b) (ch4 k) D') := by
    intro r D D' hD
    unfold kO' storeK
    refine Runs.put2 (k0_off41_eq k g r) (fun i h1 h2 => mem_outSet.2 ?_) hD fun y d i hi => ?_
    · show 4096 * k.val ≤ _ ∧ _ < 4096 * k.val + 4096
      omega
    · rw [shapeCast_self]
      exact koM_at low even p xH (ib b) cs sn inv L pi (gq (ch4 k) g) r y d i (by rw [hi]; show _ = 1024 * (4 * k.val + g.val) + 256 * r.val + y.val; omega)
  unfold stepQ
  refine Runs.bind ((hn 0 ((k0_off39_eq k g).trans (by congr 1))).frame _) ?_
  refine Runs.bind ((hn 1 (k0_off40_eq k g 1)).frame _) ?_
  refine Runs.bind ((hy 0).frame _).skip ?_
  refine Runs.bind ((hy 1).frame _).skip ?_
  refine Runs.bind (((ho 0 _ (fun r => 4096 * k.val ≤ r ∧ r < 4096 * k.val + 1024 * g.val + 256) (fun r hr => ?_)).frame _).skip.skip) ?_
  · omega
  refine Runs.bind (((ho 2 _ (fun r => 4096 * k.val ≤ r ∧ (r < 4096 * k.val + 1024 * g.val + 256 ∨ (4096 * k.val + 1024 * g.val + 512 ≤ r ∧ r < 4096 * k.val + 1024 * g.val + 768))) (fun r hr => ?_)).frame _).skip.skip) ?_
  · show _ ∨ (_ + 256 * 2 ≤ _ ∧ _ < _ + 256 * 2 + _)
    omega
  refine Runs.bind (((ho 1 _ (fun r => 4096 * k.val ≤ r ∧ r < 4096 * k.val + 1024 * g.val + 768) (fun r hr => ?_)).frame _).skip.skip) ?_
  · show _ ∨ (_ + 256 * 1 ≤ _ ∧ _ < _ + 256 * 1 + _)
    omega
  refine (((ho 3 _ _ (fun r hr => ?_)).frame _).skip.skip)
  · show _ ∨ (_ + 256 * 3 ≤ _ ∧ _ < _ + 256 * 3 + _)
    omega

theorem Runs.quantK (hG : ∀ i, koM low even p xH (ib b) cs sn inv L pi i = G (ix3 (ib b) (i 0) (i 1))) (R : sProp 𝕄) :
    Runs c iprop(OUTf c sideK G b.val (ch4 k) ∗ kN c low xH (ib b) (fun r => r < 16384) ∗ kY c low even p xH cs sn (ib b) (yD 32 0) ∗ R)
      (quantC b k low even inv L pi) ⟨⟩
      iprop(OUT c sideK G (b.val + 1) (ch4 k) ∗ kN c low xH (ib b) (fun r => r < 16384) ∗ kY c low even p xH cs sn (ib b) (yD 32 0) ∗ R) := by
  unfold quantC startKO
  refine (Runs.bind (Runs.overI (I := fun g => iprop(kN c low xH (ib b) (fun r => r < 16384) ∗ kY c low even p xH cs sn (ib b) (yD 32 0)
      ∗ kO' low even p xH cs sn inv L pi c (ib b) (ch4 k) (fun r => 4096 * k.val ≤ r ∧ r < 4096 * k.val + 1024 * g)
      ∗ (sOut c sideK (ch4 k) ∗ bigSep Finset.univ fun b' => Call c sideK G b.val b' (ch4 k)) ∗ R))
      (fun g u => Runs.groupQ low even p xH cs sn inv L pi b k g u _) r4 (by decide) ⟨⟩)
    (Runs.via (Runs.sendM (ib b) (ch4 k) (k0_off42_eq k) (k0_off44_eq k) (k0_off43_eq b k) (koM low even p xH (ib b) cs sn inv L pi) hG
      (D := fun r => 4096 * k.val ≤ r ∧ r < 4096 * k.val + 1024 * 4) (fun r h1 h2 => ⟨h1, h2⟩))
      iprop(kN c low xH (ib b) (fun r => r < 16384) ∗ kY c low even p xH cs sn (ib b) (yD 32 0) ∗ R) ?_ rfl)).conseq ?_ .rfl
  · show iprop(_ ∗ _ ∗ kO' low even p xH cs sn inv L pi c (ib b) (ch4 k) (fun r => 4096 * k.val ≤ r ∧ r < 4096 * k.val + 1024 * 4) ∗ _ ∗ _)
      = iprop((kO' low even p xH cs sn inv L pi c (ib b) (ch4 k) (fun r => 4096 * k.val ≤ r ∧ r < 4096 * k.val + 1024 * 4) ∗ _ ∗ _) ∗ _)
    generalize kO' low even p xH cs sn inv L pi c (ib b) (ch4 k) (fun r => 4096 * k.val ≤ r ∧ r < 4096 * k.val + 1024 * 4) = X
    ac_rfl
  · unfold OUTf
    iintro ⟨⟨H1, H2⟩, H3, H4, H5⟩
    ihave H1 := (outAny_known (m := koM low even p xH (ib b) cs sn inv L pi) (D := fun r => 4096 * k.val ≤ r ∧ r < 4096 * k.val + 1024 * 0) (fun r hr => by omega)) $$ H1
    isplitl [H3]; · iexact H3
    isplitl [H4]; · iexact H4
    isplitl [H1]
    · unfold kO'
      iexact H1
    isplitl [H2]; · iexact H2
    iexact H5

theorem Runs.pass4 (hG : ∀ i, koM low even p xH (ib b) cs sn inv L pi i = G (ix3 (ib b) (i 0) (i 1))) {body : Fin k0_t4_loop.trips → PUnit.{1} → PR F PUnit}
    (hpos : ∀ k (h : k0_cond2 b = 1#1) u, body k u = waitKO b k h >>= fun _ => quantC b k low even inv L pi)
    (hneg : ∀ k (h : ¬ k0_cond2 b = 1#1) u, body k u = quantC b k low even inv L pi) (R : sProp 𝕄) :
    Runs c iprop(KernelIdeal.mix 0 (OUT c sideK G (b.val + 1)) (OUT c sideK G b.val) ∗ ow F c ∗ kN c low xH (ib b) (fun r => r < 16384) ∗ kY c low even p xH cs sn (ib b) (yD 32 0) ∗ R)
      (Scf.Loop.for k0_t4_loop k0_t4_ok ⟨⟩ body) ((List.finRange k0_t4_loop.trips).foldl (fun _ _ => ⟨⟩) ⟨⟩)
      iprop(KernelIdeal.mix 8 (OUT c sideK G (b.val + 1)) (OUT c sideK G b.val) ∗ ow F c ∗ kN c low xH (ib b) (fun r => r < 16384) ∗ kY c low even p xH cs sn (ib b) (yD 32 0) ∗ R) := by
  have := Runs.for (c := c) k0_t4_loop k0_t4_ok (I := fun k => iprop(KernelIdeal.mix k (OUT c sideK G (b.val + 1)) (OUT c sideK G b.val) ∗ ow F c ∗ kN c low xH (ib b) (fun r => r < 16384) ∗ kY c low even p xH cs sn (ib b) (yD 32 0) ∗ R))
    (p := body) (fa := fun _ _ => ⟨⟩) (fun k u => by
      refine Runs.mix (ch4 k) ?_
      have hq := Runs.quantK (c := c) low even p xH cs sn inv L pi G b k hG iprop(ow F c ∗ R)
      have hq' : Runs c iprop(OUTf c sideK G b.val (ch4 k) ∗ ow F c ∗ kN c low xH (ib b) (fun r => r < 16384) ∗ kY c low even p xH cs sn (ib b) (yD 32 0) ∗ R)
          (quantC b k low even inv L pi) ⟨⟩ iprop(OUT c sideK G (b.val + 1) (ch4 k) ∗ ow F c ∗ kN c low xH (ib b) (fun r => r < 16384) ∗ kY c low even p xH cs sn (ib b) (yD 32 0) ∗ R) :=
        hq.conseq (entails_of_eq (by ac_rfl)) (entails_of_eq (by ac_rfl))
      by_cases h : k0_cond2 b = 1#1
      · rw [hpos k h u]
        exact Runs.bind (Runs.landed (σ := sideK) b.val ⟨(cond2_iff b).1 h, (ib b).isLt.le⟩ (ch4 k) (k0_off36_eq k) _) hq'
      · rw [hneg k h u]
        have hb : b.val = 0 := by have := mt (cond2_iff b).2 h; omega
        have e : OUT c sideK G b.val (ch4 k) = (OUTf c sideK G b.val (ch4 k) : sProp 𝕄) := by rw [hb]; exact OUT_zero _
        rw [e]
        exact hq') ⟨⟩
  rw [show iprop(KernelIdeal.mix k0_t4_loop.trips (OUT c sideK G (b.val + 1)) (OUT c sideK G b.val) ∗ ow F c ∗ kN c low xH (ib b) (fun r => r < 16384) ∗ kY c low even p xH cs sn (ib b) (yD 32 0) ∗ R)
    = iprop(KernelIdeal.mix 8 (OUT c sideK G (b.val + 1)) (OUT c sideK G b.val) ∗ ow F c ∗ kN c low xH (ib b) (fun r => r < 16384) ∗ kY c low even p xH cs sn (ib b) (yD 32 0) ∗ R) from by rw [trips4]] at this
  exact this

end

end Cert.Proof.KernelIdeal

end
-- ==== Proof.KI.Shape56.lean ====
/- The two passes over a chunk of values, as folds over its steps. -/
module

public import proofs.«01_k».proof.Proof.KI.Vals

@[expose] public section

set_option maxRecDepth 16384

noncomputable section

namespace Cert.Proof.KernelIdeal

open Cert.KernelIdeal Cert.KernelIdeal.Gen
open Idealize.ShloMosaic Idealize.ShloMosaic.TcCoe Idealize.SL.Sem

variable {F : FTy → Type} [FloatOps F]

section
variable (b : Fin k0_t1_loop.trips) (k : Fin k0_t5_loop.trips)

def loadV (i : Fin 16) : PR F (Vec F S1x256x128 .bf16) :=
  ld vB (Rect.unit (s := S2x32768x128) (k0_off72 b k (BitVec.ofNat 32 (256 * i.val))) S1x256x128.size (k0_off72_inb b k i)) (View.loadsAt_vmem h_S1x256x128)
def stepA (i : Fin 16) (a : Acc F) : PR F (Acc F) := do
  let x ← loadV b k i
  pure (accBlock (rows x) a)
def waitV : PR F PUnit :=
  waitIn vH vB (k0_off69_inb b k) (k0_off70_inb b k) (k0_off71_inb b k)
    (((Memref.isWhole_whole _ : vH.IsWhole).wordExact_slice rfl _ (k0_off71_wordsbf16 b k)).reshape _ _)
    (((Memref.isWhole_whole _ : vB.IsWhole).wordExact_slice rfl _ (k0_off70_wordsbf16 b k)).reshape _ _)
def ampC (a : Acc F) : PR F (Acc F) := do
  waitV b k
  over r16 (stepA b k) a
end

section
variable (b : Fin k0_t1_loop.trips) (k : Fin k0_t6_loop.trips)

def loadW (i : Fin 8) (j : Fin 2) : PR F (Vec F S1x256x128 .bf16) :=
  ld vB (Rect.unit (s := S2x32768x128) (k0_off76 b k (BitVec.ofNat 32 (512 * i.val)) (BitVec.ofNat 32 (256 * j.val))) S1x256x128.size (k0_off76_inb b k i j)) (View.loadsAt_vmem h_S1x256x128)
def storeV (i : Fin 8) (j : Fin 2) (x : FVec F S256x128 .fp8e4m3) : PR F PUnit :=
  upd vO (Rect.unit (s := S32768x128) (k0_off77 k (BitVec.ofNat 32 (512 * i.val)) (BitVec.ofNat 32 (256 * j.val))) S256x128.size (k0_off77_inb k i j))
    (shapeCast S256x128 x shapeCasts_S256x128_S256x128) (View.loadsAt_vmem h_S256x128)
    (View.stores_vmem h_S256x128 ((Memref.isWhole_whole _ : vO.IsWhole).storeExact_slice rfl _ (k0_off77_packedfp8e4m3 k i j)) (fun _ => rfl))
def stepV (L : Acc F) (p : FVec F S256x256 .bf16) (i : Fin 8) (_ : PUnit.{1}) : PR F PUnit := do
  let x0 ← loadW b k i 0
  let x1 ← loadW b k i 1
  let f := scaled L p (rows x0) (rows x1)
  storeV k i 0 (left8 f)
  storeV k i 1 (right8 f)
def waitVO (h : k0_cond4 b = 1#1) : PR F PUnit :=
  waitOut vcH vO (k0_off73_inb b k h) (k0_off75_inb b k h) (k0_off74_inb b k h)
    ((Memref.isWhole_whole _ : vO.IsWhole).wordExact_slice rfl _ (k0_off75_wordsfp8e4m3 b k h))
    (((Memref.isWhole_whole _ : vcH.IsWhole).wordExact_slice rfl _ (k0_off74_wordsfp8e4m3 b k h)).reshape _ _)
def startVO : PR F PUnit :=
  startOut vcH vO (k0_off78_inb k) (k0_off80_inb k) (k0_off79_inb b k)
    ((Memref.isWhole_whole _ : vO.IsWhole).wordExact_slice rfl _ (k0_off80_wordsfp8e4m3 k))
    (((Memref.isWhole_whole _ : vcH.IsWhole).wordExact_slice rfl _ (k0_off79_wordsfp8e4m3 b k)).reshape _ _)
def quantV (L : Acc F) (p : FVec F S256x256 .bf16) : PR F PUnit := do
  over r8 (stepV b k L p) ⟨⟩
  startVO b k
end

variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)

set_option maxHeartbeats 0 in
theorem t5_eq (z1 z2 z3 z4 : FVec F S16x128 .bf16) (w1 w2 w3 : BitVec 32) (b : Fin k0_t1_loop.trips) (k : Fin k0_t5_loop.trips) (a : Acc F) :
    k0_t5_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 z1 z2 z3 z4 b w1 w2 w3 k a
    = ampC b k a := by
  rfl

set_option maxHeartbeats 0 in
theorem t6_pos (low even : IVec S1x128 1) (v26 : FVec F S256x256 .f32) (v27 : FVec F S256x256 .bf16) (z1 z2 : FVec F S16x128 .bf16) (w0 : F .bf16) (w1 w2 : BitVec 32)
    (inv : FVec F S8x128 .f32) (L0 L1 L2 : FVec F S16x128 .bf16) (l3 : FVec F S16x128 .f32) (b : Fin k0_t1_loop.trips) (k : Fin k0_t6_loop.trips) (h : k0_cond4 b = 1#1) :
    k0_t6_body (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even v26 v27 z1 z2 w0 b w1 w2 inv L0 L1 L2 l3 k ⟨⟩
    = (waitVO b k h >>= fun _ => quantV b k (L0, L1, L2, k0_pay1434 l3) (k0_pay1435 v26 inv)) := by
  unfold k0_t6_body
  rw [k0_part129_eq_skeleton]
  unfold k0_part129_skel
  simp only [dif_pos h]
  rfl

set_option maxHeartbeats 0 in
theorem t6_neg (low even : IVec S1x128 1) (v26 : FVec F S256x256 .f32) (v27 : FVec F S256x256 .bf16) (z1 z2 : FVec F S16x128 .bf16) (w0 : F .bf16) (w1 w2 : BitVec 32)
    (inv : FVec F S8x128 .f32) (L0 L1 L2 : FVec F S16x128 .bf16) (l3 : FVec F S16x128 .f32) (b : Fin k0_t1_loop.trips) (k : Fin k0_t6_loop.trips) (h : ¬ k0_cond4 b = 1#1) :
    k0_t6_body (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even v26 v27 z1 z2 w0 b w1 w2 inv L0 L1 L2 l3 k ⟨⟩
    = quantV b k (L0, L1, L2, k0_pay1434 l3) (k0_pay1435 v26 inv) := by
  unfold k0_t6_body
  rw [k0_part129_eq_skeleton]
  unfold k0_part129_skel
  simp only [dif_neg h]
  rfl

end Cert.Proof.KernelIdeal

end
-- ==== Proof.KI.Loop56.lean ====
/- The two passes over the values. -/
module

public import proofs.«01_k».proof.Proof.KI.Loop4
public import proofs.«01_k».proof.Proof.KI.Shape56

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

theorem trips5 : k0_t5_loop.trips = 8 := by decide +kernel
abbrev ch5 (k : Fin k0_t5_loop.trips) : Fin 8 := ⟨k.val, trips5 ▸ k.isLt⟩
theorem trips6 : k0_t6_loop.trips = 8 := by decide +kernel
abbrev ch6 (k : Fin k0_t6_loop.trips) : Fin 8 := ⟨k.val, trips6 ▸ k.isLt⟩
theorem cond4_iff : ∀ b : Fin k0_t1_loop.trips, k0_cond4 b = 1#1 ↔ 0 < b.val := by decide +kernel
theorem off69_eq : ∀ (b : Fin k0_t1_loop.trips) (k : Fin k0_t5_loop.trips), k0_off69 b k = ![1, b.val % 2, k.val] := by decide +kernel
theorem off72_eq : ∀ (b : Fin k0_t1_loop.trips) (k : Fin k0_t5_loop.trips) (i : Fin 16),
    k0_off72 b k (BitVec.ofNat 32 (256 * i.val)) = ![b.val % 2, 4096 * k.val + 256 * i.val, 0] := by decide +kernel
theorem off76_eq : ∀ (b : Fin k0_t1_loop.trips) (k : Fin k0_t6_loop.trips) (i : Fin 8) (j : Fin 2),
    k0_off76 b k (BitVec.ofNat 32 (512 * i.val)) (BitVec.ofNat 32 (256 * j.val)) = ![b.val % 2, 4096 * k.val + 512 * i.val + 256 * j.val, 0] := by decide +kernel

section
variable (xH : (S3 9).Idx → Elt F .bf16) (L : Acc F) (pi : FVec F S256x256 .bf16) (G : (S3 9).Idx → Elt F .fp8e4m3)
variable (b : Fin k0_t1_loop.trips)

theorem Runs.chunkV (k : Fin k0_t5_loop.trips) (a : Acc F) (R : sProp 𝕄) :
    Runs c iprop(INp c sideV xH (ib b) (ch5 k) ∗ ow F c ∗ R) (ampC b k a) (vStep xH (ib b) (ch5 k) a) iprop(INd c sideV xH (ib b) (ch5 k) ∗ ow F c ∗ R) := by
  unfold ampC
  refine Runs.bind (Runs.arrive (ib b) (ch5 k) (off69_eq b k) _) ?_
  unfold INd
  refine Runs.frame _ (Runs.frame _ ?_)
  refine Runs.overI (I := fun _ => slotHas c sideV xH (par (ib b).val) (ch5 k) (ib b)) (fa := fun i a => accBlock (rows (kWin xH (ib b) ⟨16 * (ch5 k).val + i.val, by have := (ch5 k).isLt; omega⟩)) a) (fun i a => ?_) r16 (by decide) a
  unfold stepA loadV
  refine Runs.bind (Runs.getSlot (sl := par b.val) (q := ⟨16 * (ch5 k).val + i.val, by have := (ch5 k).isLt; omega⟩) ((off72_eq b k i).trans (by
    congr 2
    show 4096 * k.val + 256 * i.val = 256 * (16 * k.val + i.val); omega)) (by show (16 * k.val + i.val) / 16 = k.val; omega)) (Runs.pure _ _)

theorem Runs.pass5 (a : Acc F) {body : Fin k0_t5_loop.trips → Acc F → PR F (Acc F)}
    (hbody : ∀ k a, body k a = ampC b k a) (R : sProp 𝕄) :
    Runs c iprop(KernelIdeal.mix 0 (INd c sideV xH (ib b)) (INp c sideV xH (ib b)) ∗ ow F c ∗ R)
      (Scf.Loop.for k0_t5_loop k0_t5_ok a body) ((List.finRange k0_t5_loop.trips).foldl (fun a k => vStep xH (ib b) (ch5 k) a) a)
      iprop(KernelIdeal.mix 8 (INd c sideV xH (ib b)) (INp c sideV xH (ib b)) ∗ ow F c ∗ R) := by
  have := Runs.for (c := c) k0_t5_loop k0_t5_ok (I := fun k => iprop(KernelIdeal.mix k (INd c sideV xH (ib b)) (INp c sideV xH (ib b)) ∗ ow F c ∗ R))
    (p := body) (fun k a => by
      rw [hbody k a]
      exact Runs.mix (ch5 k) (Runs.chunkV xH b k a R)) a
  rw [show iprop(KernelIdeal.mix k0_t5_loop.trips (INd c sideV xH (ib b)) (INp c sideV xH (ib b)) ∗ ow F c ∗ R) = iprop(KernelIdeal.mix 8 (INd c sideV xH (ib b)) (INp c sideV xH (ib b)) ∗ ow F c ∗ R) from by rw [trips5]] at this
  exact this

variable (k : Fin k0_t6_loop.trips)

def vO' (c : Dev nD) (b : Fin 9) (k : Fin 8) (D : ℕ → Prop) : sProp 𝕄 := known c vO (outSet k) (rowP D) (voM xH b L pi)
def vSlot (c : Dev nD) (b : Fin 9) (k : Fin 8) : sProp 𝕄 := slotHas c sideV xH (par b.val) k b

theorem Runs.groupV (i : Fin 8) (u : PUnit) (R : sProp 𝕄) :
    Runs c iprop(vSlot xH c (ib b) (ch6 k) ∗ vO' xH L pi c (ib b) (ch6 k) (fun r => 4096 * k.val ≤ r ∧ r < 4096 * k.val + 512 * i.val) ∗ R)
      (stepV b k L pi i u) ⟨⟩
      iprop(vSlot xH c (ib b) (ch6 k) ∗ vO' xH L pi c (ib b) (ch6 k) (fun r => 4096 * k.val ≤ r ∧ r < 4096 * k.val + 512 * (i.val + 1)) ∗ R) := by
  have hk := (ch6 k).isLt
  have hk' : k.val < 8 := hk
  have hl : ∀ j : Fin 2, Runs c (vSlot xH c (ib b) (ch6 k)) (loadW b k i j) (kWin xH (ib b) ⟨2 * (8 * k.val + i.val) + j.val, by omega⟩) (vSlot xH c (ib b) (ch6 k)) := fun j =>
    Runs.getSlot (sl := par b.val) ((off76_eq b k i j).trans (by
      congr 2
      show _ = 256 * (2 * (8 * k.val + i.val) + j.val); omega))
      (by show (2 * (8 * k.val + i.val) + j.val) / 16 = k.val; omega)
  have ho : ∀ (r : Fin 2) (D D' : ℕ → Prop), (∀ t, D' t → D t ∨ (4096 * k.val + 512 * i.val + 256 * r.val ≤ t ∧ t < 4096 * k.val + 512 * i.val + 256 * r.val + 256)) →
      Runs c (vO' xH L pi c (ib b) (ch6 k) D) (storeV k i r (vOut xH (ib b) L pi ⟨8 * k.val + i.val, by omega⟩ r)) ⟨⟩ (vO' xH L pi c (ib b) (ch6 k) D') := by
    intro r D D' hD
    unfold vO' storeV
    refine Runs.put2 (k0_off77_eq k i r) (fun i h1 h2 => mem_outSet.2 ?_) hD fun y d t ht => ?_
    · show 4096 * k.val ≤ _ ∧ _ < 4096 * k.val + 4096
      omega
    · rw [shapeCast_self]
      exact voM_at xH (ib b) L pi _ r y d t (by rw [ht]; show _ = 512 * (8 * k.val + i.val) + 256 * r.val + y.val; omega)
  unfold stepV
  refine Runs.bind ((hl 0).frame _) ?_
  refine Runs.bind ((hl 1).frame _) ?_
  refine Runs.bind (((ho 0 _ (fun r => 4096 * k.val ≤ r ∧ r < 4096 * k.val + 512 * i.val + 256) (fun r hr => ?_)).frame _).skip) ?_
  · omega
  refine (((ho 1 _ _ (fun r hr => ?_)).frame _).skip)
  · show _ ∨ (_ + 256 * 1 ≤ _ ∧ _ < _ + 256 * 1 + _)
    omega

theorem Runs.quantV' (hG : ∀ i, voM xH (ib b) L pi i = G (ix3 (ib b) (i 0) (i 1))) (R : sProp 𝕄) :
    Runs c iprop(OUTf c sideV G b.val (ch6 k) ∗ vSlot xH c (ib b) (ch6 k) ∗ R)
      (quantV b k L pi) ⟨⟩
      iprop(OUT c sideV G (b.val + 1) (ch6 k) ∗ vSlot xH c (ib b) (ch6 k) ∗ R) := by
  unfold quantV startVO
  refine (Runs.bind (Runs.overI (I := fun g => iprop(vSlot xH c (ib b) (ch6 k)
      ∗ vO' xH L pi c (ib b) (ch6 k) (fun r => 4096 * k.val ≤ r ∧ r < 4096 * k.val + 512 * g)
      ∗ (sOut c sideV (ch6 k) ∗ bigSep Finset.univ fun b' => Call c sideV G b.val b' (ch6 k)) ∗ R))
      (fun g u => Runs.groupV xH L pi b k g u _) r8 (by decide) ⟨⟩)
    (Runs.via (Runs.sendM (ib b) (ch6 k) (k0_off78_eq k) (k0_off80_eq k) (k0_off79_eq b k) (voM xH (ib b) L pi) hG
      (D := fun r => 4096 * k.val ≤ r ∧ r < 4096 * k.val + 512 * 8) (fun r h1 h2 => ⟨h1, h2⟩))
      iprop(vSlot xH c (ib b) (ch6 k) ∗ R) ?_ rfl)).conseq ?_ .rfl
  · show iprop(_ ∗ vO' xH L pi c (ib b) (ch6 k) (fun r => 4096 * k.val ≤ r ∧ r < 4096 * k.val + 512 * 8) ∗ _ ∗ _)
      = iprop((vO' xH L pi c (ib b) (ch6 k) (fun r => 4096 * k.val ≤ r ∧ r < 4096 * k.val + 512 * 8) ∗ _ ∗ _) ∗ _)
    generalize vO' xH L pi c (ib b) (ch6 k) (fun r => 4096 * k.val ≤ r ∧ r < 4096 * k.val + 512 * 8) = X
    ac_rfl
  · unfold OUTf
    iintro ⟨⟨H1, H2⟩, H3, H5⟩
    ihave H1 := (outAny_known (m := voM xH (ib b) L pi) (D := fun r => 4096 * k.val ≤ r ∧ r < 4096 * k.val + 512 * 0) (fun r hr => by omega)) $$ H1
    isplitl [H3]; · iexact H3
    isplitl [H1]
    · unfold vO'
      iexact H1
    isplitl [H2]; · iexact H2
    iexact H5

theorem Runs.pass6 (hG : ∀ i, voM xH (ib b) L pi i = G (ix3 (ib b) (i 0) (i 1))) {body : Fin k0_t6_loop.trips → PUnit.{1} → PR F PUnit}
    (hpos : ∀ k (h : k0_cond4 b = 1#1) u, body k u = waitVO b k h >>= fun _ => quantV b k L pi)
    (hneg : ∀ k (h : ¬ k0_cond4 b = 1#1) u, body k u = quantV b k L pi) (R : sProp 𝕄) :
    Runs c iprop(KernelIdeal.mix 0 (fun k => iprop(OUT c sideV G (b.val + 1) k ∗ INd c sideV xH (ib b) k)) (fun k => iprop(OUT c sideV G b.val k ∗ INd c sideV xH (ib b) k)) ∗ ow F c ∗ R)
      (Scf.Loop.for k0_t6_loop k0_t6_ok ⟨⟩ body) ((List.finRange k0_t6_loop.trips).foldl (fun _ _ => ⟨⟩) ⟨⟩)
      iprop(KernelIdeal.mix 8 (fun k => iprop(OUT c sideV G (b.val + 1) k ∗ INd c sideV xH (ib b) k)) (fun k => iprop(OUT c sideV G b.val k ∗ INd c sideV xH (ib b) k)) ∗ ow F c ∗ R) := by
  have := Runs.for (c := c) k0_t6_loop k0_t6_ok (I := fun k => iprop(KernelIdeal.mix k (fun k => iprop(OUT c sideV G (b.val + 1) k ∗ INd c sideV xH (ib b) k)) (fun k => iprop(OUT c sideV G b.val k ∗ INd c sideV xH (ib b) k)) ∗ ow F c ∗ R))
    (p := body) (fa := fun _ _ => ⟨⟩) (fun k u => by
      refine Runs.mix (ch6 k) ?_
      have hq := Runs.quantV' (c := c) xH L pi G b k hG iprop((home c sideV xH (ib b) (ch6 k) ∗ sIn c sideV (par b.val) (ch6 k) ∗ INrest c sideV xH (ib b) (ch6 k)) ∗ ow F c ∗ R)
      have e1 : (INd c sideV xH (ib b) (ch6 k) : sProp 𝕄) = iprop(vSlot xH c (ib b) (ch6 k) ∗ home c sideV xH (ib b) (ch6 k) ∗ sIn c sideV (par b.val) (ch6 k) ∗ INrest c sideV xH (ib b) (ch6 k)) := rfl
      have hq' : Runs c iprop(OUTf c sideV G b.val (ch6 k) ∗ ow F c ∗ INd c sideV xH (ib b) (ch6 k) ∗ R)
          (quantV b k L pi) ⟨⟩ iprop((OUT c sideV G (b.val + 1) (ch6 k) ∗ INd c sideV xH (ib b) (ch6 k)) ∗ ow F c ∗ R) := by
        rw [e1]
        exact hq.conseq (entails_of_eq (by ac_rfl)) (entails_of_eq (by ac_rfl))
      by_cases h : k0_cond4 b = 1#1
      · rw [hpos k h u]
        refine (Runs.bind (Runs.landed (σ := sideV) b.val ⟨(cond4_iff b).1 h, (ib b).isLt.le⟩ (ch6 k) (k0_off73_eq k) _) hq').conseq (entails_of_eq (by ac_rfl)) .rfl
      · rw [hneg k h u]
        have hb : b.val = 0 := by have := mt (cond4_iff b).2 h; omega
        have e : OUT c sideV G b.val (ch6 k) = (OUTf c sideV G b.val (ch6 k) : sProp 𝕄) := by rw [hb]; exact OUT_zero _
        rw [e]
        exact hq'.conseq (entails_of_eq (by ac_rfl)) .rfl) ⟨⟩
  rw [show iprop(KernelIdeal.mix k0_t6_loop.trips (fun k => iprop(OUT c sideV G (b.val + 1) k ∗ INd c sideV xH (ib b) k)) (fun k => iprop(OUT c sideV G b.val k ∗ INd c sideV xH (ib b) k)) ∗ ow F c ∗ R)
    = iprop(KernelIdeal.mix 8 (fun k => iprop(OUT c sideV G (b.val + 1) k ∗ INd c sideV xH (ib b) k)) (fun k => iprop(OUT c sideV G b.val k ∗ INd c sideV xH (ib b) k)) ∗ ow F c ∗ R) from by rw [trips6]] at this
  exact this

end

end Cert.Proof.KernelIdeal

end
-- ==== Proof.KI.Fetch.lean ====
/- Asking for the next block, chunk by chunk. -/
module

public import proofs.«01_k».proof.Proof.KI.Loop56

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

section
variable (b : Fin k0_t1_loop.trips)
def fetchK (h : k0_cond1 b = 1#1) : PR F PUnit := do
  startIn kH kB (k0_off1_inb b h) (k0_off2_inb b h) (k0_off3_inb b h) (((Memref.isWhole_whole _ : kH.IsWhole).wordExact_slice rfl _ (k0_off3_wordsbf16 b h)).reshape _ _) (((Memref.isWhole_whole _ : kB.IsWhole).wordExact_slice rfl _ (k0_off2_wordsbf16 b h)).reshape _ _)
  startIn kH kB (k0_off4_inb b h) (k0_off5_inb b h) (k0_off6_inb b h) (((Memref.isWhole_whole _ : kH.IsWhole).wordExact_slice rfl _ (k0_off6_wordsbf16 b h)).reshape _ _) (((Memref.isWhole_whole _ : kB.IsWhole).wordExact_slice rfl _ (k0_off5_wordsbf16 b h)).reshape _ _)
  startIn kH kB (k0_off7_inb b h) (k0_off8_inb b h) (k0_off9_inb b h) (((Memref.isWhole_whole _ : kH.IsWhole).wordExact_slice rfl _ (k0_off9_wordsbf16 b h)).reshape _ _) (((Memref.isWhole_whole _ : kB.IsWhole).wordExact_slice rfl _ (k0_off8_wordsbf16 b h)).reshape _ _)
  startIn kH kB (k0_off10_inb b h) (k0_off11_inb b h) (k0_off12_inb b h) (((Memref.isWhole_whole _ : kH.IsWhole).wordExact_slice rfl _ (k0_off12_wordsbf16 b h)).reshape _ _) (((Memref.isWhole_whole _ : kB.IsWhole).wordExact_slice rfl _ (k0_off11_wordsbf16 b h)).reshape _ _)
  startIn kH kB (k0_off13_inb b h) (k0_off14_inb b h) (k0_off15_inb b h) (((Memref.isWhole_whole _ : kH.IsWhole).wordExact_slice rfl _ (k0_off15_wordsbf16 b h)).reshape _ _) (((Memref.isWhole_whole _ : kB.IsWhole).wordExact_slice rfl _ (k0_off14_wordsbf16 b h)).reshape _ _)
  startIn kH kB (k0_off16_inb b h) (k0_off17_inb b h) (k0_off18_inb b h) (((Memref.isWhole_whole _ : kH.IsWhole).wordExact_slice rfl _ (k0_off18_wordsbf16 b h)).reshape _ _) (((Memref.isWhole_whole _ : kB.IsWhole).wordExact_slice rfl _ (k0_off17_wordsbf16 b h)).reshape _ _)
  startIn kH kB (k0_off19_inb b h) (k0_off20_inb b h) (k0_off21_inb b h) (((Memref.isWhole_whole _ : kH.IsWhole).wordExact_slice rfl _ (k0_off21_wordsbf16 b h)).reshape _ _) (((Memref.isWhole_whole _ : kB.IsWhole).wordExact_slice rfl _ (k0_off20_wordsbf16 b h)).reshape _ _)
  startIn kH kB (k0_off22_inb b h) (k0_off23_inb b h) (k0_off24_inb b h) (((Memref.isWhole_whole _ : kH.IsWhole).wordExact_slice rfl _ (k0_off24_wordsbf16 b h)).reshape _ _) (((Memref.isWhole_whole _ : kB.IsWhole).wordExact_slice rfl _ (k0_off23_wordsbf16 b h)).reshape _ _)
def fetchV (h : k0_cond3 b = 1#1) : PR F PUnit := do
  startIn vH vB (k0_off45_inb b h) (k0_off46_inb b h) (k0_off47_inb b h) (((Memref.isWhole_whole _ : vH.IsWhole).wordExact_slice rfl _ (k0_off47_wordsbf16 b h)).reshape _ _) (((Memref.isWhole_whole _ : vB.IsWhole).wordExact_slice rfl _ (k0_off46_wordsbf16 b h)).reshape _ _)
  startIn vH vB (k0_off48_inb b h) (k0_off49_inb b h) (k0_off50_inb b h) (((Memref.isWhole_whole _ : vH.IsWhole).wordExact_slice rfl _ (k0_off50_wordsbf16 b h)).reshape _ _) (((Memref.isWhole_whole _ : vB.IsWhole).wordExact_slice rfl _ (k0_off49_wordsbf16 b h)).reshape _ _)
  startIn vH vB (k0_off51_inb b h) (k0_off52_inb b h) (k0_off53_inb b h) (((Memref.isWhole_whole _ : vH.IsWhole).wordExact_slice rfl _ (k0_off53_wordsbf16 b h)).reshape _ _) (((Memref.isWhole_whole _ : vB.IsWhole).wordExact_slice rfl _ (k0_off52_wordsbf16 b h)).reshape _ _)
  startIn vH vB (k0_off54_inb b h) (k0_off55_inb b h) (k0_off56_inb b h) (((Memref.isWhole_whole _ : vH.IsWhole).wordExact_slice rfl _ (k0_off56_wordsbf16 b h)).reshape _ _) (((Memref.isWhole_whole _ : vB.IsWhole).wordExact_slice rfl _ (k0_off55_wordsbf16 b h)).reshape _ _)
  startIn vH vB (k0_off57_inb b h) (k0_off58_inb b h) (k0_off59_inb b h) (((Memref.isWhole_whole _ : vH.IsWhole).wordExact_slice rfl _ (k0_off59_wordsbf16 b h)).reshape _ _) (((Memref.isWhole_whole _ : vB.IsWhole).wordExact_slice rfl _ (k0_off58_wordsbf16 b h)).reshape _ _)
  startIn vH vB (k0_off60_inb b h) (k0_off61_inb b h) (k0_off62_inb b h) (((Memref.isWhole_whole _ : vH.IsWhole).wordExact_slice rfl _ (k0_off62_wordsbf16 b h)).reshape _ _) (((Memref.isWhole_whole _ : vB.IsWhole).wordExact_slice rfl _ (k0_off61_wordsbf16 b h)).reshape _ _)
  startIn vH vB (k0_off63_inb b h) (k0_off64_inb b h) (k0_off65_inb b h) (((Memref.isWhole_whole _ : vH.IsWhole).wordExact_slice rfl _ (k0_off65_wordsbf16 b h)).reshape _ _) (((Memref.isWhole_whole _ : vB.IsWhole).wordExact_slice rfl _ (k0_off64_wordsbf16 b h)).reshape _ _)
  startIn vH vB (k0_off66_inb b h) (k0_off67_inb b h) (k0_off68_inb b h) (((Memref.isWhole_whole _ : vH.IsWhole).wordExact_slice rfl _ (k0_off68_wordsbf16 b h)).reshape _ _) (((Memref.isWhole_whole _ : vB.IsWhole).wordExact_slice rfl _ (k0_off67_wordsbf16 b h)).reshape _ _)
end

theorem cond1_iff : ∀ b : Fin k0_t1_loop.trips, k0_cond1 b = 1#1 ↔ b.val + 1 < 9 := by decide +kernel
theorem cond3_iff : ∀ b : Fin k0_t1_loop.trips, k0_cond3 b = 1#1 ↔ b.val + 1 < 9 := by decide +kernel
theorem semK : ∀ b : Fin k0_t1_loop.trips, k0_off1 b = ![0, (b.val + 1) % 2, 0] ∧ k0_off4 b = ![0, (b.val + 1) % 2, 1] ∧ k0_off7 b = ![0, (b.val + 1) % 2, 2] ∧ k0_off10 b = ![0, (b.val + 1) % 2, 3] ∧ k0_off13 b = ![0, (b.val + 1) % 2, 4] ∧ k0_off16 b = ![0, (b.val + 1) % 2, 5] ∧ k0_off19 b = ![0, (b.val + 1) % 2, 6] ∧ k0_off22 b = ![0, (b.val + 1) % 2, 7] := by decide +kernel
theorem slotK : ∀ b : Fin k0_t1_loop.trips, k0_off2 b = ![(b.val + 1) % 2, 0, 0] ∧ k0_off5 b = ![(b.val + 1) % 2, 4096, 0] ∧ k0_off8 b = ![(b.val + 1) % 2, 8192, 0] ∧ k0_off11 b = ![(b.val + 1) % 2, 12288, 0] ∧ k0_off14 b = ![(b.val + 1) % 2, 16384, 0] ∧ k0_off17 b = ![(b.val + 1) % 2, 20480, 0] ∧ k0_off20 b = ![(b.val + 1) % 2, 24576, 0] ∧ k0_off23 b = ![(b.val + 1) % 2, 28672, 0] := by decide +kernel
theorem semV : ∀ b : Fin k0_t1_loop.trips, k0_off45 b = ![1, (b.val + 1) % 2, 0] ∧ k0_off48 b = ![1, (b.val + 1) % 2, 1] ∧ k0_off51 b = ![1, (b.val + 1) % 2, 2] ∧ k0_off54 b = ![1, (b.val + 1) % 2, 3] ∧ k0_off57 b = ![1, (b.val + 1) % 2, 4] ∧ k0_off60 b = ![1, (b.val + 1) % 2, 5] ∧ k0_off63 b = ![1, (b.val + 1) % 2, 6] ∧ k0_off66 b = ![1, (b.val + 1) % 2, 7] := by decide +kernel
theorem slotV : ∀ b : Fin k0_t1_loop.trips, k0_off46 b = ![(b.val + 1) % 2, 0, 0] ∧ k0_off49 b = ![(b.val + 1) % 2, 4096, 0] ∧ k0_off52 b = ![(b.val + 1) % 2, 8192, 0] ∧ k0_off55 b = ![(b.val + 1) % 2, 12288, 0] ∧ k0_off58 b = ![(b.val + 1) % 2, 16384, 0] ∧ k0_off61 b = ![(b.val + 1) % 2, 20480, 0] ∧ k0_off64 b = ![(b.val + 1) % 2, 24576, 0] ∧ k0_off67 b = ![(b.val + 1) % 2, 28672, 0] := by decide +kernel

section
variable (xH : (S3 9).Idx → Elt F .bf16) (b : Fin k0_t1_loop.trips)

theorem Runs.fetchK (h : k0_cond1 b = 1#1) (R : sProp 𝕄) :
    Runs c iprop(KernelIdeal.mix 0 (INp c sideK xH (ib b)) (IN c sideK xH b.val) ∗ R) (KernelIdeal.fetchK b h) ⟨⟩ iprop(KernelIdeal.mix 8 (INp c sideK xH (ib b)) (IN c sideK xH b.val) ∗ R) := by
  have hb : (ib b).val + 1 < 9 := (cond1_iff b).1 h
  unfold KernelIdeal.fetchK
  refine Runs.bind (Runs.mix 0 (Runs.prefetch (ib b) hb 0 (semK b).1 (slotK b).1 (k0_off3_eq b) R)) ?_
  refine Runs.bind (Runs.mix 1 (Runs.prefetch (ib b) hb 1 (semK b).2.1 (slotK b).2.1 (k0_off6_eq b) R)) ?_
  refine Runs.bind (Runs.mix 2 (Runs.prefetch (ib b) hb 2 (semK b).2.2.1 (slotK b).2.2.1 (k0_off9_eq b) R)) ?_
  refine Runs.bind (Runs.mix 3 (Runs.prefetch (ib b) hb 3 (semK b).2.2.2.1 (slotK b).2.2.2.1 (k0_off12_eq b) R)) ?_
  refine Runs.bind (Runs.mix 4 (Runs.prefetch (ib b) hb 4 (semK b).2.2.2.2.1 (slotK b).2.2.2.2.1 (k0_off15_eq b) R)) ?_
  refine Runs.bind (Runs.mix 5 (Runs.prefetch (ib b) hb 5 (semK b).2.2.2.2.2.1 (slotK b).2.2.2.2.2.1 (k0_off18_eq b) R)) ?_
  refine Runs.bind (Runs.mix 6 (Runs.prefetch (ib b) hb 6 (semK b).2.2.2.2.2.2.1 (slotK b).2.2.2.2.2.2.1 (k0_off21_eq b) R)) ?_
  exact (Runs.mix 7 (Runs.prefetch (ib b) hb 7 (semK b).2.2.2.2.2.2.2 (slotK b).2.2.2.2.2.2.2 (k0_off24_eq b) R))

theorem Runs.fetchV (h : k0_cond3 b = 1#1) (R : sProp 𝕄) :
    Runs c iprop(KernelIdeal.mix 0 (INp c sideV xH (ib b)) (IN c sideV xH b.val) ∗ R) (KernelIdeal.fetchV b h) ⟨⟩ iprop(KernelIdeal.mix 8 (INp c sideV xH (ib b)) (IN c sideV xH b.val) ∗ R) := by
  have hb : (ib b).val + 1 < 9 := (cond3_iff b).1 h
  unfold KernelIdeal.fetchV
  refine Runs.bind (Runs.mix 0 (Runs.prefetch (ib b) hb 0 (semV b).1 (slotV b).1 (k0_off47_eq b) R)) ?_
  refine Runs.bind (Runs.mix 1 (Runs.prefetch (ib b) hb 1 (semV b).2.1 (slotV b).2.1 (k0_off50_eq b) R)) ?_
  refine Runs.bind (Runs.mix 2 (Runs.prefetch (ib b) hb 2 (semV b).2.2.1 (slotV b).2.2.1 (k0_off53_eq b) R)) ?_
  refine Runs.bind (Runs.mix 3 (Runs.prefetch (ib b) hb 3 (semV b).2.2.2.1 (slotV b).2.2.2.1 (k0_off56_eq b) R)) ?_
  refine Runs.bind (Runs.mix 4 (Runs.prefetch (ib b) hb 4 (semV b).2.2.2.2.1 (slotV b).2.2.2.2.1 (k0_off59_eq b) R)) ?_
  refine Runs.bind (Runs.mix 5 (Runs.prefetch (ib b) hb 5 (semV b).2.2.2.2.2.1 (slotV b).2.2.2.2.2.1 (k0_off62_eq b) R)) ?_
  refine Runs.bind (Runs.mix 6 (Runs.prefetch (ib b) hb 6 (semV b).2.2.2.2.2.2.1 (slotV b).2.2.2.2.2.2.1 (k0_off65_eq b) R)) ?_
  exact (Runs.mix 7 (Runs.prefetch (ib b) hb 7 (semV b).2.2.2.2.2.2.2 (slotV b).2.2.2.2.2.2.2 (k0_off68_eq b) R))

theorem fetched (σ : Side) (hb : ¬ b.val + 1 < 9) : bigSep Finset.univ (IN c σ xH b.val) = (bigSep Finset.univ (INp c σ xH (ib b)) : sProp 𝕄) :=
  bigSep_congr fun k _ => INp_last (ib b) hb k

end

end Cert.Proof.KernelIdeal

end
-- ==== Proof.KI.Whole.lean ====
/- What a block of keys and a block of values become. -/
module

public import proofs.«01_k».proof.Proof.KI.Model

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

theorem trips2 : k0_t2_loop.trips = 32 := by decide +kernel

/-! ## The angles of a block's positions -/

section
variable (v : Elt F .i32) (fr : S1x128.Idx → Elt F .f32)
abbrev tq (r : Fin 1024) : Fin k0_t2_loop.trips := ⟨r.val / 32, by rw [trips2]; omega⟩
def cosM : S1024x128.Idx → Elt F .f32 := fun i => k0_pay1381 v (tq (i 0)) fr (ix2 ⟨(i 0).val % 32, by omega⟩ (i 1))
def sinM : S1024x128.Idx → Elt F .f32 := fun i => k0_pay1382 v (tq (i 0)) fr (ix2 ⟨(i 0).val % 32, by omega⟩ (i 1))
end

/-! ## What the largest magnitudes of the keys give -/

section
variable (A : FVec F S8x128 .f32 × Acc F)
def heads : IVec S8x128 32 := iota .tc S8x128 32 [0] iota_S8x128_d0_w32
def kMax : FVec F S8x128 .f32 := k0_pay1389 A.2.2.2.1 A.2.2.2.2 heads (k0_pay1386 A.2.1) (k0_pay1387 A.2.2.1)
def kQ0 : FVec F S8x128 .f32 := k0_pay1392 A.1 (kMax A) (k0_pay1390 heads) (k0_pay1391 A.2.2.2.2)
def kQ1 : IVec S8x128 32 := k0_pay1393 A.1 (kMax A) (k0_pay1390 heads) (k0_pay1391 A.2.2.2.2)
def kQ2 : IVec S8x128 32 := k0_pay1394 A.1 (kMax A) (k0_pay1390 heads) (k0_pay1391 A.2.2.2.2)
def kQ3 : FVec F S8x128 .f32 := k0_pay1395 A.1 (kMax A) (k0_pay1390 heads) (k0_pay1391 A.2.2.2.2)
def kSc : FVec F S8x128 .f32 := k0_pay1397 (kQ0 A) (kQ1 A) (kQ2 A) (kQ3 A)
def kIn : FVec F S8x128 .f32 := k0_pay1398 (kQ0 A) (kQ1 A) (kQ2 A) (kQ3 A)
def kRw : FVec F S1x8x128 .f32 := k0_pay1399 (kQ0 A) (kQ1 A) (kQ2 A) (kQ3 A)
def kL : Acc F := (k0_pay1401 (kSc A), k0_pay1402 (kSc A), k0_pay1403 (kSc A), k0_pay1404 (kSc A))
end

/-! ## What the largest magnitudes of the values give -/

section
variable (A : Acc F)
def vQ0 : FVec F S8x128 .f32 := k0_pay1414 A.2.2.2 heads (k0_pay1412 A.1 A.2.1 A.2.2.1) (k0_pay1413 A.2.2.1)
def vQ1 : IVec S8x128 32 := k0_pay1415 A.2.2.2 heads (k0_pay1412 A.1 A.2.1 A.2.2.1) (k0_pay1413 A.2.2.1)
def vE : IVec S8x128 32 := k0_pay1416 (vQ0 A) (vQ1 A) 32#32
def vIn : FVec F S8x128 .f32 := k0_pay1419 (vE A) 0#32
def vRw : FVec F S1x8x128 .f32 := k0_pay1420 (vE A) 0#32
def vL : Acc F := (k0_pay1422 (vE A) 0#32, k0_pay1423 (vE A) 0#32, k0_pay1424 (vE A) 0#32, k0_pay1434 (k0_pay1425 (vE A) 0#32))
end

/-! ## The results -/

section
variable (low even : IVec S1x128 1) (pf : FVec F S256x256 .f32) (p : FVec F S256x256 .bf16) (z : Acc F)
  (st : S9.Idx → Elt F .i32) (fr : S1x128.Idx → Elt F .f32) (xK xV : (S3 9).Idx → Elt F .bf16)

abbrev cosB (b : Fin 9) : S1024x128.Idx → Elt F .f32 := cosM (st (ix1 b)) fr
abbrev sinB (b : Fin 9) : S1024x128.Idx → Elt F .f32 := sinM (st (ix1 b)) fr
def kA (b : Fin 9) : FVec F S8x128 .f32 × Acc F :=
  (List.finRange 8).foldl (fun a k => cStep low even p xK b (cosB st fr b) (sinB st fr b) k a) (k0_pay1383, z)
def koB (b : Fin 9) : S32768x128.Idx → Elt F .fp8e4m3 :=
  koM low even p xK b (cosB st fr b) (sinB st fr b) (kIn (kA low even p z st fr xK b)) (kL (kA low even p z st fr xK b)) (k0_pay1405 pf (kIn (kA low even p z st fr xK b)))
/-- The keys. -/
def kcG : (S3 9).Idx → Elt F .fp8e4m3 := fun j => koB low even pf p z st fr xK (j 0) (ix2 (j 1) (j 2))
/-- Their scales. -/
def ksG : S9x8x128.Idx → Elt F .f32 := fun j => kRw (kA low even p z st fr xK (j 0)) (ix3 0 (j 1) (j 2))

def vA (b : Fin 9) : Acc F := (List.finRange 8).foldl (fun a k => vStep xV b k a) z
def voB (b : Fin 9) : S32768x128.Idx → Elt F .fp8e4m3 := voM xV b (vL (vA z xV b)) (k0_pay1435 pf (vIn (vA z xV b)))
/-- The values. -/
def vcG : (S3 9).Idx → Elt F .fp8e4m3 := fun j => voB pf z xV (j 0) (ix2 (j 1) (j 2))
/-- Their scales. -/
def vsG : S9x8x128.Idx → Elt F .f32 := fun j => vRw (vA z xV (j 0)) (ix3 0 (j 1) (j 2))
end

end Cert.Proof.KernelIdeal

end
-- ==== Proof.KI.State.lean ====
/- What a block's work leaves alone. -/
module

public import proofs.«01_k».proof.Proof.KI.Fetch
public import proofs.«01_k».proof.Proof.KI.Whole

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

/-- All that the work on the blocks owns. -/
def Held (ik ww tc ts ty tn a0 a1 a5 a7 iv ok ov : sProp 𝕄) : sProp 𝕄 := iprop(ik ∗ ww ∗ tc ∗ ts ∗ ty ∗ tn ∗ a0 ∗ a1 ∗ a5 ∗ a7 ∗ iv ∗ ok ∗ ov)

theorem Runs.onIk {α : Type} {q : PR F α} {a : α} {ik ww tc ts ty tn a0 a1 a5 a7 iv ok ov ik' : sProp 𝕄} (h : Runs c ik q a ik') :
    Runs c (Held ik ww tc ts ty tn a0 a1 a5 a7 iv ok ov) q a (Held ik' ww tc ts ty tn a0 a1 a5 a7 iv ok ov) :=
  Runs.via h iprop(ww ∗ tc ∗ ts ∗ ty ∗ tn ∗ a0 ∗ a1 ∗ a5 ∗ a7 ∗ iv ∗ ok ∗ ov) (by unfold Held; ac_rfl) (by unfold Held; ac_rfl)

theorem Runs.onA0 {α : Type} {q : PR F α} {a : α} {ik ww tc ts ty tn a0 a1 a5 a7 iv ok ov a0' : sProp 𝕄} (h : Runs c a0 q a a0') :
    Runs c (Held ik ww tc ts ty tn a0 a1 a5 a7 iv ok ov) q a (Held ik ww tc ts ty tn a0' a1 a5 a7 iv ok ov) :=
  Runs.via h iprop(ik ∗ ww ∗ tc ∗ ts ∗ ty ∗ tn ∗ a1 ∗ a5 ∗ a7 ∗ iv ∗ ok ∗ ov) (by unfold Held; ac_rfl) (by unfold Held; ac_rfl)

theorem Runs.onTab {α : Type} {q : PR F α} {a : α} {ik ww tc ts ty tn a0 a1 a5 a7 iv ok ov tc' ts' a1' : sProp 𝕄} (h : Runs c iprop(tc ∗ ts ∗ a1) q a iprop(tc' ∗ ts' ∗ a1')) :
    Runs c (Held ik ww tc ts ty tn a0 a1 a5 a7 iv ok ov) q a (Held ik ww tc' ts' ty tn a0 a1' a5 a7 iv ok ov) :=
  Runs.via h iprop(ik ∗ ww ∗ ty ∗ tn ∗ a0 ∗ a5 ∗ a7 ∗ iv ∗ ok ∗ ov) (by unfold Held; ac_rfl) (by unfold Held; ac_rfl)

theorem Runs.onK {α : Type} {q : PR F α} {a : α} {ik ww tc ts ty tn a0 a1 a5 a7 iv ok ov ik' ww' tc' ts' ty' tn' : sProp 𝕄} (h : Runs c iprop(ik ∗ ww ∗ tc ∗ ts ∗ ty ∗ tn) q a iprop(ik' ∗ ww' ∗ tc' ∗ ts' ∗ ty' ∗ tn')) :
    Runs c (Held ik ww tc ts ty tn a0 a1 a5 a7 iv ok ov) q a (Held ik' ww' tc' ts' ty' tn' a0 a1 a5 a7 iv ok ov) :=
  Runs.via h iprop(a0 ∗ a1 ∗ a5 ∗ a7 ∗ iv ∗ ok ∗ ov) (by unfold Held; ac_rfl) (by unfold Held; ac_rfl)

theorem Runs.onA5 {α : Type} {q : PR F α} {a : α} {ik ww tc ts ty tn a0 a1 a5 a7 iv ok ov a5' : sProp 𝕄} (h : Runs c a5 q a a5') :
    Runs c (Held ik ww tc ts ty tn a0 a1 a5 a7 iv ok ov) q a (Held ik ww tc ts ty tn a0 a1 a5' a7 iv ok ov) :=
  Runs.via h iprop(ik ∗ ww ∗ tc ∗ ts ∗ ty ∗ tn ∗ a0 ∗ a1 ∗ a7 ∗ iv ∗ ok ∗ ov) (by unfold Held; ac_rfl) (by unfold Held; ac_rfl)

theorem Runs.onQ {α : Type} {q : PR F α} {a : α} {ik ww tc ts ty tn a0 a1 a5 a7 iv ok ov ok' ww' tn' ty' : sProp 𝕄} (h : Runs c iprop(ok ∗ ww ∗ tn ∗ ty) q a iprop(ok' ∗ ww' ∗ tn' ∗ ty')) :
    Runs c (Held ik ww tc ts ty tn a0 a1 a5 a7 iv ok ov) q a (Held ik ww' tc ts ty' tn' a0 a1 a5 a7 iv ok' ov) :=
  Runs.via h iprop(ik ∗ tc ∗ ts ∗ a0 ∗ a1 ∗ a5 ∗ a7 ∗ iv ∗ ov) (by unfold Held; ac_rfl) (by unfold Held; ac_rfl)

theorem Runs.onIv {α : Type} {q : PR F α} {a : α} {ik ww tc ts ty tn a0 a1 a5 a7 iv ok ov iv' : sProp 𝕄} (h : Runs c iv q a iv') :
    Runs c (Held ik ww tc ts ty tn a0 a1 a5 a7 iv ok ov) q a (Held ik ww tc ts ty tn a0 a1 a5 a7 iv' ok ov) :=
  Runs.via h iprop(ik ∗ ww ∗ tc ∗ ts ∗ ty ∗ tn ∗ a0 ∗ a1 ∗ a5 ∗ a7 ∗ ok ∗ ov) (by unfold Held; ac_rfl) (by unfold Held; ac_rfl)

theorem Runs.onV {α : Type} {q : PR F α} {a : α} {ik ww tc ts ty tn a0 a1 a5 a7 iv ok ov iv' ww' : sProp 𝕄} (h : Runs c iprop(iv ∗ ww) q a iprop(iv' ∗ ww')) :
    Runs c (Held ik ww tc ts ty tn a0 a1 a5 a7 iv ok ov) q a (Held ik ww' tc ts ty tn a0 a1 a5 a7 iv' ok ov) :=
  Runs.via h iprop(ik ∗ tc ∗ ts ∗ ty ∗ tn ∗ a0 ∗ a1 ∗ a5 ∗ a7 ∗ ok ∗ ov) (by unfold Held; ac_rfl) (by unfold Held; ac_rfl)

theorem Runs.onA7 {α : Type} {q : PR F α} {a : α} {ik ww tc ts ty tn a0 a1 a5 a7 iv ok ov a7' : sProp 𝕄} (h : Runs c a7 q a a7') :
    Runs c (Held ik ww tc ts ty tn a0 a1 a5 a7 iv ok ov) q a (Held ik ww tc ts ty tn a0 a1 a5 a7' iv ok ov) :=
  Runs.via h iprop(ik ∗ ww ∗ tc ∗ ts ∗ ty ∗ tn ∗ a0 ∗ a1 ∗ a5 ∗ iv ∗ ok ∗ ov) (by unfold Held; ac_rfl) (by unfold Held; ac_rfl)

theorem Runs.onW {α : Type} {q : PR F α} {a : α} {ik ww tc ts ty tn a0 a1 a5 a7 iv ok ov ov' iv' ww' : sProp 𝕄} (h : Runs c iprop(ov ∗ iv ∗ ww) q a iprop(ov' ∗ iv' ∗ ww')) :
    Runs c (Held ik ww tc ts ty tn a0 a1 a5 a7 iv ok ov) q a (Held ik ww' tc ts ty tn a0 a1 a5 a7 iv' ok ov') :=
  Runs.via h iprop(ik ∗ tc ∗ ts ∗ ty ∗ tn ∗ a0 ∗ a1 ∗ a5 ∗ a7 ∗ ok) (by unfold Held; ac_rfl) (by unfold Held; ac_rfl)

theorem Held_mono {ik ww tc ts ty tn a0 a1 a5 a7 iv ok ov ik' tc' ts' ty' tn' a5' a7' iv' ok' ov' : sProp 𝕄} (h1 : ik ⊢ ik') (h2 : tc ⊢ tc') (h3 : ts ⊢ ts') (h4 : ty ⊢ ty') (h5 : tn ⊢ tn')
    (h6 : a5 ⊢ a5') (h7 : a7 ⊢ a7') (h8 : iv ⊢ iv') (h9 : ok ⊢ ok') (h10 : ov ⊢ ov') : Held ik ww tc ts ty tn a0 a1 a5 a7 iv ok ov ⊢ Held ik' ww tc' ts' ty' tn' a0 a1 a5' a7' iv' ok' ov' :=
  BIClass.sep_mono h1 (BIClass.sep_mono .rfl (BIClass.sep_mono h2 (BIClass.sep_mono h3 (BIClass.sep_mono h4 (BIClass.sep_mono h5 (BIClass.sep_mono .rfl (BIClass.sep_mono .rfl (BIClass.sep_mono h6 (BIClass.sep_mono h7 (BIClass.sep_mono h8 (BIClass.sep_mono h9 h10)))))))))))

/-! ## Scalars, tables and rows of scales -/

theorem Runs.smem {s : Shape} {e : EltTy} {M : Memref sig .tc .smem s e} {x : s.Idx → Elt F e} {r : Rect s} (h1 : r.shape.numel = 1) (hp) (i : s.Idx) (hi : ∀ z, r.emb z = i) :
    Runs c (ptOn c M Finset.univ x) (smemLoad M r h1 hp) (x i) (ptOn c M Finset.univ x) := fun Q => by
  have hs : M.view.setOn r.toLoadRect.set ⊆ M.view.setOn Finset.univ := Finset.map_subset_map.2 (Finset.subset_univ _)
  unfold ptOn smemLoad
  iintro ⟨HP, HQ⟩
  iapply (wp_load 𝒱₀ (c : Thread nD τ) none Set.univ hs) $$ HP
  iintro HP
  rw [show (M.view.readAt (Elt F) r.toLoadRect (M.view.rep x)) = fun _ => x i from (View.readAt_rep _ _ _).trans (funext fun z => congrArg x (hi z))]
  rw [wp_ret]
  imodintro
  iapply HQ $$ HP

section
variable (arg1 : Memref sig .tc .vmem S1x128 .f32)
def stepA2 (v : Elt F .i32) (t : Fin k0_t2_loop.trips) : PR F Unit := do
  let fr ← ld arg1 (Rect.unit (s := S1x128) ![0, 0] S1x128.size inb_S1x128_S1x128_0_0) (View.loadsAt_vmem h_S1x128)
  upd cB (Rect.unit (s := S1024x128) (k0_off26 t) S32x128.size (k0_off26_inb t)) (k0_pay1381 v t fr) (View.loadsAt_vmem h_S32x128) (View.stores_vmem_bits_univ h_S32x128 rfl)
  upd sB (Rect.unit (s := S1024x128) (k0_off26 t) S32x128.size (k0_off26_inb t)) (k0_pay1382 v t fr) (View.loadsAt_vmem h_S32x128) (View.stores_vmem_bits_univ h_S32x128 rfl)
  pure ⟨⟩

theorem table_at (f : Elt F .i32 → Fin k0_t2_loop.trips → Vec F S1x128 .f32 → FVec F S32x128 .f32) (v : Elt F .i32) (fr : S1x128.Idx → Elt F .f32) (t : Fin k0_t2_loop.trips) (y : Fin 32) (d : Fin 128) (r : Fin 1024) (hr : r.val = 32 * t.val + y.val) :
    f v (tq r) fr (ix2 ⟨r.val % 32, by omega⟩ d) = f v t fr (ix2 y d) := by
  obtain ⟨t, ht⟩ := t; obtain ⟨y, hy⟩ := y; obtain ⟨r, hr'⟩ := r
  obtain rfl : r = 32 * t + y := hr
  have h0 : (32 * t + y) / 32 = t := by omega
  have h1 : (32 * t + y) % 32 = y := by omega
  have h2 : tq ⟨32 * t + y, hr'⟩ = ⟨t, ht⟩ := Fin.ext h0
  simp only [h1, h2]

theorem Runs.pass2 (v : Elt F .i32) (fr : S1x128.Idx → Elt F .f32) {body : Fin k0_t2_loop.trips → Unit → PR F Unit} (hbody : ∀ t u, body t u = stepA2 arg1 v t) :
    Runs c iprop((∃ x, ptOn c cB Finset.univ x) ∗ (∃ x, ptOn c sB Finset.univ x) ∗ known c arg1 Finset.univ (rowP fun _ => True) fr)
      (Scf.Loop.for k0_t2_loop k0_t2_ok ⟨⟩ body) ((List.finRange k0_t2_loop.trips).foldl (fun _ _ => ⟨⟩) ⟨⟩)
      iprop(kC c (cosM v fr) ∗ kS c (sinM v fr) ∗ known c arg1 Finset.univ (rowP fun _ => True) fr) := by
  refine (Runs.for (c := c) k0_t2_loop k0_t2_ok (I := fun t => iprop(known c cB Finset.univ (rowP fun r => r < 32 * t) (cosM v fr) ∗ known c sB Finset.univ (rowP fun r => r < 32 * t) (sinM v fr) ∗ known c arg1 Finset.univ (rowP fun _ => True) fr))
    (p := body) (fun t u => ?_) ⟨⟩).conseq (BIClass.sep_mono (known_none fun i hi => absurd hi (by show ¬ (i 0).val < 32 * 0; omega)) (BIClass.sep_mono (known_none fun i hi => absurd hi (by show ¬ (i 0).val < 32 * 0; omega)) .rfl)) ?_
  · rw [hbody]
    unfold stepA2
    refine Runs.bind ((Runs.get2 (q := 0) (v := fr) rfl (fun i _ _ => Finset.mem_univ _) (fun _ _ _ => trivial) (fun y d r hr => congrArg fr (congrArg (fun z => ix2 z d) (Fin.ext (by rw [hr, Nat.zero_add])))) ).skip.skip) ?_
    refine Runs.bind ((Runs.put2 (D2' := fun r => r < 32 * (t.val + 1)) (k0_off26_eq t) (fun i _ _ => Finset.mem_univ _) (fun r hr => by omega) fun y d r hr => ?_).frame _) ?_
    · exact table_at k0_pay1381 v fr t y d r hr
    refine Runs.bind (((Runs.put2 (D2' := fun r => r < 32 * (t.val + 1)) (k0_off26_eq t) (fun i _ _ => Finset.mem_univ _) (fun r hr => by omega) fun y d r hr => ?_).frame _).skip) ?_
    · exact table_at k0_pay1382 v fr t y d r hr
    exact Runs.pure _ _
  · rw [trips2]
    have hlt : ∀ i : S1024x128.Idx, (i 0).val < 32 * 32 := fun i => (i 0).isLt
    exact BIClass.sep_mono (known_mono fun i _ => hlt i) (BIClass.sep_mono (known_mono fun i _ => hlt i) .rfl)
end

def putRow (M : Memref sig .tc .vmem S9x8x128 .f32) (b : Fin k0_t1_loop.trips) (x : FVec F S1x8x128 .f32) : PR F PUnit :=
  upd M (Rect.unit (s := S9x8x128) (k0_off35 b) S1x8x128.size (k0_off35_inb b)) x (View.loadsAt_vmem h_S1x8x128) (View.stores_vmem_bits_univ h_S1x8x128 rfl)

abbrev doneRows (n : ℕ) : S9x8x128.Idx → Prop := fun i => (i 0).val < n

theorem Runs.rowAt {M : Memref sig .tc .vmem S9x8x128 .f32} (b : Fin 9) {o : Fin 3 → ℕ} (eo : o = ![b.val, 0, 0]) {inb : ∀ a, o a + S1x8x128.size a ≤ S9x8x128.size a}
    {h : M.view.LoadsAt (Rect.unit (s := S9x8x128) o S1x8x128.size inb).toLoadRect} {h' : (M.access (Rect.unit (s := S9x8x128) o S1x8x128.size inb)).Stores Finset.univ}
    (G : S9x8x128.Idx → Elt F .f32) (x : FVec F S1x8x128 .f32) (hx : ∀ z, x z = G (ix3 b (z 1) (z 2))) :
    Runs c (known c M Finset.univ (doneRows b.val) G) (KernelIdeal.upd M (Rect.unit (s := S9x8x128) o S1x8x128.size inb) x h h') ⟨⟩ (known c M Finset.univ (doneRows (b.val + 1)) G) := by
  subst eo
  refine Runs.put (Finset.subset_univ _) (fun z => (hx z).trans (congrArg G (funext fun a => Fin.ext ?_))) fun i hi => ?_
  · match a with
    | ⟨0, _⟩ => show b.val = b.val + 1 * (z 0).val; have : (z 0).val < 1 := (z 0).isLt; omega
    | ⟨1, _⟩ => show (z 1).val = 0 + 1 * (z 1).val; omega
    | ⟨2, _⟩ => show (z 2).val = 0 + 1 * (z 2).val; omega
  · by_cases h : (i 0).val < b.val
    · exact .inl h
    · refine .inr fun a => ?_
      have hi' : (i 0).val < b.val + 1 := hi
      match a with
      | ⟨0, _⟩ => show b.val ≤ (i 0).val ∧ (i 0).val < b.val + 1; omega
      | ⟨1, _⟩ => show 0 ≤ (i 1).val ∧ (i 1).val < 0 + 8; have : (i 1).val < 8 := (i 1).isLt; omega
      | ⟨2, _⟩ => show 0 ≤ (i 2).val ∧ (i 2).val < 0 + 128; have : (i 2).val < 128 := (i 2).isLt; omega

theorem Runs.row (M : Memref sig .tc .vmem S9x8x128 .f32) (b : Fin k0_t1_loop.trips) (G : S9x8x128.Idx → Elt F .f32) (x : FVec F S1x8x128 .f32)
    (hx : ∀ z, x z = G (ix3 (ib b) (z 1) (z 2))) :
    Runs c (known c M Finset.univ (doneRows b.val) G) (putRow M b x) ⟨⟩ (known c M Finset.univ (doneRows (b.val + 1)) G) :=
  Runs.rowAt (ib b) (k0_off35_eq b) G x hx

end Cert.Proof.KernelIdeal

end
-- ==== Proof.KI.Body.lean ====
/- One block of keys and one of values. -/
module

public import proofs.«01_k».proof.Proof.KI.State
public import proofs.«01_k».proof.Proof.KI.Shape3
public import proofs.«01_k».proof.Proof.KI.Shape4
public import proofs.«01_k».proof.Proof.KI.Shape56

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

/-! ## The parts of a block's work -/

section
variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)
  (low even : IVec S1x128 1) (pf : FVec F S256x256 .f32) (p : FVec F S256x256 .bf16) (z1 z2 z3 z4 : FVec F S16x128 .bf16) (w1 w2 : BitVec 32) (b : Fin k0_t1_loop.trips)

def keys1 : PR F (Σ' (arg18 : BitVec 32) (v209 : BitVec 32) (v226_0 : FVec F S8x128 .f32) (v226_3 : FVec F S16x128 .bf16) (v226_4 : FVec F S16x128 .bf16) (v227 : IVec S8x128 32) (v245 : FVec F S8x128 .f32), FVec F S16x128 .f32) := do
  let v ← smemLoad arg0 (Rect.unit (s := S9) (k0_off25 b) S1.size (k0_off25_inb b)) numel1_S1 rfl
  Scf.Loop.for k0_t2_loop k0_t2_ok ⟨⟩ (k0_t2_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b v)
  let a ← Scf.Loop.for k0_t3_loop k0_t3_ok (k0_pay1383, z1, z2, z3, z4) (k0_t3_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b (Scalar.andi (Scf.iv w1 w2 b) 1#32))
  pure ⟨Scf.iv w1 w2 b, Scalar.andi (Scf.iv w1 w2 b) 1#32, a.1, a.2.2.2.1, a.2.2.2.2, heads, k0_pay1386 a.2.1, k0_pay1387 a.2.2.1⟩

theorem p136_pos (h : k0_cond1 b = 1#1) : k0_part136 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b = (fetchK b h >>= fun _ => keys1 arg0 harg0 arg1 harg1 arg5 harg5 arg7 harg7 low even p z1 z2 z3 z4 w1 w2 b) := by
  rw [k0_part136_eq_skeleton]
  unfold k0_part136_skel
  rw [k0_part1_eq_skeleton]
  unfold k0_part1_skel
  simp only [dif_pos h]
  rfl

theorem p136_neg (h : ¬ k0_cond1 b = 1#1) : k0_part136 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b = keys1 arg0 harg0 arg1 harg1 arg5 harg5 arg7 harg7 low even p z1 z2 z3 z4 w1 w2 b := by
  rw [k0_part136_eq_skeleton]
  unfold k0_part136_skel
  simp only [dif_neg h]
  rfl

variable (sc iv : FVec F S8x128 .f32) (w0 w3 : BitVec 32)
def keys2 : PR F PUnit :=
  Scf.Loop.for k0_t4_loop k0_t4_ok ⟨⟩ (k0_t4_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 sc iv)

theorem p140_pos (h : k0_cond3 b = 1#1) : k0_part140 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 sc iv = (keys2 arg0 harg0 arg1 harg1 arg5 harg5 arg7 harg7 low even pf b sc iv w0 w3 >>= fun _ => fetchV b h >>= fun _ => pure ⟨0#32, 1#32⟩) := by
  rw [k0_part140_eq_skeleton]
  unfold k0_part140_skel
  rw [k0_part117_eq_skeleton]
  unfold k0_part117_skel
  simp only [dif_pos h]
  rfl

theorem p140_neg (h : ¬ k0_cond3 b = 1#1) : k0_part140 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 sc iv = (keys2 arg0 harg0 arg1 harg1 arg5 harg5 arg7 harg7 low even pf b sc iv w0 w3 >>= fun _ => pure ⟨0#32, 1#32⟩) := by
  rw [k0_part140_eq_skeleton]
  unfold k0_part140_skel
  simp only [dif_neg h]
  rfl

theorem t2_eq (v : Elt F .i32) (t : Fin k0_t2_loop.trips) (u : Unit) : k0_t2_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b v t u = stepA2 arg1 v t := rfl

theorem t4_split (k : Fin k0_t4_loop.trips) (u : PUnit.{1}) : k0_t4_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 sc iv k u
    = (k0_part116 arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even b w0 iv (k0_pay1401 sc) (k0_pay1402 sc) (k0_pay1403 sc) (k0_pay1404 sc) (k0_pay1405 pf iv) 0#32 1#32 k >>= fun _ => startKO b k) := rfl
end

section
variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)
  (low even : IVec S1x128 1) (pf : FVec F S256x256 .f32) (p : FVec F S256x256 .bf16) (z1 z2 z3 z4 : FVec F S16x128 .bf16) (w0 w1 w2 w3 : BitVec 32) (b : Fin k0_t1_loop.trips)

theorem p139 (q0 : FVec F S8x128 .f32) (q1 q2 : IVec S8x128 32) (q3 : FVec F S8x128 .f32) :
    k0_part139 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 b w0 q0 q1 q2 q3 = (putRow arg5 b (k0_pay1399 q0 q1 q2 q3) >>= fun _ => pure ⟨k0_pay1397 q0 q1 q2 q3, k0_pay1398 q0 q1 q2 q3⟩) := by
  rw [k0_part139_eq_skeleton]
  rfl

theorem p141 : k0_part141 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 z1 z2 z3 z4 b w1 w2 w3
    = (Scf.Loop.for k0_t5_loop k0_t5_ok (z1, z2, z3, z4) (k0_t5_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 z1 z2 z3 z4 b w1 w2 w3)
      >>= fun a => pure ⟨a.2.2.2, heads, k0_pay1412 a.1 a.2.1 a.2.2.1, k0_pay1413 a.2.2.1⟩) := by
  rw [k0_part141_eq_skeleton]
  rfl

theorem p144 (e : IVec S8x128 32) :
    k0_part144 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 b w0 e w1 = (putRow arg7 b (k0_pay1420 (F := F) e w1) >>= fun _ => pure ⟨k0_pay1419 (F := F) e w1, k0_pay1422 (F := F) e w1, k0_pay1423 (F := F) e w1, k0_pay1424 (F := F) e w1, k0_pay1425 (F := F) e w1⟩) := by
  rw [k0_part144_eq_skeleton]
  rfl
end

/-! ## Their effect -/

section
variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)
  (low even : IVec S1x128 1) (pf : FVec F S256x256 .f32) (p : FVec F S256x256 .bf16) (z1 z2 z3 z4 : FVec F S16x128 .bf16) (b : Fin k0_t1_loop.trips)
  (st : S9.Idx → Elt F .i32) (fr : S1x128.Idx → Elt F .f32) (xK xV : (S3 9).Idx → Elt F .bf16)

section
variable (c)
abbrev anyB {s : Shape} {e : EltTy} (M : Memref sig .tc .vmem s e) : sProp 𝕄 := iprop(∃ x, ptOn c M Finset.univ x)
abbrev frB : sProp 𝕄 := known c arg1 Finset.univ (rowP fun _ => True) fr
abbrev insK (n : ℕ) : sProp 𝕄 := bigSep Finset.univ (IN c sideK xK n)
abbrev insV (n : ℕ) : sProp 𝕄 := bigSep Finset.univ (IN c sideV xV n)
abbrev outsK (n : ℕ) : sProp 𝕄 := bigSep Finset.univ (OUT c sideK (kcG low even pf p ((z1, z2, z3, z4) : Acc F) st fr xK) n)
abbrev outsV (n : ℕ) : sProp 𝕄 := bigSep Finset.univ (OUT c sideV (vcG pf ((z1, z2, z3, z4) : Acc F) xV) n)
abbrev rowsK (n : ℕ) : sProp 𝕄 := known c arg5 Finset.univ (doneRows n) (ksG low even p ((z1, z2, z3, z4) : Acc F) st fr xK)
abbrev rowsV (n : ℕ) : sProp 𝕄 := known c arg7 Finset.univ (doneRows n) (vsG ((z1, z2, z3, z4) : Acc F) xV)
/-- Before the block `n`. -/
def Before (n : ℕ) : sProp 𝕄 :=
  Held (insK c xK n) (ow F c) (anyB c cB) (anyB c sB) (anyB c yB) (anyB c nB) (ptOn c arg0 Finset.univ st) (frB c arg1 fr)
    (rowsK c arg5 low even p z1 z2 z3 z4 st fr xK n) (rowsV c arg7 z1 z2 z3 z4 xV n) (insV c xV n) (outsK c low even pf p z1 z2 z3 z4 st fr xK n) (outsV c pf z1 z2 z3 z4 xV n)
end

theorem Runs.keys1 (w1 w2 : BitVec 32) {a5 a7 iv ok ov : sProp 𝕄} :
    Runs c (Held (bigSep Finset.univ (INp c sideK xK (ib b))) (ow F c) (anyB c cB) (anyB c sB) (anyB c yB) (anyB c nB) (ptOn c arg0 Finset.univ st) (frB c arg1 fr) a5 a7 iv ok ov)
      (KernelIdeal.keys1 arg0 harg0 arg1 harg1 arg5 harg5 arg7 harg7 low even p z1 z2 z3 z4 w1 w2 b)
      ⟨Scf.iv w1 w2 b, Scalar.andi (Scf.iv w1 w2 b) 1#32, (kA low even p ((z1, z2, z3, z4) : Acc F) st fr xK (ib b)).1, (kA low even p ((z1, z2, z3, z4) : Acc F) st fr xK (ib b)).2.2.2.1, (kA low even p ((z1, z2, z3, z4) : Acc F) st fr xK (ib b)).2.2.2.2, heads,
        k0_pay1386 (kA low even p ((z1, z2, z3, z4) : Acc F) st fr xK (ib b)).2.1, k0_pay1387 (kA low even p ((z1, z2, z3, z4) : Acc F) st fr xK (ib b)).2.2.1⟩
      (Held (bigSep Finset.univ (INd c sideK xK (ib b))) (ow F c) (kC c (cosB st fr (ib b))) (kS c (sinB st fr (ib b))) (kY c low even p xK (cosB st fr (ib b)) (sinB st fr (ib b)) (ib b) (yD 32 0))
        (kN c low xK (ib b) (fun r => r < 16384)) (ptOn c arg0 Finset.univ st) (frB c arg1 fr) a5 a7 iv ok ov) := by
  unfold KernelIdeal.keys1
  refine Runs.bind (Runs.onA0 (Runs.smem _ _ (ix1 (ib b)) fun z => ?_)) ?_
  · refine funext fun a => Fin.ext ?_
    match a with
    | ⟨0, _⟩ =>
      show k0_off25 b 0 + 1 * (z 0).val = b.val
      have h : (z 0).val < 1 := (z 0).isLt
      have e : k0_off25 b 0 = b.val := congrFun (k0_off25_eq b) 0
      omega
  refine Runs.bind (Runs.onTab (Runs.pass2 arg1 (st (ix1 (ib b))) fr (t2_eq arg0 harg0 arg1 harg1 arg5 harg5 arg7 harg7 low even p z1 z2 z3 z4 w1 w2 b (st (ix1 (ib b)))))) ?_
  refine Runs.bind (a := kA low even p ((z1, z2, z3, z4) : Acc F) st fr xK (ib b)) ((Runs.pass3 low even p xK (cosB st fr (ib b)) (sinB st fr (ib b)) b (k0_pay1383, ((z1, z2, z3, z4) : Acc F))
    (t3_eq arg0 harg0 arg1 harg1 arg5 harg5 arg7 harg7 low even p z1 z2 z3 z4 w1 w2 (Scalar.andi (Scf.iv w1 w2 b) 1#32) b)
    iprop(ptOn c arg0 Finset.univ st ∗ frB c arg1 fr ∗ a5 ∗ a7 ∗ iv ∗ ok ∗ ov)).conseq ?_ ?_) (Runs.pure _ _)
  · rw [mix_zero]
    refine BIClass.sep_mono .rfl (BIClass.sep_mono .rfl (BIClass.sep_mono .rfl (BIClass.sep_mono .rfl (BIClass.sep_mono (known_none fun i hi => ?_) (BIClass.sep_mono (known_none fun i hi => ?_) .rfl)))))
    · have h : yD 0 0 (i 0).val := hi
      unfold yD at h
      omega
    · have h : (i 0).val < 512 * 0 := hi
      omega
  · rw [mix_all]
    exact .rfl

theorem nextIns (σ : Side) (xH : (S3 9).Idx → Elt F .bf16) (n : Fin 9) : bigSep Finset.univ (INd c σ xH n) ⊢ (bigSep Finset.univ (IN c σ xH (n.val + 1)) : sProp 𝕄) :=
  bigSep_mono fun k _ => INd_next n k

theorem Runs.keys2 (A : FVec F S8x128 .f32 × Acc F) (hA : A = kA low even p ((z1, z2, z3, z4) : Acc F) st fr xK (ib b)) (w0 w3 : BitVec 32) {ik a0 a1 a5 a7 iv ov : sProp 𝕄} :
    Runs c (Held ik (ow F c) (kC c (cosB st fr (ib b))) (kS c (sinB st fr (ib b))) (kY c low even p xK (cosB st fr (ib b)) (sinB st fr (ib b)) (ib b) (yD 32 0))
        (kN c low xK (ib b) (fun r => r < 16384)) a0 a1 a5 a7 iv (outsK c low even pf p z1 z2 z3 z4 st fr xK b.val) ov)
      (KernelIdeal.keys2 arg0 harg0 arg1 harg1 arg5 harg5 arg7 harg7 low even pf b (kSc A) (kIn A) w0 w3) ((List.finRange k0_t4_loop.trips).foldl (fun _ _ => ⟨⟩) ⟨⟩)
      (Held ik (ow F c) (kC c (cosB st fr (ib b))) (kS c (sinB st fr (ib b))) (kY c low even p xK (cosB st fr (ib b)) (sinB st fr (ib b)) (ib b) (yD 32 0))
        (kN c low xK (ib b) (fun r => r < 16384)) a0 a1 a5 a7 iv (outsK c low even pf p z1 z2 z3 z4 st fr xK (b.val + 1)) ov) := by
  subst hA
  unfold KernelIdeal.keys2
  have h := Runs.pass4 (c := c) low even p xK (cosB st fr (ib b)) (sinB st fr (ib b)) (kIn (kA low even p ((z1, z2, z3, z4) : Acc F) st fr xK (ib b))) (kL (kA low even p ((z1, z2, z3, z4) : Acc F) st fr xK (ib b)))
    (k0_pay1405 pf (kIn (kA low even p ((z1, z2, z3, z4) : Acc F) st fr xK (ib b)))) (kcG low even pf p ((z1, z2, z3, z4) : Acc F) st fr xK) b
    (fun i => congrArg _ (funext fun a => match a with | ⟨0, _⟩ => rfl | ⟨1, _⟩ => rfl))
    (body := k0_t4_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 (kSc (kA low even p ((z1, z2, z3, z4) : Acc F) st fr xK (ib b))) (kIn (kA low even p ((z1, z2, z3, z4) : Acc F) st fr xK (ib b))))
    (fun k hk u => by
      rw [t4_split, t4_pos _ _ _ _ _ _ _ _ low even w0 0#32 1#32 0#32 _ _ _ _ _ _ b k hk, bind_assoc]
      rfl)
    (fun k hk u => by
      rw [t4_split, t4_neg _ _ _ _ _ _ _ _ low even w0 0#32 1#32 0#32 _ _ _ _ _ _ b k hk]
      rfl)
    iprop(ik ∗ kC c (cosB st fr (ib b)) ∗ kS c (sinB st fr (ib b)) ∗ a0 ∗ a1 ∗ a5 ∗ a7 ∗ iv ∗ ov)
  rw [mix_zero, mix_all] at h
  refine h.conseq (entails_of_eq ?_) (entails_of_eq ?_)
  · unfold Held outsK; ac_rfl
  · unfold Held outsK; ac_rfl

theorem Runs.askK (h : k0_cond1 b = 1#1) {ww tc ts ty tn a0 a1 a5 a7 iv ok ov : sProp 𝕄} :
    Runs c (Held (insK c xK b.val) ww tc ts ty tn a0 a1 a5 a7 iv ok ov) (KernelIdeal.fetchK b h) ⟨⟩ (Held (bigSep Finset.univ (INp c sideK xK (ib b))) ww tc ts ty tn a0 a1 a5 a7 iv ok ov) := by
  have h' := Runs.fetchK (c := c) xK b h iprop(ww ∗ tc ∗ ts ∗ ty ∗ tn ∗ a0 ∗ a1 ∗ a5 ∗ a7 ∗ iv ∗ ok ∗ ov)
  rw [mix_zero, mix_all] at h'
  exact h'

theorem Runs.askV (h : k0_cond3 b = 1#1) {ik ww tc ts ty tn a0 a1 a5 a7 ok ov : sProp 𝕄} :
    Runs c (Held ik ww tc ts ty tn a0 a1 a5 a7 (insV c xV b.val) ok ov) (KernelIdeal.fetchV b h) ⟨⟩ (Held ik ww tc ts ty tn a0 a1 a5 a7 (bigSep Finset.univ (INp c sideV xV (ib b))) ok ov) := by
  have h' := Runs.fetchV (c := c) xV b h iprop(ik ∗ ww ∗ tc ∗ ts ∗ ty ∗ tn ∗ a0 ∗ a1 ∗ a5 ∗ a7 ∗ ok ∗ ov)
  rw [mix_zero, mix_all] at h'
  refine h'.conseq (entails_of_eq ?_) (entails_of_eq ?_)
  · unfold Held insV; ac_rfl
  · unfold Held; ac_rfl

theorem Runs.vals1 (w1 w2 w3 : BitVec 32) {ik tc ts ty tn a0 a1 a5 a7 ok ov : sProp 𝕄} :
    Runs c (Held ik (ow F c) tc ts ty tn a0 a1 a5 a7 (bigSep Finset.univ (INp c sideV xV (ib b))) ok ov)
      (Scf.Loop.for k0_t5_loop k0_t5_ok (z1, z2, z3, z4) (k0_t5_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 z1 z2 z3 z4 b w1 w2 w3)) (vA ((z1, z2, z3, z4) : Acc F) xV (ib b))
      (Held ik (ow F c) tc ts ty tn a0 a1 a5 a7 (bigSep Finset.univ (INd c sideV xV (ib b))) ok ov) := by
  have h := Runs.pass5 (c := c) xV b ((z1, z2, z3, z4) : Acc F) (t5_eq arg0 harg0 arg1 harg1 arg5 harg5 arg7 harg7 z1 z2 z3 z4 w1 w2 w3 b) iprop(ik ∗ tc ∗ ts ∗ ty ∗ tn ∗ a0 ∗ a1 ∗ a5 ∗ a7 ∗ ok ∗ ov)
  rw [mix_zero, mix_all] at h
  refine h.conseq (entails_of_eq ?_) (entails_of_eq ?_)
  · unfold Held; ac_rfl
  · unfold Held; ac_rfl

theorem Runs.vals2 (w0 : F .bf16) (w1 w2 : BitVec 32) (A : Acc F) (hA : A = vA ((z1, z2, z3, z4) : Acc F) xV (ib b)) {ik tc ts ty tn a0 a1 a5 a7 ok : sProp 𝕄} :
    Runs c (Held ik (ow F c) tc ts ty tn a0 a1 a5 a7 (bigSep Finset.univ (INd c sideV xV (ib b))) ok (outsV c pf z1 z2 z3 z4 xV b.val))
      (Scf.Loop.for k0_t6_loop k0_t6_ok ⟨⟩ (k0_t6_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf p z1 z2 w0 b w1 w2
        (k0_pay1419 (vE A) 0#32) (k0_pay1422 (vE A) 0#32) (k0_pay1423 (vE A) 0#32) (k0_pay1424 (vE A) 0#32) (k0_pay1425 (vE A) 0#32)))
      ((List.finRange k0_t6_loop.trips).foldl (fun _ _ => ⟨⟩) ⟨⟩)
      (Held ik (ow F c) tc ts ty tn a0 a1 a5 a7 (bigSep Finset.univ (INd c sideV xV (ib b))) ok (outsV c pf z1 z2 z3 z4 xV (b.val + 1))) := by
  subst hA
  have h := Runs.pass6 (c := c) xV (vL (vA ((z1, z2, z3, z4) : Acc F) xV (ib b))) (k0_pay1435 pf (vIn (vA ((z1, z2, z3, z4) : Acc F) xV (ib b)))) (vcG pf ((z1, z2, z3, z4) : Acc F) xV) b
    (fun i => congrArg _ (funext fun a => match a with | ⟨0, _⟩ => rfl | ⟨1, _⟩ => rfl))
    (body := k0_t6_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf p z1 z2 w0 b w1 w2
        (k0_pay1419 (vE (vA ((z1, z2, z3, z4) : Acc F) xV (ib b))) 0#32) (k0_pay1422 (vE (vA ((z1, z2, z3, z4) : Acc F) xV (ib b))) 0#32) (k0_pay1423 (vE (vA ((z1, z2, z3, z4) : Acc F) xV (ib b))) 0#32) (k0_pay1424 (vE (vA ((z1, z2, z3, z4) : Acc F) xV (ib b))) 0#32) (k0_pay1425 (vE (vA ((z1, z2, z3, z4) : Acc F) xV (ib b))) 0#32))
    (fun k hk u => t6_pos _ _ _ _ _ _ _ _ low even pf p z1 z2 w0 w1 w2 _ _ _ _ _ b k hk)
    (fun k hk u => t6_neg _ _ _ _ _ _ _ _ low even pf p z1 z2 w0 w1 w2 _ _ _ _ _ b k hk)
    iprop(ik ∗ tc ∗ ts ∗ ty ∗ tn ∗ a0 ∗ a1 ∗ a5 ∗ a7 ∗ ok)
  rw [mix_zero, mix_all] at h
  have e : ∀ n, (bigSep Finset.univ (fun k => iprop(OUT c sideV (vcG pf ((z1, z2, z3, z4) : Acc F) xV) n k ∗ INd c sideV xV (ib b) k)) : sProp 𝕄)
      = iprop(bigSep Finset.univ (OUT c sideV (vcG pf ((z1, z2, z3, z4) : Acc F) xV) n) ∗ bigSep Finset.univ (INd c sideV xV (ib b))) := fun n => bigSep_sep _ _ _
  rw [e, e] at h
  refine h.conseq (entails_of_eq ?_) (entails_of_eq ?_)
  · unfold Held outsV; ac_rfl
  · unfold Held outsV; ac_rfl

theorem Runs.p136 (w1 w2 : BitVec 32) {a5 a7 iv ok ov : sProp 𝕄} :
    Runs c (Held (insK c xK b.val) (ow F c) (anyB c cB) (anyB c sB) (anyB c yB) (anyB c nB) (ptOn c arg0 Finset.univ st) (frB c arg1 fr) a5 a7 iv ok ov)
      (k0_part136 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even p z1 z2 z3 z4 w1 w2 b)
      ⟨Scf.iv w1 w2 b, Scalar.andi (Scf.iv w1 w2 b) 1#32, (kA low even p ((z1, z2, z3, z4) : Acc F) st fr xK (ib b)).1, (kA low even p ((z1, z2, z3, z4) : Acc F) st fr xK (ib b)).2.2.2.1, (kA low even p ((z1, z2, z3, z4) : Acc F) st fr xK (ib b)).2.2.2.2, heads,
        k0_pay1386 (kA low even p ((z1, z2, z3, z4) : Acc F) st fr xK (ib b)).2.1, k0_pay1387 (kA low even p ((z1, z2, z3, z4) : Acc F) st fr xK (ib b)).2.2.1⟩
      (Held (bigSep Finset.univ (INd c sideK xK (ib b))) (ow F c) (kC c (cosB st fr (ib b))) (kS c (sinB st fr (ib b))) (kY c low even p xK (cosB st fr (ib b)) (sinB st fr (ib b)) (ib b) (yD 32 0))
        (kN c low xK (ib b) (fun r => r < 16384)) (ptOn c arg0 Finset.univ st) (frB c arg1 fr) a5 a7 iv ok ov) := by
  by_cases h : k0_cond1 b = 1#1
  · rw [p136_pos (h := h)]
    exact Runs.bind (Runs.askK b xK h) (Runs.keys1 arg0 harg0 arg1 harg1 arg5 harg5 arg7 harg7 low even p z1 z2 z3 z4 b st fr xK w1 w2)
  · rw [p136_neg (h := h)]
    rw [show insK c xK b.val = bigSep Finset.univ (INp c sideK xK (ib b)) from fetched xK b sideK (fun h' => h ((cond1_iff b).2 h'))]
    exact (Runs.keys1 arg0 harg0 arg1 harg1 arg5 harg5 arg7 harg7 low even p z1 z2 z3 z4 b st fr xK w1 w2)

theorem Runs.p140 (A : FVec F S8x128 .f32 × Acc F) (hA : A = kA low even p ((z1, z2, z3, z4) : Acc F) st fr xK (ib b)) (w0 w3 : BitVec 32) {ik a0 a1 a5 a7 ov : sProp 𝕄} :
    Runs c (Held ik (ow F c) (kC c (cosB st fr (ib b))) (kS c (sinB st fr (ib b))) (kY c low even p xK (cosB st fr (ib b)) (sinB st fr (ib b)) (ib b) (yD 32 0))
        (kN c low xK (ib b) (fun r => r < 16384)) a0 a1 a5 a7 (insV c xV b.val) (outsK c low even pf p z1 z2 z3 z4 st fr xK b.val) ov)
      (k0_part140 (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf b w0 w3 (kSc A) (kIn A)) ⟨0#32, 1#32⟩
      (Held ik (ow F c) (kC c (cosB st fr (ib b))) (kS c (sinB st fr (ib b))) (kY c low even p xK (cosB st fr (ib b)) (sinB st fr (ib b)) (ib b) (yD 32 0))
        (kN c low xK (ib b) (fun r => r < 16384)) a0 a1 a5 a7 (bigSep Finset.univ (INp c sideV xV (ib b))) (outsK c low even pf p z1 z2 z3 z4 st fr xK (b.val + 1)) ov) := by
  by_cases h : k0_cond3 b = 1#1
  · rw [p140_pos (h := h)]
    exact Runs.bind (Runs.keys2 arg0 harg0 arg1 harg1 arg5 harg5 arg7 harg7 low even pf p z1 z2 z3 z4 b st fr xK A hA w0 w3) (Runs.bind (Runs.askV b xV h) (Runs.pure _ _))
  · rw [p140_neg (h := h)]
    rw [show insV c xV b.val = bigSep Finset.univ (INp c sideV xV (ib b)) from fetched xV b sideV (fun h' => h ((cond3_iff b).2 h'))]
    exact Runs.bind (Runs.keys2 arg0 harg0 arg1 harg1 arg5 harg5 arg7 harg7 low even pf p z1 z2 z3 z4 b st fr xK A hA w0 w3) (Runs.pure _ _)

/-- A block. -/
theorem Runs.block (w0 : F .bf16) (h3 : z3 = k0_pay1432 w0) (h4 : z4 = k0_pay1433) :
    Runs c (Before c arg0 arg1 arg5 arg7 low even pf p z1 z2 z3 z4 st fr xK xV b.val)
      (k0_t1_body arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 low even pf p z1 z2 w0 b ⟨⟩) ⟨⟩
      (Before c arg0 arg1 arg5 arg7 low even pf p z1 z2 z3 z4 st fr xK xV (b.val + 1)) := by
  unfold k0_t1_body
  rw [← h3, ← h4]
  unfold Before
  refine Runs.bind (Runs.p136 arg0 harg0 arg1 harg1 arg5 harg5 arg7 harg7 low even p z1 z2 z3 z4 b st fr xK 0#32 1#32) ?_
  dsimp only
  generalize hA : kA low even p ((z1, z2, z3, z4) : Acc F) st fr xK (ib b) = A
  have hz : ∀ z : S1x8x128.Idx, z = ix3 0 (z 1) (z 2) := fun z => funext fun a => match a with
    | ⟨0, _⟩ => Fin.ext (by have h : (z 0).val < 1 := (z 0).isLt; show (z 0).val = 0; omega)
    | ⟨1, _⟩ => rfl
    | ⟨2, _⟩ => rfl
  have hK : ∀ z, kRw A z = ksG low even p ((z1, z2, z3, z4) : Acc F) st fr xK (ix3 (ib b) (z 1) (z 2)) := fun z => by
    show kRw A z = kRw (kA low even p ((z1, z2, z3, z4) : Acc F) st fr xK (ib b)) (ix3 0 (z 1) (z 2))
    rw [hA]
    exact congrArg (kRw A) (hz z)
  refine Runs.bind (a := ⟨kMax A, k0_pay1390 heads, k0_pay1391 A.2.2.2.2⟩) (by rw [k0_part137_eq_skeleton]; exact Runs.pure _ _) ?_
  dsimp only
  refine Runs.bind (a := ⟨kQ0 A, kQ1 A, kQ2 A, kQ3 A⟩) (by rw [k0_part138_eq_skeleton]; exact Runs.pure _ _) ?_
  dsimp only
  refine Runs.bind (a := ⟨kSc A, kIn A⟩) (by rw [p139]; exact Runs.bind (Runs.onA5 (Runs.row arg5 b (ksG low even p ((z1, z2, z3, z4) : Acc F) st fr xK) _ hK)) (Runs.pure _ _)) ?_
  dsimp only
  refine Runs.bind (Runs.p140 arg0 harg0 arg1 harg1 arg5 harg5 arg7 harg7 low even pf p z1 z2 z3 z4 b st fr xK xV A hA.symm _ _) ?_
  dsimp only
  refine Runs.bind (a := ⟨(vA ((z1, z2, z3, z4) : Acc F) xV (ib b)).2.2.2, heads, k0_pay1412 (vA ((z1, z2, z3, z4) : Acc F) xV (ib b)).1 (vA ((z1, z2, z3, z4) : Acc F) xV (ib b)).2.1 (vA ((z1, z2, z3, z4) : Acc F) xV (ib b)).2.2.1, k0_pay1413 (vA ((z1, z2, z3, z4) : Acc F) xV (ib b)).2.2.1⟩) (by rw [p141]; exact Runs.bind (Runs.vals1 arg0 harg0 arg1 harg1 arg5 harg5 arg7 harg7 z1 z2 z3 z4 b xV _ _ _) (Runs.pure _ _)) ?_
  dsimp only
  generalize hB : vA ((z1, z2, z3, z4) : Acc F) xV (ib b) = B
  have hV : ∀ z, vRw B z = vsG ((z1, z2, z3, z4) : Acc F) xV (ix3 (ib b) (z 1) (z 2)) := fun z => by
    show vRw B z = vRw (vA ((z1, z2, z3, z4) : Acc F) xV (ib b)) (ix3 0 (z 1) (z 2))
    rw [hB]
    exact congrArg (vRw B) (hz z)
  refine Runs.bind (a := ⟨vQ0 B, vQ1 B, 32#32⟩) (by rw [k0_part142_eq_skeleton]; exact Runs.pure _ _) ?_
  dsimp only
  refine Runs.bind (a := ⟨vE B, 0#32⟩) (by rw [k0_part143_eq_skeleton]; exact Runs.pure _ _) ?_
  dsimp only
  refine Runs.bind (a := ⟨k0_pay1419 (vE B) 0#32, k0_pay1422 (vE B) 0#32, k0_pay1423 (vE B) 0#32, k0_pay1424 (vE B) 0#32, k0_pay1425 (vE B) 0#32⟩) (by rw [p144]; exact Runs.bind (Runs.onA7 (Runs.row arg7 b (vsG ((z1, z2, z3, z4) : Acc F) xV) _ hV)) (Runs.pure _ _)) ?_
  dsimp only
  refine Runs.bind (Runs.vals2 arg0 harg0 arg1 harg1 arg5 harg5 arg7 harg7 low even pf p z1 z2 z3 z4 b xV w0 _ _ B hB.symm) ?_
  exact (Runs.pure _ _).conseq .rfl (Held_mono (nextIns sideK xK (ib b)) known_any known_any known_any known_any .rfl .rfl (nextIns sideV xV (ib b)) .rfl .rfl)

end

end Cert.Proof.KernelIdeal

end
-- ==== Proof.KI.Top.lean ====
/- The whole region: the first blocks asked for, the nine blocks worked on, the last ones awaited. -/
module

public import proofs.«01_k».proof.Proof.KI.Body

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

def firstK : PR F PUnit := do
  startIn kH kB inb_S2x2x8_S1x1x1_0_0_0 inb_S2x32768x128_S1x4096x128_0_0_0 inb_S9x32768x128_S1x4096x128_0_0_0 (((Memref.isWhole_whole _ : kH.IsWhole).wordExact_slice rfl _ wordsbf16_S9x32768x128_S1x4096x128_0_0_0).reshape _ _) (((Memref.isWhole_whole _ : kB.IsWhole).wordExact_slice rfl _ wordsbf16_S2x32768x128_S1x4096x128_0_0_0).reshape _ _)
  startIn kH kB inb_S2x2x8_S1x1x1_0_0_1 inb_S2x32768x128_S1x4096x128_0_4096_0 inb_S9x32768x128_S1x4096x128_0_4096_0 (((Memref.isWhole_whole _ : kH.IsWhole).wordExact_slice rfl _ wordsbf16_S9x32768x128_S1x4096x128_0_4096_0).reshape _ _) (((Memref.isWhole_whole _ : kB.IsWhole).wordExact_slice rfl _ wordsbf16_S2x32768x128_S1x4096x128_0_4096_0).reshape _ _)
  startIn kH kB inb_S2x2x8_S1x1x1_0_0_2 inb_S2x32768x128_S1x4096x128_0_8192_0 inb_S9x32768x128_S1x4096x128_0_8192_0 (((Memref.isWhole_whole _ : kH.IsWhole).wordExact_slice rfl _ wordsbf16_S9x32768x128_S1x4096x128_0_8192_0).reshape _ _) (((Memref.isWhole_whole _ : kB.IsWhole).wordExact_slice rfl _ wordsbf16_S2x32768x128_S1x4096x128_0_8192_0).reshape _ _)
  startIn kH kB inb_S2x2x8_S1x1x1_0_0_3 inb_S2x32768x128_S1x4096x128_0_12288_0 inb_S9x32768x128_S1x4096x128_0_12288_0 (((Memref.isWhole_whole _ : kH.IsWhole).wordExact_slice rfl _ wordsbf16_S9x32768x128_S1x4096x128_0_12288_0).reshape _ _) (((Memref.isWhole_whole _ : kB.IsWhole).wordExact_slice rfl _ wordsbf16_S2x32768x128_S1x4096x128_0_12288_0).reshape _ _)
  startIn kH kB inb_S2x2x8_S1x1x1_0_0_4 inb_S2x32768x128_S1x4096x128_0_16384_0 inb_S9x32768x128_S1x4096x128_0_16384_0 (((Memref.isWhole_whole _ : kH.IsWhole).wordExact_slice rfl _ wordsbf16_S9x32768x128_S1x4096x128_0_16384_0).reshape _ _) (((Memref.isWhole_whole _ : kB.IsWhole).wordExact_slice rfl _ wordsbf16_S2x32768x128_S1x4096x128_0_16384_0).reshape _ _)
  startIn kH kB inb_S2x2x8_S1x1x1_0_0_5 inb_S2x32768x128_S1x4096x128_0_20480_0 inb_S9x32768x128_S1x4096x128_0_20480_0 (((Memref.isWhole_whole _ : kH.IsWhole).wordExact_slice rfl _ wordsbf16_S9x32768x128_S1x4096x128_0_20480_0).reshape _ _) (((Memref.isWhole_whole _ : kB.IsWhole).wordExact_slice rfl _ wordsbf16_S2x32768x128_S1x4096x128_0_20480_0).reshape _ _)
  startIn kH kB inb_S2x2x8_S1x1x1_0_0_6 inb_S2x32768x128_S1x4096x128_0_24576_0 inb_S9x32768x128_S1x4096x128_0_24576_0 (((Memref.isWhole_whole _ : kH.IsWhole).wordExact_slice rfl _ wordsbf16_S9x32768x128_S1x4096x128_0_24576_0).reshape _ _) (((Memref.isWhole_whole _ : kB.IsWhole).wordExact_slice rfl _ wordsbf16_S2x32768x128_S1x4096x128_0_24576_0).reshape _ _)
  startIn kH kB inb_S2x2x8_S1x1x1_0_0_7 inb_S2x32768x128_S1x4096x128_0_28672_0 inb_S9x32768x128_S1x4096x128_0_28672_0 (((Memref.isWhole_whole _ : kH.IsWhole).wordExact_slice rfl _ wordsbf16_S9x32768x128_S1x4096x128_0_28672_0).reshape _ _) (((Memref.isWhole_whole _ : kB.IsWhole).wordExact_slice rfl _ wordsbf16_S2x32768x128_S1x4096x128_0_28672_0).reshape _ _)
def firstV : PR F PUnit := do
  startIn vH vB inb_S2x2x8_S1x1x1_1_0_0 inb_S2x32768x128_S1x4096x128_0_0_0 inb_S9x32768x128_S1x4096x128_0_0_0 (((Memref.isWhole_whole _ : vH.IsWhole).wordExact_slice rfl _ wordsbf16_S9x32768x128_S1x4096x128_0_0_0).reshape _ _) (((Memref.isWhole_whole _ : vB.IsWhole).wordExact_slice rfl _ wordsbf16_S2x32768x128_S1x4096x128_0_0_0).reshape _ _)
  startIn vH vB inb_S2x2x8_S1x1x1_1_0_1 inb_S2x32768x128_S1x4096x128_0_4096_0 inb_S9x32768x128_S1x4096x128_0_4096_0 (((Memref.isWhole_whole _ : vH.IsWhole).wordExact_slice rfl _ wordsbf16_S9x32768x128_S1x4096x128_0_4096_0).reshape _ _) (((Memref.isWhole_whole _ : vB.IsWhole).wordExact_slice rfl _ wordsbf16_S2x32768x128_S1x4096x128_0_4096_0).reshape _ _)
  startIn vH vB inb_S2x2x8_S1x1x1_1_0_2 inb_S2x32768x128_S1x4096x128_0_8192_0 inb_S9x32768x128_S1x4096x128_0_8192_0 (((Memref.isWhole_whole _ : vH.IsWhole).wordExact_slice rfl _ wordsbf16_S9x32768x128_S1x4096x128_0_8192_0).reshape _ _) (((Memref.isWhole_whole _ : vB.IsWhole).wordExact_slice rfl _ wordsbf16_S2x32768x128_S1x4096x128_0_8192_0).reshape _ _)
  startIn vH vB inb_S2x2x8_S1x1x1_1_0_3 inb_S2x32768x128_S1x4096x128_0_12288_0 inb_S9x32768x128_S1x4096x128_0_12288_0 (((Memref.isWhole_whole _ : vH.IsWhole).wordExact_slice rfl _ wordsbf16_S9x32768x128_S1x4096x128_0_12288_0).reshape _ _) (((Memref.isWhole_whole _ : vB.IsWhole).wordExact_slice rfl _ wordsbf16_S2x32768x128_S1x4096x128_0_12288_0).reshape _ _)
  startIn vH vB inb_S2x2x8_S1x1x1_1_0_4 inb_S2x32768x128_S1x4096x128_0_16384_0 inb_S9x32768x128_S1x4096x128_0_16384_0 (((Memref.isWhole_whole _ : vH.IsWhole).wordExact_slice rfl _ wordsbf16_S9x32768x128_S1x4096x128_0_16384_0).reshape _ _) (((Memref.isWhole_whole _ : vB.IsWhole).wordExact_slice rfl _ wordsbf16_S2x32768x128_S1x4096x128_0_16384_0).reshape _ _)
  startIn vH vB inb_S2x2x8_S1x1x1_1_0_5 inb_S2x32768x128_S1x4096x128_0_20480_0 inb_S9x32768x128_S1x4096x128_0_20480_0 (((Memref.isWhole_whole _ : vH.IsWhole).wordExact_slice rfl _ wordsbf16_S9x32768x128_S1x4096x128_0_20480_0).reshape _ _) (((Memref.isWhole_whole _ : vB.IsWhole).wordExact_slice rfl _ wordsbf16_S2x32768x128_S1x4096x128_0_20480_0).reshape _ _)
  startIn vH vB inb_S2x2x8_S1x1x1_1_0_6 inb_S2x32768x128_S1x4096x128_0_24576_0 inb_S9x32768x128_S1x4096x128_0_24576_0 (((Memref.isWhole_whole _ : vH.IsWhole).wordExact_slice rfl _ wordsbf16_S9x32768x128_S1x4096x128_0_24576_0).reshape _ _) (((Memref.isWhole_whole _ : vB.IsWhole).wordExact_slice rfl _ wordsbf16_S2x32768x128_S1x4096x128_0_24576_0).reshape _ _)
  startIn vH vB inb_S2x2x8_S1x1x1_1_0_7 inb_S2x32768x128_S1x4096x128_0_28672_0 inb_S9x32768x128_S1x4096x128_0_28672_0 (((Memref.isWhole_whole _ : vH.IsWhole).wordExact_slice rfl _ wordsbf16_S9x32768x128_S1x4096x128_0_28672_0).reshape _ _) (((Memref.isWhole_whole _ : vB.IsWhole).wordExact_slice rfl _ wordsbf16_S2x32768x128_S1x4096x128_0_28672_0).reshape _ _)
def lastW : PR F PUnit := do
  waitOut kcH kO inb_S2x8_S1x1_0_0 inb_S32768x128_S4096x128_0_0 inb_S9x32768x128_S1x4096x128_8_0_0 ((Memref.isWhole_whole _ : kO.IsWhole).wordExact_slice rfl _ wordsfp8e4m3_S32768x128_S4096x128_0_0) (((Memref.isWhole_whole _ : kcH.IsWhole).wordExact_slice rfl _ wordsfp8e4m3_S9x32768x128_S1x4096x128_8_0_0).reshape _ _)
  waitOut vcH vO inb_S2x8_S1x1_1_0 inb_S32768x128_S4096x128_0_0 inb_S9x32768x128_S1x4096x128_8_0_0 ((Memref.isWhole_whole _ : vO.IsWhole).wordExact_slice rfl _ wordsfp8e4m3_S32768x128_S4096x128_0_0) (((Memref.isWhole_whole _ : vcH.IsWhole).wordExact_slice rfl _ wordsfp8e4m3_S9x32768x128_S1x4096x128_8_0_0).reshape _ _)
  waitOut kcH kO inb_S2x8_S1x1_0_1 inb_S32768x128_S4096x128_4096_0 inb_S9x32768x128_S1x4096x128_8_4096_0 ((Memref.isWhole_whole _ : kO.IsWhole).wordExact_slice rfl _ wordsfp8e4m3_S32768x128_S4096x128_4096_0) (((Memref.isWhole_whole _ : kcH.IsWhole).wordExact_slice rfl _ wordsfp8e4m3_S9x32768x128_S1x4096x128_8_4096_0).reshape _ _)
  waitOut vcH vO inb_S2x8_S1x1_1_1 inb_S32768x128_S4096x128_4096_0 inb_S9x32768x128_S1x4096x128_8_4096_0 ((Memref.isWhole_whole _ : vO.IsWhole).wordExact_slice rfl _ wordsfp8e4m3_S32768x128_S4096x128_4096_0) (((Memref.isWhole_whole _ : vcH.IsWhole).wordExact_slice rfl _ wordsfp8e4m3_S9x32768x128_S1x4096x128_8_4096_0).reshape _ _)
  waitOut kcH kO inb_S2x8_S1x1_0_2 inb_S32768x128_S4096x128_8192_0 inb_S9x32768x128_S1x4096x128_8_8192_0 ((Memref.isWhole_whole _ : kO.IsWhole).wordExact_slice rfl _ wordsfp8e4m3_S32768x128_S4096x128_8192_0) (((Memref.isWhole_whole _ : kcH.IsWhole).wordExact_slice rfl _ wordsfp8e4m3_S9x32768x128_S1x4096x128_8_8192_0).reshape _ _)
  waitOut vcH vO inb_S2x8_S1x1_1_2 inb_S32768x128_S4096x128_8192_0 inb_S9x32768x128_S1x4096x128_8_8192_0 ((Memref.isWhole_whole _ : vO.IsWhole).wordExact_slice rfl _ wordsfp8e4m3_S32768x128_S4096x128_8192_0) (((Memref.isWhole_whole _ : vcH.IsWhole).wordExact_slice rfl _ wordsfp8e4m3_S9x32768x128_S1x4096x128_8_8192_0).reshape _ _)
  waitOut kcH kO inb_S2x8_S1x1_0_3 inb_S32768x128_S4096x128_12288_0 inb_S9x32768x128_S1x4096x128_8_12288_0 ((Memref.isWhole_whole _ : kO.IsWhole).wordExact_slice rfl _ wordsfp8e4m3_S32768x128_S4096x128_12288_0) (((Memref.isWhole_whole _ : kcH.IsWhole).wordExact_slice rfl _ wordsfp8e4m3_S9x32768x128_S1x4096x128_8_12288_0).reshape _ _)
  waitOut vcH vO inb_S2x8_S1x1_1_3 inb_S32768x128_S4096x128_12288_0 inb_S9x32768x128_S1x4096x128_8_12288_0 ((Memref.isWhole_whole _ : vO.IsWhole).wordExact_slice rfl _ wordsfp8e4m3_S32768x128_S4096x128_12288_0) (((Memref.isWhole_whole _ : vcH.IsWhole).wordExact_slice rfl _ wordsfp8e4m3_S9x32768x128_S1x4096x128_8_12288_0).reshape _ _)
  waitOut kcH kO inb_S2x8_S1x1_0_4 inb_S32768x128_S4096x128_16384_0 inb_S9x32768x128_S1x4096x128_8_16384_0 ((Memref.isWhole_whole _ : kO.IsWhole).wordExact_slice rfl _ wordsfp8e4m3_S32768x128_S4096x128_16384_0) (((Memref.isWhole_whole _ : kcH.IsWhole).wordExact_slice rfl _ wordsfp8e4m3_S9x32768x128_S1x4096x128_8_16384_0).reshape _ _)
  waitOut vcH vO inb_S2x8_S1x1_1_4 inb_S32768x128_S4096x128_16384_0 inb_S9x32768x128_S1x4096x128_8_16384_0 ((Memref.isWhole_whole _ : vO.IsWhole).wordExact_slice rfl _ wordsfp8e4m3_S32768x128_S4096x128_16384_0) (((Memref.isWhole_whole _ : vcH.IsWhole).wordExact_slice rfl _ wordsfp8e4m3_S9x32768x128_S1x4096x128_8_16384_0).reshape _ _)
  waitOut kcH kO inb_S2x8_S1x1_0_5 inb_S32768x128_S4096x128_20480_0 inb_S9x32768x128_S1x4096x128_8_20480_0 ((Memref.isWhole_whole _ : kO.IsWhole).wordExact_slice rfl _ wordsfp8e4m3_S32768x128_S4096x128_20480_0) (((Memref.isWhole_whole _ : kcH.IsWhole).wordExact_slice rfl _ wordsfp8e4m3_S9x32768x128_S1x4096x128_8_20480_0).reshape _ _)
  waitOut vcH vO inb_S2x8_S1x1_1_5 inb_S32768x128_S4096x128_20480_0 inb_S9x32768x128_S1x4096x128_8_20480_0 ((Memref.isWhole_whole _ : vO.IsWhole).wordExact_slice rfl _ wordsfp8e4m3_S32768x128_S4096x128_20480_0) (((Memref.isWhole_whole _ : vcH.IsWhole).wordExact_slice rfl _ wordsfp8e4m3_S9x32768x128_S1x4096x128_8_20480_0).reshape _ _)
  waitOut kcH kO inb_S2x8_S1x1_0_6 inb_S32768x128_S4096x128_24576_0 inb_S9x32768x128_S1x4096x128_8_24576_0 ((Memref.isWhole_whole _ : kO.IsWhole).wordExact_slice rfl _ wordsfp8e4m3_S32768x128_S4096x128_24576_0) (((Memref.isWhole_whole _ : kcH.IsWhole).wordExact_slice rfl _ wordsfp8e4m3_S9x32768x128_S1x4096x128_8_24576_0).reshape _ _)
  waitOut vcH vO inb_S2x8_S1x1_1_6 inb_S32768x128_S4096x128_24576_0 inb_S9x32768x128_S1x4096x128_8_24576_0 ((Memref.isWhole_whole _ : vO.IsWhole).wordExact_slice rfl _ wordsfp8e4m3_S32768x128_S4096x128_24576_0) (((Memref.isWhole_whole _ : vcH.IsWhole).wordExact_slice rfl _ wordsfp8e4m3_S9x32768x128_S1x4096x128_8_24576_0).reshape _ _)
  waitOut kcH kO inb_S2x8_S1x1_0_7 inb_S32768x128_S4096x128_28672_0 inb_S9x32768x128_S1x4096x128_8_28672_0 ((Memref.isWhole_whole _ : kO.IsWhole).wordExact_slice rfl _ wordsfp8e4m3_S32768x128_S4096x128_28672_0) (((Memref.isWhole_whole _ : kcH.IsWhole).wordExact_slice rfl _ wordsfp8e4m3_S9x32768x128_S1x4096x128_8_28672_0).reshape _ _)
  waitOut vcH vO inb_S2x8_S1x1_1_7 inb_S32768x128_S4096x128_28672_0 inb_S9x32768x128_S1x4096x128_8_28672_0 ((Memref.isWhole_whole _ : vO.IsWhole).wordExact_slice rfl _ wordsfp8e4m3_S32768x128_S4096x128_28672_0) (((Memref.isWhole_whole _ : vcH.IsWhole).wordExact_slice rfl _ wordsfp8e4m3_S9x32768x128_S1x4096x128_8_28672_0).reshape _ _)
  pure ⟨⟩

/-- The first block of a chunk is asked for: before that every block is home, as after the last. -/
theorem Runs.first {σ : Side} {xH : (S3 9).Idx → Elt F .bf16} {os ob oh : Fin 3 → ℕ} {hs : ∀ a, os a + S1x1x1.size a ≤ S2x2x8.size a} {hb : ∀ a, ob a + S1x4096x128.size a ≤ S2x32768x128.size a}
    {hh : ∀ a, oh a + S1x4096x128.size a ≤ S9x32768x128.size a} {wh : (blk σ.H oh hh).view.WordExact} {wb : (blk σ.B ob hb).view.WordExact}
    (k : Fin 8) (es : os = ![σ.w.val, 0, k.val]) (eb : ob = ![0, 4096 * k.val, 0]) (eh : oh = ![0, 4096 * k.val, 0]) (R : sProp 𝕄) :
    Runs c iprop(IN c σ xH 9 k ∗ R) (KernelIdeal.startIn σ.H σ.B hs hb hh wh wb) ⟨⟩ iprop(IN c σ xH 0 k ∗ R) := by
  refine Runs.frame R ?_
  have e9 : par 9 = 1 := rfl
  have e10 : par (9 + 1) = 0 := rfl
  have e0 : par 0 = 0 := rfl
  have e1 : par (0 + 1) = 1 := rfl
  unfold IN
  rw [dif_neg (by omega), dif_pos (by omega), bs_split (0 : Fin 9), e9, e10, e0, e1]
  refine Runs.conseq (P := iprop(∃ x, (ptOn c σ.H (blkSet (0 : Fin 9) k) xH ∗ ptOn c σ.B (blkSet (0 : Fin 2) k) x ∗ semVal ((c : Thread nD τ), inSem σ.w 0 k) 0)
      ∗ (slotAny c σ 1 k ∗ sIn c σ 1 k ∗ bigSep (Finset.univ.erase (0 : Fin 9)) fun b => home c σ xH b k))) (P' := _)
    (Runs.exists fun x => (Runs.startIn σ.w 0 0 k es eb eh xH x).frame _) ?_ ?_
  · unfold slotAny sIn home
    iintro ⟨⟨H1, H2⟩, ⟨%x, H3⟩, H4, H5, H6⟩
    iexists x
    isplitl [H5 H3 H4]
    · isplitl [H5]; · iexact H5
      isplitl [H3]; · iexact H3
      iexact H4
    isplitl [H1]; · iexact H1
    isplitl [H2]; · iexact H2
    iexact H6
  · unfold flightIn slotHas home
    exact .rfl

section
variable (xH : (S3 9).Idx → Elt F .bf16)

theorem Runs.firstK (R : sProp 𝕄) :
    Runs c iprop(KernelIdeal.mix 0 (IN c sideK xH 0) (IN c sideK xH 9) ∗ R) KernelIdeal.firstK ⟨⟩ iprop(KernelIdeal.mix 8 (IN c sideK xH 0) (IN c sideK xH 9) ∗ R) := by
  unfold KernelIdeal.firstK
  refine Runs.bind (Runs.mix 0 (Runs.first 0 rfl rfl rfl R)) ?_
  refine Runs.bind (Runs.mix 1 (Runs.first 1 rfl rfl rfl R)) ?_
  refine Runs.bind (Runs.mix 2 (Runs.first 2 rfl rfl rfl R)) ?_
  refine Runs.bind (Runs.mix 3 (Runs.first 3 rfl rfl rfl R)) ?_
  refine Runs.bind (Runs.mix 4 (Runs.first 4 rfl rfl rfl R)) ?_
  refine Runs.bind (Runs.mix 5 (Runs.first 5 rfl rfl rfl R)) ?_
  refine Runs.bind (Runs.mix 6 (Runs.first 6 rfl rfl rfl R)) ?_
  exact (Runs.mix 7 (Runs.first 7 rfl rfl rfl R))

theorem Runs.firstV (R : sProp 𝕄) :
    Runs c iprop(KernelIdeal.mix 0 (IN c sideV xH 0) (IN c sideV xH 9) ∗ R) KernelIdeal.firstV ⟨⟩ iprop(KernelIdeal.mix 8 (IN c sideV xH 0) (IN c sideV xH 9) ∗ R) := by
  unfold KernelIdeal.firstV
  refine Runs.bind (Runs.mix 0 (Runs.first 0 rfl rfl rfl R)) ?_
  refine Runs.bind (Runs.mix 1 (Runs.first 1 rfl rfl rfl R)) ?_
  refine Runs.bind (Runs.mix 2 (Runs.first 2 rfl rfl rfl R)) ?_
  refine Runs.bind (Runs.mix 3 (Runs.first 3 rfl rfl rfl R)) ?_
  refine Runs.bind (Runs.mix 4 (Runs.first 4 rfl rfl rfl R)) ?_
  refine Runs.bind (Runs.mix 5 (Runs.first 5 rfl rfl rfl R)) ?_
  refine Runs.bind (Runs.mix 6 (Runs.first 6 rfl rfl rfl R)) ?_
  exact (Runs.mix 7 (Runs.first 7 rfl rfl rfl R))
end

section
variable (GK GV : (S3 9).Idx → Elt F .fp8e4m3)

/-- The last blocks of one chunk. -/
theorem Runs.both {osK ooK : Fin 2 → ℕ} {ocK : Fin 3 → ℕ} {hsK : ∀ a, osK a + S1x1.size a ≤ S2x8.size a} {hoK : ∀ a, ooK a + S4096x128.size a ≤ S32768x128.size a}
    {hcK : ∀ a, ocK a + S1x4096x128.size a ≤ S9x32768x128.size a} {woK : (outBlk kO ooK hoK).view.WordExact} {wcK : (blk kcH ocK hcK).view.WordExact}
    {osV ooV : Fin 2 → ℕ} {ocV : Fin 3 → ℕ} {hsV : ∀ a, osV a + S1x1.size a ≤ S2x8.size a} {hoV : ∀ a, ooV a + S4096x128.size a ≤ S32768x128.size a}
    {hcV : ∀ a, ocV a + S1x4096x128.size a ≤ S9x32768x128.size a} {woV : (outBlk vO ooV hoV).view.WordExact} {wcV : (blk vcH ocV hcV).view.WordExact}
    (k : Fin 8) (eK : osK = ![0, k.val]) (eV : osV = ![1, k.val]) (R : sProp 𝕄) {α : Type} {q : PR F α} {a : α} {P' : sProp 𝕄}
    (h : Runs c iprop(KernelIdeal.mix (k.val + 1) (fun k => iprop(OUTf c sideK GK 9 k ∗ OUTf c sideV GV 9 k)) (fun k => iprop(OUT c sideK GK 9 k ∗ OUT c sideV GV 9 k)) ∗ ow F c ∗ R) q a P') :
    Runs c iprop(KernelIdeal.mix k.val (fun k => iprop(OUTf c sideK GK 9 k ∗ OUTf c sideV GV 9 k)) (fun k => iprop(OUT c sideK GK 9 k ∗ OUT c sideV GV 9 k)) ∗ ow F c ∗ R)
      (KernelIdeal.waitOut kcH kO hsK hoK hcK woK wcK >>= fun _ => KernelIdeal.waitOut vcH vO hsV hoV hcV woV wcV >>= fun _ => q) a P' := by
  rw [← bind_assoc]
  refine Runs.bind (a := ⟨⟩) (Runs.mix k ?_) h
  refine Runs.bind (((Runs.landed (σ := sideK) (G := GK) 9 (by omega) k eK iprop(OUT c sideV GV 9 k ∗ R)).conseq (entails_of_eq (by ac_rfl)) .rfl)) ?_
  exact (Runs.landed (σ := sideV) (G := GV) 9 (by omega) k eV iprop(OUTf c sideK GK 9 k ∗ R)).conseq (entails_of_eq (by ac_rfl)) (entails_of_eq (by ac_rfl))

theorem Runs.lastW (R : sProp 𝕄) :
    Runs c iprop(KernelIdeal.mix 0 (fun k => iprop(OUTf c sideK GK 9 k ∗ OUTf c sideV GV 9 k)) (fun k => iprop(OUT c sideK GK 9 k ∗ OUT c sideV GV 9 k)) ∗ ow F c ∗ R)
      KernelIdeal.lastW ⟨⟩ iprop(KernelIdeal.mix 8 (fun k => iprop(OUTf c sideK GK 9 k ∗ OUTf c sideV GV 9 k)) (fun k => iprop(OUT c sideK GK 9 k ∗ OUT c sideV GV 9 k)) ∗ ow F c ∗ R) := by
  unfold KernelIdeal.lastW
  refine Runs.both GK GV 0 rfl rfl R ?_
  refine Runs.both GK GV 1 rfl rfl R ?_
  refine Runs.both GK GV 2 rfl rfl R ?_
  refine Runs.both GK GV 3 rfl rfl R ?_
  refine Runs.both GK GV 4 rfl rfl R ?_
  refine Runs.both GK GV 5 rfl rfl R ?_
  refine Runs.both GK GV 6 rfl rfl R ?_
  refine Runs.both GK GV 7 rfl rfl R ?_
  exact Runs.pure _ _
end

section
variable (arg0 : Memref sig .tc .smem S9 .i32) (harg0 : arg0.IsWhole) (arg1 : Memref sig .tc .vmem S1x128 .f32) (harg1 : arg1.IsWhole)
  (arg5 : Memref sig .tc .vmem S9x8x128 .f32) (harg5 : arg5.IsWhole) (arg7 : Memref sig .tc .vmem S9x8x128 .f32) (harg7 : arg7.IsWhole)

/-- The constants the region computes once. -/
abbrev cZ : F .bf16 := Scalar.ofBits .bf16 0x0000#16
abbrev zAcc : Acc F := (k0_pay1430, k0_pay1431, k0_pay1432 cZ, k0_pay1433)

theorem region_eq : cc0_rope_fp8_kv (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9
    = (firstK >>= fun _ => firstV >>= fun _ =>
      Scf.Loop.for k0_t1_loop k0_t1_ok ⟨⟩ (k0_t1_body (F := F) arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9 k0_pay1426 k0_pay1427 k0_pay1428 k0_pay1429 k0_pay1430 k0_pay1431 cZ) >>= fun _ => lastW) := by
  rw [cc0_rope_fp8_kv_eq_skeleton]
  unfold cc0_rope_fp8_kv_skel
  rw [k0_part145_eq_skeleton, k0_part146_eq_skeleton, k0_part147_eq_skeleton, k0_part148_eq_skeleton, k0_part149_eq_skeleton]
  simp only [k0_part150_eq_skeleton, k0_part151_eq_skeleton, k0_part152_eq_skeleton]
  unfold k0_part150_skel
  simp only [bind_assoc]
  rfl

variable (st : S9.Idx → Elt F .i32) (fr : S1x128.Idx → Elt F .f32) (xK xV : (S3 9).Idx → Elt F .bf16)

abbrev GKc : (S3 9).Idx → Elt F .fp8e4m3 := kcG k0_pay1426 k0_pay1427 k0_pay1428 k0_pay1429 zAcc st fr xK
abbrev GKs : S9x8x128.Idx → Elt F .f32 := ksG k0_pay1426 k0_pay1427 k0_pay1429 zAcc st fr xK
abbrev GVc : (S3 9).Idx → Elt F .fp8e4m3 := vcG k0_pay1428 zAcc xV
abbrev GVs : S9x8x128.Idx → Elt F .f32 := vsG zAcc xV

/-- The region. -/
theorem Runs.region :
    Runs c (Held (insK c xK 9) (ow F c) (anyB c cB) (anyB c sB) (anyB c yB) (anyB c nB) (ptOn c arg0 Finset.univ st) (frB c arg1 fr) (anyB c arg5) (anyB c arg7) (insV c xV 9)
        (bigSep Finset.univ (OUTf c sideK (GKc st fr xK) 0)) (bigSep Finset.univ (OUTf c sideV (GVc xV) 0)))
      (cc0_rope_fp8_kv arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9) ⟨⟩
      (Held (insK c xK 9) (ow F c) (anyB c cB) (anyB c sB) (anyB c yB) (anyB c nB) (ptOn c arg0 Finset.univ st) (frB c arg1 fr) (ptOn c arg5 Finset.univ (GKs st fr xK)) (ptOn c arg7 Finset.univ (GVs xV)) (insV c xV 9)
        (bigSep Finset.univ (OUTf c sideK (GKc st fr xK) 9)) (bigSep Finset.univ (OUTf c sideV (GVc xV) 9))) := by
  rw [region_eq]
  have hK := Runs.firstK (c := c) xK iprop(ow F c ∗ anyB c cB ∗ anyB c sB ∗ anyB c yB ∗ anyB c nB ∗ ptOn c arg0 Finset.univ st ∗ frB c arg1 fr ∗ anyB c arg5 ∗ anyB c arg7 ∗ insV c xV 9
        ∗ (bigSep Finset.univ (OUTf c sideK (GKc st fr xK) 0)) ∗ (bigSep Finset.univ (OUTf c sideV (GVc xV) 0)))
  rw [mix_zero, mix_all] at hK
  have hV := Runs.firstV (c := c) xV iprop(insK c xK 0 ∗ ow F c ∗ anyB c cB ∗ anyB c sB ∗ anyB c yB ∗ anyB c nB ∗ ptOn c arg0 Finset.univ st ∗ frB c arg1 fr ∗ anyB c arg5 ∗ anyB c arg7
        ∗ (bigSep Finset.univ (OUTf c sideK (GKc st fr xK) 0)) ∗ (bigSep Finset.univ (OUTf c sideV (GVc xV) 0)))
  rw [mix_zero, mix_all] at hV
  have hW := Runs.lastW (c := c) (GKc st fr xK) (GVc xV) iprop(insK c xK 9 ∗ anyB c cB ∗ anyB c sB ∗ anyB c yB ∗ anyB c nB ∗ ptOn c arg0 Finset.univ st ∗ frB c arg1 fr
        ∗ rowsK c arg5 k0_pay1426 k0_pay1427 k0_pay1429 k0_pay1430 k0_pay1431 (k0_pay1432 cZ) k0_pay1433 st fr xK 9 ∗ rowsV c arg7 k0_pay1430 k0_pay1431 (k0_pay1432 cZ) k0_pay1433 xV 9 ∗ insV c xV 9)
  have e : ∀ A B : Fin 8 → sProp 𝕄, (bigSep Finset.univ (fun k => iprop(A k ∗ B k)) : sProp 𝕄) = iprop(bigSep Finset.univ A ∗ bigSep Finset.univ B) := fun A B => bigSep_sep _ _ _
  rw [mix_zero, mix_all, e, e] at hW
  have hL :=
    Runs.for (c := c) k0_t1_loop k0_t1_ok (I := Before c arg0 arg1 arg5 arg7 k0_pay1426 k0_pay1427 k0_pay1428 k0_pay1429 k0_pay1430 k0_pay1431 (k0_pay1432 cZ) k0_pay1433 st fr xK xV)
      (fa := fun _ _ => PUnit.unit) (fun b _ => Runs.block arg0 harg0 arg1 harg1 arg5 harg5 arg7 harg7 k0_pay1426 k0_pay1427 k0_pay1428 k0_pay1429 k0_pay1430 k0_pay1431 (k0_pay1432 cZ) k0_pay1433 b st fr xK xV cZ rfl rfl) PUnit.unit
  have hd5 : ∀ n, n = 0 → ∀ i : S9x8x128.Idx, ¬ doneRows n i := fun n hn i h => by subst hn; unfold doneRows at h; omega
  have hd9 : ∀ i ∈ (Finset.univ : Finset S9x8x128.Idx), doneRows 9 i := fun i _ => by
    have h : (i 0).val < 9 := (i 0).isLt
    unfold doneRows
    exact h
  have e0 : ∀ (σ : Side) (G : (S3 9).Idx → Elt F .fp8e4m3), (bigSep Finset.univ (OUT c σ G 0) : sProp 𝕄) = bigSep Finset.univ (OUTf c σ G 0) := fun σ G => bigSep_congr fun k _ => OUT_zero k
  refine Runs.bind (P' := Held (insK c xK 0) (ow F c) (anyB c cB) (anyB c sB) (anyB c yB) (anyB c nB) (ptOn c arg0 Finset.univ st) (frB c arg1 fr) (anyB c arg5) (anyB c arg7) (insV c xV 9)
        (bigSep Finset.univ (OUTf c sideK (GKc st fr xK) 0)) (bigSep Finset.univ (OUTf c sideV (GVc xV) 0))) (a := ⟨⟩) (hK.conseq (entails_of_eq (by unfold Held insV insK; ac_rfl)) (entails_of_eq (by unfold Held insV insK; ac_rfl))) ?_
  refine Runs.bind (a := ⟨⟩) (hV.conseq (entails_of_eq (by unfold Held insV; ac_rfl)) .rfl) ?_
  refine Runs.bind (hL.conseq ?_ .rfl) ?_
  · unfold Before outsK outsV
    rw [e0, e0]
    refine BIBase.Entails.trans (Q := Held (insK c xK 0) (ow F c) (anyB c cB) (anyB c sB) (anyB c yB) (anyB c nB) (ptOn c arg0 Finset.univ st) (frB c arg1 fr) (anyB c arg5) (anyB c arg7) (insV c xV 0)
        (bigSep Finset.univ (OUTf c sideK (GKc st fr xK) 0)) (bigSep Finset.univ (OUTf c sideV (GVc xV) 0))) (entails_of_eq (by unfold Held insV insK; ac_rfl)) ?_
    exact Held_mono .rfl .rfl .rfl .rfl .rfl (known_none (hd5 0 rfl)) (known_none (hd5 0 rfl)) .rfl .rfl .rfl
  · rw [trips1]
    refine hW.conseq (entails_of_eq (by unfold Before Held insV insK outsK outsV; ac_rfl)) ?_
    refine BIBase.Entails.trans (Q := Held (insK c xK 9) (ow F c) (anyB c cB) (anyB c sB) (anyB c yB) (anyB c nB) (ptOn c arg0 Finset.univ st) (frB c arg1 fr)
        (rowsK c arg5 k0_pay1426 k0_pay1427 k0_pay1429 k0_pay1430 k0_pay1431 (k0_pay1432 cZ) k0_pay1433 st fr xK 9) (rowsV c arg7 k0_pay1430 k0_pay1431 (k0_pay1432 cZ) k0_pay1433 xV 9) (insV c xV 9)
        (bigSep Finset.univ (OUTf c sideK (GKc st fr xK) 9)) (bigSep Finset.univ (OUTf c sideV (GVc xV) 9))) (entails_of_eq (by unfold Held insV insK; ac_rfl)) ?_
    exact Held_mono .rfl .rfl .rfl .rfl .rfl (known_full hd9) (known_full hd9) .rfl .rfl .rfl

end

end Cert.Proof.KernelIdeal

end
-- ==== Proof.KI.Parts.lean ====
/- Whole buffers and the pieces of them the kernel works on. -/
module

public import proofs.«01_k».proof.Proof.KI.Top

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

variable {c : Dev nD}

/-! ## A buffer held whole is held piece by piece -/

theorem mem_blkSet_iff {n : ℕ} {i : Fin n} {k : Fin 8} {j : (S3 n).Idx} :
    j ∈ blkSet i k ↔ (j 0).val = i.val ∧ 4096 * k.val ≤ (j 1).val ∧ (j 1).val < 4096 * k.val + 4096 := by
  refine ⟨fun h => ?_, fun h => mem_blkSet h.1 h.2.1 h.2.2⟩
  obtain ⟨y, rfl⟩ := blk_cover i k j h
  have h1 : (y 0).val < 4096 := (y 0).isLt
  refine ⟨?_, ?_, ?_⟩
  · show i.val + 1 * 0 = i.val; omega
  · show 4096 * k.val ≤ 4096 * k.val + 1 * (y 0).val; omega
  · show 4096 * k.val + 1 * (y 0).val < 4096 * k.val + 4096; omega

section
variable {ι : Type} [Fintype ι] [DecidableEq ι] {sp : Space} {s : Shape} {e : EltTy} (M : Memref sig .tc sp s e) (I : ι → Finset s.Idx)
  (hd : ∀ b b', b ≠ b' → Disjoint (I b) (I b')) (hc : ∀ j, ∃ b, j ∈ I b)

/-- The elements of piece `b`, as elements of the buffer itself. -/
abbrev piece (c : Dev nD) (b : ι) : Finset (Idx (M.view.loc (c : Thread nD τ))) := M.view.setOn (I b)

include hd in
omit [Fintype ι] hc in
theorem piece_disjoint (b b' : ι) (h : b ≠ b') : Disjoint (piece M I c b) (piece M I c b') := (Finset.disjoint_map _).2 (hd b b' h)

include hc in
omit hd in
theorem piece_all : Finset.univ.biUnion (piece M I c) = M.view.setOn Finset.univ := by
  ext z
  simp only [Finset.mem_biUnion, Finset.mem_univ, true_and]
  constructor
  · rintro ⟨b, hb⟩
    obtain ⟨j, -, rfl⟩ := Finset.mem_map.1 hb
    exact Finset.mem_map_of_mem _ (Finset.mem_univ j)
  · intro hz
    obtain ⟨j, -, rfl⟩ := Finset.mem_map.1 hz
    obtain ⟨b, hb⟩ := hc j
    exact ⟨b, Finset.mem_map_of_mem _ hb⟩

include hd hc
theorem ptOn_pieces (x : s.Idx → Elt F e) : ptOn c M Finset.univ x = (bigSep Finset.univ fun b => ptOn c M (I b) x : sProp 𝕄) := by
  unfold ptOn
  exact Ring.pointsTo_sub_blocks (piece M I c) (piece_disjoint M I hd) _ (piece_all M I hc) _

set_option maxHeartbeats 800000 in
theorem any_pieces : iprop(∃ x : s.Idx → Elt F e, ptOn c M Finset.univ x) ⊢ (bigSep Finset.univ fun b => iprop(∃ x : s.Idx → Elt F e, ptOn c M (I b) x) : sProp 𝕄) := by
  iintro ⟨%x, H⟩
  ihave H := (entails_of_eq (ptOn_pieces M I hd hc x)) $$ H
  have h : (bigSep Finset.univ fun b => ptOn c M (I b) x : sProp 𝕄) ⊢ bigSep Finset.univ fun b => iprop(∃ x : s.Idx → Elt F e, ptOn c M (I b) x) :=
    bigSep_mono fun b _ => exists_intro (Φ := fun x => (ptOn c M (I b) x : sProp 𝕄)) x
  iapply h $$ H

theorem any_whole (f₀ : Buf (Elt F) (M.view.loc (c : Thread nD τ))) : (bigSep Finset.univ fun b => iprop(∃ x : s.Idx → Elt F e, ptOn c M (I b) x)) ⊢ (iprop(∃ x : s.Idx → Elt F e, ptOn c M Finset.univ x) : sProp 𝕄) := by
  have h : (bigSep Finset.univ fun b => iprop(∃ f, M.view.loc (c : Thread nD τ) ↦[piece M I c b]{fullShare} f) : sProp 𝕄) ⊢ _ :=
    Ring.pointsTo_sub_blocks_join_exists (piece M I c) (piece_disjoint M I hd) _ (piece_all M I hc) f₀
  have h1 (b : ι) : (iprop(∃ x : s.Idx → Elt F e, ptOn c M (I b) x) : sProp 𝕄) ⊢ iprop(∃ f, M.view.loc (c : Thread nD τ) ↦[piece M I c b]{fullShare} f) := by
    iintro ⟨%x, H⟩
    iexists (M.view.rep x)
    iapply (entails_of_eq (ptOn_def M (I b) x)) $$ H
  refine BIBase.Entails.trans (bigSep_mono fun b _ => h1 b) (h.trans ?_)
  · iintro ⟨%g, H⟩
    iexists (M.view.read (Elt F) g)
    iapply (entails_of_eq (ptOn_of (c := c) (M := M) (R := Finset.univ) g fun _ _ => rfl)) $$ H
end

theorem blk_disjoint {n : ℕ} {i i' : Fin n} {k k' : Fin 8} (h : i ≠ i' ∨ k ≠ k') : Disjoint (blkSet i k) (blkSet i' k') := by
  rw [Finset.disjoint_left]
  intro j h1 h2
  obtain ⟨a0, a1, a2⟩ := mem_blkSet_iff.1 h1
  obtain ⟨b0, b1, b2⟩ := mem_blkSet_iff.1 h2
  rcases h with h | h
  · exact h (Fin.ext (a0.symm.trans b0))
  · exact h (Fin.ext (by omega))

theorem blk_all {n : ℕ} (j : (S3 n).Idx) : ∃ (i : Fin n) (k : Fin 8), j ∈ blkSet i k := by
  have h0 : (j 0).val < n := (j 0).isLt
  have h1 : (j 1).val < 32768 := (j 1).isLt
  exact ⟨⟨(j 0).val, h0⟩, ⟨(j 1).val / 4096, by omega⟩, mem_blkSet rfl (by show 4096 * ((j 1).val / 4096) ≤ (j 1).val; omega) (by show (j 1).val < 4096 * ((j 1).val / 4096) + 4096; omega)⟩

theorem out_disjoint (k k' : Fin 8) (h : k ≠ k') : Disjoint (outSet k) (outSet k') := by
  rw [Finset.disjoint_left]
  intro j h1 h2
  have a := mem_outSet.1 h1
  have b := mem_outSet.1 h2
  exact h (Fin.ext (by omega))

theorem out_all (j : S32768x128.Idx) : ∃ k, j ∈ outSet k := by
  have h1 : (j 0).val < 32768 := (j 0).isLt
  exact ⟨⟨(j 0).val / 4096, by omega⟩, mem_outSet.2 ⟨by show 4096 * ((j 0).val / 4096) ≤ (j 0).val; omega, by show (j 0).val < 4096 * ((j 0).val / 4096) + 4096; omega⟩⟩

theorem home_disjoint {n : ℕ} (q q' : Fin 8 × Fin n) (h : q ≠ q') : Disjoint (blkSet q.2 q.1) (blkSet q'.2 q'.1) :=
  blk_disjoint (by by_contra hc; rw [not_or, not_not, not_not] at hc; exact h (Prod.ext hc.2 hc.1))
theorem home_all {n : ℕ} (j : (S3 n).Idx) : ∃ q : Fin 8 × Fin n, j ∈ blkSet q.2 q.1 := let ⟨i, k, h⟩ := blk_all j; ⟨(k, i), h⟩
theorem slot_disjoint {n : ℕ} (q q' : Fin n × Fin 8) (h : q ≠ q') : Disjoint (blkSet q.1 q.2) (blkSet q'.1 q'.2) :=
  blk_disjoint (by by_contra hc; rw [not_or, not_not, not_not] at hc; exact h (Prod.ext hc.1 hc.2))
theorem slot_all {n : ℕ} (j : (S3 n).Idx) : ∃ q : Fin n × Fin 8, j ∈ blkSet q.1 q.2 := let ⟨i, k, h⟩ := blk_all j; ⟨(i, k), h⟩

/-! ## A side at rest -/

abbrev anyP (c : Dev nD) {sp : Space} {s : Shape} {e : EltTy} (M : Memref sig .tc sp s e) : sProp 𝕄 := iprop(∃ x : s.Idx → Elt F e, ptOn c M Finset.univ x)

variable (σ : Side) (xH : (S3 9).Idx → Elt F .bf16) (G : (S3 9).Idx → Elt F .fp8e4m3)

theorem homes_eq : (bigSep Finset.univ fun k => bigSep Finset.univ fun b => home c σ xH b k) = (ptOn c σ.H Finset.univ xH : sProp 𝕄) := by
  have h := ptOn_pieces (c := c) σ.H (fun q : Fin 8 × Fin 9 => blkSet q.2 q.1) home_disjoint home_all xH
  rw [bigSep_univ_prod] at h
  exact h.symm

theorem gone_eq : (bigSep Finset.univ fun k => bigSep Finset.univ fun b => Call c σ G 9 b k) = (ptOn c σ.C Finset.univ G : sProp 𝕄) := by
  have h := ptOn_pieces (c := c) σ.C (fun q : Fin 8 × Fin 9 => blkSet q.2 q.1) home_disjoint home_all G
  rw [bigSep_univ_prod] at h
  exact Eq.trans (bigSep_congr fun k _ => bigSep_congr fun b _ => if_pos b.isLt) h.symm

theorem free_in : anyP c σ.C ⊢ (bigSep Finset.univ fun k => bigSep Finset.univ fun b => Call c σ G 0 b k : sProp 𝕄) := by
  have h := any_pieces (c := c) (F := F) σ.C (fun q : Fin 8 × Fin 9 => blkSet q.2 q.1) home_disjoint home_all
  rw [bigSep_univ_prod] at h
  exact h.trans (entails_of_eq (bigSep_congr fun k _ => bigSep_congr fun b _ => (if_neg (Nat.not_lt_zero _)).symm))

theorem slots_in : anyP c σ.B ⊢ (iprop(bigSep Finset.univ (slotAny c σ 0) ∗ bigSep Finset.univ (slotAny c σ 1)) : sProp 𝕄) := by
  have h := any_pieces (c := c) (F := F) σ.B (fun q : Fin 2 × Fin 8 => blkSet q.1 q.2) slot_disjoint slot_all
  rw [bigSep_univ_prod, bigSep_fin_two] at h
  exact h
theorem slots_out (f₀ : Buf (Elt F) (σ.B.view.loc (c : Thread nD τ))) : iprop(bigSep Finset.univ (slotAny c σ 0) ∗ bigSep Finset.univ (slotAny c σ 1)) ⊢ (anyP c σ.B : sProp 𝕄) := by
  have h := any_whole (c := c) (F := F) σ.B (fun q : Fin 2 × Fin 8 => blkSet q.1 q.2) slot_disjoint slot_all f₀
  rw [bigSep_univ_prod, bigSep_fin_two] at h
  exact h
theorem outs_in : anyP c σ.O ⊢ (bigSep Finset.univ (outAny c σ) : sProp 𝕄) := any_pieces σ.O outSet out_disjoint out_all
theorem outs_out (f₀ : Buf (Elt F) (σ.O.view.loc (c : Thread nD τ))) : bigSep Finset.univ (outAny c σ) ⊢ (anyP c σ.O : sProp 𝕄) := any_whole σ.O outSet out_disjoint out_all f₀

theorem two (A B : Fin 8 → sProp 𝕄) : (bigSep Finset.univ (fun k => iprop(A k ∗ B k)) : sProp 𝕄) = iprop(bigSep Finset.univ A ∗ bigSep Finset.univ B) := bigSep_sep _ _ _

theorem ins_eq : bigSep Finset.univ (IN c σ xH 9) = (iprop((bigSep Finset.univ (slotAny c σ 1) ∗ bigSep Finset.univ (sIn c σ 1)) ∗ bigSep Finset.univ (slotAny c σ 0)
    ∗ bigSep Finset.univ (sIn c σ 0) ∗ ptOn c σ.H Finset.univ xH) : sProp 𝕄) := by
  rw [← homes_eq, ← two, ← two, ← two, ← two]
  exact bigSep_congr fun k _ => dif_neg (by omega)

theorem goes_eq (n : ℕ) : bigSep Finset.univ (OUTf c σ G n) = (iprop(bigSep Finset.univ (outAny c σ) ∗ bigSep Finset.univ (sOut c σ)
    ∗ bigSep Finset.univ fun k => bigSep Finset.univ fun b => Call c σ G n b k) : sProp 𝕄) := by
  rw [← two, ← two]
  exact bigSep_congr fun k _ => rfl

/-- What a side holds while none of its blocks is on its way, the first `n` of the finished ones being home. -/
def Rest (c : Dev nD) (σ : Side) (xH : (S3 9).Idx → Elt F .bf16) (G : (S3 9).Idx → Elt F .fp8e4m3) (n : ℕ) : sProp 𝕄 := iprop(bigSep Finset.univ (IN c σ xH 9) ∗ bigSep Finset.univ (OUTf c σ G n))
/-- A side's semaphores at zero. -/
def Sems (c : Dev nD) (σ : Side) : sProp 𝕄 := iprop((bigSep Finset.univ (sIn c σ 0) ∗ bigSep Finset.univ (sIn c σ 1)) ∗ bigSep Finset.univ (sOut c σ))

theorem rest_in : iprop(ptOn c σ.H Finset.univ xH ∗ anyP c σ.B ∗ anyP c σ.O ∗ anyP c σ.C ∗ Sems c σ) ⊢ (Rest c σ xH G 0 : sProp 𝕄) := by
  unfold Rest Sems
  rw [ins_eq, goes_eq]
  iintro ⟨H1, H2, H3, H4, ⟨H5, H6⟩, H7⟩
  ihave H2 := (slots_in σ) $$ H2
  icases H2 with ⟨H20, H21⟩
  ihave H3 := (outs_in σ) $$ H3
  ihave H4 := (free_in σ G) $$ H4
  isplitl [H1 H20 H21 H5 H6]
  · isplitl [H21 H6]
    · isplitl [H21]; · iexact H21
      iexact H6
    isplitl [H20]; · iexact H20
    isplitl [H5]; · iexact H5
    iexact H1
  isplitl [H3]; · iexact H3
  isplitl [H7]; · iexact H7
  iexact H4

theorem rest_out : Rest c σ xH G 9 ⊢ (iprop(ptOn c σ.H Finset.univ xH ∗ anyP c σ.B ∗ anyP c σ.O ∗ ptOn c σ.C Finset.univ G ∗ Sems c σ) : sProp 𝕄) := by
  unfold Rest Sems
  rw [ins_eq, goes_eq, gone_eq]
  iintro ⟨⟨⟨H21, H6⟩, H20, H5, H1⟩, H3, H7, H4⟩
  isplitl [H1]; · iexact H1
  isplitl [H20 H21]
  · iapply (slots_out σ (σ.B.view.rep fun _ => Scalar.ofBits .bf16 0x0000#16))
    isplitl [H20]; · iexact H20
    iexact H21
  isplitl [H3]
  · iapply (outs_out σ (σ.O.view.rep fun _ => Scalar.ofBits .fp8e4m3 0x00#8)) $$ H3
  isplitl [H4]; · iexact H4
  isplitl [H5 H6]
  · isplitl [H5]; · iexact H5
    iexact H6
  iexact H7

/-! ## The semaphores -/

/-- The kernel's own semaphores. -/
abbrev KSem : Type := (Fin 2 × Fin 2 × Fin 8) ⊕ (Fin 2 × Fin 8)
abbrev osem : KSem → SemLoc sig := Sum.elim (fun q => inSem q.1 q.2.1 q.2.2) (fun q => outSem q.1 q.2)

theorem sems_eq : Pipeline.ownSems0 (Ix := Unit) (Name := ℕ) (U := UU nD τ) (Lvl := ℕ) (Val := Elt F) (τ := τ) osem c = (iprop(Sems c sideK ∗ Sems c sideV) : sProp 𝕄) := by
  unfold Pipeline.ownSems0 Sems
  rw [bigSep_univ_sum, bigSep_univ_prod, bigSep_univ_prod, bigSep_fin_two, bigSep_fin_two, bigSep_univ_prod, bigSep_univ_prod, bigSep_fin_two, bigSep_fin_two]
  have e : ∀ A B C D : sProp 𝕄, iprop((A ∗ B) ∗ C ∗ D) = iprop((A ∗ C) ∗ B ∗ D) := fun A B C D => by ac_rfl
  exact e _ _ _ _
theorem ownSemFacts : Pipeline.OwnSemFacts spec0 osem := by decide +kernel

end Cert.Proof.KernelIdeal

end
-- ==== Proof.KI.Launch.lean ====
/- The launch: the region inside the whole program. -/
module

public import proofs.«01_k».proof.Proof.KI.Parts
public import proofs.«01_k».proof.Proof.Gen.KernelIdeal.Frame
public import Idealize.ShloMosaic.Lib.Pipeline.FrameSuffixV
public import proofs.«01_k».proof.Defs

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (Flight)

variable {F : FTy → Type} [FloatOps F]

local notation "𝕄" => MT nD τ sig Unit (Elt F) ℕ (UU nD τ) ℕ

open Idealize.ShloMosaic.Pipeline (Dat Cfg Window BodyObligation cellOf)
variable {c : Dev nD}

/-! ## Whole memrefs and their buffers -/

section
variable {sp : Space} {s : Shape} {e : EltTy} (M : Memref sig .tc sp s e) (hM : M.IsWhole)
include hM

theorem whole_univ : M.view.setOn Finset.univ = Finset.univ := hM.set_eq_univ

theorem ptOn_whole (f : Buf (Elt F) (M.view.loc (c : Thread nD τ))) (x : s.Idx → Elt F e) (h : M.view.read (Elt F) f = x) :
    (M.view.loc (c : Thread nD τ) ↦{fullShare} f) = (ptOn c M Finset.univ x : sProp 𝕄) := by
  rw [← ptOn_of (c := c) (M := M) (R := Finset.univ) f (fun i _ => congrFun h i), whole_univ M hM]

theorem anyP_in : iprop(∃ f : Buf (Elt F) (M.view.loc (c : Thread nD τ)), M.view.loc (c : Thread nD τ) ↦{fullShare} f) ⊢ (anyP c M : sProp 𝕄) := by
  iintro ⟨%f, H⟩
  iexists (M.view.read (Elt F) f)
  iapply (entails_of_eq (ptOn_whole M hM f _ rfl)) $$ H

theorem anyP_out : anyP c M ⊢ (iprop(∃ f : Buf (Elt F) (M.view.loc (c : Thread nD τ)), M.view.loc (c : Thread nD τ) ↦{fullShare} f) : sProp 𝕄) := by
  iintro ⟨%x, H⟩
  iexists (M.view.rep x)
  iapply (entails_of_eq (ptOn_whole M hM (M.view.rep x) x (View.read_rep _ _)).symm) $$ H

omit hM in
/-- What the pipeline hands over of a staging buffer. -/
theorem owned_in (x : s.Idx → Elt F e) : iprop(∃ f : Buf (Elt F) (M.view.loc (c : Thread nD τ)), ⌜M.view.read (Elt F) f = x⌝ ∗ (M.view.loc (c : Thread nD τ) ↦[M.view.set]{fullShare} f)) ⊢ (ptOn c M Finset.univ x : sProp 𝕄) := by
  iintro ⟨%f, %h, H⟩
  have e := ptOn_of (c := c) (M := M) (R := Finset.univ) f (fun i _ => congrFun h i)
  rw [View.setOn_univ] at e
  iapply (entails_of_eq e) $$ H

omit hM in
theorem owned_out (x : s.Idx → Elt F e) : ptOn c M Finset.univ x ⊢ (iprop(∃ f : Buf (Elt F) (M.view.loc (c : Thread nD τ)), ⌜M.view.read (Elt F) f = x⌝ ∗ (M.view.loc (c : Thread nD τ) ↦[M.view.set]{fullShare} f)) : sProp 𝕄) := by
  iintro H
  iexists (M.view.rep x)
  isplitr
  · ipureintro; exact View.read_rep _ _
  have e := ptOn_of (c := c) (M := M) (R := Finset.univ) (M.view.rep x) (fun i _ => congrFun (View.read_rep M.view x) i)
  rw [View.setOn_univ] at e
  iapply (entails_of_eq e.symm) $$ H
end

/-- What the kernel holds besides the staged blocks, at given arrays and results. -/
def StayAt (c : Dev nD) (xK xV : (S3 9).Idx → Elt F .bf16) (rK rV : (S3 9).Idx → Elt F .fp8e4m3) (n : ℕ) : sProp 𝕄 :=
  iprop(Rest c sideK xK rK n ∗ Rest c sideV xV rV n ∗ anyP c cB ∗ anyP c sB ∗ anyP c yB ∗ anyP c nB)

/-! ## The proof data -/

section Launch

variable (m : (ℓ : Loc nD τ sig) → Buf (Elt F) ℓ) (ρ : Dev nD → PrngReg)

/-- The keys and the values as the region finds them. -/
def xK (c : Dev nD) : (S3 9).Idx → Elt F .bf16 := kH.view.read (Elt F) (V m c main_v17)
def xV (c : Dev nD) : (S3 9).Idx → Elt F .bf16 := vH.view.read (Elt F) (V m c main_v20)
/-- The start positions and the frequencies. -/
abbrev st (c : Dev nD) : S9.Idx → Elt F .i32 := iblk m c 0 t0_0
abbrev fr (c : Dev nD) : S1x128.Idx → Elt F .f32 := iblk m c 1 t0_0

/-- The four results the region leaves. -/
def rKc (c : Dev nD) : (S3 9).Idx → Elt F .fp8e4m3 := GKc (st m c) (fr m c) (xK m c)
def rKs (c : Dev nD) : S9x8x128.Idx → Elt F .f32 := GKs (st m c) (fr m c) (xK m c)
def rVc (c : Dev nD) : (S3 9).Idx → Elt F .fp8e4m3 := GVc (xV m c)
def rVs (c : Dev nD) : S9x8x128.Idx → Elt F .f32 := GVs (xV m c)

/-- What the kernel holds besides the staged blocks: at the region's entry (`n = 0`) and at its end (`n = 9`). -/
def Stay (c : Dev nD) (n : ℕ) : sProp 𝕄 := StayAt c (xK m c) (xV m c) (rKc m c) (rVc m c) n

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => rKs m c
    | ⟨3, _⟩ => rVs m c
  Φ t := Stay m c (9 * t.val)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = rKs m c := by dsimp only [dats]
theorem after_w3 (c : Dev nD) (t : Fin cfg0.N) : (dats m 0 c).after 3 t = rVs m c := by dsimp only [dats]

/-! ## The body obligation -/

/-- The kernel on the blocks of a point. -/
abbrev bodyG (arg0 : Memref sig .tc .smem S9 .i32) (harg0 : arg0.IsWhole) (arg1 : Memref sig .tc .vmem S1x128 .f32) (harg1 : arg1.IsWhole) (arg5 : Memref sig .tc .vmem S9x8x128 .f32) (harg5 : arg5.IsWhole)
    (arg7 : Memref sig .tc .vmem S9x8x128 .f32) (harg7 : arg7.IsWhole) : Prog (TpuEff nD τ sig (Elt F) Λ₀ .tc) PUnit :=
  cc0_rope_fp8_kv arg0 harg0 arg1 harg1 kH (Memref.isWhole_whole _) vH (Memref.isWhole_whole _) kcH (Memref.isWhole_whole _) arg5 harg5
      vcH (Memref.isWhole_whole _) arg7 harg7 kB (Memref.isWhole_whole _) vB (Memref.isWhole_whole _) kO (Memref.isWhole_whole _) vO (Memref.isWhole_whole _)
      cB (Memref.isWhole_whole _) sB (Memref.isWhole_whole _) yB (Memref.isWhole_whole _) nB (Memref.isWhole_whole _)
      cc0_scratch8 cc0_scratch9

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl

theorem prog_eq : (defs₀ (F := F)) .tc cfg0.body (cfg0.bodyArgs t0_0 (cfg0.slots t0_0))
    = bodyG (stage0_0 0) (hstage0_0 0) (stage0_1 0) (hstage0_1 0) (stage0_2 0) (hstage0_2 0) (stage0_3 0) (hstage0_3 0) :=
  (congrFun defs_tc _).trans rfl

section
variable (st : S9.Idx → Elt F .i32) (fr : S1x128.Idx → Elt F .f32) (xK xV : (S3 9).Idx → Elt F .bf16)

/-- What the region holds, regrouped. -/
theorem stay_eq (rK rV : (S3 9).Idx → Elt F .fp8e4m3) (n : ℕ) (a0 a1 a5 a7 : sProp 𝕄) :
    (Held (insK c xK 9) (ow F c) (anyP c cB) (anyP c sB) (anyP c yB) (anyP c nB) a0 a1 a5 a7 (insV c xV 9) (bigSep Finset.univ (OUTf c sideK rK n)) (bigSep Finset.univ (OUTf c sideV rV n)) : sProp 𝕄)
      = iprop(StayAt c xK xV rK rV n ∗ ow F c ∗ a0 ∗ a1 ∗ a5 ∗ a7) := by
  unfold Held StayAt Rest insV insK
  generalize (bigSep Finset.univ (OUTf c sideK rK n) : sProp 𝕄) = A1
  generalize (bigSep Finset.univ (OUTf c sideV rV n) : sProp 𝕄) = A2
  generalize (bigSep Finset.univ (IN c sideK xK 9) : sProp 𝕄) = A3
  generalize (bigSep Finset.univ (IN c sideV xV 9) : sProp 𝕄) = A4
  generalize (anyP c cB : sProp 𝕄) = A5
  generalize (anyP c sB : sProp 𝕄) = A6
  generalize (anyP c yB : sProp 𝕄) = A7
  generalize (anyP c nB : sProp 𝕄) = A8
  generalize (ow F c : sProp 𝕄) = A9
  ac_rfl

/-- The region between what the pipeline hands over and what it takes back. -/
theorem Runs.staged (arg0 : Memref sig .tc .smem S9 .i32) (harg0 : arg0.IsWhole) (arg1 : Memref sig .tc .vmem S1x128 .f32) (harg1 : arg1.IsWhole) (arg5 : Memref sig .tc .vmem S9x8x128 .f32) (harg5 : arg5.IsWhole)
    (arg7 : Memref sig .tc .vmem S9x8x128 .f32) (harg7 : arg7.IsWhole) :
    Runs c iprop(StayAt c xK xV (GKc st fr xK) (GVc xV) 0 ∗ ow F c ∗ ptOn c arg0 Finset.univ st ∗ ptOn c arg1 Finset.univ fr ∗ anyP c arg5 ∗ anyP c arg7)
      (bodyG arg0 harg0 arg1 harg1 arg5 harg5 arg7 harg7) ⟨⟩
      iprop(StayAt c xK xV (GKc st fr xK) (GVc xV) 9 ∗ ow F c ∗ ptOn c arg0 Finset.univ st ∗ ptOn c arg1 Finset.univ fr ∗ ptOn c arg5 Finset.univ (GKs st fr xK) ∗ ptOn c arg7 Finset.univ (GVs xV)) := by
  rw [← stay_eq, ← stay_eq]
  refine (Runs.region (c := c) arg0 harg0 arg1 harg1 arg5 harg5 arg7 harg7 st fr xK xV).conseq ?_ ?_
  · unfold Held
    exact BIClass.sep_mono .rfl (BIClass.sep_mono .rfl (BIClass.sep_mono .rfl (BIClass.sep_mono .rfl (BIClass.sep_mono .rfl (BIClass.sep_mono .rfl (BIClass.sep_mono .rfl (BIClass.sep_mono (known_of fr fun _ _ => rfl) .rfl)))))))
  · unfold Held
    exact BIClass.sep_mono .rfl (BIClass.sep_mono .rfl (BIClass.sep_mono .rfl (BIClass.sep_mono .rfl (BIClass.sep_mono .rfl (BIClass.sep_mono .rfl (BIClass.sep_mono .rfl (BIClass.sep_mono (known_full fun _ _ => trivial) .rfl)))))))

end

theorem stay_def (n : ℕ) : Stay m c n = (StayAt c (xK m c) (xV m c) (GKc (st m c) (fr m c) (xK m c)) (GVc (xV m c)) n : sProp 𝕄) := rfl
theorem ow_in (W) : owes (Ix := Unit) (Val := Elt F) (Name := ℕ) (U := UU nD τ) (Lvl := ℕ) (c : Thread nD τ) 0 W ⊢ (ow F c : sProp 𝕄) := by
  unfold ow
  iintro H; iexists W; iexact H

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, after_w0, after_w1, after_w2, after_w3]
  rw [show (dats m 0 c).Φ (Fin.castSucc t0_0) = Stay m c 0 from rfl, show (dats m 0 c).Φ (Fin.succ t0_0) = Stay m c 9 from rfl]
  unfold Dat.owesAt Pipeline.owesWithin
  rw [show (dats m 0 c).owed (Fin.castSucc t0_0) = 0 from rfl, show (dats m 0 c).owed (Fin.succ t0_0) = 0 from rfl]
  unfold owns
  iintro ⟨HS, ⟨%W, -, HW⟩, ⟨%d0, H0⟩, ⟨%d1, H1⟩, ⟨%d2, H2⟩, ⟨%d3, H3⟩⟩
  ihave H0 := (owned_in (c := c) (stage0_0 0) (st m c)) $$ H0
  ihave H1 := (owned_in (c := c) (stage0_1 0) (fr m c)) $$ H1
  ihave H2 := (owned_in (c := c) (stage0_2 0) _) $$ H2
  ihave H3 := (owned_in (c := c) (stage0_3 0) _) $$ H3
  sl_rw [prog_eq]
  have hr := Runs.staged (c := c) (st m c) (fr m c) (xK m c) (xV m c) (stage0_0 0) (hstage0_0 0) (stage0_1 0) (hstage0_1 0) (stage0_2 0) (hstage0_2 0) (stage0_3 0) (hstage0_3 0)
  iapply (hr _)
  isplitl [HS HW H0 H1 H2 H3]
  · isplitl [HS]; · iapply (entails_of_eq (stay_def m 0)) $$ HS
    isplitl [HW]; · iapply (ow_in W) $$ HW
    isplitl [H0]; · iexact H0
    isplitl [H1]; · iexact H1
    isplitl [H2]; · iexists _; iexact H2
    iexists _; iexact H3
  · unfold ow
    iintro ⟨HS, ⟨%W', HW⟩, H0, H1, H2, H3⟩
    isplitl [HS]; · iapply (entails_of_eq (stay_def m 9).symm) $$ HS
    isplitl [HW]
    · iexists W'; isplitr; · ipureintro; exact fun _ _ => Or.inl trivial
      iexact HW
    isplitl [H0]; · iapply (owned_out (c := c) (stage0_0 0) (st m c)) $$ H0
    isplitl [H1]; · iapply (owned_out (c := c) (stage0_1 0) (fr m c)) $$ H1
    isplitl [H2]; · iapply (owned_out (c := c) (stage0_2 0) (GKs (st m c) (fr m c) (xK m c))) $$ H2
    iapply (owned_out (c := c) (stage0_3 0) (GVs (xV m c))) $$ H3

/-! ## The run -/

/-- The buffers the kernel copies its results into, as the region leaves them. -/
def Gout (c : Dev nD) : (b : Ref sig .tc) → Buf (Elt F) ((c : Thread nD τ).loc b) :=
  Function.update (Function.update (V m c) main_v21_0 (kcH.view.rep (rKc m c))) main_v21_2 (vcH.view.rep (rVc m c))
theorem Gout_0 (c : Dev nD) : Gout m c main_v21_0 = kcH.view.rep (rKc m c) := by
  unfold Gout
  rw [Function.update_of_ne (by decide), Function.update_self]
theorem Gout_2 (c : Dev nD) : Gout m c main_v21_2 = vcH.view.rep (rVc m c) := by
  unfold Gout
  rw [Function.update_self]

theorem home_bufs (G : (b : Ref sig .tc) → Buf (Elt F) ((c : Thread nD τ).loc b)) :
    (bigSep ({main_v17, main_v20} : Finset (Ref sig .tc)) fun b => ((c : Thread nD τ).loc b) ↦{fullShare} G b)
      = (iprop(((c : Thread nD τ).loc main_v17 ↦{fullShare} G main_v17) ∗ ((c : Thread nD τ).loc main_v20 ↦{fullShare} G main_v20)) : sProp 𝕄) := by
  rw [bigSep_insert (by decide), bigSep_singleton]; rfl
theorem code_bufs (G : (b : Ref sig .tc) → Buf (Elt F) ((c : Thread nD τ).loc b)) :
    (bigSep ({main_v21_0, main_v21_2} : Finset (Ref sig .tc)) fun b => ((c : Thread nD τ).loc b) ↦{fullShare} G b)
      = (iprop(((c : Thread nD τ).loc main_v21_0 ↦{fullShare} G main_v21_0) ∗ ((c : Thread nD τ).loc main_v21_2 ↦{fullShare} G main_v21_2)) : sProp 𝕄) := by
  rw [bigSep_insert (by decide), bigSep_singleton]; rfl

theorem stay_in (c : Dev nD) : Pipeline.ΦDRV osem spec0 {main_v17, main_v20} {main_v21_0, main_v21_2} (fun c b => V m c b) (fun c b => V m c b) c ⊢ (Stay m c 0 : sProp 𝕄) := by
  unfold Pipeline.ΦDRV Stay StayAt
  rw [scopedRest0_eq, sems_eq, home_bufs, code_bufs]
  iintro ⟨⟨H0, H1, H2, H3, H4, H5, H6, H7⟩, ⟨SK, SV⟩, ⟨HK, HV⟩, CK, CV⟩
  isplitl [H0 H2 SK HK CK]
  · iapply (rest_in (c := c) sideK (xK m c) (rKc m c))
    isplitl [HK]; · iapply (entails_of_eq (ptOn_whole (c := c) kH (Memref.isWhole_whole _) (V m c main_v17) (xK m c) rfl)) $$ HK
    isplitl [H0]; · iapply (anyP_in (c := c) kB (Memref.isWhole_whole _)) $$ H0
    isplitl [H2]; · iapply (anyP_in (c := c) kO (Memref.isWhole_whole _)) $$ H2
    isplitl [CK]
    · iapply (anyP_in (c := c) kcH (Memref.isWhole_whole _))
      iexists _; iexact CK
    iexact SK
  isplitl [H1 H3 SV HV CV]
  · iapply (rest_in (c := c) sideV (xV m c) (rVc m c))
    isplitl [HV]; · iapply (entails_of_eq (ptOn_whole (c := c) vH (Memref.isWhole_whole _) (V m c main_v20) (xV m c) rfl)) $$ HV
    isplitl [H1]; · iapply (anyP_in (c := c) vB (Memref.isWhole_whole _)) $$ H1
    isplitl [H3]; · iapply (anyP_in (c := c) vO (Memref.isWhole_whole _)) $$ H3
    isplitl [CV]
    · iapply (anyP_in (c := c) vcH (Memref.isWhole_whole _))
      iexists _; iexact CV
    iexact SV
  isplitl [H4]; · iapply (anyP_in (c := c) cB (Memref.isWhole_whole _)) $$ H4
  isplitl [H5]; · iapply (anyP_in (c := c) sB (Memref.isWhole_whole _)) $$ H5
  isplitl [H6]; · iapply (anyP_in (c := c) yB (Memref.isWhole_whole _)) $$ H6
  iapply (anyP_in (c := c) nB (Memref.isWhole_whole _)) $$ H7

theorem stay_out (c : Dev nD) : Stay m c 9 ⊢ (Pipeline.ΦDRV osem spec0 {main_v17, main_v20} {main_v21_0, main_v21_2} (fun c b => V m c b) (Gout m) c : sProp 𝕄) := by
  unfold Pipeline.ΦDRV Stay StayAt
  rw [scopedRest0_eq, sems_eq, home_bufs, code_bufs, Gout_0, Gout_2]
  iintro ⟨RK, RV, H4, H5, H6, H7⟩
  ihave RK := (rest_out (c := c) sideK (xK m c) (rKc m c)) $$ RK
  ihave RV := (rest_out (c := c) sideV (xV m c) (rVc m c)) $$ RV
  icases RK with ⟨HK, H0, H2, CK, SK⟩
  icases RV with ⟨HV, H1, H3, CV, SV⟩
  isplitl [H0 H1 H2 H3 H4 H5 H6 H7]
  · isplitl [H0]; · iapply (anyP_out (c := c) kB (Memref.isWhole_whole _)) $$ H0
    isplitl [H1]; · iapply (anyP_out (c := c) vB (Memref.isWhole_whole _)) $$ H1
    isplitl [H2]; · iapply (anyP_out (c := c) kO (Memref.isWhole_whole _)) $$ H2
    isplitl [H3]; · iapply (anyP_out (c := c) vO (Memref.isWhole_whole _)) $$ H3
    isplitl [H4]; · iapply (anyP_out (c := c) cB (Memref.isWhole_whole _)) $$ H4
    isplitl [H5]; · iapply (anyP_out (c := c) sB (Memref.isWhole_whole _)) $$ H5
    isplitl [H6]; · iapply (anyP_out (c := c) yB (Memref.isWhole_whole _)) $$ H6
    iapply (anyP_out (c := c) nB (Memref.isWhole_whole _)) $$ H7
  isplitl [SK SV]
  · isplitl [SK]; · iexact SK
    iexact SV
  isplitl [HK HV]
  · isplitl [HK]; · iapply (entails_of_eq (ptOn_whole (c := c) kH (Memref.isWhole_whole _) (V m c main_v17) (xK m c) rfl).symm) $$ HK
    iapply (entails_of_eq (ptOn_whole (c := c) vH (Memref.isWhole_whole _) (V m c main_v20) (xV m c) rfl).symm) $$ HV
  isplitl [CK]; · iapply (entails_of_eq (ptOn_whole (c := c) kcH (Memref.isWhole_whole _) (kcH.view.rep (rKc m c)) (rKc m c) (View.read_rep _ _)).symm) $$ CK
  iapply (entails_of_eq (ptOn_whole (c := c) vcH (Memref.isWhole_whole _) (vcH.view.rep (rVc m c)) (rVc m c) (View.read_rep _ _)).symm) $$ CV

set_option maxHeartbeats 800000 in
theorem hmainU : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A core's buffers where the host lines after the region begin. -/
def Vmid (c : Dev nD) : Valuation τ sig (Elt F) :=
  Pipeline.withArrays spec0 c (Pipeline.withR (V0 m c) {main_v21_0, main_v21_2} c (Gout m c)) fun w => (dats m 0 c).arrAt w cfg0.N

/-- Every way of running the program ends, with every array and every other buffer of the core as computed here, every semaphore at zero. -/
theorem run_main : θ_run defs (onTc (τ := τ) (main (F := F))) (s₀ m ρ) (fun r => (∀ c : Dev nD,
    (∀ w, r.2.mem (((cfg0).spec w).arr.view.loc (c : Thread nD τ)) = (dats m 0 c).arrAt w cfg0.N)
      ∧ ∀ b ∈ Pipeline.restRefs sig spec0, r.2.mem ((c : Thread nD τ).loc b) = StableHlo.after ([hostOps1] : List (List (HloOp τ sig (Elt F)))).flatten (Vmid m c) (Proc.devRef .tc b))
    ∧ r.2.sem = fun _ => 0) :=
  Pipeline.θ_run_frame_dmaR_aroundV cfgs (dats m) (0 : Fin 1) launch0 osem defs₀ 𝒱₀ ownSemFacts {main_v17, main_v20} {main_v21_0, main_v21_2}
    (by decide) (by decide) m ρ main
    (fun c => (body_obligation m c).loose) (fun c => (dats m 0 c).share_full fun _ => rfl) (fun _ _ => rfl) (V0 m) [hostOps1]
    sfx_sub sfx_fresh sfx_keeps (Gout m) (hmainU m) (fun _ _ => rfl) (stay_in m) (stay_out m) _ (fun r h => ⟨fun c => ⟨(h.1 c).1, (h.1 c).2⟩, h.2⟩)

/-! ## The arguments -/

theorem hostOps1_keeps (b : Ref sig .tc) (h22 : b ≠ main_v22) (h23 : b ≠ main_v23) (h24 : b ≠ main_v24) (h25 : b ≠ main_v25) (h26 : b ≠ main_v26) (h27 : b ≠ main_v27) :
    ∀ op ∈ ([hostOps1] : List (List (HloOp τ sig (Elt F)))).flatten, Proc.devRef .tc b ∉ op.writes := List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals first | exact StableHlo.devRef_ne_of_ne h22 | exact StableHlo.devRef_ne_of_ne h23 | exact StableHlo.devRef_ne_of_ne h24 | exact StableHlo.devRef_ne_of_ne h25 | exact StableHlo.devRef_ne_of_ne h26 | exact StableHlo.devRef_ne_of_ne h27)

/-- A buffer neither the region nor the host lines after it write is as the region found it. -/
theorem after_kept (c : Dev nD) (b : Ref sig .tc) (h22 : b ≠ main_v22) (h23 : b ≠ main_v23) (h24 : b ≠ main_v24) (h25 : b ≠ main_v25) (h26 : b ≠ main_v26) (h27 : b ≠ main_v27)
    (hw : ∀ w, Pipeline.arrRef spec0 w ≠ b) (hR : b ∉ ({main_v21_0, main_v21_2} : Finset (Ref sig .tc))) :
    StableHlo.after ([hostOps1] : List (List (HloOp τ sig (Elt F)))).flatten (Vmid m c) (Proc.devRef .tc b) = V m c b := by
  rw [StableHlo.after_of_forall_not_mem (b := Proc.devRef .tc b) _ _ (hostOps1_keeps b h22 h23 h24 h25 h26 h27)]
  unfold Vmid
  rw [Pipeline.withArrays_of_ne _ c _ _ b hw, Pipeline.withR_of_not_mem _ _ _ _ b hR]

theorem args_kept (r : PUnit × MemSt nD τ sig (Elt F)) (c : Dev nD) (h : (∀ w, r.2.mem (((cfg0).spec w).arr.view.loc (c : Thread nD τ)) = (dats m 0 c).arrAt w cfg0.N)
      ∧ ∀ b ∈ Pipeline.restRefs sig spec0, r.2.mem ((c : Thread nD τ).loc b) = StableHlo.after ([hostOps1] : List (List (HloOp τ sig (Elt F)))).flatten (Vmid m c) (Proc.devRef .tc b)) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) := by
  refine ⟨?_, ?_, ?_⟩
  · exact ((h.2 main_arg0 (Pipeline.mem_restRefs_of main_arg0 (by decide) (by decide))).trans
      (after_kept m c main_arg0 (by decide) (by decide) (by decide) (by decide) (by decide) (by decide) (by decide) (by decide))).trans (V_main_arg0 m c)
  · exact ((h.2 main_arg1 (Pipeline.mem_restRefs_of main_arg1 (by decide) (by decide))).trans
      (after_kept m c main_arg1 (by decide) (by decide) (by decide) (by decide) (by decide) (by decide) (by decide) (by decide))).trans (V_main_arg1 m c)
  · exact ((h.1 0).trans ((dats m 0 c).arrAt_in 0 rfl _)).trans (V_main_arg2 m c)

end Launch

/-- The frame claim. -/
theorem frame : Cert.quiescent_KernelIdeal := fun m ρ _ =>
  (θ_run defs _ _).mono (fun r hh => ⟨fun c => args_kept m r c (hh.1 c), hh.2⟩) (run_main (F := Ideal) m ρ)

end Cert.Proof.KernelIdeal

end
-- ==== Proof.Val.Scale.lean ====
/- The scale of a head as a function of its largest magnitude, over the extended reals. -/
module

public import Idealize.ShloMosaic.Lib.Pointwise

@[expose] public section

noncomputable section

namespace Cert.Proof.Val

open Idealize.ShloMosaic

/-- The power of two that a biased exponent `m` starts at. -/
def pw (m : ℕ) : EReal := (((2 : ℝ) ^ ((m : ℤ) - 127) : ℝ) : EReal)

theorem pw_mono {m n : ℕ} (h : m ≤ n) : pw m ≤ pw n :=
  EReal.coe_le_coe_iff.2 (zpow_le_zpow_right₀ (by norm_num) (by omega))

open Classical in
/-- The biased exponent: how many of the powers are at most `x`. -/
def lv (x : EReal) : ℕ := ((Finset.range 255).filter fun j => pw (j + 1) ≤ x).card

theorem lv_le (x : EReal) : lv x ≤ 255 := by
  classical
  exact (Finset.card_filter_le _ _).trans (by simp)

/-- The powers at most `x` are the first ones. -/
theorem le_lv_iff (x : EReal) (j : ℕ) (hj : j < 255) : pw (j + 1) ≤ x ↔ j < lv x := by
  classical
  constructor
  · intro h
    have : Finset.range (j + 1) ⊆ (Finset.range 255).filter fun i => pw (i + 1) ≤ x := by
      intro i hi
      have hi' := Finset.mem_range.1 hi
      exact Finset.mem_filter.2 ⟨Finset.mem_range.2 (by omega), (pw_mono (by omega)).trans h⟩
    have hc := Finset.card_le_card this
    rw [Finset.card_range] at hc
    exact hc
  · intro h
    by_contra hn
    have : ((Finset.range 255).filter fun i => pw (i + 1) ≤ x) ⊆ Finset.range j := by
      intro i hi
      obtain ⟨_, h2⟩ := Finset.mem_filter.1 hi
      by_contra hc
      exact hn ((pw_mono (by have := Finset.mem_range.not.1 hc; omega)).trans h2)
    have hc := Finset.card_le_card this
    rw [Finset.card_range] at hc
    exact absurd h (by unfold lv; omega)

/-- The exponent of the scale. -/
def ex (x : EReal) : ℤ := if lv x = 0 ∨ lv x = 255 then 0 else (lv x : ℤ) - 126
/-- The scale. -/
def sc (x : EReal) : ℝ := (2 : ℝ) ^ ex x

theorem sc_pos (x : EReal) : 0 < sc x := zpow_pos (by norm_num) _

/-! ## The search by halving -/

theorem exp2_int (n : ℤ) : Ideal.exp2 ((n : ℝ) : EReal) = (((2 : ℝ) ^ n : ℝ) : EReal) := by
  rw [Ideal.exp2_coe]
  congr 1
  exact Real.rpow_intCast 2 n

theorem pow_two_int (n : ℤ) : Ideal.pow ((2 : ℝ) : EReal) ((n : ℝ) : EReal) = (((2 : ℝ) ^ n : ℝ) : EReal) := by
  show ((Real.rpow 2 n : ℝ) : EReal) = _
  congr 1
  exact Real.rpow_intCast 2 n

/-- One step of the search. -/
def hstep (x : EReal) (n s : BitVec 32) : BitVec 32 :=
  Scalar.select (Ideal.cmp .oge x (Ideal.exp2 ((((n + s - 127#32).toInt : ℤ) : ℝ) : EReal))) (n + s) n

def Found (x : EReal) (s : ℕ) (n : BitVec 32) : Prop := ∃ k : ℕ, n = BitVec.ofNat 32 k ∧ k ≤ lv x ∧ lv x < k + s ∧ k + s ≤ 256

theorem Found.step {x : EReal} {s : ℕ} {n : BitVec 32} (h : Found x (2 * s) n) (hs : 0 < s) (hs' : s ≤ 128) :
    Found x s (hstep x n (BitVec.ofNat 32 s)) := by
  obtain ⟨k, rfl, h1, h2, h4⟩ := h
  have h3 := lv_le x
  have e1 : BitVec.ofNat 32 k + BitVec.ofNat 32 s = BitVec.ofNat 32 (k + s) := by
    rw [BitVec.ofNat_add]
  have e2 : (BitVec.ofNat 32 (k + s) - 127#32).toInt = ((k + s : ℕ) : ℤ) - 127 := by
    rw [BitVec.toInt_sub, BitVec.toInt_ofNat', show (127#32).toInt = 127 from by decide]
    simp only [Int.bmod]
    omega
  unfold hstep
  rw [e1, e2, exp2_int]
  by_cases hc : pw (k + s) ≤ x
  · refine ⟨k + s, ?_, ?_, by omega, by omega⟩
    · have : Ideal.cmp .oge x (pw (k + s)) = 1#1 := by simp [Ideal.cmp, hc]
      unfold pw at this
      rw [this]; rfl
    · have := (le_lv_iff x (k + s - 1) (by omega)).1 (by rw [Nat.sub_add_cancel (by omega)]; exact hc)
      omega
  · refine ⟨k, ?_, h1, ?_, by omega⟩
    · have : Ideal.cmp .oge x (pw (k + s)) = 0#1 := by simp [Ideal.cmp, hc]
      unfold pw at this
      rw [this]; rfl
    · by_contra hn
      exact hc (by
        have := (le_lv_iff x (k + s - 1) (by omega)).2 (by omega)
        rwa [Nat.sub_add_cancel (by omega)] at this)

/-- The whole search. -/
theorem search (x : EReal) :
    hstep x (hstep x (hstep x (hstep x (hstep x (hstep x (hstep x (hstep x 0#32 128#32) 64#32) 32#32) 16#32) 8#32) 4#32) 2#32) 1#32
      = BitVec.ofNat 32 (lv x) := by
  have h0 : Found x (2 * 128) 0#32 := ⟨0, rfl, Nat.zero_le _, by have := lv_le x; omega, by omega⟩
  obtain ⟨k, hk, h1, h2, _⟩ := ((((((((h0.step (by omega) (by omega)).step (s := 64) (by omega) (by omega)).step (s := 32)
    (by omega) (by omega)).step (s := 16) (by omega) (by omega)).step (s := 8) (by omega) (by omega)).step (s := 4)
    (by omega) (by omega)).step (s := 2) (by omega) (by omega)).step (s := 1) (by omega) (by omega))
  rw [hk]
  congr 1
  omega

/-- The exponent that is selected from what the search finds. -/
def esel (n : BitVec 32) : BitVec 32 :=
  Scalar.select (IntOp.cmpi .eq n 0#32 ||| IntOp.cmpi .eq n 255#32) 0#32 (n - 126#32)

theorem esel_toInt (x : EReal) : (esel (BitVec.ofNat 32 (lv x))).toInt = ex x := by
  have h := lv_le x
  unfold ex
  generalize lv x = k at h ⊢
  interval_cases k <;> decide

theorem esel_neg_toInt (x : EReal) : (0#32 - esel (BitVec.ofNat 32 (lv x))).toInt = - ex x := by
  have h := lv_le x
  unfold ex
  generalize lv x = k at h ⊢
  interval_cases k <;> decide

theorem exp2_esel (x : EReal) : Ideal.exp2 ((((esel (BitVec.ofNat 32 (lv x))).toInt : ℤ) : ℝ) : EReal) = (sc x : EReal) := by
  rw [esel_toInt, exp2_int]; rfl
theorem exp2_esel_neg (x : EReal) : Ideal.exp2 ((((0#32 - esel (BitVec.ofNat 32 (lv x))).toInt : ℤ) : ℝ) : EReal) = ((sc x)⁻¹ : ℝ) := by
  rw [esel_neg_toInt, exp2_int, zpow_neg]; rfl

/-! ## The count of powers -/

theorem count_lv (x : EReal) : (∑ j : Fin 255, if pw (j.val + 1) ≤ x then (1 : EReal) else 0) = ((lv x : ℝ) : EReal) := by
  classical
  rw [← Finset.sum_range (fun j => if pw (j + 1) ≤ x then (1 : EReal) else 0), Finset.sum_ite, Finset.sum_const_zero, add_zero, Finset.sum_const, nsmul_one]
  exact (EReal.coe_natCast).symm

/-! ## Constants -/

theorem c_448 : Ideal.ofBits .f32 0x43E00000#32 = ((448 : ℝ) : EReal) := by
  simp [Ideal.ofBits, Ideal.ieee, -EReal.coe_mul]; norm_num
theorem c_neg448 : Ideal.ofBits .f32 0xC3E00000#32 = ((-448 : ℝ) : EReal) := by
  simp [Ideal.ofBits, Ideal.ieee, -EReal.coe_mul]; norm_num

/-! ## Clipping -/

/-- A code: `x` over the scale, clipped. -/
def code (s : ℝ) (x : EReal) : EReal := min (max (x * ((s⁻¹ : ℝ) : EReal)) ((-448 : ℝ) : EReal)) ((448 : ℝ) : EReal)

theorem mul_mono_pos {t : ℝ} (ht : 0 < t) : Monotone fun x : EReal => x * (t : EReal) := by
  intro a b h
  exact mul_le_mul_of_nonneg_right h (EReal.coe_nonneg.2 ht.le)

/-- Clipping at the scaled bounds first. -/
theorem code_clip {s : ℝ} (hs : 0 < s) (x : EReal) :
    ((s⁻¹ : ℝ) : EReal) * min (max x (0 - (s : EReal) * ((448 : ℝ) : EReal))) ((s : EReal) * ((448 : ℝ) : EReal)) = code s x := by
  have hi : 0 < s⁻¹ := inv_pos.2 hs
  have m := mul_mono_pos hi
  have e1 : (s : EReal) * ((448 : ℝ) : EReal) * ((s⁻¹ : ℝ) : EReal) = ((448 : ℝ) : EReal) := by
    rw [← EReal.coe_mul, ← EReal.coe_mul]
    congr 1
    field_simp
  have e2 : (0 - (s : EReal) * ((448 : ℝ) : EReal)) * ((s⁻¹ : ℝ) : EReal) = ((-448 : ℝ) : EReal) := by
    rw [← EReal.coe_mul, zero_sub, ← EReal.coe_neg, ← EReal.coe_mul]
    congr 1
    field_simp
  have h1 := m.map_min (a := max x (0 - (s : EReal) * ((448 : ℝ) : EReal))) (b := (s : EReal) * ((448 : ℝ) : EReal))
  have h2 := m.map_max (a := x) (b := 0 - (s : EReal) * ((448 : ℝ) : EReal))
  rw [mul_comm, h1, h2, e1, e2]
  rfl

theorem div_sc {s : ℝ} (hs : 0 < s) (x : EReal) : Ideal.div x (s : EReal) = x * ((s⁻¹ : ℝ) : EReal) := by
  unfold Ideal.div
  rw [if_neg (by exact_mod_cast hs.ne'), EReal.coe_inv]

/-! ## Magnitudes -/

/-- The magnitude. -/
def ab (x : EReal) : EReal := max x (-x)

theorem ab_nonneg (x : EReal) : 0 ≤ ab x := by
  unfold ab
  rcases le_total 0 x with h | h
  · exact h.trans (le_max_left _ _)
  · exact (EReal.neg_nonneg.2 h).trans (le_max_right _ _)

/-- The largest magnitude of a head. -/
def amax (f : Fin 4096 → Fin 128 → EReal) : EReal := ⨆ t, ⨆ d, ab (f t d)

theorem amax_le (f : Fin 4096 → Fin 128 → EReal) (z : EReal) : amax f ≤ z ↔ ∀ t d, ab (f t d) ≤ z := by
  simp only [amax, iSup_le_iff]

theorem amax_nonneg (f : Fin 4096 → Fin 128 → EReal) : 0 ≤ amax f :=
  (ab_nonneg (f 0 0)).trans ((amax_le f _).1 le_rfl 0 0)

/-- The scale of a head. -/
def hsc (f : Fin 4096 → Fin 128 → EReal) : ℝ := sc (amax f * Ideal.ofBits .f32 0x3B124925#32)

theorem hsc_pos (f : Fin 4096 → Fin 128 → EReal) : 0 < hsc f := sc_pos _

end Cert.Proof.Val

end
-- ==== Proof.Val.Acc.lean ====
/- The largest magnitudes of a block of values or keys. -/
module

public import proofs.«01_k».proof.Proof.KI.Whole
public import proofs.«01_k».proof.Proof.Val.Scale

@[expose] public section

set_option maxRecDepth 16384

noncomputable section

namespace Cert.Proof.Val

open Cert.KernelIdeal Cert.KernelIdeal.Gen Cert.Proof.KernelIdeal
open Idealize.ShloMosaic

/-- One of the four running magnitudes. -/
def acq (A : Acc Ideal) (p : Fin 4) : FVec Ideal S16x128 .bf16 :=
  match p with
  | 0 => A.1
  | 1 => A.2.1
  | 2 => A.2.2.1
  | 3 => A.2.2.2

theorem accOne_le (x : FVec Ideal S256x128 .bf16) (i : Nat) (hi : i ≤ 48) (a : FVec Ideal S16x128 .bf16) (r : Fin 16) (l : Fin 128) (z : EReal) :
    accOne x i hi a (ix2 r l) ≤ z ↔ a (ix2 r l) ≤ z ∧ ∀ q : Fin 4, ab (x (ix2 ⟨64 * q.val + i + r.val, by omega⟩ l)) ≤ z := by
  have e : accOne x i hi a (ix2 r l) = max (max (max (max (a (ix2 r l)) (ab (x (ix2 ⟨i + r.val, by omega⟩ l)))) (ab (x (ix2 ⟨64 + i + r.val, by omega⟩ l))))
      (ab (x (ix2 ⟨128 + i + r.val, by omega⟩ l)))) (ab (x (ix2 ⟨192 + i + r.val, by omega⟩ l))) := by
    pointwise [accOne]
    rfl
  rw [e]
  simp only [max_le_iff, Fin.forall_fin_succ, IsEmpty.forall_iff, and_true, and_assoc]
  simp [Fin.succ]

theorem accBlock_le (x : FVec Ideal S256x128 .bf16) (a : Acc Ideal) (p : Fin 4) (r : Fin 16) (l : Fin 128) (z : EReal) :
    acq (accBlock x a) p (ix2 r l) ≤ z ↔ acq a p (ix2 r l) ≤ z ∧ ∀ q : Fin 4, ab (x (ix2 ⟨64 * q.val + 16 * p.val + r.val, by omega⟩ l)) ≤ z := by
  fin_cases p
  · exact accOne_le x 0 (by omega) a.1 r l z
  · exact accOne_le x 16 (by omega) a.2.1 r l z
  · exact accOne_le x 32 (by omega) a.2.2.1 r l z
  · exact accOne_le x 48 (by omega) a.2.2.2 r l z

theorem foldl_le {α A : Type} (get : A → EReal) (P : α → Prop) (step : A → α → A) (z : EReal)
    (h : ∀ a i, get (step a i) ≤ z ↔ get a ≤ z ∧ P i) (l : List α) (a : A) :
    get (l.foldl step a) ≤ z ↔ get a ≤ z ∧ ∀ i ∈ l, P i := by
  induction l generalizing a with
  | nil => simp
  | cons i l ih => rw [List.foldl_cons, ih, h]; simp only [List.mem_cons, forall_eq_or_imp, and_assoc]

theorem neg_inf : Ideal.ofBits .f32 0xFF800000#32 = (⊥ : EReal) := by
  simp [Ideal.ofBits, Ideal.ieee]

/-- The largest magnitude that the four hold of a head, in a lane. -/
def headMax (A : Acc Ideal) (h : Fin 8) (l : Fin 128) : EReal :=
  Finset.univ.fold max (Ideal.ofBits .f32 0xFF800000#32) fun y : Fin 8 => acq A ⟨h.val / 2, by omega⟩ (ix2 ⟨8 * (h.val % 2) + y.val, by omega⟩ l)

theorem headMax_le (A : Acc Ideal) (h : Fin 8) (l : Fin 128) (z : EReal) :
    headMax A h l ≤ z ↔ ∀ y : Fin 8, acq A ⟨h.val / 2, by omega⟩ (ix2 ⟨8 * (h.val % 2) + y.val, by omega⟩ l) ≤ z := by
  unfold headMax
  rw [Finset.fold_max_le, neg_inf]
  simp

theorem vQ0_at (A : Acc Ideal) (h : Fin 8) (l : Fin 128) :
    vQ0 A (ix2 h l) = (Finset.univ.fold max (Ideal.ofBits .f32 0xFF800000#32) fun x : Fin 128 => headMax A h x) * Ideal.ofBits .f32 0x3B124925#32 := by
  unfold vQ0
  pointwise [k0_pay1414, k0_pay1412, k0_pay1413, k0_pay1411, heads]
  unfold headMax
  fin_cases h <;> rfl

theorem kQ0_at (A : FVec Ideal S8x128 .f32 × Acc Ideal) (h : Fin 8) (l : Fin 128) :
    kQ0 A (ix2 h l) = (Finset.univ.fold max (Ideal.ofBits .f32 0xFF800000#32) fun x : Fin 128 => max (A.1 (ix2 h x)) (headMax A.2 h x)) * Ideal.ofBits .f32 0x3B124925#32 := by
  unfold kQ0 kMax
  pointwise [k0_pay1392, k0_pay1390, k0_pay1391, k0_pay1389, k0_pay1386, k0_pay1387, k0_pay1388, heads]
  unfold headMax
  fin_cases h <;> rfl

/-- One step of the search, everywhere. -/
def vstep (q : FVec Ideal S8x128 .f32) (n : IVec S8x128 32) (s : BitVec 32) : IVec S8x128 32 :=
  select (cmpf .oge q (exp2 (sitofp .f32 (subi (addi n (broadcast S8x128 s)) (broadcast S8x128 127#32))))) (addi n (broadcast S8x128 s)) n
theorem vstep_at (q : FVec Ideal S8x128 .f32) (n : IVec S8x128 32) (s : BitVec 32) (j : S8x128.Idx) : vstep q n s j = hstep (q j) (n j) s := rfl

theorem halving_hi (q : FVec Ideal S8x128 .f32) (j : S8x128.Idx) (a : FVec Ideal S16x128 .bf16) (b : IVec S8x128 32) (c d : FVec Ideal S8x128 .f32) (h : k0_pay1414 a b c d = q) :
    k0_pay1415 a b c d j = hstep (q j) (hstep (q j) 0#32 128#32) 64#32 := by
  have : k0_pay1415 a b c d = vstep q (vstep q (broadcast S8x128 0#32) 128#32) 64#32 := by
    subst h; rfl
  rw [this, vstep_at, vstep_at]
  rfl
theorem halving_lo (q : FVec Ideal S8x128 .f32) (n : IVec S8x128 32) (j : S8x128.Idx) :
    k0_pay1416 q n 32#32 j = hstep (q j) (hstep (q j) (hstep (q j) (hstep (q j) (hstep (q j) (hstep (q j) (n j) 32#32) 16#32) 8#32) 4#32) 2#32) 1#32 := by
  have : k0_pay1416 q n 32#32 = vstep q (vstep q (vstep q (vstep q (vstep q (vstep q n 32#32) 16#32) 8#32) 4#32) 2#32) 1#32 := by
    unfold k0_pay1416 vstep; rfl
  rw [this, vstep_at, vstep_at, vstep_at, vstep_at, vstep_at, vstep_at]

theorem vE_at (A : Acc Ideal) (j : S8x128.Idx) : vE A j = BitVec.ofNat 32 (lv (vQ0 A j)) := by
  refine Eq.trans ?_ (search _)
  unfold vE
  rw [halving_lo]
  unfold vQ1
  rw [halving_hi (vQ0 A) j _ _ _ _ rfl]

theorem vIn_at (A : Acc Ideal) (j : S8x128.Idx) : vIn A j = ((sc (vQ0 A j))⁻¹ : ℝ) := by
  rw [← exp2_esel_neg, ← vE_at]
  rfl
theorem vSc_at (A : Acc Ideal) (j : S8x128.Idx) : k0_pay1418 (F := Ideal) (vE A) 0#32 j = (sc (vQ0 A j) : EReal) := by
  rw [← exp2_esel, ← vE_at]
  rfl
theorem vRw_at (A : Acc Ideal) (h : Fin 8) (l : Fin 128) : vRw A (ix3 0 h l) = (sc (vQ0 A (ix2 h l)) : EReal) := by
  rw [← vSc_at]
  unfold vRw
  pointwise [k0_pay1420]
/-- Two rows of bounds, each eight times. -/
def lim2 (f : FVec Ideal S8x128 .f32) (a : ℕ) (h : S8x128.Slices ![a, 0] S1x128) (h' : S8x128.Slices ![a + 1, 0] S1x128) : FVec Ideal S16x128 .f32 :=
  concatenate S16x128 0 [⟨S8x128, broadcastTo S8x128 (shapeCast S1x128 (extractStridedSlice S1x128 ![a, 0] f h) shapeCasts_S1x128_S1x128) broadcasts_S1x128_S8x128⟩,
    ⟨S8x128, broadcastTo S8x128 (shapeCast S1x128 (extractStridedSlice S1x128 ![a + 1, 0] f h') shapeCasts_S1x128_S1x128) broadcasts_S1x128_S8x128⟩] concatenates_S8x128_S8x128_S16x128_d0

theorem lim2_at (f : FVec Ideal S8x128 .f32) (a : ℕ) (h : S8x128.Slices ![a, 0] S1x128) (h' : S8x128.Slices ![a + 1, 0] S1x128) (ha : a ≤ 6) (r : Fin 16) (l : Fin 128) :
    lim2 f a h h' (ix2 r l) = f (ix2 ⟨a + r.val / 8, by omega⟩ l) := by
  by_cases hr : r.val < 8
  · pointwise [lim2, hr]
    congr 2
    ext
    show a = a + r.val / 8
    omega
  · pointwise [lim2, hr]
    congr 2
    ext
    show a + 1 = a + r.val / 8
    omega

theorem vL_at (A : Acc Ideal) (p : Fin 4) (r : Fin 16) (l : Fin 128) :
    acq (vL A) p (ix2 r l) = (sc (vQ0 A (ix2 ⟨2 * p.val + r.val / 8, by omega⟩ l)) : EReal) * ((448 : ℝ) : EReal) := by
  rw [← vSc_at, ← c_448]
  exact match p with
  | 0 => lim2_at (k0_pay1421 (vE A) 0#32) 0 _ _ (by omega) r l
  | 1 => lim2_at (k0_pay1421 (vE A) 0#32) 2 _ _ (by omega) r l
  | 2 => lim2_at (k0_pay1421 (vE A) 0#32) 4 _ _ (by omega) r l
  | 3 => lim2_at (k0_pay1421 (vE A) 0#32) 6 _ _ (by omega) r l

/-! ## The same for the keys -/

theorem kE_at (q : FVec Ideal S8x128 .f32) (j : S8x128.Idx) (a b : FVec Ideal S8x128 .f32) (c : IVec S8x128 1) (d : FVec Ideal S1x128 .f32) (h : k0_pay1392 a b c d = q) :
    k0_pay1396 q (k0_pay1393 a b c d) (k0_pay1394 a b c d) (k0_pay1395 a b c d) j = esel (BitVec.ofNat 32 (lv (q j))) := by
  have h1 : k0_pay1393 a b c d = vstep q (vstep q (vstep q (vstep q (broadcast S8x128 0#32) 128#32) 64#32) 32#32) 16#32 := by
    subst h; unfold k0_pay1393 vstep; rfl
  have h2 (n : IVec S8x128 32) (v : IVec S8x128 32) (hv : v = vstep q (vstep q (vstep q (vstep q n 8#32) 4#32) 2#32) 1#32) :
      k0_pay1396 q n (addi n (broadcast S8x128 8#32)) (sitofp .f32 (subi (addi n (broadcast S8x128 8#32)) (broadcast S8x128 127#32)))
        = select (ori (cmpi .eq v (broadcast S8x128 0#32)) (cmpi .eq v (broadcast S8x128 255#32))) (broadcast S8x128 0#32) (subi v (broadcast S8x128 126#32)) := by
    subst hv; unfold k0_pay1396 vstep; rfl
  rw [← search]
  refine (congrFun (h2 (k0_pay1393 a b c d) _ rfl) j).trans ?_
  rw [h1]
  generalize hv : vstep q (vstep q (vstep q (vstep q (vstep q (vstep q (vstep q (vstep q (broadcast S8x128 0#32) 128#32) 64#32) 32#32) 16#32) 8#32) 4#32) 2#32) 1#32 = v
  show esel (v j) = _
  rw [← hv, vstep_at, vstep_at, vstep_at, vstep_at, vstep_at, vstep_at, vstep_at, vstep_at]
  rfl

theorem kIn_at (A : FVec Ideal S8x128 .f32 × Acc Ideal) (j : S8x128.Idx) : kIn A j = ((sc (kQ0 A j))⁻¹ : ℝ) := by
  rw [← exp2_esel_neg, ← kE_at (kQ0 A) j _ _ _ _ rfl]
  rfl
theorem kSc_at (A : FVec Ideal S8x128 .f32 × Acc Ideal) (j : S8x128.Idx) : kSc A j = (sc (kQ0 A j) : EReal) := by
  rw [← exp2_esel, ← kE_at (kQ0 A) j _ _ _ _ rfl]
  rfl
theorem kRw_at (A : FVec Ideal S8x128 .f32 × Acc Ideal) (h : Fin 8) (l : Fin 128) : kRw A (ix3 0 h l) = (sc (kQ0 A (ix2 h l)) : EReal) := by
  rw [← kSc_at]
  unfold kRw kSc
  pointwise [k0_pay1399]
theorem kL_at (A : FVec Ideal S8x128 .f32 × Acc Ideal) (p : Fin 4) (r : Fin 16) (l : Fin 128) :
    acq (kL A) p (ix2 r l) = (sc (kQ0 A (ix2 ⟨2 * p.val + r.val / 8, by omega⟩ l)) : EReal) * ((448 : ℝ) : EReal) := by
  rw [← kSc_at, ← c_448]
  exact match p with
  | 0 => lim2_at (k0_pay1400 (kSc A)) 0 _ _ (by omega) r l
  | 1 => lim2_at (k0_pay1400 (kSc A)) 2 _ _ (by omega) r l
  | 2 => lim2_at (k0_pay1400 (kSc A)) 4 _ _ (by omega) r l
  | 3 => lim2_at (k0_pay1400 (kSc A)) 6 _ _ (by omega) r l

end Cert.Proof.Val

end
-- ==== Proof.Val.Block.lean ====
/- A block of 256 rows clipped, scaled and set in the order of positions. -/
module

public import proofs.«01_k».proof.Proof.Val.Acc
public import Idealize.ShloMosaic.Lib.Pipeline.Value

@[expose] public section

set_option maxRecDepth 16384

noncomputable section

namespace Cert.Proof.Val

open Cert.KernelIdeal Cert.KernelIdeal.Gen Cert.Proof.KernelIdeal
open Idealize.ShloMosaic

/-- The row of a block at which the head and the position of row `i` stand before the block is reordered. -/
def src (i : Fin 256) : Fin 256 := ⟨64 * (i.val / 64) + 8 * (i.val % 8) + i.val / 8 % 8, by omega⟩

theorem src_word : ∀ i : Fin 256,
    IntOp.addi (IntOp.addi (IntOp.shli .vector (IntOp.shrsi .vector (IntOp.shrsi .vector (BitVec.ofNat 32 i.val) 3#32) 3#32) 6#32) (IntOp.shli .vector (IntOp.andi (BitVec.ofNat 32 i.val) 7#32) 3#32))
      (IntOp.andi (IntOp.shrsi .vector (BitVec.ofNat 32 i.val) 3#32) 7#32) = BitVec.ofNat 32 (src i).val := by
  decide +kernel

theorem perm_at (i k : Fin 256) : k0_pay1428 (F := Ideal) (ix2 i k) = if k = src i then 1 else 0 := by
  pointwise [k0_pay1428]
  rw [src_word]
  by_cases h : k = src i
  · subst h
    rw [if_pos rfl]
    simp [IntOp.cmpi, Scalar.select]
  · rw [if_neg h]
    have : BitVec.ofNat 32 k.val ≠ BitVec.ofNat 32 (src i).val := by
      intro e
      apply h
      have := congrArg BitVec.toNat e
      simp only [BitVec.toNat_ofNat] at this
      ext
      omega
    have h2 : (BitVec.ofNat 32 k.val == BitVec.ofNat 32 (src i).val) = false := beq_false_of_ne this
    simp [IntOp.cmpi, Scalar.select, h2]

theorem bound_at (L : Acc Ideal) (r : Fin 256) (l : Fin 128) :
    bound L (ix2 r l) = acq L ⟨r.val / 16 % 4, by omega⟩ (ix2 ⟨r.val % 16, by omega⟩ l) := by
  refine concatenate_ofFn_apply (t := S256x128) (s₁ := S16x128) 0 (fun n : Fin 16 => acq L ⟨n.val % 4, by omega⟩) ?_ rfl 16 rfl (ix2 r l : S256x128.Idx) ⟨r.val / 16, by omega⟩ rfl (ix2 ⟨r.val % 16, by omega⟩ l : S16x128.Idx) rfl ?_
  intro b hb
  fin_cases b
  · exact absurd rfl hb
  · rfl

theorem scaled_perm_at (p : FVec Ideal S256x256 .f32) (inv : FVec Ideal S8x128 .f32) (i k : Fin 256) :
    k0_pay1435 p inv (ix2 i k) = p (ix2 i k) * inv (ix2 ⟨i.val % 8, by omega⟩ 0) := by
  pointwise [k0_pay1435]

theorem mxu_perm (p x : FVec Ideal S256x256 .bf16) (w : Fin 256 → EReal) (hp : ∀ i k, p (ix2 i k) = if k = src i then w i else 0) (i j : Fin 256) :
    mxu p x (ix2 i j) = w i * x (ix2 (src i) j) := by
  pointwise [mxu, hp]
  rw [Finset.sum_eq_single (src i)]
  · rw [if_pos rfl]
  · intro k _ hk
    rw [if_neg hk, zero_mul]
  · intro h
    exact absurd (Finset.mem_univ _) h

theorem head_of (a h u : ℕ) (hh : h < 8) (hu : u < 8) : 2 * ((64 * a + 8 * h + u) / 16 % 4) + (64 * a + 8 * h + u) % 16 / 8 = h := by
  interval_cases h <;> omega

/-- A block clipped at its bounds and scaled: the code of each element, in the order of positions. -/
theorem scaled_at (L : Acc Ideal) (P : FVec Ideal S256x256 .bf16) (s : Fin 8 → ℝ) (hs : ∀ h, 0 < s h)
    (hL : ∀ p r l, acq L p (ix2 r l) = (s ⟨2 * p.val + r.val / 8, by omega⟩ : EReal) * ((448 : ℝ) : EReal))
    (hP : ∀ i k, P (ix2 i k) = if k = src i then (((s ⟨i.val % 8, by omega⟩)⁻¹ : ℝ) : EReal) else 0)
    (x0 x1 : FVec Ideal S256x128 .bf16) (i : Fin 256) (l : Fin 128) :
    left8 (scaled L P x0 x1) (ix2 i l) = code (s ⟨i.val % 8, by omega⟩) (x0 (ix2 (src i) l))
    ∧ right8 (scaled L P x0 x1) (ix2 i l) = code (s ⟨i.val % 8, by omega⟩) (x1 (ix2 (src i) l)) := by
  have hb : bound L (ix2 (src i) l) = (s ⟨i.val % 8, by omega⟩ : EReal) * ((448 : ℝ) : EReal) := by
    rw [bound_at, hL]
    have : (⟨2 * ((src i).val / 16 % 4) + (src i).val % 16 / 8, by omega⟩ : Fin 8) = ⟨i.val % 8, by omega⟩ := by
      ext
      show 2 * ((64 * (i.val / 64) + 8 * (i.val % 8) + i.val / 8 % 8) / 16 % 4) + (64 * (i.val / 64) + 8 * (i.val % 8) + i.val / 8 % 8) % 16 / 8 = i.val % 8
      exact head_of _ _ _ (by omega) (by omega)
    exact congrArg (fun h => (s h : EReal) * ((448 : ℝ) : EReal)) this
  have hc (x : FVec Ideal S256x128 .bf16) : clipTo L x (ix2 (src i) l) = min (max (x (ix2 (src i) l)) (0 - bound L (ix2 (src i) l))) (bound L (ix2 (src i) l)) := by
    pointwise [clipTo]
  have hm := mxu_perm P (concatenate S256x256 1 [⟨S256x128, clipTo L x0⟩, ⟨S256x128, clipTo L x1⟩] concatenates_S256x128_S256x128_S256x256_d1) _ hP i
  constructor
  · have e : left8 (scaled L P x0 x1) (ix2 i l) = scaled L P x0 x1 (ix2 i ⟨l.val, by omega⟩) := by pointwise [left8]
    rw [← code_clip (hs _), ← hb, ← hc, e, scaled, hm]
    have hl : l.val < 128 := l.isLt
    pointwise [hl]
  · have e : right8 (scaled L P x0 x1) (ix2 i l) = scaled L P x0 x1 (ix2 i ⟨128 + l.val, by omega⟩) := by pointwise [right8]
    rw [← code_clip (hs _), ← hb, ← hc, e, scaled, hm]
    have hl : ¬ 128 + l.val < 128 := by omega
    pointwise [hl]

end Cert.Proof.Val

end
-- ==== Proof.Val.Values.lean ====
/- The codes and the scales of the values. -/
module

public import proofs.«01_k».proof.Proof.Val.Block

@[expose] public section

set_option maxRecDepth 16384

noncomputable section

namespace Cert.Proof.Val

open Cert.KernelIdeal Cert.KernelIdeal.Gen Cert.Proof.KernelIdeal
open Idealize.ShloMosaic

/-- An array of values or keys by sequence, position, head and lane. -/
abbrev Arr := Fin 9 → Fin 4096 → Fin 8 → Fin 128 → EReal

/-- The array that the kernel reads holds `v`, each tile of eight positions ordered by head first. -/
def HeadMajor (x : (S3 9).Idx → Elt Ideal .bf16) (v : Arr) : Prop :=
  ∀ (b : Fin 9) (R : Fin 32768) (l : Fin 128), x (ix3 b R l) = v b ⟨8 * (R.val / 64) + R.val % 8, by omega⟩ ⟨R.val / 8 % 8, by omega⟩ l

theorem HeadMajor.at {x : (S3 9).Idx → Elt Ideal .bf16} {v : Arr} (hx : HeadMajor x v) (b : Fin 9) (R : Fin 32768) (l : Fin 128) (t : Fin 4096) (h : Fin 8)
    (hR : R.val = 64 * (t.val / 8) + 8 * h.val + t.val % 8) : x (ix3 b R l) = v b t h l := by
  rw [hx]
  have e1 : (⟨8 * (R.val / 64) + R.val % 8, by omega⟩ : Fin 4096) = t := Fin.ext (by show 8 * (R.val / 64) + R.val % 8 = t.val; omega)
  have e2 : (⟨R.val / 8 % 8, by omega⟩ : Fin 8) = h := Fin.ext (by show R.val / 8 % 8 = h.val; omega)
  rw [e1, e2]

theorem mem_r16 (i : Fin 16) : i ∈ r16 := by fin_cases i <;> simp [r16]

section
variable (x : (S3 9).Idx → Elt Ideal .bf16) (v : Arr) (hx : HeadMajor x v) (z : Acc Ideal) (hz : ∀ p r l, acq z p (ix2 r l) = 0)

theorem rows_at (b : Fin 9) (q : Fin 128) (r : Fin 256) (l : Fin 128) : rows (kWin x b q) (ix2 r l) = x (ix3 b ⟨256 * q.val + r.val, by omega⟩ l) := by
  pointwise [rows, kWin]
  rfl

theorem vA_le (b : Fin 9) (p : Fin 4) (r : Fin 16) (l : Fin 128) (a : EReal) :
    acq (vA z x b) p (ix2 r l) ≤ a ↔ acq z p (ix2 r l) ≤ a ∧ ∀ k : Fin 8, ∀ i : Fin 16, ∀ q : Fin 4,
      ab (x (ix3 b ⟨256 * (16 * k.val + i.val) + (64 * q.val + 16 * p.val + r.val), by omega⟩ l)) ≤ a := by
  have h1 (c : Acc Ideal) (k : Fin 8) : acq (vStep x b k c) p (ix2 r l) ≤ a ↔ acq c p (ix2 r l) ≤ a ∧ ∀ i ∈ r16, ∀ q : Fin 4,
      ab (x (ix3 b ⟨256 * (16 * k.val + i.val) + (64 * q.val + 16 * p.val + r.val), by omega⟩ l)) ≤ a := by
    refine foldl_le (fun c => acq c p (ix2 r l)) (fun i => ∀ q : Fin 4, ab (x (ix3 b ⟨256 * (16 * k.val + i.val) + (64 * q.val + 16 * p.val + r.val), by omega⟩ l)) ≤ a) _ a ?_ r16 c
    intro c i
    refine (accBlock_le _ c p r l a).trans ?_
    simp only [rows_at]
  refine (foldl_le (fun c => acq c p (ix2 r l)) _ _ a h1 _ z).trans ?_
  simp only [List.mem_finRange, mem_r16, true_implies]

include hx hz
theorem headMax_vA (b : Fin 9) (h : Fin 8) (a : EReal) :
    (∀ l, headMax (vA z x b) h l ≤ a) ↔ amax (fun t d => v b t h d) ≤ a := by
  rw [amax_le]
  simp only [headMax_le, vA_le, hz]
  constructor
  · intro H t d
    have := (H d ⟨t.val % 8, by omega⟩).2 ⟨t.val / 512, by omega⟩ ⟨t.val / 32 % 16, by omega⟩ ⟨t.val / 8 % 4, by omega⟩
    rwa [hx.at b _ d t h (by
      show 256 * (16 * (t.val / 512) + t.val / 32 % 16) + (64 * (t.val / 8 % 4) + 16 * (h.val / 2) + (8 * (h.val % 2) + t.val % 8)) = _
      omega)] at this
  · intro H l y
    refine ⟨(ab_nonneg _).trans (H 0 0), fun k i q => ?_⟩
    rw [hx.at b _ l ⟨8 * (4 * (16 * k.val + i.val) + q.val) + y.val, by omega⟩ h (by
      show 256 * (16 * k.val + i.val) + (64 * q.val + 16 * (h.val / 2) + (8 * (h.val % 2) + y.val)) = 64 * ((8 * (4 * (16 * k.val + i.val) + q.val) + y.val) / 8) + 8 * h.val + (8 * (4 * (16 * k.val + i.val) + q.val) + y.val) % 8
      omega)]
    exact H _ _

theorem vQ0_amax (b : Fin 9) (h : Fin 8) (l : Fin 128) :
    vQ0 (vA z x b) (ix2 h l) = amax (fun t d => v b t h d) * Ideal.ofBits .f32 0x3B124925#32 := by
  rw [vQ0_at]
  congr 1
  refine eq_of_forall_ge_iff fun a => ?_
  rw [← headMax_vA x v hx z hz, Finset.fold_max_le, neg_inf]
  simp

theorem vs_at (b : Fin 9) (h : Fin 8) (l : Fin 128) : vsG z x (ix3 b h l) = (hsc (fun t d => v b t h d) : EReal) := by
  refine (vRw_at (vA z x b) h l).trans ?_
  rw [vQ0_amax x v hx z hz]
  rfl

theorem vc_at (b : Fin 9) (t : Fin 4096) (h : Fin 8) (d : Fin 128) (R : Fin 32768) (hR : R.val = 8 * t.val + h.val) :
    vcG k0_pay1428 z x (ix3 b R d) = code (hsc (fun t d => v b t h d)) (v b t h d) := by
  have hin (i : Fin 8) (l : Fin 128) : vIn (vA z x b) (ix2 i l) = ((hsc (fun t d => v b t i d))⁻¹ : ℝ) := by
    rw [vIn_at, vQ0_amax x v hx z hz]; rfl
  have hsa := fun x0 x1 => scaled_at (vL (vA z x b)) (k0_pay1435 k0_pay1428 (vIn (vA z x b))) (fun i => hsc (fun t d => v b t i d)) (fun i => hsc_pos _)
    (fun p r l => by rw [vL_at, vQ0_amax x v hx z hz]; rfl)
    (fun i k => by
      rw [scaled_perm_at, perm_at, hin]
      split <;> simp) x0 x1 ⟨R.val % 256, by omega⟩ d
  have hh : (⟨R.val % 256 % 8, by omega⟩ : Fin 8) = h := Fin.ext (by show R.val % 256 % 8 = h.val; omega)
  have key (q : Fin 128) (hq : q.val = R.val / 256) : rows (kWin x b q) (ix2 (src ⟨R.val % 256, by omega⟩) d) = v b t h d := by
    rw [rows_at]
    refine hx.at b _ d t h ?_
    show 256 * q.val + (64 * (R.val % 256 / 64) + 8 * (R.val % 256 % 8) + R.val % 256 / 8 % 8) = _
    omega
  refine (voM_at x b (vL (vA z x b)) (k0_pay1435 k0_pay1428 (vIn (vA z x b))) ⟨R.val / 512, by omega⟩ ⟨R.val / 256 % 2, by omega⟩ ⟨R.val % 256, by omega⟩ d R
    (by show R.val = 512 * (R.val / 512) + 256 * (R.val / 256 % 2) + R.val % 256; omega)).trans ?_
  unfold vOut
  by_cases hj : R.val / 256 % 2 = 0
  · have : (⟨R.val / 256 % 2, by omega⟩ : Fin 2) = 0 := Fin.ext hj
    rw [if_pos this]
    refine ((hsa _ _).1).trans ?_
    rw [key _ (by show 2 * (R.val / 512) = _; omega)]
    simp only [hh]
  · have : ¬ (⟨R.val / 256 % 2, by omega⟩ : Fin 2) = 0 := fun e => hj (congrArg Fin.val e)
    rw [if_neg this]
    refine ((hsa _ _).2).trans ?_
    rw [key _ (by show 2 * (R.val / 512) + 1 = _; omega)]
    simp only [hh]
end

end Cert.Proof.Val

end
-- ==== Proof.Val.Rot.lean ====
/- Blocks of keys: the halves that are rotated, set side by side, and the halves that are not. -/
module

public import proofs.«01_k».proof.Proof.Val.Values

@[expose] public section

set_option maxRecDepth 16384

noncomputable section

namespace Cert.Proof.Val

open Cert.KernelIdeal Cert.KernelIdeal.Gen Cert.Proof.KernelIdeal
open Idealize.ShloMosaic

/-! ## Masks and rotations -/

section
variable {α : Type}

theorem low_word : ∀ l : Fin 128, IntOp.cmpi .slt (BitVec.ofNat 32 l.val) 64#32 = if l.val < 64 then 1#1 else 0#1 := by decide +kernel
theorem even_word : ∀ l : Fin 128, IntOp.cmpi .eq (IntOp.andi (BitVec.ofNat 32 l.val) 32#32) 0#32 = if l.val / 32 % 2 = 0 then 1#1 else 0#1 := by decide +kernel

theorem low_at (x y : S256x128.Idx → α) (r : Fin 256) (l : Fin 128) :
    select (mask k0_pay1426) x y (ix2 r l) = if l.val < 64 then x (ix2 r l) else y (ix2 r l) := by
  pointwise [mask, k0_pay1426]
  rw [low_word]
  split <;> rfl
theorem even_at (x y : S256x128.Idx → α) (r : Fin 256) (l : Fin 128) :
    select (mask k0_pay1427) x y (ix2 r l) = if l.val / 32 % 2 = 0 then x (ix2 r l) else y (ix2 r l) := by
  pointwise [mask, k0_pay1427]
  rw [even_word]
  split <;> rfl
end

theorem roll_at {φ : FTy} (n : BitVec 32) (hn : n.toNat < 128) (x : FVec Ideal S256x128 φ) (r : Fin 256) (l : Fin 128) :
    roll n x (ix2 r l) = x (ix2 r ⟨(l.val + 128 - n.toNat) % 128, Nat.mod_lt _ (by omega)⟩) := by
  pointwise [roll]
  congr 2
  all_goals simp [Nat.mod_eq_of_lt hn]

/-! ## The operands of the rotation -/

theorem rotHalf_at (x z : Vec Ideal S1x256x128 .bf16) (r : Fin 256) (l : Fin 128) :
    rotHalf k0_pay1426 x z (ix2 r l) = if l.val < 64 then rows x (ix2 r l) else rows z (ix2 r ⟨(l.val + 64) % 128, by omega⟩) := by
  unfold rotHalf
  rw [low_at, roll_at _ (by decide)]
  congr 4
theorem nonHalf_at (x z : Vec Ideal S1x256x128 .bf16) (r : Fin 256) (l : Fin 128) :
    nonHalf k0_pay1426 x z (ix2 r l) = if l.val < 64 then rows z (ix2 r ⟨(l.val + 64) % 128, by omega⟩) else rows x (ix2 r l) := by
  unfold nonHalf
  rw [low_at, roll_at _ (by decide)]
  congr 4

theorem pairUp_lo (r0 r1 : FVec Ideal S256x128 .bf16) (r : Fin 256) (l : Fin 128) :
    pairUp k0_pay1427 r0 r1 (ix2 r ⟨l.val, by omega⟩) = if l.val / 32 % 2 = 0 then r0 (ix2 r l) else r1 (ix2 r ⟨(l.val + 96) % 128, by omega⟩) := by
  have e : pairUp k0_pay1427 r0 r1 (ix2 r ⟨l.val, by omega⟩) = select (mask k0_pay1427) r0 (roll 32#32 r1) (ix2 r l) := by
    have hl : l.val < 128 := l.isLt
    pointwise [pairUp, hl]
  rw [e, even_at, roll_at _ (by decide)]
  congr 4
theorem pairUp_hi (r0 r1 : FVec Ideal S256x128 .bf16) (r : Fin 256) (l : Fin 128) :
    pairUp k0_pay1427 r0 r1 (ix2 r ⟨128 + l.val, by omega⟩) = if l.val / 32 % 2 = 0 then r0 (ix2 r ⟨(l.val + 32) % 128, by omega⟩) else r1 (ix2 r l) := by
  have e : pairUp k0_pay1427 r0 r1 (ix2 r ⟨128 + l.val, by omega⟩) = roll 96#32 (select (mask k0_pay1427) (roll 32#32 r1) r0) (ix2 r l) := by
    have hl : ¬ 128 + l.val < 128 := by omega
    pointwise [pairUp, hl]
  rw [e, roll_at _ (by decide), even_at, roll_at _ (by decide)]
  have h0 : (96#32).toNat = 96 := rfl
  have h1 : (32#32).toNat = 32 := rfl
  have e1 : ((l.val + 128 - (96#32).toNat) % 128 + 128 - (32#32).toNat) % 128 = l.val := by rw [h0, h1]; omega
  simp only [e1]
  simp only [h0]
  by_cases h : l.val / 32 % 2 = 0
  · rw [if_pos h, if_neg (by omega)]
    congr 2
  · rw [if_neg h, if_pos (by omega)]

theorem out0_at (q0 q1 : FVec Ideal S256x128 .fp8e4m3) (r : Fin 256) (l : Fin 128) :
    out0 k0_pay1427 q0 q1 (ix2 r l) = if l.val / 32 % 2 = 0 then q0 (ix2 r l) else q1 (ix2 r ⟨(l.val + 96) % 128, by omega⟩) := by
  unfold out0
  rw [even_at, roll_at _ (by decide)]
  congr 4
theorem out1_at (q0 q1 : FVec Ideal S256x128 .fp8e4m3) (r : Fin 256) (l : Fin 128) :
    out1 k0_pay1427 q0 q1 (ix2 r l) = if l.val / 32 % 2 = 0 then q0 (ix2 r ⟨(l.val + 32) % 128, by omega⟩) else q1 (ix2 r l) := by
  unfold out1
  rw [roll_at _ (by decide), even_at, roll_at _ (by decide)]
  have h0 : (96#32).toNat = 96 := rfl
  have h1 : (32#32).toNat = 32 := rfl
  have e1 : ((l.val + 128 - (96#32).toNat) % 128 + 128 - (32#32).toNat) % 128 = l.val := by rw [h0, h1]; omega
  simp only [e1]
  simp only [h0]
  by_cases h : l.val / 32 % 2 = 0
  · rw [if_pos h, if_neg (by omega)]
    congr 2
  · rw [if_neg h, if_pos (by omega)]
theorem outLo_at (r0 n : FVec Ideal S256x128 .fp8e4m3) (r : Fin 256) (l : Fin 128) :
    outLo k0_pay1426 r0 n (ix2 r l) = if l.val < 64 then r0 (ix2 r l) else n (ix2 r l) := by
  unfold outLo
  rw [low_at]
theorem outHi_at (r0 n : FVec Ideal S256x128 .fp8e4m3) (r : Fin 256) (l : Fin 128) :
    outHi k0_pay1426 r0 n (ix2 r l) = if l.val < 64 then r0 (ix2 r ⟨(l.val + 64) % 128, by omega⟩) else n (ix2 r ⟨(l.val + 64) % 128, by omega⟩) := by
  unfold outHi
  rw [roll_at _ (by decide), low_at]
  have h0 : (64#32).toNat = 64 := rfl
  have e : (l.val + 128 - (64#32).toNat) % 128 = (l.val + 64) % 128 := by rw [h0]; congr 1
  simp only [e]
  by_cases h : l.val < 64
  · rw [if_pos h, if_neg (by omega)]
  · rw [if_neg h, if_pos (by omega)]

/-! ## The rotation -/

/-- The angle of one position and one frequency. -/
def ang (st : S9.Idx → BitVec 32) (fq : Fin 32 → EReal) (b : Fin 9) (t : Fin 4096) (e : Fin 32) : Ideal .f32 :=
  FloatOps.sitofp (F := Ideal) .f32 (IntOp.addi (st (ix1 b)) (BitVec.ofNat 32 t.val)) * fq e

theorem lane_word : ∀ l : Fin 128, IntOp.andi (BitVec.ofNat 32 l.val) 4294967264#32 = BitVec.ofNat 32 (32 * (l.val / 32)) := by decide +kernel

theorem pos_word (s : BitVec 32) (g t : ℕ) (l : Fin 128) :
    IntOp.addi (IntOp.addi (IntOp.addi s (BitVec.ofNat 32 t)) (IntOp.andi (BitVec.ofNat 32 l.val) 4294967264#32)) (Scalar.muli (Scf.iv 0#32 1#32 g) 128#32)
      = IntOp.addi s (BitVec.ofNat 32 (128 * g + 32 * (l.val / 32) + t)) := by
  rw [lane_word]
  have h1 : Scalar.muli (Scf.iv 0#32 1#32 g) 128#32 = BitVec.ofNat 32 (128 * g) := by
    apply BitVec.eq_of_toNat_eq
    simp [Scalar.muli, Scf.iv, IntOp.muli, Nat.mul_comm]
  rw [h1]
  show s + BitVec.ofNat 32 t + BitVec.ofNat 32 (32 * (l.val / 32)) + BitVec.ofNat 32 (128 * g) = s + BitVec.ofNat 32 (128 * g + 32 * (l.val / 32) + t)
  rw [BitVec.ofNat_add, BitVec.ofNat_add]
  ac_rfl

/-- The position that lane `l` of row `t` of group `g` stands for, its frequency and its two dimensions. -/
abbrev tok (g t : Fin 32) (l : Fin 128) : Fin 4096 := ⟨128 * g.val + 32 * (l.val / 32) + t.val, by omega⟩
abbrev frq (l : Fin 128) : Fin 32 := ⟨l.val % 32, by omega⟩
abbrev dlo (l : Fin 128) : Fin 128 := ⟨l.val % 32, by omega⟩
abbrev dhi (l : Fin 128) : Fin 128 := ⟨l.val % 32 + 32, by omega⟩

section
variable (st : S9.Idx → BitVec 32) (fr : Vec Ideal S1x128 .f32) (fq : Fin 32 → EReal) (hf : ∀ l : Fin 128, fr (ix2 0 l) = fq (frq l))

include hf
theorem ang_at (v : BitVec 32) (T : Fin k0_t2_loop.trips) (u : Fin 32) (l : Fin 128) :
    k0_pay1380 (F := Ideal) v T fr (ix2 u l)
      = FloatOps.sitofp (F := Ideal) .f32 (IntOp.addi v (BitVec.ofNat 32 (128 * T.val + 32 * (l.val / 32) + u.val))) * fq (frq l) := by
  pointwise [k0_pay1380]
  rw [pos_word, hf]
theorem cos_at (b : Fin 9) (g t : Fin 32) (l : Fin 128) : crow (cosB st fr b) g t (ix2 0 l) = Ideal.cos (ang st fq b (tok g t l) (frq l)) := by
  have e (v : BitVec 32) (T : Fin k0_t2_loop.trips) (u : Fin 32) : k0_pay1381 (F := Ideal) v T fr (ix2 u l) = Ideal.cos (k0_pay1380 (F := Ideal) v T fr (ix2 u l)) := by
    pointwise [k0_pay1381]
  refine (e (st (ix1 b)) (tq ⟨32 * g.val + t.val, by omega⟩) ⟨(32 * g.val + t.val) % 32, by omega⟩).trans ?_
  rw [ang_at fr fq hf]
  refine congrArg (fun n => Ideal.cos (FloatOps.sitofp (F := Ideal) .f32 (IntOp.addi (st (ix1 b)) (BitVec.ofNat 32 n)) * fq (frq l))) ?_
  show 128 * ((32 * g.val + t.val) / 32) + 32 * (l.val / 32) + (32 * g.val + t.val) % 32 = 128 * g.val + 32 * (l.val / 32) + t.val
  omega
theorem sin_at (b : Fin 9) (g t : Fin 32) (l : Fin 128) : crow (sinB st fr b) g t (ix2 0 l) = Ideal.sin (ang st fq b (tok g t l) (frq l)) := by
  have e (v : BitVec 32) (T : Fin k0_t2_loop.trips) (u : Fin 32) : k0_pay1382 (F := Ideal) v T fr (ix2 u l) = Ideal.sin (k0_pay1380 (F := Ideal) v T fr (ix2 u l)) := by
    pointwise [k0_pay1382]
  refine (e (st (ix1 b)) (tq ⟨32 * g.val + t.val, by omega⟩) ⟨(32 * g.val + t.val) % 32, by omega⟩).trans ?_
  rw [ang_at fr fq hf]
  refine congrArg (fun n => Ideal.sin (FloatOps.sitofp (F := Ideal) .f32 (IntOp.addi (st (ix1 b)) (BitVec.ofNat 32 n)) * fq (frq l))) ?_
  show 128 * ((32 * g.val + t.val) / 32) + 32 * (l.val / 32) + (32 * g.val + t.val) % 32 = 128 * g.val + 32 * (l.val / 32) + t.val
  omega
end

/-- The keys with their first 64 dimensions rotated. -/
def rk (st : S9.Idx → BitVec 32) (fq : Fin 32 → EReal) (k : Arr) : Arr := fun b t h d =>
  if hd : d.val < 32 then
    k b t h d * Ideal.cos (ang st fq b t ⟨d.val, hd⟩) - k b t h ⟨d.val + 32, by omega⟩ * Ideal.sin (ang st fq b t ⟨d.val, hd⟩)
  else if hd' : d.val < 64 then
    k b t h d * Ideal.cos (ang st fq b t ⟨d.val - 32, by omega⟩) + k b t h ⟨d.val - 32, by omega⟩ * Ideal.sin (ang st fq b t ⟨d.val - 32, by omega⟩)
  else k b t h d

section
variable (x : (S3 9).Idx → Elt Ideal .bf16) (k : Arr) (hx : HeadMajor x k)

include hx
/-- A row of a block before it is reordered. -/
theorem blk_src (b : Fin 9) (g : Fin 32) (m : Fin 4) (i : Fin 256) (l : Fin 128) (t : Fin 4096) (h : Fin 8)
    (ht : t.val = 128 * g.val + 32 * m.val + i.val / 8) (hh : h.val = i.val % 8) : rows (kWin x b (wq g m)) (ix2 (src i) l) = k b t h l := by
  rw [rows_at]
  refine hx.at b _ l t h ?_
  show 256 * (4 * g.val + m.val) + (64 * (i.val / 64) + 8 * (i.val % 8) + i.val / 8 % 8) = _
  omega

theorem fOf_lo (b : Fin 9) (g t : Fin 32) (h : Fin 8) (l : Fin 128) :
    fOf k0_pay1426 k0_pay1427 k0_pay1429 x b g (ix2 ⟨8 * t.val + h.val, by omega⟩ ⟨l.val, by omega⟩) = k b (tok g t l) h (dlo l) := by
  unfold fOf
  rw [mxu_perm k0_pay1429 _ (fun _ => 1) (fun i k => perm_at i k), one_mul, pairUp_lo, rotHalf_at, rotHalf_at]
  have hl : l.val / 32 = 0 ∨ l.val / 32 = 1 ∨ l.val / 32 = 2 ∨ l.val / 32 = 3 := by omega
  rcases hl with hl | hl | hl | hl
  · rw [if_pos (by omega), if_pos (by omega)]
    refine (blk_src x k hx b g 0 _ _ (tok g t l) h (by show 128 * g.val + 32 * (l.val / 32) + t.val = 128 * g.val + 32 * 0 + (8 * t.val + h.val) / 8; omega) (by show h.val = (8 * t.val + h.val) % 8; omega)).trans ?_
    congr 1; ext; simp; omega
  · rw [if_neg (by omega), if_pos (by show (l.val + 96) % 128 < 64; omega)]
    refine (blk_src x k hx b g 1 _ _ (tok g t l) h (by show 128 * g.val + 32 * (l.val / 32) + t.val = 128 * g.val + 32 * 1 + (8 * t.val + h.val) / 8; omega) (by show h.val = (8 * t.val + h.val) % 8; omega)).trans ?_
    congr 1; ext; simp; omega
  · rw [if_pos (by omega), if_neg (by omega)]
    refine (blk_src x k hx b g 2 _ _ (tok g t l) h (by show 128 * g.val + 32 * (l.val / 32) + t.val = 128 * g.val + 32 * 2 + (8 * t.val + h.val) / 8; omega) (by show h.val = (8 * t.val + h.val) % 8; omega)).trans ?_
    congr 1; ext; simp; omega
  · rw [if_neg (by omega), if_neg (by show ¬ (l.val + 96) % 128 < 64; omega)]
    refine (blk_src x k hx b g 3 _ _ (tok g t l) h (by show 128 * g.val + 32 * (l.val / 32) + t.val = 128 * g.val + 32 * 3 + (8 * t.val + h.val) / 8; omega) (by show h.val = (8 * t.val + h.val) % 8; omega)).trans ?_
    congr 1; ext; simp; omega

theorem fOf_hi (b : Fin 9) (g t : Fin 32) (h : Fin 8) (l : Fin 128) :
    fOf k0_pay1426 k0_pay1427 k0_pay1429 x b g (ix2 ⟨8 * t.val + h.val, by omega⟩ ⟨128 + l.val, by omega⟩) = k b (tok g t l) h (dhi l) := by
  unfold fOf
  rw [mxu_perm k0_pay1429 _ (fun _ => 1) (fun i k => perm_at i k), one_mul, pairUp_hi, rotHalf_at, rotHalf_at]
  have hl : l.val / 32 = 0 ∨ l.val / 32 = 1 ∨ l.val / 32 = 2 ∨ l.val / 32 = 3 := by omega
  rcases hl with hl | hl | hl | hl
  · rw [if_pos (by omega), if_pos (by show (l.val + 32) % 128 < 64; omega)]
    refine (blk_src x k hx b g 0 _ _ (tok g t l) h (by show 128 * g.val + 32 * (l.val / 32) + t.val = 128 * g.val + 32 * 0 + (8 * t.val + h.val) / 8; omega) (by show h.val = (8 * t.val + h.val) % 8; omega)).trans ?_
    congr 1; ext; simp; omega
  · rw [if_neg (by omega), if_pos (by omega)]
    refine (blk_src x k hx b g 1 _ _ (tok g t l) h (by show 128 * g.val + 32 * (l.val / 32) + t.val = 128 * g.val + 32 * 1 + (8 * t.val + h.val) / 8; omega) (by show h.val = (8 * t.val + h.val) % 8; omega)).trans ?_
    congr 1; ext; simp; omega
  · rw [if_pos (by omega), if_neg (by show ¬ (l.val + 32) % 128 < 64; omega)]
    refine (blk_src x k hx b g 2 _ _ (tok g t l) h (by show 128 * g.val + 32 * (l.val / 32) + t.val = 128 * g.val + 32 * 2 + (8 * t.val + h.val) / 8; omega) (by show h.val = (8 * t.val + h.val) % 8; omega)).trans ?_
    congr 1; ext; simp; omega
  · rw [if_neg (by omega), if_neg (by omega)]
    refine (blk_src x k hx b g 3 _ _ (tok g t l) h (by show 128 * g.val + 32 * (l.val / 32) + t.val = 128 * g.val + 32 * 3 + (8 * t.val + h.val) / 8; omega) (by show h.val = (8 * t.val + h.val) % 8; omega)).trans ?_
    congr 1; ext; simp; omega

variable (st : S9.Idx → BitVec 32) (fr : Vec Ideal S1x128 .f32) (fq : Fin 32 → EReal) (hf : ∀ l : Fin 128, fr (ix2 0 l) = fq (frq l))
include hf

/-- The first 32 dimensions rotated. -/
theorem r1_at (b : Fin 9) (g t : Fin 32) (h : Fin 8) (l : Fin 128) :
    KernelIdeal.r1 k0_pay1426 k0_pay1427 k0_pay1429 x b (cosB st fr b) (sinB st fr b) g t (ix2 h l) = rk st fq k b (tok g t l) h (dlo l) := by
  have e (f : FVec Ideal S256x256 .f32) (c s : Vec Ideal S1x128 .f32) : rot1 f t c s (ix2 h l)
      = f (ix2 ⟨8 * t.val + h.val, by omega⟩ ⟨l.val, by omega⟩) * c (ix2 0 l) - f (ix2 ⟨8 * t.val + h.val, by omega⟩ ⟨128 + l.val, by omega⟩) * s (ix2 0 l) := by
    pointwise [rot1, tile, bc8]
  unfold KernelIdeal.r1
  rw [e, fOf_lo x k hx, fOf_hi x k hx, cos_at st fr fq hf, sin_at st fr fq hf]
  unfold rk
  rw [dif_pos (by show l.val % 32 < 32; omega)]
/-- The next 32 dimensions rotated. -/
theorem r2_at (b : Fin 9) (g t : Fin 32) (h : Fin 8) (l : Fin 128) :
    KernelIdeal.r2 k0_pay1426 k0_pay1427 k0_pay1429 x b (cosB st fr b) (sinB st fr b) g t (ix2 h l) = rk st fq k b (tok g t l) h (dhi l) := by
  have e (f : FVec Ideal S256x256 .f32) (c s : Vec Ideal S1x128 .f32) : rot2 f t c s (ix2 h l)
      = f (ix2 ⟨8 * t.val + h.val, by omega⟩ ⟨128 + l.val, by omega⟩) * c (ix2 0 l) + f (ix2 ⟨8 * t.val + h.val, by omega⟩ ⟨l.val, by omega⟩) * s (ix2 0 l) := by
    pointwise [rot2, tile, bc8]
  unfold KernelIdeal.r2
  rw [e, fOf_lo x k hx, fOf_hi x k hx, cos_at st fr fq hf, sin_at st fr fq hf]
  unfold rk
  rw [dif_neg (by show ¬ l.val % 32 + 32 < 32; omega), dif_pos (by show l.val % 32 + 32 < 64; omega)]
  simp only [Nat.add_sub_cancel]
end

end Cert.Proof.Val

end
-- ==== Proof.Val.Keys.lean ====
/- The codes and the scales of the keys. -/
module

public import proofs.«01_k».proof.Proof.Val.Rot

@[expose] public section

set_option maxRecDepth 16384

noncomputable section

namespace Cert.Proof.Val

open Cert.KernelIdeal Cert.KernelIdeal.Gen Cert.Proof.KernelIdeal
open Idealize.ShloMosaic

theorem mem_r4 (i : Fin 4) : i ∈ r4 := by fin_cases i <;> simp [r4]
theorem mem_r32 (i : Fin 32) : i ∈ r32 := by fin_cases i <;> simp [r32]

section
variable (x : (S3 9).Idx → Elt Ideal .bf16) (k : Arr) (hx : HeadMajor x k)
  (st : S9.Idx → BitVec 32) (fr : Vec Ideal S1x128 .f32) (fq : Fin 32 → EReal) (hf : ∀ l : Fin 128, fr (ix2 0 l) = fq (frq l))

theorem rk_hi (b : Fin 9) (t : Fin 4096) (h : Fin 8) (d : Fin 128) (hd : 64 ≤ d.val) : rk st fq k b t h d = k b t h d := by
  unfold rk
  rw [dif_neg (by omega), dif_neg (by omega)]

include hx in
/-- The other halves of two blocks, `i` and `t` naming the same row. -/
theorem nOf_at (b : Fin 9) (g : Fin 32) (j : Fin 2) (r : Fin 256) (l : Fin 128) (t : Fin 4096) (h : Fin 8)
    (ht : t.val = 128 * g.val + 32 * (j.val + if l.val < 64 then 2 else 0) + (8 * (r.val / 64) + r.val % 8)) (hh : h.val = r.val / 8 % 8) :
    nOf k0_pay1426 x b g j (ix2 r l) = rk st fq k b t h ⟨64 + l.val % 64, by omega⟩ := by
  rw [rk_hi _ _ _ _ _ _ _ (by show 64 ≤ 64 + l.val % 64; omega)]
  unfold nOf
  rw [nonHalf_at]
  split_ifs at ht ⊢ with hl
  · rw [rows_at]
    refine (hx.at b _ _ t h ?_).trans (congrArg (k b t h) (Fin.ext ?_))
    · show 256 * (4 * g.val + (j.val + 2)) + r.val = _
      omega
    · show (l.val + 64) % 128 = 64 + l.val % 64
      omega
  · rw [rows_at]
    refine (hx.at b _ _ t h ?_).trans (congrArg (k b t h) (Fin.ext ?_))
    · show 256 * (4 * g.val + j.val) + r.val = _
      omega
    · show l.val = 64 + l.val % 64
      omega

/-! ## The largest magnitude -/

/-- The magnitudes found so far, of the rotated and of the other dimensions. -/
abbrev KAcc := FVec Ideal S8x128 .f32 × Acc Ideal

abbrev LO := k0_pay1426
abbrev EV := k0_pay1427
abbrev PM : FVec Ideal S256x256 .bf16 := k0_pay1429
abbrev KR1 (b : Fin 9) (g t : Fin 32) := KernelIdeal.r1 LO EV PM x b (cosB st fr b) (sinB st fr b) g t
abbrev KR2 (b : Fin 9) (g t : Fin 32) := KernelIdeal.r2 LO EV PM x b (cosB st fr b) (sinB st fr b) g t

include hx hf in
theorem KR1_at (b : Fin 9) (g t : Fin 32) (h : Fin 8) (l : Fin 128) : KR1 x st fr b g t (ix2 h l) = rk st fq k b (tok g t l) h (dlo l) :=
  r1_at x k hx st fr fq hf b g t h l
include hx hf in
theorem KR2_at (b : Fin 9) (g t : Fin 32) (h : Fin 8) (l : Fin 128) : KR2 x st fr b g t (ix2 h l) = rk st fq k b (tok g t l) h (dhi l) :=
  r2_at x k hx st fr fq hf b g t h l

theorem kA_fst_le (z : Acc Ideal) (b : Fin 9) (h : Fin 8) (l : Fin 128) (a : EReal) :
    (kA LO EV PM z st fr x b).1 (ix2 h l) ≤ a ↔ 0 ≤ a ∧ ∀ (c : Fin 8) (g : Fin 4) (t : Fin 32),
      ab (KR1 x st fr b (gq c g) t (ix2 h l)) ≤ a ∧ ab (KR2 x st fr b (gq c g) t (ix2 h l)) ≤ a := by
  have h0 (f : FVec Ideal S8x128 .f32) (g t : Fin 32) : yStep LO EV PM x b (cosB st fr b) (sinB st fr b) g t f (ix2 h l) ≤ a ↔
      f (ix2 h l) ≤ a ∧ (ab (KR1 x st fr b g t (ix2 h l)) ≤ a ∧ ab (KR2 x st fr b g t (ix2 h l)) ≤ a) := by
    show max _ (max _ _) ≤ a ↔ _
    rw [max_le_iff, max_le_iff]
    rfl
  have h1 (A : KAcc) (g : Fin 32) : (gStep LO EV PM x b (cosB st fr b) (sinB st fr b) g A).1 (ix2 h l) ≤ a ↔ A.1 (ix2 h l) ≤ a ∧ ∀ t ∈ r32,
      ab (KR1 x st fr b g t (ix2 h l)) ≤ a ∧ ab (KR2 x st fr b g t (ix2 h l)) ≤ a :=
    foldl_le (fun f => f (ix2 h l)) _ _ a (fun f t => h0 f g t) r32 A.1
  have h2 (A : KAcc) (c : Fin 8) : (cStep LO EV PM x b (cosB st fr b) (sinB st fr b) c A).1 (ix2 h l) ≤ a ↔ A.1 (ix2 h l) ≤ a ∧ ∀ g ∈ r4, ∀ t ∈ r32,
      ab (KR1 x st fr b (gq c g) t (ix2 h l)) ≤ a ∧ ab (KR2 x st fr b (gq c g) t (ix2 h l)) ≤ a :=
    foldl_le (fun A => A.1 (ix2 h l)) _ _ a (fun A g => h1 A (gq c g)) r4 A
  have hz : (k0_pay1383 (F := Ideal)) (ix2 h l) = 0 := by
    pointwise [k0_pay1383]
  refine (foldl_le (fun A : KAcc => A.1 (ix2 h l)) _ _ a h2 _ _).trans ?_
  simp only [List.mem_finRange, mem_r4, mem_r32, true_implies, hz]

theorem kA_snd_le (z : Acc Ideal) (hz : ∀ p r l, acq z p (ix2 r l) = 0) (b : Fin 9) (p : Fin 4) (r : Fin 16) (l : Fin 128) (a : EReal) :
    acq (kA LO EV PM z st fr x b).2 p (ix2 r l) ≤ a ↔ 0 ≤ a ∧ ∀ (c : Fin 8) (g : Fin 4) (j : Fin 2) (q : Fin 4),
      ab (nOf LO x b (gq c g) j (ix2 ⟨64 * q.val + 16 * p.val + r.val, by omega⟩ l)) ≤ a := by
  have h1 (A : KAcc) (g : Fin 32) : acq (gStep LO EV PM x b (cosB st fr b) (sinB st fr b) g A).2 p (ix2 r l) ≤ a ↔ acq A.2 p (ix2 r l) ≤ a ∧
      ∀ (j : Fin 2) (q : Fin 4), ab (nOf LO x b g j (ix2 ⟨64 * q.val + 16 * p.val + r.val, by omega⟩ l)) ≤ a := by
    show acq (accBlock _ (accBlock _ A.2)) p (ix2 r l) ≤ a ↔ _
    rw [accBlock_le, accBlock_le, Fin.forall_fin_two, and_assoc]
  have h2 (A : KAcc) (c : Fin 8) : acq (cStep LO EV PM x b (cosB st fr b) (sinB st fr b) c A).2 p (ix2 r l) ≤ a ↔ acq A.2 p (ix2 r l) ≤ a ∧ ∀ g ∈ r4,
      ∀ (j : Fin 2) (q : Fin 4), ab (nOf LO x b (gq c g) j (ix2 ⟨64 * q.val + 16 * p.val + r.val, by omega⟩ l)) ≤ a :=
    foldl_le (fun A => acq A.2 p (ix2 r l)) _ _ a (fun A g => h1 A (gq c g)) r4 A
  refine (foldl_le (fun A : KAcc => acq A.2 p (ix2 r l)) _ _ a h2 _ _).trans ?_
  simp only [List.mem_finRange, mem_r4, true_implies, hz]

variable (z : Acc Ideal) (hz : ∀ p r l, acq z p (ix2 r l) = 0)

include hx hf hz in
theorem kMax_le (b : Fin 9) (h : Fin 8) (a : EReal) :
    (∀ l, (kA LO EV PM z st fr x b).1 (ix2 h l) ≤ a ∧ headMax (kA LO EV PM z st fr x b).2 h l ≤ a) ↔ amax (fun t d => rk st fq k b t h d) ≤ a := by
  rw [amax_le]
  simp only [headMax_le, kA_fst_le, kA_snd_le x st fr z hz]
  constructor
  · intro H t d
    by_cases h1 : d.val < 32
    · have := ((H ⟨32 * (t.val / 32 % 4) + d.val, by omega⟩).1.2 ⟨t.val / 512, by omega⟩ ⟨t.val / 128 % 4, by omega⟩ ⟨t.val % 32, by omega⟩).1
      rw [KR1_at x k hx st fr fq hf] at this
      have e : tok (gq ⟨t.val / 512, by omega⟩ ⟨t.val / 128 % 4, by omega⟩) ⟨t.val % 32, by omega⟩ ⟨32 * (t.val / 32 % 4) + d.val, by omega⟩ = t :=
        Fin.ext (by show 128 * (4 * (t.val / 512) + t.val / 128 % 4) + 32 * ((32 * (t.val / 32 % 4) + d.val) / 32) + t.val % 32 = t.val; omega)
      have e' : dlo ⟨32 * (t.val / 32 % 4) + d.val, by omega⟩ = d := Fin.ext (by show (32 * (t.val / 32 % 4) + d.val) % 32 = d.val; omega)
      rw [e, e'] at this
      exact this
    by_cases h2 : d.val < 64
    · have := ((H ⟨32 * (t.val / 32 % 4) + (d.val - 32), by omega⟩).1.2 ⟨t.val / 512, by omega⟩ ⟨t.val / 128 % 4, by omega⟩ ⟨t.val % 32, by omega⟩).2
      rw [KR2_at x k hx st fr fq hf] at this
      have e : tok (gq ⟨t.val / 512, by omega⟩ ⟨t.val / 128 % 4, by omega⟩) ⟨t.val % 32, by omega⟩ ⟨32 * (t.val / 32 % 4) + (d.val - 32), by omega⟩ = t :=
        Fin.ext (by show 128 * (4 * (t.val / 512) + t.val / 128 % 4) + 32 * ((32 * (t.val / 32 % 4) + (d.val - 32)) / 32) + t.val % 32 = t.val; omega)
      have e' : dhi ⟨32 * (t.val / 32 % 4) + (d.val - 32), by omega⟩ = d := Fin.ext (by show (32 * (t.val / 32 % 4) + (d.val - 32)) % 32 + 32 = d.val; omega)
      rw [e, e'] at this
      exact this
    · have key (l : Fin 128) (j : Fin 2) (hl : l.val % 64 = d.val - 64) (hj : j.val + (if l.val < 64 then 2 else 0) = t.val / 32 % 4) : ab (rk st fq k b t h d) ≤ a := by
        have := ((H l).2 ⟨t.val % 8, by omega⟩).2 ⟨t.val / 512, by omega⟩ ⟨t.val / 128 % 4, by omega⟩ j ⟨t.val / 8 % 4, by omega⟩
        rw [nOf_at x k hx st fq b _ _ _ _ t h
          (by
            rw [hj]
            show t.val = 128 * (4 * (t.val / 512) + t.val / 128 % 4) + 32 * (t.val / 32 % 4) + (8 * ((64 * (t.val / 8 % 4) + 16 * (h.val / 2) + (8 * (h.val % 2) + t.val % 8)) / 64) + (64 * (t.val / 8 % 4) + 16 * (h.val / 2) + (8 * (h.val % 2) + t.val % 8)) % 8)
            omega)
          (by
            show h.val = (64 * (t.val / 8 % 4) + 16 * (h.val / 2) + (8 * (h.val % 2) + t.val % 8)) / 8 % 8
            omega)] at this
        have e : (⟨64 + l.val % 64, by omega⟩ : Fin 128) = d := Fin.ext (by show 64 + l.val % 64 = d.val; omega)
        rwa [e] at this
      by_cases h3 : t.val / 32 % 4 < 2
      · refine key d ⟨t.val / 32 % 4, h3⟩ (by omega) ?_
        rw [if_neg h2]
        rfl
      · refine key ⟨d.val - 64, by omega⟩ ⟨t.val / 32 % 4 - 2, by omega⟩ (by show (d.val - 64) % 64 = _; omega) ?_
        rw [if_pos (by show d.val - 64 < 64; omega)]
        show t.val / 32 % 4 - 2 + 2 = _
        omega
  · intro H l
    have ha : 0 ≤ a := (ab_nonneg _).trans (H 0 0)
    refine ⟨⟨ha, fun c g t => ?_⟩, fun y => ⟨ha, fun c g j q => ?_⟩⟩
    · rw [KR1_at x k hx st fr fq hf, KR2_at x k hx st fr fq hf]
      exact ⟨H _ _, H _ _⟩
    · rw [nOf_at x k hx st fq b _ _ _ _ ⟨128 * (4 * c.val + g.val) + 32 * (j.val + if l.val < 64 then 2 else 0) + (8 * q.val + y.val), by split <;> omega⟩ h
        (by
          show 128 * (4 * c.val + g.val) + 32 * (j.val + if l.val < 64 then 2 else 0) + (8 * q.val + y.val)
            = 128 * (4 * c.val + g.val) + 32 * (j.val + if l.val < 64 then 2 else 0) + (8 * ((64 * q.val + 16 * (h.val / 2) + (8 * (h.val % 2) + y.val)) / 64) + (64 * q.val + 16 * (h.val / 2) + (8 * (h.val % 2) + y.val)) % 8)
          omega)
        (by
          show h.val = (64 * q.val + 16 * (h.val / 2) + (8 * (h.val % 2) + y.val)) / 8 % 8
          omega)]
      exact H _ _

include hx hf hz in
theorem kQ0_amax (b : Fin 9) (h : Fin 8) (l : Fin 128) :
    kQ0 (kA LO EV PM z st fr x b) (ix2 h l) = amax (fun t d => rk st fq k b t h d) * Ideal.ofBits .f32 0x3B124925#32 := by
  rw [kQ0_at]
  congr 1
  refine eq_of_forall_ge_iff fun a => ?_
  rw [← kMax_le x k hx st fr fq hf z hz, Finset.fold_max_le, neg_inf]
  simp

include hx hf hz in
theorem ks_at (b : Fin 9) (h : Fin 8) (l : Fin 128) : ksG LO EV PM z st fr x (ix3 b h l) = (hsc (fun t d => rk st fq k b t h d) : EReal) := by
  refine (kRw_at (kA LO EV PM z st fr x b) h l).trans ?_
  rw [kQ0_amax x k hx st fr fq hf z hz]
  rfl

/-! ## The codes -/

theorem rot8_at (inv : FVec Ideal S8x128 .f32) (y : FVec Ideal S256x128 .f32) (r : Fin 256) (l : Fin 128) :
    rot8 inv y (ix2 r l) = min (max (y (ix2 r l) * inv (ix2 ⟨r.val % 8, by omega⟩ l)) (Ideal.ofBits .f32 0xC3E00000#32)) (Ideal.ofBits .f32 0x43E00000#32) := by
  pointwise [rot8]

abbrev KY (b : Fin 9) (g : Fin 32) (j : Fin 2) := yWin LO EV PM x b (cosB st fr b) (sinB st fr b) g j

include hx hf in
theorem KY0_at (b : Fin 9) (g : Fin 32) (y : Fin 256) (l : Fin 128) (t : Fin 4096) (h : Fin 8) (d : Fin 128)
    (ht : t.val = 128 * g.val + 32 * (l.val / 32) + y.val / 8) (hh : h.val = y.val % 8) (hd : d.val = l.val % 32) :
    KY x st fr b g 0 (ix2 y l) = rk st fq k b t h d := by
  refine (yM_lo LO EV PM x b (cosB st fr b) (sinB st fr b) g ⟨y.val / 8, by omega⟩ ⟨y.val % 8, by omega⟩ l _
    (by show 512 * g.val + 256 * 0 + y.val = 512 * g.val + 8 * (y.val / 8) + y.val % 8; omega)).trans ?_
  refine (KR1_at x k hx st fr fq hf b g _ _ l).trans ?_
  have e1 : tok g ⟨y.val / 8, by omega⟩ l = t := Fin.ext ht.symm
  have e2 : (⟨y.val % 8, by omega⟩ : Fin 8) = h := Fin.ext hh.symm
  have e3 : dlo l = d := Fin.ext hd.symm
  rw [e1, e2, e3]
include hx hf in
theorem KY1_at (b : Fin 9) (g : Fin 32) (y : Fin 256) (l : Fin 128) (t : Fin 4096) (h : Fin 8) (d : Fin 128)
    (ht : t.val = 128 * g.val + 32 * (l.val / 32) + y.val / 8) (hh : h.val = y.val % 8) (hd : d.val = l.val % 32 + 32) :
    KY x st fr b g 1 (ix2 y l) = rk st fq k b t h d := by
  refine (yM_hi LO EV PM x b (cosB st fr b) (sinB st fr b) g ⟨y.val / 8, by omega⟩ ⟨y.val % 8, by omega⟩ l _
    (by show 512 * g.val + 256 * 1 + y.val = 512 * g.val + 256 + 8 * (y.val / 8) + y.val % 8; omega)).trans ?_
  refine (KR2_at x k hx st fr fq hf b g _ _ l).trans ?_
  have e1 : tok g ⟨y.val / 8, by omega⟩ l = t := Fin.ext ht.symm
  have e2 : (⟨y.val % 8, by omega⟩ : Fin 8) = h := Fin.ext hh.symm
  have e3 : dhi l = d := Fin.ext hd.symm
  rw [e1, e2, e3]

/-- The scale of one head of the keys. -/
abbrev ksc (b : Fin 9) (h : Fin 8) : ℝ := hsc (fun t d => rk st fq k b t h d)

include hx hf hz in
theorem kIn_eq (b : Fin 9) (h : Fin 8) (l : Fin 128) : kIn (kA LO EV PM z st fr x b) (ix2 h l) = ((ksc k st fq b h)⁻¹ : ℝ) := by
  rw [kIn_at, kQ0_amax x k hx st fr fq hf z hz]; rfl

abbrev KQ (b : Fin 9) (g : Fin 32) (j : Fin 2) := rot8 (kIn (kA LO EV PM z st fr x b)) (KY x st fr b g j)

include hx hf hz in
theorem KQ_at (b : Fin 9) (g : Fin 32) (j : Fin 2) (y : Fin 256) (l : Fin 128) (h : Fin 8) (hh : h.val = y.val % 8) :
    KQ x st fr z b g j (ix2 y l) = code (ksc k st fq b h) (KY x st fr b g j (ix2 y l)) := by
  refine (rot8_at _ _ y l).trans ?_
  have e2 : (⟨y.val % 8, by omega⟩ : Fin 8) = h := Fin.ext hh.symm
  rw [e2, kIn_eq x k hx st fr fq hf z hz, c_448, c_neg448]
  rfl

include hx hf hz in
theorem out0_eq (b : Fin 9) (g : Fin 32) (y : Fin 256) (l : Fin 128) (t : Fin 4096) (h : Fin 8) (d : Fin 128)
    (ht : t.val = 128 * g.val + 32 * (2 * (l.val / 64)) + y.val / 8) (hh : h.val = y.val % 8) (hd : d.val = l.val % 64) :
    out0 EV (KQ x st fr z b g 0) (KQ x st fr z b g 1) (ix2 y l) = code (ksc k st fq b h) (rk st fq k b t h d) := by
  rw [out0_at, KQ_at x k hx st fr fq hf z hz b g 0 y l h hh, KQ_at x k hx st fr fq hf z hz b g 1 y _ h hh]
  split_ifs with he
  · rw [KY0_at x k hx st fr fq hf b g y l t h d (by omega) hh (by omega)]
  · rw [KY1_at x k hx st fr fq hf b g y _ t h d (by show t.val = 128 * g.val + 32 * ((l.val + 96) % 128 / 32) + y.val / 8; omega) hh (by show d.val = (l.val + 96) % 128 % 32 + 32; omega)]
include hx hf hz in
theorem out1_eq (b : Fin 9) (g : Fin 32) (y : Fin 256) (l : Fin 128) (t : Fin 4096) (h : Fin 8) (d : Fin 128)
    (ht : t.val = 128 * g.val + 32 * (2 * (l.val / 64) + 1) + y.val / 8) (hh : h.val = y.val % 8) (hd : d.val = l.val % 64) :
    out1 EV (KQ x st fr z b g 0) (KQ x st fr z b g 1) (ix2 y l) = code (ksc k st fq b h) (rk st fq k b t h d) := by
  rw [out1_at, KQ_at x k hx st fr fq hf z hz b g 0 y _ h hh, KQ_at x k hx st fr fq hf z hz b g 1 y l h hh]
  split_ifs with he
  · rw [KY0_at x k hx st fr fq hf b g y _ t h d (by show t.val = 128 * g.val + 32 * ((l.val + 32) % 128 / 32) + y.val / 8; omega) hh (by show d.val = (l.val + 32) % 128 % 32; omega)]
  · rw [KY1_at x k hx st fr fq hf b g y l t h d (by omega) hh (by omega)]

abbrev KN (b : Fin 9) (g : Fin 32) := scaled (kL (kA LO EV PM z st fr x b)) (k0_pay1405 k0_pay1428 (kIn (kA LO EV PM z st fr x b))) (nOf LO x b g 0) (nOf LO x b g 1)

include hx hf hz in
/-- The other halves scaled, of the first and of the second pair of blocks. -/
theorem KN_at (b : Fin 9) (g : Fin 32) (y : Fin 256) (l : Fin 128) (h : Fin 8) (hh : h.val = y.val % 8) :
    left8 (KN x st fr z b g) (ix2 y l) = code (ksc k st fq b h) (nOf LO x b g 0 (ix2 (src y) l))
    ∧ right8 (KN x st fr z b g) (ix2 y l) = code (ksc k st fq b h) (nOf LO x b g 1 (ix2 (src y) l)) := by
  have e2 : (⟨y.val % 8, by omega⟩ : Fin 8) = h := Fin.ext hh.symm
  have := scaled_at (kL (kA LO EV PM z st fr x b)) (k0_pay1405 k0_pay1428 (kIn (kA LO EV PM z st fr x b))) (fun i => ksc k st fq b i) (fun i => hsc_pos _)
    (fun p r l => by rw [kL_at, kQ0_amax x k hx st fr fq hf z hz]; rfl)
    (fun i j => by
      refine (scaled_perm_at k0_pay1428 _ i j).trans ?_
      rw [perm_at, kIn_eq x k hx st fr fq hf z hz]
      split <;> simp) (nOf LO x b g 0) (nOf LO x b g 1) y l
  simp only [e2] at this
  exact this

theorem src_row : ∀ y : Fin 256, 8 * ((src y).val / 64) + (src y).val % 8 = y.val / 8 ∧ (src y).val / 8 % 8 = y.val % 8 := by decide +kernel

include hx in
theorem nOf_src (b : Fin 9) (g : Fin 32) (j : Fin 2) (y : Fin 256) (l : Fin 128) (t : Fin 4096) (h : Fin 8) (d : Fin 128)
    (ht : t.val = 128 * g.val + 32 * (j.val + if l.val < 64 then 2 else 0) + y.val / 8) (hh : h.val = y.val % 8) (hd : d.val = 64 + l.val % 64) :
    nOf LO x b g j (ix2 (src y) l) = rk st fq k b t h d := by
  refine (nOf_at x k hx st fq b g j (src y) l t h (by rw [ht, (src_row y).1]) (by rw [hh, (src_row y).2])).trans (congrArg (rk st fq k b t h) (Fin.ext hd.symm))

include hx hf hz in
theorem kOut_at (b : Fin 9) (g : Fin 32) (j : Fin 4) (y : Fin 256) (d : Fin 128) (t : Fin 4096) (h : Fin 8)
    (ht : t.val = 128 * g.val + 32 * j.val + y.val / 8) (hh : h.val = y.val % 8) :
    kOut LO EV PM x b (cosB st fr b) (sinB st fr b) (kIn (kA LO EV PM z st fr x b)) (kL (kA LO EV PM z st fr x b)) (k0_pay1405 k0_pay1428 (kIn (kA LO EV PM z st fr x b))) g j (ix2 y d)
      = code (ksc k st fq b h) (rk st fq k b t h d) := by
  have hd := d.isLt
  have o0 := out0_eq x k hx st fr fq hf z hz b g y
  have o1 := out1_eq x k hx st fr fq hf z hz b g y
  have n := KN_at x k hx st fr fq hf z hz b g y
  have s := nOf_src x k hx st fq b g
  match j with
  | 0 =>
    refine (outLo_at (out0 EV (KQ x st fr z b g 0) (KQ x st fr z b g 1)) (left8 (KN x st fr z b g)) y d).trans ?_
    have ht : t.val = 128 * g.val + 32 * 0 + y.val / 8 := ht
    split_ifs with hl
    · exact o0 d t h d (by omega) hh (by omega)
    · rw [(n d h hh).1, s 0 y d t h d (by rw [if_neg hl]; exact ht) hh (by omega)]
  | 1 =>
    refine (outLo_at (out1 EV (KQ x st fr z b g 0) (KQ x st fr z b g 1)) (right8 (KN x st fr z b g)) y d).trans ?_
    have ht : t.val = 128 * g.val + 32 * 1 + y.val / 8 := ht
    split_ifs with hl
    · exact o1 d t h d (by omega) hh (by omega)
    · rw [(n d h hh).2, s 1 y d t h d (by rw [if_neg hl]; exact ht) hh (by omega)]
  | 2 =>
    refine (outHi_at (out0 EV (KQ x st fr z b g 0) (KQ x st fr z b g 1)) (left8 (KN x st fr z b g)) y d).trans ?_
    have ht : t.val = 128 * g.val + 32 * 2 + y.val / 8 := ht
    split_ifs with hl
    · exact o0 _ t h d (by show t.val = 128 * g.val + 32 * (2 * ((d.val + 64) % 128 / 64)) + y.val / 8; omega) hh (by show d.val = (d.val + 64) % 128 % 64; omega)
    · rw [(n _ h hh).1, s 0 y _ t h d (by rw [if_pos (by show (d.val + 64) % 128 < 64; omega)]; exact ht) hh (by show d.val = 64 + (d.val + 64) % 128 % 64; omega)]
  | 3 =>
    refine (outHi_at (out1 EV (KQ x st fr z b g 0) (KQ x st fr z b g 1)) (right8 (KN x st fr z b g)) y d).trans ?_
    have ht : t.val = 128 * g.val + 32 * 3 + y.val / 8 := ht
    split_ifs with hl
    · exact o1 _ t h d (by show t.val = 128 * g.val + 32 * (2 * ((d.val + 64) % 128 / 64) + 1) + y.val / 8; omega) hh (by show d.val = (d.val + 64) % 128 % 64; omega)
    · rw [(n _ h hh).2, s 1 y _ t h d (by rw [if_pos (by show (d.val + 64) % 128 < 64; omega)]; exact ht) hh (by show d.val = 64 + (d.val + 64) % 128 % 64; omega)]

include hx hf hz in
theorem kc_at (b : Fin 9) (t : Fin 4096) (h : Fin 8) (d : Fin 128) (R : Fin 32768) (hR : R.val = 8 * t.val + h.val) :
    kcG LO EV k0_pay1428 PM z st fr x (ix3 b R d) = code (hsc (fun t d => rk st fq k b t h d)) (rk st fq k b t h d) := by
  refine (koM_at LO EV PM x b (cosB st fr b) (sinB st fr b) (kIn (kA LO EV PM z st fr x b)) (kL (kA LO EV PM z st fr x b)) (k0_pay1405 k0_pay1428 (kIn (kA LO EV PM z st fr x b)))
    ⟨R.val / 1024, by omega⟩ ⟨R.val / 256 % 4, by omega⟩ ⟨R.val % 256, by omega⟩ d R
    (by show R.val = 1024 * (R.val / 1024) + 256 * (R.val / 256 % 4) + R.val % 256; omega)).trans ?_
  exact kOut_at x k hx st fr fq hf z hz b _ _ _ d t h
    (by show t.val = 128 * (R.val / 1024) + 32 * (R.val / 256 % 4) + R.val % 256 / 8; omega) (by show h.val = R.val % 256 % 8; omega)

end

end Cert.Proof.Val

end
-- ==== Proof.Val.Ref.lean ====
/- What the reference computes before its last conversion. -/
module

public import proofs.«01_k».proof.Proof.Gen.ReferenceIdeal.Frame
public import proofs.«01_k».proof.Proof.Val.Scale
public import Idealize.ShloMosaic.Lib.Claim
public import Idealize.ShloMosaic.Lib.StableHlo.ReadAt

@[expose] public section

set_option maxRecDepth 16384

noncomputable section

namespace Cert.Proof.Val

open Cert.ReferenceIdeal Cert.ReferenceIdeal.Gen
open Idealize.ShloMosaic

section
variable (m : (ℓ : Loc nD τ sig) → Buf (Elt Ideal) ℓ) (c : Dev nD)

/-! ## Each named intermediate from the ones before it -/

set_option maxHeartbeats 4000000

theorem v1_eq : (V m c main_v1 : FVec Ideal S9x4096x8x128 .f32) = shapeCast S9x4096x8x128 (m ((c.tc : Thread nD τ).loc main_arg0) : S9x4096x1024.Idx → EReal) shapeCasts_S9x4096x1024_S9x4096x8x128 := by
  unfold V
  after_reads_simp
  rfl
theorem v3_eq : (V m c main_v3 : FVec Ideal S9x4096x8x128 .f32) = shapeCast S9x4096x8x128 (m ((c.tc : Thread nD τ).loc main_arg1) : S9x4096x1024.Idx → EReal) shapeCasts_S9x4096x1024_S9x4096x8x128 := by
  unfold V
  after_reads_simp
  rfl

/-- The largest magnitude of every head over 448. -/
def big (x : FVec Ideal S9x4096x8x128 .f32) : FVec Ideal S9x8 .f32 :=
  mulf (Host.reduce FloatOps.maximumf (Host.absf x) (constant S_ .f32 0xFF800000#32) reducesTo_S9x4096x8x128_S9x8_d1_3 h_S_) (broadcastInDim S9x8 ![] bcast_S_S9x8 (constant S_ .f32 0x3B124925#32))
/-- How many powers of two are at most each. -/
def cnt (a : FVec Ideal S9x8 .f32) : FVec Ideal S9x8 .f32 :=
  Host.reduceAdd (uitofp .f32 (cmpf .oge (broadcastInDim S9x8x255 ![0, 1, 2] bcast_S9x8x1_S9x8x255_0_1_2 (broadcastInDim S9x8x1 ![0, 1] bcast_S9x8_S9x8x1_0_1 a))
    (broadcastInDim S9x8x255 ![0, 1, 2] bcast_S1x1x255_S9x8x255_0_1_2 (broadcastInDim S1x1x255 ![2] bcast_S255_S1x1x255_2
      (Host.powf (broadcastInDim S255 ![] bcast_S_S255 (constant S_ .f32 0x40000000#32)) (sitofp .f32 (subi (iotaInDim S255 32 0) (broadcastInDim S255 ![] bcast_S_S255 (constantI S_ 32 126#32)))))))))
    (constant S_ .f32 0x00000000#32) reducesTo_S9x8x255_S9x8_d2 h_S_
/-- The power of two that the count stands for. -/
def pick (n : FVec Ideal S9x8 .f32) : FVec Ideal S9x8 .f32 :=
  select (andi (cmpf .oge n (broadcastInDim S9x8 ![] bcast_S_S9x8 (constant S_ .f32 0x3F800000#32))) (cmpf .ole n (broadcastInDim S9x8 ![] bcast_S_S9x8 (constant S_ .f32 0x437E0000#32))))
    (Host.powf (broadcastInDim S9x8 ![] bcast_S_S9x8 (constant S_ .f32 0x40000000#32)) (subf n (broadcastInDim S9x8 ![] bcast_S_S9x8 (constant S_ .f32 0x42FC0000#32))))
    (broadcastInDim S9x8 ![] bcast_S_S9x8 (constant S_ .f32 0x3F800000#32))
/-- Divided by the scale and clipped. -/
def cut (x : FVec Ideal S9x4096x8x128 .f32) (s : FVec Ideal S9x8 .f32) : FVec Ideal S9x4096x8x128 .f32 :=
  minimumf (broadcastInDim S9x4096x8x128 ![] bcast_S_S9x4096x8x128 (constant S_ .f32 0x43E00000#32))
    (maximumf (broadcastInDim S9x4096x8x128 ![] bcast_S_S9x4096x8x128 (constant S_ .f32 0xC3E00000#32))
      (Host.divf x (broadcastInDim S9x4096x8x128 ![0, 1, 2, 3] bcast_S9x1x8x1_S9x4096x8x128_0_1_2_3 (broadcastInDim S9x1x8x1 ![0, 2] bcast_S9x8_S9x1x8x1_0_2 s))))
/-- The angles. -/
def turn (p : IVec S9 32) (f : FVec Ideal S32 .f32) : FVec Ideal S9x4096x1x32 .f32 :=
  mulf (broadcastInDim S9x4096x1x32 ![0, 1, 2, 3] bcast_S9x4096x1x1_S9x4096x1x32_0_1_2_3 (broadcastInDim S9x4096x1x1 ![0, 1] bcast_S9x4096_S9x4096x1x1_0_1
      (sitofp .f32 (addi (broadcastInDim S9x4096 ![0, 1] bcast_S9x1_S9x4096_0_1 (broadcastInDim S9x1 ![0] bcast_S9_S9x1_0 p))
        (broadcastInDim S9x4096 ![0, 1] bcast_S1x4096_S9x4096_0_1 (broadcastInDim S1x4096 ![1] bcast_S4096_S1x4096_1 (iotaInDim S4096 32 0)))))))
    (broadcastInDim S9x4096x1x32 ![0, 1, 2, 3] bcast_S1x1x1x32_S9x4096x1x32_0_1_2_3 (broadcastInDim S1x1x1x32 ![3] bcast_S32_S1x1x1x32_3 f))

abbrev first (x : FVec Ideal S9x4096x8x128 .f32) : FVec Ideal S9x4096x8x32 .f32 := extractStridedSlice S9x4096x8x32 ![0, 0, 0, 0] x slices_S9x4096x8x128_S9x4096x8x32_0_0_0_0
abbrev second (x : FVec Ideal S9x4096x8x128 .f32) : FVec Ideal S9x4096x8x32 .f32 := extractStridedSlice S9x4096x8x32 ![0, 0, 0, 32] x slices_S9x4096x8x128_S9x4096x8x32_0_0_0_32
abbrev each (x : FVec Ideal S9x4096x1x32 .f32) : FVec Ideal S9x4096x8x32 .f32 := broadcastInDim S9x4096x8x32 ![0, 1, 2, 3] bcast_S9x4096x1x32_S9x4096x8x32_0_1_2_3 x
def lead (x : FVec Ideal S9x4096x8x128 .f32) (w : FVec Ideal S9x4096x1x32 .f32) : FVec Ideal S9x4096x8x32 .f32 := subf (mulf (first x) (each (Host.cos w))) (mulf (second x) (each (Host.sin w)))
def next (x : FVec Ideal S9x4096x8x128 .f32) (w : FVec Ideal S9x4096x1x32 .f32) : FVec Ideal S9x4096x8x32 .f32 := addf (mulf (second x) (each (Host.cos w))) (mulf (first x) (each (Host.sin w)))
/-- The first 64 dimensions rotated. -/
def rotated (x : FVec Ideal S9x4096x8x128 .f32) (w : FVec Ideal S9x4096x1x32 .f32) : FVec Ideal S9x4096x8x128 .f32 :=
  concatenate S9x4096x8x128 3 [⟨S9x4096x8x32, lead x w⟩, ⟨S9x4096x8x32, next x w⟩, ⟨S9x4096x8x64, extractStridedSlice S9x4096x8x64 ![0, 0, 0, 64] x slices_S9x4096x8x128_S9x4096x8x64_0_0_0_64⟩]
    concatenates_S9x4096x8x32_S9x4096x8x32_S9x4096x8x64_S9x4096x8x128_d3

theorem v26_eq : (V m c main_v26 : FVec Ideal S9x4096x1x32 .f32) = turn (m ((c.tc : Thread nD τ).loc main_arg2)) (V m c main_v14) := by
  unfold V turn
  after_reads_simp
theorem v42_eq : (V m c main_v42 : FVec Ideal S9x4096x8x128 .f32) = rotated (V m c main_v1) (V m c main_v26) := by
  unfold V rotated lead next
  after_reads_simp
  rfl
theorem v46_eq : (V m c main_v46 : FVec Ideal S9x8 .f32) = big (V m c main_v42) := by
  unfold V big
  after_reads_simp
theorem v73_eq : (V m c main_v73 : FVec Ideal S9x8 .f32) = big (V m c main_v3) := by
  unfold V big
  after_reads_simp
theorem v59_eq : (V m c main_v59 : FVec Ideal S9x8 .f32) = cnt (V m c main_v46) := by
  unfold V cnt
  after_reads_simp
theorem v86_eq : (V m c main_v86 : FVec Ideal S9x8 .f32) = cnt (V m c main_v73) := by
  unfold V cnt
  after_reads_simp
theorem v69_eq : (V m c main_v69 : FVec Ideal S9x8 .f32) = pick (V m c main_v59) := by
  unfold V pick
  after_reads_simp
  rfl
theorem v96_eq : (V m c main_v96 : FVec Ideal S9x8 .f32) = pick (V m c main_v86) := by
  unfold V pick
  after_reads_simp
  rfl
theorem v100_eq : (V m c main_v100 : FVec Ideal S9x4096x8x128 .f32) = cut (V m c main_v42) (V m c main_v69) := by
  unfold V cut
  after_reads_simp
  rfl
theorem v104_eq : (V m c main_v104 : FVec Ideal S9x4096x8x128 .f32) = cut (V m c main_v3) (V m c main_v96) := by
  unfold V cut
  after_reads_simp
  rfl
end

end Cert.Proof.Val

end
-- ==== Proof.Val.RefBig.lean ====
/- The largest magnitude of each head, as the reference finds it. -/
module

public import proofs.«01_k».proof.Proof.Val.Ref
public import proofs.«01_k».proof.Proof.Val.Acc

@[expose] public section

set_option maxRecDepth 16384

noncomputable section

namespace Cert.Proof.Val

open Cert.ReferenceIdeal Cert.ReferenceIdeal.Gen
open Idealize.ShloMosaic

/-- The maximum along some axes is at most `a` when every entry is. -/
theorem reduce_le {s t u : Shape} {axes : List (Fin s.rank)} (x : FVec Ideal s .f32) (init : FVec Ideal u .f32) (h : s.ReducesTo axes t) (hu : 0 < u.numel) (j : t.Idx) (a : EReal) :
    (Host.reduce (FloatOps.maximumf (F := Ideal) (φ := .f32)) x init h hu j : EReal) ≤ a ↔ (init (Shape.Idx.first hu) : EReal) ≤ a ∧ ∀ i, h.drop i = j → (x i : EReal) ≤ a := by
  rw [Host.reduce_eq_fold]
  refine (Finset.fold_max_le (β := EReal) _).trans ?_
  simp only [Finset.mem_filter, Finset.mem_univ, true_and]

theorem absf_all {s : Shape} (x : FVec Ideal s .f32) (i : s.Idx) : Host.absf x i = ab (x i) := rfl
theorem mul_splat (A : FVec Ideal S9x8 .f32) (w : BitVec 32) (j : S9x8.Idx) (r : EReal) (h : A j = r) :
    mulf A (broadcastInDim S9x8 ![] bcast_S_S9x8 (constant (F := Ideal) S_ .f32 w)) j = r * Ideal.ofBits .f32 w := by
  rw [← h]; rfl
theorem first_low : ((constant (F := Ideal) S_ .f32 0xFF800000#32) (Shape.Idx.first h_S_) : EReal) = ⊥ := neg_inf

theorem drop_iff (i : S9x4096x8x128.Idx) (b : Fin 9) (h : Fin 8) : reducesTo_S9x4096x8x128_S9x8_d1_3.drop i = ix2 b h ↔ i 0 = b ∧ i 2 = h := by
  have h0 := Shape.ReducesTo.drop_apply_val_of_eq reducesTo_S9x4096x8x128_S9x8_d1_3 i 0 0
  have h1 := Shape.ReducesTo.drop_apply_val_of_eq reducesTo_S9x4096x8x128_S9x8_d1_3 i 1 2
  constructor
  · intro e
    rw [e] at h0 h1
    exact ⟨Fin.ext h0.symm, Fin.ext h1.symm⟩
  · rintro ⟨e0, e1⟩
    funext q
    match q with
    | ⟨0, _⟩ => exact Fin.ext (h0.trans (congrArg Fin.val e0))
    | ⟨1, _⟩ => exact Fin.ext (h1.trans (congrArg Fin.val e1))

theorem idx_of (i : S9x4096x8x128.Idx) (b : Fin 9) (h : Fin 8) (e0 : i 0 = b) (e1 : i 2 = h) : i = ix4 b (i 1) h (i 3) := by
  subst e0 e1
  funext q
  match q with
  | ⟨0, _⟩ => rfl
  | ⟨1, _⟩ => rfl
  | ⟨2, _⟩ => rfl
  | ⟨3, _⟩ => rfl

theorem top_iff (x : FVec Ideal S9x4096x8x128 .f32) (b : Fin 9) (h : Fin 8) (a : EReal) :
    (∀ i, reducesTo_S9x4096x8x128_S9x8_d1_3.drop i = ix2 b h → (Host.absf x i : EReal) ≤ a) ↔ ∀ t d, ab (x (ix4 b t h d)) ≤ a := by
  simp only [absf_all, drop_iff]
  constructor
  · intro H t d
    exact H (ix4 b t h d) ⟨rfl, rfl⟩
  · rintro H i ⟨e0, e1⟩
    rw [idx_of i b h e0 e1]
    exact H (i 1) (i 3)

theorem top_at (x : FVec Ideal S9x4096x8x128 .f32) (b : Fin 9) (h : Fin 8) :
    Host.reduce (FloatOps.maximumf (F := Ideal) (φ := .f32)) (Host.absf x) (constant S_ .f32 0xFF800000#32) reducesTo_S9x4096x8x128_S9x8_d1_3 h_S_ (ix2 b h) = amax (fun t d => x (ix4 b t h d)) := by
  refine eq_of_forall_ge_iff fun a => (reduce_le _ _ _ _ _ a).trans ?_
  rw [top_iff, first_low, amax_le]
  exact and_iff_right bot_le

theorem big_at (x : FVec Ideal S9x4096x8x128 .f32) (b : Fin 9) (h : Fin 8) :
    big x (ix2 b h) = amax (fun t d => x (ix4 b t h d)) * Ideal.ofBits .f32 0x3B124925#32 := by
  unfold big
  exact mul_splat _ _ _ _ (top_at x b h)

end Cert.Proof.Val

end
-- ==== Proof.Val.RefAt.lean ====
/- The reference's intermediates, element by element. -/
module

public import proofs.«01_k».proof.Proof.Val.RefBig
public import proofs.«01_k».proof.Proof.Val.Rot

@[expose] public section

set_option maxRecDepth 16384

noncomputable section

namespace Cert.Proof.Val

open Cert.ReferenceIdeal Cert.ReferenceIdeal.Gen
open Idealize.ShloMosaic

theorem two : Ideal.ofBits .f32 1073741824#32 = ((2 : ℝ) : EReal) := by
  simp [Ideal.ofBits, Ideal.ieee, -EReal.coe_mul]; norm_num
theorem c_254 : Ideal.ofBits .f32 1132331008#32 = ((254 : ℝ) : EReal) := by
  simp [Ideal.ofBits, Ideal.ieee, -EReal.coe_mul]; norm_num
theorem c_126 : Ideal.ofBits .f32 1123811328#32 = ((126 : ℝ) : EReal) := by
  simp [Ideal.ofBits, Ideal.ieee, -EReal.coe_mul]; norm_num

theorem exp_word : ∀ j : Fin 255, (IntOp.subi (BitVec.ofNat 32 j.val) 126#32).toInt = (j.val : ℤ) - 126 := by decide +kernel

theorem cnt_at (a : FVec Ideal S9x8 .f32) (b : Fin 9) (h : Fin 8) : cnt a (ix2 b h) = ((lv (a (ix2 b h)) : ℝ) : EReal) := by
  pointwise [cnt]
  rw [← count_lv]
  refine Finset.sum_congr rfl fun j _ => ?_
  have e : Ideal.pow (Ideal.ofBits .f32 1073741824#32) (FloatOps.sitofp (F := Ideal) .f32 (IntOp.subi (BitVec.ofNat 32 j.val) 126#32)) = pw (j.val + 1) := by
    rw [two]
    show Ideal.pow ((2 : ℝ) : EReal) ((((IntOp.subi (BitVec.ofNat 32 j.val) 126#32).toInt : ℤ) : ℝ) : EReal) = _
    rw [pow_two_int, exp_word]
    unfold pw
    congr 2
    push_cast
    ring
  rw [e]
  by_cases hc : pw (j.val + 1) ≤ a (ix2 b h)
  · rw [if_pos hc, decide_eq_true hc]
    show (((1 : ℕ) : ℝ) : EReal) = 1
    norm_num
  · rw [if_neg hc, decide_eq_false hc]
    show (((0 : ℕ) : ℝ) : EReal) = 0
    norm_num

theorem pick_at (n : FVec Ideal S9x8 .f32) (b : Fin 9) (h : Fin 8) (x : EReal) (hn : n (ix2 b h) = ((lv x : ℝ) : EReal)) : pick n (ix2 b h) = (sc x : EReal) := by
  have hl := lv_le x
  pointwise [pick]
  rw [hn, c_254, c_126, two]
  have h1 : (1 : EReal) ≤ ((lv x : ℝ) : EReal) ↔ 1 ≤ lv x := by
    rw [← EReal.coe_one, EReal.coe_le_coe_iff]
    exact Nat.one_le_cast
  have h2 : ((lv x : ℝ) : EReal) ≤ ((254 : ℝ) : EReal) ↔ lv x ≤ 254 := by
    rw [EReal.coe_le_coe_iff]
    exact Nat.cast_le_ofNat
  have h3 : ((lv x : ℝ) : EReal) - ((126 : ℝ) : EReal) = ((((lv x : ℤ) - 126 : ℤ) : ℝ) : EReal) := by
    rw [← EReal.coe_sub]
    push_cast
    rfl
  rw [h3, pow_two_int]
  simp only [h1, h2]
  unfold sc ex
  by_cases c1 : 1 ≤ lv x
  · by_cases c2 : lv x ≤ 254
    · rw [decide_eq_true c1, decide_eq_true c2, if_neg (by omega)]
      rfl
    · rw [decide_eq_true c1, decide_eq_false c2, if_pos (by omega), zpow_zero]
      rfl
  · rw [decide_eq_false c1, if_pos (by omega), zpow_zero]
    cases decide (lv x ≤ 254) <;> rfl

theorem cut_at (x : FVec Ideal S9x4096x8x128 .f32) (s : FVec Ideal S9x8 .f32) (b : Fin 9) (t : Fin 4096) (h : Fin 8) (d : Fin 128) (r : ℝ) (hr : 0 < r) (hs : s (ix2 b h) = (r : EReal)) :
    cut x s (ix4 b t h d) = code r (x (ix4 b t h d)) := by
  pointwise [cut]
  rw [hs, div_sc hr, c_448, c_neg448, min_comm, max_comm]
  rfl

theorem turn_at (p : IVec S9 32) (f : FVec Ideal S32 .f32) (b : Fin 9) (t : Fin 4096) (e : Fin 32) :
    turn p f (ix4 b t 0 e) = ang p (fun e => f (ix1 e)) b t e := by
  pointwise [turn, ang]

theorem rotated_at (k : Arr) (x : FVec Ideal S9x4096x8x128 .f32) (hx : ∀ b t h d, x (ix4 b t h d) = k b t h d) (p : IVec S9 32) (f : FVec Ideal S32 .f32)
    (b : Fin 9) (t : Fin 4096) (h : Fin 8) (d : Fin 128) :
    rotated x (turn p f) (ix4 b t h d) = rk p (fun e => f (ix1 e)) k b t h d := by
  unfold rk
  by_cases h1 : d.val < 32
  · rw [dif_pos h1]
    pointwise [rotated, lead, h1, hx]
    rw [turn_at]
    congr 3
    exact Fin.ext (Nat.add_comm _ _)
  by_cases h2 : d.val < 64
  · rw [dif_neg h1, dif_pos h2]
    have h3 : d.val - 32 < 32 := by omega
    pointwise [rotated, next, h1, h2, h3, hx]
    rw [turn_at]
    congr 3
    exact Fin.ext (by show 32 + (d.val - 32) = d.val; omega)
  · rw [dif_neg h1, dif_neg h2]
    have h3 : ¬ d.val - 32 < 32 := by omega
    pointwise [rotated, h1, h2, h3, hx]
    congr 1
    exact Fin.ext (by show 64 + (d.val - 32 - 32) = d.val; omega)

end Cert.Proof.Val

end
-- ==== Proof.Val.RefRun.lean ====
/- What the reference returns. -/
module

public import proofs.«01_k».proof.Proof.Val.RefAt
public import Idealize.ShloMosaic.Lib.Pipeline.ValueKit

@[expose] public section

set_option maxRecDepth 16384

noncomputable section

namespace Cert.Proof.Val

open Cert.ReferenceIdeal Cert.ReferenceIdeal.Gen
open Idealize.ShloMosaic

/-- The column of a head's lane. -/
abbrev col (h : Fin 8) (d : Fin 128) : Fin 1024 := ⟨h.val * 128 + d.val, by omega⟩
/-- An argument as an array by head. -/
def byHead (x : S9x4096x1024.Idx → EReal) : Arr := fun b t h d => x (ix3 b t (col h d))
/-- The frequency of a pair of lanes. -/
def freq (e : Fin 32) : EReal :=
  Ideal.div (Ideal.ofBits .f32 0x3F800000#32) (Ideal.pow (Ideal.ofBits .f32 0x461C4000#32)
    (Ideal.div (Ideal.ofBits .f32 0x00000000#32 + Ideal.ofBits .f32 0x40000000#32 * FloatOps.sitofp (F := Ideal) .f32 (BitVec.ofNat 32 e.val)) (Ideal.ofBits .f32 0x42800000#32)))

theorem split_at (x : S9x4096x1024.Idx → EReal) (b : Fin 9) (t : Fin 4096) (h : Fin 8) (d : Fin 128) :
    shapeCast S9x4096x8x128 x shapeCasts_S9x4096x1024_S9x4096x8x128 (ix4 b t h d) = byHead x b t h d := by
  pointwise [byHead, col]

section
variable (m : (ℓ : Loc nD τ sig) → Buf (Elt Ideal) ℓ) (c : Dev nD)

/-- The keys, the values and the start positions. -/
abbrev rK : Arr := byHead (m ((c.tc : Thread nD τ).loc main_arg0))
abbrev rV : Arr := byHead (m ((c.tc : Thread nD τ).loc main_arg1))
abbrev rP : S9.Idx → BitVec 32 := m ((c.tc : Thread nD τ).loc main_arg2)

set_option maxHeartbeats 4000000 in
theorem v14_at (e : Fin 32) : (V m c main_v14 : FVec Ideal S32 .f32) (ix1 e) = freq e := by
  unfold V
  after_reads_simp
  pointwise [freq]

theorem turned_at (b : Fin 9) (t : Fin 4096) (h : Fin 8) (d : Fin 128) : (V m c main_v42 : FVec Ideal S9x4096x8x128 .f32) (ix4 b t h d) = rk (rP m c) freq (rK m c) b t h d := by
  have e : (fun e => (V m c main_v14 : FVec Ideal S32 .f32) (ix1 e)) = freq := funext (v14_at m c)
  rw [v42_eq, v26_eq, ← e]
  refine rotated_at (rK m c) _ (fun b t h d => ?_) _ _ b t h d
  rw [v1_eq]
  exact split_at _ b t h d
theorem plain_at (b : Fin 9) (t : Fin 4096) (h : Fin 8) (d : Fin 128) : (V m c main_v3 : FVec Ideal S9x4096x8x128 .f32) (ix4 b t h d) = rV m c b t h d := by
  rw [v3_eq]
  exact split_at _ b t h d

theorem scales (x : FVec Ideal S9x4096x8x128 .f32) (v : Arr) (hx : ∀ b t h d, x (ix4 b t h d) = v b t h d) (b : Fin 9) (h : Fin 8) :
    pick (cnt (big x)) (ix2 b h) = (hsc (fun t d => v b t h d) : EReal) := by
  refine (pick_at _ b h _ (cnt_at _ b h)).trans ?_
  rw [big_at]
  simp only [hx]
  rfl

theorem v69_at (b : Fin 9) (h : Fin 8) : (V m c main_v69 : FVec Ideal S9x8 .f32) (ix2 b h) = (hsc (fun t d => rk (rP m c) freq (rK m c) b t h d) : EReal) := by
  rw [v69_eq, v59_eq, v46_eq]
  exact scales _ _ (turned_at m c) b h
theorem v96_at (b : Fin 9) (h : Fin 8) : (V m c main_v96 : FVec Ideal S9x8 .f32) (ix2 b h) = (hsc (fun t d => rV m c b t h d) : EReal) := by
  rw [v96_eq, v86_eq, v73_eq]
  exact scales _ _ (plain_at m c) b h
theorem v100_at (b : Fin 9) (t : Fin 4096) (h : Fin 8) (d : Fin 128) : (V m c main_v100 : FVec Ideal S9x4096x8x128 .f32) (ix4 b t h d)
    = code (hsc (fun t d => rk (rP m c) freq (rK m c) b t h d)) (rk (rP m c) freq (rK m c) b t h d) := by
  rw [v100_eq]
  refine (cut_at _ _ b t h d _ (hsc_pos _) (v69_at m c b h)).trans ?_
  rw [turned_at]
theorem v104_at (b : Fin 9) (t : Fin 4096) (h : Fin 8) (d : Fin 128) : (V m c main_v104 : FVec Ideal S9x4096x8x128 .f32) (ix4 b t h d)
    = code (hsc (fun t d => rV m c b t h d)) (rV m c b t h d) := by
  rw [v104_eq]
  refine (cut_at _ _ b t h d _ (hsc_pos _) (v96_at m c b h)).trans ?_
  rw [plain_at]

/-! ## The last conversion -/

theorem index_zero : ∀ t : Fin cfg0.N, win0_0.index t = ![0, 0, 0, 0] ∧ win0_1.index t = ![0, 0, 0, 0] ∧ win0_2.index t = ![0, 0, 0, 0] ∧ win0_3.index t = ![0, 0, 0, 0] :=
  (by decide +kernel : ∀ t : Fin grid0.N, _)

theorem whole0 : iblk m c 0 t0_0 = V m c main_v100 := by
  blk_ext! [iblk, index_zero t0_0]
theorem whole1 : iblk m c 1 t0_0 = V m c main_v104 := by
  blk_ext! [iblk, index_zero t0_0]

theorem pay1_at (x : FVec Ideal S9x4096x8x128 .f32) (j : S9x4096x8x128.Idx) : k0_pay1 (F := Ideal) x j = x j := by
  idx_vars j
  pointwise [k0_pay1]
theorem pay2_at (x : FVec Ideal S9x4096x8x128 .f32) (j : S9x4096x8x128.Idx) : k0_pay2 (F := Ideal) x j = x j := by
  idx_vars j
  pointwise [k0_pay2]

theorem out2 : (dats m 0 c).arrAt 2 cfg0.N = (fun i => (V m c main_v100 : FVec Ideal S9x4096x8x128 .f32) i) := by
  refine (dats m 0 c).arrAt_eq_of_after_last 2 t0_0 (by decide +kernel) _ fun j => ?_
  blk_simp
  rw [after0_2]
  unfold out0_2
  frame_out
  rw [whole0]
  exact pay1_at _ j
theorem out3 : (dats m 0 c).arrAt 3 cfg0.N = (fun i => (V m c main_v104 : FVec Ideal S9x4096x8x128 .f32) i) := by
  refine (dats m 0 c).arrAt_eq_of_after_last 3 t0_0 (by decide +kernel) _ fun j => ?_
  blk_simp
  rw [after0_3]
  unfold out0_3
  frame_out
  rw [whole1]
  exact pay2_at _ j

end

/-- Every way of running the reference ends with these results and the arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v105_0) = (fun i => (V m c main_v100 : FVec Ideal S9x4096x8x128 .f32) i)
      ∧ r.2.mem ((c.tc : Thread nD τ).loc main_v69) = V m c main_v69
      ∧ r.2.mem ((c.tc : Thread nD τ).loc main_v105_1) = (fun i => (V m c main_v104 : FVec Ideal S9x4096x8x128 .f32) i)
      ∧ r.2.mem ((c.tc : Thread nD τ).loc main_v96) = V m c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c =>
    ⟨(h.out_eq c 2).trans (out2 m c), h.rest_eq c main_v69 (Pipeline.mem_restRefs_of main_v69 (by decide) (by decide)),
      (h.out_eq c 3).trans (out3 m c), h.rest_eq c main_v96 (Pipeline.mem_restRefs_of main_v96 (by decide) (by decide)),
      (h.rest_eq c main_arg0 (Pipeline.mem_restRefs_of main_arg0 (by decide) (by decide))).trans (V_main_arg0 m c),
      (h.rest_eq c main_arg1 (Pipeline.mem_restRefs_of main_arg1 (by decide) (by decide))).trans (V_main_arg1 m c),
      (h.rest_eq c main_arg2 (Pipeline.mem_restRefs_of main_arg2 (by decide) (by decide))).trans (V_main_arg2 m c)⟩) (run_main m ρ)

end Cert.Proof.Val

end
-- ==== Proof.Val.KerIn.lean ====
/- What the kernel reads. -/
module

public import proofs.«01_k».proof.Proof.Val.Keys
public import proofs.«01_k».proof.Proof.Val.RefRun
public import proofs.«01_k».proof.Proof.KI.Launch
public import Idealize.ShloMosaic.Lib.StableHlo.ReadAt
public import Idealize.ShloMosaic.Lib.Pipeline.ValueKit

@[expose] public section

set_option maxRecDepth 16384

noncomputable section

namespace Cert.Proof.Val

open Cert.KernelIdeal Cert.KernelIdeal.Gen Cert.Proof.KernelIdeal
open Idealize.ShloMosaic

/-- The order that the kernel reads an argument in. -/
def tiled (x : S9x4096x1024.Idx → EReal) : S9x32768x128.Idx → EReal :=
  shapeCast S9x32768x128 (transpose S9x512x8x8x128 [0, 1, 3, 2, 4] (shapeCast S9x512x8x8x128 x shapeCasts_S9x4096x1024_S9x512x8x8x128) transposes_S9x512x8x8x128_S9x512x8x8x128_0_1_3_2_4) shapeCasts_S9x512x8x8x128_S9x32768x128

theorem tiled_at (x : S9x4096x1024.Idx → EReal) (b : Fin 9) (R : Fin 32768) (l : Fin 128) :
    tiled x (ix3 b R l) = x (ix3 b ⟨R.val / 64 * 8 + R.val % 8, by omega⟩ ⟨R.val / 8 % 8 * 128 + l.val, by omega⟩) := by
  pointwise [tiled]

section
variable (m : (ℓ : Loc nD τ sig) → Buf (Elt Ideal) ℓ) (c : Dev nD)

set_option maxHeartbeats 400000

theorem v15_eq : (V m c main_v15 : S9x512x8x8x128.Idx → EReal) = shapeCast S9x512x8x8x128 (m ((c.tc : Thread nD τ).loc main_arg0) : S9x4096x1024.Idx → EReal) shapeCasts_S9x4096x1024_S9x512x8x8x128 := by
  unfold V
  after_reads_simp
  rfl
theorem v16_eq : (V m c main_v16 : S9x512x8x8x128.Idx → EReal) = transpose S9x512x8x8x128 [0, 1, 3, 2, 4] (V m c main_v15 : S9x512x8x8x128.Idx → EReal) transposes_S9x512x8x8x128_S9x512x8x8x128_0_1_3_2_4 := by
  unfold V
  after_reads_simp
theorem v17_step : (V m c main_v17 : S9x32768x128.Idx → EReal) = shapeCast S9x32768x128 (V m c main_v16 : S9x512x8x8x128.Idx → EReal) shapeCasts_S9x512x8x8x128_S9x32768x128 := by
  unfold V
  after_reads_simp
  rfl
theorem v17_eq : (V m c main_v17 : S9x32768x128.Idx → EReal) = tiled (m ((c.tc : Thread nD τ).loc main_arg0)) := by
  rw [v17_step, v16_eq, v15_eq]
  unfold tiled
  with_reducible rfl
theorem v18_eq : (V m c main_v18 : S9x512x8x8x128.Idx → EReal) = shapeCast S9x512x8x8x128 (m ((c.tc : Thread nD τ).loc main_arg1) : S9x4096x1024.Idx → EReal) shapeCasts_S9x4096x1024_S9x512x8x8x128 := by
  unfold V
  after_reads_simp
  rfl
theorem v19_eq : (V m c main_v19 : S9x512x8x8x128.Idx → EReal) = transpose S9x512x8x8x128 [0, 1, 3, 2, 4] (V m c main_v18 : S9x512x8x8x128.Idx → EReal) transposes_S9x512x8x8x128_S9x512x8x8x128_0_1_3_2_4 := by
  unfold V
  after_reads_simp
theorem v20_step : (V m c main_v20 : S9x32768x128.Idx → EReal) = shapeCast S9x32768x128 (V m c main_v19 : S9x512x8x8x128.Idx → EReal) shapeCasts_S9x512x8x8x128_S9x32768x128 := by
  unfold V
  after_reads_simp
  rfl
theorem v20_eq : (V m c main_v20 : S9x32768x128.Idx → EReal) = tiled (m ((c.tc : Thread nD τ).loc main_arg1)) := by
  rw [v20_step, v19_eq, v18_eq]
  unfold tiled
  with_reducible rfl
theorem kv14_at (l : Fin 128) : (V m c main_v14 : FVec Ideal S1x128 .f32) (ix2 0 l) = freq (frq l) := by
  unfold V
  after_reads_simp
  pointwise [freq, frq]

theorem whole_k (f : main_v17.ty.Contents (Elt Ideal)) : kH.view.read (Elt Ideal) f = f := rfl
theorem whole_v (f : main_v20.ty.Contents (Elt Ideal)) : vH.view.read (Elt Ideal) f = f := rfl
theorem xK_eq : xK m c = tiled (m ((c.tc : Thread nD τ).loc main_arg0)) := by
  unfold xK
  exact (whole_k _).trans (v17_eq m c)
theorem xV_eq : xV m c = tiled (m ((c.tc : Thread nD τ).loc main_arg1)) := by
  unfold xV
  exact (whole_v _).trans (v20_eq m c)

theorem index_flat : ∀ t : Fin cfg0.N, win0_0.index t = ![0] ∧ win0_1.index t = ![0, 0] ∧ win0_2.index t = ![0, 0, 0] ∧ win0_3.index t = ![0, 0, 0] :=
  (by decide +kernel : ∀ t : Fin grid0.N, _)

theorem st_eq : st m c = m ((c.tc : Thread nD τ).loc main_arg2) := by
  refine Eq.trans ?_ (V_main_arg2 m c)
  blk_ext! [iblk, index_flat t0_0]
theorem fr_eq : fr m c = V m c main_v14 := by
  blk_ext! [iblk, index_flat t0_0]

theorem zAcc_zero (p : Fin 4) (r : Fin 16) (l : Fin 128) : acq (zAcc (F := Ideal)) p (ix2 r l) = 0 := by
  match p with
  | 0 => pointwise [acq, k0_pay1430]
  | 1 => pointwise [acq, k0_pay1431]
  | 2 => pointwise [acq, k0_pay1432, cZ]
  | 3 => pointwise [acq, k0_pay1433]

end

end Cert.Proof.Val

end
-- ==== Proof.Val.KerOut.lean ====
/- What the kernel's program returns. -/
module

public import proofs.«01_k».proof.Proof.Val.Keys
public import proofs.«01_k».proof.Proof.KI.Launch
public import Idealize.ShloMosaic.Lib.StableHlo.ReadAt
public import Idealize.ShloMosaic.Lib.Pipeline.ValueKit

@[expose] public section

set_option maxRecDepth 16384

noncomputable section

namespace Cert.Proof.Val

open Cert.KernelIdeal Cert.KernelIdeal.Gen Cert.Proof.KernelIdeal
open Idealize.ShloMosaic

section
variable (m : (ℓ : Loc nD τ sig) → Buf (Elt Ideal) ℓ) (c : Dev nD)

set_option maxHeartbeats 400000

/-! ## What the lines after the region read -/

theorem left2 : (dats m 0 c).arrAt 2 cfg0.N = rKs m c := by
  refine (dats m 0 c).arrAt_eq_of_after_last 2 t0_0 (by decide +kernel) _ fun j => ?_
  blk_simp
  rw [after_w2]
theorem left3 : (dats m 0 c).arrAt 3 cfg0.N = rVs m c := by
  refine (dats m 0 c).arrAt_eq_of_after_last 3 t0_0 (by decide +kernel) _ fun j => ?_
  blk_simp
  rw [after_w3]

theorem whole_kc (f : main_v21_0.ty.Contents (Elt Ideal)) : kcH.view.read (Elt Ideal) f = f := rfl
theorem whole_vc (f : main_v21_2.ty.Contents (Elt Ideal)) : vcH.view.read (Elt Ideal) f = f := rfl

theorem mid0 : Vmid m c (Proc.devRef .tc main_v21_0) = rKc m c := by
  unfold Vmid
  rw [Pipeline.withArrays_of_ne _ c _ _ main_v21_0 (by decide), Pipeline.withR_of_mem _ _ _ _ main_v21_0 (by decide), Gout_0]
  exact (whole_kc _).symm.trans (View.read_rep _ _)
theorem mid2 : Vmid m c (Proc.devRef .tc main_v21_2) = rVc m c := by
  unfold Vmid
  rw [Pipeline.withArrays_of_ne _ c _ _ main_v21_2 (by decide), Pipeline.withR_of_mem _ _ _ _ main_v21_2 (by decide), Gout_2]
  exact (whole_vc _).symm.trans (View.read_rep _ _)
theorem mid1 : Vmid m c (Proc.devRef .tc main_v21_1) = rKs m c := by
  unfold Vmid
  exact (Pipeline.withArrays_arr spec0 (by decide) c _ _ 2).trans (left2 m c)
theorem mid3 : Vmid m c (Proc.devRef .tc main_v21_3) = rVs m c := by
  unfold Vmid
  exact (Pipeline.withArrays_arr spec0 (by decide) c _ _ 3).trans (left3 m c)

/-- The results as the program returns them. -/
def unpack (x : S9x32768x128.Idx → EReal) : S9x4096x8x128.Idx → EReal := shapeCast S9x4096x8x128 x shapeCasts_S9x32768x128_S9x4096x8x128
def lane0 (x : S9x8x128.Idx → EReal) : S9x8.Idx → EReal := shapeCast S9x8 (extractStridedSlice S9x8x1 ![0, 0, 0] x slices_S9x8x128_S9x8x1_0_0_0) shapeCasts_S9x8x1_S9x8

theorem unpack_at (x : S9x32768x128.Idx → EReal) (b : Fin 9) (t : Fin 4096) (h : Fin 8) (d : Fin 128) :
    unpack x (ix4 b t h d) = x (ix3 b ⟨t.val * 8 + h.val, by omega⟩ d) := by
  pointwise [unpack]
theorem lane0_at (x : S9x8x128.Idx → EReal) (b : Fin 9) (h : Fin 8) : lane0 x (ix2 b h) = x (ix3 b h 0) := by
  pointwise [lane0]

abbrev Vend : Valuation τ sig (Elt Ideal) := StableHlo.after ([hostOps1] : List (List (HloOp τ sig (Elt Ideal)))).flatten (Vmid m c)

theorem end22 : Vend m c (Proc.devRef .tc main_v22) = unpack (rKc m c) := by
  rw [← mid0]
  unfold unpack
  after_reads_simp
  rfl
theorem end24 : Vend m c (Proc.devRef .tc main_v24) = lane0 (rKs m c) := by
  rw [← mid1]
  unfold lane0
  after_reads_simp
  rfl
theorem end25 : Vend m c (Proc.devRef .tc main_v25) = unpack (rVc m c) := by
  rw [← mid2]
  unfold unpack
  after_reads_simp
  rfl
theorem end27 : Vend m c (Proc.devRef .tc main_v27) = lane0 (rVs m c) := by
  rw [← mid3]
  unfold lane0
  after_reads_simp
  rfl

end

end Cert.Proof.Val

end
-- ==== Proof.Val.Final.lean ====
/- The kernel returns what the reference returns. -/
module

public import proofs.«01_k».proof.Proof.Val.KerIn
public import proofs.«01_k».proof.Proof.Val.KerOut

@[expose] public section

set_option maxRecDepth 16384

noncomputable section

namespace Cert.Proof.Val

open Idealize.ShloMosaic

/-! ## The kernel's results, element by element -/

section
open Cert.KernelIdeal Cert.KernelIdeal.Gen Cert.Proof.KernelIdeal
variable (m : (ℓ : Loc nD τ sig) → Buf (Elt Ideal) ℓ) (c : Dev nD)

theorem headMajor (x : S9x4096x1024.Idx → EReal) : HeadMajor (tiled x) (byHead x) := by
  intro b R l
  refine (tiled_at x b R l).trans ?_
  unfold byHead
  have e : (⟨R.val / 64 * 8 + R.val % 8, by omega⟩ : Fin 4096) = ⟨8 * (R.val / 64) + R.val % 8, by omega⟩ := Fin.ext (by show R.val / 64 * 8 + R.val % 8 = 8 * (R.val / 64) + R.val % 8; omega)
  rw [e]

/-- The keys, the values and the start positions. -/
abbrev kK : Arr := byHead (m ((c.tc : Thread nD τ).loc main_arg0))
abbrev kV : Arr := byHead (m ((c.tc : Thread nD τ).loc main_arg1))
abbrev kP : S9.Idx → BitVec 32 := m ((c.tc : Thread nD τ).loc main_arg2)

theorem keys_at : HeadMajor (xK m c) (kK m c) := by rw [xK_eq]; exact headMajor _
theorem values_at : HeadMajor (xV m c) (kV m c) := by rw [xV_eq]; exact headMajor _
theorem lanes_at (l : Fin 128) : (fr m c : FVec Ideal S1x128 .f32) (ix2 0 l) = freq (frq l) := by rw [fr_eq]; exact kv14_at m c l

theorem r22_at (b : Fin 9) (t : Fin 4096) (h : Fin 8) (d : Fin 128) : unpack (rKc m c) (ix4 b t h d)
    = code (hsc (fun t d => rk (kP m c) freq (kK m c) b t h d)) (rk (kP m c) freq (kK m c) b t h d) := by
  refine (unpack_at _ b t h d).trans ?_
  unfold rKc GKc
  rw [st_eq]
  exact kc_at _ _ (keys_at m c) _ _ _ (lanes_at m c) _ zAcc_zero b t h d _ (by show t.val * 8 + h.val = 8 * t.val + h.val; omega)
theorem r24_at (b : Fin 9) (h : Fin 8) : lane0 (rKs m c) (ix2 b h) = (hsc (fun t d => rk (kP m c) freq (kK m c) b t h d) : EReal) := by
  refine (lane0_at _ b h).trans ?_
  unfold rKs GKs
  rw [st_eq]
  exact ks_at _ _ (keys_at m c) _ _ _ (lanes_at m c) _ zAcc_zero b h 0
theorem r25_at (b : Fin 9) (t : Fin 4096) (h : Fin 8) (d : Fin 128) : unpack (rVc m c) (ix4 b t h d)
    = code (hsc (fun t d => kV m c b t h d)) (kV m c b t h d) := by
  refine (unpack_at _ b t h d).trans ?_
  unfold rVc GVc
  exact vc_at _ _ (values_at m c) _ zAcc_zero b t h d _ (by show t.val * 8 + h.val = 8 * t.val + h.val; omega)
theorem r27_at (b : Fin 9) (h : Fin 8) : lane0 (rVs m c) (ix2 b h) = (hsc (fun t d => kV m c b t h d) : EReal) := by
  refine (lane0_at _ b h).trans ?_
  unfold rVs GVs
  exact vs_at _ _ (values_at m c) _ zAcc_zero b h 0

/-- Every way of running the kernel's program ends with these results and the arguments as they were. -/
theorem ker_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = unpack (rKc m c)
      ∧ r.2.mem ((c.tc : Thread nD τ).loc main_v24) = lane0 (rKs m c)
      ∧ r.2.mem ((c.tc : Thread nD τ).loc main_v25) = unpack (rVc m c)
      ∧ r.2.mem ((c.tc : Thread nD τ).loc main_v27) = lane0 (rVs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).2 main_v22 (Pipeline.mem_restRefs_of main_v22 (by decide) (by decide))).trans (end22 m c),
      ((h.1 c).2 main_v24 (Pipeline.mem_restRefs_of main_v24 (by decide) (by decide))).trans (end24 m c),
      ((h.1 c).2 main_v25 (Pipeline.mem_restRefs_of main_v25 (by decide) (by decide))).trans (end25 m c),
      ((h.1 c).2 main_v27 (Pipeline.mem_restRefs_of main_v27 (by decide) (by decide))).trans (end27 m c),
      args_kept m r c (h.1 c)⟩) (Cert.Proof.KernelIdeal.run_main (F := Ideal) m ρ)
end

/-! ## The two side by side -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem same_codes (x y : Cert.ReferenceIdeal.S9x4096x8x128.Idx → EReal) (G : Arr) (hx : ∀ b t h d, x (ix4 b t h d) = G b t h d) (hy : ∀ b t h d, y (ix4 b t h d) = G b t h d) : x = y := by
  funext i
  idx_vars i
  exact (hx _ _ _ _).trans (hy _ _ _ _).symm
theorem same_scales (x y : Cert.ReferenceIdeal.S9x8.Idx → EReal) (G : Fin 9 → Fin 8 → EReal) (hx : ∀ b h, x (ix2 b h) = G b h) (hy : ∀ b h, y (ix2 b h) = G b h) : x = y := by
  funext i
  idx_vars i
  exact (hx _ _).trans (hy _ _).symm

variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

include h0 in
theorem eK : rK m' c = kK m c := congrArg byHead h0
include h1 in
theorem eV : rV m' c = kV m c := congrArg byHead h1
include h2 in
theorem eP : rP m' c = kP m c := h2

include h0 h2 in
theorem eq0 : (fun i => (Cert.ReferenceIdeal.Gen.V m' c Cert.ReferenceIdeal.main_v100 : FVec Ideal Cert.ReferenceIdeal.S9x4096x8x128 .f32) i : Cert.ReferenceIdeal.S9x4096x8x128.Idx → EReal) = unpack (Cert.Proof.KernelIdeal.rKc m c) := by
  refine same_codes _ _ _ (fun b t h d => ?_) (r22_at m c)
  rw [v100_at, eK m m' c h0, eP m m' c h2]
include h0 h2 in
theorem eq1 : (Cert.ReferenceIdeal.Gen.V m' c Cert.ReferenceIdeal.main_v69 : Cert.ReferenceIdeal.S9x8.Idx → EReal) = lane0 (Cert.Proof.KernelIdeal.rKs m c) := by
  refine same_scales _ _ _ (fun b h => ?_) (r24_at m c)
  refine (v69_at m' c b h).trans ?_
  rw [eK m m' c h0, eP m m' c h2]
include h1 in
theorem eq2 : (fun i => (Cert.ReferenceIdeal.Gen.V m' c Cert.ReferenceIdeal.main_v104 : FVec Ideal Cert.ReferenceIdeal.S9x4096x8x128 .f32) i : Cert.ReferenceIdeal.S9x4096x8x128.Idx → EReal) = unpack (Cert.Proof.KernelIdeal.rVc m c) := by
  refine same_codes _ _ _ (fun b t h d => ?_) (r25_at m c)
  rw [v104_at, eV m m' c h1]
include h1 in
theorem eq3 : (Cert.ReferenceIdeal.Gen.V m' c Cert.ReferenceIdeal.main_v96 : Cert.ReferenceIdeal.S9x8.Idx → EReal) = lane0 (Cert.Proof.KernelIdeal.rVs m c) := by
  refine same_scales _ _ _ (fun b h => ?_) (r27_at m c)
  refine (v96_at m' c b h).trans ?_
  rw [eV m m' c h1]
end

/-- The kernel and the reference return the same codes and the same scales. -/
theorem algebraic : Cert.algebraic_KernelIdeal_ReferenceIdeal := by
  intro m g m' g' _ hargs
  refine ⟨fun c => unpack (Cert.Proof.KernelIdeal.rKc m c), fun c => lane0 (Cert.Proof.KernelIdeal.rKs m c), fun c => unpack (Cert.Proof.KernelIdeal.rVc m c), fun c => lane0 (Cert.Proof.KernelIdeal.rVs m c), ker_run m g, ?_⟩
  refine (θ_run _ _ _).mono (fun r h c => ?_) (ref_run m' g')
  obtain ⟨a0, a1, a2, a3, a⟩ := h c
  obtain ⟨h0, h1, h2⟩ := hargs c
  exact ⟨a0.trans (eq0 m m' c h0 h2), a1.trans (eq1 m m' c h0 h2), a2.trans (eq2 m m' c h1), a3.trans (eq3 m m' c h1), a⟩

end Cert.Proof.Val

end
-- ==== Proof.lean ====
/- The claims about the kernel, its ideal reading and the reference. -/
module

public import proofs.«01_k».proof.Proof.K.Launch
public import proofs.«01_k».proof.Proof.KI.Launch
public import proofs.«01_k».proof.Proof.Gen.ReferenceIdeal.Frame
public import proofs.«01_k».proof.Proof.Val.Final

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Kernel.frame, KernelIdeal.frame, fun m ρ _ => Cert.ReferenceIdeal.Gen.frame m ρ, trivial, Val.algebraic⟩

end Cert.Proof

end
